-- ==== Defs.lean ====
def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_gmlp_finite [hPre_gmlp_finite : Cert.Pre_gmlp_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))) = (fun _ => 1#1)

def Pre_Xfwd (m : (ℓ : Loc Cert.Xfwd.nD Cert.Xfwd.τ Cert.Xfwd.sig) → Buf (Elt Bits) ℓ) : Prop :=
  True

def Pre_XfwdIdeal (m : (ℓ : Loc Cert.XfwdIdeal.nD Cert.XfwdIdeal.τ Cert.XfwdIdeal.sig) → Buf (Elt Ideal) ℓ) : Prop :=
  True

def Pre_XfwdIdeal_xfwd_finite [hPre_xfwd_finite : Cert.Pre_xfwd_finite.Facts] (m : (ℓ : Loc Cert.XfwdIdeal.nD Cert.XfwdIdeal.τ Cert.XfwdIdeal.sig) → Buf (Elt Ideal) ℓ) : Prop :=
  ∀ c : Dev Cert.XfwdIdeal.nD,
    (Cert.Pre_xfwd_finite.fn (F := Ideal) (m ((c.tc : Thread Cert.XfwdIdeal.nD Cert.XfwdIdeal.τ).loc Cert.XfwdIdeal.main_arg0)) (m ((c.tc : Thread Cert.XfwdIdeal.nD Cert.XfwdIdeal.τ).loc Cert.XfwdIdeal.main_arg1))) = (fun _ => 1#1)

def Pre_XfwdRefIdeal (m : (ℓ : Loc Cert.XfwdRefIdeal.nD Cert.XfwdRefIdeal.τ Cert.XfwdRefIdeal.sig) → Buf (Elt Ideal) ℓ) : Prop :=
  True

def Pre_XfwdRefIdeal_xfwd_finite [hPre_xfwd_finite : Cert.Pre_xfwd_finite.Facts] (m : (ℓ : Loc Cert.XfwdRefIdeal.nD Cert.XfwdRefIdeal.τ Cert.XfwdRefIdeal.sig) → Buf (Elt Ideal) ℓ) : Prop :=
  ∀ c : Dev Cert.XfwdRefIdeal.nD,
    (Cert.Pre_xfwd_finite.fn (F := Ideal) (m ((c.tc : Thread Cert.XfwdRefIdeal.nD Cert.XfwdRefIdeal.τ).loc Cert.XfwdRefIdeal.main_arg0)) (m ((c.tc : Thread Cert.XfwdRefIdeal.nD Cert.XfwdRefIdeal.τ).loc Cert.XfwdRefIdeal.main_arg1))) = (fun _ => 1#1)

def Pre_Gfwd (m : (ℓ : Loc Cert.Gfwd.nD Cert.Gfwd.τ Cert.Gfwd.sig) → Buf (Elt Bits) ℓ) : Prop :=
  True

def Pre_GfwdIdeal (m : (ℓ : Loc Cert.GfwdIdeal.nD Cert.GfwdIdeal.τ Cert.GfwdIdeal.sig) → Buf (Elt Ideal) ℓ) : Prop :=
  True

def Pre_GfwdIdeal_gfwd_finite [hPre_gfwd_finite : Cert.Pre_gfwd_finite.Facts] (m : (ℓ : Loc Cert.GfwdIdeal.nD Cert.GfwdIdeal.τ Cert.GfwdIdeal.sig) → Buf (Elt Ideal) ℓ) : Prop :=
  ∀ c : Dev Cert.GfwdIdeal.nD,
    (Cert.Pre_gfwd_finite.fn (F := Ideal) (m ((c.tc : Thread Cert.GfwdIdeal.nD Cert.GfwdIdeal.τ).loc Cert.GfwdIdeal.main_arg0)) (m ((c.tc : Thread Cert.GfwdIdeal.nD Cert.GfwdIdeal.τ).loc Cert.GfwdIdeal.main_arg1)) (m ((c.tc : Thread Cert.GfwdIdeal.nD Cert.GfwdIdeal.τ).loc Cert.GfwdIdeal.main_arg2)) (m ((c.tc : Thread Cert.GfwdIdeal.nD Cert.GfwdIdeal.τ).loc Cert.GfwdIdeal.main_arg3)) (m ((c.tc : Thread Cert.GfwdIdeal.nD Cert.GfwdIdeal.τ).loc Cert.GfwdIdeal.main_arg4))) = (fun _ => 1#1)

def Pre_GfwdRefIdeal (m : (ℓ : Loc Cert.GfwdRefIdeal.nD Cert.GfwdRefIdeal.τ Cert.GfwdRefIdeal.sig) → Buf (Elt Ideal) ℓ) : Prop :=
  True

def Pre_GfwdRefIdeal_gfwd_finite [hPre_gfwd_finite : Cert.Pre_gfwd_finite.Facts] (m : (ℓ : Loc Cert.GfwdRefIdeal.nD Cert.GfwdRefIdeal.τ Cert.GfwdRefIdeal.sig) → Buf (Elt Ideal) ℓ) : Prop :=
  ∀ c : Dev Cert.GfwdRefIdeal.nD,
    (Cert.Pre_gfwd_finite.fn (F := Ideal) (m ((c.tc : Thread Cert.GfwdRefIdeal.nD Cert.GfwdRefIdeal.τ).loc Cert.GfwdRefIdeal.main_arg0)) (m ((c.tc : Thread Cert.GfwdRefIdeal.nD Cert.GfwdRefIdeal.τ).loc Cert.GfwdRefIdeal.main_arg1)) (m ((c.tc : Thread Cert.GfwdRefIdeal.nD Cert.GfwdRefIdeal.τ).loc Cert.GfwdRefIdeal.main_arg2)) (m ((c.tc : Thread Cert.GfwdRefIdeal.nD Cert.GfwdRefIdeal.τ).loc Cert.GfwdRefIdeal.main_arg3)) (m ((c.tc : Thread Cert.GfwdRefIdeal.nD Cert.GfwdRefIdeal.τ).loc Cert.GfwdRefIdeal.main_arg4))) = (fun _ => 1#1)

def Pre_Gain (m : (ℓ : Loc Cert.Gain.nD Cert.Gain.τ Cert.Gain.sig) → Buf (Elt Bits) ℓ) : Prop :=
  True

def Pre_GainIdeal (m : (ℓ : Loc Cert.GainIdeal.nD Cert.GainIdeal.τ Cert.GainIdeal.sig) → Buf (Elt Ideal) ℓ) : Prop :=
  True

def Pre_GainRefIdeal (m : (ℓ : Loc Cert.GainRefIdeal.nD Cert.GainRefIdeal.τ Cert.GainRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))) = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1Ideal_ff1_finite [hPre_ff1_finite : Cert.Pre_ff1_finite.Facts] (m : (ℓ : Loc Cert.Ff1Ideal.nD Cert.Ff1Ideal.τ Cert.Ff1Ideal.sig) → Buf (Elt Ideal) ℓ) : Prop :=
  ∀ c : Dev Cert.Ff1Ideal.nD,
    (Cert.Pre_ff1_finite.fn (F := Ideal) (m ((c.tc : Thread Cert.Ff1Ideal.nD Cert.Ff1Ideal.τ).loc Cert.Ff1Ideal.main_arg0)) (m ((c.tc : Thread Cert.Ff1Ideal.nD Cert.Ff1Ideal.τ).loc Cert.Ff1Ideal.main_arg1)) (m ((c.tc : Thread Cert.Ff1Ideal.nD Cert.Ff1Ideal.τ).loc Cert.Ff1Ideal.main_arg2)) (m ((c.tc : Thread Cert.Ff1Ideal.nD Cert.Ff1Ideal.τ).loc Cert.Ff1Ideal.main_arg3)) (m ((c.tc : Thread Cert.Ff1Ideal.nD Cert.Ff1Ideal.τ).loc Cert.Ff1Ideal.main_arg4)) (m ((c.tc : Thread Cert.Ff1Ideal.nD Cert.Ff1Ideal.τ).loc Cert.Ff1Ideal.main_arg5)) (m ((c.tc : Thread Cert.Ff1Ideal.nD Cert.Ff1Ideal.τ).loc Cert.Ff1Ideal.main_arg6))) = (fun _ => 1#1)

def Pre_Ff1RefIdeal (m : (ℓ : Loc Cert.Ff1RefIdeal.nD Cert.Ff1RefIdeal.τ Cert.Ff1RefIdeal.sig) → Buf (Elt Ideal) ℓ) : Prop :=
  True

def Pre_Ff1RefIdeal_ff1_finite [hPre_ff1_finite : Cert.Pre_ff1_finite.Facts] (m : (ℓ : Loc Cert.Ff1RefIdeal.nD Cert.Ff1RefIdeal.τ Cert.Ff1RefIdeal.sig) → Buf (Elt Ideal) ℓ) : Prop :=
  ∀ c : Dev Cert.Ff1RefIdeal.nD,
    (Cert.Pre_ff1_finite.fn (F := Ideal) (m ((c.tc : Thread Cert.Ff1RefIdeal.nD Cert.Ff1RefIdeal.τ).loc Cert.Ff1RefIdeal.main_arg0)) (m ((c.tc : Thread Cert.Ff1RefIdeal.nD Cert.Ff1RefIdeal.τ).loc Cert.Ff1RefIdeal.main_arg1)) (m ((c.tc : Thread Cert.Ff1RefIdeal.nD Cert.Ff1RefIdeal.τ).loc Cert.Ff1RefIdeal.main_arg2)) (m ((c.tc : Thread Cert.Ff1RefIdeal.nD Cert.Ff1RefIdeal.τ).loc Cert.Ff1RefIdeal.main_arg3)) (m ((c.tc : Thread Cert.Ff1RefIdeal.nD Cert.Ff1RefIdeal.τ).loc Cert.Ff1RefIdeal.main_arg4)) (m ((c.tc : Thread Cert.Ff1RefIdeal.nD Cert.Ff1RefIdeal.τ).loc Cert.Ff1RefIdeal.main_arg5)) (m ((c.tc : Thread Cert.Ff1RefIdeal.nD Cert.Ff1RefIdeal.τ).loc Cert.Ff1RefIdeal.main_arg6))) = (fun _ => 1#1)

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqIdeal_xq_finite [hPre_xq_finite : Cert.Pre_xq_finite.Facts] (m : (ℓ : Loc Cert.XqIdeal.nD Cert.XqIdeal.τ Cert.XqIdeal.sig) → Buf (Elt Ideal) ℓ) : Prop :=
  ∀ c : Dev Cert.XqIdeal.nD,
    (Cert.Pre_xq_finite.fn (F := Ideal) (m ((c.tc : Thread Cert.XqIdeal.nD Cert.XqIdeal.τ).loc Cert.XqIdeal.main_arg0)) (m ((c.tc : Thread Cert.XqIdeal.nD Cert.XqIdeal.τ).loc Cert.XqIdeal.main_arg1)) (m ((c.tc : Thread Cert.XqIdeal.nD Cert.XqIdeal.τ).loc Cert.XqIdeal.main_arg2)) (m ((c.tc : Thread Cert.XqIdeal.nD Cert.XqIdeal.τ).loc Cert.XqIdeal.main_arg3)) (m ((c.tc : Thread Cert.XqIdeal.nD Cert.XqIdeal.τ).loc Cert.XqIdeal.main_arg4)) (m ((c.tc : Thread Cert.XqIdeal.nD Cert.XqIdeal.τ).loc Cert.XqIdeal.main_arg5)) (m ((c.tc : Thread Cert.XqIdeal.nD Cert.XqIdeal.τ).loc Cert.XqIdeal.main_arg6))) = (fun _ => 1#1)

def Pre_XqRefIdeal (m : (ℓ : Loc Cert.XqRefIdeal.nD Cert.XqRefIdeal.τ Cert.XqRefIdeal.sig) → Buf (Elt Ideal) ℓ) : Prop :=
  True

def Pre_XqRefIdeal_xq_finite [hPre_xq_finite : Cert.Pre_xq_finite.Facts] (m : (ℓ : Loc Cert.XqRefIdeal.nD Cert.XqRefIdeal.τ Cert.XqRefIdeal.sig) → Buf (Elt Ideal) ℓ) : Prop :=
  ∀ c : Dev Cert.XqRefIdeal.nD,
    (Cert.Pre_xq_finite.fn (F := Ideal) (m ((c.tc : Thread Cert.XqRefIdeal.nD Cert.XqRefIdeal.τ).loc Cert.XqRefIdeal.main_arg0)) (m ((c.tc : Thread Cert.XqRefIdeal.nD Cert.XqRefIdeal.τ).loc Cert.XqRefIdeal.main_arg1)) (m ((c.tc : Thread Cert.XqRefIdeal.nD Cert.XqRefIdeal.τ).loc Cert.XqRefIdeal.main_arg2)) (m ((c.tc : Thread Cert.XqRefIdeal.nD Cert.XqRefIdeal.τ).loc Cert.XqRefIdeal.main_arg3)) (m ((c.tc : Thread Cert.XqRefIdeal.nD Cert.XqRefIdeal.τ).loc Cert.XqRefIdeal.main_arg4)) (m ((c.tc : Thread Cert.XqRefIdeal.nD Cert.XqRefIdeal.τ).loc Cert.XqRefIdeal.main_arg5)) (m ((c.tc : Thread Cert.XqRefIdeal.nD Cert.XqRefIdeal.τ).loc Cert.XqRefIdeal.main_arg6))) = (fun _ => 1#1)

def Pre_Pfwd (m : (ℓ : Loc Cert.Pfwd.nD Cert.Pfwd.τ Cert.Pfwd.sig) → Buf (Elt Bits) ℓ) : Prop :=
  True

def Pre_PfwdIdeal (m : (ℓ : Loc Cert.PfwdIdeal.nD Cert.PfwdIdeal.τ Cert.PfwdIdeal.sig) → Buf (Elt Ideal) ℓ) : Prop :=
  True

def Pre_PfwdRefIdeal (m : (ℓ : Loc Cert.PfwdRefIdeal.nD Cert.PfwdRefIdeal.τ Cert.PfwdRefIdeal.sig) → Buf (Elt Ideal) ℓ) : Prop :=
  True

def Pre_Hfwd (m : (ℓ : Loc Cert.Hfwd.nD Cert.Hfwd.τ Cert.Hfwd.sig) → Buf (Elt Bits) ℓ) : Prop :=
  True

def Pre_HfwdIdeal (m : (ℓ : Loc Cert.HfwdIdeal.nD Cert.HfwdIdeal.τ Cert.HfwdIdeal.sig) → Buf (Elt Ideal) ℓ) : Prop :=
  True

def Pre_HfwdRefIdeal (m : (ℓ : Loc Cert.HfwdRefIdeal.nD Cert.HfwdRefIdeal.τ Cert.HfwdRefIdeal.sig) → Buf (Elt Ideal) ℓ) : Prop :=
  True

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_gmlp_finite [hGmlpIdeal : Cert.GmlpIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_gmlp_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Xfwd [hXfwd : Cert.Xfwd.Facts] : Prop :=
  ∀ (m : (ℓ : Loc Cert.Xfwd.nD Cert.Xfwd.τ Cert.Xfwd.sig) → Buf (Elt Bits) ℓ) (g : Dev Cert.Xfwd.nD → PrngReg), Pre_Xfwd m →
    θ_run (Cert.Xfwd.defs (F := Bits)) (onTc (τ := Cert.Xfwd.τ) (Cert.Xfwd.main (F := Bits))) ⟨m, fun _ => 0, g⟩ (fun r => (∀ c : Dev Cert.Xfwd.nD,
      r.2.mem ((c.tc : Thread Cert.Xfwd.nD Cert.Xfwd.τ).loc Cert.Xfwd.main_arg0) = m ((c.tc : Thread Cert.Xfwd.nD Cert.Xfwd.τ).loc Cert.Xfwd.main_arg0)
      ∧ r.2.mem ((c.tc : Thread Cert.Xfwd.nD Cert.Xfwd.τ).loc Cert.Xfwd.main_arg1) = m ((c.tc : Thread Cert.Xfwd.nD Cert.Xfwd.τ).loc Cert.Xfwd.main_arg1))
      ∧ r.2.sem = fun _ => 0)

def quiescent_XfwdIdeal [hXfwdIdeal : Cert.XfwdIdeal.Facts] : Prop :=
  ∀ (m : (ℓ : Loc Cert.XfwdIdeal.nD Cert.XfwdIdeal.τ Cert.XfwdIdeal.sig) → Buf (Elt Ideal) ℓ) (g : Dev Cert.XfwdIdeal.nD → PrngReg), Pre_XfwdIdeal m →
    θ_run (Cert.XfwdIdeal.defs (F := Ideal)) (onTc (τ := Cert.XfwdIdeal.τ) (Cert.XfwdIdeal.main (F := Ideal))) ⟨m, fun _ => 0, g⟩ (fun r => (∀ c : Dev Cert.XfwdIdeal.nD,
      r.2.mem ((c.tc : Thread Cert.XfwdIdeal.nD Cert.XfwdIdeal.τ).loc Cert.XfwdIdeal.main_arg0) = m ((c.tc : Thread Cert.XfwdIdeal.nD Cert.XfwdIdeal.τ).loc Cert.XfwdIdeal.main_arg0)
      ∧ r.2.mem ((c.tc : Thread Cert.XfwdIdeal.nD Cert.XfwdIdeal.τ).loc Cert.XfwdIdeal.main_arg1) = m ((c.tc : Thread Cert.XfwdIdeal.nD Cert.XfwdIdeal.τ).loc Cert.XfwdIdeal.main_arg1))
      ∧ r.2.sem = fun _ => 0)

def quiescent_XfwdIdeal_pre_xfwd_finite [hXfwdIdeal : Cert.XfwdIdeal.Facts] [hPre_xfwd_finite : Cert.Pre_xfwd_finite.Facts] : Prop :=
  ∀ (m : (ℓ : Loc Cert.XfwdIdeal.nD Cert.XfwdIdeal.τ Cert.XfwdIdeal.sig) → Buf (Elt Ideal) ℓ) (g : Dev Cert.XfwdIdeal.nD → PrngReg), Pre_XfwdIdeal_xfwd_finite m →
    θ_run (Cert.XfwdIdeal.defs (F := Ideal)) (onTc (τ := Cert.XfwdIdeal.τ) (Cert.XfwdIdeal.main (F := Ideal))) ⟨m, fun _ => 0, g⟩ (fun r => (∀ c : Dev Cert.XfwdIdeal.nD,
      r.2.mem ((c.tc : Thread Cert.XfwdIdeal.nD Cert.XfwdIdeal.τ).loc Cert.XfwdIdeal.main_arg0) = m ((c.tc : Thread Cert.XfwdIdeal.nD Cert.XfwdIdeal.τ).loc Cert.XfwdIdeal.main_arg0)
      ∧ r.2.mem ((c.tc : Thread Cert.XfwdIdeal.nD Cert.XfwdIdeal.τ).loc Cert.XfwdIdeal.main_arg1) = m ((c.tc : Thread Cert.XfwdIdeal.nD Cert.XfwdIdeal.τ).loc Cert.XfwdIdeal.main_arg1))
      ∧ r.2.sem = fun _ => 0)

def quiescent_XfwdRefIdeal [hXfwdRefIdeal : Cert.XfwdRefIdeal.Facts] : Prop :=
  ∀ (m : (ℓ : Loc Cert.XfwdRefIdeal.nD Cert.XfwdRefIdeal.τ Cert.XfwdRefIdeal.sig) → Buf (Elt Ideal) ℓ) (g : Dev Cert.XfwdRefIdeal.nD → PrngReg), Pre_XfwdRefIdeal m →
    θ_run (Cert.XfwdRefIdeal.defs (F := Ideal)) (onTc (τ := Cert.XfwdRefIdeal.τ) (Cert.XfwdRefIdeal.main (F := Ideal))) ⟨m, fun _ => 0, g⟩ (fun r => (∀ c : Dev Cert.XfwdRefIdeal.nD,
      r.2.mem ((c.tc : Thread Cert.XfwdRefIdeal.nD Cert.XfwdRefIdeal.τ).loc Cert.XfwdRefIdeal.main_arg0) = m ((c.tc : Thread Cert.XfwdRefIdeal.nD Cert.XfwdRefIdeal.τ).loc Cert.XfwdRefIdeal.main_arg0)
      ∧ r.2.mem ((c.tc : Thread Cert.XfwdRefIdeal.nD Cert.XfwdRefIdeal.τ).loc Cert.XfwdRefIdeal.main_arg1) = m ((c.tc : Thread Cert.XfwdRefIdeal.nD Cert.XfwdRefIdeal.τ).loc Cert.XfwdRefIdeal.main_arg1))
      ∧ r.2.sem = fun _ => 0)

def quiescent_XfwdRefIdeal_pre_xfwd_finite [hXfwdRefIdeal : Cert.XfwdRefIdeal.Facts] [hPre_xfwd_finite : Cert.Pre_xfwd_finite.Facts] : Prop :=
  ∀ (m : (ℓ : Loc Cert.XfwdRefIdeal.nD Cert.XfwdRefIdeal.τ Cert.XfwdRefIdeal.sig) → Buf (Elt Ideal) ℓ) (g : Dev Cert.XfwdRefIdeal.nD → PrngReg), Pre_XfwdRefIdeal_xfwd_finite m →
    θ_run (Cert.XfwdRefIdeal.defs (F := Ideal)) (onTc (τ := Cert.XfwdRefIdeal.τ) (Cert.XfwdRefIdeal.main (F := Ideal))) ⟨m, fun _ => 0, g⟩ (fun r => (∀ c : Dev Cert.XfwdRefIdeal.nD,
      r.2.mem ((c.tc : Thread Cert.XfwdRefIdeal.nD Cert.XfwdRefIdeal.τ).loc Cert.XfwdRefIdeal.main_arg0) = m ((c.tc : Thread Cert.XfwdRefIdeal.nD Cert.XfwdRefIdeal.τ).loc Cert.XfwdRefIdeal.main_arg0)
      ∧ r.2.mem ((c.tc : Thread Cert.XfwdRefIdeal.nD Cert.XfwdRefIdeal.τ).loc Cert.XfwdRefIdeal.main_arg1) = m ((c.tc : Thread Cert.XfwdRefIdeal.nD Cert.XfwdRefIdeal.τ).loc Cert.XfwdRefIdeal.main_arg1))
      ∧ r.2.sem = fun _ => 0)

def quiescent_Gfwd [hGfwd : Cert.Gfwd.Facts] : Prop :=
  ∀ (m : (ℓ : Loc Cert.Gfwd.nD Cert.Gfwd.τ Cert.Gfwd.sig) → Buf (Elt Bits) ℓ) (g : Dev Cert.Gfwd.nD → PrngReg), Pre_Gfwd m →
    θ_run (Cert.Gfwd.defs (F := Bits)) (onTc (τ := Cert.Gfwd.τ) (Cert.Gfwd.main (F := Bits))) ⟨m, fun _ => 0, g⟩ (fun r => (∀ c : Dev Cert.Gfwd.nD,
      r.2.mem ((c.tc : Thread Cert.Gfwd.nD Cert.Gfwd.τ).loc Cert.Gfwd.main_arg0) = m ((c.tc : Thread Cert.Gfwd.nD Cert.Gfwd.τ).loc Cert.Gfwd.main_arg0)
      ∧ r.2.mem ((c.tc : Thread Cert.Gfwd.nD Cert.Gfwd.τ).loc Cert.Gfwd.main_arg1) = m ((c.tc : Thread Cert.Gfwd.nD Cert.Gfwd.τ).loc Cert.Gfwd.main_arg1)
      ∧ r.2.mem ((c.tc : Thread Cert.Gfwd.nD Cert.Gfwd.τ).loc Cert.Gfwd.main_arg2) = m ((c.tc : Thread Cert.Gfwd.nD Cert.Gfwd.τ).loc Cert.Gfwd.main_arg2)
      ∧ r.2.mem ((c.tc : Thread Cert.Gfwd.nD Cert.Gfwd.τ).loc Cert.Gfwd.main_arg3) = m ((c.tc : Thread Cert.Gfwd.nD Cert.Gfwd.τ).loc Cert.Gfwd.main_arg3)
      ∧ r.2.mem ((c.tc : Thread Cert.Gfwd.nD Cert.Gfwd.τ).loc Cert.Gfwd.main_arg4) = m ((c.tc : Thread Cert.Gfwd.nD Cert.Gfwd.τ).loc Cert.Gfwd.main_arg4))
      ∧ r.2.sem = fun _ => 0)

def quiescent_GfwdIdeal [hGfwdIdeal : Cert.GfwdIdeal.Facts] : Prop :=
  ∀ (m : (ℓ : Loc Cert.GfwdIdeal.nD Cert.GfwdIdeal.τ Cert.GfwdIdeal.sig) → Buf (Elt Ideal) ℓ) (g : Dev Cert.GfwdIdeal.nD → PrngReg), Pre_GfwdIdeal m →
    θ_run (Cert.GfwdIdeal.defs (F := Ideal)) (onTc (τ := Cert.GfwdIdeal.τ) (Cert.GfwdIdeal.main (F := Ideal))) ⟨m, fun _ => 0, g⟩ (fun r => (∀ c : Dev Cert.GfwdIdeal.nD,
      r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
      ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
      ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
      ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
      ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4))
      ∧ r.2.sem = fun _ => 0)

def quiescent_GfwdIdeal_pre_gfwd_finite [hGfwdIdeal : Cert.GfwdIdeal.Facts] [hPre_gfwd_finite : Cert.Pre_gfwd_finite.Facts] : Prop :=
  ∀ (m : (ℓ : Loc Cert.GfwdIdeal.nD Cert.GfwdIdeal.τ Cert.GfwdIdeal.sig) → Buf (Elt Ideal) ℓ) (g : Dev Cert.GfwdIdeal.nD → PrngReg), Pre_GfwdIdeal_gfwd_finite m →
    θ_run (Cert.GfwdIdeal.defs (F := Ideal)) (onTc (τ := Cert.GfwdIdeal.τ) (Cert.GfwdIdeal.main (F := Ideal))) ⟨m, fun _ => 0, g⟩ (fun r => (∀ c : Dev Cert.GfwdIdeal.nD,
      r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
      ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
      ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
      ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
      ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4))
      ∧ r.2.sem = fun _ => 0)

def quiescent_GfwdRefIdeal [hGfwdRefIdeal : Cert.GfwdRefIdeal.Facts] : Prop :=
  ∀ (m : (ℓ : Loc Cert.GfwdRefIdeal.nD Cert.GfwdRefIdeal.τ Cert.GfwdRefIdeal.sig) → Buf (Elt Ideal) ℓ) (g : Dev Cert.GfwdRefIdeal.nD → PrngReg), Pre_GfwdRefIdeal m →
    θ_run (Cert.GfwdRefIdeal.defs (F := Ideal)) (onTc (τ := Cert.GfwdRefIdeal.τ) (Cert.GfwdRefIdeal.main (F := Ideal))) ⟨m, fun _ => 0, g⟩ (fun r => (∀ c : Dev Cert.GfwdRefIdeal.nD,
      r.2.mem ((c.tc : Thread Cert.GfwdRefIdeal.nD Cert.GfwdRefIdeal.τ).loc Cert.GfwdRefIdeal.main_arg0) = m ((c.tc : Thread Cert.GfwdRefIdeal.nD Cert.GfwdRefIdeal.τ).loc Cert.GfwdRefIdeal.main_arg0)
      ∧ r.2.mem ((c.tc : Thread Cert.GfwdRefIdeal.nD Cert.GfwdRefIdeal.τ).loc Cert.GfwdRefIdeal.main_arg1) = m ((c.tc : Thread Cert.GfwdRefIdeal.nD Cert.GfwdRefIdeal.τ).loc Cert.GfwdRefIdeal.main_arg1)
      ∧ r.2.mem ((c.tc : Thread Cert.GfwdRefIdeal.nD Cert.GfwdRefIdeal.τ).loc Cert.GfwdRefIdeal.main_arg2) = m ((c.tc : Thread Cert.GfwdRefIdeal.nD Cert.GfwdRefIdeal.τ).loc Cert.GfwdRefIdeal.main_arg2)
      ∧ r.2.mem ((c.tc : Thread Cert.GfwdRefIdeal.nD Cert.GfwdRefIdeal.τ).loc Cert.GfwdRefIdeal.main_arg3) = m ((c.tc : Thread Cert.GfwdRefIdeal.nD Cert.GfwdRefIdeal.τ).loc Cert.GfwdRefIdeal.main_arg3)
      ∧ r.2.mem ((c.tc : Thread Cert.GfwdRefIdeal.nD Cert.GfwdRefIdeal.τ).loc Cert.GfwdRefIdeal.main_arg4) = m ((c.tc : Thread Cert.GfwdRefIdeal.nD Cert.GfwdRefIdeal.τ).loc Cert.GfwdRefIdeal.main_arg4))
      ∧ r.2.sem = fun _ => 0)

def quiescent_GfwdRefIdeal_pre_gfwd_finite [hGfwdRefIdeal : Cert.GfwdRefIdeal.Facts] [hPre_gfwd_finite : Cert.Pre_gfwd_finite.Facts] : Prop :=
  ∀ (m : (ℓ : Loc Cert.GfwdRefIdeal.nD Cert.GfwdRefIdeal.τ Cert.GfwdRefIdeal.sig) → Buf (Elt Ideal) ℓ) (g : Dev Cert.GfwdRefIdeal.nD → PrngReg), Pre_GfwdRefIdeal_gfwd_finite m →
    θ_run (Cert.GfwdRefIdeal.defs (F := Ideal)) (onTc (τ := Cert.GfwdRefIdeal.τ) (Cert.GfwdRefIdeal.main (F := Ideal))) ⟨m, fun _ => 0, g⟩ (fun r => (∀ c : Dev Cert.GfwdRefIdeal.nD,
      r.2.mem ((c.tc : Thread Cert.GfwdRefIdeal.nD Cert.GfwdRefIdeal.τ).loc Cert.GfwdRefIdeal.main_arg0) = m ((c.tc : Thread Cert.GfwdRefIdeal.nD Cert.GfwdRefIdeal.τ).loc Cert.GfwdRefIdeal.main_arg0)
      ∧ r.2.mem ((c.tc : Thread Cert.GfwdRefIdeal.nD Cert.GfwdRefIdeal.τ).loc Cert.GfwdRefIdeal.main_arg1) = m ((c.tc : Thread Cert.GfwdRefIdeal.nD Cert.GfwdRefIdeal.τ).loc Cert.GfwdRefIdeal.main_arg1)
      ∧ r.2.mem ((c.tc : Thread Cert.GfwdRefIdeal.nD Cert.GfwdRefIdeal.τ).loc Cert.GfwdRefIdeal.main_arg2) = m ((c.tc : Thread Cert.GfwdRefIdeal.nD Cert.GfwdRefIdeal.τ).loc Cert.GfwdRefIdeal.main_arg2)
      ∧ r.2.mem ((c.tc : Thread Cert.GfwdRefIdeal.nD Cert.GfwdRefIdeal.τ).loc Cert.GfwdRefIdeal.main_arg3) = m ((c.tc : Thread Cert.GfwdRefIdeal.nD Cert.GfwdRefIdeal.τ).loc Cert.GfwdRefIdeal.main_arg3)
      ∧ r.2.mem ((c.tc : Thread Cert.GfwdRefIdeal.nD Cert.GfwdRefIdeal.τ).loc Cert.GfwdRefIdeal.main_arg4) = m ((c.tc : Thread Cert.GfwdRefIdeal.nD Cert.GfwdRefIdeal.τ).loc Cert.GfwdRefIdeal.main_arg4))
      ∧ r.2.sem = fun _ => 0)

def quiescent_Gain [hGain : Cert.Gain.Facts] : Prop :=
  ∀ (m : (ℓ : Loc Cert.Gain.nD Cert.Gain.τ Cert.Gain.sig) → Buf (Elt Bits) ℓ) (g : Dev Cert.Gain.nD → PrngReg), Pre_Gain m →
    θ_run (Cert.Gain.defs (F := Bits)) (onTc (τ := Cert.Gain.τ) (Cert.Gain.main (F := Bits))) ⟨m, fun _ => 0, g⟩ (fun r => (∀ c : Dev Cert.Gain.nD,
      r.2.mem ((c.tc : Thread Cert.Gain.nD Cert.Gain.τ).loc Cert.Gain.main_arg0) = m ((c.tc : Thread Cert.Gain.nD Cert.Gain.τ).loc Cert.Gain.main_arg0)
      ∧ r.2.mem ((c.tc : Thread Cert.Gain.nD Cert.Gain.τ).loc Cert.Gain.main_arg1) = m ((c.tc : Thread Cert.Gain.nD Cert.Gain.τ).loc Cert.Gain.main_arg1)
      ∧ r.2.mem ((c.tc : Thread Cert.Gain.nD Cert.Gain.τ).loc Cert.Gain.main_arg2) = m ((c.tc : Thread Cert.Gain.nD Cert.Gain.τ).loc Cert.Gain.main_arg2)
      ∧ r.2.mem ((c.tc : Thread Cert.Gain.nD Cert.Gain.τ).loc Cert.Gain.main_arg3) = m ((c.tc : Thread Cert.Gain.nD Cert.Gain.τ).loc Cert.Gain.main_arg3))
      ∧ r.2.sem = fun _ => 0)

def quiescent_GainIdeal [hGainIdeal : Cert.GainIdeal.Facts] : Prop :=
  ∀ (m : (ℓ : Loc Cert.GainIdeal.nD Cert.GainIdeal.τ Cert.GainIdeal.sig) → Buf (Elt Ideal) ℓ) (g : Dev Cert.GainIdeal.nD → PrngReg), Pre_GainIdeal m →
    θ_run (Cert.GainIdeal.defs (F := Ideal)) (onTc (τ := Cert.GainIdeal.τ) (Cert.GainIdeal.main (F := Ideal))) ⟨m, fun _ => 0, g⟩ (fun r => (∀ c : Dev Cert.GainIdeal.nD,
      r.2.mem ((c.tc : Thread Cert.GainIdeal.nD Cert.GainIdeal.τ).loc Cert.GainIdeal.main_arg0) = m ((c.tc : Thread Cert.GainIdeal.nD Cert.GainIdeal.τ).loc Cert.GainIdeal.main_arg0)
      ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
      ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
      ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ r.2.sem = fun _ => 0)

def quiescent_GainRefIdeal [hGainRefIdeal : Cert.GainRefIdeal.Facts] : Prop :=
  ∀ (m : (ℓ : Loc Cert.GainRefIdeal.nD Cert.GainRefIdeal.τ Cert.GainRefIdeal.sig) → Buf (Elt Ideal) ℓ) (g : Dev Cert.GainRefIdeal.nD → PrngReg), Pre_GainRefIdeal m →
    θ_run (Cert.GainRefIdeal.defs (F := Ideal)) (onTc (τ := Cert.GainRefIdeal.τ) (Cert.GainRefIdeal.main (F := Ideal))) ⟨m, fun _ => 0, g⟩ (fun r => (∀ c : Dev Cert.GainRefIdeal.nD,
      r.2.mem ((c.tc : Thread Cert.GainRefIdeal.nD Cert.GainRefIdeal.τ).loc Cert.GainRefIdeal.main_arg0) = m ((c.tc : Thread Cert.GainRefIdeal.nD Cert.GainRefIdeal.τ).loc Cert.GainRefIdeal.main_arg0)
      ∧ r.2.mem ((c.tc : Thread Cert.GainRefIdeal.nD Cert.GainRefIdeal.τ).loc Cert.GainRefIdeal.main_arg1) = m ((c.tc : Thread Cert.GainRefIdeal.nD Cert.GainRefIdeal.τ).loc Cert.GainRefIdeal.main_arg1)
      ∧ r.2.mem ((c.tc : Thread Cert.GainRefIdeal.nD Cert.GainRefIdeal.τ).loc Cert.GainRefIdeal.main_arg2) = m ((c.tc : Thread Cert.GainRefIdeal.nD Cert.GainRefIdeal.τ).loc Cert.GainRefIdeal.main_arg2)
      ∧ r.2.mem ((c.tc : Thread Cert.GainRefIdeal.nD Cert.GainRefIdeal.τ).loc Cert.GainRefIdeal.main_arg3) = m ((c.tc : Thread Cert.GainRefIdeal.nD Cert.GainRefIdeal.τ).loc Cert.GainRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2)
      ∧ r.2.mem ((c.tc : Thread Cert.Ff1.nD Cert.Ff1.τ).loc Cert.Ff1.main_arg3) = m ((c.tc : Thread Cert.Ff1.nD Cert.Ff1.τ).loc Cert.Ff1.main_arg3)
      ∧ r.2.mem ((c.tc : Thread Cert.Ff1.nD Cert.Ff1.τ).loc Cert.Ff1.main_arg4) = m ((c.tc : Thread Cert.Ff1.nD Cert.Ff1.τ).loc Cert.Ff1.main_arg4)
      ∧ r.2.mem ((c.tc : Thread Cert.Ff1.nD Cert.Ff1.τ).loc Cert.Ff1.main_arg5) = m ((c.tc : Thread Cert.Ff1.nD Cert.Ff1.τ).loc Cert.Ff1.main_arg5)
      ∧ r.2.mem ((c.tc : Thread Cert.Ff1.nD Cert.Ff1.τ).loc Cert.Ff1.main_arg6) = m ((c.tc : Thread Cert.Ff1.nD Cert.Ff1.τ).loc Cert.Ff1.main_arg6))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
      ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
      ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
      ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
      ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ r.2.sem = fun _ => 0)

def quiescent_Ff1Ideal_pre_ff1_finite [hFf1Ideal : Cert.Ff1Ideal.Facts] [hPre_ff1_finite : Cert.Pre_ff1_finite.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal_ff1_finite m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
      ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
      ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
      ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
      ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2)
      ∧ r.2.mem ((c.tc : Thread Cert.Ff1RefIdeal.nD Cert.Ff1RefIdeal.τ).loc Cert.Ff1RefIdeal.main_arg3) = m ((c.tc : Thread Cert.Ff1RefIdeal.nD Cert.Ff1RefIdeal.τ).loc Cert.Ff1RefIdeal.main_arg3)
      ∧ r.2.mem ((c.tc : Thread Cert.Ff1RefIdeal.nD Cert.Ff1RefIdeal.τ).loc Cert.Ff1RefIdeal.main_arg4) = m ((c.tc : Thread Cert.Ff1RefIdeal.nD Cert.Ff1RefIdeal.τ).loc Cert.Ff1RefIdeal.main_arg4)
      ∧ r.2.mem ((c.tc : Thread Cert.Ff1RefIdeal.nD Cert.Ff1RefIdeal.τ).loc Cert.Ff1RefIdeal.main_arg5) = m ((c.tc : Thread Cert.Ff1RefIdeal.nD Cert.Ff1RefIdeal.τ).loc Cert.Ff1RefIdeal.main_arg5)
      ∧ r.2.mem ((c.tc : Thread Cert.Ff1RefIdeal.nD Cert.Ff1RefIdeal.τ).loc Cert.Ff1RefIdeal.main_arg6) = m ((c.tc : Thread Cert.Ff1RefIdeal.nD Cert.Ff1RefIdeal.τ).loc Cert.Ff1RefIdeal.main_arg6))
      ∧ r.2.sem = fun _ => 0)

def quiescent_Ff1RefIdeal_pre_ff1_finite [hFf1RefIdeal : Cert.Ff1RefIdeal.Facts] [hPre_ff1_finite : Cert.Pre_ff1_finite.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal_ff1_finite m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2)
      ∧ r.2.mem ((c.tc : Thread Cert.Ff1RefIdeal.nD Cert.Ff1RefIdeal.τ).loc Cert.Ff1RefIdeal.main_arg3) = m ((c.tc : Thread Cert.Ff1RefIdeal.nD Cert.Ff1RefIdeal.τ).loc Cert.Ff1RefIdeal.main_arg3)
      ∧ r.2.mem ((c.tc : Thread Cert.Ff1RefIdeal.nD Cert.Ff1RefIdeal.τ).loc Cert.Ff1RefIdeal.main_arg4) = m ((c.tc : Thread Cert.Ff1RefIdeal.nD Cert.Ff1RefIdeal.τ).loc Cert.Ff1RefIdeal.main_arg4)
      ∧ r.2.mem ((c.tc : Thread Cert.Ff1RefIdeal.nD Cert.Ff1RefIdeal.τ).loc Cert.Ff1RefIdeal.main_arg5) = m ((c.tc : Thread Cert.Ff1RefIdeal.nD Cert.Ff1RefIdeal.τ).loc Cert.Ff1RefIdeal.main_arg5)
      ∧ r.2.mem ((c.tc : Thread Cert.Ff1RefIdeal.nD Cert.Ff1RefIdeal.τ).loc Cert.Ff1RefIdeal.main_arg6) = m ((c.tc : Thread Cert.Ff1RefIdeal.nD Cert.Ff1RefIdeal.τ).loc Cert.Ff1RefIdeal.main_arg6))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1)
      ∧ r.2.mem ((c.tc : Thread Cert.Xq.nD Cert.Xq.τ).loc Cert.Xq.main_arg2) = m ((c.tc : Thread Cert.Xq.nD Cert.Xq.τ).loc Cert.Xq.main_arg2)
      ∧ r.2.mem ((c.tc : Thread Cert.Xq.nD Cert.Xq.τ).loc Cert.Xq.main_arg3) = m ((c.tc : Thread Cert.Xq.nD Cert.Xq.τ).loc Cert.Xq.main_arg3)
      ∧ r.2.mem ((c.tc : Thread Cert.Xq.nD Cert.Xq.τ).loc Cert.Xq.main_arg4) = m ((c.tc : Thread Cert.Xq.nD Cert.Xq.τ).loc Cert.Xq.main_arg4)
      ∧ r.2.mem ((c.tc : Thread Cert.Xq.nD Cert.Xq.τ).loc Cert.Xq.main_arg5) = m ((c.tc : Thread Cert.Xq.nD Cert.Xq.τ).loc Cert.Xq.main_arg5)
      ∧ r.2.mem ((c.tc : Thread Cert.Xq.nD Cert.Xq.τ).loc Cert.Xq.main_arg6) = m ((c.tc : Thread Cert.Xq.nD Cert.Xq.τ).loc Cert.Xq.main_arg6))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
      ∧ r.2.mem ((c.tc : Thread Cert.XqIdeal.nD Cert.XqIdeal.τ).loc Cert.XqIdeal.main_arg4) = m ((c.tc : Thread Cert.XqIdeal.nD Cert.XqIdeal.τ).loc Cert.XqIdeal.main_arg4)
      ∧ r.2.mem ((c.tc : Thread Cert.XqIdeal.nD Cert.XqIdeal.τ).loc Cert.XqIdeal.main_arg5) = m ((c.tc : Thread Cert.XqIdeal.nD Cert.XqIdeal.τ).loc Cert.XqIdeal.main_arg5)
      ∧ r.2.mem ((c.tc : Thread Cert.XqIdeal.nD Cert.XqIdeal.τ).loc Cert.XqIdeal.main_arg6) = m ((c.tc : Thread Cert.XqIdeal.nD Cert.XqIdeal.τ).loc Cert.XqIdeal.main_arg6))
      ∧ r.2.sem = fun _ => 0)

def quiescent_XqIdeal_pre_xq_finite [hXqIdeal : Cert.XqIdeal.Facts] [hPre_xq_finite : Cert.Pre_xq_finite.Facts] : Prop :=
  ∀ (m : (ℓ : Loc Cert.XqIdeal.nD Cert.XqIdeal.τ Cert.XqIdeal.sig) → Buf (Elt Ideal) ℓ) (g : Dev Cert.XqIdeal.nD → PrngReg), Pre_XqIdeal_xq_finite m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
      ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
      ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
      ∧ r.2.mem ((c.tc : Thread Cert.XqIdeal.nD Cert.XqIdeal.τ).loc Cert.XqIdeal.main_arg4) = m ((c.tc : Thread Cert.XqIdeal.nD Cert.XqIdeal.τ).loc Cert.XqIdeal.main_arg4)
      ∧ r.2.mem ((c.tc : Thread Cert.XqIdeal.nD Cert.XqIdeal.τ).loc Cert.XqIdeal.main_arg5) = m ((c.tc : Thread Cert.XqIdeal.nD Cert.XqIdeal.τ).loc Cert.XqIdeal.main_arg5)
      ∧ r.2.mem ((c.tc : Thread Cert.XqIdeal.nD Cert.XqIdeal.τ).loc Cert.XqIdeal.main_arg6) = m ((c.tc : Thread Cert.XqIdeal.nD Cert.XqIdeal.τ).loc Cert.XqIdeal.main_arg6))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2)
      ∧ r.2.mem ((c.tc : Thread Cert.XqRefIdeal.nD Cert.XqRefIdeal.τ).loc Cert.XqRefIdeal.main_arg3) = m ((c.tc : Thread Cert.XqRefIdeal.nD Cert.XqRefIdeal.τ).loc Cert.XqRefIdeal.main_arg3)
      ∧ r.2.mem ((c.tc : Thread Cert.XqRefIdeal.nD Cert.XqRefIdeal.τ).loc Cert.XqRefIdeal.main_arg4) = m ((c.tc : Thread Cert.XqRefIdeal.nD Cert.XqRefIdeal.τ).loc Cert.XqRefIdeal.main_arg4)
      ∧ r.2.mem ((c.tc : Thread Cert.XqRefIdeal.nD Cert.XqRefIdeal.τ).loc Cert.XqRefIdeal.main_arg5) = m ((c.tc : Thread Cert.XqRefIdeal.nD Cert.XqRefIdeal.τ).loc Cert.XqRefIdeal.main_arg5)
      ∧ r.2.mem ((c.tc : Thread Cert.XqRefIdeal.nD Cert.XqRefIdeal.τ).loc Cert.XqRefIdeal.main_arg6) = m ((c.tc : Thread Cert.XqRefIdeal.nD Cert.XqRefIdeal.τ).loc Cert.XqRefIdeal.main_arg6))
      ∧ r.2.sem = fun _ => 0)

def quiescent_XqRefIdeal_pre_xq_finite [hXqRefIdeal : Cert.XqRefIdeal.Facts] [hPre_xq_finite : Cert.Pre_xq_finite.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal_xq_finite m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1)
      ∧ r.2.mem ((c.tc : Thread Cert.XqRefIdeal.nD Cert.XqRefIdeal.τ).loc Cert.XqRefIdeal.main_arg2) = m ((c.tc : Thread Cert.XqRefIdeal.nD Cert.XqRefIdeal.τ).loc Cert.XqRefIdeal.main_arg2)
      ∧ r.2.mem ((c.tc : Thread Cert.XqRefIdeal.nD Cert.XqRefIdeal.τ).loc Cert.XqRefIdeal.main_arg3) = m ((c.tc : Thread Cert.XqRefIdeal.nD Cert.XqRefIdeal.τ).loc Cert.XqRefIdeal.main_arg3)
      ∧ r.2.mem ((c.tc : Thread Cert.XqRefIdeal.nD Cert.XqRefIdeal.τ).loc Cert.XqRefIdeal.main_arg4) = m ((c.tc : Thread Cert.XqRefIdeal.nD Cert.XqRefIdeal.τ).loc Cert.XqRefIdeal.main_arg4)
      ∧ r.2.mem ((c.tc : Thread Cert.XqRefIdeal.nD Cert.XqRefIdeal.τ).loc Cert.XqRefIdeal.main_arg5) = m ((c.tc : Thread Cert.XqRefIdeal.nD Cert.XqRefIdeal.τ).loc Cert.XqRefIdeal.main_arg5)
      ∧ r.2.mem ((c.tc : Thread Cert.XqRefIdeal.nD Cert.XqRefIdeal.τ).loc Cert.XqRefIdeal.main_arg6) = m ((c.tc : Thread Cert.XqRefIdeal.nD Cert.XqRefIdeal.τ).loc Cert.XqRefIdeal.main_arg6))
      ∧ r.2.sem = fun _ => 0)

def quiescent_Pfwd [hPfwd : Cert.Pfwd.Facts] : Prop :=
  ∀ (m : (ℓ : Loc Cert.Pfwd.nD Cert.Pfwd.τ Cert.Pfwd.sig) → Buf (Elt Bits) ℓ) (g : Dev Cert.Pfwd.nD → PrngReg), Pre_Pfwd m →
    θ_run (Cert.Pfwd.defs (F := Bits)) (onTc (τ := Cert.Pfwd.τ) (Cert.Pfwd.main (F := Bits))) ⟨m, fun _ => 0, g⟩ (fun r => (∀ c : Dev Cert.Pfwd.nD,
      r.2.mem ((c.tc : Thread Cert.Pfwd.nD Cert.Pfwd.τ).loc Cert.Pfwd.main_arg0) = m ((c.tc : Thread Cert.Pfwd.nD Cert.Pfwd.τ).loc Cert.Pfwd.main_arg0)
      ∧ r.2.mem ((c.tc : Thread Cert.Pfwd.nD Cert.Pfwd.τ).loc Cert.Pfwd.main_arg1) = m ((c.tc : Thread Cert.Pfwd.nD Cert.Pfwd.τ).loc Cert.Pfwd.main_arg1)
      ∧ r.2.mem ((c.tc : Thread Cert.Pfwd.nD Cert.Pfwd.τ).loc Cert.Pfwd.main_arg2) = m ((c.tc : Thread Cert.Pfwd.nD Cert.Pfwd.τ).loc Cert.Pfwd.main_arg2))
      ∧ r.2.sem = fun _ => 0)

def quiescent_PfwdIdeal [hPfwdIdeal : Cert.PfwdIdeal.Facts] : Prop :=
  ∀ (m : (ℓ : Loc Cert.PfwdIdeal.nD Cert.PfwdIdeal.τ Cert.PfwdIdeal.sig) → Buf (Elt Ideal) ℓ) (g : Dev Cert.PfwdIdeal.nD → PrngReg), Pre_PfwdIdeal m →
    θ_run (Cert.PfwdIdeal.defs (F := Ideal)) (onTc (τ := Cert.PfwdIdeal.τ) (Cert.PfwdIdeal.main (F := Ideal))) ⟨m, fun _ => 0, g⟩ (fun r => (∀ c : Dev Cert.PfwdIdeal.nD,
      r.2.mem ((c.tc : Thread Cert.PfwdIdeal.nD Cert.PfwdIdeal.τ).loc Cert.PfwdIdeal.main_arg0) = m ((c.tc : Thread Cert.PfwdIdeal.nD Cert.PfwdIdeal.τ).loc Cert.PfwdIdeal.main_arg0)
      ∧ r.2.mem ((c.tc : Thread Cert.PfwdIdeal.nD Cert.PfwdIdeal.τ).loc Cert.PfwdIdeal.main_arg1) = m ((c.tc : Thread Cert.PfwdIdeal.nD Cert.PfwdIdeal.τ).loc Cert.PfwdIdeal.main_arg1)
      ∧ r.2.mem ((c.tc : Thread Cert.PfwdIdeal.nD Cert.PfwdIdeal.τ).loc Cert.PfwdIdeal.main_arg2) = m ((c.tc : Thread Cert.PfwdIdeal.nD Cert.PfwdIdeal.τ).loc Cert.PfwdIdeal.main_arg2))
      ∧ r.2.sem = fun _ => 0)

def quiescent_PfwdRefIdeal [hPfwdRefIdeal : Cert.PfwdRefIdeal.Facts] : Prop :=
  ∀ (m : (ℓ : Loc Cert.PfwdRefIdeal.nD Cert.PfwdRefIdeal.τ Cert.PfwdRefIdeal.sig) → Buf (Elt Ideal) ℓ) (g : Dev Cert.PfwdRefIdeal.nD → PrngReg), Pre_PfwdRefIdeal m →
    θ_run (Cert.PfwdRefIdeal.defs (F := Ideal)) (onTc (τ := Cert.PfwdRefIdeal.τ) (Cert.PfwdRefIdeal.main (F := Ideal))) ⟨m, fun _ => 0, g⟩ (fun r => (∀ c : Dev Cert.PfwdRefIdeal.nD,
      r.2.mem ((c.tc : Thread Cert.PfwdRefIdeal.nD Cert.PfwdRefIdeal.τ).loc Cert.PfwdRefIdeal.main_arg0) = m ((c.tc : Thread Cert.PfwdRefIdeal.nD Cert.PfwdRefIdeal.τ).loc Cert.PfwdRefIdeal.main_arg0)
      ∧ r.2.mem ((c.tc : Thread Cert.PfwdRefIdeal.nD Cert.PfwdRefIdeal.τ).loc Cert.PfwdRefIdeal.main_arg1) = m ((c.tc : Thread Cert.PfwdRefIdeal.nD Cert.PfwdRefIdeal.τ).loc Cert.PfwdRefIdeal.main_arg1)
      ∧ r.2.mem ((c.tc : Thread Cert.PfwdRefIdeal.nD Cert.PfwdRefIdeal.τ).loc Cert.PfwdRefIdeal.main_arg2) = m ((c.tc : Thread Cert.PfwdRefIdeal.nD Cert.PfwdRefIdeal.τ).loc Cert.PfwdRefIdeal.main_arg2))
      ∧ r.2.sem = fun _ => 0)

def quiescent_Hfwd [hHfwd : Cert.Hfwd.Facts] : Prop :=
  ∀ (m : (ℓ : Loc Cert.Hfwd.nD Cert.Hfwd.τ Cert.Hfwd.sig) → Buf (Elt Bits) ℓ) (g : Dev Cert.Hfwd.nD → PrngReg), Pre_Hfwd m →
    θ_run (Cert.Hfwd.defs (F := Bits)) (onTc (τ := Cert.Hfwd.τ) (Cert.Hfwd.main (F := Bits))) ⟨m, fun _ => 0, g⟩ (fun r => (∀ c : Dev Cert.Hfwd.nD,
      r.2.mem ((c.tc : Thread Cert.Hfwd.nD Cert.Hfwd.τ).loc Cert.Hfwd.main_arg0) = m ((c.tc : Thread Cert.Hfwd.nD Cert.Hfwd.τ).loc Cert.Hfwd.main_arg0)
      ∧ r.2.mem ((c.tc : Thread Cert.Hfwd.nD Cert.Hfwd.τ).loc Cert.Hfwd.main_arg1) = m ((c.tc : Thread Cert.Hfwd.nD Cert.Hfwd.τ).loc Cert.Hfwd.main_arg1)
      ∧ r.2.mem ((c.tc : Thread Cert.Hfwd.nD Cert.Hfwd.τ).loc Cert.Hfwd.main_arg2) = m ((c.tc : Thread Cert.Hfwd.nD Cert.Hfwd.τ).loc Cert.Hfwd.main_arg2)
      ∧ r.2.mem ((c.tc : Thread Cert.Hfwd.nD Cert.Hfwd.τ).loc Cert.Hfwd.main_arg3) = m ((c.tc : Thread Cert.Hfwd.nD Cert.Hfwd.τ).loc Cert.Hfwd.main_arg3)
      ∧ r.2.mem ((c.tc : Thread Cert.Hfwd.nD Cert.Hfwd.τ).loc Cert.Hfwd.main_arg4) = m ((c.tc : Thread Cert.Hfwd.nD Cert.Hfwd.τ).loc Cert.Hfwd.main_arg4))
      ∧ r.2.sem = fun _ => 0)

def quiescent_HfwdIdeal [hHfwdIdeal : Cert.HfwdIdeal.Facts] : Prop :=
  ∀ (m : (ℓ : Loc Cert.HfwdIdeal.nD Cert.HfwdIdeal.τ Cert.HfwdIdeal.sig) → Buf (Elt Ideal) ℓ) (g : Dev Cert.HfwdIdeal.nD → PrngReg), Pre_HfwdIdeal m →
    θ_run (Cert.HfwdIdeal.defs (F := Ideal)) (onTc (τ := Cert.HfwdIdeal.τ) (Cert.HfwdIdeal.main (F := Ideal))) ⟨m, fun _ => 0, g⟩ (fun r => (∀ c : Dev Cert.HfwdIdeal.nD,
      r.2.mem ((c.tc : Thread Cert.HfwdIdeal.nD Cert.HfwdIdeal.τ).loc Cert.HfwdIdeal.main_arg0) = m ((c.tc : Thread Cert.HfwdIdeal.nD Cert.HfwdIdeal.τ).loc Cert.HfwdIdeal.main_arg0)
      ∧ r.2.mem ((c.tc : Thread Cert.HfwdIdeal.nD Cert.HfwdIdeal.τ).loc Cert.HfwdIdeal.main_arg1) = m ((c.tc : Thread Cert.HfwdIdeal.nD Cert.HfwdIdeal.τ).loc Cert.HfwdIdeal.main_arg1)
      ∧ r.2.mem ((c.tc : Thread Cert.HfwdIdeal.nD Cert.HfwdIdeal.τ).loc Cert.HfwdIdeal.main_arg2) = m ((c.tc : Thread Cert.HfwdIdeal.nD Cert.HfwdIdeal.τ).loc Cert.HfwdIdeal.main_arg2)
      ∧ r.2.mem ((c.tc : Thread Cert.HfwdIdeal.nD Cert.HfwdIdeal.τ).loc Cert.HfwdIdeal.main_arg3) = m ((c.tc : Thread Cert.HfwdIdeal.nD Cert.HfwdIdeal.τ).loc Cert.HfwdIdeal.main_arg3)
      ∧ r.2.mem ((c.tc : Thread Cert.HfwdIdeal.nD Cert.HfwdIdeal.τ).loc Cert.HfwdIdeal.main_arg4) = m ((c.tc : Thread Cert.HfwdIdeal.nD Cert.HfwdIdeal.τ).loc Cert.HfwdIdeal.main_arg4))
      ∧ r.2.sem = fun _ => 0)

def quiescent_HfwdRefIdeal [hHfwdRefIdeal : Cert.HfwdRefIdeal.Facts] : Prop :=
  ∀ (m : (ℓ : Loc Cert.HfwdRefIdeal.nD Cert.HfwdRefIdeal.τ Cert.HfwdRefIdeal.sig) → Buf (Elt Ideal) ℓ) (g : Dev Cert.HfwdRefIdeal.nD → PrngReg), Pre_HfwdRefIdeal m →
    θ_run (Cert.HfwdRefIdeal.defs (F := Ideal)) (onTc (τ := Cert.HfwdRefIdeal.τ) (Cert.HfwdRefIdeal.main (F := Ideal))) ⟨m, fun _ => 0, g⟩ (fun r => (∀ c : Dev Cert.HfwdRefIdeal.nD,
      r.2.mem ((c.tc : Thread Cert.HfwdRefIdeal.nD Cert.HfwdRefIdeal.τ).loc Cert.HfwdRefIdeal.main_arg0) = m ((c.tc : Thread Cert.HfwdRefIdeal.nD Cert.HfwdRefIdeal.τ).loc Cert.HfwdRefIdeal.main_arg0)
      ∧ r.2.mem ((c.tc : Thread Cert.HfwdRefIdeal.nD Cert.HfwdRefIdeal.τ).loc Cert.HfwdRefIdeal.main_arg1) = m ((c.tc : Thread Cert.HfwdRefIdeal.nD Cert.HfwdRefIdeal.τ).loc Cert.HfwdRefIdeal.main_arg1)
      ∧ r.2.mem ((c.tc : Thread Cert.HfwdRefIdeal.nD Cert.HfwdRefIdeal.τ).loc Cert.HfwdRefIdeal.main_arg2) = m ((c.tc : Thread Cert.HfwdRefIdeal.nD Cert.HfwdRefIdeal.τ).loc Cert.HfwdRefIdeal.main_arg2)
      ∧ r.2.mem ((c.tc : Thread Cert.HfwdRefIdeal.nD Cert.HfwdRefIdeal.τ).loc Cert.HfwdRefIdeal.main_arg3) = m ((c.tc : Thread Cert.HfwdRefIdeal.nD Cert.HfwdRefIdeal.τ).loc Cert.HfwdRefIdeal.main_arg3)
      ∧ r.2.mem ((c.tc : Thread Cert.HfwdRefIdeal.nD Cert.HfwdRefIdeal.τ).loc Cert.HfwdRefIdeal.main_arg4) = m ((c.tc : Thread Cert.HfwdRefIdeal.nD Cert.HfwdRefIdeal.τ).loc Cert.HfwdRefIdeal.main_arg4))
      ∧ r.2.sem = fun _ => 0)

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)) →
    ∃ (v0 : (c : Dev Cert.Relu2Ideal.nD) → Buf (Elt Ideal) ((c.tc : Thread Cert.Relu2Ideal.nD Cert.Relu2Ideal.τ).loc Cert.Relu2Ideal.main_v3)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v3) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v13) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v6_0)) (v1 : (c : Dev Cert.XattnIdeal.nD) → Buf (Elt Ideal) ((c.tc : Thread Cert.XattnIdeal.nD Cert.XattnIdeal.τ).loc Cert.XattnIdeal.main_v6_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v6_0) = v0 c
          ∧ r.2.mem ((c.tc : Thread Cert.XattnIdeal.nD Cert.XattnIdeal.τ).loc Cert.XattnIdeal.main_v6_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v71) = v0 c
          ∧ r.2.mem ((c.tc : Thread Cert.XattnRefIdeal.nD Cert.XattnRefIdeal.τ).loc Cert.XattnRefIdeal.main_v73) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Sb_SbIdeal : Prop :=
  True

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v46_0)) (v1 : (c : Dev Cert.SbIdeal.nD) → Buf (Elt Ideal) ((c.tc : Thread Cert.SbIdeal.nD Cert.SbIdeal.τ).loc Cert.SbIdeal.main_v46_1)) (v2 : (c : Dev Cert.SbIdeal.nD) → Buf (Elt Ideal) ((c.tc : Thread Cert.SbIdeal.nD Cert.SbIdeal.τ).loc Cert.SbIdeal.main_v46_2)) (v3 : (c : Dev Cert.SbIdeal.nD) → Buf (Elt Ideal) ((c.tc : Thread Cert.SbIdeal.nD Cert.SbIdeal.τ).loc Cert.SbIdeal.main_v46_3)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v46_0) = v0 c
          ∧ r.2.mem ((c.tc : Thread Cert.SbIdeal.nD Cert.SbIdeal.τ).loc Cert.SbIdeal.main_v46_1) = v1 c
          ∧ r.2.mem ((c.tc : Thread Cert.SbIdeal.nD Cert.SbIdeal.τ).loc Cert.SbIdeal.main_v46_2) = v2 c
          ∧ r.2.mem ((c.tc : Thread Cert.SbIdeal.nD Cert.SbIdeal.τ).loc Cert.SbIdeal.main_v46_3) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v102) = v0 c
          ∧ r.2.mem ((c.tc : Thread Cert.SbRefIdeal.nD Cert.SbRefIdeal.τ).loc Cert.SbRefIdeal.main_v104) = v1 c
          ∧ r.2.mem ((c.tc : Thread Cert.SbRefIdeal.nD Cert.SbRefIdeal.τ).loc Cert.SbRefIdeal.main_v106) = v2 c
          ∧ r.2.mem ((c.tc : Thread Cert.SbRefIdeal.nD Cert.SbRefIdeal.τ).loc Cert.SbRefIdeal.main_v107) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Gmlp_GmlpIdeal : Prop :=
  IdealRules.named_const.Statement Cert.GmlpIdeal.κ "cubic" .f32 0x3D372713#32 ((8943 / 200000 : ℝ) : EReal)
  ∧ IdealRules.named_const.Statement Cert.GmlpIdeal.κ "three_cubic" .f32 0x3E095D4F#32 ((26829 / 200000 : ℝ) : EReal)

def algebraic_GmlpIdeal_GmlpRefIdeal_pre_gmlp_finite [hGmlpIdeal : Cert.GmlpIdeal.Facts] [hGmlpRefIdeal : Cert.GmlpRefIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_gmlp_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v8_0)) (v1 : (c : Dev Cert.GmlpIdeal.nD) → Buf (Elt Ideal) ((c.tc : Thread Cert.GmlpIdeal.nD Cert.GmlpIdeal.τ).loc Cert.GmlpIdeal.main_v8_1)) (v2 : (c : Dev Cert.GmlpIdeal.nD) → Buf (Elt Ideal) ((c.tc : Thread Cert.GmlpIdeal.nD Cert.GmlpIdeal.τ).loc Cert.GmlpIdeal.main_v8_2)) (v3 : (c : Dev Cert.GmlpIdeal.nD) → Buf (Elt Ideal) ((c.tc : Thread Cert.GmlpIdeal.nD Cert.GmlpIdeal.τ).loc Cert.GmlpIdeal.main_v8_3)) (v4 : (c : Dev Cert.GmlpIdeal.nD) → Buf (Elt Ideal) ((c.tc : Thread Cert.GmlpIdeal.nD Cert.GmlpIdeal.τ).loc Cert.GmlpIdeal.main_v8_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v8_0) = v0 c
          ∧ r.2.mem ((c.tc : Thread Cert.GmlpIdeal.nD Cert.GmlpIdeal.τ).loc Cert.GmlpIdeal.main_v8_1) = v1 c
          ∧ r.2.mem ((c.tc : Thread Cert.GmlpIdeal.nD Cert.GmlpIdeal.τ).loc Cert.GmlpIdeal.main_v8_2) = v2 c
          ∧ r.2.mem ((c.tc : Thread Cert.GmlpIdeal.nD Cert.GmlpIdeal.τ).loc Cert.GmlpIdeal.main_v8_3) = v3 c
          ∧ r.2.mem ((c.tc : Thread Cert.GmlpIdeal.nD Cert.GmlpIdeal.τ).loc Cert.GmlpIdeal.main_v8_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v186) = v0 c
          ∧ r.2.mem ((c.tc : Thread Cert.GmlpRefIdeal.nD Cert.GmlpRefIdeal.τ).loc Cert.GmlpRefIdeal.main_v130) = v1 c
          ∧ r.2.mem ((c.tc : Thread Cert.GmlpRefIdeal.nD Cert.GmlpRefIdeal.τ).loc Cert.GmlpRefIdeal.main_v187) = v2 c
          ∧ r.2.mem ((c.tc : Thread Cert.GmlpRefIdeal.nD Cert.GmlpRefIdeal.τ).loc Cert.GmlpRefIdeal.main_v188) = v3 c
          ∧ r.2.mem ((c.tc : Thread Cert.GmlpRefIdeal.nD Cert.GmlpRefIdeal.τ).loc Cert.GmlpRefIdeal.main_v189) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Xfwd_XfwdIdeal : Prop :=
  True

def algebraic_XfwdIdeal_XfwdRefIdeal_pre_xfwd_finite [hXfwdIdeal : Cert.XfwdIdeal.Facts] [hXfwdRefIdeal : Cert.XfwdRefIdeal.Facts] [hPre_xfwd_finite : Cert.Pre_xfwd_finite.Facts] : Prop :=
  ∀ (m : (ℓ : Loc Cert.XfwdIdeal.nD Cert.XfwdIdeal.τ Cert.XfwdIdeal.sig) → Buf (Elt Ideal) ℓ) (g : Dev Cert.XfwdIdeal.nD → PrngReg)
    (m' : (ℓ : Loc Cert.XfwdRefIdeal.nD Cert.XfwdRefIdeal.τ Cert.XfwdRefIdeal.sig) → Buf (Elt Ideal) ℓ) (g' : Dev Cert.XfwdRefIdeal.nD → PrngReg), Pre_XfwdIdeal_xfwd_finite m →
    (∀ c : Dev Cert.XfwdIdeal.nD,
      m' ((c.tc : Thread Cert.XfwdRefIdeal.nD Cert.XfwdRefIdeal.τ).loc Cert.XfwdRefIdeal.main_arg0) = m ((c.tc : Thread Cert.XfwdIdeal.nD Cert.XfwdIdeal.τ).loc Cert.XfwdIdeal.main_arg0)
      ∧ m' ((c.tc : Thread Cert.XfwdRefIdeal.nD Cert.XfwdRefIdeal.τ).loc Cert.XfwdRefIdeal.main_arg1) = m ((c.tc : Thread Cert.XfwdIdeal.nD Cert.XfwdIdeal.τ).loc Cert.XfwdIdeal.main_arg1)) →
    ∃ (v0 : (c : Dev Cert.XfwdIdeal.nD) → Buf (Elt Ideal) ((c.tc : Thread Cert.XfwdIdeal.nD Cert.XfwdIdeal.τ).loc Cert.XfwdIdeal.main_v4)),
      θ_run (Cert.XfwdIdeal.defs (F := Ideal)) (onTc (τ := Cert.XfwdIdeal.τ) (Cert.XfwdIdeal.main (F := Ideal))) ⟨m, fun _ => 0, g⟩ (fun r => ∀ c : Dev Cert.XfwdIdeal.nD,
          r.2.mem ((c.tc : Thread Cert.XfwdIdeal.nD Cert.XfwdIdeal.τ).loc Cert.XfwdIdeal.main_v4) = v0 c
          ∧ r.2.mem ((c.tc : Thread Cert.XfwdIdeal.nD Cert.XfwdIdeal.τ).loc Cert.XfwdIdeal.main_arg0) = m ((c.tc : Thread Cert.XfwdIdeal.nD Cert.XfwdIdeal.τ).loc Cert.XfwdIdeal.main_arg0)
          ∧ r.2.mem ((c.tc : Thread Cert.XfwdIdeal.nD Cert.XfwdIdeal.τ).loc Cert.XfwdIdeal.main_arg1) = m ((c.tc : Thread Cert.XfwdIdeal.nD Cert.XfwdIdeal.τ).loc Cert.XfwdIdeal.main_arg1))
      ∧ θ_run (Cert.XfwdRefIdeal.defs (F := Ideal)) (onTc (τ := Cert.XfwdRefIdeal.τ) (Cert.XfwdRefIdeal.main (F := Ideal))) ⟨m', fun _ => 0, g'⟩ (fun r => ∀ c : Dev Cert.XfwdRefIdeal.nD,
          r.2.mem ((c.tc : Thread Cert.XfwdRefIdeal.nD Cert.XfwdRefIdeal.τ).loc Cert.XfwdRefIdeal.main_v24) = v0 c
          ∧ r.2.mem ((c.tc : Thread Cert.XfwdRefIdeal.nD Cert.XfwdRefIdeal.τ).loc Cert.XfwdRefIdeal.main_arg0) = m' ((c.tc : Thread Cert.XfwdRefIdeal.nD Cert.XfwdRefIdeal.τ).loc Cert.XfwdRefIdeal.main_arg0)
          ∧ r.2.mem ((c.tc : Thread Cert.XfwdRefIdeal.nD Cert.XfwdRefIdeal.τ).loc Cert.XfwdRefIdeal.main_arg1) = m' ((c.tc : Thread Cert.XfwdRefIdeal.nD Cert.XfwdRefIdeal.τ).loc Cert.XfwdRefIdeal.main_arg1))

def preserves_Gfwd_GfwdIdeal : Prop :=
  IdealRules.named_const.Statement Cert.GfwdIdeal.κ "cubic" .f32 0x3D372713#32 ((8943 / 200000 : ℝ) : EReal)

def algebraic_GfwdIdeal_GfwdRefIdeal_pre_gfwd_finite [hGfwdIdeal : Cert.GfwdIdeal.Facts] [hGfwdRefIdeal : Cert.GfwdRefIdeal.Facts] [hPre_gfwd_finite : Cert.Pre_gfwd_finite.Facts] : Prop :=
  ∀ (m : (ℓ : Loc Cert.GfwdIdeal.nD Cert.GfwdIdeal.τ Cert.GfwdIdeal.sig) → Buf (Elt Ideal) ℓ) (g : Dev Cert.GfwdIdeal.nD → PrngReg)
    (m' : (ℓ : Loc Cert.GfwdRefIdeal.nD Cert.GfwdRefIdeal.τ Cert.GfwdRefIdeal.sig) → Buf (Elt Ideal) ℓ) (g' : Dev Cert.GfwdRefIdeal.nD → PrngReg), Pre_GfwdIdeal_gfwd_finite m →
    (∀ c : Dev Cert.GfwdIdeal.nD,
      m' ((c.tc : Thread Cert.GfwdRefIdeal.nD Cert.GfwdRefIdeal.τ).loc Cert.GfwdRefIdeal.main_arg0) = m ((c.tc : Thread Cert.GfwdIdeal.nD Cert.GfwdIdeal.τ).loc Cert.GfwdIdeal.main_arg0)
      ∧ m' ((c.tc : Thread Cert.GfwdRefIdeal.nD Cert.GfwdRefIdeal.τ).loc Cert.GfwdRefIdeal.main_arg1) = m ((c.tc : Thread Cert.GfwdIdeal.nD Cert.GfwdIdeal.τ).loc Cert.GfwdIdeal.main_arg1)
      ∧ m' ((c.tc : Thread Cert.GfwdRefIdeal.nD Cert.GfwdRefIdeal.τ).loc Cert.GfwdRefIdeal.main_arg2) = m ((c.tc : Thread Cert.GfwdIdeal.nD Cert.GfwdIdeal.τ).loc Cert.GfwdIdeal.main_arg2)
      ∧ m' ((c.tc : Thread Cert.GfwdRefIdeal.nD Cert.GfwdRefIdeal.τ).loc Cert.GfwdRefIdeal.main_arg3) = m ((c.tc : Thread Cert.GfwdIdeal.nD Cert.GfwdIdeal.τ).loc Cert.GfwdIdeal.main_arg3)
      ∧ m' ((c.tc : Thread Cert.GfwdRefIdeal.nD Cert.GfwdRefIdeal.τ).loc Cert.GfwdRefIdeal.main_arg4) = m ((c.tc : Thread Cert.GfwdIdeal.nD Cert.GfwdIdeal.τ).loc Cert.GfwdIdeal.main_arg4)) →
    ∃ (v0 : (c : Dev Cert.GfwdIdeal.nD) → Buf (Elt Ideal) ((c.tc : Thread Cert.GfwdIdeal.nD Cert.GfwdIdeal.τ).loc Cert.GfwdIdeal.main_v5)),
      θ_run (Cert.GfwdIdeal.defs (F := Ideal)) (onTc (τ := Cert.GfwdIdeal.τ) (Cert.GfwdIdeal.main (F := Ideal))) ⟨m, fun _ => 0, g⟩ (fun r => ∀ c : Dev Cert.GfwdIdeal.nD,
          r.2.mem ((c.tc : Thread Cert.GfwdIdeal.nD Cert.GfwdIdeal.τ).loc Cert.GfwdIdeal.main_v5) = v0 c
          ∧ r.2.mem ((c.tc : Thread Cert.GfwdIdeal.nD Cert.GfwdIdeal.τ).loc Cert.GfwdIdeal.main_arg0) = m ((c.tc : Thread Cert.GfwdIdeal.nD Cert.GfwdIdeal.τ).loc Cert.GfwdIdeal.main_arg0)
          ∧ r.2.mem ((c.tc : Thread Cert.GfwdIdeal.nD Cert.GfwdIdeal.τ).loc Cert.GfwdIdeal.main_arg1) = m ((c.tc : Thread Cert.GfwdIdeal.nD Cert.GfwdIdeal.τ).loc Cert.GfwdIdeal.main_arg1)
          ∧ r.2.mem ((c.tc : Thread Cert.GfwdIdeal.nD Cert.GfwdIdeal.τ).loc Cert.GfwdIdeal.main_arg2) = m ((c.tc : Thread Cert.GfwdIdeal.nD Cert.GfwdIdeal.τ).loc Cert.GfwdIdeal.main_arg2)
          ∧ r.2.mem ((c.tc : Thread Cert.GfwdIdeal.nD Cert.GfwdIdeal.τ).loc Cert.GfwdIdeal.main_arg3) = m ((c.tc : Thread Cert.GfwdIdeal.nD Cert.GfwdIdeal.τ).loc Cert.GfwdIdeal.main_arg3)
          ∧ r.2.mem ((c.tc : Thread Cert.GfwdIdeal.nD Cert.GfwdIdeal.τ).loc Cert.GfwdIdeal.main_arg4) = m ((c.tc : Thread Cert.GfwdIdeal.nD Cert.GfwdIdeal.τ).loc Cert.GfwdIdeal.main_arg4))
      ∧ θ_run (Cert.GfwdRefIdeal.defs (F := Ideal)) (onTc (τ := Cert.GfwdRefIdeal.τ) (Cert.GfwdRefIdeal.main (F := Ideal))) ⟨m', fun _ => 0, g'⟩ (fun r => ∀ c : Dev Cert.GfwdRefIdeal.nD,
          r.2.mem ((c.tc : Thread Cert.GfwdRefIdeal.nD Cert.GfwdRefIdeal.τ).loc Cert.GfwdRefIdeal.main_v77) = v0 c
          ∧ r.2.mem ((c.tc : Thread Cert.GfwdRefIdeal.nD Cert.GfwdRefIdeal.τ).loc Cert.GfwdRefIdeal.main_arg0) = m' ((c.tc : Thread Cert.GfwdRefIdeal.nD Cert.GfwdRefIdeal.τ).loc Cert.GfwdRefIdeal.main_arg0)
          ∧ r.2.mem ((c.tc : Thread Cert.GfwdRefIdeal.nD Cert.GfwdRefIdeal.τ).loc Cert.GfwdRefIdeal.main_arg1) = m' ((c.tc : Thread Cert.GfwdRefIdeal.nD Cert.GfwdRefIdeal.τ).loc Cert.GfwdRefIdeal.main_arg1)
          ∧ r.2.mem ((c.tc : Thread Cert.GfwdRefIdeal.nD Cert.GfwdRefIdeal.τ).loc Cert.GfwdRefIdeal.main_arg2) = m' ((c.tc : Thread Cert.GfwdRefIdeal.nD Cert.GfwdRefIdeal.τ).loc Cert.GfwdRefIdeal.main_arg2)
          ∧ r.2.mem ((c.tc : Thread Cert.GfwdRefIdeal.nD Cert.GfwdRefIdeal.τ).loc Cert.GfwdRefIdeal.main_arg3) = m' ((c.tc : Thread Cert.GfwdRefIdeal.nD Cert.GfwdRefIdeal.τ).loc Cert.GfwdRefIdeal.main_arg3)
          ∧ r.2.mem ((c.tc : Thread Cert.GfwdRefIdeal.nD Cert.GfwdRefIdeal.τ).loc Cert.GfwdRefIdeal.main_arg4) = m' ((c.tc : Thread Cert.GfwdRefIdeal.nD Cert.GfwdRefIdeal.τ).loc Cert.GfwdRefIdeal.main_arg4))

def preserves_Gain_GainIdeal : Prop :=
  True

def algebraic_GainIdeal_GainRefIdeal [hGainIdeal : Cert.GainIdeal.Facts] [hGainRefIdeal : Cert.GainRefIdeal.Facts] : Prop :=
  ∀ (m : (ℓ : Loc Cert.GainIdeal.nD Cert.GainIdeal.τ Cert.GainIdeal.sig) → Buf (Elt Ideal) ℓ) (g : Dev Cert.GainIdeal.nD → PrngReg)
    (m' : (ℓ : Loc Cert.GainRefIdeal.nD Cert.GainRefIdeal.τ Cert.GainRefIdeal.sig) → Buf (Elt Ideal) ℓ) (g' : Dev Cert.GainRefIdeal.nD → PrngReg), Pre_GainIdeal m →
    (∀ c : Dev Cert.GainIdeal.nD,
      m' ((c.tc : Thread Cert.GainRefIdeal.nD Cert.GainRefIdeal.τ).loc Cert.GainRefIdeal.main_arg0) = m ((c.tc : Thread Cert.GainIdeal.nD Cert.GainIdeal.τ).loc Cert.GainIdeal.main_arg0)
      ∧ m' ((c.tc : Thread Cert.GainRefIdeal.nD Cert.GainRefIdeal.τ).loc Cert.GainRefIdeal.main_arg1) = m ((c.tc : Thread Cert.GainIdeal.nD Cert.GainIdeal.τ).loc Cert.GainIdeal.main_arg1)
      ∧ m' ((c.tc : Thread Cert.GainRefIdeal.nD Cert.GainRefIdeal.τ).loc Cert.GainRefIdeal.main_arg2) = m ((c.tc : Thread Cert.GainIdeal.nD Cert.GainIdeal.τ).loc Cert.GainIdeal.main_arg2)
      ∧ m' ((c.tc : Thread Cert.GainRefIdeal.nD Cert.GainRefIdeal.τ).loc Cert.GainRefIdeal.main_arg3) = m ((c.tc : Thread Cert.GainIdeal.nD Cert.GainIdeal.τ).loc Cert.GainIdeal.main_arg3)) →
    ∃ (v0 : (c : Dev Cert.GainIdeal.nD) → Buf (Elt Ideal) ((c.tc : Thread Cert.GainIdeal.nD Cert.GainIdeal.τ).loc Cert.GainIdeal.main_v6_1)),
      θ_run (Cert.GainIdeal.defs (F := Ideal)) (onTc (τ := Cert.GainIdeal.τ) (Cert.GainIdeal.main (F := Ideal))) ⟨m, fun _ => 0, g⟩ (fun r => ∀ c : Dev Cert.GainIdeal.nD,
          r.2.mem ((c.tc : Thread Cert.GainIdeal.nD Cert.GainIdeal.τ).loc Cert.GainIdeal.main_v6_1) = v0 c
          ∧ r.2.mem ((c.tc : Thread Cert.GainIdeal.nD Cert.GainIdeal.τ).loc Cert.GainIdeal.main_arg0) = m ((c.tc : Thread Cert.GainIdeal.nD Cert.GainIdeal.τ).loc Cert.GainIdeal.main_arg0)
          ∧ r.2.mem ((c.tc : Thread Cert.GainIdeal.nD Cert.GainIdeal.τ).loc Cert.GainIdeal.main_arg1) = m ((c.tc : Thread Cert.GainIdeal.nD Cert.GainIdeal.τ).loc Cert.GainIdeal.main_arg1)
          ∧ r.2.mem ((c.tc : Thread Cert.GainIdeal.nD Cert.GainIdeal.τ).loc Cert.GainIdeal.main_arg2) = m ((c.tc : Thread Cert.GainIdeal.nD Cert.GainIdeal.τ).loc Cert.GainIdeal.main_arg2)
          ∧ r.2.mem ((c.tc : Thread Cert.GainIdeal.nD Cert.GainIdeal.τ).loc Cert.GainIdeal.main_arg3) = m ((c.tc : Thread Cert.GainIdeal.nD Cert.GainIdeal.τ).loc Cert.GainIdeal.main_arg3))
      ∧ θ_run (Cert.GainRefIdeal.defs (F := Ideal)) (onTc (τ := Cert.GainRefIdeal.τ) (Cert.GainRefIdeal.main (F := Ideal))) ⟨m', fun _ => 0, g'⟩ (fun r => ∀ c : Dev Cert.GainRefIdeal.nD,
          r.2.mem ((c.tc : Thread Cert.GainRefIdeal.nD Cert.GainRefIdeal.τ).loc Cert.GainRefIdeal.main_v21) = v0 c
          ∧ r.2.mem ((c.tc : Thread Cert.GainRefIdeal.nD Cert.GainRefIdeal.τ).loc Cert.GainRefIdeal.main_arg0) = m' ((c.tc : Thread Cert.GainRefIdeal.nD Cert.GainRefIdeal.τ).loc Cert.GainRefIdeal.main_arg0)
          ∧ r.2.mem ((c.tc : Thread Cert.GainRefIdeal.nD Cert.GainRefIdeal.τ).loc Cert.GainRefIdeal.main_arg1) = m' ((c.tc : Thread Cert.GainRefIdeal.nD Cert.GainRefIdeal.τ).loc Cert.GainRefIdeal.main_arg1)
          ∧ r.2.mem ((c.tc : Thread Cert.GainRefIdeal.nD Cert.GainRefIdeal.τ).loc Cert.GainRefIdeal.main_arg2) = m' ((c.tc : Thread Cert.GainRefIdeal.nD Cert.GainRefIdeal.τ).loc Cert.GainRefIdeal.main_arg2)
          ∧ r.2.mem ((c.tc : Thread Cert.GainRefIdeal.nD Cert.GainRefIdeal.τ).loc Cert.GainRefIdeal.main_arg3) = m' ((c.tc : Thread Cert.GainRefIdeal.nD Cert.GainRefIdeal.τ).loc Cert.GainRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v79) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v40) = v0 c
          ∧ r.2.mem ((c.tc : Thread Cert.ProjRefIdeal.nD Cert.ProjRefIdeal.τ).loc Cert.ProjRefIdeal.main_v41) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ff1_Ff1Ideal : Prop :=
  True

def algebraic_Ff1Ideal_Ff1RefIdeal_pre_ff1_finite [hFf1Ideal : Cert.Ff1Ideal.Facts] [hFf1RefIdeal : Cert.Ff1RefIdeal.Facts] [hPre_ff1_finite : Cert.Pre_ff1_finite.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal_ff1_finite m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)
      ∧ m' ((c.tc : Thread Cert.Ff1RefIdeal.nD Cert.Ff1RefIdeal.τ).loc Cert.Ff1RefIdeal.main_arg3) = m ((c.tc : Thread Cert.Ff1Ideal.nD Cert.Ff1Ideal.τ).loc Cert.Ff1Ideal.main_arg3)
      ∧ m' ((c.tc : Thread Cert.Ff1RefIdeal.nD Cert.Ff1RefIdeal.τ).loc Cert.Ff1RefIdeal.main_arg4) = m ((c.tc : Thread Cert.Ff1Ideal.nD Cert.Ff1Ideal.τ).loc Cert.Ff1Ideal.main_arg4)
      ∧ m' ((c.tc : Thread Cert.Ff1RefIdeal.nD Cert.Ff1RefIdeal.τ).loc Cert.Ff1RefIdeal.main_arg5) = m ((c.tc : Thread Cert.Ff1Ideal.nD Cert.Ff1Ideal.τ).loc Cert.Ff1Ideal.main_arg5)
      ∧ m' ((c.tc : Thread Cert.Ff1RefIdeal.nD Cert.Ff1RefIdeal.τ).loc Cert.Ff1RefIdeal.main_arg6) = m ((c.tc : Thread Cert.Ff1Ideal.nD Cert.Ff1Ideal.τ).loc Cert.Ff1Ideal.main_arg6)) →
    ∃ (v0 : (c : Dev Cert.Ff1Ideal.nD) → Buf (Elt Ideal) ((c.tc : Thread Cert.Ff1Ideal.nD Cert.Ff1Ideal.τ).loc Cert.Ff1Ideal.main_v9_0)) (v1 : (c : Dev Cert.Ff1Ideal.nD) → Buf (Elt Ideal) ((c.tc : Thread Cert.Ff1Ideal.nD Cert.Ff1Ideal.τ).loc Cert.Ff1Ideal.main_v9_1)) (v2 : (c : Dev Cert.Ff1Ideal.nD) → Buf (Elt Ideal) ((c.tc : Thread Cert.Ff1Ideal.nD Cert.Ff1Ideal.τ).loc Cert.Ff1Ideal.main_v9_2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v9_0) = v0 c
          ∧ r.2.mem ((c.tc : Thread Cert.Ff1Ideal.nD Cert.Ff1Ideal.τ).loc Cert.Ff1Ideal.main_v9_1) = v1 c
          ∧ r.2.mem ((c.tc : Thread Cert.Ff1Ideal.nD Cert.Ff1Ideal.τ).loc Cert.Ff1Ideal.main_v9_2) = v2 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
          ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
          ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
          ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
          ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v43) = v0 c
          ∧ r.2.mem ((c.tc : Thread Cert.Ff1RefIdeal.nD Cert.Ff1RefIdeal.τ).loc Cert.Ff1RefIdeal.main_v47) = v1 c
          ∧ r.2.mem ((c.tc : Thread Cert.Ff1RefIdeal.nD Cert.Ff1RefIdeal.τ).loc Cert.Ff1RefIdeal.main_v44) = v2 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2)
          ∧ r.2.mem ((c.tc : Thread Cert.Ff1RefIdeal.nD Cert.Ff1RefIdeal.τ).loc Cert.Ff1RefIdeal.main_arg3) = m' ((c.tc : Thread Cert.Ff1RefIdeal.nD Cert.Ff1RefIdeal.τ).loc Cert.Ff1RefIdeal.main_arg3)
          ∧ r.2.mem ((c.tc : Thread Cert.Ff1RefIdeal.nD Cert.Ff1RefIdeal.τ).loc Cert.Ff1RefIdeal.main_arg4) = m' ((c.tc : Thread Cert.Ff1RefIdeal.nD Cert.Ff1RefIdeal.τ).loc Cert.Ff1RefIdeal.main_arg4)
          ∧ r.2.mem ((c.tc : Thread Cert.Ff1RefIdeal.nD Cert.Ff1RefIdeal.τ).loc Cert.Ff1RefIdeal.main_arg5) = m' ((c.tc : Thread Cert.Ff1RefIdeal.nD Cert.Ff1RefIdeal.τ).loc Cert.Ff1RefIdeal.main_arg5)
          ∧ r.2.mem ((c.tc : Thread Cert.Ff1RefIdeal.nD Cert.Ff1RefIdeal.τ).loc Cert.Ff1RefIdeal.main_arg6) = m' ((c.tc : Thread Cert.Ff1RefIdeal.nD Cert.Ff1RefIdeal.τ).loc Cert.Ff1RefIdeal.main_arg6))

def preserves_Xq_XqIdeal : Prop :=
  True

def algebraic_XqIdeal_XqRefIdeal_pre_xq_finite [hXqIdeal : Cert.XqIdeal.Facts] [hXqRefIdeal : Cert.XqRefIdeal.Facts] [hPre_xq_finite : Cert.Pre_xq_finite.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal_xq_finite m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)
      ∧ m' ((c.tc : Thread Cert.XqRefIdeal.nD Cert.XqRefIdeal.τ).loc Cert.XqRefIdeal.main_arg2) = m ((c.tc : Thread Cert.XqIdeal.nD Cert.XqIdeal.τ).loc Cert.XqIdeal.main_arg2)
      ∧ m' ((c.tc : Thread Cert.XqRefIdeal.nD Cert.XqRefIdeal.τ).loc Cert.XqRefIdeal.main_arg3) = m ((c.tc : Thread Cert.XqIdeal.nD Cert.XqIdeal.τ).loc Cert.XqIdeal.main_arg3)
      ∧ m' ((c.tc : Thread Cert.XqRefIdeal.nD Cert.XqRefIdeal.τ).loc Cert.XqRefIdeal.main_arg4) = m ((c.tc : Thread Cert.XqIdeal.nD Cert.XqIdeal.τ).loc Cert.XqIdeal.main_arg4)
      ∧ m' ((c.tc : Thread Cert.XqRefIdeal.nD Cert.XqRefIdeal.τ).loc Cert.XqRefIdeal.main_arg5) = m ((c.tc : Thread Cert.XqIdeal.nD Cert.XqIdeal.τ).loc Cert.XqIdeal.main_arg5)
      ∧ m' ((c.tc : Thread Cert.XqRefIdeal.nD Cert.XqRefIdeal.τ).loc Cert.XqRefIdeal.main_arg6) = m ((c.tc : Thread Cert.XqIdeal.nD Cert.XqIdeal.τ).loc Cert.XqIdeal.main_arg6)) →
    ∃ (v0 : (c : Dev Cert.XqIdeal.nD) → Buf (Elt Ideal) ((c.tc : Thread Cert.XqIdeal.nD Cert.XqIdeal.τ).loc Cert.XqIdeal.main_v8_0)) (v1 : (c : Dev Cert.XqIdeal.nD) → Buf (Elt Ideal) ((c.tc : Thread Cert.XqIdeal.nD Cert.XqIdeal.τ).loc Cert.XqIdeal.main_v8_1)) (v2 : (c : Dev Cert.XqIdeal.nD) → Buf (Elt Ideal) ((c.tc : Thread Cert.XqIdeal.nD Cert.XqIdeal.τ).loc Cert.XqIdeal.main_v8_2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v8_0) = v0 c
          ∧ r.2.mem ((c.tc : Thread Cert.XqIdeal.nD Cert.XqIdeal.τ).loc Cert.XqIdeal.main_v8_1) = v1 c
          ∧ r.2.mem ((c.tc : Thread Cert.XqIdeal.nD Cert.XqIdeal.τ).loc Cert.XqIdeal.main_v8_2) = v2 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1)
          ∧ r.2.mem ((c.tc : Thread Cert.XqIdeal.nD Cert.XqIdeal.τ).loc Cert.XqIdeal.main_arg2) = m ((c.tc : Thread Cert.XqIdeal.nD Cert.XqIdeal.τ).loc Cert.XqIdeal.main_arg2)
          ∧ r.2.mem ((c.tc : Thread Cert.XqIdeal.nD Cert.XqIdeal.τ).loc Cert.XqIdeal.main_arg3) = m ((c.tc : Thread Cert.XqIdeal.nD Cert.XqIdeal.τ).loc Cert.XqIdeal.main_arg3)
          ∧ r.2.mem ((c.tc : Thread Cert.XqIdeal.nD Cert.XqIdeal.τ).loc Cert.XqIdeal.main_arg4) = m ((c.tc : Thread Cert.XqIdeal.nD Cert.XqIdeal.τ).loc Cert.XqIdeal.main_arg4)
          ∧ r.2.mem ((c.tc : Thread Cert.XqIdeal.nD Cert.XqIdeal.τ).loc Cert.XqIdeal.main_arg5) = m ((c.tc : Thread Cert.XqIdeal.nD Cert.XqIdeal.τ).loc Cert.XqIdeal.main_arg5)
          ∧ r.2.mem ((c.tc : Thread Cert.XqIdeal.nD Cert.XqIdeal.τ).loc Cert.XqIdeal.main_arg6) = m ((c.tc : Thread Cert.XqIdeal.nD Cert.XqIdeal.τ).loc Cert.XqIdeal.main_arg6))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v43) = v0 c
          ∧ r.2.mem ((c.tc : Thread Cert.XqRefIdeal.nD Cert.XqRefIdeal.τ).loc Cert.XqRefIdeal.main_v47) = v1 c
          ∧ r.2.mem ((c.tc : Thread Cert.XqRefIdeal.nD Cert.XqRefIdeal.τ).loc Cert.XqRefIdeal.main_v44) = v2 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1)
          ∧ r.2.mem ((c.tc : Thread Cert.XqRefIdeal.nD Cert.XqRefIdeal.τ).loc Cert.XqRefIdeal.main_arg2) = m' ((c.tc : Thread Cert.XqRefIdeal.nD Cert.XqRefIdeal.τ).loc Cert.XqRefIdeal.main_arg2)
          ∧ r.2.mem ((c.tc : Thread Cert.XqRefIdeal.nD Cert.XqRefIdeal.τ).loc Cert.XqRefIdeal.main_arg3) = m' ((c.tc : Thread Cert.XqRefIdeal.nD Cert.XqRefIdeal.τ).loc Cert.XqRefIdeal.main_arg3)
          ∧ r.2.mem ((c.tc : Thread Cert.XqRefIdeal.nD Cert.XqRefIdeal.τ).loc Cert.XqRefIdeal.main_arg4) = m' ((c.tc : Thread Cert.XqRefIdeal.nD Cert.XqRefIdeal.τ).loc Cert.XqRefIdeal.main_arg4)
          ∧ r.2.mem ((c.tc : Thread Cert.XqRefIdeal.nD Cert.XqRefIdeal.τ).loc Cert.XqRefIdeal.main_arg5) = m' ((c.tc : Thread Cert.XqRefIdeal.nD Cert.XqRefIdeal.τ).loc Cert.XqRefIdeal.main_arg5)
          ∧ r.2.mem ((c.tc : Thread Cert.XqRefIdeal.nD Cert.XqRefIdeal.τ).loc Cert.XqRefIdeal.main_arg6) = m' ((c.tc : Thread Cert.XqRefIdeal.nD Cert.XqRefIdeal.τ).loc Cert.XqRefIdeal.main_arg6))

def preserves_Pfwd_PfwdIdeal : Prop :=
  True

def algebraic_PfwdIdeal_PfwdRefIdeal [hPfwdIdeal : Cert.PfwdIdeal.Facts] [hPfwdRefIdeal : Cert.PfwdRefIdeal.Facts] : Prop :=
  ∀ (m : (ℓ : Loc Cert.PfwdIdeal.nD Cert.PfwdIdeal.τ Cert.PfwdIdeal.sig) → Buf (Elt Ideal) ℓ) (g : Dev Cert.PfwdIdeal.nD → PrngReg)
    (m' : (ℓ : Loc Cert.PfwdRefIdeal.nD Cert.PfwdRefIdeal.τ Cert.PfwdRefIdeal.sig) → Buf (Elt Ideal) ℓ) (g' : Dev Cert.PfwdRefIdeal.nD → PrngReg), Pre_PfwdIdeal m →
    (∀ c : Dev Cert.PfwdIdeal.nD,
      m' ((c.tc : Thread Cert.PfwdRefIdeal.nD Cert.PfwdRefIdeal.τ).loc Cert.PfwdRefIdeal.main_arg0) = m ((c.tc : Thread Cert.PfwdIdeal.nD Cert.PfwdIdeal.τ).loc Cert.PfwdIdeal.main_arg0)
      ∧ m' ((c.tc : Thread Cert.PfwdRefIdeal.nD Cert.PfwdRefIdeal.τ).loc Cert.PfwdRefIdeal.main_arg1) = m ((c.tc : Thread Cert.PfwdIdeal.nD Cert.PfwdIdeal.τ).loc Cert.PfwdIdeal.main_arg1)
      ∧ m' ((c.tc : Thread Cert.PfwdRefIdeal.nD Cert.PfwdRefIdeal.τ).loc Cert.PfwdRefIdeal.main_arg2) = m ((c.tc : Thread Cert.PfwdIdeal.nD Cert.PfwdIdeal.τ).loc Cert.PfwdIdeal.main_arg2)) →
    ∃ (v0 : (c : Dev Cert.PfwdIdeal.nD) → Buf (Elt Ideal) ((c.tc : Thread Cert.PfwdIdeal.nD Cert.PfwdIdeal.τ).loc Cert.PfwdIdeal.main_v3_0)) (v1 : (c : Dev Cert.PfwdIdeal.nD) → Buf (Elt Ideal) ((c.tc : Thread Cert.PfwdIdeal.nD Cert.PfwdIdeal.τ).loc Cert.PfwdIdeal.main_v3_1)),
      θ_run (Cert.PfwdIdeal.defs (F := Ideal)) (onTc (τ := Cert.PfwdIdeal.τ) (Cert.PfwdIdeal.main (F := Ideal))) ⟨m, fun _ => 0, g⟩ (fun r => ∀ c : Dev Cert.PfwdIdeal.nD,
          r.2.mem ((c.tc : Thread Cert.PfwdIdeal.nD Cert.PfwdIdeal.τ).loc Cert.PfwdIdeal.main_v3_0) = v0 c
          ∧ r.2.mem ((c.tc : Thread Cert.PfwdIdeal.nD Cert.PfwdIdeal.τ).loc Cert.PfwdIdeal.main_v3_1) = v1 c
          ∧ r.2.mem ((c.tc : Thread Cert.PfwdIdeal.nD Cert.PfwdIdeal.τ).loc Cert.PfwdIdeal.main_arg0) = m ((c.tc : Thread Cert.PfwdIdeal.nD Cert.PfwdIdeal.τ).loc Cert.PfwdIdeal.main_arg0)
          ∧ r.2.mem ((c.tc : Thread Cert.PfwdIdeal.nD Cert.PfwdIdeal.τ).loc Cert.PfwdIdeal.main_arg1) = m ((c.tc : Thread Cert.PfwdIdeal.nD Cert.PfwdIdeal.τ).loc Cert.PfwdIdeal.main_arg1)
          ∧ r.2.mem ((c.tc : Thread Cert.PfwdIdeal.nD Cert.PfwdIdeal.τ).loc Cert.PfwdIdeal.main_arg2) = m ((c.tc : Thread Cert.PfwdIdeal.nD Cert.PfwdIdeal.τ).loc Cert.PfwdIdeal.main_arg2))
      ∧ θ_run (Cert.PfwdRefIdeal.defs (F := Ideal)) (onTc (τ := Cert.PfwdRefIdeal.τ) (Cert.PfwdRefIdeal.main (F := Ideal))) ⟨m', fun _ => 0, g'⟩ (fun r => ∀ c : Dev Cert.PfwdRefIdeal.nD,
          r.2.mem ((c.tc : Thread Cert.PfwdRefIdeal.nD Cert.PfwdRefIdeal.τ).loc Cert.PfwdRefIdeal.main_v16) = v0 c
          ∧ r.2.mem ((c.tc : Thread Cert.PfwdRefIdeal.nD Cert.PfwdRefIdeal.τ).loc Cert.PfwdRefIdeal.main_v17) = v1 c
          ∧ r.2.mem ((c.tc : Thread Cert.PfwdRefIdeal.nD Cert.PfwdRefIdeal.τ).loc Cert.PfwdRefIdeal.main_arg0) = m' ((c.tc : Thread Cert.PfwdRefIdeal.nD Cert.PfwdRefIdeal.τ).loc Cert.PfwdRefIdeal.main_arg0)
          ∧ r.2.mem ((c.tc : Thread Cert.PfwdRefIdeal.nD Cert.PfwdRefIdeal.τ).loc Cert.PfwdRefIdeal.main_arg1) = m' ((c.tc : Thread Cert.PfwdRefIdeal.nD Cert.PfwdRefIdeal.τ).loc Cert.PfwdRefIdeal.main_arg1)
          ∧ r.2.mem ((c.tc : Thread Cert.PfwdRefIdeal.nD Cert.PfwdRefIdeal.τ).loc Cert.PfwdRefIdeal.main_arg2) = m' ((c.tc : Thread Cert.PfwdRefIdeal.nD Cert.PfwdRefIdeal.τ).loc Cert.PfwdRefIdeal.main_arg2))

def preserves_Hfwd_HfwdIdeal : Prop :=
  True

def algebraic_HfwdIdeal_HfwdRefIdeal [hHfwdIdeal : Cert.HfwdIdeal.Facts] [hHfwdRefIdeal : Cert.HfwdRefIdeal.Facts] : Prop :=
  ∀ (m : (ℓ : Loc Cert.HfwdIdeal.nD Cert.HfwdIdeal.τ Cert.HfwdIdeal.sig) → Buf (Elt Ideal) ℓ) (g : Dev Cert.HfwdIdeal.nD → PrngReg)
    (m' : (ℓ : Loc Cert.HfwdRefIdeal.nD Cert.HfwdRefIdeal.τ Cert.HfwdRefIdeal.sig) → Buf (Elt Ideal) ℓ) (g' : Dev Cert.HfwdRefIdeal.nD → PrngReg), Pre_HfwdIdeal m →
    (∀ c : Dev Cert.HfwdIdeal.nD,
      m' ((c.tc : Thread Cert.HfwdRefIdeal.nD Cert.HfwdRefIdeal.τ).loc Cert.HfwdRefIdeal.main_arg0) = m ((c.tc : Thread Cert.HfwdIdeal.nD Cert.HfwdIdeal.τ).loc Cert.HfwdIdeal.main_arg0)
      ∧ m' ((c.tc : Thread Cert.HfwdRefIdeal.nD Cert.HfwdRefIdeal.τ).loc Cert.HfwdRefIdeal.main_arg1) = m ((c.tc : Thread Cert.HfwdIdeal.nD Cert.HfwdIdeal.τ).loc Cert.HfwdIdeal.main_arg1)
      ∧ m' ((c.tc : Thread Cert.HfwdRefIdeal.nD Cert.HfwdRefIdeal.τ).loc Cert.HfwdRefIdeal.main_arg2) = m ((c.tc : Thread Cert.HfwdIdeal.nD Cert.HfwdIdeal.τ).loc Cert.HfwdIdeal.main_arg2)
      ∧ m' ((c.tc : Thread Cert.HfwdRefIdeal.nD Cert.HfwdRefIdeal.τ).loc Cert.HfwdRefIdeal.main_arg3) = m ((c.tc : Thread Cert.HfwdIdeal.nD Cert.HfwdIdeal.τ).loc Cert.HfwdIdeal.main_arg3)
      ∧ m' ((c.tc : Thread Cert.HfwdRefIdeal.nD Cert.HfwdRefIdeal.τ).loc Cert.HfwdRefIdeal.main_arg4) = m ((c.tc : Thread Cert.HfwdIdeal.nD Cert.HfwdIdeal.τ).loc Cert.HfwdIdeal.main_arg4)) →
    ∃ (v0 : (c : Dev Cert.HfwdIdeal.nD) → Buf (Elt Ideal) ((c.tc : Thread Cert.HfwdIdeal.nD Cert.HfwdIdeal.τ).loc Cert.HfwdIdeal.main_v5_0)) (v1 : (c : Dev Cert.HfwdIdeal.nD) → Buf (Elt Ideal) ((c.tc : Thread Cert.HfwdIdeal.nD Cert.HfwdIdeal.τ).loc Cert.HfwdIdeal.main_v5_1)) (v2 : (c : Dev Cert.HfwdIdeal.nD) → Buf (Elt Ideal) ((c.tc : Thread Cert.HfwdIdeal.nD Cert.HfwdIdeal.τ).loc Cert.HfwdIdeal.main_v5_2)),
      θ_run (Cert.HfwdIdeal.defs (F := Ideal)) (onTc (τ := Cert.HfwdIdeal.τ) (Cert.HfwdIdeal.main (F := Ideal))) ⟨m, fun _ => 0, g⟩ (fun r => ∀ c : Dev Cert.HfwdIdeal.nD,
          r.2.mem ((c.tc : Thread Cert.HfwdIdeal.nD Cert.HfwdIdeal.τ).loc Cert.HfwdIdeal.main_v5_0) = v0 c
          ∧ r.2.mem ((c.tc : Thread Cert.HfwdIdeal.nD Cert.HfwdIdeal.τ).loc Cert.HfwdIdeal.main_v5_1) = v1 c
          ∧ r.2.mem ((c.tc : Thread Cert.HfwdIdeal.nD Cert.HfwdIdeal.τ).loc Cert.HfwdIdeal.main_v5_2) = v2 c
          ∧ r.2.mem ((c.tc : Thread Cert.HfwdIdeal.nD Cert.HfwdIdeal.τ).loc Cert.HfwdIdeal.main_arg0) = m ((c.tc : Thread Cert.HfwdIdeal.nD Cert.HfwdIdeal.τ).loc Cert.HfwdIdeal.main_arg0)
          ∧ r.2.mem ((c.tc : Thread Cert.HfwdIdeal.nD Cert.HfwdIdeal.τ).loc Cert.HfwdIdeal.main_arg1) = m ((c.tc : Thread Cert.HfwdIdeal.nD Cert.HfwdIdeal.τ).loc Cert.HfwdIdeal.main_arg1)
          ∧ r.2.mem ((c.tc : Thread Cert.HfwdIdeal.nD Cert.HfwdIdeal.τ).loc Cert.HfwdIdeal.main_arg2) = m ((c.tc : Thread Cert.HfwdIdeal.nD Cert.HfwdIdeal.τ).loc Cert.HfwdIdeal.main_arg2)
          ∧ r.2.mem ((c.tc : Thread Cert.HfwdIdeal.nD Cert.HfwdIdeal.τ).loc Cert.HfwdIdeal.main_arg3) = m ((c.tc : Thread Cert.HfwdIdeal.nD Cert.HfwdIdeal.τ).loc Cert.HfwdIdeal.main_arg3)
          ∧ r.2.mem ((c.tc : Thread Cert.HfwdIdeal.nD Cert.HfwdIdeal.τ).loc Cert.HfwdIdeal.main_arg4) = m ((c.tc : Thread Cert.HfwdIdeal.nD Cert.HfwdIdeal.τ).loc Cert.HfwdIdeal.main_arg4))
      ∧ θ_run (Cert.HfwdRefIdeal.defs (F := Ideal)) (onTc (τ := Cert.HfwdRefIdeal.τ) (Cert.HfwdRefIdeal.main (F := Ideal))) ⟨m', fun _ => 0, g'⟩ (fun r => ∀ c : Dev Cert.HfwdRefIdeal.nD,
          r.2.mem ((c.tc : Thread Cert.HfwdRefIdeal.nD Cert.HfwdRefIdeal.τ).loc Cert.HfwdRefIdeal.main_v2) = v0 c
          ∧ r.2.mem ((c.tc : Thread Cert.HfwdRefIdeal.nD Cert.HfwdRefIdeal.τ).loc Cert.HfwdRefIdeal.main_v19) = v1 c
          ∧ r.2.mem ((c.tc : Thread Cert.HfwdRefIdeal.nD Cert.HfwdRefIdeal.τ).loc Cert.HfwdRefIdeal.main_v20) = v2 c
          ∧ r.2.mem ((c.tc : Thread Cert.HfwdRefIdeal.nD Cert.HfwdRefIdeal.τ).loc Cert.HfwdRefIdeal.main_arg0) = m' ((c.tc : Thread Cert.HfwdRefIdeal.nD Cert.HfwdRefIdeal.τ).loc Cert.HfwdRefIdeal.main_arg0)
          ∧ r.2.mem ((c.tc : Thread Cert.HfwdRefIdeal.nD Cert.HfwdRefIdeal.τ).loc Cert.HfwdRefIdeal.main_arg1) = m' ((c.tc : Thread Cert.HfwdRefIdeal.nD Cert.HfwdRefIdeal.τ).loc Cert.HfwdRefIdeal.main_arg1)
          ∧ r.2.mem ((c.tc : Thread Cert.HfwdRefIdeal.nD Cert.HfwdRefIdeal.τ).loc Cert.HfwdRefIdeal.main_arg2) = m' ((c.tc : Thread Cert.HfwdRefIdeal.nD Cert.HfwdRefIdeal.τ).loc Cert.HfwdRefIdeal.main_arg2)
          ∧ r.2.mem ((c.tc : Thread Cert.HfwdRefIdeal.nD Cert.HfwdRefIdeal.τ).loc Cert.HfwdRefIdeal.main_arg3) = m' ((c.tc : Thread Cert.HfwdRefIdeal.nD Cert.HfwdRefIdeal.τ).loc Cert.HfwdRefIdeal.main_arg3)
          ∧ r.2.mem ((c.tc : Thread Cert.HfwdRefIdeal.nD Cert.HfwdRefIdeal.τ).loc Cert.HfwdRefIdeal.main_arg4) = m' ((c.tc : Thread Cert.HfwdRefIdeal.nD Cert.HfwdRefIdeal.τ).loc Cert.HfwdRefIdeal.main_arg4))

def Claim : Prop :=
  ∃ (hRelu2 : Cert.Relu2.Facts) (hRelu2Ideal : Cert.Relu2Ideal.Facts) (hRelu2RefIdeal : Cert.Relu2RefIdeal.Facts) (hXattn : Cert.Xattn.Facts) (hXattnIdeal : Cert.XattnIdeal.Facts) (hXattnRefIdeal : Cert.XattnRefIdeal.Facts) (hSb : Cert.Sb.Facts) (hSbIdeal : Cert.SbIdeal.Facts) (hSbRefIdeal : Cert.SbRefIdeal.Facts) (hGmlp : Cert.Gmlp.Facts) (hGmlpIdeal : Cert.GmlpIdeal.Facts) (hGmlpRefIdeal : Cert.GmlpRefIdeal.Facts) (hXfwd : Cert.Xfwd.Facts) (hXfwdIdeal : Cert.XfwdIdeal.Facts) (hXfwdRefIdeal : Cert.XfwdRefIdeal.Facts) (hGfwd : Cert.Gfwd.Facts) (hGfwdIdeal : Cert.GfwdIdeal.Facts) (hGfwdRefIdeal : Cert.GfwdRefIdeal.Facts) (hGain : Cert.Gain.Facts) (hGainIdeal : Cert.GainIdeal.Facts) (hGainRefIdeal : Cert.GainRefIdeal.Facts) (hLoss : Cert.Loss.Facts) (hLossIdeal : Cert.LossIdeal.Facts) (hLossRefIdeal : Cert.LossRefIdeal.Facts) (hProj : Cert.Proj.Facts) (hProjIdeal : Cert.ProjIdeal.Facts) (hProjRefIdeal : Cert.ProjRefIdeal.Facts) (hFf1 : Cert.Ff1.Facts) (hFf1Ideal : Cert.Ff1Ideal.Facts) (hFf1RefIdeal : Cert.Ff1RefIdeal.Facts) (hXq : Cert.Xq.Facts) (hXqIdeal : Cert.XqIdeal.Facts) (hXqRefIdeal : Cert.XqRefIdeal.Facts) (hPfwd : Cert.Pfwd.Facts) (hPfwdIdeal : Cert.PfwdIdeal.Facts) (hPfwdRefIdeal : Cert.PfwdRefIdeal.Facts) (hHfwd : Cert.Hfwd.Facts) (hHfwdIdeal : Cert.HfwdIdeal.Facts) (hHfwdRefIdeal : Cert.HfwdRefIdeal.Facts) (hPre_xattn_finite : Cert.Pre_xattn_finite.Facts) (hPre_sb_finite : Cert.Pre_sb_finite.Facts) (hPre_gmlp_finite : Cert.Pre_gmlp_finite.Facts) (hPre_xfwd_finite : Cert.Pre_xfwd_finite.Facts) (hPre_gfwd_finite : Cert.Pre_gfwd_finite.Facts) (hPre_loss_finite : Cert.Pre_loss_finite.Facts) (hPre_proj_finite : Cert.Pre_proj_finite.Facts) (hPre_ff1_finite : Cert.Pre_ff1_finite.Facts) (hPre_xq_finite : Cert.Pre_xq_finite.Facts),
    quiescent_Relu2 (hRelu2 := hRelu2)
    ∧ quiescent_Relu2Ideal (hRelu2Ideal := hRelu2Ideal)
    ∧ quiescent_Relu2RefIdeal (hRelu2RefIdeal := hRelu2RefIdeal)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Gmlp (hGmlp := hGmlp)
    ∧ quiescent_GmlpIdeal (hGmlpIdeal := hGmlpIdeal)
    ∧ quiescent_GmlpIdeal_pre_gmlp_finite (hGmlpIdeal := hGmlpIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_Xfwd (hXfwd := hXfwd)
    ∧ quiescent_XfwdIdeal (hXfwdIdeal := hXfwdIdeal)
    ∧ quiescent_XfwdIdeal_pre_xfwd_finite (hXfwdIdeal := hXfwdIdeal) (hPre_xfwd_finite := hPre_xfwd_finite)
    ∧ quiescent_XfwdRefIdeal (hXfwdRefIdeal := hXfwdRefIdeal)
    ∧ quiescent_XfwdRefIdeal_pre_xfwd_finite (hXfwdRefIdeal := hXfwdRefIdeal) (hPre_xfwd_finite := hPre_xfwd_finite)
    ∧ quiescent_Gfwd (hGfwd := hGfwd)
    ∧ quiescent_GfwdIdeal (hGfwdIdeal := hGfwdIdeal)
    ∧ quiescent_GfwdIdeal_pre_gfwd_finite (hGfwdIdeal := hGfwdIdeal) (hPre_gfwd_finite := hPre_gfwd_finite)
    ∧ quiescent_GfwdRefIdeal (hGfwdRefIdeal := hGfwdRefIdeal)
    ∧ quiescent_GfwdRefIdeal_pre_gfwd_finite (hGfwdRefIdeal := hGfwdRefIdeal) (hPre_gfwd_finite := hPre_gfwd_finite)
    ∧ quiescent_Gain (hGain := hGain)
    ∧ quiescent_GainIdeal (hGainIdeal := hGainIdeal)
    ∧ quiescent_GainRefIdeal (hGainRefIdeal := hGainRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_Ff1 (hFf1 := hFf1)
    ∧ quiescent_Ff1Ideal (hFf1Ideal := hFf1Ideal)
    ∧ quiescent_Ff1Ideal_pre_ff1_finite (hFf1Ideal := hFf1Ideal) (hPre_ff1_finite := hPre_ff1_finite)
    ∧ quiescent_Ff1RefIdeal (hFf1RefIdeal := hFf1RefIdeal)
    ∧ quiescent_Ff1RefIdeal_pre_ff1_finite (hFf1RefIdeal := hFf1RefIdeal) (hPre_ff1_finite := hPre_ff1_finite)
    ∧ quiescent_Xq (hXq := hXq)
    ∧ quiescent_XqIdeal (hXqIdeal := hXqIdeal)
    ∧ quiescent_XqIdeal_pre_xq_finite (hXqIdeal := hXqIdeal) (hPre_xq_finite := hPre_xq_finite)
    ∧ quiescent_XqRefIdeal (hXqRefIdeal := hXqRefIdeal)
    ∧ quiescent_XqRefIdeal_pre_xq_finite (hXqRefIdeal := hXqRefIdeal) (hPre_xq_finite := hPre_xq_finite)
    ∧ quiescent_Pfwd (hPfwd := hPfwd)
    ∧ quiescent_PfwdIdeal (hPfwdIdeal := hPfwdIdeal)
    ∧ quiescent_PfwdRefIdeal (hPfwdRefIdeal := hPfwdRefIdeal)
    ∧ quiescent_Hfwd (hHfwd := hHfwd)
    ∧ quiescent_HfwdIdeal (hHfwdIdeal := hHfwdIdeal)
    ∧ quiescent_HfwdRefIdeal (hHfwdRefIdeal := hHfwdRefIdeal)
    ∧ preserves_Relu2_Relu2Ideal
    ∧ algebraic_Relu2Ideal_Relu2RefIdeal (hRelu2Ideal := hRelu2Ideal) (hRelu2RefIdeal := hRelu2RefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Gmlp_GmlpIdeal
    ∧ algebraic_GmlpIdeal_GmlpRefIdeal_pre_gmlp_finite (hGmlpIdeal := hGmlpIdeal) (hGmlpRefIdeal := hGmlpRefIdeal) (hPre_gmlp_finite := hPre_gmlp_finite)
    ∧ preserves_Xfwd_XfwdIdeal
    ∧ algebraic_XfwdIdeal_XfwdRefIdeal_pre_xfwd_finite (hXfwdIdeal := hXfwdIdeal) (hXfwdRefIdeal := hXfwdRefIdeal) (hPre_xfwd_finite := hPre_xfwd_finite)
    ∧ preserves_Gfwd_GfwdIdeal
    ∧ algebraic_GfwdIdeal_GfwdRefIdeal_pre_gfwd_finite (hGfwdIdeal := hGfwdIdeal) (hGfwdRefIdeal := hGfwdRefIdeal) (hPre_gfwd_finite := hPre_gfwd_finite)
    ∧ preserves_Gain_GainIdeal
    ∧ algebraic_GainIdeal_GainRefIdeal (hGainIdeal := hGainIdeal) (hGainRefIdeal := hGainRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_Ff1_Ff1Ideal
    ∧ algebraic_Ff1Ideal_Ff1RefIdeal_pre_ff1_finite (hFf1Ideal := hFf1Ideal) (hFf1RefIdeal := hFf1RefIdeal) (hPre_ff1_finite := hPre_ff1_finite)
    ∧ preserves_Xq_XqIdeal
    ∧ algebraic_XqIdeal_XqRefIdeal_pre_xq_finite (hXqIdeal := hXqIdeal) (hXqRefIdeal := hXqRefIdeal) (hPre_xq_finite := hPre_xq_finite)
    ∧ preserves_Pfwd_PfwdIdeal
    ∧ algebraic_PfwdIdeal_PfwdRefIdeal (hPfwdIdeal := hPfwdIdeal) (hPfwdRefIdeal := hPfwdRefIdeal)
    ∧ preserves_Hfwd_HfwdIdeal
    ∧ algebraic_HfwdIdeal_HfwdRefIdeal (hHfwdIdeal := hHfwdIdeal) (hHfwdRefIdeal := hHfwdRefIdeal)
-- ==== Pre_ff1_finite.lean ====
abbrev S8192x1024 : Shape := ⟨2, ![8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_arg4 : FVec F S1x1024x4096 .f32) (main_arg5 : FVec F S8192x1024 .f32) (main_arg6 : FVec F S8192x4096 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4096 .f32 := Host.absf main_arg4
  let main_cst_6 : FVec F S_ .f32 := constant S_ .f32 0x7F800000#32
  let main_v20 : FVec F S1x1024x4096 .f32 := broadcastInDim S1x1024x4096 ![] bcast_S_S1x1024x4096 main_cst_6
  let main_v21 : IVec S1x1024x4096 1 := cmpf .olt main_v19 main_v20
  let main_c_7 : IVec S_ 1 := constantI S_ 1 1#1
  let main_v22 : IVec S_ 1 := (fun x v => Host.reduce IntOp.andi x v reducesTo_S1x1024x4096_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x4096 .f32 := Host.absf main_arg6
  let main_cst_10 : FVec F S_ .f32 := constant S_ .f32 0x7F800000#32
  let main_v30 : FVec F S8192x4096 .f32 := broadcastInDim S8192x4096 ![] bcast_S_S8192x4096 main_cst_10
  let main_v31 : IVec S8192x4096 1 := cmpf .olt main_v29 main_v30
  let main_c_11 : IVec S_ 1 := constantI S_ 1 1#1
  let main_v32 : IVec S_ 1 := (fun x v => Host.reduce IntOp.andi x v reducesTo_S8192x4096_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1x1024x1024 .f32) (main_arg3 : FVec F S1x1024 .f32) (main_arg4 : FVec F S1x1024x4096 .f32) (main_arg5 : FVec F S8192x1024 .f32) (main_arg6 : FVec F S8192x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_gfwd_finite.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S4x2048x1024 : Shape := ⟨3, ![4, 2048, 1024]⟩
abbrev S_ : Shape := ⟨0, ![]⟩

class Facts : Prop where
  slices_S4x2048x2560_S4x2048x1024_0_0_0 : S4x2048x2560.Slices ![0, 0, 0] S4x2048x1024
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512 : S_.BroadcastsInDim S512 (![] : Fin 0 → Fin S512.rank)
  reducesTo_S512_S_d0 : S512.ReducesTo [0] S_
  slices_S1024_S512_0 : S1024.Slices ![0] S512

variable [Facts]

def fn_part1 {F : FTy → Type} [FloatOps F] (main_arg4 : FVec F S1024 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512 .f32 := (extractStridedSlice S512 ![0] · slices_S1024_S512_0) main_arg4
  let main_v21 : FVec F S512 .f32 := Host.absf main_v20
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_c_7 : IVec S_ 1 := constantI S_ 1 1#1
  let main_v24 : IVec S_ 1 := (fun x v => Host.reduce IntOp.andi x v reducesTo_S512_S_d0 h_S_) main_v23 main_c_7
  let main_v25 : IVec S_ 1 := andi main_v19 main_v24
  main_v25

def fn {F : FTy → Type} [FloatOps F] (main_arg0 : FVec F S4x2048x2560 .f32) (main_arg1 : FVec F S4x128x128 .f32) (main_arg2 : FVec F S4x128 .f32) (main_arg3 : FVec F S512 .f32) (main_arg4 : FVec F S1024 .f32) : IVec S_ 1 :=
  let main_v0 : FVec F S4x2048x1024 .f32 := (extractStridedSlice S4x2048x1024 ![0, 0, 0] · slices_S4x2048x2560_S4x2048x1024_0_0_0) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x128x128 .f32 := Host.absf main_arg1
  let main_cst_0 : FVec F S_ .f32 := constant S_ .f32 0x7F800000#32
  let main_v6 : FVec F S4x128x128 .f32 := broadcastInDim S4x128x128 ![] bcast_S_S4x128x128 main_cst_0
  let main_v7 : IVec S4x128x128 1 := cmpf .olt main_v5 main_v6
  let main_c_1 : IVec S_ 1 := constantI S_ 1 1#1
  let main_v8 : IVec S_ 1 := (fun x v => Host.reduce IntOp.andi x v reducesTo_S4x128x128_S_d0_1_2 h_S_) main_v7 main_c_1
  let main_v9 : IVec S_ 1 := andi main_v4 main_v8
  let main_v10 : FVec F S4x128 .f32 := Host.absf main_arg2
  let main_cst_2 : FVec F S_ .f32 := constant S_ .f32 0x7F800000#32
  let main_v11 : FVec F S4x128 .f32 := broadcastInDim S4x128 ![] bcast_S_S4x128 main_cst_2
  let main_v12 : IVec S4x128 1 := cmpf .olt main_v10 main_v11
  let main_c_3 : IVec S_ 1 := constantI S_ 1 1#1
  let main_v13 : IVec S_ 1 := (fun x v => Host.reduce IntOp.andi x v reducesTo_S4x128_S_d0_1 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_v14 main_v15 main_v16
-- ==== Pre_gmlp_finite.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S4x2048x1024 : Shape := ⟨3, ![4, 2048, 1024]⟩
abbrev S_ : Shape := ⟨0, ![]⟩
abbrev S4x2048x512 : Shape := ⟨3, ![4, 2048, 512]⟩

class Facts : Prop where
  slices_S4x2048x2560_S4x2048x1024_0_0_0 : S4x2048x2560.Slices ![0, 0, 0] S4x2048x1024
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512 : S_.BroadcastsInDim S512 (![] : Fin 0 → Fin S512.rank)
  reducesTo_S512_S_d0 : S512.ReducesTo [0] S_
  slices_S1024_S512_0 : S1024.Slices ![0] S512
  slices_S4x2048x1024_S4x2048x512_0_0_0 : S4x2048x1024.Slices ![0, 0, 0] S4x2048x512
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_arg4 : FVec F S1024 .f32) (main_arg5 : FVec F S4x2048x1024 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512 .f32 := (extractStridedSlice S512 ![0] · slices_S1024_S512_0) main_arg4
  let main_v21 : FVec F S512 .f32 := Host.absf main_v20
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_c_7 : IVec S_ 1 := constantI S_ 1 1#1
  let main_v24 : IVec S_ 1 := (fun x v => Host.reduce IntOp.andi x v reducesTo_S512_S_d0 h_S_) main_v23 main_c_7
  let main_v25 : IVec S_ 1 := andi main_v19 main_v24
  let main_v26 : FVec F S4x2048x512 .f32 := (extractStridedSlice S4x2048x512 ![0, 0, 0] · slices_S4x2048x1024_S4x2048x512_0_0_0) main_arg5
  let main_v27 : FVec F S4x2048x512 .f32 := Host.absf main_v26
  let main_cst_8 : FVec F S_ .f32 := constant S_ .f32 0x7F800000#32
  let main_v28 : FVec F S4x2048x512 .f32 := broadcastInDim S4x2048x512 ![] bcast_S_S4x2048x512 main_cst_8
  let main_v29 : IVec S4x2048x512 1 := cmpf .olt main_v27 main_v28
  let main_c_9 : IVec S_ 1 := constantI S_ 1 1#1
  let main_v30 : IVec S_ 1 := (fun x v => Host.reduce IntOp.andi x v reducesTo_S4x2048x512_S_d0_1_2 h_S_) main_v29 main_c_9
  let main_v31 : IVec S_ 1 := andi main_v25 main_v30
  main_v31

def fn {F : FTy → Type} [FloatOps F] (main_arg0 : FVec F S4x2048x2560 .f32) (main_arg1 : FVec F S4x128x128 .f32) (main_arg2 : FVec F S4x128 .f32) (main_arg3 : FVec F S512 .f32) (main_arg4 : FVec F S1024 .f32) (main_arg5 : FVec F S4x2048x1024 .f32) : IVec S_ 1 :=
  let main_v0 : FVec F S4x2048x1024 .f32 := (extractStridedSlice S4x2048x1024 ![0, 0, 0] · slices_S4x2048x2560_S4x2048x1024_0_0_0) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x128x128 .f32 := Host.absf main_arg1
  let main_cst_0 : FVec F S_ .f32 := constant S_ .f32 0x7F800000#32
  let main_v6 : FVec F S4x128x128 .f32 := broadcastInDim S4x128x128 ![] bcast_S_S4x128x128 main_cst_0
  let main_v7 : IVec S4x128x128 1 := cmpf .olt main_v5 main_v6
  let main_c_1 : IVec S_ 1 := constantI S_ 1 1#1
  let main_v8 : IVec S_ 1 := (fun x v => Host.reduce IntOp.andi x v reducesTo_S4x128x128_S_d0_1_2 h_S_) main_v7 main_c_1
  let main_v9 : IVec S_ 1 := andi main_v4 main_v8
  let main_v10 : FVec F S4x128 .f32 := Host.absf main_arg2
  let main_cst_2 : FVec F S_ .f32 := constant S_ .f32 0x7F800000#32
  let main_v11 : FVec F S4x128 .f32 := broadcastInDim S4x128 ![] bcast_S_S4x128 main_cst_2
  let main_v12 : IVec S4x128 1 := cmpf .olt main_v10 main_v11
  let main_c_3 : IVec S_ 1 := constantI S_ 1 1#1
  let main_v13 : IVec S_ 1 := (fun x v => Host.reduce IntOp.andi x v reducesTo_S4x128_S_d0_1 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_arg5 main_v14 main_v15 main_v16
-- ==== Pre_loss_finite.lean ====
abbrev S8192x1024 : Shape := ⟨2, ![8192, 1024]⟩
abbrev S8192x4096 : Shape := ⟨2, ![8192, 4096]⟩
abbrev S1x4096x1024 : Shape := ⟨3, ![1, 4096, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x4096 .f32) (main_arg2 : FVec F S1x4096x1024 .f32) (main_arg3 : FVec F S1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_proj_finite.lean ====
abbrev S8192x1024 : Shape := ⟨2, ![8192, 1024]⟩
abbrev S1x1024 : Shape := ⟨2, ![1, 1024]⟩
abbrev S1x1024x2560 : Shape := ⟨3, ![1, 1024, 2560]⟩
abbrev S8192x2560 : Shape := ⟨2, ![8192, 2560]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S8192x2560 : S_.BroadcastsInDim S8192x2560 (![] : Fin 0 → Fin S8192x2560.rank)
  reducesTo_S8192x2560_S_d0_1 : S8192x2560.ReducesTo [0, 1] S_

variable [Facts]

def fn_part1 {F : FTy → Type} [FloatOps F] (main_arg4 : FVec F S8192x2560 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x2560 .f32 := Host.absf main_arg4
  let main_cst_6 : FVec F S_ .f32 := constant S_ .f32 0x7F800000#32
  let main_v20 : FVec F S8192x2560 .f32 := broadcastInDim S8192x2560 ![] bcast_S_S8192x2560 main_cst_6
  let main_v21 : IVec S8192x2560 1 := cmpf .olt main_v19 main_v20
  let main_c_7 : IVec S_ 1 := constantI S_ 1 1#1
  let main_v22 : IVec S_ 1 := (fun x v => Host.reduce IntOp.andi x v reducesTo_S8192x2560_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1x1024x2560 .f32) (main_arg3 : FVec F S8192x1024 .f32) (main_arg4 : FVec F S8192x2560 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2560 .f32 := Host.absf main_arg2
  let main_cst_2 : FVec F S_ .f32 := constant S_ .f32 0x7F800000#32
  let main_v10 : FVec F S1x1024x2560 .f32 := broadcastInDim S1x1024x2560 ![] bcast_S_S1x1024x2560 main_cst_2
  let main_v11 : IVec S1x1024x2560 1 := cmpf .olt main_v9 main_v10
  let main_c_3 : IVec S_ 1 := constantI S_ 1 1#1
  let main_v12 : IVec S_ 1 := (fun x v => Host.reduce IntOp.andi x v reducesTo_S1x1024x2560_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_sb_finite.lean ====
abbrev S4x2048x2560 : Shape := ⟨3, ![4, 2048, 2560]⟩
abbrev S1024 : Shape := ⟨1, ![1024]⟩
abbrev S4x2048x1024 : Shape := ⟨3, ![4, 2048, 1024]⟩
abbrev S4x2048x1536 : Shape := ⟨3, ![4, 2048, 1536]⟩
abbrev S_ : Shape := ⟨0, ![]⟩
abbrev S512 : Shape := ⟨1, ![512]⟩
abbrev S4x2048x512 : Shape := ⟨3, ![4, 2048, 512]⟩

class Facts : Prop where
  slices_S4x2048x2560_S4x2048x1536_0_0_1024 : S4x2048x2560.Slices ![0, 0, 1024] S4x2048x1536
  bcast_S_S4x2048x1536 : S_.BroadcastsInDim S4x2048x1536 (![] : Fin 0 → Fin S4x2048x1536.rank)
  reducesTo_S4x2048x1536_S_d0_1_2 : S4x2048x1536.ReducesTo [0, 1, 2] S_
  h_S_ : 0 < S_.numel
  slices_S1024_S512_512 : S1024.Slices ![512] S512
  bcast_S_S512 : S_.BroadcastsInDim S512 (![] : Fin 0 → Fin S512.rank)
  reducesTo_S512_S_d0 : S512.ReducesTo [0] S_
  slices_S4x2048x1024_S4x2048x512_0_0_512 : S4x2048x1024.Slices ![0, 0, 512] S4x2048x512
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn {F : FTy → Type} [FloatOps F] (main_arg0 : FVec F S4x2048x2560 .f32) (main_arg1 : FVec F S1024 .f32) (main_arg2 : FVec F S4x2048x1024 .f32) : IVec S_ 1 :=
  let main_v0 : FVec F S4x2048x1536 .f32 := (extractStridedSlice S4x2048x1536 ![0, 0, 1024] · slices_S4x2048x2560_S4x2048x1536_0_0_1024) main_arg0
  let main_v1 : FVec F S4x2048x1536 .f32 := Host.absf main_v0
  let main_cst : FVec F S_ .f32 := constant S_ .f32 0x7F800000#32
  let main_v2 : FVec F S4x2048x1536 .f32 := broadcastInDim S4x2048x1536 ![] bcast_S_S4x2048x1536 main_cst
  let main_v3 : IVec S4x2048x1536 1 := cmpf .olt main_v1 main_v2
  let main_c : IVec S_ 1 := constantI S_ 1 1#1
  let main_v4 : IVec S_ 1 := (fun x v => Host.reduce IntOp.andi x v reducesTo_S4x2048x1536_S_d0_1_2 h_S_) main_v3 main_c
  let main_v5 : FVec F S512 .f32 := (extractStridedSlice S512 ![512] · slices_S1024_S512_512) main_arg1
  let main_v6 : FVec F S512 .f32 := Host.absf main_v5
  let main_cst_0 : FVec F S_ .f32 := constant S_ .f32 0x7F800000#32
  let main_v7 : FVec F S512 .f32 := broadcastInDim S512 ![] bcast_S_S512 main_cst_0
  let main_v8 : IVec S512 1 := cmpf .olt main_v6 main_v7
  let main_c_1 : IVec S_ 1 := constantI S_ 1 1#1
  let main_v9 : IVec S_ 1 := (fun x v => Host.reduce IntOp.andi x v reducesTo_S512_S_d0 h_S_) main_v8 main_c_1
  let main_v10 : IVec S_ 1 := andi main_v4 main_v9
  let main_v11 : FVec F S4x2048x512 .f32 := (extractStridedSlice S4x2048x512 ![0, 0, 512] · slices_S4x2048x1024_S4x2048x512_0_0_512) main_arg2
  let main_v12 : FVec F S4x2048x512 .f32 := Host.absf main_v11
  let main_cst_2 : FVec F S_ .f32 := constant S_ .f32 0x7F800000#32
  let main_v13 : FVec F S4x2048x512 .f32 := broadcastInDim S4x2048x512 ![] bcast_S_S4x2048x512 main_cst_2
  let main_v14 : IVec S4x2048x512 1 := cmpf .olt main_v12 main_v13
  let main_c_3 : IVec S_ 1 := constantI S_ 1 1#1
  let main_v15 : IVec S_ 1 := (fun x v => Host.reduce IntOp.andi x v reducesTo_S4x2048x512_S_d0_1_2 h_S_) main_v14 main_c_3
  let main_v16 : IVec S_ 1 := andi main_v10 main_v15
  main_v16
-- ==== Pre_xattn_finite.lean ====
abbrev S4x2048x1024 : Shape := ⟨3, ![4, 2048, 1024]⟩
abbrev S4x256x2048 : Shape := ⟨3, ![4, 256, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn {F : FTy → Type} [FloatOps F] (main_arg0 : FVec F S4x2048x1024 .f32) (main_arg1 : FVec F S4x256x2048 .f32) (main_arg2 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x256x2048 .f32 := Host.absf main_arg1
  let main_cst_0 : FVec F S_ .f32 := constant S_ .f32 0x7F800000#32
  let main_v5 : FVec F S4x256x2048 .f32 := broadcastInDim S4x256x2048 ![] bcast_S_S4x256x2048 main_cst_0
  let main_v6 : IVec S4x256x2048 1 := cmpf .olt main_v4 main_v5
  let main_c_1 : IVec S_ 1 := constantI S_ 1 1#1
  let main_v7 : IVec S_ 1 := (fun x v => Host.reduce IntOp.andi x v reducesTo_S4x256x2048_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== Pre_xfwd_finite.lean ====
abbrev S4x2048x1024 : Shape := ⟨3, ![4, 2048, 1024]⟩
abbrev S4x256x2048 : Shape := ⟨3, ![4, 256, 2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_

variable [Facts]

def fn {F : FTy → Type} [FloatOps F] (main_arg0 : FVec F S4x2048x1024 .f32) (main_arg1 : FVec F S4x256x2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x256x2048 .f32 := Host.absf main_arg1
  let main_cst_0 : FVec F S_ .f32 := constant S_ .f32 0x7F800000#32
  let main_v5 : FVec F S4x256x2048 .f32 := broadcastInDim S4x256x2048 ![] bcast_S_S4x256x2048 main_cst_0
  let main_v6 : IVec S4x256x2048 1 := cmpf .olt main_v4 main_v5
  let main_c_1 : IVec S_ 1 := constantI S_ 1 1#1
  let main_v7 : IVec S_ 1 := (fun x v => Host.reduce IntOp.andi x v reducesTo_S4x256x2048_S_d0_1_2 h_S_) main_v6 main_c_1
  let main_v8 : IVec S_ 1 := andi main_v3 main_v7
  main_v8
-- ==== Pre_xq_finite.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024x1024 .f32) (main_arg5 : FVec F S8192x1024 .f32) (main_arg6 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1x1024x1024 .f32) (main_arg3 : FVec F S1x1024 .f32) (main_arg4 : FVec F S1x1024x1024 .f32) (main_arg5 : FVec F S8192x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Relu2.lean ====
abbrev S8192x4096 : Shape := ⟨2, ![8192, 4096]⟩
abbrev S1x4096x1024 : Shape := ⟨3, ![1, 4096, 1024]⟩
abbrev S8192x1024 : Shape := ⟨2, ![8192, 1024]⟩
abbrev S4096x1024 : Shape := ⟨2, ![4096, 1024]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S4096x1024, .f32⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Relu2RefIdeal.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S4096x1024, .f32⟩
  | .hbm, ⟨13, _⟩ => ⟨S8192x1024, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Xattn.lean ====
abbrev S4x2048x1024 : Shape := ⟨3, ![4, 2048, 1024]⟩
abbrev S4x256x2048 : Shape := ⟨3, ![4, 256, 2048]⟩
abbrev S8192x1024 : Shape := ⟨2, ![8192, 1024]⟩
abbrev S1024x2048 : Shape := ⟨2, ![1024, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S4x2048x1024, .f32⟩
  | .hbm, ⟨3, _⟩ => ⟨S4x2048x1024, .bf16⟩
  | .hbm, ⟨4, _⟩ => ⟨S8192x1024, .bf16⟩
  | .hbm, ⟨5, _⟩ => ⟨S4x256x2048, .bf16⟩
  | .hbm, ⟨6, _⟩ => ⟨S1024x2048, .bf16⟩
  | .hbm, ⟨7, _⟩ => ⟨S4x2048x1024, .bf16⟩
  | .hbm, ⟨8, _⟩ => ⟨S8192x1024, .bf16⟩
  | .hbm, ⟨9, _⟩ => ⟨S8192x1024, .bf16⟩
  | .hbm, ⟨10, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S256x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v219 : BitVec 1 := Scalar.cmpi .eq arg1 c3_i32
  let v220 : BitVec 32 := Scalar.extui v219
  let c0_i32_132 : BitVec 32 := 0#32
  let v221 : BitVec 1 := Scalar.cmpi .ne v220 c0_i32_132
  v221

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== XattnRefIdeal.lean ====
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩
abbrev S8192x1024 : Shape := ⟨2, ![8192, 1024]⟩
abbrev S1024x2048 : Shape := ⟨2, ![1024, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S4x2048x1024, .f32⟩
  | .hbm, ⟨3, _⟩ => ⟨S4x2048x4x256, .f32⟩
  | .hbm, ⟨4, _⟩ => ⟨S4x256x2x4x256, .f32⟩
  | .hbm, ⟨5, _⟩ => ⟨S4x256x1x4x256, .f32⟩
  | .hbm, ⟨6, _⟩ => ⟨S4x256x4x256, .f32⟩
  | .hbm, ⟨7, _⟩ => ⟨S4x256x1x4x256, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x256x2048, .f32⟩
  | .hbm, ⟨52, _⟩ => ⟨S4x2048x4x256, .f32⟩
  | .hbm, ⟨53, _⟩ => ⟨S4x2048x1024, .f32⟩
  | .hbm, ⟨54, _⟩ => ⟨S4x2048x4x256, .f32⟩
  | .hbm, ⟨55, _⟩ => ⟨S4x4x256x2048, .f32⟩
  | .hbm, ⟨56, _⟩ => ⟨S4x4x2048x256, .f32⟩
  | .hbm, ⟨57, _⟩ => ⟨S4x4x256x256, .f32⟩
  | .hbm, ⟨58, _⟩ => ⟨S4x256x4x256, .f32⟩
  | .hbm, ⟨59, _⟩ => ⟨S4x4x2048x256, .f32⟩
  | .hbm, ⟨60, _⟩ => ⟨S4x4x2048x256, .f32⟩
  | .hbm, ⟨61, _⟩ => ⟨S4x4x2048x256, .f32⟩
  | .hbm, ⟨62, _⟩ => ⟨S_, .f32⟩
  | .hbm, ⟨63, _⟩ => ⟨S4x4x2048, .f32⟩
  | .hbm, ⟨64, _⟩ => ⟨S4x4x2048x1, .f32⟩
  | .hbm, ⟨65, _⟩ => ⟨S4x4x2048x1, .f32⟩
  | .hbm, ⟨66, _⟩ => ⟨S4x4x2048x256, .f32⟩
  | .hbm, ⟨67, _⟩ => ⟨S4x4x2048x256, .f32⟩
  | .hbm, ⟨68, _⟩ => ⟨S_, .f32⟩
  | .hbm, ⟨69, _⟩ => ⟨S4x4x2048, .f32⟩
  | .hbm, ⟨70, _⟩ => ⟨S4x4x2048x256, .f32⟩
  | .hbm, ⟨71, _⟩ => ⟨S4x4x2048x256, .f32⟩
  | .hbm, ⟨72, _⟩ => ⟨S4x4x2048x256, .f32⟩
  | .hbm, ⟨73, _⟩ => ⟨S_, .f32⟩
  | .hbm, ⟨74, _⟩ => ⟨S4x4x2048x256, .f32⟩
  | .hbm, ⟨75, _⟩ => ⟨S4x4x2048x256, .f32⟩
  | .hbm, ⟨76, _⟩ => ⟨S4x4x256x256, .f32⟩
  | .hbm, ⟨77, _⟩ => ⟨S4x256x4x256, .f32⟩
  | .hbm, ⟨78, _⟩ => ⟨S4x4x2048x256, .f32⟩
  | .hbm, ⟨79, _⟩ => ⟨S4x2048x4x256, .f32⟩
  | .hbm, ⟨80, _⟩ => ⟨S4x256x1x4x256, .f32⟩
  | .hbm, ⟨81, _⟩ => ⟨S_, .f32⟩
  | .hbm, ⟨82, _⟩ => ⟨S4x256x2x4x256, .f32⟩
  | .hbm, ⟨83, _⟩ => ⟨S4x256x1x4x256, .f32⟩
  | .hbm, ⟨84, _⟩ => ⟨S_, .f32⟩
  | .hbm, ⟨85, _⟩ => ⟨S4x256x2x4x256, .f32⟩
  | .hbm, ⟨86, _⟩ => ⟨S4x256x2x4x256, .f32⟩
  | .hbm, ⟨87, _⟩ => ⟨S4x256x2048, .f32⟩
  | .hbm, ⟨88, _⟩ => ⟨S4x2048x1024, .f32⟩
  | .hbm, ⟨89, _⟩ => ⟨S8192x1024, .f32⟩
  | .hbm, ⟨90, _⟩ => ⟨S8192x1024, .bf16⟩
  | .hbm, ⟨91, _⟩ => ⟨S1024x2048, .f32⟩
  | .hbm, ⟨92, _⟩ => ⟨S1024x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Sb.lean ====
abbrev S4x2048x2560 : Shape := ⟨3, ![4, 2048, 2560]⟩
abbrev S1024 : Shape := ⟨1, ![1024]⟩
abbrev S4x2048x1024 : Shape := ⟨3, ![4, 2048, 1024]⟩
abbrev S4x2048x1536 : Shape := ⟨3, ![4, 2048, 1536]⟩
abbrev S4x2048x3x8x64 : Shape := ⟨5, ![4, 2048, 3, 8, 64]⟩
abbrev S3x4x8x2048x64 : Shape := ⟨5, ![3, 4, 8, 2048, 64]⟩
abbrev S1x4x8x2048x64 : Shape := ⟨5, ![1, 4, 8, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048x1 : Shape := ⟨4, ![4, 8, 2048, 1]⟩
abbrev S4x2048x8x64 : Shape := ⟨4, ![4, 2048, 8, 64]⟩
abbrev S8192x512 : Shape := ⟨2, ![8192, 512]⟩
abbrev S8192x2560 : Shape := ⟨2, ![8192, 2560]⟩
abbrev S4x4x2x4x512x4x512 : Shape := ⟨7, ![4, 4, 2, 4, 512, 4, 512]⟩
abbrev S4x4x4x4x2x512x512 : Shape := ⟨7, ![4, 4, 4, 4, 2, 512, 512]⟩
abbrev S4x4x4x4x1024x512 : Shape := ⟨6, ![4, 4, 4, 4, 1024, 512]⟩
abbrev S8192x1024 : Shape := ⟨2, ![8192, 1024]⟩
abbrev S1x1024 : Shape := ⟨2, ![1, 1024]⟩
abbrev S1x512 : Shape := ⟨2, ![1, 512]⟩
abbrev S512x128 : Shape := ⟨2, ![512, 128]⟩
abbrev S2048x128 : Shape := ⟨2, ![2048, 128]⟩
abbrev S1x1x4x1x1024x512 : Shape := ⟨6, ![1, 1, 4, 1, 1024, 512]⟩
abbrev S1x128 : Shape := ⟨2, ![1, 128]⟩
abbrev S4x128x512 : Shape := ⟨3, ![4, 128, 512]⟩
abbrev S128x128 : Shape := ⟨2, ![128, 128]⟩
abbrev S512 : Shape := ⟨1, ![512]⟩
abbrev S512x1 : Shape := ⟨2, ![512, 1]⟩
abbrev S128 : Shape := ⟨1, ![128]⟩
abbrev S1024x128 : Shape := ⟨2, ![1024, 128]⟩
abbrev S128x512 : Shape := ⟨2, ![128, 512]⟩
abbrev S128x1024 : Shape := ⟨2, ![128, 1024]⟩
abbrev S1024x1 : Shape := ⟨2, ![1024, 1]⟩
abbrev S1x1x1x1x1024x128 : Shape := ⟨6, ![1, 1, 1, 1, 1024, 128]⟩
abbrev S1024x256 : Shape := ⟨2, ![1024, 256]⟩
abbrev S256x128 : Shape := ⟨2, ![256, 128]⟩
abbrev S1024x512 : Shape := ⟨2, ![1024, 512]⟩
abbrev S1x128x512 : Shape := ⟨3, ![1, 128, 512]⟩
abbrev S1x1x1x1x1024x512 : Shape := ⟨6, ![1, 1, 1, 1, 1024, 512]⟩
abbrev S384x128 : Shape := ⟨2, ![384, 128]⟩
abbrev S768x128 : Shape := ⟨2, ![768, 128]⟩
abbrev S768x256 : Shape := ⟨2, ![768, 256]⟩
abbrev S512x256 : Shape := ⟨2, ![512, 256]⟩
abbrev S256x256 : Shape := ⟨2, ![256, 256]⟩
abbrev S384x1 : Shape := ⟨2, ![384, 1]⟩
abbrev S768x1 : Shape := ⟨2, ![768, 1]⟩
abbrev S768 : Shape := ⟨1, ![768]⟩
abbrev S128x1 : Shape := ⟨2, ![128, 1]⟩
abbrev S256x1 : Shape := ⟨2, ![256, 1]⟩
abbrev S1x128x128 : Shape := ⟨3, ![1, 128, 128]⟩

abbrev nBuf : Space → Nat
  | .hbm => 94
  | .vmem => 26
  | .smem => 0
  | _ => 0

abbrev bufTy : (tb : Table) → Fin (tcTables nBuf tb) → BufTy
  | .hbm, ⟨0, _⟩ => ⟨S4x2048x2560, .f32⟩
  | .hbm, ⟨1, _⟩ => ⟨S1024, .f32⟩
  | .hbm, ⟨2, _⟩ => ⟨S4x2048x1024, .f32⟩
  | .hbm, ⟨3, _⟩ => ⟨S4x2048x1536, .f32⟩
  | .hbm, ⟨4, _⟩ => ⟨S4x2048x3x8x64, .f32⟩
  | .hbm, ⟨5, _⟩ => ⟨S3x4x8x2048x64, .f32⟩
  | .hbm, ⟨6, _⟩ => ⟨S1x4x8x2048x64, .f32⟩
  | .hbm, ⟨7, _⟩ => ⟨S4x8x2048x64, .f32⟩
  | .hbm, ⟨8, _⟩ => ⟨S1x4x8x2048x64, .f32⟩
  | .hbm, ⟨9, _⟩ => ⟨S4x8x2048x64, .f32⟩
  | .hbm, ⟨10, _⟩ => ⟨S1x4x8x2048x64, .f32⟩
  | .hbm, ⟨11, _⟩ => ⟨S4x8x2048x64, .f32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S4x8x2048x2048, .f32⟩
  | .hbm, ⟨24, _⟩ => ⟨S_, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .i1⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S4x8x2048x2048, .f32⟩
  | .hbm, ⟨56, _⟩ => ⟨S_, .f32⟩
  | .hbm, ⟨57, _⟩ => ⟨S_, .f32⟩
  | .hbm, ⟨58, _⟩ => ⟨S4x8x2048x2048, .i1⟩
  | .hbm, ⟨59, _⟩ => ⟨S4x8x2048x2048, .f32⟩
  | .hbm, ⟨60, _⟩ => ⟨S4x8x2048x2048, .f32⟩
  | .hbm, ⟨61, _⟩ => ⟨S_, .f32⟩
  | .hbm, ⟨62, _⟩ => ⟨S_, .f32⟩
  | .hbm, ⟨63, _⟩ => ⟨S4x8x2048x2048, .f32⟩
  | .hbm, ⟨64, _⟩ => ⟨S4x8x2048x1, .f32⟩
  | .hbm, ⟨65, _⟩ => ⟨S4x8x2048x2048, .f32⟩
  | .hbm, ⟨66, _⟩ => ⟨S4x8x2048x2048, .f32⟩
  | .hbm, ⟨67, _⟩ => ⟨S4x8x2048x2048, .f32⟩
  | .hbm, ⟨68, _⟩ => ⟨S4x8x2048x2048, .f32⟩
  | .hbm, ⟨69, _⟩ => ⟨S_, .f32⟩
  | .hbm, ⟨70, _⟩ => ⟨S_, .f32⟩
  | .hbm, ⟨71, _⟩ => ⟨S4x8x2048x2048, .i1⟩
  | .hbm, ⟨72, _⟩ => ⟨S4x8x2048x2048, .f32⟩
  | .hbm, ⟨73, _⟩ => ⟨S4x8x2048x2048, .f32⟩
  | .hbm, ⟨74, _⟩ => ⟨S4x8x2048x64, .f32⟩
  | .hbm, ⟨75, _⟩ => ⟨S4x2048x8x64, .f32⟩
  | .hbm, ⟨76, _⟩ => ⟨S8192x512, .f32⟩
  | .hbm, ⟨77, _⟩ => ⟨S4x2048x2560, .bf16⟩
  | .hbm, ⟨78, _⟩ => ⟨S8192x2560, .bf16⟩
  | .hbm, ⟨79, _⟩ => ⟨S4x4x2x4x512x4x512, .f32⟩
  | .hbm, ⟨80, _⟩ => ⟨S4x4x4x4x2x512x512, .f32⟩
  | .hbm, ⟨81, _⟩ => ⟨S4x4x4x4x1024x512, .f32⟩
  | .hbm, ⟨82, _⟩ => ⟨S4x4x4x4x1024x512, .bf16⟩
  | .hbm, ⟨83, _⟩ => ⟨S4x4x2x4x512x4x512, .f32⟩
  | .hbm, ⟨84, _⟩ => ⟨S4x4x4x4x2x512x512, .f32⟩
  | .hbm, ⟨85, _⟩ => ⟨S4x4x4x4x1024x512, .f32⟩
  | .hbm, ⟨86, _⟩ => ⟨S4x4x4x4x1024x512, .bf16⟩
  | .hbm, ⟨87, _⟩ => ⟨S4x2048x1024, .bf16⟩
  | .hbm, ⟨88, _⟩ => ⟨S8192x1024, .bf16⟩
  | .hbm, ⟨89, _⟩ => ⟨S1x1024, .f32⟩
  | .hbm, ⟨90, _⟩ => ⟨S8192x512, .bf16⟩
  | .hbm, ⟨91, _⟩ => ⟨S8192x512, .bf16⟩
  | .hbm, ⟨92, _⟩ => ⟨S8192x512, .bf16⟩
  | .hbm, ⟨93, _⟩ => ⟨S1x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x1x4x1x1024x512, .bf16⟩
  | .local _ .vmem, ⟨9, _⟩ => ⟨S1x1x4x1x1024x512, .bf16⟩
  | .local _ .vmem, ⟨10, _⟩ => ⟨S1x1x4x1x1024x512, .bf16⟩
  | .local _ .vmem, ⟨11, _⟩ => ⟨S1x1x4x1x1024x512, .bf16⟩
  | .local _ .vmem, ⟨12, _⟩ => ⟨S512x128, .bf16⟩
  | .local _ .vmem, ⟨13, _⟩ => ⟨S512x128, .bf16⟩
  | .local _ .vmem, ⟨14, _⟩ => ⟨S1x128, .f32⟩
  | .local _ .vmem, ⟨15, _⟩ => ⟨S1x128, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x128, .f32⟩
  | .local _ .vmem, ⟨23, _⟩ => ⟨S1x128, .f32⟩
  | .local _ .vmem, ⟨24, _⟩ => ⟨S4x128x512, .f32⟩
  | .local _ .vmem, ⟨25, _⟩ => ⟨S4x128x512, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v21 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v22 : Ref sig .tc := ⟨.hbm, 60, rfl⟩
abbrev main_call3_call0_cst : Ref sig .tc := ⟨.hbm, 61, rfl⟩
abbrev main_call3_call0_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46_0 : Ref sig .tc := ⟨.hbm, 90, rfl⟩
abbrev main_v46_1 : Ref sig .tc := ⟨.hbm, 91, rfl⟩
abbrev main_v46_2 : Ref sig .tc := ⟨.hbm, 92, rfl⟩
abbrev main_v46_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_34 : BitVec 32 := 1#32
  ⟨c0_i32_33, v109, c1_i32_34⟩
def k0_mult1 (i : grid0.Coords) (k0_t1 : Fin (k0_t1_loop i).trips) : BitVec 32 :=
  let c0_i32_33 : BitVec 32 := 0#32
  let c1_i32_34 : BitVec 32 := 1#32
  let arg17 : BitVec 32 := Scf.iv c0_i32_33 c1_i32_34 k0_t1
  let c4_i32_135 : BitVec 32 := 4#32
  let v379 : BitVec 32 := Scalar.muli arg17 c4_i32_135
  let c0_i32_136 : BitVec 32 := 0#32
  let v380 : BitVec 32 := Scalar.addi v379 c0_i32_136
  let c128_i32_137 : BitVec 32 := 128#32
  let v381 : BitVec 32 := Scalar.muli v380 c128_i32_137
  v381
def k0_mult2 (i : grid0.Coords) (k0_t1 : Fin (k0_t1_loop i).trips) : BitVec 32 :=
  let c0_i32_33 : BitVec 32 := 0#32
  let c1_i32_34 : BitVec 32 := 1#32
  let arg17 : BitVec 32 := Scf.iv c0_i32_33 c1_i32_34 k0_t1
  let c4_i32_138 : BitVec 32 := 4#32
  let v383 : BitVec 32 := Scalar.muli arg17 c4_i32_138
  let c1_i32_139 : BitVec 32 := 1#32
  let v384 : BitVec 32 := Scalar.addi v383 c1_i32_139
  let c128_i32_140 : BitVec 32 := 128#32
  let v385 : BitVec 32 := Scalar.muli v384 c128_i32_140
  v385
def k0_mult3 (i : grid0.Coords) (k0_t1 : Fin (k0_t1_loop i).trips) : BitVec 32 :=
  let c0_i32_33 : BitVec 32 := 0#32
  let c1_i32_34 : BitVec 32 := 1#32
  let arg17 : BitVec 32 := Scf.iv c0_i32_33 c1_i32_34 k0_t1
  let c4_i32_141 : BitVec 32 := 4#32
  let v387 : BitVec 32 := Scalar.muli arg17 c4_i32_141
  let c2_i32_142 : BitVec 32 := 2#32
  let v388 : BitVec 32 := Scalar.addi v387 c2_i32_142
  let c128_i32_143 : BitVec 32 := 128#32
  let v389 : BitVec 32 := Scalar.muli v388 c128_i32_143
  v389
def k0_mult4 (i : grid0.Coords) (k0_t1 : Fin (k0_t1_loop i).trips) : BitVec 32 :=
  let c0_i32_33 : BitVec 32 := 0#32
  let c1_i32_34 : BitVec 32 := 1#32
  let arg17 : BitVec 32 := Scf.iv c0_i32_33 c1_i32_34 k0_t1
  let c4_i32_144 : BitVec 32 := 4#32
  let v391 : BitVec 32 := Scalar.muli arg17 c4_i32_144
  let c3_i32_145 : BitVec 32 := 3#32
  let v392 : BitVec 32 := Scalar.addi v391 c3_i32_145
  let c128_i32_146 : BitVec 32 := 128#32
  let v393 : BitVec 32 := Scalar.muli v392 c128_i32_146
  v393
def k0_off1 (i : grid0.Coords) (k0_t1 : Fin (k0_t1_loop i).trips) (c0_i32_136 : BitVec 32) : Fin 2 → Nat :=
  let c0_i32_33 : BitVec 32 := 0#32
  let c1_i32_34 : BitVec 32 := 1#32
  let arg17 : BitVec 32 := Scf.iv c0_i32_33 c1_i32_34 k0_t1
  let c4_i32_135 : BitVec 32 := 4#32
  let v379 : BitVec 32 := Scalar.muli arg17 c4_i32_135
  let v380 : BitVec 32 := Scalar.addi v379 c0_i32_136
  let c128_i32_137 : BitVec 32 := 128#32
  let v381 : BitVec 32 := Scalar.muli v380 c128_i32_137
  let v382 : BitVec 32 := v381
  let v395 : Index := Scalar.indexCast v382
  let c0_147 : Index := 0#32
  ![v395.toNat, 0]
def k0_off2 (i : grid0.Coords) (k0_t1 : Fin (k0_t1_loop i).trips) : Fin 6 → Nat :=
  let c0_149 : Index := 0#32
  let c0_150 : Index := 0#32
  let c0_i32_33 : BitVec 32 := 0#32
  let c1_i32_34 : BitVec 32 := 1#32
  let arg17 : BitVec 32 := Scf.iv c0_i32_33 c1_i32_34 k0_t1
  let v399 : Index := Scalar.indexCast arg17
  let c0_151 : Index := 0#32
  let c0_152 : Index := 0#32
  let c0_153 : Index := 0#32
  ![0, 0, v399.toNat, 0, 0, 0]
def k0_off3 (i : grid0.Coords) (k0_t1 : Fin (k0_t1_loop i).trips) : Fin 6 → Nat :=
  let c0_156 : Index := 0#32
  let c0_157 : Index := 0#32
  let c0_i32_33 : BitVec 32 := 0#32
  let c1_i32_34 : BitVec 32 := 1#32
  let arg17 : BitVec 32 := Scf.iv c0_i32_33 c1_i32_34 k0_t1
  let v408 : Index := Scalar.indexCast arg17
  let c0_158 : Index := 0#32
  let c0_159 : Index := 0#32
  let c128_160 : Index := 128#32
  ![0, 0, v408.toNat, 0, 0, 128]
def k0_off4 (i : grid0.Coords) (k0_t1 : Fin (k0_t1_loop i).trips) : Fin 6 → Nat :=
  let c0_163 : Index := 0#32
  let c0_164 : Index := 0#32
  let c0_i32_33 : BitVec 32 := 0#32
  let c1_i32_34 : BitVec 32 := 1#32
  let arg17 : BitVec 32 := Scf.iv c0_i32_33 c1_i32_34 k0_t1
  let v417 : Index := Scalar.indexCast arg17
  let c0_165 : Index := 0#32
  let c0_166 : Index := 0#32
  let c256_167 : Index := 256#32
  ![0, 0, v417.toNat, 0, 0, 256]
def k0_off5 (i : grid0.Coords) (k0_t1 : Fin (k0_t1_loop i).trips) : Fin 6 → Nat :=
  let c0_170 : Index := 0#32
  let c0_171 : Index := 0#32
  let c0_i32_33 : BitVec 32 := 0#32
  let c1_i32_34 : BitVec 32 := 1#32
  let arg17 : BitVec 32 := Scf.iv c0_i32_33 c1_i32_34 k0_t1
  let v426 : Index := Scalar.indexCast arg17
  let c0_172 : Index := 0#32
  let c0_173 : Index := 0#32
  let c384_174 : Index := 384#32
  ![0, 0, v426.toNat, 0, 0, 384]
def k0_off6 (i : grid0.Coords) (k0_t1 : Fin (k0_t1_loop i).trips) : Fin 3 → Nat :=
  let c0_i32_33 : BitVec 32 := 0#32
  let c1_i32_34 : BitVec 32 := 1#32
  let arg17 : BitVec 32 := Scf.iv c0_i32_33 c1_i32_34 k0_t1
  let v532 : Index := Scalar.indexCast arg17
  let c0_211 : Index := 0#32
  let c0_212 : Index := 0#32
  ![v532.toNat, 0, 0]
def k0_off7 (i : grid0.Coords) (k0_t1 : Fin (k0_t1_loop i).trips) : Fin 6 → Nat :=
  let c0_218 : Index := 0#32
  let c0_219 : Index := 0#32
  let c0_i32_33 : BitVec 32 := 0#32
  let c1_i32_34 : BitVec 32 := 1#32
  let arg17 : BitVec 32 := Scf.iv c0_i32_33 c1_i32_34 k0_t1
  let v544 : Index := Scalar.indexCast arg17
  let c0_220 : Index := 0#32
  let c0_221 : Index := 0#32
  let c0_222 : Index := 0#32
  ![0, 0, v544.toNat, 0, 0, 0]
def k0_mult5 (i : grid0.Coords) (k0_t1 : Fin (k0_t1_loop i).trips) : BitVec 32 :=
  let c0_i32_33 : BitVec 32 := 0#32
  let c1_i32_34 : BitVec 32 := 1#32
  let arg17 : BitVec 32 := Scf.iv c0_i32_33 c1_i32_34 k0_t1
  let c512_i32_226 : BitVec 32 := 512#32
  let v553 : BitVec 32 := Scalar.muli arg17 c512_i32_226
  v553
def k0_off8 (i : grid0.Coords) (k0_t1 : Fin (k0_t1_loop i).trips) : Fin 2 → Nat :=
  let c0_i32_33 : BitVec 32 := 0#32
  let c1_i32_34 : BitVec 32 := 1#32
  let arg17 : BitVec 32 := Scf.iv c0_i32_33 c1_i32_34 k0_t1
  let c512_i32_226 : BitVec 32 := 512#32
  let v553 : BitVec 32 := Scalar.muli arg17 c512_i32_226
  let v554 : BitVec 32 := v553
  let v555 : Index := Scalar.indexCast v554
  let c0_227 : Index := 0#32
  ![v555.toNat, 0]
@[reducible] def k0_t2_loop (i : grid0.Coords) : Scf.Loop 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let v106 : BitVec 32 := Scalar.addi c0_i32_33 v105
  let c1_i32_35 : BitVec 32 := 1#32
  ⟨v109, v106, c1_i32_35⟩
def k0_mult6 (i : grid0.Coords) (k0_t2 : Fin (k0_t2_loop i).trips) : BitVec 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c4_i32_135 : BitVec 32 := 4#32
  let v379 : BitVec 32 := Scalar.muli arg17 c4_i32_135
  let c0_i32_136 : BitVec 32 := 0#32
  let v380 : BitVec 32 := Scalar.addi v379 c0_i32_136
  let c128_i32_137 : BitVec 32 := 128#32
  let v381 : BitVec 32 := Scalar.muli v380 c128_i32_137
  v381
def k0_mult7 (i : grid0.Coords) (k0_t2 : Fin (k0_t2_loop i).trips) : BitVec 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c4_i32_138 : BitVec 32 := 4#32
  let v383 : BitVec 32 := Scalar.muli arg17 c4_i32_138
  let c1_i32_139 : BitVec 32 := 1#32
  let v384 : BitVec 32 := Scalar.addi v383 c1_i32_139
  let c128_i32_140 : BitVec 32 := 128#32
  let v385 : BitVec 32 := Scalar.muli v384 c128_i32_140
  v385
def k0_mult8 (i : grid0.Coords) (k0_t2 : Fin (k0_t2_loop i).trips) : BitVec 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c4_i32_141 : BitVec 32 := 4#32
  let v387 : BitVec 32 := Scalar.muli arg17 c4_i32_141
  let c2_i32_142 : BitVec 32 := 2#32
  let v388 : BitVec 32 := Scalar.addi v387 c2_i32_142
  let c128_i32_143 : BitVec 32 := 128#32
  let v389 : BitVec 32 := Scalar.muli v388 c128_i32_143
  v389
def k0_mult9 (i : grid0.Coords) (k0_t2 : Fin (k0_t2_loop i).trips) : BitVec 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c4_i32_144 : BitVec 32 := 4#32
  let v391 : BitVec 32 := Scalar.muli arg17 c4_i32_144
  let c3_i32_145 : BitVec 32 := 3#32
  let v392 : BitVec 32 := Scalar.addi v391 c3_i32_145
  let c128_i32_146 : BitVec 32 := 128#32
  let v393 : BitVec 32 := Scalar.muli v392 c128_i32_146
  v393
def k0_off9 (i : grid0.Coords) (k0_t2 : Fin (k0_t2_loop i).trips) (c0_i32_136 : BitVec 32) : Fin 2 → Nat :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c4_i32_135 : BitVec 32 := 4#32
  let v379 : BitVec 32 := Scalar.muli arg17 c4_i32_135
  let v380 : BitVec 32 := Scalar.addi v379 c0_i32_136
  let c128_i32_137 : BitVec 32 := 128#32
  let v381 : BitVec 32 := Scalar.muli v380 c128_i32_137
  let v382 : BitVec 32 := v381
  let v395 : Index := Scalar.indexCast v382
  let c0_147 : Index := 0#32
  ![v395.toNat, 0]
def k0_off10 (i : grid0.Coords) (k0_t2 : Fin (k0_t2_loop i).trips) : Fin 6 → Nat :=
  let c0_149 : Index := 0#32
  let c0_150 : Index := 0#32
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v399 : Index := Scalar.indexCast arg17
  let c0_151 : Index := 0#32
  let c0_152 : Index := 0#32
  let c0_153 : Index := 0#32
  ![0, 0, v399.toNat, 0, 0, 0]
def k0_off11 (i : grid0.Coords) (k0_t2 : Fin (k0_t2_loop i).trips) : Fin 6 → Nat :=
  let c0_156 : Index := 0#32
  let c0_157 : Index := 0#32
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v408 : Index := Scalar.indexCast arg17
  let c0_158 : Index := 0#32
  let c0_159 : Index := 0#32
  let c128_160 : Index := 128#32
  ![0, 0, v408.toNat, 0, 0, 128]
def k0_off12 (i : grid0.Coords) (k0_t2 : Fin (k0_t2_loop i).trips) : Fin 6 → Nat :=
  let c0_163 : Index := 0#32
  let c0_164 : Index := 0#32
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v417 : Index := Scalar.indexCast arg17
  let c0_165 : Index := 0#32
  let c0_166 : Index := 0#32
  let c256_167 : Index := 256#32
  ![0, 0, v417.toNat, 0, 0, 256]
def k0_off13 (i : grid0.Coords) (k0_t2 : Fin (k0_t2_loop i).trips) : Fin 6 → Nat :=
  let c0_170 : Index := 0#32
  let c0_171 : Index := 0#32
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v426 : Index := Scalar.indexCast arg17
  let c0_172 : Index := 0#32
  let c0_173 : Index := 0#32
  let c384_174 : Index := 384#32
  ![0, 0, v426.toNat, 0, 0, 384]
def k0_off14 (i : grid0.Coords) (k0_t2 : Fin (k0_t2_loop i).trips) : Fin 3 → Nat :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v532 : Index := Scalar.indexCast arg17
  let c0_211 : Index := 0#32
  let c0_212 : Index := 0#32
  ![v532.toNat, 0, 0]
def k0_off15 (i : grid0.Coords) (k0_t2 : Fin (k0_t2_loop i).trips) : Fin 6 → Nat :=
  let c0_218 : Index := 0#32
  let c0_219 : Index := 0#32
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let v544 : Index := Scalar.indexCast arg17
  let c0_220 : Index := 0#32
  let c0_221 : Index := 0#32
  let c0_222 : Index := 0#32
  ![0, 0, v544.toNat, 0, 0, 0]
def k0_mult10 (i : grid0.Coords) (k0_t2 : Fin (k0_t2_loop i).trips) : BitVec 32 :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c512_i32_226 : BitVec 32 := 512#32
  let v553 : BitVec 32 := Scalar.muli arg17 c512_i32_226
  v553
def k0_off16 (i : grid0.Coords) (k0_t2 : Fin (k0_t2_loop i).trips) : Fin 2 → Nat :=
  let c0_i32_33 : BitVec 32 := 0#32
  let arg2 : BitVec 32 := BitVec.ofNat 32 (i 2).val
  let v105 : BitVec 32 := Scalar.subi arg2 c0_i32_33
  let c1_i32 : BitVec 32 := 1#32
  let v107 : BitVec 32 := Scalar.divsi v105 c1_i32
  let v108 : BitVec 32 := Scalar.muli v107 c1_i32
  let v109 : BitVec 32 := Scalar.addi c0_i32_33 v108
  let c1_i32_35 : BitVec 32 := 1#32
  let arg17 : BitVec 32 := Scf.iv v109 c1_i32_35 k0_t2
  let c512_i32_226 : BitVec 32 := 512#32
  let v553 : BitVec 32 := Scalar.muli arg17 c512_i32_226
  let v554 : BitVec 32 := v553
  let v555 : Index := Scalar.indexCast v554
  let c0_227 : Index := 0#32
  ![v555.toNat, 0]
def k0_mult11 (i : grid0.Coords) : BitVec 32 :=
  let arg2 : BitVec 32 := BitVec.ofNat 32 (i 2).val
  let c4_i32 : BitVec 32 := 4#32
  let v112 : BitVec 32 := Scalar.muli arg2 c4_i32
  let c0_i32_36 : BitVec 32 := 0#32
  let v113 : BitVec 32 := Scalar.addi v112 c0_i32_36
  let c128_i32 : BitVec 32 := 128#32
  let v114 : BitVec 32 := Scalar.muli v113 c128_i32
  v114
def k0_mult12 (i : grid0.Coords) : BitVec 32 :=
  let arg2 : BitVec 32 := BitVec.ofNat 32 (i 2).val
  let c4_i32_37 : BitVec 32 := 4#32
  let v116 : BitVec 32 := Scalar.muli arg2 c4_i32_37
  let c1_i32_38 : BitVec 32 := 1#32
  let v117 : BitVec 32 := Scalar.addi v116 c1_i32_38
  let c128_i32_39 : BitVec 32 := 128#32
  let v118 : BitVec 32 := Scalar.muli v117 c128_i32_39
  v118
def k0_mult13 (i : grid0.Coords) : BitVec 32 :=
  let arg2 : BitVec 32 := BitVec.ofNat 32 (i 2).val
  let c4_i32_40 : BitVec 32 := 4#32
  let v120 : BitVec 32 := Scalar.muli arg2 c4_i32_40
  let c2_i32 : BitVec 32 := 2#32
  let v121 : BitVec 32 := Scalar.addi v120 c2_i32
  let c128_i32_41 : BitVec 32 := 128#32
  let v122 : BitVec 32 := Scalar.muli v121 c128_i32_41
  v122
def k0_mult14 (i : grid0.Coords) : BitVec 32 :=
  let arg2 : BitVec 32 := BitVec.ofNat 32 (i 2).val
  let c4_i32_42 : BitVec 32 := 4#32
  let v124 : BitVec 32 := Scalar.muli arg2 c4_i32_42
  let c3_i32 : BitVec 32 := 3#32
  let v125 : BitVec 32 := Scalar.addi v124 c3_i32
  let c128_i32_43 : BitVec 32 := 128#32
  let v126 : BitVec 32 := Scalar.muli v125 c128_i32_43
  v126
def k0_off17 (i : grid0.Coords) (c0_i32_36 : BitVec 32) : Fin 2 → Nat :=
  let arg2 : BitVec 32 := BitVec.ofNat 32 (i 2).val
  let c4_i32 : BitVec 32 := 4#32
  let v112 : BitVec 32 := Scalar.muli arg2 c4_i32
  let v113 : BitVec 32 := Scalar.addi v112 c0_i32_36
  let c128_i32 : BitVec 32 := 128#32
  let v114 : BitVec 32 := Scalar.muli v113 c128_i32
  let v115 : BitVec 32 := v114
  let v128 : Index := Scalar.indexCast v115
  let c0_44 : Index := 0#32
  ![v128.toNat, 0]
def k0_off18 (i : grid0.Coords) : Fin 6 → Nat :=
  let c0_46 : Index := 0#32
  let c0_47 : Index := 0#32
  let arg2 : BitVec 32 := BitVec.ofNat 32 (i 2).val
  let v132 : Index := Scalar.indexCast arg2
  let c0_48 : Index := 0#32
  let c0_49 : Index := 0#32
  let c0_50 : Index := 0#32
  ![0, 0, v132.toNat, 0, 0, 0]
def k0_off19 (i : grid0.Coords) : Fin 6 → Nat :=
  let c0_53 : Index := 0#32
  let c0_54 : Index := 0#32
  let arg2 : BitVec 32 := BitVec.ofNat 32 (i 2).val
  let v144 : Index := Scalar.indexCast arg2
  let c0_55 : Index := 0#32
  let c0_56 : Index := 0#32
  let c128 : Index := 128#32
  ![0, 0, v144.toNat, 0, 0, 128]
def k0_off20 (i : grid0.Coords) : Fin 6 → Nat :=
  let c0_59 : Index := 0#32
  let c0_60 : Index := 0#32
  let arg2 : BitVec 32 := BitVec.ofNat 32 (i 2).val
  let v159 : Index := Scalar.indexCast arg2
  let c0_61 : Index := 0#32
  let c0_62 : Index := 0#32
  let c256 : Index := 256#32
  ![0, 0, v159.toNat, 0, 0, 256]
def k0_off21 (i : grid0.Coords) : Fin 6 → Nat :=
  let c0_65 : Index := 0#32
  let c0_66 : Index := 0#32
  let arg2 : BitVec 32 := BitVec.ofNat 32 (i 2).val
  let v174 : Index := Scalar.indexCast arg2
  let c0_67 : Index := 0#32
  let c0_68 : Index := 0#32
  let c384 : Index := 384#32
  ![0, 0, v174.toNat, 0, 0, 384]
def k0_off22 (i : grid0.Coords) : Fin 3 → Nat :=
  let arg2 : BitVec 32 := BitVec.ofNat 32 (i 2).val
  let v343 : Index := Scalar.indexCast arg2
  let c0_114 : Index := 0#32
  let c0_115 : Index := 0#32
  ![v343.toNat, 0, 0]
def k0_off23 (i : grid0.Coords) : Fin 6 → Nat :=
  let c0_121 : Index := 0#32
  let c0_122 : Index := 0#32
  let arg2 : BitVec 32 := BitVec.ofNat 32 (i 2).val
  let v355 : Index := Scalar.indexCast arg2
  let c0_123 : Index := 0#32
  let c0_124 : Index := 0#32
  let c0_125 : Index := 0#32
  ![0, 0, v355.toNat, 0, 0, 0]
def k0_mult15 (i : grid0.Coords) : BitVec 32 :=
  let arg2 : BitVec 32 := BitVec.ofNat 32 (i 2).val
  let c512_i32 : BitVec 32 := 512#32
  let v364 : BitVec 32 := Scalar.muli arg2 c512_i32
  v364
def k0_off24 (i : grid0.Coords) : Fin 2 → Nat :=
  let arg2 : BitVec 32 := BitVec.ofNat 32 (i 2).val
  let c512_i32 : BitVec 32 := 512#32
  let v364 : BitVec 32 := Scalar.muli arg2 c512_i32
  let v365 : BitVec 32 := v364
  let v366 : Index := Scalar.indexCast v365
  let c0_129 : Index := 0#32
  ![v366.toNat, 0]
def k0_cond3 (i : grid0.Coords) : BitVec 1 :=
  let arg2 : BitVec 32 := BitVec.ofNat 32 (i 2).val
  let c3_i32_133 : BitVec 32 := 3#32
  let v376 : BitVec 1 := Scalar.cmpi .eq arg2 c3_i32_133
  let v377 : BitVec 32 := Scalar.extui v376
  let c0_i32_134 : BitVec 32 := 0#32
  let v378 : BitVec 1 := Scalar.cmpi .ne v377 c0_i32_134
  v378

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c8_i32 : BitVec 32 := 8#32
  let v2 : BitVec 32 := Scalar.addi c8_i32 arg0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, arg2.toNat, c0_i32_0.toNat, c0_i32_1.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, arg2.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c4_i32_0 : BitVec 32 := 4#32
  let v2 : BitVec 32 := Scalar.addi c4_i32_0 arg0
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let v2 : BitVec 32 := Scalar.addi c0_i32 arg0
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== SbRefIdeal.lean ====
abbrev S4x2048x2560 : Shape := ⟨3, ![4, 2048, 2560]⟩
abbrev S1024 : Shape := ⟨1, ![1024]⟩
abbrev S4x2048x1024 : Shape := ⟨3, ![4, 2048, 1024]⟩
abbrev S4x2048x1536 : Shape := ⟨3, ![4, 2048, 1536]⟩
abbrev S512 : Shape := ⟨1, ![512]⟩
abbrev S4x2048x3x8x64 : Shape := ⟨5, ![4, 2048, 3, 8, 64]⟩
abbrev S3x4x8x2048x64 : Shape := ⟨5, ![3, 4, 8, 2048, 64]⟩
abbrev S1x4x8x2048x64 : Shape := ⟨5, ![1, 4, 8, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048x1 : Shape := ⟨4, ![4, 8, 2048, 1]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S4x2048x512 : Shape := ⟨3, ![4, 2048, 512]⟩
abbrev S1x1x512 : Shape := ⟨3, ![1, 1, 512]⟩
abbrev S4x8x64x2048 : Shape := ⟨4, ![4, 8, 64, 2048]⟩
abbrev S4x8x2048 : Shape := ⟨3, ![4, 8, 2048]⟩
abbrev S8192x3x512 : Shape := ⟨3, ![8192, 3, 512]⟩
abbrev S8192x1x512 : Shape := ⟨3, ![8192, 1, 512]⟩
abbrev S8192x512 : Shape := ⟨2, ![8192, 512]⟩
abbrev S1x512 : Shape := ⟨2, ![1, 512]⟩

abbrev nBuf : Space → Nat
  | .hbm => 242
  | .vmem => 0
  | .smem => 0
  | _ => 0

abbrev hbmTy0_0 (i : Nat) : BufTy := match i % 128 with
  | 0 => ⟨S4x2048x2560, .f32⟩
  | 1 => ⟨S1024, .f32⟩
  | 2 => ⟨S4x2048x1024, .f32⟩
  | 3 => ⟨S4x2048x1536, .f32⟩
  | 4 => ⟨S512, .f32⟩
  | 5 => ⟨S4x2048x3x8x64, .f32⟩
  | 6 => ⟨S3x4x8x2048x64, .f32⟩
  | 7 => ⟨S1x4x8x2048x64, .f32⟩
  | 8 => ⟨S4x8x2048x64, .f32⟩
  | 9 => ⟨S1x4x8x2048x64, .f32⟩
  | 10 => ⟨S4x8x2048x64, .f32⟩
  | 11 => ⟨S1x4x8x2048x64, .f32⟩
  | 12 => ⟨S4x8x2048x64, .f32⟩
  | 13 => ⟨S4x8x2048x2048, .f32⟩
  | 14 => ⟨S_, .f32⟩
  | 15 => ⟨S4x8x2048x2048, .f32⟩
  | 16 => ⟨S4x8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S4x8x2048x2048, .f32⟩
  | 25 => ⟨S_, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S4x8x2048x2048, .i1⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .i1⟩
  | 42 => ⟨S_, .f32⟩
  | 43 => ⟨S4x8x2048x2048, .f32⟩
  | 44 => ⟨S4x8x2048x2048, .f32⟩
  | 45 => ⟨S_, .f32⟩
  | 46 => ⟨S4x8x2048x2048, .f32⟩
  | 47 => ⟨S4x8x2048x2048, .i1⟩
  | 48 => ⟨S_, .f32⟩
  | 49 => ⟨S4x8x2048x2048, .f32⟩
  | 50 => ⟨S4x8x2048x2048, .f32⟩
  | 51 => ⟨S4x8x2048x2048, .f32⟩
  | 52 => ⟨S4x8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x8x2048x2048, .f32⟩
  | 61 => ⟨S4x8x2048x2048, .i1⟩
  | 62 => ⟨S_, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S4x8x2048x2048, .f32⟩
  | 68 => ⟨S_, .f32⟩
  | 69 => ⟨S4x8x2048x2048, .f32⟩
  | 70 => ⟨S4x8x2048x2048, .f32⟩
  | 71 => ⟨S4x8x2048x2048, .f32⟩
  | 72 => ⟨S4x8x2048x2048, .f32⟩
  | 73 => ⟨S4x8x2048x2048, .f32⟩
  | 74 => ⟨S_, .f32⟩
  | 75 => ⟨S4x8x2048x2048, .f32⟩
  | 76 => ⟨S4x8x2048x2048, .f32⟩
  | 77 => ⟨S4x8x2048x2048, .f32⟩
  | 78 => ⟨S4x8x2048x2048, .f32⟩
  | 79 => ⟨S4x8x2048x2048, .i1⟩
  | 80 => ⟨S4x8x2048x2048, .f32⟩
  | 81 => ⟨S4x8x2048x2048, .f32⟩
  | 82 => ⟨S4x8x2048x2048, .f32⟩
  | 83 => ⟨S4x8x2048x2048, .f32⟩
  | 84 => ⟨S4x8x2048x2048, .f32⟩
  | 85 => ⟨S4x8x2048x2048, .f32⟩
  | 86 => ⟨S4x8x2048x2048, .f32⟩
  | 87 => ⟨S4x8x2048x2048, .f32⟩
  | 88 => ⟨S_, .f32⟩
  | 89 => ⟨S4x8x2048x2048, .f32⟩
  | 90 => ⟨S4x8x2048x2048, .i1⟩
  | 91 => ⟨S_, .f32⟩
  | 92 => ⟨S4x8x2048x2048, .f32⟩
  | 93 => ⟨S4x8x2048x2048, .f32⟩
  | 94 => ⟨S_, .f32⟩
  | 95 => ⟨S4x8x2048x2048, .f32⟩
  | 96 => ⟨S4x8x2048x2048, .i1⟩
  | 97 => ⟨S_, .f32⟩
  | 98 => ⟨S4x8x2048x2048, .f32⟩
  | 99 => ⟨S4x8x2048x2048, .f32⟩
  | 100 => ⟨S4x8x2048x2048, .f32⟩
  | 101 => ⟨S4x8x2048x2048, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S4x8x2048x2048, .f32⟩
  | 110 => ⟨S4x8x2048x2048, .i1⟩
  | 111 => ⟨S_, .f32⟩
  | 112 => ⟨S4x8x2048x2048, .f32⟩
  | 113 => ⟨S4x8x2048x2048, .f32⟩
  | 114 => ⟨S4x8x2048x2048, .f32⟩
  | 115 => ⟨S4x8x2048x2048, .f32⟩
  | 116 => ⟨S4x8x2048x2048, .f32⟩
  | 117 => ⟨S_, .f32⟩
  | 118 => ⟨S4x8x2048x2048, .f32⟩
  | 119 => ⟨S4x8x2048x2048, .f32⟩
  | 120 => ⟨S4x8x2048x2048, .f32⟩
  | 121 => ⟨S_, .f32⟩
  | 122 => ⟨S_, .f32⟩
  | 123 => ⟨S4x8x2048x2048, .i1⟩
  | 124 => ⟨S4x8x2048x2048, .f32⟩
  | 125 => ⟨S4x8x2048x2048, .f32⟩
  | 126 => ⟨S_, .f32⟩
  | 127 => ⟨S4x8x2048x2048, .f32⟩
  | _ => ⟨S4x2048x2560, .f32⟩

abbrev hbmTy0_1 (i : Nat) : BufTy := match i % 128 with
  | 0 => ⟨S_, .f32⟩
  | 1 => ⟨S_, .f32⟩
  | 2 => ⟨S4x8x2048x2048, .f32⟩
  | 3 => ⟨S4x8x2048x1, .f32⟩
  | 4 => ⟨S4x8x2048x2048, .f32⟩
  | 5 => ⟨S4x8x2048x2048, .f32⟩
  | 6 => ⟨S4x8x2048x2048, .f32⟩
  | 7 => ⟨S4x8x2048x2048, .f32⟩
  | 8 => ⟨S_, .f32⟩
  | 9 => ⟨S_, .f32⟩
  | 10 => ⟨S4x8x2048x2048, .i1⟩
  | 11 => ⟨S4x8x2048x2048, .f32⟩
  | 12 => ⟨S4x8x2048x2048, .f32⟩
  | 13 => ⟨S_, .f32⟩
  | 14 => ⟨S4x8x2048x2048, .f32⟩
  | 15 => ⟨S4x8x2048x64, .f32⟩
  | 16 => ⟨S4x2048x8x64, .f32⟩
  | 17 => ⟨S4x2048x8x64, .f32⟩
  | 18 => ⟨S_, .f32⟩
  | 19 => ⟨S4x2048x8, .f32⟩
  | 20 => ⟨S4x2048x8x1, .f32⟩
  | 21 => ⟨S_, .f32⟩
  | 22 => ⟨S4x2048x8x1, .f32⟩
  | 23 => ⟨S4x2048x8x1, .f32⟩
  | 24 => ⟨S_, .f32⟩
  | 25 => ⟨S4x2048x8x1, .f32⟩
  | 26 => ⟨S4x2048x8x1, .f32⟩
  | 27 => ⟨S4x2048x8x1, .f32⟩
  | 28 => ⟨S4x2048x8x1, .f32⟩
  | 29 => ⟨S_, .f32⟩
  | 30 => ⟨S4x2048x8x1, .f32⟩
  | 31 => ⟨S4x2048x8x1, .f32⟩
  | 32 => ⟨S4x2048x8x64, .f32⟩
  | 33 => ⟨S4x2048x8x64, .f32⟩
  | 34 => ⟨S4x2048x512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S_, .f32⟩
  | 41 => ⟨S512, .f32⟩
  | 42 => ⟨S1x1x512, .f32⟩
  | 43 => ⟨S4x2048x512, .f32⟩
  | 44 => ⟨S4x2048x512, .f32⟩
  | 45 => ⟨S_, .f32⟩
  | 46 => ⟨S512, .f32⟩
  | 47 => ⟨S4x2048x8x64, .f32⟩
  | 48 => ⟨S4x2048x8x64, .f32⟩
  | 49 => ⟨S_, .f32⟩
  | 50 => ⟨S4x2048x8, .f32⟩
  | 51 => ⟨S4x2048x8x1, .f32⟩
  | 52 => ⟨S4x2048x8x64, .f32⟩
  | 53 => ⟨S4x2048x8x64, .f32⟩
  | 54 => ⟨S4x2048x8x1, .f32⟩
  | 55 => ⟨S_, .f32⟩
  | 56 => ⟨S4x2048x8x1, .f32⟩
  | 57 => ⟨S4x2048x8x1, .f32⟩
  | 58 => ⟨S_, .f32⟩
  | 59 => ⟨S4x2048x8, .f32⟩
  | 60 => ⟨S4x2048x8x64, .f32⟩
  | 61 => ⟨S4x2048x8x64, .f32⟩
  | 62 => ⟨S4x2048x8x64, .f32⟩
  | 63 => ⟨S4x2048x8x64, .f32⟩
  | 64 => ⟨S4x2048x8x64, .f32⟩
  | 65 => ⟨S4x8x2048x64, .f32⟩
  | 66 => ⟨S4x8x64x2048, .f32⟩
  | 67 => ⟨S4x8x2048x64, .f32⟩
  | 68 => ⟨S4x8x2048x2048, .f32⟩
  | 69 => ⟨S_, .f32⟩
  | 70 => ⟨S4x8x2048x2048, .f32⟩
  | 71 => ⟨S4x8x2048x2048, .f32⟩
  | 72 => ⟨S4x8x2048x2048, .f32⟩
  | 73 => ⟨S_, .f32⟩
  | 74 => ⟨S4x8x2048, .f32⟩
  | 75 => ⟨S4x8x2048x1, .f32⟩
  | 76 => ⟨S4x8x2048x2048, .f32⟩
  | 77 => ⟨S_, .f32⟩
  | 78 => ⟨S4x8x2048x2048, .f32⟩
  | 79 => ⟨S4x8x2048x2048, .f32⟩
  | 80 => ⟨S_, .f32⟩
  | 81 => ⟨S_, .f32⟩
  | 82 => ⟨S4x8x2048x2048, .f32⟩
  | 83 => ⟨S_, .f32⟩
  | 84 => ⟨S4x8x2048x2048, .f32⟩
  | 85 => ⟨S4x8x2048x2048, .f32⟩
  | 86 => ⟨S4x8x2048x2048, .f32⟩
  | 87 => ⟨S4x8x2048x2048, .f32⟩
  | 88 => ⟨S4x8x2048x2048, .f32⟩
  | 89 => ⟨S4x8x2048x2048, .f32⟩
  | 90 => ⟨S4x8x2048x2048, .f32⟩
  | 91 => ⟨S4x8x2048x2048, .f32⟩
  | 92 => ⟨S4x8x2048x2048, .f32⟩
  | 93 => ⟨S4x8x2048x2048, .f32⟩
  | 94 => ⟨S_, .f32⟩
  | 95 => ⟨S4x8x2048x2048, .f32⟩
  | 96 => ⟨S4x8x2048x2048, .f32⟩
  | 97 => ⟨S4x8x2048x64, .f32⟩
  | 98 => ⟨S4x8x2048x64, .f32⟩
  | 99 => ⟨S1x4x8x2048x64, .f32⟩
  | 100 => ⟨S1x4x8x2048x64, .f32⟩
  | 101 => ⟨S1x4x8x2048x64, .f32⟩
  | 102 => ⟨S3x4x8x2048x64, .f32⟩
  | 103 => ⟨S4x2048x3x8x64, .f32⟩
  | 104 => ⟨S4x2048x1536, .f32⟩
  | 105 => ⟨S8192x3x512, .f32⟩
  | 106 => ⟨S8192x3x512, .bf16⟩
  | 107 => ⟨S8192x1x512, .bf16⟩
  | 108 => ⟨S8192x512, .bf16⟩
  | 109 => ⟨S8192x1x512, .bf16⟩
  | 110 => ⟨S8192x512, .bf16⟩
  | 111 => ⟨S8192x1x512, .bf16⟩
  | 112 => ⟨S8192x512, .bf16⟩
  | 113 => ⟨S1x512, .f32⟩
  | _ => ⟨S4x2048x2560, .f32⟩

abbrev hbmTy (i : Nat) : BufTy := match i / 128 with
  | 0 => hbmTy0_0 i
  | 1 => hbmTy0_1 i
  | _ => ⟨S4x2048x2560, .f32⟩

abbrev bufTy : (tb : Table) → Fin (tcTables nBuf tb) → BufTy
  | .hbm, ⟨i, _⟩ => hbmTy i
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v22_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v22_2 : Ref sig .tc := ⟨.hbm, 119, rfl⟩
abbrev main_v22_0 : Ref sig .tc := ⟨.hbm, 120, rfl⟩
abbrev main_cst_0 : Ref sig .tc := ⟨.hbm, 121, rfl⟩
abbrev main_call2_v0 : Ref sig .tc := ⟨.hbm, 122, rfl⟩
abbrev main_v23_1 : Ref sig .tc := ⟨.hbm, 123, rfl⟩
abbrev main_call2_v2 : Ref sig .tc := ⟨.hbm, 124, rfl⟩
abbrev main_v23_0 : Ref sig .tc := ⟨.hbm, 125, rfl⟩
abbrev main_call2_cst : Ref sig .tc := ⟨.hbm, 126, rfl⟩
abbrev main_v23_2 : Ref sig .tc := ⟨.hbm, 127, rfl⟩
abbrev main_call3_call0_cst : Ref sig .tc := ⟨.hbm, 128, rfl⟩
abbrev main_call3_call0_v0 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_cst_1 : Ref sig .tc := ⟨.hbm, 136, rfl⟩
abbrev main_call4_v0 : Ref sig .tc := ⟨.hbm, 137, rfl⟩
abbrev main_v30_1 : Ref sig .tc := ⟨.hbm, 138, rfl⟩
abbrev main_call4_v2 : Ref sig .tc := ⟨.hbm, 139, rfl⟩
abbrev main_v30_0 : Ref sig .tc := ⟨.hbm, 140, rfl⟩
abbrev main_call4_cst : Ref sig .tc := ⟨.hbm, 141, rfl⟩
abbrev main_v30_2 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_cst_2 : Ref sig .tc := ⟨.hbm, 146, rfl⟩
abbrev main_v34 : Ref sig .tc := ⟨.hbm, 147, rfl⟩
abbrev main_v35 : Ref sig .tc := ⟨.hbm, 148, rfl⟩
abbrev main_cst_3 : Ref sig .tc := ⟨.hbm, 149, rfl⟩
abbrev main_v36 : Ref sig .tc := ⟨.hbm, 150, rfl⟩
abbrev main_v37 : Ref sig .tc := ⟨.hbm, 151, rfl⟩
abbrev main_cst_4 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_cst_5 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_cst_6 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_cst_7 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_cst_8 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_cst_9 : Ref sig .tc := ⟨.hbm, 183, rfl⟩
abbrev main_v64 : Ref sig .tc := ⟨.hbm, 184, rfl⟩
abbrev main_v65 : Ref sig .tc := ⟨.hbm, 185, rfl⟩
abbrev main_cst_10 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_call5_cst : Ref sig .tc := ⟨.hbm, 197, rfl⟩
abbrev main_call5_v0 : Ref sig .tc := ⟨.hbm, 198, rfl⟩
abbrev main_v76 : Ref sig .tc := ⟨.hbm, 199, rfl⟩
abbrev main_v77 : Ref sig .tc := ⟨.hbm, 200, rfl⟩
abbrev main_cst_11 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_cst_12 : Ref sig .tc := ⟨.hbm, 205, rfl⟩
abbrev main_v81 : Ref sig .tc := ⟨.hbm, 206, rfl⟩
abbrev main_v82 : Ref sig .tc := ⟨.hbm, 207, rfl⟩
abbrev main_call6_call0_cst : Ref sig .tc := ⟨.hbm, 208, rfl⟩
abbrev main_call6_call0_v0 : Ref sig .tc := ⟨.hbm, 209, rfl⟩
abbrev main_v83 : Ref sig .tc := ⟨.hbm, 210, rfl⟩
abbrev main_call7_cst : Ref sig .tc := ⟨.hbm, 211, rfl⟩
abbrev main_call7_v0 : Ref sig .tc := ⟨.hbm, 212, rfl⟩
abbrev main_v84 : Ref sig .tc := ⟨.hbm, 213, rfl⟩
abbrev main_call8_v0 : Ref sig .tc := ⟨.hbm, 214, rfl⟩
abbrev main_call8_v1 : Ref sig .tc := ⟨.hbm, 215, rfl⟩
abbrev main_v85 : Ref sig .tc := ⟨.hbm, 216, rfl⟩
abbrev main_v86 : Ref sig .tc := ⟨.hbm, 217, rfl⟩
abbrev main_call9_v0 : Ref sig .tc := ⟨.hbm, 218, rfl⟩
abbrev main_call9_v1 : Ref sig .tc := ⟨.hbm, 219, rfl⟩
abbrev main_v87 : Ref sig .tc := ⟨.hbm, 220, rfl⟩
abbrev main_v88 : Ref sig .tc := ⟨.hbm, 221, rfl⟩
abbrev main_cst_13 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev main_v100 : Ref sig .tc := ⟨.hbm, 234, rfl⟩
abbrev main_v101 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩

abbrev nD : Nat := 1
abbrev τ : Topo := Topo.v7x

variable {F : FTy → Type} [FloatOps F]
-- ==== Gmlp.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S4x2048x1024 : Shape := ⟨3, ![4, 2048, 1024]⟩
abbrev S8192x1024 : Shape := ⟨2, ![8192, 1024]⟩
abbrev S128x4 : Shape := ⟨2, ![128, 4]⟩
abbrev S1x512 : Shape := ⟨2, ![1, 512]⟩
abbrev S1x1024 : Shape := ⟨2, ![1, 1024]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩
abbrev S512x128 : Shape := ⟨2, ![512, 128]⟩
abbrev S512x1 : Shape := ⟨2, ![512, 1]⟩
abbrev S1x128 : Shape := ⟨2, ![1, 128]⟩
abbrev S128x1 : Shape := ⟨2, ![128, 1]⟩
abbrev S128 : Shape := ⟨1, ![128]⟩

abbrev nBuf : Space → Nat
  | .hbm => 19
  | .vmem => 17
  | .smem => 0
  | _ => 0

abbrev bufTy : (tb : Table) → Fin (tcTables nBuf tb) → BufTy
  | .hbm, ⟨0, _⟩ => ⟨S4x2048x2560, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S1024, .f32⟩
  | .hbm, ⟨5, _⟩ => ⟨S4x2048x1024, .f32⟩
  | .hbm, ⟨6, _⟩ => ⟨S4x2048x1024, .f32⟩
  | .hbm, ⟨7, _⟩ => ⟨S4x2048x1024, .bf16⟩
  | .hbm, ⟨8, _⟩ => ⟨S8192x1024, .bf16⟩
  | .hbm, ⟨9, _⟩ => ⟨S4x2048x1024, .bf16⟩
  | .hbm, ⟨10, _⟩ => ⟨S8192x1024, .bf16⟩
  | .hbm, ⟨11, _⟩ => ⟨S128x4, .f32⟩
  | .hbm, ⟨12, _⟩ => ⟨S1x512, .f32⟩
  | .hbm, ⟨13, _⟩ => ⟨S1x1024, .f32⟩
  | .hbm, ⟨14, _⟩ => ⟨S8192x1024, .bf16⟩
  | .hbm, ⟨15, _⟩ => ⟨S4x128x128, .f32⟩
  | .hbm, ⟨16, _⟩ => ⟨S128x4, .f32⟩
  | .hbm, ⟨17, _⟩ => ⟨S1x512, .f32⟩
  | .hbm, ⟨18, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S4x128x128, .f32⟩
  | .local _ .vmem, ⟨7, _⟩ => ⟨S128x4, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S4x128x128, .f32⟩
  | .local _ .vmem, ⟨13, _⟩ => ⟨S128x4, .f32⟩
  | .local _ .vmem, ⟨14, _⟩ => ⟨S1x512, .f32⟩
  | .local _ .vmem, ⟨15, _⟩ => ⟨S1x512, .f32⟩
  | .local _ .vmem, ⟨16, _⟩ => ⟨S4x128x128, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1234 : BitVec 1 := Scalar.cmpi .eq arg0 c15_i32
  let v1235 : BitVec 32 := Scalar.extui v1234
  let c0_i32_401 : BitVec 32 := 0#32
  let v1236 : BitVec 1 := Scalar.cmpi .ne v1235 c0_i32_401
  v1236

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GmlpIdeal.lean ====
variable {F : FTy → Type} [FloatOps F] [Named F]
def κ : String → Option EReal := fun
  | "cubic" => some ((8943 / 200000 : ℝ) : EReal)
  | "three_cubic" => some ((26829 / 200000 : ℝ) : EReal)
  | _ => none
-- ==== GmlpRefIdeal.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S4x2048x1024 : Shape := ⟨3, ![4, 2048, 1024]⟩
abbrev S4x2048x512 : Shape := ⟨3, ![4, 2048, 512]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1x1x512 : Shape := ⟨3, ![1, 1, 512]⟩
abbrev S8192x1024 : Shape := ⟨2, ![8192, 1024]⟩
abbrev S1x512 : Shape := ⟨2, ![1, 512]⟩

abbrev nBuf : Space → Nat
  | .hbm => 257
  | .vmem => 0
  | .smem => 0
  | _ => 0

abbrev hbmTy0_0 (i : Nat) : BufTy := match i % 128 with
  | 0 => ⟨S4x2048x2560, .f32⟩
  | 1 => ⟨S4x128x128, .f32⟩
  | 2 => ⟨S4x128, .f32⟩
  | 3 => ⟨S512, .f32⟩
  | 4 => ⟨S1024, .f32⟩
  | 5 => ⟨S4x2048x1024, .f32⟩
  | 6 => ⟨S4x2048x1024, .f32⟩
  | 7 => ⟨S512, .f32⟩
  | 8 => ⟨S4x2048x512, .f32⟩
  | 9 => ⟨S4x2048x512, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S_, .f32⟩
  | 19 => ⟨S4x2048x512, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S_, .f32⟩
  | 30 => ⟨S4x2048x512, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S_, .f32⟩
  | 45 => ⟨S4x2048x512, .f32⟩
  | 46 => ⟨S4x2048x512, .f32⟩
  | 47 => ⟨S_, .f32⟩
  | 48 => ⟨S4x2048x512, .f32⟩
  | 49 => ⟨S4x2048x512, .f32⟩
  | 50 => ⟨S_, .f32⟩
  | 51 => ⟨S4x2048x512, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S_, .f32⟩
  | 62 => ⟨S4x2048x512, .f32⟩
  | 63 => ⟨S4x2048x512, .f32⟩
  | 64 => ⟨S4x2048x512, .f32⟩
  | 65 => ⟨S_, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S4x16x128x4x128, .f32⟩
  | 73 => ⟨S4x16x128x4x128, .f32⟩
  | 74 => ⟨S4x128, .f32⟩
  | 75 => ⟨S4x16x128x4x128, .f32⟩
  | 76 => ⟨S_, .f32⟩
  | 77 => ⟨S4x16x128x4, .f32⟩
  | 78 => ⟨S4x16x128x4x1, .f32⟩
  | 79 => ⟨S_, .f32⟩
  | 80 => ⟨S4x16x128x4x1, .f32⟩
  | 81 => ⟨S4x16x128x4x1, .f32⟩
  | 82 => ⟨S_, .f32⟩
  | 83 => ⟨S4x16x128x4x1, .f32⟩
  | 84 => ⟨S4x16x128x4x1, .f32⟩
  | 85 => ⟨S4x16x128x4x1, .f32⟩
  | 86 => ⟨S4x16x128x4x1, .f32⟩
  | 87 => ⟨S_, .f32⟩
  | 88 => ⟨S4x16x128x4x1, .f32⟩
  | 89 => ⟨S4x16x128x4x1, .f32⟩
  | 90 => ⟨S4x16x128x4x128, .f32⟩
  | 91 => ⟨S4x16x128x4x128, .f32⟩
  | 92 => ⟨S1x1x1x4x128, .f32⟩
  | 93 => ⟨S4x16x128x4x128, .f32⟩
  | 94 => ⟨S4x16x128x4x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S1x128x128, .i1⟩
  | 107 => ⟨S_, .f32⟩
  | 108 => ⟨S4x128x128, .f32⟩
  | 109 => ⟨S4x128x128, .i1⟩
  | 110 => ⟨S4x128x128, .f32⟩
  | 111 => ⟨S_, .f32⟩
  | 112 => ⟨S4x128x128, .f32⟩
  | 113 => ⟨S4x4x16x128x128, .f32⟩
  | 114 => ⟨S4x16x128x4x128, .f32⟩
  | 115 => ⟨S128x4, .f32⟩
  | 116 => ⟨S1x1x128x4x1, .f32⟩
  | 117 => ⟨S4x16x128x4x128, .f32⟩
  | 118 => ⟨S4x16x128x4x128, .f32⟩
  | 119 => ⟨S4x16x128x4x128, .f32⟩
  | 120 => ⟨S4x16x128x4x128, .f32⟩
  | 121 => ⟨S_, .f32⟩
  | 122 => ⟨S4x16x128x4, .f32⟩
  | 123 => ⟨S4x16x128x4x1, .f32⟩
  | 124 => ⟨S_, .f32⟩
  | 125 => ⟨S4x16x128x4x1, .f32⟩
  | 126 => ⟨S4x16x128x4x1, .f32⟩
  | 127 => ⟨S_, .f32⟩
  | _ => ⟨S4x2048x2560, .f32⟩

abbrev hbmTy0_1 (i : Nat) : BufTy := match i % 128 with
  | 0 => ⟨S4x16x128x4x1, .f32⟩
  | 1 => ⟨S4x16x128x4x1, .f32⟩
  | 2 => ⟨S4x16x128x4x1, .f32⟩
  | 3 => ⟨S4x16x128x4x1, .f32⟩
  | 4 => ⟨S_, .f32⟩
  | 5 => ⟨S4x16x128x4x1, .f32⟩
  | 6 => ⟨S4x16x128x4x1, .f32⟩
  | 7 => ⟨S4x16x128x4x128, .f32⟩
  | 8 => ⟨S4x16x128x4x128, .f32⟩
  | 9 => ⟨S4x2048x512, .f32⟩
  | 10 => ⟨S1x1x512, .f32⟩
  | 11 => ⟨S4x2048x512, .f32⟩
  | 12 => ⟨S4x2048x512, .f32⟩
  | 13 => ⟨S4x2048x512, .f32⟩
  | 14 => ⟨S4x2048x512, .f32⟩
  | 15 => ⟨S_, .f32⟩
  | 16 => ⟨S512, .f32⟩
  | 17 => ⟨S1x1x512, .f32⟩
  | 18 => ⟨S4x2048x512, .f32⟩
  | 19 => ⟨S4x2048x512, .f32⟩
  | 20 => ⟨S_, .f32⟩
  | 21 => ⟨S512, .f32⟩
  | 22 => ⟨S4x16x128x4x128, .f32⟩
  | 23 => ⟨S4x16x128x4x128, .f32⟩
  | 24 => ⟨S_, .f32⟩
  | 25 => ⟨S4x16x128x4, .f32⟩
  | 26 => ⟨S4x16x128x4x1, .f32⟩
  | 27 => ⟨S4x16x128x4x128, .f32⟩
  | 28 => ⟨S4x16x128x4x128, .f32⟩
  | 29 => ⟨S4x16x128x4x1, .f32⟩
  | 30 => ⟨S_, .f32⟩
  | 31 => ⟨S4x16x128x4x1, .f32⟩
  | 32 => ⟨S4x16x128x4x1, .f32⟩
  | 33 => ⟨S_, .f32⟩
  | 34 => ⟨S4x16x128x4, .f32⟩
  | 35 => ⟨S4x16x128x4x128, .f32⟩
  | 36 => ⟨S4x16x128x4x128, .f32⟩
  | 37 => ⟨S4x16x128x4x128, .f32⟩
  | 38 => ⟨S4x16x128x4x128, .f32⟩
  | 39 => ⟨S4x16x128x4x128, .f32⟩
  | 40 => ⟨S4x16x128x4x128, .f32⟩
  | 41 => ⟨S4x16x128x4x128, .f32⟩
  | 42 => ⟨S_, .f32⟩
  | 43 => ⟨S128x4, .f32⟩
  | 44 => ⟨S1x1x128x4x1, .f32⟩
  | 45 => ⟨S_, .f32⟩
  | 46 => ⟨S128x4, .f32⟩
  | 47 => ⟨S4x128, .f32⟩
  | 48 => ⟨S4x4x16x128x128, .f32⟩
  | 49 => ⟨S4x128x128, .f32⟩
  | 50 => ⟨S4x4x16x128x128, .f32⟩
  | 51 => ⟨S4x16x128x4x128, .f32⟩
  | 52 => ⟨S_, .f32⟩
  | 53 => ⟨S4x128x128, .f32⟩
  | 54 => ⟨S4x128x128, .f32⟩
  | 55 => ⟨S4x16x128x4x128, .f32⟩
  | 56 => ⟨S_, .f32⟩
  | 57 => ⟨S4x128, .f32⟩
  | 58 => ⟨S1x1x1x4x128, .f32⟩
  | 59 => ⟨S4x16x128x4x128, .f32⟩
  | 60 => ⟨S4x16x128x4x128, .f32⟩
  | 61 => ⟨S_, .f32⟩
  | 62 => ⟨S4x128, .f32⟩
  | 63 => ⟨S4x16x128x4x128, .f32⟩
  | 64 => ⟨S_, .f32⟩
  | 65 => ⟨S4x16x128x4, .f32⟩
  | 66 => ⟨S4x16x128x4x1, .f32⟩
  | 67 => ⟨S4x16x128x4x128, .f32⟩
  | 68 => ⟨S4x16x128x4x128, .f32⟩
  | 69 => ⟨S4x16x128x4x1, .f32⟩
  | 70 => ⟨S_, .f32⟩
  | 71 => ⟨S4x16x128x4x1, .f32⟩
  | 72 => ⟨S4x16x128x4x1, .f32⟩
  | 73 => ⟨S_, .f32⟩
  | 74 => ⟨S4x16x128x4, .f32⟩
  | 75 => ⟨S4x16x128x4x128, .f32⟩
  | 76 => ⟨S4x16x128x4x128, .f32⟩
  | 77 => ⟨S4x16x128x4x128, .f32⟩
  | 78 => ⟨S4x16x128x4x128, .f32⟩
  | 79 => ⟨S4x16x128x4x128, .f32⟩
  | 80 => ⟨S512, .f32⟩
  | 81 => ⟨S4x2048x512, .f32⟩
  | 82 => ⟨S4x2048x512, .f32⟩
  | 83 => ⟨S4x2048x512, .f32⟩
  | 84 => ⟨S4x2048x512, .f32⟩
  | 85 => ⟨S_, .f32⟩
  | 86 => ⟨S4x2048x512, .f32⟩
  | 87 => ⟨S4x2048x512, .f32⟩
  | 88 => ⟨S4x2048x512, .f32⟩
  | 89 => ⟨S_, .f32⟩
  | 90 => ⟨S4x2048x512, .f32⟩
  | 91 => ⟨S4x2048x512, .f32⟩
  | 92 => ⟨S4x2048x512, .f32⟩
  | 93 => ⟨S_, .f32⟩
  | 94 => ⟨S4x2048x512, .f32⟩
  | 95 => ⟨S4x2048x512, .f32⟩
  | 96 => ⟨S_, .f32⟩
  | 97 => ⟨S4x2048x512, .f32⟩
  | 98 => ⟨S4x2048x512, .f32⟩
  | 99 => ⟨S4x2048x512, .f32⟩
  | 100 => ⟨S4x2048x512, .f32⟩
  | 101 => ⟨S_, .f32⟩
  | 102 => ⟨S4x2048x1024, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S4x2048x512, .f32⟩
  | 109 => ⟨S_, .f32⟩
  | 110 => ⟨S4x2048x512, .f32⟩
  | 111 => ⟨S4x2048x512, .f32⟩
  | 112 => ⟨S4x2048x512, .f32⟩
  | 113 => ⟨S_, .f32⟩
  | 114 => ⟨S4x2048x512, .f32⟩
  | 115 => ⟨S4x2048x512, .f32⟩
  | 116 => ⟨S_, .f32⟩
  | 117 => ⟨S4x2048x512, .f32⟩
  | 118 => ⟨S4x2048x512, .f32⟩
  | 119 => ⟨S4x2048x512, .f32⟩
  | 120 => ⟨S4x2048x512, .f32⟩
  | 121 => ⟨S_, .f32⟩
  | 122 => ⟨S4x2048x1024, .f32⟩
  | 123 => ⟨S4x2048x1024, .f32⟩
  | 124 => ⟨S8192x1024, .f32⟩
  | 125 => ⟨S8192x1024, .bf16⟩
  | 126 => ⟨S128x4, .f32⟩
  | 127 => ⟨S1x512, .f32⟩
  | _ => ⟨S4x2048x2560, .f32⟩

abbrev hbmTy0_2 (i : Nat) : BufTy := match i % 128 with
  | 0 => ⟨S1x512, .f32⟩
  | _ => ⟨S4x2048x2560, .f32⟩

abbrev hbmTy (i : Nat) : BufTy := match i / 128 with
  | 0 => hbmTy0_0 i
  | 1 => hbmTy0_1 i
  | 2 => hbmTy0_2 i
  | _ => ⟨S4x2048x2560, .f32⟩

abbrev bufTy : (tb : Table) → Fin (tcTables nBuf tb) → BufTy
  | .hbm, ⟨i, _⟩ => hbmTy i
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c : Ref sig .tc := ⟨.hbm, 95, rfl⟩
abbrev main_v69 : Ref sig .tc := ⟨.hbm, 96, rfl⟩
abbrev main_call0_v0 : Ref sig .tc := ⟨.hbm, 97, rfl⟩
abbrev main_call0_c : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_c_0 : Ref sig .tc := ⟨.hbm, 103, rfl⟩
abbrev main_call0_v5 : Ref sig .tc := ⟨.hbm, 104, rfl⟩
abbrev main_v70 : Ref sig .tc := ⟨.hbm, 105, rfl⟩
abbrev main_v71 : Ref sig .tc := ⟨.hbm, 106, rfl⟩
abbrev main_cst_19 : Ref sig .tc := ⟨.hbm, 107, rfl⟩
abbrev main_v72 : Ref sig .tc := ⟨.hbm, 108, rfl⟩
abbrev main_v73_1 : Ref sig .tc := ⟨.hbm, 109, rfl⟩
abbrev main_v73_0 : Ref sig .tc := ⟨.hbm, 110, rfl⟩
abbrev main_call1_cst : Ref sig .tc := ⟨.hbm, 111, rfl⟩
abbrev main_v73_2 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_cst_22 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_23 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_24 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_26 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_27 : Ref sig .tc := ⟨.hbm, 158, rfl⟩
abbrev main_v112 : Ref sig .tc := ⟨.hbm, 159, rfl⟩
abbrev main_v113 : Ref sig .tc := ⟨.hbm, 160, rfl⟩
abbrev main_cst_28 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_29 : Ref sig .tc := ⟨.hbm, 170, rfl⟩
abbrev main_v122 : Ref sig .tc := ⟨.hbm, 171, rfl⟩
abbrev main_v123 : Ref sig .tc := ⟨.hbm, 172, rfl⟩
abbrev main_cst_30 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_call2_cst : Ref sig .tc := ⟨.hbm, 180, rfl⟩
abbrev main_call2_v0 : Ref sig .tc := ⟨.hbm, 181, rfl⟩
abbrev main_v130 : Ref sig .tc := ⟨.hbm, 182, rfl⟩
abbrev main_v131 : Ref sig .tc := ⟨.hbm, 183, rfl⟩
abbrev main_cst_31 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_32 : Ref sig .tc := ⟨.hbm, 189, rfl⟩
abbrev main_v136 : Ref sig .tc := ⟨.hbm, 190, rfl⟩
abbrev main_v137 : Ref sig .tc := ⟨.hbm, 191, rfl⟩
abbrev main_cst_33 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_34 : Ref sig .tc := ⟨.hbm, 198, rfl⟩
abbrev main_v143 : Ref sig .tc := ⟨.hbm, 199, rfl⟩
abbrev main_v144 : Ref sig .tc := ⟨.hbm, 200, rfl⟩
abbrev main_cst_35 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_36 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_37 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_38 : Ref sig .tc := ⟨.hbm, 221, rfl⟩
abbrev main_v162 : Ref sig .tc := ⟨.hbm, 222, rfl⟩
abbrev main_v163 : Ref sig .tc := ⟨.hbm, 223, rfl⟩
abbrev main_cst_39 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_40 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_41 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_cst_42 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_43 : Ref sig .tc := ⟨.hbm, 241, rfl⟩
abbrev main_v177 : Ref sig .tc := ⟨.hbm, 242, rfl⟩
abbrev main_v178 : Ref sig .tc := ⟨.hbm, 243, rfl⟩
abbrev main_cst_44 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_45 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩

abbrev nD : Nat := 1
abbrev τ : Topo := Topo.v7x

variable {F : FTy → Type} [FloatOps F]
-- ==== Xfwd.lean ====
abbrev S4x2048x1024 : Shape := ⟨3, ![4, 2048, 1024]⟩
abbrev S4x256x2048 : Shape := ⟨3, ![4, 256, 2048]⟩
abbrev S8192x1024 : Shape := ⟨2, ![8192, 1024]⟩
abbrev S1024x2048 : Shape := ⟨2, ![1024, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S4x2048x1024, .bf16⟩
  | .hbm, ⟨3, _⟩ => ⟨S8192x1024, .bf16⟩
  | .hbm, ⟨4, _⟩ => ⟨S4x256x2048, .bf16⟩
  | .hbm, ⟨5, _⟩ => ⟨S1024x2048, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S256x2048, .bf16⟩
  | .local _ .vmem, ⟨4, _⟩ => ⟨S512x1024, .bf16⟩
  | .local _ .vmem, ⟨5, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XfwdRefIdeal.lean ====
abbrev S4x2048x1024 : Shape := ⟨3, ![4, 2048, 1024]⟩
abbrev S4x256x2048 : Shape := ⟨3, ![4, 256, 2048]⟩
abbrev S4x2048x4x256 : Shape := ⟨4, ![4, 2048, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S8192x1024 : Shape := ⟨2, ![8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S4x2048x4x256, .f32⟩
  | .hbm, ⟨3, _⟩ => ⟨S4x256x2x4x256, .f32⟩
  | .hbm, ⟨4, _⟩ => ⟨S4x256x1x4x256, .f32⟩
  | .hbm, ⟨5, _⟩ => ⟨S4x256x4x256, .f32⟩
  | .hbm, ⟨6, _⟩ => ⟨S4x256x1x4x256, .f32⟩
  | .hbm, ⟨7, _⟩ => ⟨S4x256x4x256, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x256x2048, .f32⟩
  | .hbm, ⟨27, _⟩ => ⟨S4x2048x4x256, .f32⟩
  | .hbm, ⟨28, _⟩ => ⟨S4x2048x1024, .f32⟩
  | .hbm, ⟨29, _⟩ => ⟨S8192x1024, .f32⟩
  | .hbm, ⟨30, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Gfwd.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S8192x2560 : Shape := ⟨2, ![8192, 2560]⟩
abbrev S128x4 : Shape := ⟨2, ![128, 4]⟩
abbrev S1x512 : Shape := ⟨2, ![1, 512]⟩
abbrev S1x1024 : Shape := ⟨2, ![1, 1024]⟩
abbrev S8192x512 : Shape := ⟨2, ![8192, 512]⟩
abbrev S512x512 : Shape := ⟨2, ![512, 512]⟩
abbrev S128x128 : Shape := ⟨2, ![128, 128]⟩
abbrev S1x128x128 : Shape := ⟨3, ![1, 128, 128]⟩
abbrev S512x128 : Shape := ⟨2, ![512, 128]⟩
abbrev S512x1 : Shape := ⟨2, ![512, 1]⟩
abbrev S1x128 : Shape := ⟨2, ![1, 128]⟩
abbrev S128x1 : Shape := ⟨2, ![128, 1]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2560, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S1024, .f32⟩
  | .hbm, ⟨5, _⟩ => ⟨S4x2048x2560, .bf16⟩
  | .hbm, ⟨6, _⟩ => ⟨S8192x2560, .bf16⟩
  | .hbm, ⟨7, _⟩ => ⟨S128x4, .f32⟩
  | .hbm, ⟨8, _⟩ => ⟨S1x512, .f32⟩
  | .hbm, ⟨9, _⟩ => ⟨S1x1024, .f32⟩
  | .hbm, ⟨10, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x128x128, .f32⟩
  | .local _ .vmem, ⟨5, _⟩ => ⟨S128x4, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GfwdIdeal.lean ====
variable {F : FTy → Type} [FloatOps F] [Named F]
def κ : String → Option EReal := fun
  | "cubic" => some ((8943 / 200000 : ℝ) : EReal)
  | _ => none
-- ==== GfwdRefIdeal.lean ====
abbrev S4x2048x2560 : Shape := ⟨3, ![4, 2048, 2560]⟩
abbrev S4x128x128 : Shape := ⟨3, ![4, 128, 128]⟩
abbrev S4x128 : Shape := ⟨2, ![4, 128]⟩
abbrev S512 : Shape := ⟨1, ![512]⟩
abbrev S1024 : Shape := ⟨1, ![1024]⟩
abbrev S4x2048x1024 : Shape := ⟨3, ![4, 2048, 1024]⟩
abbrev S4x2048x512 : Shape := ⟨3, ![4, 2048, 512]⟩
abbrev S_ : Shape := ⟨0, ![]⟩
abbrev S4x16x128x4x128 : Shape := ⟨5, ![4, 16, 128, 4, 128]⟩
abbrev S4x16x128x4 : Shape := ⟨4, ![4, 16, 128, 4]⟩
abbrev S4x16x128x4x1 : Shape := ⟨5, ![4, 16, 128, 4, 1]⟩
abbrev S1x1x1x4x128 : Shape := ⟨5, ![1, 1, 1, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S1x1x512 : Shape := ⟨3, ![1, 1, 512]⟩
abbrev S8192x512 : Shape := ⟨2, ![8192, 512]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S1024, .f32⟩
  | .hbm, ⟨5, _⟩ => ⟨S4x2048x1024, .f32⟩
  | .hbm, ⟨6, _⟩ => ⟨S512, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S_, .f32⟩
  | .hbm, ⟨11, _⟩ => ⟨S4x2048x512, .f32⟩
  | .hbm, ⟨12, _⟩ => ⟨S4x2048x512, .f32⟩
  | .hbm, ⟨13, _⟩ => ⟨S_, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S_, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S_, .f32⟩
  | .hbm, ⟨22, _⟩ => ⟨S4x2048x512, .f32⟩
  | .hbm, ⟨23, _⟩ => ⟨S4x2048x512, .f32⟩
  | .hbm, ⟨24, _⟩ => ⟨S_, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S_, .f32⟩
  | .hbm, ⟨32, _⟩ => ⟨S4x2048x512, .f32⟩
  | .hbm, ⟨33, _⟩ => ⟨S4x2048x512, .f32⟩
  | .hbm, ⟨34, _⟩ => ⟨S_, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S_, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S_, .f32⟩
  | .hbm, ⟨43, _⟩ => ⟨S4x2048x512, .f32⟩
  | .hbm, ⟨44, _⟩ => ⟨S4x2048x512, .f32⟩
  | .hbm, ⟨45, _⟩ => ⟨S_, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x16x128x4x128, .f32⟩
  | .hbm, ⟨50, _⟩ => ⟨S4x16x128x4x128, .f32⟩
  | .hbm, ⟨51, _⟩ => ⟨S4x128, .f32⟩
  | .hbm, ⟨52, _⟩ => ⟨S4x16x128x4x128, .f32⟩
  | .hbm, ⟨53, _⟩ => ⟨S_, .f32⟩
  | .hbm, ⟨54, _⟩ => ⟨S4x16x128x4, .f32⟩
  | .hbm, ⟨55, _⟩ => ⟨S4x16x128x4x1, .f32⟩
  | .hbm, ⟨56, _⟩ => ⟨S_, .f32⟩
  | .hbm, ⟨57, _⟩ => ⟨S4x16x128x4x1, .f32⟩
  | .hbm, ⟨58, _⟩ => ⟨S4x16x128x4x1, .f32⟩
  | .hbm, ⟨59, _⟩ => ⟨S_, .f32⟩
  | .hbm, ⟨60, _⟩ => ⟨S4x16x128x4x1, .f32⟩
  | .hbm, ⟨61, _⟩ => ⟨S4x16x128x4x1, .f32⟩
  | .hbm, ⟨62, _⟩ => ⟨S4x16x128x4x1, .f32⟩
  | .hbm, ⟨63, _⟩ => ⟨S4x16x128x4x128, .f32⟩
  | .hbm, ⟨64, _⟩ => ⟨S4x16x128x4x128, .f32⟩
  | .hbm, ⟨65, _⟩ => ⟨S1x1x1x4x128, .f32⟩
  | .hbm, ⟨66, _⟩ => ⟨S4x16x128x4x128, .f32⟩
  | .hbm, ⟨67, _⟩ => ⟨S4x16x128x4x128, .f32⟩
  | .hbm, ⟨68, _⟩ => ⟨S_, .i1⟩
  | .hbm, ⟨69, _⟩ => ⟨S128x128, .i1⟩
  | .hbm, ⟨70, _⟩ => ⟨S128x128, .i32⟩
  | .hbm, ⟨71, _⟩ => ⟨S_, .i32⟩
  | .hbm, ⟨72, _⟩ => ⟨S128x128, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S_, .i1⟩
  | .hbm, ⟨77, _⟩ => ⟨S128x128, .i1⟩
  | .hbm, ⟨78, _⟩ => ⟨S128x128, .i1⟩
  | .hbm, ⟨79, _⟩ => ⟨S1x128x128, .i1⟩
  | .hbm, ⟨80, _⟩ => ⟨S_, .f32⟩
  | .hbm, ⟨81, _⟩ => ⟨S4x128x128, .f32⟩
  | .hbm, ⟨82, _⟩ => ⟨S4x128x128, .i1⟩
  | .hbm, ⟨83, _⟩ => ⟨S4x128x128, .f32⟩
  | .hbm, ⟨84, _⟩ => ⟨S4x4x16x128x128, .f32⟩
  | .hbm, ⟨85, _⟩ => ⟨S4x16x128x4x128, .f32⟩
  | .hbm, ⟨86, _⟩ => ⟨S128x4, .f32⟩
  | .hbm, ⟨87, _⟩ => ⟨S1x1x128x4x1, .f32⟩
  | .hbm, ⟨88, _⟩ => ⟨S4x16x128x4x128, .f32⟩
  | .hbm, ⟨89, _⟩ => ⟨S4x16x128x4x128, .f32⟩
  | .hbm, ⟨90, _⟩ => ⟨S4x16x128x4x128, .f32⟩
  | .hbm, ⟨91, _⟩ => ⟨S4x16x128x4x128, .f32⟩
  | .hbm, ⟨92, _⟩ => ⟨S_, .f32⟩
  | .hbm, ⟨93, _⟩ => ⟨S4x16x128x4, .f32⟩
  | .hbm, ⟨94, _⟩ => ⟨S4x16x128x4x1, .f32⟩
  | .hbm, ⟨95, _⟩ => ⟨S_, .f32⟩
  | .hbm, ⟨96, _⟩ => ⟨S4x16x128x4x1, .f32⟩
  | .hbm, ⟨97, _⟩ => ⟨S4x16x128x4x1, .f32⟩
  | .hbm, ⟨98, _⟩ => ⟨S_, .f32⟩
  | .hbm, ⟨99, _⟩ => ⟨S4x16x128x4x1, .f32⟩
  | .hbm, ⟨100, _⟩ => ⟨S4x16x128x4x1, .f32⟩
  | .hbm, ⟨101, _⟩ => ⟨S4x16x128x4x1, .f32⟩
  | .hbm, ⟨102, _⟩ => ⟨S4x16x128x4x128, .f32⟩
  | .hbm, ⟨103, _⟩ => ⟨S4x16x128x4x128, .f32⟩
  | .hbm, ⟨104, _⟩ => ⟨S4x2048x512, .f32⟩
  | .hbm, ⟨105, _⟩ => ⟨S1x1x512, .f32⟩
  | .hbm, ⟨106, _⟩ => ⟨S4x2048x512, .f32⟩
  | .hbm, ⟨107, _⟩ => ⟨S4x2048x512, .f32⟩
  | .hbm, ⟨108, _⟩ => ⟨S8192x512, .f32⟩
  | .hbm, ⟨109, _⟩ => ⟨S8192x512, .bf16⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_v50 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Gain.lean ====
abbrev S4x256x1024 : Shape := ⟨3, ![4, 256, 1024]⟩
abbrev S1x1024 : Shape := ⟨2, ![1, 1024]⟩
abbrev S1x1024x2048 : Shape := ⟨3, ![1, 1024, 2048]⟩
abbrev S4x256x2048 : Shape := ⟨3, ![4, 256, 2048]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S4x256x2048, .f32⟩
  | .hbm, ⟨4, _⟩ => ⟨S1024x2048, .f32⟩
  | .hbm, ⟨5, _⟩ => ⟨S2048x1024, .f32⟩
  | .hbm, ⟨6, _⟩ => ⟨S2048x1024, .bf16⟩
  | .hbm, ⟨7, _⟩ => ⟨S4x256x2048, .bf16⟩
  | .hbm, ⟨8, _⟩ => ⟨S1024x2048, .bf16⟩
  | .hbm, ⟨9, _⟩ => ⟨S1024x1024, .f32⟩
  | .hbm, ⟨10, _⟩ => ⟨S1024x1024, .bf16⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c0_i32_13 : BitVec 32 := 0#32
  let v29 : BitVec 1 := Scalar.cmpi .eq arg0 c0_i32_13
  let v30 : BitVec 32 := Scalar.extui v29
  let c0_i32_14 : BitVec 32 := 0#32
  let v31 : BitVec 1 := Scalar.cmpi .ne v30 c0_i32_14
  v31

def k0_cond5 (i : grid0.Coords) : BitVec 1 :=
  let arg0 : BitVec 32 := BitVec.ofNat 32 (i 0).val
  let c0_i32_15 : BitVec 32 := 0#32
  let v32 : BitVec 1 := Scalar.cmpi .ne arg0 c0_i32_15
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]
-- ==== GainRefIdeal.lean ====
abbrev S4x256x1024 : Shape := ⟨3, ![4, 256, 1024]⟩
abbrev S1x1024 : Shape := ⟨2, ![1, 1024]⟩
abbrev S1x1024x2048 : Shape := ⟨3, ![1, 1024, 2048]⟩
abbrev S4x256x2048 : Shape := ⟨3, ![4, 256, 2048]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S4x256x2048, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x2048, .f32⟩
  | .hbm, ⟨22, _⟩ => ⟨S4x256x2048, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S1024, .f32⟩
  | .hbm, ⟨27, _⟩ => ⟨S1x1x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Loss.lean ====
abbrev S8192x1024 : Shape := ⟨2, ![8192, 1024]⟩
abbrev S8192x4096 : Shape := ⟨2, ![8192, 4096]⟩
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S2x1024 : Shape := ⟨2, ![2, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x4096x1024, .f32⟩
  | .hbm, ⟨3, _⟩ => ⟨S1024, .f32⟩
  | .hbm, ⟨4, _⟩ => ⟨S8192x1024, .f32⟩
  | .hbm, ⟨5, _⟩ => ⟨S4096x1024, .f32⟩
  | .hbm, ⟨6, _⟩ => ⟨S4096x1024, .bf16⟩
  | .hbm, ⟨7, _⟩ => ⟨S8192x4096, .bf16⟩
  | .hbm, ⟨8, _⟩ => ⟨S1x1024, .f32⟩
  | .hbm, ⟨9, _⟩ => ⟨S8192x1024, .f32⟩
  | .hbm, ⟨10, _⟩ => ⟨S2x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v103 : BitVec 1 := Scalar.cmpi .eq arg0 c0_i32
  let v104 : BitVec 32 := Scalar.extui v103
  let c0_i32_42 : BitVec 32 := 0#32
  let v105 : BitVec 1 := Scalar.cmpi .ne v104 c0_i32_42
  v105

def k0_cond2 (i : grid0.Coords) : BitVec 1 :=
  let arg0 : BitVec 32 := BitVec.ofNat 32 (i 0).val
  let c0_i32_43 : BitVec 32 := 0#32
  let v106 : BitVec 1 := Scalar.cmpi .ne arg0 c0_i32_43
  let v107 : BitVec 32 := Scalar.extui v106
  let c0_i32_44 : BitVec 32 := 0#32
  let v108 : BitVec 1 := Scalar.cmpi .ne v107 c0_i32_44
  v108

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== LossRefIdeal.lean ====
abbrev S8192x1024 : Shape := ⟨2, ![8192, 1024]⟩
abbrev S8192x4096 : Shape := ⟨2, ![8192, 4096]⟩
abbrev S1x4096x1024 : Shape := ⟨3, ![1, 4096, 1024]⟩
abbrev S1024 : Shape := ⟨1, ![1024]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x4096x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S4096x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S1x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S1x1024, .f32⟩
  | .hbm, ⟨109, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1x1024x2560 : Shape := ⟨3, ![1, 1024, 2560]⟩
abbrev S8192x2560 : Shape := ⟨2, ![8192, 2560]⟩
abbrev S1024x2560 : Shape := ⟨2, ![1024, 2560]⟩
abbrev S2560x1024 : Shape := ⟨2, ![2560, 1024]⟩
abbrev S512x2560 : Shape := ⟨2, ![512, 2560]⟩
abbrev S512x1024 : Shape := ⟨2, ![512, 1024]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S8192x2560, .f32⟩
  | .hbm, ⟨5, _⟩ => ⟨S1024x2560, .f32⟩
  | .hbm, ⟨6, _⟩ => ⟨S2560x1024, .f32⟩
  | .hbm, ⟨7, _⟩ => ⟨S2560x1024, .bf16⟩
  | .hbm, ⟨8, _⟩ => ⟨S8192x2560, .bf16⟩
  | .hbm, ⟨9, _⟩ => ⟨S8192x1024, .f32⟩
  | .hbm, ⟨10, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_36 : BitVec 32 := 0#32
  let v75 : BitVec 1 := Scalar.cmpi .ne v74 c0_i32_36
  v75

def k0_cond2 (i : grid0.Coords) : BitVec 1 :=
  let arg0 : BitVec 32 := BitVec.ofNat 32 (i 0).val
  let c0_i32_37 : BitVec 32 := 0#32
  let v76 : BitVec 1 := Scalar.cmpi .ne arg0 c0_i32_37
  let v77 : BitVec 32 := Scalar.extui v76
  let c0_i32_38 : BitVec 32 := 0#32
  let v78 : BitVec 1 := Scalar.cmpi .ne v77 c0_i32_38
  v78

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== ProjRefIdeal.lean ====
abbrev S8192x1024 : Shape := ⟨2, ![8192, 1024]⟩
abbrev S1x1024 : Shape := ⟨2, ![1, 1024]⟩
abbrev S1x1024x2560 : Shape := ⟨3, ![1, 1024, 2560]⟩
abbrev S8192x2560 : Shape := ⟨2, ![8192, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S8192x2560, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2560, .f32⟩
  | .hbm, ⟨27, _⟩ => ⟨S8192x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Ff1.lean ====
abbrev S8192x1024 : Shape := ⟨2, ![8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S8192x4096 : Shape := ⟨2, ![8192, 4096]⟩
abbrev S1024x1024 : Shape := ⟨2, ![1024, 1024]⟩
abbrev S1024x4096 : Shape := ⟨2, ![1024, 4096]⟩
abbrev S4096x1024 : Shape := ⟨2, ![4096, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x4096, .f32⟩
  | .hbm, ⟨5, _⟩ => ⟨S8192x1024, .f32⟩
  | .hbm, ⟨6, _⟩ => ⟨S8192x4096, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | .hbm, ⟨13, _⟩ => ⟨S8192x4096, .bf16⟩
  | .hbm, ⟨14, _⟩ => ⟨S1024x1024, .f32⟩
  | .hbm, ⟨15, _⟩ => ⟨S1024x1024, .bf16⟩
  | .hbm, ⟨16, _⟩ => ⟨S8192x1024, .f32⟩
  | .hbm, ⟨17, _⟩ => ⟨S8192x1024, .bf16⟩
  | .hbm, ⟨18, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_46 : BitVec 32 := 0#32
  let v89 : BitVec 1 := Scalar.cmpi .ne v88 c0_i32_46
  v89

def k0_cond2 (i : grid0.Coords) : BitVec 1 :=
  let arg0 : BitVec 32 := BitVec.ofNat 32 (i 0).val
  let c0_i32_47 : BitVec 32 := 0#32
  let v90 : BitVec 1 := Scalar.cmpi .ne arg0 c0_i32_47
  let v91 : BitVec 32 := Scalar.extui v90
  let c0_i32_48 : BitVec 32 := 0#32
  let v92 : BitVec 1 := Scalar.cmpi .ne v91 c0_i32_48
  v92

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Ff1RefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S8192x4096 : Shape := ⟨2, ![8192, 4096]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x4096, .f32⟩
  | .hbm, ⟨5, _⟩ => ⟨S8192x1024, .f32⟩
  | .hbm, ⟨6, _⟩ => ⟨S8192x4096, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x4096, .f32⟩
  | .hbm, ⟨32, _⟩ => ⟨S8192x4096, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Xq.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S8192x1024, .bf16⟩
  | .hbm, ⟨13, _⟩ => ⟨S1024x1024, .f32⟩
  | .hbm, ⟨14, _⟩ => ⟨S1024x1024, .bf16⟩
  | .hbm, ⟨15, _⟩ => ⟨S8192x1024, .f32⟩
  | .hbm, ⟨16, _⟩ => ⟨S8192x1024, .bf16⟩
  | .hbm, ⟨17, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v87 : BitVec 1 := Scalar.cmpi .eq arg0 c0_i32
  let v88 : BitVec 32 := Scalar.extui v87
  let c0_i32_46 : BitVec 32 := 0#32
  let v89 : BitVec 1 := Scalar.cmpi .ne v88 c0_i32_46
  v89

def k0_cond2 (i : grid0.Coords) : BitVec 1 :=
  let arg0 : BitVec 32 := BitVec.ofNat 32 (i 0).val
  let c0_i32_47 : BitVec 32 := 0#32
  let v90 : BitVec 1 := Scalar.cmpi .ne arg0 c0_i32_47
  let v91 : BitVec 32 := Scalar.extui v90
  let c0_i32_48 : BitVec 32 := 0#32
  let v92 : BitVec 1 := Scalar.cmpi .ne v91 c0_i32_48
  v92

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== XqRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Pfwd.lean ====
abbrev S8192x1024 : Shape := ⟨2, ![8192, 1024]⟩
abbrev S1x1024 : Shape := ⟨2, ![1, 1024]⟩
abbrev S1x1024x2560 : Shape := ⟨3, ![1, 1024, 2560]⟩
abbrev S1024x2560 : Shape := ⟨2, ![1024, 2560]⟩
abbrev S2560x1024 : Shape := ⟨2, ![2560, 1024]⟩
abbrev S8192x2560 : Shape := ⟨2, ![8192, 2560]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S1024x2560, .f32⟩
  | .hbm, ⟨4, _⟩ => ⟨S2560x1024, .f32⟩
  | .hbm, ⟨5, _⟩ => ⟨S2560x1024, .bf16⟩
  | .hbm, ⟨6, _⟩ => ⟨S8192x2560, .bf16⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x2560, .bf16⟩
  | .local _ .vmem, ⟨5, _⟩ => ⟨S1024x2560, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PfwdRefIdeal.lean ====
abbrev S8192x1024 : Shape := ⟨2, ![8192, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x2560, .f32⟩
  | .hbm, ⟨21, _⟩ => ⟨S8192x2560, .f32⟩
  | .hbm, ⟨22, _⟩ => ⟨S8192x2560, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Hfwd.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S8192x1024, .bf16⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== HfwdRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Places.lean ====
/-
  Where an index of a rectangle, or of an array that lost or gained a leading axis of one, lies in the array it was cut from.
-/
module

public import Idealize.ShloMosaic.Lib.Pointwise
public import Idealize.ShloMosaic.Lib.Pipeline.Value

@[expose] public section

namespace Cert.Places

open Idealize.ShloMosaic

/-- Two indices of a two-axis shape with the same coordinates are one. -/
lemma ext2 {a b : Nat} {x y : (⟨2, ![a, b]⟩ : Shape).Idx} (h0 : (x 0).val = (y 0).val) (h1 : (x 1).val = (y 1).val) :
    x = y :=
  funext fun i => Fin.ext <| match i with | ⟨0, _⟩ => h0 | ⟨1, _⟩ => h1

/-- An index of a two-axis shape by its coordinates. -/
lemma is2 {a b : Nat} (x : (⟨2, ![a, b]⟩ : Shape).Idx) : ∃ (r : Fin a) (l : Fin b), x = ix2 r l := ⟨x 0, x 1, ext2 rfl rfl⟩

/-- Two indices of a three-axis shape with the same coordinates are one. -/
lemma ext3 {a b c : Nat} {x y : (⟨3, ![a, b, c]⟩ : Shape).Idx} (h0 : (x 0).val = (y 0).val)
    (h1 : (x 1).val = (y 1).val) (h2 : (x 2).val = (y 2).val) : x = y :=
  funext fun i => Fin.ext <| match i with | ⟨0, _⟩ => h0 | ⟨1, _⟩ => h1 | ⟨2, _⟩ => h2

/-- Two indices of a four-axis shape with the same coordinates are one. -/
lemma ext4 {a b c d : Nat} {x y : (⟨4, ![a, b, c, d]⟩ : Shape).Idx} (h0 : (x 0).val = (y 0).val)
    (h1 : (x 1).val = (y 1).val) (h2 : (x 2).val = (y 2).val) (h3 : (x 3).val = (y 3).val) : x = y :=
  funext fun i => Fin.ext <| match i with | ⟨0, _⟩ => h0 | ⟨1, _⟩ => h1 | ⟨2, _⟩ => h2 | ⟨3, _⟩ => h3

/-- An index of a two-axis rectangle, in the array. -/
lemma emb2 {A B a b p q : Nat}
    (inb : ∀ i, (![a, b] : Fin 2 → Nat) i + (![p, q] : Fin 2 → Nat) i ≤ (⟨2, ![A, B]⟩ : Shape).size i)
    (r : Fin p) (l : Fin q) :
    (Rect.unit (s := ⟨2, ![A, B]⟩) ![a, b] ![p, q] inb).emb (ix2 r l)
      = ix2 ⟨a + r.val, lt_of_lt_of_le (Nat.add_lt_add_left r.isLt a) (inb 0)⟩
          ⟨b + l.val, lt_of_lt_of_le (Nat.add_lt_add_left l.isLt b) (inb 1)⟩ :=
  ext2 (by show a + 1 * r.val = a + r.val; omega) (by show b + 1 * l.val = b + l.val; omega)

/-- An array of one plane, seen as the plane. -/
lemma drop1 {α : Type} {a b : Nat} (x : (⟨3, ![1, a, b]⟩ : Shape).Idx → α)
    (h : (⟨3, ![1, a, b]⟩ : Shape).ShapeCasts ⟨2, ![a, b]⟩) (r : Fin a) (l : Fin b) :
    shapeCast ⟨2, ![a, b]⟩ x h (ix2 r l) = x (ix3 0 r l) :=
  (shapeCast_dropUnit_apply (n := 2) ![a, b] x h (ix2 r l)).trans (congrArg x (ext3 rfl rfl rfl))

end Cert.Places
-- ==== Proof.Relu2Value.lean ====
/-
  The squared-relu gate's backward call: what its result array holds after the run, index by index.
-/
module

public import proofs.«01_k».proof.Proof.Gen.Relu2Ideal.Value
public import proofs.«01_k».proof.Proof.Places

@[expose] public section

noncomputable section

namespace Cert.Relu2Ideal.Reading

open Cert.Relu2Ideal Gen Idealize.ShloMosaic TcCoe Idealize.SL.Sem
open Idealize.ShloMosaic.Pipeline (Dat)

/-- One element of the gradient: the cotangent's row times the weight's row, times twice the positive part. -/
def cell {K : Nat} (ct w : Fin K → EReal) (p : EReal) : EReal := (∑ k, ct k * w k) * (2 * max p 0)

lemma two_f32 : Ideal.ofBits .f32 0x40000000#32 = 2 := by
  rw [show (2 : EReal) = ((2 : ℝ) : EReal) from rfl]
  simp [Ideal.ofBits, Ideal.ieee, -EReal.coe_mul]; norm_num

lemma pay1_apply (v0 : Vec Ideal S256x1024 .f32) (v1 : Vec Ideal S4096x1024 .bf16) (v10 : Vec Ideal S256x4096 .bf16)
    (r : Fin 256) (l : Fin 4096) :
    k0_pay1 v0 v1 v10 (ix2 r l) = cell (fun k : Fin 1024 => v0 (ix2 r k)) (fun k => v1 (ix2 l k)) (v10 (ix2 r l)) := by
  unfold cell
  pointwise [k0_pay1]
  all_goals simp only [two_f32]

lemma pay2_apply (v0 : Vec Ideal S256x1024 .f32) (v1 : Vec Ideal S4096x1024 .bf16) (v10 : Vec Ideal S256x4096 .bf16)
    (r : Fin 256) (l : Fin 4096) :
    k0_pay2 v0 v1 v10 (ix2 r l) = cell (fun k : Fin 1024 => v0 (ix2 r k)) (fun k => v1 (ix2 l k)) (v10 (ix2 r l)) :=
  pay1_apply v0 v1 v10 r l

/-! ## One block of the result -/

/-- What the body leaves in a block, element by element: both halves of its rows by the one formula. -/
lemma out_apply (x0 : Vec Ideal S512x1024 .f32) (x1 : Vec Ideal S4096x1024 .bf16) (x2 : Vec Ideal S512x4096 .bf16)
    (y : S512x4096.Idx) :
    out0_3 x0 x1 x2 y = cell (fun k : Fin 1024 => x0 (ix2 (y 0) k)) (fun k => x1 (ix2 (y 1) k)) (x2 y) := by
  unfold out0_3
  refine View.canon_apply_of_pieces (Val := Elt Ideal) (e := .bf16)
    (fun y : S512x4096.Idx => cell (fun k : Fin 1024 => x0 (ix2 (y 0) k)) (fun k => x1 (ix2 (y 1) k)) (x2 y)) _ ?_ y
    (cover0_3 _ _ y)
  intro p hp x
  rcases List.mem_cons.1 hp with rfl | hp
  · idx_vars x
    refine (pay2_apply _ _ _ _ _).trans ?_
    simp only [r0_4, r0_0, r0_1, r0_2, View.ld, Places.emb2]
    pointwise
  · rcases List.mem_singleton.1 hp with rfl
    idx_vars x
    refine (pay1_apply _ _ _ _ _).trans ?_
    simp only [r0_3, r0_0, r0_1, r0_2, View.ld, Places.emb2]
    pointwise

/-! ## The blocks in the arrays -/

variable (m : (ℓ : Loc nD τ sig) → Buf (Elt Ideal) ℓ) (ρ : Dev nD → PrngReg)

lemma row_lt (t : Fin cfg0.N) (r : Fin 512) : 512 * t.val + r.val < 8192 := by
  have := lt_of_lt_of_eq t.isLt N_0; omega

lemma ix : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ win0_3.index t 0 = t.val ∧ win0_3.index t 1 = 0 := by
  change ∀ t : Fin grid0.N, _; decide +kernel

lemma V_pre (c : Dev nD) (i : S8192x4096.Idx) :
    V m c main_v2 i = m ((c : Thread nD τ).loc main_arg0) i := by
  have e : V m c main_v2 = truncf (F := Ideal) (s := S8192x4096) .bf16 (m ((c : Thread nD τ).loc main_arg0)) bitsLt_bf16_f32 := by
    unfold V hostOps0; after_results
  rw [e]; rfl

lemma V_w (c : Dev nD) (l : Fin 4096) (k : Fin 1024) :
    V m c main_v1 (ix2 l k) = m ((c : Thread nD τ).loc main_arg1) (ix3 0 l k) := by
  have e : V m c main_v1 = truncf (F := Ideal) (s := S4096x1024) .bf16 (shapeCast S4096x1024 (m ((c : Thread nD τ).loc main_arg1)) shapeCasts_S1x4096x1024_S4096x1024) bitsLt_bf16_f32 := by
    unfold V hostOps0; after_results; rfl
  rw [e]
  exact Places.drop1 _ _ l k

lemma blk0 (c : Dev nD) (t : Fin cfg0.N) (r : Fin 512) (k : Fin 1024) :
    iblk m c 0 t (ix2 r k) = m ((c : Thread nD τ).loc main_arg2) (ix2 ⟨512 * t.val + r.val, row_lt t r⟩ k) := by
  show V m c main_arg2 _ = _
  rw [V_main_arg2]
  refine congrArg (m ((c : Thread nD τ).loc main_arg2)) (Places.ext2 ?_ ?_)
  · show win0_0.index t 0 * 512 + 1 * r.val = 512 * t.val + r.val
    rw [(ix t).1.1]; omega
  · show win0_0.index t 1 * 1024 + 1 * k.val = k.val
    rw [(ix t).1.2]; omega

lemma blk1 (c : Dev nD) (t : Fin cfg0.N) (l : Fin 4096) (k : Fin 1024) :
    iblk m c 1 t (ix2 l k) = m ((c : Thread nD τ).loc main_arg1) (ix3 0 l k) := by
  show V m c main_v1 _ = _
  rw [← V_w m c]
  refine congrArg (V m c main_v1) (Places.ext2 ?_ ?_)
  · show win0_1.index t 0 * 4096 + 1 * l.val = l.val
    rw [(ix t).2.1.1]; omega
  · show win0_1.index t 1 * 1024 + 1 * k.val = k.val
    rw [(ix t).2.1.2]; omega

lemma blk2 (c : Dev nD) (t : Fin cfg0.N) (r : Fin 512) (l : Fin 4096) :
    iblk m c 2 t (ix2 r l) = m ((c : Thread nD τ).loc main_arg0) (ix2 ⟨512 * t.val + r.val, row_lt t r⟩ l) := by
  show V m c main_v2 _ = _
  rw [V_pre]
  refine congrArg (m ((c : Thread nD τ).loc main_arg0)) (Places.ext2 ?_ ?_)
  · show win0_2.index t 0 * 512 + 1 * r.val = 512 * t.val + r.val
    rw [(ix t).2.2.1.1]; omega
  · show win0_2.index t 1 * 4096 + 1 * l.val = l.val
    rw [(ix t).2.2.1.2]; omega

/-! ## The result array -/

/-- The gradient at the gate, index by index, from the pre-activation, the weight and the cotangent. -/
def spec (pre : FVec Ideal S8192x4096 .f32) (w : FVec Ideal S1x4096x1024 .f32) (ct : FVec Ideal S8192x1024 .f32) :
    FVec Ideal S8192x4096 .bf16 :=
  fun i => cell (fun k : Fin 1024 => ct (ix2 (i 0) k)) (fun k => w (ix3 0 (i 1) k)) (pre i)

abbrev G (c : Dev nD) : Buf (Elt Ideal) ((c : Thread nD τ).loc main_v3) :=
  spec (m ((c : Thread nD τ).loc main_arg0)) (m ((c : Thread nD τ).loc main_arg1)) (m ((c : Thread nD τ).loc main_arg2))

lemma flushed_eq (c : Dev nD) (t : Fin cfg0.N) :
    (dats m 0 c).flushed 3 t = (win0_3.blk t).view.read (Elt Ideal) (G m c) := by
  rw [Value.flushed3]
  refine funext fun (y : S512x4096.Idx) => ?_
  obtain ⟨r, l, rfl⟩ := Places.is2 y
  show out0_3 (iblk m c 0 t) (iblk m c 1 t) (iblk m c 2 t) (ix2 r l) = G m c _
  have e : ∀ z : S8192x4096.Idx, (z 0).val = 512 * t.val + r.val → (z 1).val = l.val →
      out0_3 (iblk m c 0 t) (iblk m c 1 t) (iblk m c 2 t) (ix2 r l) = G m c z := by
    intro z h0 h1
    have hz : z = ix2 ⟨512 * t.val + r.val, row_lt t r⟩ l := Places.ext2 h0 h1
    rw [hz, out_apply]
    show cell _ _ _ = cell _ _ _
    rw [blk2 m c t r l]
    congr 1
    · exact funext fun k => blk0 m c t r k
    · exact funext fun k => blk1 m c t l k
  refine e _ ?_ ?_
  · show win0_3.index t 0 * 512 + 1 * r.val = _
    rw [(ix t).2.2.2.1]; omega
  · show win0_3.index t 1 * 4096 + 1 * l.val = _
    rw [(ix t).2.2.2.2]; omega

lemma mem_blk (t : Fin cfg0.N) (i : S8192x4096.Idx) (h : t.val = (i 0).val / 512) :
    i ∈ ((cfg0.win 3).blk t).view.set := by
  show i ∈ ((View.whole main_v3).slice (win0_3.rect t)).set
  rw [View.set_slice_whole, Rect.mem_set_unit]
  have h1 : (i 1 : Nat) < 4096 := (i 1).isLt
  intro a
  match a with
  | ⟨0, _⟩ =>
    show win0_3.index t 0 * 512 ≤ (i 0 : Nat) ∧ (i 0 : Nat) < win0_3.index t 0 * 512 + 512
    rw [(ix t).2.2.2.1]; omega
  | ⟨1, _⟩ =>
    show win0_3.index t 1 * 4096 ≤ (i 1 : Nat) ∧ (i 1 : Nat) < win0_3.index t 1 * 4096 + 4096
    rw [(ix t).2.2.2.2]; omega

lemma final (c : Dev nD) : (dats m 0 c).arrAt 3 cfg0.N = G m c :=
  (dats m 0 c).arrAt_eq_of_cover 3 (G m c) (fun t _ => flushed_eq m c t) fun i => by
    have h0 : (i 0 : Nat) < 8192 := (i 0).isLt
    have hN : cfg0.N = 16 := N_0
    exact ⟨⟨(i 0 : Nat) / 512, by omega⟩, flush0_3 _, mem_blk _ i rfl⟩

end Cert.Relu2Ideal.Reading

end
-- ==== Proof.Relu2Ref.lean ====
/-
  The squared-relu gate's gradient as the reference writes it, read at an index, is the kernel's formula.
-/
module

public import proofs.«01_k».proof.Proof.Relu2Value
public import proofs.«01_k».proof.Proof.Gen.Relu2RefIdeal.Read

@[expose] public section

noncomputable section

namespace Cert.Relu2RefIdeal.Reading

open Cert.Relu2RefIdeal Gen Read Idealize.ShloMosaic TcCoe
open Cert.Relu2Ideal.Reading (cell spec)

/-- Where the pre-activation is positive the two equal terms of the product rule add to twice one of them; where it is
    not, the derivative is zero, and so is its positive part. -/
lemma gate (g p : EReal) : (if 0 < p then max p 0 * g + g * max p 0 else 0) = g * (2 * max p 0) := by
  split
  · rename_i h
    rw [mul_comm (max p 0) g, max_eq_left h.le, show (2 : EReal) = 1 + 1 from (one_add_one_eq_two).symm,
      EReal.right_distrib_of_nonneg zero_le_one zero_le_one, one_mul, EReal.left_distrib_of_nonneg h.le h.le]
  · rename_i h
    rw [max_eq_right (not_lt.1 h), mul_zero, mul_zero]

lemma weight_apply (w : FVec Ideal S1x4096x1024 .f32) (l : Fin 4096) (k : Fin 1024) :
    val_main_v5 (F := Ideal) w (ix2 l k) = w (ix3 0 l k) :=
  Places.drop1 w _ l k

lemma dh_apply (w : FVec Ideal S1x4096x1024 .f32) (ct : FVec Ideal S8192x1024 .f32) (i : S8192x4096.Idx) :
    val_main_v7 (F := Ideal) w ct i = ∑ k : Fin 1024, ct (ix2 (i 0) k) * w (ix3 0 (i 1) k) := by
  rw [val_main_v7_apply]
  refine Finset.sum_congr rfl fun k _ => ?_
  refine congrArg₂ (· * ·) (congrArg ct (Places.ext2 rfl rfl)) (Eq.trans (congrArg _ ?_) (weight_apply w (i 1) k))
  exact Places.ext2 rfl rfl

lemma reference_apply (pre : FVec Ideal S8192x4096 .f32) (w : FVec Ideal S1x4096x1024 .f32)
    (ct : FVec Ideal S8192x1024 .f32) : val_main_v13 (F := Ideal) pre w ct = spec pre w ct := by
  funext i
  have hz : (Ideal.ofBits .f32 0x00000000#32 : EReal) = 0 := by simp
  rw [val_main_v13_apply, val_main_v12_apply, val_main_v2_apply, val_main_v10_apply, val_main_v8_apply,
    val_main_v9_apply, val_main_v0_apply, val_main_v1_apply, val_main_v11_apply, val_main_call0_v0_apply,
    val_main_cst_apply, val_main_cst_1_apply, val_main_call0_cst_apply, dh_apply]
  unfold spec cell
  generalize (∑ k : Fin 1024, ct (ix2 (i 0) k) * w (ix3 0 (i 1) k) : EReal) = g
  rw [← gate]
  generalize pre i = p
  pointwise

end Cert.Relu2RefIdeal.Reading

end
-- ==== Proof.Relu2Claims.lean ====
/-
  The claims about the squared-relu gate's backward call.
-/
module

public import proofs.«01_k».proof.Defs
public import proofs.«01_k».proof.Proof.Gen.Relu2.Frame
public import proofs.«01_k».proof.Proof.Relu2Ref

@[expose] public section

noncomputable section

namespace Cert.Proof.Relu2

open Idealize.ShloMosaic TcCoe Idealize.SL.Sem

lemma frame : Cert.quiescent_Relu2 := fun m ρ _ => Cert.Relu2.Gen.frame m ρ

lemma frame_ideal : Cert.quiescent_Relu2Ideal := fun m ρ _ => Cert.Relu2Ideal.Gen.frame m ρ

lemma frame_ref : Cert.quiescent_Relu2RefIdeal := fun m ρ _ =>
  (θ_run Cert.Relu2RefIdeal.defs _ _).mono
    (fun r h => ⟨fun c => (h c).2, sem_eq_zero_of_no_sems (by decide) r.2⟩)
    (Cert.Relu2RefIdeal.Value.run m ρ)

lemma algebraic : Cert.algebraic_Relu2Ideal_Relu2RefIdeal := fun m ρ m' ρ' _ hag =>
  ⟨fun c => Cert.Relu2Ideal.Reading.G m c,
    (θ_run Cert.Relu2Ideal.defs _ _).mono
      (fun _ h c => ⟨(h c).1.trans (Cert.Relu2Ideal.Reading.final m c), (h c).2⟩)
      (Cert.Relu2Ideal.Value.run_blocks m ρ),
    (θ_run Cert.Relu2RefIdeal.defs _ _).mono
      (fun _ h c => ⟨(h c).1.trans (by
        rw [Cert.Relu2RefIdeal.Read.val_main_v13_eq, Cert.Relu2RefIdeal.Reading.reference_apply,
          (hag c).1, (hag c).2.1, (hag c).2.2]), (h c).2⟩)
      (Cert.Relu2RefIdeal.Value.run m' ρ')⟩

end Cert.Proof.Relu2

end
-- ==== Proof.Reals.lean ====
/-
  Extended reals that are real: sums, largest elements and softmax rows of real numbers stay real.
-/
module

public import Idealize.ShloMosaic.Lib.Pointwise
public import Idealize.ShloMosaic.Lib.Tactic
public import Idealize.ShloMosaic.Lib.ReduceAll
public import Idealize.ShloMosaic.Lib.WordCmp

@[expose] public section

noncomputable section

namespace Cert.Reals

open Idealize.ShloMosaic

/-- A sum of real numbers is the same sum among the extended reals. -/
lemma coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The largest of finitely many real numbers, at least one, is a real number. -/
lemma fold_max_coe {n : ℕ} (hn : 0 < n) (f : Fin n → ℝ) :
    ∃ M : ℝ, Finset.fold max (⊥ : EReal) (fun i => (f i : EReal)) Finset.univ = (M : EReal) := by
  have h : ∀ s : Finset (Fin n), s.Nonempty → ∃ M : ℝ, Finset.fold max (⊥ : EReal) (fun i => (f i : EReal)) s = (M : EReal) := by
    intro s hs
    induction hs using Finset.Nonempty.cons_induction with
    | singleton a => exact ⟨f a, by simp⟩
    | cons a s ha _ ih =>
      obtain ⟨M, hM⟩ := ih
      exact ⟨max (f a) M, by rw [Finset.fold_cons, hM]; exact (EReal.coe_strictMono.monotone.map_max).symm⟩
  exact h _ ⟨⟨0, hn⟩, Finset.mem_univ _⟩

/-- The largest of a non-empty set's real numbers is a real number. -/
lemma max_coe {ι : Type} (s : Finset ι) (hs : s.Nonempty) (x : ι → EReal) (f : ι → ℝ) (hx : ∀ i, x i = (f i : EReal)) :
    ∃ M : ℝ, Finset.fold max (⊥ : EReal) x s = (M : EReal) := by
  induction hs using Finset.Nonempty.cons_induction with
  | singleton a => exact ⟨f a, by simp [hx]⟩
  | cons a s ha _ ih =>
    obtain ⟨M, hM⟩ := ih
    exact ⟨max (f a) M, by rw [Finset.fold_cons, hM, hx]; exact (EReal.coe_strictMono.monotone.map_max).symm⟩

/-- A sum of exponentials is positive. -/
lemma sum_exp_pos {n : ℕ} (hn : 0 < n) (a : Fin n → ℝ) : 0 < ∑ k, Real.exp (a k) :=
  Finset.sum_pos (fun _ _ => Real.exp_pos _) ⟨⟨0, hn⟩, Finset.mem_univ _⟩

/-- A row's softmax. -/
def soft {n : ℕ} (a : Fin n → ℝ) (j : Fin n) : ℝ := Real.exp (a j) / ∑ k, Real.exp (a k)

/-- A softmax does not change when one number is taken from the whole row. -/
lemma soft_shift {n : ℕ} (a : Fin n → ℝ) (M : ℝ) (j : Fin n) :
    Real.exp (a j - M) / ∑ k, Real.exp (a k - M) = soft a j := by
  unfold soft
  simp only [Real.exp_sub, ← Finset.sum_div]
  rw [div_div_div_cancel_right₀ (Real.exp_ne_zero M)]

/-- A quotient of real numbers, the divisor positive. -/
lemma div_coe (a b : ℝ) (h : b ≠ 0) : Ideal.div (a : EReal) (b : EReal) = ((a / b : ℝ) : EReal) := by
  rw [Ideal.div_coe h, ← EReal.coe_mul, mul_one_div]

/-- A softmax's denominator, from a row less some number. -/
lemma sum_exp_sub {n : ℕ} (a : Fin n → ℝ) (M : ℝ) :
    (∑ k, Ideal.exp ((a k : EReal) - (M : EReal))) = ((∑ k, Real.exp (a k - M) : ℝ) : EReal) := by
  simp only [← EReal.coe_sub, Ideal.exp_coe, coe_sum]

/-- The same with the sum's inverse a factor. -/
lemma soft_mul {n : ℕ} (a : Fin n → ℝ) (M : ℝ) (j : Fin n) :
    Ideal.exp ((a j : EReal) - (M : EReal)) * Ideal.div 1 (∑ k, Ideal.exp ((a k : EReal) - (M : EReal)))
      = ((soft a j : ℝ) : EReal) := by
  rw [sum_exp_sub, ← EReal.coe_sub, Ideal.exp_coe, ← EReal.coe_one,
    div_coe _ _ (sum_exp_pos (Nat.lt_of_le_of_lt (Nat.zero_le _) j.isLt) _).ne', ← EReal.coe_mul, mul_one_div, soft_shift]

/-- An array all of whose elements are real. -/
def AllReal {ι : Type} (x : ι → EReal) : Prop := ∃ r : ι → ℝ, ∀ i, x i = (r i : EReal)

lemma allReal_of_abs_lt {ι : Type} (x : ι → EReal) (h : ∀ i, max (x i) (-(x i)) < ⊤) : AllReal x := by
  refine ⟨fun i => (x i).toReal, fun i => (EReal.coe_toReal ?_ ?_).symm⟩
  · intro e; have := h i; rw [e] at this; simp at this
  · intro e; have := h i; rw [e] at this; simp at this

lemma top_f32 : (Ideal.ofBits .f32 0x7F800000#32 : EReal) = ⊤ := by simp [Ideal.ofBits, Ideal.ieee]

lemma bot_f32 : (Ideal.ofBits .f32 0xFF800000#32 : EReal) = ⊥ := by simp [Ideal.ofBits, Ideal.ieee]

/-- An array whose test «every absolute value is below infinity» reads true is real. -/
lemma allReal_of_test {s s' t u : Shape} [Subsingleton t.Idx] {axes : List (Fin s.rank)} {dims : Fin s'.rank → Fin s.rank}
    {x : FVec Ideal s .f32} {h : s'.BroadcastsInDim s dims} {init : u.Idx → BitVec 1} {hr : s.ReducesTo axes t}
    {hu : 0 < u.numel} {j : t.Idx}
    (e : Host.reduce IntOp.andi (cmpf .olt (Host.absf x) (broadcastInDim s dims h (constant s' .f32 0x7F800000#32)))
      init hr hu j = 1#1) : AllReal x := by
  refine allReal_of_abs_lt x fun i => ?_
  have := Host.reduce_andi_all _ init hr hu j e i
  pointwise at this
  rw [top_f32] at this
  by_contra hn
  rw [show (FloatOps.absf (x i) : EReal) = max (x i) (-(x i)) from rfl, decide_eq_false hn] at this
  exact absurd this (by decide)

end Cert.Reals

end
-- ==== Proof.XattnSpec.lean ====
/-
  The gradient of a softmax attention's heads over the reals, row by row: what the cross-attention's backward call and its
  reference both compute.
-/
module

public import proofs.«01_k».proof.Proof.Reals

@[expose] public section

noncomputable section

namespace Cert.Xatt

open Cert.Reals

/-- Column `d` of head `h` among the columns of a query row. -/
def scol (h : Fin 4) (d : Fin 256) : Fin 1024 := ⟨256 * h.val + d.val, by omega⟩
/-- Column `d` of head `h` among the keys of a memory row. -/
def kcol (h : Fin 4) (d : Fin 256) : Fin 2048 := ⟨256 * h.val + d.val, by omega⟩
/-- Column `d` of head `h` among the values of a memory row, which follow the keys. -/
def vcol (h : Fin 4) (d : Fin 256) : Fin 2048 := ⟨1024 + (256 * h.val + d.val), by omega⟩

variable (q : Fin 1024 → ℝ) (kv : Fin 256 → Fin 2048 → ℝ) (ct : Fin 1024 → ℝ) (h : Fin 4)

/-- A query row against key `j`. -/
def score (j : Fin 256) : ℝ := ∑ d, q (scol h d) * kv j (kcol h d)
/-- The softmax weight of key `j`. -/
def prob (j : Fin 256) : ℝ := soft (fun k => score q kv h k * (1 / 16)) j
/-- The cotangent of the weight of key `j`. -/
def dprob (j : Fin 256) : ℝ := ∑ d, ct (scol h d) * kv j (vcol h d)
/-- The cotangent of a row of scores, from its weights `p` and their cotangents `g`. -/
def back (p g : Fin 256 → ℝ) (j : Fin 256) : ℝ := p j * (g j - ∑ k, g k * p k) * (1 / 16)
/-- The cotangent of the query row's product with key `j`. -/
def dscore (j : Fin 256) : ℝ := back (prob q kv h) (dprob kv ct h) j
/-- The query row's gradient. -/
def dq (d : Fin 256) : ℝ := ∑ j, dscore q kv ct h j * kv j (kcol h d)

/-- What one query row adds to the gradient of key `j`. -/
def dk (j : Fin 256) (d : Fin 256) : ℝ := dscore q kv ct h j * q (scol h d)
/-- What one query row adds to the gradient of value `j`. -/
def dv (j : Fin 256) (d : Fin 256) : ℝ := prob q kv h j * ct (scol h d)

/-- The query row's gradient at column `c` of all heads. -/
def dqAt (c : Fin 1024) : ℝ := dq q kv ct ⟨c.val / 256, by omega⟩ ⟨c.val % 256, by omega⟩

/-- What one query row adds to the gradient of memory row `j` at column `c`: the keys' heads come first, then the values'. -/
def dkvAt (j : Fin 256) (c : Fin 2048) : ℝ :=
  if c.val < 1024 then dk q kv ct ⟨c.val / 256 % 4, by omega⟩ j ⟨c.val % 256, by omega⟩
  else dv q kv ct ⟨c.val / 256 % 4, by omega⟩ j ⟨c.val % 256, by omega⟩

lemma dqAt_scol (d : Fin 256) : dqAt q kv ct (scol h d) = dq q kv ct h d := by
  have e1 : (⟨(scol h d).val / 256, by omega⟩ : Fin 4) = h := Fin.ext (by show (256 * h.val + d.val) / 256 = h.val; omega)
  have e2 : (⟨(scol h d).val % 256, by omega⟩ : Fin 256) = d := Fin.ext (by show (256 * h.val + d.val) % 256 = d.val; omega)
  rw [dqAt, e1, e2]

lemma dkvAt_kcol (j d : Fin 256) : dkvAt q kv ct j (kcol h d) = dk q kv ct h j d := by
  have e1 : (⟨(kcol h d).val / 256 % 4, by omega⟩ : Fin 4) = h := Fin.ext (by show (256 * h.val + d.val) / 256 % 4 = h.val; omega)
  have e2 : (⟨(kcol h d).val % 256, by omega⟩ : Fin 256) = d := Fin.ext (by show (256 * h.val + d.val) % 256 = d.val; omega)
  rw [dkvAt, if_pos (by show 256 * h.val + d.val < 1024; omega), e1, e2]

lemma dkvAt_vcol (j d : Fin 256) : dkvAt q kv ct j (vcol h d) = dv q kv ct h j d := by
  have e1 : (⟨(vcol h d).val / 256 % 4, by omega⟩ : Fin 4) = h := Fin.ext (by show (1024 + (256 * h.val + d.val)) / 256 % 4 = h.val; omega)
  have e2 : (⟨(vcol h d).val % 256, by omega⟩ : Fin 256) = d := Fin.ext (by show (1024 + (256 * h.val + d.val)) % 256 = d.val; omega)
  rw [dkvAt, if_neg (by show ¬1024 + (256 * h.val + d.val) < 1024; omega), e1, e2]

end Cert.Xatt

end
-- ==== Proof.Matrices.lean ====
/-
  Matrices of extended reals that hold real numbers, and the rectangles of columns they are read and written by.
-/
module

public import proofs.«01_k».proof.Proof.Places
public import Idealize.ShloMosaic.Lib.Pipeline.ValueKit
public import Idealize.ShloMosaic.Lib.Pipeline.ReadBack

@[expose] public section

noncomputable section

namespace Cert.Reals

open Idealize.ShloMosaic

/-- A matrix whose elements are the real numbers `f`. -/
abbrev Holds {a b : Nat} (x : (⟨2, ![a, b]⟩ : Shape).Idx → EReal) (f : Fin a → Fin b → ℝ) : Prop :=
  ∀ r j, x (ix2 r j) = ((f r j : ℝ) : EReal)

/-- The real numbers `f` as a matrix. -/
def mat {a b : Nat} (f : Fin a → Fin b → ℝ) : (⟨2, ![a, b]⟩ : Shape).Idx → EReal := fun y => ((f (y 0) (y 1) : ℝ) : EReal)

lemma mat_holds {a b : Nat} (f : Fin a → Fin b → ℝ) : Holds (mat f) f := fun _ _ => rfl

lemma Holds.congr {a b : Nat} {x : (⟨2, ![a, b]⟩ : Shape).Idx → EReal} {f g : Fin a → Fin b → ℝ} (hx : Holds x f)
    (h : ∀ r j, f r j = g r j) : Holds x g := fun r j => (hx r j).trans (by rw [h r j])

lemma Holds.of_eq {a b : Nat} {x : (⟨2, ![a, b]⟩ : Shape).Idx → EReal} {f : Fin a → Fin b → ℝ}
    (h : ∀ y, x y = mat f y) : Holds x f := fun r j => h (ix2 r j)

/-- All rows of some columns of such a matrix. -/
lemma cols {A B b n : Nat} {x : (⟨2, ![A, B]⟩ : Shape).Idx → EReal} {f : Fin A → Fin B → ℝ} (hx : Holds x f)
    (e : Fin n → Fin B) (he : ∀ l, (e l).val = b + l.val)
    (inb : ∀ i, (![0, b] : Fin 2 → Nat) i + (![A, n] : Fin 2 → Nat) i ≤ (⟨2, ![A, B]⟩ : Shape).size i) :
    Holds (fun y => x ((Rect.unit (s := ⟨2, ![A, B]⟩) ![0, b] ![A, n] inb).emb y)) fun r l => f r (e l) := by
  intro r l
  refine Eq.trans ?_ (hx r (e l))
  exact congrArg x ((Places.emb2 inb r l).trans (Places.ext2 (Nat.zero_add _) (he l).symm))

/-- A load of all rows of some columns, of either float format. -/
lemma ld_cols {A B b n : Nat} {x : (⟨2, ![A, B]⟩ : Shape).Idx → EReal} {f : Fin A → Fin B → ℝ} (hx : Holds x f)
    (e : Fin n → Fin B) (he : ∀ l, (e l).val = b + l.val)
    (inb : ∀ i, (![0, b] : Fin 2 → Nat) i + (![A, n] : Fin 2 → Nat) i ≤ (⟨2, ![A, B]⟩ : Shape).size i) :
    Holds (View.ld (Val := Elt Ideal) (e' := .bf16) x (Rect.unit (s := ⟨2, ![A, B]⟩) ![0, b] ![A, n] inb)) fun r l => f r (e l) :=
  cols hx e he inb

lemma ld_cols32 {A B b n : Nat} {x : (⟨2, ![A, B]⟩ : Shape).Idx → EReal} {f : Fin A → Fin B → ℝ} (hx : Holds x f)
    (e : Fin n → Fin B) (he : ∀ l, (e l).val = b + l.val)
    (inb : ∀ i, (![0, b] : Fin 2 → Nat) i + (![A, n] : Fin 2 → Nat) i ≤ (⟨2, ![A, B]⟩ : Shape).size i) :
    Holds (View.ld (Val := Elt Ideal) (e' := .f32) x (Rect.unit (s := ⟨2, ![A, B]⟩) ![0, b] ![A, n] inb)) fun r l => f r (e l) :=
  cols hx e he inb

/-- A store of some columns is a block of the matrix of `g` when the stored numbers are `g`'s. -/
lemma piece_cols {A B b n : Nat} {v : (⟨2, ![A, n]⟩ : Shape).Idx → EReal} {f : Fin A → Fin n → ℝ} (hv : Holds v f)
    (g : Fin A → Fin B → ℝ) (e : Fin n → Fin B) (he : ∀ l, (e l).val = b + l.val) (h : ∀ r l, f r l = g r (e l))
    (inb : ∀ i, (![0, b] : Fin 2 → Nat) i + (![A, n] : Fin 2 → Nat) i ≤ (⟨2, ![A, B]⟩ : Shape).size i)
    (x : (⟨2, ![A, n]⟩ : Shape).Idx) :
    v x = mat g ((Rect.unit (s := ⟨2, ![A, B]⟩) ![0, b] ![A, n] inb).emb x) := by
  obtain ⟨r, l, rfl⟩ := Places.is2 x
  rw [hv r l, h r l, (Places.emb2 inb r l).trans (Places.ext2 (y := ix2 r (e l)) (Nat.zero_add _) (he l).symm)]
  rfl

end Cert.Reals

end
-- ==== Proof.XattnPay.lean ====
/-
  The cross-attention backward call's arithmetic on one block, read element by element over the reals.
-/
module

public import proofs.«01_k».proof.Proof.Gen.XattnIdeal.Skeleton
public import proofs.«01_k».proof.Proof.XattnSpec
public import proofs.«01_k».proof.Proof.Matrices

@[expose] public section

noncomputable section

namespace Cert.XattnIdeal.Pay

open Cert.XattnIdeal Gen Idealize.ShloMosaic TcCoe
open Cert.Reals Cert.Xatt

lemma sixteenth : (Ideal.ofBits .f32 0x3D800000#32 : EReal) = ((1 / 16 : ℝ) : EReal) := by
  simp [Ideal.ofBits, Ideal.ieee, -EReal.coe_mul]; norm_num

lemma nt {a b} {v3 v5} (ha : Holds v3 a) (hb : Holds v5 b) :
    Holds (k0_pay4 (F := Ideal) v3 v5) fun r j => ∑ d, a r d * b j d := by
  intro r j
  pointwise [k0_pay4]
  simp only [ha _ _, hb _ _, ← EReal.coe_mul, coe_sum]

lemma probs {s} {v7} (hs : Holds v7 s) :
    Holds (k0_pay12 (F := Ideal) v7) fun r j => soft (fun k => s r k * (1 / 16)) j := by
  intro r j
  pointwise [k0_pay12]
  simp only [hs _ _, bot_f32, sixteenth, ← EReal.coe_mul]
  obtain ⟨M, hM⟩ := fold_max_coe (n := 256) (by norm_num) fun k => s r k * (1 / 16)
  rw [hM]
  exact soft_mul (fun k => s r k * (1 / 16)) M j

lemma dscores {p g v7 v8} (hg : Holds v7 g) (hp : Holds v8 p) :
    Holds (k0_pay18 (F := Ideal) v7 v8) fun r j => back (p r) (g r) j := by
  intro r j
  pointwise [k0_pay18]
  simp only [hg _ _, hp _ _, sixteenth, ← EReal.coe_mul, coe_sum, ← EReal.coe_sub]
  rfl

lemma tn {p g acc v7 v8 v9} (hp : Holds v7 p) (ha : Holds v8 acc) (hg : Holds v9 g) :
    Holds (k0_pay23 (F := Ideal) v7 v8 v9) fun j d => acc j d + ∑ r, p r j * g r d := by
  intro r j
  pointwise [k0_pay23]
  simp only [ha _ _, hg _ _, hp _ _, ← EReal.coe_mul, coe_sum, ← EReal.coe_add]

lemma nn {p k v7 v8} (hp : Holds v7 p) (hk : Holds v8 k) :
    Holds (k0_pay24 (F := Ideal) v7 v8) fun r d => ∑ j, p r j * k j d := by
  intro r j
  pointwise [k0_pay24]
  simp only [hk _ _, hp _ _, ← EReal.coe_mul, coe_sum, ← EReal.coe_add]

lemma tn' {p g acc v7 v8 v9} (hp : Holds v7 p) (ha : Holds v8 acc) (hg : Holds v9 g) :
    Holds (k0_pay1 (F := Ideal) v7 v8 v9) fun j d => acc j d + ∑ r, p r j * g r d := by
  intro r j
  pointwise [k0_pay1]
  simp only [ha _ _, hg _ _, hp _ _, ← EReal.coe_mul, coe_sum, ← EReal.coe_add]

/-! ## The other heads' copies of the same arithmetic -/

section Copies

variable {F : FTy → Type} [FloatOps F]

lemma pay5_eq : k0_pay5 (F := F) = k0_pay4 := rfl
lemma pay6_eq : k0_pay6 (F := F) = k0_pay4 := rfl
lemma pay7_eq : k0_pay7 (F := F) = k0_pay4 := rfl
lemma pay8_eq : k0_pay8 (F := F) = k0_pay4 := rfl
lemma pay9_eq : k0_pay9 (F := F) = k0_pay4 := rfl
lemma pay10_eq : k0_pay10 (F := F) = k0_pay4 := rfl
lemma pay11_eq : k0_pay11 (F := F) = k0_pay4 := rfl
lemma pay15_eq (x : FVec F S512x256 .f32) : k0_pay15 (k0_pay13 x) (k0_pay14 x) = k0_pay12 x := rfl
lemma pay16_eq : k0_pay16 (F := F) = k0_pay12 := rfl
lemma pay17_eq : k0_pay17 (F := F) = k0_pay12 := rfl
lemma pay19_eq (g x : FVec F S512x256 .f32) : k0_pay19 g (k0_pay13 x) (k0_pay14 x) = k0_pay18 g (k0_pay12 x) := rfl
lemma pay21_eq (g x : FVec F S512x256 .f32) : k0_pay21 g (k0_pay12 x) (k0_pay20 x g) = k0_pay18 g (k0_pay12 x) := rfl
lemma pay22_eq : k0_pay22 (F := F) = k0_pay18 := rfl
lemma pay27_eq : k0_pay27 (F := F) = k0_pay23 := rfl
lemma pay31_eq (p : FVec F S512x256 .f32) (a g) : k0_pay31 (k0_pay30 p a g) = k0_pay23 p a g := rfl
lemma pay34_eq : k0_pay34 (F := F) = k0_pay23 := rfl
lemma pay28_eq : k0_pay28 (F := F) = k0_pay24 := rfl
lemma pay32_eq : k0_pay32 (F := F) = k0_pay24 := rfl
lemma pay35_eq : k0_pay35 (F := F) = k0_pay24 := rfl
lemma pay26_eq (p : FVec F S512x256 .bf16) (a g) : k0_pay26 (k0_pay25 p a g) = k0_pay1 p a g := rfl
lemma pay29_eq : k0_pay29 (F := F) = k0_pay1 := rfl
lemma pay33_eq : k0_pay33 (F := F) = k0_pay1 := rfl

end Copies

lemma zero : Holds (k0_pay3 (F := Ideal)) fun _ _ => 0 := by
  intro r j
  pointwise [k0_pay3]
  exact EReal.coe_zero.symm

lemma pay2_at (v : Vec Ideal S256x2048 .f32) (y : S256x2048.Idx) : k0_pay2 v y = v y := rfl

end Cert.XattnIdeal.Pay

end
-- ==== Proof.XattnBlock.lean ====
/-
  What one point of the cross-attention backward call leaves in its block of the queries' gradient and in its accumulator,
  from blocks that hold real numbers.
-/
module

public import proofs.«01_k».proof.Proof.Gen.XattnIdeal.Value
public import proofs.«01_k».proof.Proof.XattnPay

@[expose] public section

noncomputable section

namespace Cert.XattnIdeal.Reading

open Cert.XattnIdeal Gen Value Cert.XattnIdeal.Pay
open Idealize.ShloMosaic TcCoe Idealize.SL.Sem
open Cert.Reals Cert.Xatt

/-! ## One head -/

section Head

variable {x0 x2 : Vec Ideal S512x1024 .bf16} {x1 : Vec Ideal S256x2048 .bf16} {xs : Vec Ideal S256x2048 .f32}
variable {q ct : Fin 512 → Fin 1024 → ℝ} {kv acc : Fin 256 → Fin 2048 → ℝ}

/-- A head's probabilities. -/
lemma head_probs (hq : Holds x0 q) (hkv : Holds x1 kv) (h : Fin 4) {o : Nat} (ho : o = 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i) :
    Holds (k0_pay12 (k0_pay4 (View.ld x0 (Rect.unit ![0, o] ![512, 256] i1)) (View.ld x1 (Rect.unit ![0, o] ![256, 256] i2))))
      fun r j => prob (q r) kv h j := by
  subst ho
  exact probs (nt (ld_cols hq (scol h) (fun _ => rfl) i1) (ld_cols hkv (kcol h) (fun _ => rfl) i2))

/-- A head's gradient of its scores. -/
lemma head_dscores (hq : Holds x0 q) (hkv : Holds x1 kv) (hct : Holds x2 ct) (h : Fin 4) {o o' : Nat} (ho : o = 256 * h.val)
    (ho' : o' = 1024 + 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i)
    (i3 : ∀ i, (![0, o'] : Fin 2 → Nat) i + (![256, 256] : Fin 2 → Nat) i ≤ S256x2048.size i) :
    Holds (k0_pay18 (k0_pay4 (View.ld x2 (Rect.unit ![0, o] ![512, 256] i1)) (View.ld x1 (Rect.unit ![0, o'] ![256, 256] i3)))
        (k0_pay12 (k0_pay4 (View.ld x0 (Rect.unit ![0, o] ![512, 256] i1)) (View.ld x1 (Rect.unit ![0, o] ![256, 256] i2)))))
      fun r j => dscore (q r) kv (ct r) h j := by
  have hp := head_probs hq hkv h ho i1 i2
  subst ho ho'
  exact dscores (nt (ld_cols hct (scol h) (fun _ => rfl) i1)
    (ld_cols hkv (vcol h) (fun l => (Nat.add_assoc _ _ _).symm) i3)) hp

/-- A head's block of the queries' gradient. -/
lemma head_dq (hq : Holds x0 q) (hkv : Holds x1 kv) (hct : Holds x2 ct) (h : Fin 4) {o o' : Nat} (ho : o = 256 * h.val)
    (ho' : o' = 1024 + 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i)
    (i3 : ∀ i, (![0, o'] : Fin 2 → Nat) i + (![256, 256] : Fin 2 → Nat) i ≤ S256x2048.size i) (x : S512x256.Idx) :
    k0_pay24 (k0_pay18 (k0_pay4 (View.ld x2 (Rect.unit ![0, o] ![512, 256] i1)) (View.ld x1 (Rect.unit ![0, o'] ![256, 256] i3)))
        (k0_pay12 (k0_pay4 (View.ld x0 (Rect.unit ![0, o] ![512, 256] i1)) (View.ld x1 (Rect.unit ![0, o] ![256, 256] i2)))))
        (View.ld x1 (Rect.unit ![0, o] ![256, 256] i2)) x
      = mat (fun r c => dqAt (q r) kv (ct r) c) ((Rect.unit (s := S512x1024) ![0, o] ![512, 256] i1).emb x) := by
  have hs := head_dscores hq hkv hct h ho ho' i1 i2 i3
  subst ho ho'
  exact piece_cols (nn hs (ld_cols hkv (kcol h) (fun _ => rfl) i2)) _ (scol h) (fun _ => rfl)
    (fun r d => (dqAt_scol (q r) kv (ct r) h d).symm) i1 x

/-- A head's block of the keys' accumulator. -/
lemma head_dk (hq : Holds x0 q) (hkv : Holds x1 kv) (hct : Holds x2 ct) (ha : Holds xs acc) (h : Fin 4) {o o' : Nat}
    (ho : o = 256 * h.val) (ho' : o' = 1024 + 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i)
    (i3 : ∀ i, (![0, o'] : Fin 2 → Nat) i + (![256, 256] : Fin 2 → Nat) i ≤ S256x2048.size i) (x : S256x256.Idx) :
    k0_pay1 (k0_pay18 (k0_pay4 (View.ld x2 (Rect.unit ![0, o] ![512, 256] i1)) (View.ld x1 (Rect.unit ![0, o'] ![256, 256] i3)))
        (k0_pay12 (k0_pay4 (View.ld x0 (Rect.unit ![0, o] ![512, 256] i1)) (View.ld x1 (Rect.unit ![0, o] ![256, 256] i2)))))
        (View.ld xs (Rect.unit ![0, o] ![256, 256] i2)) (View.ld x0 (Rect.unit ![0, o] ![512, 256] i1)) x
      = mat (fun j c => acc j c + ∑ r, dkvAt (q r) kv (ct r) j c) ((Rect.unit (s := S256x2048) ![0, o] ![256, 256] i2).emb x) := by
  have hs := head_dscores hq hkv hct h ho ho' i1 i2 i3
  subst ho ho'
  refine piece_cols (tn' hs (ld_cols32 ha (kcol h) (fun _ => rfl) i2) (ld_cols hq (scol h) (fun _ => rfl) i1)) _ (kcol h)
    (fun _ => rfl) (fun j d => ?_) i2 x
  simp only [dkvAt_kcol, dk]

/-- A head's block of the values' accumulator. -/
lemma head_dv (hq : Holds x0 q) (hkv : Holds x1 kv) (hct : Holds x2 ct) (ha : Holds xs acc) (h : Fin 4) {o o' : Nat}
    (ho : o = 256 * h.val) (ho' : o' = 1024 + 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i)
    (i3 : ∀ i, (![0, o'] : Fin 2 → Nat) i + (![256, 256] : Fin 2 → Nat) i ≤ S256x2048.size i) (x : S256x256.Idx) :
    k0_pay23 (k0_pay12 (k0_pay4 (View.ld x0 (Rect.unit ![0, o] ![512, 256] i1)) (View.ld x1 (Rect.unit ![0, o] ![256, 256] i2))))
        (View.ld xs (Rect.unit ![0, o'] ![256, 256] i3)) (View.ld x2 (Rect.unit ![0, o] ![512, 256] i1)) x
      = mat (fun j c => acc j c + ∑ r, dkvAt (q r) kv (ct r) j c) ((Rect.unit (s := S256x2048) ![0, o'] ![256, 256] i3).emb x) := by
  have hp := head_probs hq hkv h ho i1 i2
  subst ho ho'
  refine piece_cols (tn hp (ld_cols32 ha (vcol h) (fun l => (Nat.add_assoc _ _ _).symm) i3)
    (ld_cols hct (scol h) (fun _ => rfl) i1)) _ (vcol h) (fun l => (Nat.add_assoc _ _ _).symm) (fun j d => ?_) i3 x
  simp only [dkvAt_vcol, dv]

end Head

/-! ## One point -/

variable (m : (ℓ : Loc nD τ sig) → Buf (Elt Ideal) ℓ)
variable {q ct : Fin 512 → Fin 1024 → ℝ} {kv acc : Fin 256 → Fin 2048 → ℝ}

/-- A point's block of the queries' gradient, at every point. -/
lemma dq_block (c : Dev nD) (t : Fin cfg0.N) (hq : Holds (iblk m c 0 t) q) (hkv : Holds (iblk m c 1 t) kv)
    (hct : Holds (iblk m c 2 t) ct) (y : S512x1024.Idx) :
    (outsAt0 m c t.val t.isLt).1 y = mat (fun r c => dqAt (q r) kv (ct r) c) y := by
  have key : ∀ {L : List (View.Piece (Elt Ideal) S512x1024 .bf16)}, View.PiecesOf (mat fun r c => dqAt (q r) kv (ct r) c) L →
      View.Piece.tiledL L ![512, 256] = true → View.canon L y = mat (fun r c => dqAt (q r) kv (ct r) c) y := fun h hc =>
    View.canon_apply_of_pieces (e := .bf16) _ _ h.mem y (View.cover_of_tiledL _ ![512, 256] hc y)
  by_cases h0 : t.val % 4 = 0
  · rw [outsAt0_A m c t h0 (by omega)]
    frame_open
    simp (disch := decide) only [↓ View.readCov_skip, ↓ View.readCov_cons_toLoadRect, ↓ View.readCov_fill]
    frame_out
    simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq]
    exact key (L := [_, _, _, _]) ⟨fun x => head_dq hq hkv hct 3 rfl rfl _ _ _ x, fun x => head_dq hq hkv hct 2 rfl rfl _ _ _ x,
      fun x => head_dq hq hkv hct 1 rfl rfl _ _ _ x, fun x => head_dq hq hkv hct 0 rfl rfl _ _ _ x, trivial⟩ (by sl_kernel_rfl)
  · by_cases h1 : t.val % 4 = 3
    · rw [outsAt0_C m c t h0 h1]
      frame_open
      simp (disch := decide) only [↓ View.readCov_skip, ↓ View.readCov_cons_toLoadRect, ↓ View.readCov_fill]
      frame_out
      simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq]
      exact key (L := [_, _, _, _]) ⟨fun x => head_dq hq hkv hct 3 rfl rfl _ _ _ x, fun x => head_dq hq hkv hct 2 rfl rfl _ _ _ x,
        fun x => head_dq hq hkv hct 1 rfl rfl _ _ _ x, fun x => head_dq hq hkv hct 0 rfl rfl _ _ _ x, trivial⟩ (by sl_kernel_rfl)
    · rw [outsAt0_B m c t h0 h1]
      frame_open
      simp (disch := decide) only [↓ View.readCov_skip, ↓ View.readCov_cons_toLoadRect, ↓ View.readCov_fill]
      frame_out
      simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq]
      exact key (L := [_, _, _, _]) ⟨fun x => head_dq hq hkv hct 3 rfl rfl _ _ _ x, fun x => head_dq hq hkv hct 2 rfl rfl _ _ _ x,
        fun x => head_dq hq hkv hct 1 rfl rfl _ _ _ x, fun x => head_dq hq hkv hct 0 rfl rfl _ _ _ x, trivial⟩ (by sl_kernel_rfl)

/-- The accumulator after a point that clears it first. -/
lemma acc_reset (c : Dev nD) (t : Fin cfg0.N) (h0 : t.val % 4 = 0) (hq : Holds (iblk m c 0 t) q)
    (hkv : Holds (iblk m c 1 t) kv) (hct : Holds (iblk m c 2 t) ct) :
    Holds (outsAt0 m c t.val t.isLt).2.2 fun j c => 0 + ∑ r, dkvAt (q r) kv (ct r) j c := by
  refine Holds.of_eq fun y => ?_
  rw [outsAt0_A m c t h0 (by omega)]
  frame_open
  simp (disch := decide) only [↓ View.readCov_skip, ↓ View.readCov_cons_toLoadRect, ↓ View.readCov_fill]
  frame_out
  simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq]
  exact View.canon_append_of_piecesOf (Val := Elt Ideal) (e := .f32)
    (mat fun j c => 0 + ∑ r, dkvAt (q r) kv (ct r) j c) [_] [_, _, _, _, _, _, _, _]
    ⟨fun x => head_dk hq hkv hct zero 3 rfl rfl _ _ _ x, fun x => head_dv hq hkv hct zero 3 rfl rfl _ _ _ x,
      fun x => head_dk hq hkv hct zero 2 rfl rfl _ _ _ x, fun x => head_dv hq hkv hct zero 2 rfl rfl _ _ _ x,
      fun x => head_dk hq hkv hct zero 1 rfl rfl _ _ _ x, fun x => head_dv hq hkv hct zero 1 rfl rfl _ _ _ x,
      fun x => head_dk hq hkv hct zero 0 rfl rfl _ _ _ x, fun x => head_dv hq hkv hct zero 0 rfl rfl _ _ _ x, trivial⟩ y
    (View.cover_of_tiledL _ ![256, 256] (by sl_kernel_rfl) y)

/-- The accumulator after a point that adds to it. -/
lemma acc_step (c : Dev nD) (t : Fin cfg0.N) (h0 : ¬t.val % 4 = 0) (hq : Holds (iblk m c 0 t) q)
    (hkv : Holds (iblk m c 1 t) kv) (hct : Holds (iblk m c 2 t) ct)
    (ha : Holds (outsAt0 m c (t.val - 1) (Nat.lt_of_le_of_lt (Nat.sub_le _ _) t.isLt)).2.2 acc) :
    Holds (outsAt0 m c t.val t.isLt).2.2 fun j c => acc j c + ∑ r, dkvAt (q r) kv (ct r) j c := by
  refine Holds.of_eq fun y => ?_
  have key : ∀ {L : List (View.Piece (Elt Ideal) S256x2048 .f32)},
      View.PiecesOf (mat fun j c => acc j c + ∑ r, dkvAt (q r) kv (ct r) j c) L →
      View.Piece.tiledL L ![256, 256] = true → View.canon L y = mat (fun j c => acc j c + ∑ r, dkvAt (q r) kv (ct r) j c) y := fun h hc =>
    View.canon_apply_of_pieces (e := .f32) _ _ h.mem y (View.cover_of_tiledL _ ![256, 256] hc y)
  by_cases h1 : t.val % 4 = 3
  · rw [outsAt0_C m c t h0 h1]
    frame_open
    simp (disch := decide) only [↓ View.readCov_skip, ↓ View.readCov_cons_toLoadRect, ↓ View.readCov_fill]
    frame_out
    simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq, read_unread_whole]
    exact key (L := [_, _, _, _, _, _, _, _]) ⟨fun x => head_dk hq hkv hct ha 3 rfl rfl _ _ _ x,
    fun x => head_dv hq hkv hct ha 3 rfl rfl _ _ _ x,
    fun x => head_dk hq hkv hct ha 2 rfl rfl _ _ _ x,
    fun x => head_dv hq hkv hct ha 2 rfl rfl _ _ _ x,
    fun x => head_dk hq hkv hct ha 1 rfl rfl _ _ _ x,
    fun x => head_dv hq hkv hct ha 1 rfl rfl _ _ _ x,
    fun x => head_dk hq hkv hct ha 0 rfl rfl _ _ _ x,
    fun x => head_dv hq hkv hct ha 0 rfl rfl _ _ _ x, trivial⟩ (by sl_kernel_rfl)
  · rw [outsAt0_B m c t h0 h1]
    frame_open
    simp (disch := decide) only [↓ View.readCov_skip, ↓ View.readCov_cons_toLoadRect, ↓ View.readCov_fill]
    frame_out
    simp only [pay5_eq, pay6_eq, pay7_eq, pay8_eq, pay9_eq, pay10_eq, pay11_eq, pay15_eq, pay16_eq, pay17_eq, pay19_eq, pay21_eq, pay22_eq,
      pay26_eq, pay27_eq, pay28_eq, pay29_eq, pay31_eq, pay32_eq, pay33_eq, pay34_eq, pay35_eq, read_unread_whole]
    exact key (L := [_, _, _, _, _, _, _, _]) ⟨fun x => head_dk hq hkv hct ha 3 rfl rfl _ _ _ x,
    fun x => head_dv hq hkv hct ha 3 rfl rfl _ _ _ x,
    fun x => head_dk hq hkv hct ha 2 rfl rfl _ _ _ x,
    fun x => head_dv hq hkv hct ha 2 rfl rfl _ _ _ x,
    fun x => head_dk hq hkv hct ha 1 rfl rfl _ _ _ x,
    fun x => head_dv hq hkv hct ha 1 rfl rfl _ _ _ x,
    fun x => head_dk hq hkv hct ha 0 rfl rfl _ _ _ x,
    fun x => head_dv hq hkv hct ha 0 rfl rfl _ _ _ x, trivial⟩ (by sl_kernel_rfl)

/-- A batch's last point copies the accumulator, as that point leaves it, to the memory's gradient. -/
lemma dkv_block (c : Dev nD) (t : Fin cfg0.N) (h1 : t.val % 4 = 3) (y : S256x2048.Idx) :
    (outsAt0 m c t.val t.isLt).2.1 y = (outsAt0 m c t.val t.isLt).2.2 y := by
  rw [outsAt0_C m c t (by omega) h1]
  frame_open
  frame_out
  rw [View.readCov_eq_canon']
  refine (pay2_at _ y).trans (congrArg (View.canon _) ?_)
  exact funext fun a => Fin.ext <| match a with
    | ⟨0, _⟩ => by show 0 + 1 * (y 0).val = (y 0).val; omega
    | ⟨1, _⟩ => by show 0 + 1 * (y 1).val = (y 1).val; omega

end Cert.XattnIdeal.Reading

end
-- ==== Proof.XattnRows.lean ====
/-
  The cross-attention's arrays as rows: the batches' query rows and memory rows one after another.
-/
module

public import proofs.«01_k».proof.Proof.XattnSpec
public import proofs.«01_k».proof.Proof.Matrices

@[expose] public section

noncomputable section

namespace Cert.Xatt

open Idealize.ShloMosaic

/-- The places of the queries: batch, position, column. -/
abbrev Queries := (⟨3, ![4, 2048, 1024]⟩ : Shape).Idx
/-- The places of the memory: batch, position, column. -/
abbrev Memory := (⟨3, ![4, 256, 2048]⟩ : Shape).Idx

/-- Query row `n` of all batches. -/
def qrow (x : Queries → ℝ) (n : Nat) (c : Fin 1024) : ℝ :=
  x (ix3 ⟨n / 2048 % 4, Nat.mod_lt _ (by decide)⟩ ⟨n % 2048, Nat.mod_lt _ (by decide)⟩ c)
/-- Memory row `n` of all batches. -/
def mrow (x : Memory → ℝ) (n : Nat) (c : Fin 2048) : ℝ :=
  x (ix3 ⟨n / 256 % 4, Nat.mod_lt _ (by decide)⟩ ⟨n % 256, Nat.mod_lt _ (by decide)⟩ c)

lemma qrow_at (x : Queries → ℝ) (b : Fin 4) (s : Fin 2048) : qrow x (2048 * b.val + s.val) = fun c => x (ix3 b s c) :=
  funext fun c => congrArg x (Places.ext3 (by show (2048 * b.val + s.val) / 2048 % 4 = b.val; omega)
    (by show (2048 * b.val + s.val) % 2048 = s.val; omega) rfl)

lemma mrow_at (x : Memory → ℝ) (b : Fin 4) (j : Fin 256) : mrow x (256 * b.val + j.val) = fun c => x (ix3 b j c) :=
  funext fun c => congrArg x (Places.ext3 (by show (256 * b.val + j.val) / 256 % 4 = b.val; omega)
    (by show (256 * b.val + j.val) % 256 = j.val; omega) rfl)

lemma qrow_read (X : Queries → ℝ) (x : Queries → EReal) (hx : ∀ i, x i = ((X i : ℝ) : EReal))
    (h : (⟨3, ![4, 2048, 1024]⟩ : Shape).ShapeCasts ⟨2, ![8192, 1024]⟩) (z : (⟨2, ![8192, 1024]⟩ : Shape).Idx) :
    shapeCast ⟨2, ![8192, 1024]⟩ x h z = ((qrow X (z 0).val (z 1) : ℝ) : EReal) := by
  have h0 : (z 0).val < 8192 := (z 0).isLt
  simp only [pointwise]
  refine (hx _).trans (congrArg (fun i => ((X i : ℝ) : EReal)) (Places.ext3 ?_ rfl rfl))
  show (z 0).val / 2048 = (z 0).val / 2048 % 4
  omega

lemma mrow_read (X : Memory → ℝ) (x : Memory → EReal) (hx : ∀ i, x i = ((X i : ℝ) : EReal))
    (h : (⟨3, ![4, 256, 2048]⟩ : Shape).ShapeCasts ⟨2, ![1024, 2048]⟩) (z : (⟨2, ![1024, 2048]⟩ : Shape).Idx) :
    shapeCast ⟨2, ![1024, 2048]⟩ x h z = ((mrow X (z 0).val (z 1) : ℝ) : EReal) := by
  have h0 : (z 0).val < 1024 := (z 0).isLt
  simp only [pointwise]
  refine (hx _).trans (congrArg (fun i => ((X i : ℝ) : EReal)) (Places.ext3 ?_ rfl rfl))
  show (z 0).val / 256 = (z 0).val / 256 % 4
  omega

variable (Q : Queries → ℝ) (KV : Memory → ℝ) (CT : Queries → ℝ)

/-- The queries' gradient, all batches' rows one after another. -/
def dqArr (n : Fin 8192) (c : Fin 1024) : ℝ :=
  dqAt (qrow Q n.val) (fun j => mrow KV (256 * (n.val / 2048) + j.val)) (qrow CT n.val) c

/-- The memory's gradient, all batches' rows one after another. -/
def dkvArr (n : Fin 1024) (c : Fin 2048) : ℝ :=
  ∑ s : Fin 2048, dkvAt (qrow Q (2048 * (n.val / 256) + s.val)) (fun j => mrow KV (256 * (n.val / 256) + j.val))
    (qrow CT (2048 * (n.val / 256) + s.val)) ⟨n.val % 256, Nat.mod_lt _ (by decide)⟩ c

lemma dkvArr_at (n : Fin 1024) (c : Fin 2048) : dkvArr Q KV CT n c
    = ∑ s : Fin 2048, dkvAt (fun c => Q (ix3 ⟨n.val / 256, by omega⟩ s c)) (fun j c => KV (ix3 ⟨n.val / 256, by omega⟩ j c))
        (fun c => CT (ix3 ⟨n.val / 256, by omega⟩ s c)) ⟨n.val % 256, Nat.mod_lt _ (by decide)⟩ c := by
  have e1 := fun s => qrow_at Q ⟨n.val / 256, by omega⟩ s
  have e2 := fun s => qrow_at CT ⟨n.val / 256, by omega⟩ s
  have e3 := fun j => mrow_at KV ⟨n.val / 256, by omega⟩ j
  unfold dkvArr
  simp only [e1, e2, e3]

end Cert.Xatt

end
-- ==== Proof.Runs.lean ====
/-
  A matrix accumulated over the points of a grid: the first point of each run of `J` points starts it anew, each later one
  adds its term to what the point before left.
-/
module

public import proofs.«01_k».proof.Proof.Matrices

@[expose] public section

noncomputable section

namespace Cert.Reals

open Idealize.ShloMosaic

/-- After point `t` the matrix holds the sum of the terms of its run's points up to `t`. -/
lemma holds_run {N a b : Nat} (f : (n : Nat) → n < N → (⟨2, ![a, b]⟩ : Shape).Idx → EReal) (J : Nat) (hJ : 0 < J)
    (term : Nat → Fin a → Fin b → ℝ)
    (h0 : ∀ (n : Nat) (hn : n < N), n % J = 0 → Holds (f n hn) fun j c => 0 + term n j c)
    (hs : ∀ (n : Nat) (hn : n < N), ¬n % J = 0 → ∀ acc, Holds (f (n - 1) (Nat.lt_of_le_of_lt (Nat.sub_le _ _) hn)) acc →
      Holds (f n hn) fun j c => acc j c + term n j c) :
    ∀ (n : Nat) (hn : n < N), Holds (f n hn) fun j c => ∑ k ∈ Finset.range (n % J + 1), term (J * (n / J) + k) j c := by
  intro n
  induction n with
  | zero =>
    intro hn
    refine (h0 0 hn (Nat.zero_mod _)).congr fun j c => ?_
    simp
  | succ n ih =>
    intro hn
    have e := Nat.div_add_mod (n + 1) J
    by_cases h : (n + 1) % J = 0
    · refine (h0 _ hn h).congr fun j c => ?_
      rw [h] at e ⊢
      rw [zero_add, Finset.sum_range_one, e]
    · refine (hs _ hn h _ (ih _)).congr fun j c => ?_
      have hm : (n + 1) % J = n % J + 1 := by
        rw [Nat.add_mod] at h ⊢
        rcases Nat.lt_or_ge 1 J with hj | hj
        · rw [Nat.mod_eq_of_lt hj] at h ⊢
          have := Nat.mod_lt n hJ
          rcases Nat.lt_or_ge (n % J + 1) J with hl | hl
          · exact Nat.mod_eq_of_lt hl
          · rw [show n % J + 1 = J by omega, Nat.mod_self] at h
            exact absurd rfl h
        · rw [show J = 1 by omega, Nat.mod_one] at h
          exact absurd rfl h
      have hd : (n + 1) / J = n / J := by
        have e' := Nat.div_add_mod n J
        rw [hm] at e
        exact Nat.eq_of_mul_eq_mul_left hJ (by omega)
      rw [hm, Finset.sum_range_succ _ (n % J + 1), hd]
      congr 2
      rw [hm, hd] at e
      omega

/-- The terms of a run, each a sum over a block of `n` consecutive places, are one sum over all `n * J` places. -/
lemma sum_blocks (g : Nat → ℝ) (n J o : Nat) :
    ∑ k ∈ Finset.range J, ∑ r : Fin n, g (n * (o + k) + r.val) = ∑ s : Fin (n * J), g (n * o + s.val) := by
  rw [Fin.sum_univ_eq_sum_range (fun s => g (n * o + s)) (n * J)]
  induction J with
  | zero => simp
  | succ J ih =>
    rw [Finset.sum_range_succ, ih, Nat.mul_succ, Finset.sum_range_add, Fin.sum_univ_eq_sum_range (fun s => g (n * (o + J) + s)) n]
    congr 1
    exact Finset.sum_congr rfl fun x _ => by rw [Nat.mul_add, Nat.add_assoc]

end Cert.Reals

end
-- ==== Proof.XattnValue.lean ====
/-
  The cross-attention backward call: what its two result arrays hold after the run, from argument arrays that hold real
  numbers.
-/
module

public import proofs.«01_k».proof.Proof.XattnBlock
public import proofs.«01_k».proof.Proof.XattnRows
public import proofs.«01_k».proof.Proof.Runs

@[expose] public section

noncomputable section

namespace Cert.XattnIdeal.Reading

open Cert.XattnIdeal Gen Value
open Idealize.ShloMosaic TcCoe Idealize.SL.Sem
open Idealize.ShloMosaic.Pipeline (Dat)
open Cert.Reals Cert.Xatt

variable (m : (ℓ : Loc nD τ sig) → Buf (Elt Ideal) ℓ)

/-! ## The windows' blocks -/

lemma ix : ∀ t : Fin cfg0.N, (win0_0.index t 0 = t.val ∧ win0_0.index t 1 = 0) ∧ (win0_1.index t 0 = t.val / 4 ∧ win0_1.index t 1 = 0) ∧ (win0_2.index t 0 = t.val ∧ win0_2.index t 1 = 0)
    ∧ (win0_3.index t 0 = t.val ∧ win0_3.index t 1 = 0) ∧ win0_4.index t 0 = t.val / 4 ∧ win0_4.index t 1 = 0 := by
  change ∀ t : Fin grid0.N, _; decide +kernel

lemma lt16 (t : Fin cfg0.N) : t.val < 16 := lt_of_lt_of_eq t.isLt N_0

variable {Q CT : Queries → ℝ} {KV : Memory → ℝ} {c : Dev nD}

lemma V_q (hq : ∀ i, m ((c : Thread nD τ).loc main_arg0) i = ((Q i : ℝ) : EReal)) (z : S8192x1024.Idx) :
    V m c main_v1 z = ((qrow Q (z 0).val (z 1) : ℝ) : EReal) := by
  have e : V m c main_v1 = shapeCast S8192x1024 (truncf (F := Ideal) (s := S4x2048x1024) .bf16 (m ((c : Thread nD τ).loc main_arg0)) bitsLt_bf16_f32) shapeCasts_S4x2048x1024_S8192x1024 := by
    unfold V hostOps0; after_results; rfl
  rw [e]
  exact qrow_read Q (truncf (F := Ideal) (s := S4x2048x1024) .bf16 (m ((c : Thread nD τ).loc main_arg0)) bitsLt_bf16_f32) hq _ z

lemma V_kv (hkv : ∀ i, m ((c : Thread nD τ).loc main_arg1) i = ((KV i : ℝ) : EReal)) (z : S1024x2048.Idx) :
    V m c main_v3 z = ((mrow KV (z 0).val (z 1) : ℝ) : EReal) := by
  have e : V m c main_v3 = shapeCast S1024x2048 (truncf (F := Ideal) (s := S4x256x2048) .bf16 (m ((c : Thread nD τ).loc main_arg1)) bitsLt_bf16_f32) shapeCasts_S4x256x2048_S1024x2048 := by
    unfold V hostOps0; after_results; rfl
  rw [e]
  exact mrow_read KV (truncf (F := Ideal) (s := S4x256x2048) .bf16 (m ((c : Thread nD τ).loc main_arg1)) bitsLt_bf16_f32) hkv _ z

lemma V_ct (hct : ∀ i, m ((c : Thread nD τ).loc main_arg2) i = ((CT i : ℝ) : EReal)) (z : S8192x1024.Idx) :
    V m c main_v5 z = ((qrow CT (z 0).val (z 1) : ℝ) : EReal) := by
  have e : V m c main_v5 = shapeCast S8192x1024 (truncf (F := Ideal) (s := S4x2048x1024) .bf16 (m ((c : Thread nD τ).loc main_arg2)) bitsLt_bf16_f32) shapeCasts_S4x2048x1024_S8192x1024 := by
    unfold V hostOps0; after_results; rfl
  rw [e]
  exact qrow_read CT (truncf (F := Ideal) (s := S4x2048x1024) .bf16 (m ((c : Thread nD τ).loc main_arg2)) bitsLt_bf16_f32) hct _ z

lemma blk0 (hq : ∀ i, m ((c : Thread nD τ).loc main_arg0) i = ((Q i : ℝ) : EReal)) (t : Fin cfg0.N) :
    Holds (iblk m c 0 t) fun r => qrow Q (512 * t.val + r.val) := by
  intro r l
  show V m c main_v1 _ = _
  refine (V_q m hq _).trans ?_
  congr 2
  · show win0_0.index t 0 * 512 + 1 * r.val = _
    rw [(ix t).1.1]; omega
  · refine Fin.ext ?_
    show win0_0.index t 1 * 1024 + 1 * l.val = _
    rw [(ix t).1.2]; omega

lemma blk1 (hkv : ∀ i, m ((c : Thread nD τ).loc main_arg1) i = ((KV i : ℝ) : EReal)) (t : Fin cfg0.N) :
    Holds (iblk m c 1 t) fun j => mrow KV (256 * (t.val / 4) + j.val) := by
  intro j l
  show V m c main_v3 _ = _
  refine (V_kv m hkv _).trans ?_
  congr 2
  · show win0_1.index t 0 * 256 + 1 * j.val = _
    rw [(ix t).2.1.1]; omega
  · refine Fin.ext ?_
    show win0_1.index t 1 * 2048 + 1 * l.val = _
    rw [(ix t).2.1.2]; omega

lemma blk2 (hct : ∀ i, m ((c : Thread nD τ).loc main_arg2) i = ((CT i : ℝ) : EReal)) (t : Fin cfg0.N) :
    Holds (iblk m c 2 t) fun r => qrow CT (512 * t.val + r.val) := by
  intro r l
  show V m c main_v5 _ = _
  refine (V_ct m hct _).trans ?_
  congr 2
  · show win0_2.index t 0 * 512 + 1 * r.val = _
    rw [(ix t).2.2.1.1]; omega
  · refine Fin.ext ?_
    show win0_2.index t 1 * 1024 + 1 * l.val = _
    rw [(ix t).2.2.1.2]; omega

/-! ## The queries' gradient -/

lemma mem_q (t : Fin cfg0.N) (i : S8192x1024.Idx) (h : t.val = (i 0).val / 512) :
    i ∈ ((cfg0.win 3).blk t).view.set := by
  show i ∈ ((View.whole main_v6_0).slice (win0_3.rect t)).set
  rw [View.set_slice_whole, Rect.mem_set_unit]
  have h1 : (i 1 : Nat) < 1024 := (i 1).isLt
  intro a
  match a with
  | ⟨0, _⟩ =>
    show win0_3.index t 0 * 512 ≤ (i 0 : Nat) ∧ (i 0 : Nat) < win0_3.index t 0 * 512 + 512
    rw [(ix t).2.2.2.1.1]; omega
  | ⟨1, _⟩ =>
    show win0_3.index t 1 * 1024 ≤ (i 1 : Nat) ∧ (i 1 : Nat) < win0_3.index t 1 * 1024 + 1024
    rw [(ix t).2.2.2.1.2]; omega

lemma final_q (hq : ∀ i, m ((c : Thread nD τ).loc main_arg0) i = ((Q i : ℝ) : EReal))
    (hkv : ∀ i, m ((c : Thread nD τ).loc main_arg1) i = ((KV i : ℝ) : EReal))
    (hct : ∀ i, m ((c : Thread nD τ).loc main_arg2) i = ((CT i : ℝ) : EReal)) :
    (dats m 0 c).arrAt 3 cfg0.N = mat (dqArr Q KV CT) := by
  refine (dats m 0 c).arrAt_eq_of_cover 3 (mat (dqArr Q KV CT)) (fun t _ => ?_) fun i => by
    have h0 : (i 0 : Nat) < 8192 := (i 0).isLt
    have hN : cfg0.N = 16 := N_0
    exact ⟨⟨(i 0 : Nat) / 512, by omega⟩, flush0_3 _, mem_q _ i rfl⟩
  rw [flushed3]
  refine funext fun (y : S512x1024.Idx) => ?_
  obtain ⟨r, l, rfl⟩ := Places.is2 y
  show (outsAt0 m c t.val t.isLt).1 (ix2 r l) = mat (dqArr Q KV CT) _
  have ht := lt16 t
  have e : ∀ z : S8192x1024.Idx, (z 0).val = 512 * t.val + r.val → (z 1).val = l.val →
      (outsAt0 m c t.val t.isLt).1 (ix2 r l) = mat (dqArr Q KV CT) z := by
    intro z h0 h1
    have hz : z = ix2 ⟨512 * t.val + r.val, by omega⟩ l := Places.ext2 h0 h1
    rw [hz, dq_block m c t (blk0 m hq t) (blk1 m hkv t) (blk2 m hct t) (ix2 r l)]
    have ed : (512 * t.val + r.val) / 2048 = t.val / 4 := by omega
    show ((dqAt (qrow Q (512 * t.val + r.val)) (fun j => mrow KV (256 * (t.val / 4) + j.val)) (qrow CT (512 * t.val + r.val)) l : ℝ) : EReal)
      = ((dqAt (qrow Q (512 * t.val + r.val)) (fun j => mrow KV (256 * ((512 * t.val + r.val) / 2048) + j.val)) (qrow CT (512 * t.val + r.val)) l : ℝ) : EReal)
    rw [ed]
  refine e _ ?_ ?_
  · show win0_3.index t 0 * 512 + 1 * r.val = _
    rw [(ix t).2.2.2.1.1]; omega
  · show win0_3.index t 1 * 1024 + 1 * l.val = _
    rw [(ix t).2.2.2.1.2]; omega

/-! ## The memory's gradient -/

lemma mem_kv (t : Fin cfg0.N) (i : S1024x2048.Idx) (h : t.val / 4 = (i 0).val / 256) :
    i ∈ ((cfg0.win 4).blk t).view.set := by
  show i ∈ ((View.whole main_v6_1).slice (win0_4.rect t)).set
  rw [View.set_slice_whole, Rect.mem_set_unit]
  have h1 : (i 1 : Nat) < 2048 := (i 1).isLt
  intro a
  match a with
  | ⟨0, _⟩ =>
    show win0_4.index t 0 * 256 ≤ (i 0 : Nat) ∧ (i 0 : Nat) < win0_4.index t 0 * 256 + 256
    rw [(ix t).2.2.2.2.1]; omega
  | ⟨1, _⟩ =>
    show win0_4.index t 1 * 2048 ≤ (i 1 : Nat) ∧ (i 1 : Nat) < win0_4.index t 1 * 2048 + 2048
    rw [(ix t).2.2.2.2.2]; omega

/-- What point `n` adds to its memory rows' gradients. -/
def term (Q : Queries → ℝ) (KV : Memory → ℝ) (CT : Queries → ℝ) (n : Nat) (j : Fin 256) (l : Fin 2048) : ℝ :=
  ∑ r : Fin 512, dkvAt (qrow Q (512 * n + r.val)) (fun j => mrow KV (256 * (n / 4) + j.val)) (qrow CT (512 * n + r.val)) j l

lemma acc_at (hq : ∀ i, m ((c : Thread nD τ).loc main_arg0) i = ((Q i : ℝ) : EReal))
    (hkv : ∀ i, m ((c : Thread nD τ).loc main_arg1) i = ((KV i : ℝ) : EReal))
    (hct : ∀ i, m ((c : Thread nD τ).loc main_arg2) i = ((CT i : ℝ) : EReal)) (n : Nat) (hn : n < cfg0.N) :
    Holds (outsAt0 m c n hn).2.2 fun j l => ∑ k ∈ Finset.range (n % 4 + 1), term Q KV CT (4 * (n / 4) + k) j l := by
  refine holds_run (fun n hn => (outsAt0 m c n hn).2.2) 4 (by decide) (term Q KV CT) (fun n hn h => ?_) (fun n hn h acc ha => ?_) n hn
  · exact acc_reset m c ⟨n, hn⟩ h (blk0 m hq ⟨n, hn⟩) (blk1 m hkv ⟨n, hn⟩) (blk2 m hct ⟨n, hn⟩)
  · exact acc_step m c ⟨n, hn⟩ h (blk0 m hq ⟨n, hn⟩) (blk1 m hkv ⟨n, hn⟩) (blk2 m hct ⟨n, hn⟩) ha

/-- The four points of a batch add up its 2048 query rows. -/
lemma terms (b : Nat) (j : Fin 256) (l : Fin 2048) :
    ∑ k ∈ Finset.range 4, term Q KV CT (4 * b + k) j l
      = ∑ s : Fin 2048, dkvAt (qrow Q (2048 * b + s.val)) (fun j => mrow KV (256 * b + j.val)) (qrow CT (2048 * b + s.val)) j l := by
  have e := sum_blocks (fun n => dkvAt (qrow Q n) (fun j => mrow KV (256 * b + j.val)) (qrow CT n) j l) 512 4 (4 * b)
  rw [show 512 * (4 * b) = 2048 * b by omega] at e
  refine Eq.trans ?_ e
  refine Finset.sum_congr rfl fun k hk => ?_
  have hk := Finset.mem_range.1 hk
  rw [term, show (4 * b + k) / 4 = b by omega]

lemma final_kv (hq : ∀ i, m ((c : Thread nD τ).loc main_arg0) i = ((Q i : ℝ) : EReal))
    (hkv : ∀ i, m ((c : Thread nD τ).loc main_arg1) i = ((KV i : ℝ) : EReal))
    (hct : ∀ i, m ((c : Thread nD τ).loc main_arg2) i = ((CT i : ℝ) : EReal)) :
    (dats m 0 c).arrAt 4 cfg0.N = mat (dkvArr Q KV CT) := by
  refine (dats m 0 c).arrAt_eq_of_cover 4 (mat (dkvArr Q KV CT)) (fun t hf => ?_) fun i => by
    have h0 : (i 0 : Nat) < 1024 := (i 0).isLt
    have hN : cfg0.N = 16 := N_0
    exact ⟨⟨4 * ((i 0 : Nat) / 256) + 3, by omega⟩, (flush0_4 _).mpr (by show (4 * ((i 0 : Nat) / 256) + 3) % 4 = 3; omega),
      mem_kv _ i (by show (4 * ((i 0 : Nat) / 256) + 3) / 4 = _; omega)⟩
  have h3 := (flush0_4 t).mp hf
  rw [flushed4]
  refine funext fun (y : S256x2048.Idx) => ?_
  obtain ⟨j, l, rfl⟩ := Places.is2 y
  show (outsAt0 m c t.val t.isLt).2.1 (ix2 j l) = mat (dkvArr Q KV CT) _
  have ht := lt16 t
  have e : ∀ z : S1024x2048.Idx, (z 0).val = 256 * (t.val / 4) + j.val → (z 1).val = l.val →
      (outsAt0 m c t.val t.isLt).2.1 (ix2 j l) = mat (dkvArr Q KV CT) z := by
    intro z h0 h1
    have hz : z = ix2 ⟨256 * (t.val / 4) + j.val, by omega⟩ l := Places.ext2 h0 h1
    have ed : (256 * (t.val / 4) + j.val) / 256 = t.val / 4 := by omega
    have ej : (⟨(256 * (t.val / 4) + j.val) % 256, Nat.mod_lt _ (by decide)⟩ : Fin 256) = j :=
      Fin.ext (by show (256 * (t.val / 4) + j.val) % 256 = j.val; omega)
    rw [hz, dkv_block m c t h3 (ix2 j l), acc_at m hq hkv hct t.val t.isLt j l, h3]
    show ((∑ k ∈ Finset.range 4, term Q KV CT (4 * (t.val / 4) + k) j l : ℝ) : EReal) = ((∑ s : Fin 2048, dkvAt (qrow Q (2048 * ((256 * (t.val / 4) + j.val) / 256) + s.val))
      (fun i => mrow KV (256 * ((256 * (t.val / 4) + j.val) / 256) + i.val))
      (qrow CT (2048 * ((256 * (t.val / 4) + j.val) / 256) + s.val)) ⟨(256 * (t.val / 4) + j.val) % 256, Nat.mod_lt _ (by decide)⟩ l : ℝ) : EReal)
    rw [terms (t.val / 4), ed, ej]
  refine e _ ?_ ?_
  · show win0_4.index t 0 * 256 + 1 * j.val = _
    rw [(ix t).2.2.2.2.1]; omega
  · show win0_4.index t 1 * 2048 + 1 * l.val = _
    rw [(ix t).2.2.2.2.2]; omega

end Cert.XattnIdeal.Reading

end
-- ==== Proof.XattnRef.lean ====
/-
  The cross-attention backward call's reference: what its two result arrays hold, from argument arrays that hold real
  numbers.
-/
module

public import proofs.«01_k».proof.Proof.Gen.XattnRefIdeal.Read
public import proofs.«01_k».proof.Proof.XattnRows

@[expose] public section

noncomputable section

namespace Cert.XattnRefIdeal.Reading

open Cert.XattnRefIdeal Gen Read
open Idealize.ShloMosaic
open Cert.Reals Cert.Xatt

lemma f16 : Ideal.ofBits .f32 0x41800000#32 = ((16 : ℝ) : EReal) := by
  simp [Ideal.ofBits, Ideal.ieee, -EReal.coe_mul]; norm_num
lemma f0 : Ideal.ofBits .f32 0x00000000#32 = ((0 : ℝ) : EReal) := by
  simp [Ideal.ofBits, Ideal.ieee]

/-- The gradient of a softmax row's scores as a quotient's two rules give it. -/
lemma back_quot (e g : Fin 256 → ℝ) (Z : ℝ) (hZ : Z ≠ 0) (j : Fin 256) :
    (g j / Z + -(∑ k, g k * (1 / (Z * Z)) * e k)) * e j / 16 = back (fun k => e k / Z) g j := by
  have h : ∑ k, g k * (1 / (Z * Z)) * e k = (∑ k, g k * (e k / Z)) / Z := by
    rw [Finset.sum_div]
    exact Finset.sum_congr rfl fun k _ => by field_simp
  rw [h, back]
  field_simp
  ring

/-- Of two guarded numbers the one whose guard holds, the other's failing. -/
lemma pick_left {p q : Prop} [Decidable p] [Decidable q] {a : p → EReal} {b : q → EReal} {r : EReal} (hp : p) (hq : ¬q)
    (h : a hp = r) : ((if h : p then a h else 0) + if h : q then b h else 0) = r := by
  rw [dif_pos hp, dif_neg hq, add_zero, h]
lemma pick_right {p q : Prop} [Decidable p] [Decidable q] {a : p → EReal} {b : q → EReal} {r : EReal} (hp : ¬p) (hq : q)
    (h : b hq = r) : ((if h : p then a h else 0) + if h : q then b h else 0) = r := by
  rw [dif_neg hp, dif_pos hq, zero_add, h]

variable {x0 x2 : Queries → EReal} {x1 : Memory → EReal}
variable {Q CT : Queries → ℝ} {KV : Memory → ℝ}

/-- Row `s` of batch `b`. -/
abbrev row (Q : Queries → ℝ) (b : Fin 4) (s : Fin 2048) : Fin 1024 → ℝ := fun c => Q (ix3 b s c)
/-- Batch `b`'s memory. -/
abbrev mem (KV : Memory → ℝ) (b : Fin 4) : Fin 256 → Fin 2048 → ℝ := fun j c => KV (ix3 b j c)

lemma at_q (hq : ∀ i, x0 i = ((Q i : ℝ) : EReal)) (b : Fin 4) (s : Fin 2048) (h : Fin 4) (d : Fin 256) :
    val_main_v0 (F := Ideal) x0 (ix4 b s h d) = ((row Q b s (scol h d) : ℝ) : EReal) := by
  pointwise [val_main_v0]
  exact (hq _).trans (congrArg (fun i => ((Q i : ℝ) : EReal)) (Places.ext3 rfl rfl (by show h.val * 256 + d.val = 256 * h.val + d.val; omega)))

lemma at_ct (hct : ∀ i, x2 i = ((CT i : ℝ) : EReal)) (b : Fin 4) (h : Fin 4) (d : Fin 256) (s : Fin 2048) :
    val_main_v41 (F := Ideal) x2 (ix4 b h d s) = ((row CT b s (scol h d) : ℝ) : EReal) := by
  pointwise [val_main_v41, val_main_v40]
  exact (hct _).trans (congrArg (fun i => ((CT i : ℝ) : EReal)) (Places.ext3 rfl rfl (by show h.val * 256 + d.val = 256 * h.val + d.val; omega)))

lemma at_k (hkv : ∀ i, x1 i = ((KV i : ℝ) : EReal)) (b : Fin 4) (j : Fin 256) (h : Fin 4) (d : Fin 256) :
    val_main_v3 (F := Ideal) x1 (ix4 b j h d) = ((mem KV b j (kcol h d) : ℝ) : EReal) := by
  pointwise [val_main_v3, val_main_v2, val_main_v1]
  exact (hkv _).trans (congrArg (fun i => ((KV i : ℝ) : EReal)) (Places.ext3 rfl rfl (by show h.val * 256 + d.val = 256 * h.val + d.val; omega)))

lemma at_v (hkv : ∀ i, x1 i = ((KV i : ℝ) : EReal)) (b : Fin 4) (j : Fin 256) (h : Fin 4) (d : Fin 256) :
    val_main_v5 (F := Ideal) x1 (ix4 b j h d) = ((mem KV b j (vcol h d) : ℝ) : EReal) := by
  pointwise [val_main_v5, val_main_v4, val_main_v1]
  exact (hkv _).trans (congrArg (fun i => ((KV i : ℝ) : EReal)) (Places.ext3 rfl rfl (by show 1024 + h.val * 256 + d.val = 1024 + (256 * h.val + d.val); omega)))

/-- The scores, scaled. -/
lemma at_score (hq : ∀ i, x0 i = ((Q i : ℝ) : EReal)) (hkv : ∀ i, x1 i = ((KV i : ℝ) : EReal)) (b h : Fin 4) (s : Fin 2048)
    (j : Fin 256) :
    val_main_v8 (F := Ideal) x0 x1 (ix4 b h s j) = ((score (row Q b s) (mem KV b) h j * (1 / 16) : ℝ) : EReal) := by
  pointwise [val_main_v8, val_main_v7, val_main_v6, val_main_cst]
  simp only [at_q hq, at_k hkv, ← EReal.coe_mul, coe_sum]
  rw [f16, div_coe _ _ (by norm_num), div_eq_mul_one_div]
  rfl

/-- Each row of scores has a largest one. -/
lemma at_max (hq : ∀ i, x0 i = ((Q i : ℝ) : EReal)) (hkv : ∀ i, x1 i = ((KV i : ℝ) : EReal)) (b h : Fin 4) (s : Fin 2048) :
    ∃ M : ℝ, val_main_v16 (F := Ideal) x0 x1 (ix3 b h s) = ((M : ℝ) : EReal) := by
  obtain ⟨M, hM⟩ : ∃ M : ℝ, val_main_v9 (F := Ideal) x0 x1 (ix3 b h s) = ((M : ℝ) : EReal) := by
    unfold val_main_v9
    rw [Host.reduce_eq_fold]
    rw [show val_main_cst_0 (F := Ideal) (Shape.Idx.first h_S_) = ⊥ from bot_f32]
    refine max_coe _ ⟨ix4 b h s 0, Finset.mem_filter.2 ⟨Finset.mem_univ _, ?_⟩⟩ _
      (fun i => score (row Q (i 0) (i 2)) (mem KV (i 0)) (i 1) (i 3) * (1 / 16)) fun i => ?_
    · exact Places.ext3 rfl rfl rfl
    · obtain ⟨b, h, s, j, rfl⟩ : ∃ (b h : Fin 4) (s : Fin 2048) (j : Fin 256), i = ix4 b h s j :=
        ⟨i 0, i 1, i 2, i 3, Places.ext4 rfl rfl rfl rfl⟩
      exact at_score hq hkv b h s j
  refine ⟨M, ?_⟩
  rw [val_main_v16_apply, val_main_v15_apply, hM]
  rw [show val_main_cst_2 (F := Ideal) (idx_main_v15 (ix3 b h s)) = ⊥ from bot_f32]
  exact max_eq_right bot_le

section Rows

variable {M : Fin 4 → Fin 4 → Fin 2048 → ℝ}
variable (hM : ∀ b h s, val_main_v16 (F := Ideal) x0 x1 (ix3 b h s) = ((M b h s : ℝ) : EReal))
variable (hq : ∀ i, x0 i = ((Q i : ℝ) : EReal)) (hkv : ∀ i, x1 i = ((KV i : ℝ) : EReal)) (hct : ∀ i, x2 i = ((CT i : ℝ) : EReal))

/-- One exponential of a row of scores, and their sum. -/
abbrev ex (Q : Queries → ℝ) (KV : Memory → ℝ) (M : Fin 4 → Fin 4 → Fin 2048 → ℝ) (b h : Fin 4) (s : Fin 2048) (j : Fin 256) : ℝ :=
  Real.exp (score (row Q b s) (mem KV b) h j * (1 / 16) - M b h s)
abbrev den (Q : Queries → ℝ) (KV : Memory → ℝ) (M : Fin 4 → Fin 4 → Fin 2048 → ℝ) (b h : Fin 4) (s : Fin 2048) : ℝ :=
  ∑ j, ex Q KV M b h s j

lemma den_ne (b h : Fin 4) (s : Fin 2048) : den Q KV M b h s ≠ 0 := (sum_exp_pos (by decide) _).ne'

lemma quot (b h : Fin 4) (s : Fin 2048) (j : Fin 256) :
    ex Q KV M b h s j / den Q KV M b h s = prob (row Q b s) (mem KV b) h j :=
  soft_shift (fun k => score (row Q b s) (mem KV b) h k * (1 / 16)) (M b h s) j

include hM hq hkv

lemma at_ex (b h : Fin 4) (s : Fin 2048) (j : Fin 256) :
    val_main_v29 (F := Ideal) x0 x1 (ix4 b h s j) = ((ex Q KV M b h s j : ℝ) : EReal) := by
  pointwise [val_main_v29, val_main_v28, val_main_v27, val_main_v26]
  rw [at_score hq hkv, hM, ← EReal.coe_sub, Ideal.exp_coe]

lemma at_den (b h : Fin 4) (s : Fin 2048) :
    val_main_v30 (F := Ideal) x0 x1 (ix3 b h s) = ((den Q KV M b h s : ℝ) : EReal) := by
  pointwise [val_main_v30, val_main_cst_8]
  simp only [at_ex hM hq hkv, coe_sum]

lemma at_prob (b h : Fin 4) (s : Fin 2048) (j : Fin 256) :
    val_main_v33 (F := Ideal) x0 x1 (ix4 b h s j) = ((prob (row Q b s) (mem KV b) h j : ℝ) : EReal) := by
  pointwise [val_main_v33, val_main_v32, val_main_v31]
  rw [at_ex hM hq hkv, at_den hM hq hkv, div_coe _ _ (den_ne b h s), quot]

include hct

omit hM hq in
lemma at_dprob (b h : Fin 4) (s : Fin 2048) (j : Fin 256) :
    val_main_v42 (F := Ideal) x1 x2 (ix4 b h s j) = ((dprob (mem KV b) (row CT b s) h j : ℝ) : EReal) := by
  pointwise [val_main_v42]
  simp only [at_ct hct, at_v hkv, ← EReal.coe_mul, coe_sum]
  rfl

/-- The sum of a row's products, less what the quotient's denominator carries back. -/
lemma at_sum (b h : Fin 4) (s : Fin 2048) :
    val_main_v48 (F := Ideal) x0 x1 x2 (ix3 b h s)
      = ((∑ k, dprob (mem KV b) (row CT b s) h k * (1 / (den Q KV M b h s * den Q KV M b h s)) * ex Q KV M b h s k : ℝ) : EReal) := by
  pointwise [val_main_v48, val_main_v47, val_main_v46, val_main_v45, val_main_v36, val_main_v35, val_main_v34, val_main_v31,
    val_main_cst_9, val_main_cst_10]
  simp only [at_dprob hkv hct, at_ex hM hq hkv, at_den hM hq hkv, ← EReal.coe_one, ← EReal.coe_mul,
    div_coe _ _ (mul_ne_zero (den_ne (Q := Q) (KV := KV) (M := M) b h s) (den_ne b h s)), coe_sum, ← EReal.coe_add]

/-- The scores' gradient. -/
lemma at_dscore (b h : Fin 4) (s : Fin 2048) (j : Fin 256) :
    val_main_v58 (F := Ideal) x0 x1 x2 (ix4 b h s j) = ((dscore (row Q b s) (mem KV b) (row CT b s) h j : ℝ) : EReal) := by
  pointwise [val_main_v58, val_main_v57, val_main_v56, val_main_v55, val_main_v54, val_main_v53, val_main_v52, val_main_v51,
    val_main_v50, val_main_v49, val_main_v31, val_main_cst_11, val_main_cst_12]
  simp only [at_dprob hkv hct, at_ex hM hq hkv, at_den hM hq hkv, at_sum hM hq hkv hct, f16, f0, ← EReal.coe_mul,
    div_coe _ _ (den_ne (Q := Q) (KV := KV) (M := M) b h s), ← EReal.coe_neg, coe_sum, ← EReal.coe_add,
    div_coe _ 16 (by norm_num), Finset.univ_unique, Finset.sum_singleton]
  refine congrArg _ ((back_quot (ex Q KV M b h s) (dprob (mem KV b) (row CT b s) h) (den Q KV M b h s) (den_ne b h s) j).trans ?_)
  simp only [quot]
  rfl

lemma at_dq (b : Fin 4) (s : Fin 2048) (h : Fin 4) (d : Fin 256) :
    val_main_v62 (F := Ideal) x0 x1 x2 (ix4 b s h d) = ((dq (row Q b s) (mem KV b) (row CT b s) h d : ℝ) : EReal) := by
  pointwise [val_main_v62, val_main_v61]
  simp only [at_dscore hM hq hkv hct, at_k hkv, ← EReal.coe_mul, coe_sum]
  rfl

lemma at_dk (b : Fin 4) (j : Fin 256) (h : Fin 4) (d : Fin 256) :
    val_main_v60 (F := Ideal) x0 x1 x2 (ix4 b j h d) = ((∑ s, dk (row Q b s) (mem KV b) (row CT b s) h j d : ℝ) : EReal) := by
  pointwise [val_main_v60, val_main_v59]
  simp only [at_dscore hM hq hkv hct, at_q hq, ← EReal.coe_mul, coe_sum]
  rfl

lemma at_dv (b : Fin 4) (j : Fin 256) (h : Fin 4) (d : Fin 256) :
    val_main_v44 (F := Ideal) x0 x1 x2 (ix4 b j h d) = ((∑ s, dv (row Q b s) (mem KV b) (row CT b s) h j d : ℝ) : EReal) := by
  pointwise [val_main_v44, val_main_v43]
  simp only [at_prob hM hq hkv, at_ct hct, ← EReal.coe_mul, coe_sum]
  exact congrArg _ (Finset.sum_congr rfl fun s _ => mul_comm _ _)

lemma q_val : val_main_v71 (F := Ideal) x0 x1 x2 = mat (dqArr Q KV CT) := by
  funext y
  obtain ⟨n, c, rfl⟩ := Places.is2 y
  pointwise [val_main_v71, val_main_v70, val_main_v69]
  rw [at_dq hM hq hkv hct]
  have hn := n.isLt
  have e1 := qrow_at Q ⟨n.val / 2048, by omega⟩ ⟨n.val % 2048, by omega⟩
  have e2 := qrow_at CT ⟨n.val / 2048, by omega⟩ ⟨n.val % 2048, by omega⟩
  have e3 := fun j => mrow_at KV ⟨n.val / 2048, by omega⟩ j
  simp only [Nat.div_add_mod] at e1 e2
  show _ = ((dqArr Q KV CT n c : ℝ) : EReal)
  unfold dqArr
  simp only [e1, e2, e3]
  rfl

lemma kv_val : val_main_v73 (F := Ideal) x0 x1 x2 = mat (dkvArr Q KV CT) := by
  funext y
  obtain ⟨n, c, rfl⟩ := Places.is2 y
  pointwise [val_main_v73, val_main_v72, val_main_v68, val_main_v67, val_main_v66, val_main_v65, val_main_v64, val_main_v63,
    val_main_cst_13, val_main_cst_14]
  have hn := n.isLt
  have hc := c.isLt
  refine Eq.trans ?_ (congrArg (fun z : ℝ => (z : EReal)) (dkvArr_at Q KV CT n c).symm)
  by_cases h : c.val < 1024
  · refine pick_right (by rintro ⟨_, _, h3, _⟩; omega) ⟨by omega, by omega, by omega, by omega, by omega⟩ ?_
    refine (at_dk hM hq hkv hct _ _ _ _).trans (congrArg _ (Finset.sum_congr rfl fun s _ => ?_))
    exact (if_pos h).symm
  · refine pick_left ⟨by omega, by omega, by omega, by omega, by omega⟩ (by rintro ⟨_, _, h3, _⟩; omega) ?_
    refine (at_dv hM hq hkv hct _ _ _ _).trans (congrArg _ (Finset.sum_congr rfl fun s _ => ?_))
    exact (if_neg h).symm

end Rows

end Cert.XattnRefIdeal.Reading

end
-- ==== Proof.XattnClaims.lean ====
/-
  The claims about the cross-attention's backward call.
-/
module

public import proofs.«01_k».proof.Defs
public import proofs.«01_k».proof.Proof.Gen.Xattn.Frame
public import proofs.«01_k».proof.Proof.Gen.Pre_xattn_finite
public import proofs.«01_k».proof.Proof.XattnValue
public import proofs.«01_k».proof.Proof.XattnRef

@[expose] public section

noncomputable section

namespace Cert.Proof.Xattn

open Idealize.ShloMosaic TcCoe Idealize.SL.Sem
open Cert.Reals Cert.Xatt

lemma frame : Cert.quiescent_Xattn := fun m ρ _ => Cert.Xattn.Gen.frame m ρ

lemma frame_ideal : Cert.quiescent_XattnIdeal := fun m ρ _ => Cert.XattnIdeal.Gen.frame m ρ

lemma frame_ideal_pre : Cert.quiescent_XattnIdeal_pre_xattn_finite := fun m ρ _ => Cert.XattnIdeal.Gen.frame m ρ

lemma frame_ref : Cert.quiescent_XattnRefIdeal := fun m ρ _ =>
  (θ_run Cert.XattnRefIdeal.defs _ _).mono
    (fun r h => ⟨fun c => (h c).2.2, sem_eq_zero_of_no_sems (by decide) r.2⟩)
    (Cert.XattnRefIdeal.Value.run m ρ)

lemma frame_ref_pre : Cert.quiescent_XattnRefIdeal_pre_xattn_finite := fun m ρ _ => frame_ref m ρ trivial

/-- Arrays that pass the precondition hold real numbers. -/
lemma finite_args (q : FVec Ideal Cert.Pre_xattn_finite.S4x2048x1024 .f32) (kv : FVec Ideal Cert.Pre_xattn_finite.S4x256x2048 .f32)
    (ct : FVec Ideal Cert.Pre_xattn_finite.S4x2048x1024 .f32)
    (h : Cert.Pre_xattn_finite.fn q kv ct = fun _ => 1#1) : AllReal q ∧ AllReal kv ∧ AllReal ct := by
  have e := congrFun h (fun i => i.elim0)
  dsimp only [Cert.Pre_xattn_finite.fn] at e
  obtain ⟨e1, e3⟩ := IntOp.andi_eq_one.1 e
  obtain ⟨e1, e2⟩ := IntOp.andi_eq_one.1 e1
  haveI : Subsingleton (Cert.Pre_xattn_finite.S_).Idx := ⟨fun a b => funext fun i => i.elim0⟩
  exact ⟨allReal_of_test e1, allReal_of_test e2, allReal_of_test e3⟩

lemma algebraic : Cert.algebraic_XattnIdeal_XattnRefIdeal_pre_xattn_finite := fun m ρ m' ρ' hpre hag => by
  choose hq hkv hct using fun c => finite_args _ _ _ (hpre c)
  choose Q hq using hq
  choose KV hkv using hkv
  choose CT hct using hct
  have hM := fun c b h s => Cert.XattnRefIdeal.Reading.at_max (hq c) (hkv c) b h s
  choose M hM using hM
  exact ⟨fun c => mat (dqArr (Q c) (KV c) (CT c)), fun c => mat (dkvArr (Q c) (KV c) (CT c)),
    (θ_run Cert.XattnIdeal.defs _ _).mono
      (fun _ h c => ⟨(h c).1.trans (Cert.XattnIdeal.Reading.final_q m (hq c) (hkv c) (hct c)),
        (h c).2.1.trans (Cert.XattnIdeal.Reading.final_kv m (hq c) (hkv c) (hct c)), (h c).2.2⟩)
      (Cert.XattnIdeal.Value.run_blocks m ρ),
    (θ_run Cert.XattnRefIdeal.defs _ _).mono
      (fun _ h c => ⟨(h c).1.trans (by
          rw [Cert.XattnRefIdeal.Read.val_main_v71_eq, (hag c).1, (hag c).2.1, (hag c).2.2]
          exact Cert.XattnRefIdeal.Reading.q_val (hM c) (hq c) (hkv c) (hct c)),
        (h c).2.1.trans (by
          rw [Cert.XattnRefIdeal.Read.val_main_v73_eq, (hag c).1, (hag c).2.1, (hag c).2.2]
          exact Cert.XattnRefIdeal.Reading.kv_val (hM c) (hq c) (hkv c) (hct c)), (h c).2.2⟩)
      (Cert.XattnRefIdeal.Value.run m' ρ')⟩

end Cert.Proof.Xattn

end
-- ==== Proof.SbSpec.lean ====
/-
  The gradients of stick-breaking attention at one tile of queries, over the reals: two heads' 512 query rows
  one above the other, 128 lanes of which a row's own head fills half.
-/
module

public import proofs.«01_k».proof.Proof.Reals

@[expose] public section

noncomputable section

namespace Cert.Stick

open Finset

/-- What one tile of queries reads: the incoming gradient and the queries (a row zero at the lanes of the other
    head), the values and keys by position, the weights and the logarithms of what each position leaves. -/
structure Tile where
  D : Fin 1024 → Fin 128 → ℝ
  Q : Fin 1024 → Fin 128 → ℝ
  V : ℕ → Fin 128 → ℝ
  K : ℕ → Fin 128 → ℝ
  A : Fin 1024 → ℕ → ℝ
  L : Fin 1024 → ℕ → ℝ

namespace Tile

variable (T : Tile)

/-- The gradient of a weight, times the weight. -/
def g (r : Fin 1024) (s : ℕ) : ℝ := (∑ d, T.D r d * T.V s d) * T.A r s

/-- Its sum over the positions before `n`. -/
def pre (r : Fin 1024) (n : ℕ) : ℝ := ∑ s ∈ range n, T.g r s

/-- The gradient of a score, times the scale 1/8. -/
def z (r : Fin 1024) (s : ℕ) : ℝ := (T.g r s * Real.exp (T.L r s) - T.pre r s * (1 - Real.exp (T.L r s))) * (1 / 8)

/-- The same where position `s` lies before the query in row `r` of tile `i`, zero elsewhere. -/
def m (i : ℕ) (r : Fin 1024) (s : ℕ) : ℝ := if s < i * 512 + r.val % 512 then T.z r s else 0

/-- The gradient of a query, from the positions before `n`. -/
def dq (i n : ℕ) (r : Fin 1024) (d : Fin 128) : ℝ := ∑ s ∈ range n, T.m i r s * T.K s d

lemma pre_add (r : Fin 1024) (b n : ℕ) : T.pre r (b + n) = T.pre r b + ∑ x ∈ range n, T.g r (b + x) :=
  sum_range_add _ _ _

lemma pre_add_fin (r : Fin 1024) (b n : ℕ) : T.pre r (b + n) = T.pre r b + ∑ x : Fin n, T.g r (b + x.val) := by
  rw [pre_add, sum_range]

lemma m_before {i : ℕ} {r : Fin 1024} {s : ℕ} (h : s < i * 512) : T.m i r s = T.z r s := if_pos (by omega)

lemma m_live {i : ℕ} {r : Fin 1024} {s : ℕ} (h : s < i * 512 + r.val % 512) : T.m i r s = T.z r s := if_pos h

lemma m_dead {i : ℕ} {r : Fin 1024} {s : ℕ} (h : ¬ s < i * 512 + r.val % 512) : T.m i r s = 0 := if_neg h

lemma dq_add (i b n : ℕ) (r : Fin 1024) (d : Fin 128) :
    T.dq i (b + n) r d = T.dq i b r d + ∑ x : Fin n, T.m i r (b + x.val) * T.K (b + x.val) d := by
  unfold dq
  rw [sum_range_add, sum_range (fun x => T.m i r (b + x) * T.K (b + x) d)]

end Tile

/-- A sum over the columns before `j`, of the products with the strictly lower triangle. -/
lemma sum_lower {n : ℕ} (f : ℕ → ℝ) (j : Fin n) :
    ∑ x : Fin n, f x.val * (if x.val < j.val then 1 else 0) = ∑ x ∈ range j.val, f x := by
  simp only [mul_ite, mul_one, mul_zero]
  rw [← sum_range (fun x => if x < j.val then f x else 0), sum_ite, sum_const_zero, add_zero]
  refine sum_congr ?_ fun _ _ => rfl
  ext x
  simp only [mem_filter, mem_range]
  have := j.isLt
  omega

end Cert.Stick

end
-- ==== Proof.SbPay.lean ====
/-
  The stick-breaking backward call's arithmetic at one block of 512 keys before the queries' own block, read
  element by element over the reals.
-/
module

public import proofs.«01_k».proof.Proof.Gen.SbIdeal.Skeleton
public import proofs.«01_k».proof.Proof.SbSpec
public import proofs.«01_k».proof.Proof.Matrices

@[expose] public section

noncomputable section

namespace Cert.SbIdeal.Pay

open Cert.SbIdeal Gen Idealize.ShloMosaic TcCoe
open Cert.Reals Cert.Stick

/-- A block of an array of six axes, the first four of extent one. -/
abbrev Holds6 {a b : Nat} (x : (⟨6, ![1, 1, 1, 1, a, b]⟩ : Shape).Idx → EReal) (f : Fin a → Fin b → ℝ) : Prop :=
  ∀ r j, x (ix6 0 0 0 0 r j) = ((f r j : ℝ) : EReal)

/-- A block of an array of three axes, the first of extent one. -/
abbrev Holds3 {a b : Nat} (x : (⟨3, ![1, a, b]⟩ : Shape).Idx → EReal) (f : Fin a → Fin b → ℝ) : Prop :=
  ∀ r j, x (ix3 0 r j) = ((f r j : ℝ) : EReal)

lemma eighth : (Ideal.ofBits .f32 0x3E000000#32 : EReal) = ((1 / 8 : ℝ) : EReal) := by
  simp [Ideal.ofBits, Ideal.ieee, -EReal.coe_mul]; norm_num

lemma one_coe : (1 : EReal) = ((1 : ℝ) : EReal) := EReal.coe_one.symm

variable {T : Tile} {b : ℕ}

lemma score {v76 v396 v400} (hD : Holds v76 T.D) (hv : Holds v396 fun j d => T.V (b + j.val) d)
    (ha : Holds6 v400 fun r j => T.A r (b + j.val)) :
    Holds (k0_pay6 (F := Ideal) v76 v396 v400) fun r j => T.g r (b + j.val) := by
  intro r j
  pointwise [k0_pay6]
  simp only [hD _ _, hv _ _, ha _ _, ← EReal.coe_mul, coe_sum]
  rfl

lemma lower : Holds (k0_pay75 (F := Ideal)) fun x j => if x.val < j.val then 1 else 0 := by
  intro x j
  pointwise [k0_pay75]
  have h : (IntOp.cmpi CmpIPredicate.slt (BitVec.ofNat 32 x.val) (BitVec.ofNat 32 j.val)) = if x.val < j.val then 1#1 else 0#1 := by
    revert x j; decide +kernel
  rw [h]
  split <;> simp [FloatOps.sitofp]

lemma before {v8 G} (h8 : Holds v8 fun x j => if x.val < j.val then 1 else 0) (hG : Holds G fun r j => T.g r (b + j.val)) :
    Holds (k0_pay12 (F := Ideal) v8 G) fun r j => ∑ x ∈ Finset.range j.val, T.g r (b + x) := by
  intro r j
  pointwise [k0_pay12]
  simp only [h8 _ _, hG _ _, ← EReal.coe_mul, ← EReal.coe_sub, coe_sum, sub_self, zero_mul, Finset.sum_const_zero, EReal.coe_zero, add_zero]
  rw [sum_lower (fun x => T.g r (b + x)) j]

lemma total {gl G} (hl : Holds gl fun r _ => T.pre r b) (hG : Holds G fun r j => T.g r (b + j.val)) :
    Holds (k0_pay18 (F := Ideal) gl G) fun r _ => T.pre r (b + 128) := by
  intro r j
  obtain rfl : j = 0 := Subsingleton.elim _ _
  pointwise [k0_pay18]
  rw [hl r 0]
  simp only [hG _ _, coe_sum, ← EReal.coe_add]
  rw [T.pre_add_fin]

lemma grad {gl G P lw} (hl : Holds gl fun r _ => T.pre r b) (hG : Holds G fun r j => T.g r (b + j.val))
    (hP : Holds P fun r j => ∑ x ∈ Finset.range j.val, T.g r (b + x)) (hL : Holds6 lw fun r j => T.L r (b + j.val)) :
    Holds (k0_pay19 (F := Ideal) gl G P lw) fun r j => T.z r (b + j.val) := by
  intro r j
  pointwise [k0_pay19]
  rw [hl r 0, hG r j, hP r j, hL r j]
  simp only [Ideal.exp_coe, eighth, one_coe, ← EReal.coe_mul, ← EReal.coe_sub, ← EReal.coe_add]
  rw [← T.pre_add]
  rfl

lemma stack_at (z0 z1 z2 z3 : (⟨2, ![1024, 128]⟩ : Shape).Idx → EReal) {f : Fin 1024 → ℕ → ℝ} (h0 : Holds z0 fun r j => f r (b + j.val))
    (h1 : Holds z1 fun r j => f r (b + 128 + j.val)) (h2 : Holds z2 fun r j => f r (b + 256 + j.val)) (h3 : Holds z3 fun r j => f r (b + 384 + j.val)) :
    Holds (concatenate S1024x512 1 [⟨S1024x128, z0⟩, ⟨S1024x128, z1⟩, ⟨S1024x128, z2⟩, ⟨S1024x128, z3⟩] concatenates_S1024x128_S1024x128_S1024x128_S1024x128_S1024x512_d1)
      fun r s => f r (b + s.val) := by
  intro r s
  pointwise
  have := s.isLt
  split
  · exact h0 _ _
  split
  · refine (h1 _ _).trans (congrArg _ (congrArg _ ?_)); dsimp only; omega
  split
  · refine (h2 _ _).trans (congrArg _ (congrArg _ ?_)); dsimp only; omega
  · refine (h3 _ _).trans (congrArg _ (congrArg _ ?_)); dsimp only; omega

/-- The gradients of the scores of a whole block of 512 keys, its four parts of 128 as the kernel computes them. -/
lemma block {v8 v76 gl vb0 vb1 vb2 vb3 w0 w1 w2 w3 l0 l1 l2 l3} (h8 : Holds v8 fun x j => if x.val < j.val then 1 else 0)
    (hD : Holds v76 T.D) (hl : Holds gl fun r _ => T.pre r b)
    (hv0 : Holds vb0 fun j d => T.V (b + j.val) d) (hv1 : Holds vb1 fun j d => T.V (b + 128 + j.val) d)
    (hv2 : Holds vb2 fun j d => T.V (b + 256 + j.val) d) (hv3 : Holds vb3 fun j d => T.V (b + 384 + j.val) d)
    (ha0 : Holds6 w0 fun r j => T.A r (b + j.val)) (ha1 : Holds6 w1 fun r j => T.A r (b + 128 + j.val))
    (ha2 : Holds6 w2 fun r j => T.A r (b + 256 + j.val)) (ha3 : Holds6 w3 fun r j => T.A r (b + 384 + j.val))
    (hl0 : Holds6 l0 fun r j => T.L r (b + j.val)) (hl1 : Holds6 l1 fun r j => T.L r (b + 128 + j.val))
    (hl2 : Holds6 l2 fun r j => T.L r (b + 256 + j.val)) (hl3 : Holds6 l3 fun r j => T.L r (b + 384 + j.val)) :
    let g0 := k0_pay6 (F := Ideal) v76 vb0 w0
    let g1 := k0_pay9 (F := Ideal) (k0_pay7 v76 vb1) (k0_pay8 w1)
    let g2 := k0_pay10 (F := Ideal) v76 vb2 w2
    let g3 := k0_pay11 (F := Ideal) v76 vb3 w3
    (Holds (k0_pay24 (F := Ideal) g2 g3 (k0_pay14 v8 v76 vb2 w2) (k0_pay17 v8 (k0_pay15 v76 vb3 w3) (k0_pay16 v76 vb3 w3))
      (k0_pay19 gl g0 (k0_pay12 v8 g0) l0) (k0_pay20 gl g0 g1) (k0_pay21 gl g0 g1 (k0_pay13 v8 (k0_pay7 v76 vb1) (k0_pay8 w1)) l1) l2 l3)
      fun r s => T.z r (b + s.val)) ∧
    Holds (k0_pay23 (F := Ideal) g2 g3 (k0_pay20 gl g0 g1)) fun r _ => T.pre r (b + 512) := by
  have e0 := score hD hv0 ha0
  have e1 := score hD hv1 ha1
  have e2 := score hD hv2 ha2
  have e3 := score hD hv3 ha3
  have t1 := total hl e0
  have t2 := total t1 e1
  have t3 := total t2 e2
  exact ⟨stack_at _ _ _ _ (grad hl e0 (before h8 e0) hl0) (grad t1 e1 (before h8 e1) hl1) (grad t2 e2 (before h8 e2) hl2)
    (grad t3 e3 (before h8 e3) hl3), total t3 e3⟩

/-- The products of the stacked queries with the gradients of the scores, added to what was there. -/
lemma keys {v88 : Vec Ideal S128x1024 .bf16} {z : Vec Ideal S1024x512 .bf16} {acc : Vec Ideal S1x128x512 .f32} {q : Fin 128 → Fin 1024 → ℝ}
    {f : Fin 1024 → Fin 512 → ℝ} {a} (hq : Holds v88 q) (hz : Holds z f) (ha : Holds3 acc a) :
    Holds3 (k0_pay120 v88 z acc) fun l s => a l s + ∑ r, q l r * f r s := by
  intro l s
  pointwise [k0_pay120]
  simp only [hq _ _, hz _ _, ha _ _, ← EReal.coe_mul, coe_sum, ← EReal.coe_add]

lemma values {v97 : Vec Ideal S128x1024 .bf16} {w : Vec Ideal S1x1x1x1x1024x512 .bf16} {acc : Vec Ideal S1x128x512 .f32} {q : Fin 128 → Fin 1024 → ℝ}
    {f : Fin 1024 → Fin 512 → ℝ} {a} (hq : Holds v97 q) (hz : Holds6 w f) (ha : Holds3 acc a) :
    Holds3 (k0_pay121 v97 acc w) fun l s => a l s + ∑ r, q l r * f r s := by
  intro l s
  pointwise [k0_pay121]
  simp only [hq _ _, hz _ _, ha _ _, ← EReal.coe_mul, coe_sum, ← EReal.coe_add]

lemma queries {acc z kb} {a : Fin 1024 → Fin 128 → ℝ} {f k} (ha : Holds acc a) (hz : Holds z f) (hk : Holds kb k) :
    Holds (k0_pay96 (F := Ideal) acc z kb) fun r d => a r d + ∑ s, f r s * k s d := by
  intro r d
  pointwise [k0_pay96]
  simp only [hk _ _, hz _ _, ha _ _, ← EReal.coe_mul, coe_sum, ← EReal.coe_add]

end Cert.SbIdeal.Pay

end
-- ==== Proof.SbDiag.lean ====
/-
  The stick-breaking backward call's arithmetic at the queries' own block of keys, where only the positions before
  a query count: rows that come before a part of the block are left out of that part, and zeros put in their place.
-/
module

public import proofs.«01_k».proof.Proof.SbPay

@[expose] public section

noncomputable section

namespace Cert.SbIdeal.Pay

open Cert.SbIdeal Gen Idealize.ShloMosaic TcCoe
open Cert.Reals Cert.Stick

/-- The rows of both heads that have keys in the second, third and fourth part. -/
def up1 (r : Fin 768) : Fin 1024 := ⟨if r.val < 384 then 128 + r.val else 256 + r.val, by split <;> omega⟩
def up2 (r : Fin 512) : Fin 1024 := ⟨if r.val < 256 then 256 + r.val else 512 + r.val, by split <;> omega⟩
def up3 (r : Fin 256) : Fin 1024 := ⟨if r.val < 128 then 384 + r.val else 768 + r.val, by split <;> omega⟩

variable {T : Tile} {b : ℕ}

lemma up1_lo {r : Fin 768} (h : r.val < 384) : up1 r = ⟨128 + r.val, by omega⟩ := Fin.ext (if_pos h)
lemma up1_hi {r : Fin 768} (h : ¬ r.val < 384) : up1 r = ⟨640 + (r.val - 384), by omega⟩ := Fin.ext ((if_neg h).trans (by dsimp only; omega))
lemma up2_lo {r : Fin 512} (h : r.val < 256) : up2 r = ⟨256 + r.val, by omega⟩ := Fin.ext (if_pos h)
lemma up2_hi {r : Fin 512} (h : ¬ r.val < 256) : up2 r = ⟨768 + (r.val - 256), by omega⟩ := Fin.ext ((if_neg h).trans (by dsimp only; omega))
lemma up3_lo {r : Fin 256} (h : r.val < 128) : up3 r = ⟨384 + r.val, by omega⟩ := Fin.ext (if_pos h)
lemma up3_hi {r : Fin 256} (h : ¬ r.val < 128) : up3 r = ⟨896 + (r.val - 128), by omega⟩ := Fin.ext ((if_neg h).trans (by dsimp only; omega))

lemma row_mask (r : Fin 1024) (j : Fin 128) (c : ℕ) (hc : c < 4) {w : BitVec 32} (hw : w.toInt = -(c * 128 : ℕ)) :
    IntOp.cmpi CmpIPredicate.slt (k0_pay91 (ix2 r j)) w = if c * 128 + j.val < r.val % 512 then 1#1 else 0#1 := by
  have hj := j.isLt
  have hr := r.isLt
  pointwise [k0_pay91]
  have e : (IntOp.subi (BitVec.ofNat 32 j.val) (IntOp.andi (BitVec.ofNat 32 r.val) 511#32)).toInt = (j.val : ℤ) - (r.val % 512 : ℕ) := by
    have h1 : (IntOp.andi (BitVec.ofNat 32 r.val) 511#32) = BitVec.ofNat 32 (r.val % 512) := by
      apply BitVec.eq_of_toNat_eq
      show ((BitVec.ofNat 32 r.val) &&& 511#32).toNat = _
      rw [BitVec.toNat_and, BitVec.toNat_ofNat, BitVec.toNat_ofNat, BitVec.toNat_ofNat, Nat.mod_eq_of_lt (a := r.val) (by omega),
        Nat.mod_eq_of_lt (a := r.val % 512) (by omega)]
      exact Nat.and_two_pow_sub_one_eq_mod r.val 9
    rw [h1]
    show (BitVec.ofNat 32 j.val - BitVec.ofNat 32 (r.val % 512)).toInt = _
    have i1 : (BitVec.ofNat 32 j.val).toInt = j.val := by
      rw [BitVec.toInt_eq_toNat_of_lt (by rw [BitVec.toNat_ofNat]; omega), BitVec.toNat_ofNat, Nat.mod_eq_of_lt (by omega)]
    have i2 : (BitVec.ofNat 32 (r.val % 512)).toInt = (r.val % 512 : ℕ) := by
      rw [BitVec.toInt_eq_toNat_of_lt (by rw [BitVec.toNat_ofNat]; omega), BitVec.toNat_ofNat, Nat.mod_eq_of_lt (by omega)]
    rw [BitVec.toInt_sub, i1, i2, Int.bmod_eq_of_le (by omega) (by omega)]
  rw [WordCmp.cmpi_slt_eq, e, hw]
  by_cases h : c * 128 + j.val < r.val % 512
  · rw [if_pos h, decide_eq_true (by omega)]; rfl
  · rw [if_neg h, decide_eq_false (by omega)]; rfl

lemma score1 {v76 v396 v400} (hD : Holds v76 T.D) (hv : Holds v396 fun j d => T.V (b + j.val) d)
    (ha : Holds6 v400 fun r j => T.A r (b + j.val)) :
    Holds (k0_pay101 (F := Ideal) v76 v396 v400) fun r j => T.g (up1 r) (b + j.val) := by
  intro r j
  pointwise [k0_pay101]
  by_cases h : r.val < 384
  · rw [up1_lo h]
    simp only [dif_pos h, hD _ _, hv _ _, ha _ _, ← EReal.coe_mul, coe_sum]
    rfl
  · rw [up1_hi h]
    simp only [dif_neg h, hD _ _, hv _ _, ha _ _, ← EReal.coe_mul, coe_sum]
    rfl

lemma before1 {v8 G} (h8 : Holds v8 fun x j => if x.val < j.val then 1 else 0) (hG : Holds G fun r j => T.g (up1 r) (b + j.val)) :
    Holds (k0_pay106 (F := Ideal) v8 G) fun r j => ∑ x ∈ Finset.range j.val, T.g (up1 r) (b + x) := by
  intro r j
  pointwise [k0_pay106]
  simp only [h8 _ _, hG _ _, ← EReal.coe_mul, ← EReal.coe_sub, coe_sum, sub_self, zero_mul, Finset.sum_const_zero, EReal.coe_zero, add_zero]
  rw [sum_lower (fun x => T.g (up1 r) (b + x)) j]

lemma score2 {v76 v396 v400} (hD : Holds v76 T.D) (hv : Holds v396 fun j d => T.V (b + j.val) d)
    (ha : Holds6 v400 fun r j => T.A r (b + j.val)) :
    Holds (k0_pay103 (F := Ideal) (k0_pay102 v76 v396) v400) fun r j => T.g (up2 r) (b + j.val) := by
  intro r j
  pointwise [k0_pay102, k0_pay103]
  by_cases h : r.val < 256
  · rw [up2_lo h]
    simp only [dif_pos h, hD _ _, hv _ _, ha _ _, ← EReal.coe_mul, coe_sum]
    rfl
  · rw [up2_hi h]
    simp only [dif_neg h, hD _ _, hv _ _, ha _ _, ← EReal.coe_mul, coe_sum]
    rfl

lemma before2 {v8 S w} (h8 : Holds v8 fun x j => if x.val < j.val then 1 else 0) (hG : Holds (k0_pay103 (F := Ideal) S w) fun r j => T.g (up2 r) (b + j.val)) :
    Holds (k0_pay107 (F := Ideal) v8 S w) fun r j => ∑ x ∈ Finset.range j.val, T.g (up2 r) (b + x) := by
  intro r j
  pointwise [k0_pay107]
  simp only [h8 _ _, hG _ _, ← EReal.coe_mul, ← EReal.coe_sub, coe_sum, sub_self, zero_mul, Finset.sum_const_zero, EReal.coe_zero, add_zero]
  rw [sum_lower (fun x => T.g (up2 r) (b + x)) j]

lemma score3 {v76 v396 v400} (hD : Holds v76 T.D) (hv : Holds v396 fun j d => T.V (b + j.val) d)
    (ha : Holds6 v400 fun r j => T.A r (b + j.val)) :
    Holds (k0_pay104 (F := Ideal) v76 v396 v400) fun r j => T.g (up3 r) (b + j.val) := by
  intro r j
  pointwise [k0_pay104]
  by_cases h : r.val < 128
  · rw [up3_lo h]
    simp only [dif_pos h, hD _ _, hv _ _, ha _ _, ← EReal.coe_mul, coe_sum]
    rfl
  · rw [up3_hi h]
    simp only [dif_neg h, hD _ _, hv _ _, ha _ _, ← EReal.coe_mul, coe_sum]
    rfl

lemma before3 {v8 v76 v w} (h8 : Holds v8 fun x j => if x.val < j.val then 1 else 0) (hG : Holds (k0_pay104 (F := Ideal) v76 v w) fun r j => T.g (up3 r) (b + j.val)) :
    Holds (k0_pay110 (F := Ideal) (k0_pay108 v76 v w) (k0_pay109 v8)) fun r j => ∑ x ∈ Finset.range j.val, T.g (up3 r) (b + x) := by
  intro r j
  pointwise [k0_pay110, k0_pay108, k0_pay109]
  simp only [h8 _ _, hG _ _, ← EReal.coe_mul, ← EReal.coe_sub, coe_sum, sub_self, zero_mul, Finset.sum_const_zero, EReal.coe_zero, add_zero]
  rw [sum_lower (fun x => T.g (up3 r) (b + x)) j]

lemma total1 {gl : Vec Ideal S1024x1 .f32} {G : Vec Ideal S768x128 .f32} (r : Fin 1024) (hr : 128 ≤ r.val % 512) (hl : gl (ix2 r 0) = ((T.pre r b : ℝ) : EReal))
    (hG : Holds G fun r j => T.g (up1 r) (b + j.val)) :
    k0_pay115 (F := Ideal) G gl (ix2 r 0) = ((T.pre r (b + 128) : ℝ) : EReal) := by
  have := r.isLt
  pointwise [k0_pay115]
  simp only [hG _ _, coe_sum]
  rw [hl, T.pre_add_fin, EReal.coe_add]
  refine congrArg _ ?_
  rw [dif_neg (by omega)]
  by_cases h : r.val < 512
  · rw [dif_pos (by omega), up1_lo (by dsimp only; omega)]
    have e : (⟨128 + (r.val - 128), by omega⟩ : Fin 1024) = r := Fin.ext (by dsimp only; omega)
    simp only [e]
  · rw [dif_neg (by omega), dif_neg (by omega), up1_hi (by dsimp only; omega)]
    have e : (⟨640 + (384 + (r.val - 128 - 384 - 128) - 384), by omega⟩ : Fin 1024) = r := Fin.ext (by dsimp only; omega)
    simp only [e]

lemma total2 {gl : Vec Ideal S1024x1 .f32} {G : Vec Ideal S512x128 .f32} (r : Fin 1024) (hr : 256 ≤ r.val % 512) (hl : gl (ix2 r 0) = ((T.pre r b : ℝ) : EReal))
    (hG : Holds G fun r j => T.g (up2 r) (b + j.val)) :
    gl (ix2 r 0) + k0_pay118 (F := Ideal) G (ix2 r 0) = ((T.pre r (b + 128) : ℝ) : EReal) := by
  have := r.isLt
  pointwise [k0_pay118]
  simp only [hG _ _, coe_sum]
  rw [hl, T.pre_add_fin, EReal.coe_add]
  refine congrArg _ ?_
  rw [dif_neg (by omega)]
  by_cases h : r.val < 512
  · rw [dif_pos (by omega), up2_lo (by dsimp only; omega)]
    have e : (⟨256 + (r.val - 256), by omega⟩ : Fin 1024) = r := Fin.ext (by dsimp only; omega)
    simp only [e]
  · rw [dif_neg (by omega), dif_neg (by omega), up2_hi (by dsimp only; omega)]
    have e : (⟨768 + (256 + (r.val - 256 - 256 - 256) - 256), by omega⟩ : Fin 1024) = r := Fin.ext (by dsimp only; omega)
    simp only [e]

lemma sel_if {α : Type} (p : Prop) [Decidable p] (x y : α) : Scalar.select (if p then 1#1 else 0#1) x y = if p then x else y := by
  split <;> rfl

/-- The first part of the block. -/
lemma diag0 {i : ℕ} {gl G P lw} (hl : Holds gl fun r _ => T.pre r (i * 512)) (hG : Holds G fun r j => T.g r (i * 512 + j.val))
    (hP : Holds P fun r j => ∑ x ∈ Finset.range j.val, T.g r (i * 512 + x)) (hL : Holds6 lw fun r j => T.L r (i * 512 + j.val)) :
    Holds (k0_pay112 (F := Ideal) k0_pay91 gl G P lw) fun r j => T.m i r (i * 512 + j.val) := by
  intro r j
  have h := grad hl hG hP hL r j
  have e : k0_pay112 (F := Ideal) k0_pay91 gl G P lw (ix2 r j) = Scalar.select (IntOp.cmpi CmpIPredicate.slt (k0_pay91 (ix2 r j)) 0#32) (k0_pay19 (F := Ideal) gl G P lw (ix2 r j)) 0 := by
    pointwise [k0_pay112, k0_pay19]
  rw [e, h, row_mask r j 0 (by omega) rfl, sel_if]
  split
  · exact congrArg _ (T.m_live (by omega)).symm
  · exact (congrArg Real.toEReal (T.m_dead (i := i) (r := r) (s := i * 512 + j.val) (by omega)).symm : ((0 : ℝ) : EReal) = _)

end Cert.SbIdeal.Pay

end
-- ==== Proof.SbNorm.lean ====
/-
  The stick-breaking backward call's arithmetic at the norm of a head's output: 128 lanes, 64 for each of two
  heads; and the rows of the two heads laid one above the other, each row zero at the other head's lanes.
-/
module

public import proofs.«01_k».proof.Proof.SbDiag

@[expose] public section

noncomputable section

namespace Cert.Stick

/-- The sum over the lanes of the head that lane `l` belongs to. -/
def hsum (f : Fin 128 → ℝ) (l : Fin 128) : ℝ :=
  if l.val < 64 then ∑ d : Fin 128, (if d.val < 64 then f d else 0) else ∑ d : Fin 128, (if d.val < 64 then 0 else f d)

/-- The constant added to a mean square. -/
def eps : ℝ := (Idealize.ShloMosaic.Ideal.ofBits .f32 0x358637BD#32 : EReal).toReal

/-- The mean square of a head's row. -/
def ms {n : ℕ} (X : Fin n → Fin 128 → ℝ) (r : Fin n) (l : Fin 128) : ℝ := hsum (fun d => X r d * X r d) l * (1 / 64)

/-- One over its root mean square. -/
def inv {n : ℕ} (X : Fin n → Fin 128 → ℝ) (r : Fin n) (l : Fin 128) : ℝ := (√(ms X r l + eps))⁻¹

/-- The normed row. -/
def nrm {n : ℕ} (X : Fin n → Fin 128 → ℝ) (r : Fin n) (l : Fin 128) : ℝ := X r l * inv X r l

/-- The gradient of a head's output before the norm and its gain. -/
def dout {n : ℕ} (X M : Fin n → Fin 128 → ℝ) (w : Fin 128 → ℝ) (r : Fin n) (l : Fin 128) : ℝ :=
  inv X r l * (M r l * w l - nrm X r l * (hsum (fun d => M r d * w d * nrm X r d) l * (1 / 64)))

/-- The rows of the first head above those of the second, each zero at the other's lanes. -/
def stack (x : Fin 512 → Fin 128 → ℝ) (r : Fin 1024) (d : Fin 128) : ℝ :=
  if h : r.val < 512 then (if d.val < 64 then x ⟨r.val, h⟩ d else 0) else (if d.val < 64 then 0 else x ⟨r.val - 512, by omega⟩ d)

lemma eps_eq : (Idealize.ShloMosaic.Ideal.ofBits .f32 0x358637BD#32 : EReal) = ((eps : ℝ) : EReal) := by
  unfold eps
  simp [Idealize.ShloMosaic.Ideal.ofBits, Idealize.ShloMosaic.Ideal.ieee, -EReal.coe_mul]

lemma eps_pos : 0 < eps := by
  unfold eps
  simp [Idealize.ShloMosaic.Ideal.ofBits, Idealize.ShloMosaic.Ideal.ieee, -EReal.coe_mul]

lemma hsum_nonneg {f : Fin 128 → ℝ} (h : ∀ d, 0 ≤ f d) (l : Fin 128) : 0 ≤ hsum f l := by
  unfold hsum
  split <;> refine Finset.sum_nonneg fun d _ => ?_ <;> split <;> first | exact h d | exact le_refl 0

lemma ms_pos {n : ℕ} (X : Fin n → Fin 128 → ℝ) (r : Fin n) (l : Fin 128) : 0 < ms X r l + eps :=
  add_pos_of_nonneg_of_pos (mul_nonneg (hsum_nonneg (fun _ => mul_self_nonneg _) l) (by norm_num)) eps_pos

lemma rsqrt_pos {x : ℝ} (h : 0 < x) : Idealize.ShloMosaic.Ideal.rsqrt ((x : ℝ) : EReal) = (((√x)⁻¹ : ℝ) : EReal) := by
  rw [Idealize.ShloMosaic.Ideal.rsqrt_coe, if_neg (not_lt.2 h.le), if_neg h.ne']

end Cert.Stick

namespace Cert.SbIdeal.Pay

open Cert.SbIdeal Gen Idealize.ShloMosaic TcCoe
open Cert.Reals Cert.Stick

lemma lane_mask (d : Fin 128) : IntOp.cmpi CmpIPredicate.slt (BitVec.ofNat 32 d.val) 64#32 = if d.val < 64 then 1#1 else 0#1 := by
  revert d; decide +kernel

lemma lanes (r : Fin 512) (d : Fin 128) : k0_pay74 (ix2 r d) = if d.val < 64 then 1#1 else 0#1 := by
  pointwise [k0_pay74]
  exact lane_mask d

lemma sixtyfourth : (Ideal.ofBits .f32 0x3C800000#32 : EReal) = ((1 / 64 : ℝ) : EReal) := by
  simp [Ideal.ofBits, Ideal.ieee, -EReal.coe_mul]; norm_num

/-- A sum over one head's lanes. -/
lemma sum_if (f : Fin 128 → EReal) (g : Fin 128 → ℝ) (h : ∀ d, f d = ((g d : ℝ) : EReal)) :
    (∑ d : Fin 128, (if d.val < 64 then f d else 0)) = (((∑ d : Fin 128, (if d.val < 64 then g d else 0)) : ℝ) : EReal) := by
  rw [← coe_sum]
  refine Finset.sum_congr rfl fun d _ => ?_
  split
  · exact h d
  · exact EReal.coe_zero.symm

lemma sum_if' (f : Fin 128 → EReal) (g : Fin 128 → ℝ) (h : ∀ d, f d = ((g d : ℝ) : EReal)) :
    (∑ d : Fin 128, (if d.val < 64 then 0 else f d)) = (((∑ d : Fin 128, (if d.val < 64 then 0 else g d)) : ℝ) : EReal) := by
  rw [← coe_sum]
  refine Finset.sum_congr rfl fun d _ => ?_
  split
  · exact EReal.coe_zero.symm
  · exact h d

lemma sum_head (f : Fin 128 → EReal) (g : Fin 128 → ℝ) (h : ∀ d, f d = ((g d : ℝ) : EReal)) (l : Fin 128) :
    (if l.val < 64 then ∑ d : Fin 128, (if d.val < 64 then f d else 0) else ∑ d : Fin 128, (if d.val < 64 then 0 else f d)) = ((hsum g l : ℝ) : EReal) := by
  unfold hsum
  split
  · exact sum_if f g h
  · exact sum_if' f g h

variable {X M : Fin 512 → Fin 128 → ℝ} {w : Fin 128 → ℝ}

lemma raw79 {v17 : Vec Ideal S512x128 .f32} (h : Holds v17 X) : Holds (k0_pay79 v17) X := by
  intro r l
  pointwise [k0_pay79]
  exact h r l

lemma ct80 {v19 : Vec Ideal S512x128 .bf16} (h : Holds v19 M) : Holds (k0_pay80 v19) M := by
  intro r l
  pointwise [k0_pay80]
  exact h r l

lemma mean {v17 : Vec Ideal S512x128 .f32} (h : Holds v17 X) : Holds (k0_pay81 v17) (ms X) := by
  intro r l
  pointwise [k0_pay81]
  simp only [lanes, sel_if, sixtyfourth]
  rw [sum_head _ (fun d => X r d * X r d) (fun d => by rw [raw79 h r d, ← EReal.coe_mul]), ← EReal.coe_mul]
  rfl

lemma root {v37 : Vec Ideal S512x128 .f32} (h : Holds v37 (ms X)) : Holds (k0_pay83 (F := Ideal) v37 k0_pay82) (inv X) := by
  intro r l
  pointwise [k0_pay83, k0_pay82]
  rw [h r l, eps_eq, ← EReal.coe_add, rsqrt_pos (ms_pos X r l)]
  rfl

lemma normed {v18 v37 : Vec Ideal S512x128 .f32} (h18 : Holds v18 X) (h : Holds v37 (ms X)) : Holds (k0_pay84 (F := Ideal) v18 v37 k0_pay82) (nrm X) := by
  intro r l
  have e : k0_pay84 (F := Ideal) v18 v37 k0_pay82 (ix2 r l) = v18 (ix2 r l) * k0_pay83 (F := Ideal) v37 k0_pay82 (ix2 r l) := by pointwise [k0_pay84]
  rw [e, h18 r l, root h r l, ← EReal.coe_mul]
  rfl

/-- The gain's gradient, a tile's rows added to what was there. -/
lemma gain {v18 v21 v37 : Vec Ideal S512x128 .f32} {v42 : Vec Ideal S1x128 .f32} {a : Fin 1 → Fin 128 → ℝ} (h18 : Holds v18 X) (h21 : Holds v21 M) (h : Holds v37 (ms X)) (ha : Holds v42 a) :
    Holds (k0_pay85 (F := Ideal) v18 v21 v37 k0_pay82 v42) fun z l => a z l + ∑ r, M r l * nrm X r l := by
  intro z l
  have e : k0_pay85 (F := Ideal) v18 v21 v37 k0_pay82 v42 (ix2 z l) = v42 (ix2 z l) + ∑ r : Fin 512, v21 (ix2 r l) * k0_pay84 (F := Ideal) v18 v37 k0_pay82 (ix2 r l) := by
    obtain rfl : z = 0 := Subsingleton.elim _ _
    pointwise [k0_pay85]
  rw [e, ha z l]
  simp only [h21 _ _, normed h18 h _ _, ← EReal.coe_mul, coe_sum, ← EReal.coe_add]

lemma back {v18 v21 v37 : Vec Ideal S512x128 .f32} {v49 : Vec Ideal S1x128 .f32} (h18 : Holds v18 X) (h21 : Holds v21 M) (h : Holds v37 (ms X)) (h49 : Holds v49 fun _ l => w l) :
    Holds (k0_pay86 (F := Ideal) k0_pay74 v18 v21 v37 k0_pay82 v49) (dout X M w) := by
  intro r l
  have e : ∀ d, v21 (ix2 r d) * v49 (ix2 0 d) * k0_pay84 (F := Ideal) v18 v37 k0_pay82 (ix2 r d) = ((M r d * w d * nrm X r d : ℝ) : EReal) := fun d => by
    rw [h21 r d, h49 0 d, normed h18 h r d, ← EReal.coe_mul, ← EReal.coe_mul]
  pointwise [k0_pay86]
  simp only [lanes, sel_if, sixtyfourth]
  rw [sum_head _ _ e, root h r l, normed h18 h r l, h21 r l, h49 0 l]
  simp only [← EReal.coe_mul, ← EReal.coe_sub]
  rfl

lemma stacked {f : Fin 512 → Fin 128 → ℝ} {v71 : Vec Ideal S512x128 .f32} (h : Holds v71 f) {v18 v21 v37 v38 v49} (e : k0_pay86 (F := Ideal) k0_pay74 v18 v21 v37 v38 v49 = v71) :
    Holds (k0_pay87 (F := Ideal) k0_pay74 v18 v21 v37 v38 v49) (stack f) := by
  intro r d
  pointwise [k0_pay87]
  simp only [lanes, sel_if, e]
  unfold stack
  split
  · split
    · exact h _ _
    · exact EReal.coe_zero.symm
  · split
    · exact EReal.coe_zero.symm
    · exact h _ _

lemma queries_t {f : Fin 512 → Fin 128 → ℝ} {v77 : Vec Ideal S512x128 .bf16} (h : Holds v77 f) :
    Holds (k0_pay89 (k0_pay88 v77) (iota .tc S128x512 32 [0] iota_S128x512_d0_w32) 64#32) fun l r => stack f r l := by
  intro l r
  pointwise [k0_pay89, k0_pay88]
  simp only [lane_mask, sel_if]
  unfold stack
  split
  · split
    · exact h _ _
    · exact EReal.coe_zero.symm
  · split
    · exact EReal.coe_zero.symm
    · exact h _ _

lemma outs_t {f : Fin 512 → Fin 128 → ℝ} {v71 : Vec Ideal S512x128 .f32} (h : Holds v71 f) :
    Holds (k0_pay90 (F := Ideal) v71) fun l r => stack f r l := by
  intro l r
  pointwise [k0_pay90]
  simp only [lane_mask, sel_if]
  unfold stack
  split
  · split
    · exact h _ _
    · exact EReal.coe_zero.symm
  · split
    · exact EReal.coe_zero.symm
    · exact h _ _

/-- The queries' gradient as written: each lane from the row of its own head. -/
lemma query_out {acc z kb} {a : Fin 1024 → Fin 128 → ℝ} {f : Fin 1024 → Fin 512 → ℝ} {k} (ha : Holds acc a) (hz : Holds z f) (hk : Holds kb k) :
    Holds (k0_pay122 (F := Ideal) k0_pay74 acc z kb) fun r d => if d.val < 64 then a ⟨r.val, by omega⟩ d + ∑ s, f ⟨r.val, by omega⟩ s * k s d
      else a ⟨512 + r.val, by omega⟩ d + ∑ s, f ⟨512 + r.val, by omega⟩ s * k s d := by
  intro r d
  pointwise [k0_pay122]
  simp only [lanes, sel_if, hk _ _, hz _ _, ha _ _, ← EReal.coe_mul, coe_sum, ← EReal.coe_add]
  split <;> rfl

end Cert.SbIdeal.Pay

end
-- ==== Proof.SbLoop.lean ====
/-
  The loop over the blocks of 512 keys left of the diagonal: what one trip writes and carries on.
-/
module

public import proofs.«01_k».proof.Proof.Gen.SbIdeal.Value
public import proofs.«01_k».proof.Proof.SbNorm
public import Idealize.ShloMosaic.Lib.WholeRead

@[expose] public section

set_option maxRecDepth 16384

noncomputable section

namespace Cert.SbIdeal.Pay

open Cert.SbIdeal Gen Cert.Stick Idealize.ShloMosaic TcCoe Cert.Reals

/-- A load of a rectangle from a memref that holds `X` reads `X` at the offset place. -/
lemma load_at {κ : Kind} {sp : Space} {s : Shape} {e : EltTy} {M : Memref sig κ sp s e} (h : M.IsWhole) (X : s.Idx → Elt Ideal e) (off size : Fin s.rank → Nat)
    (inb : ∀ a, off a + size a ≤ s.size a) (x : (Rect.unit off size inb).shape.Idx) (y : s.Idx) (hy : ∀ a, (y a).val = off a + (x a).val) :
    View.readAt (Elt Ideal) M.view (Rect.unit off size inb).toLoadRect (h.unread X) x = X y := by
  rw [h.readAt_unread]
  refine congrArg X (funext fun a => Fin.ext ?_)
  rw [hy a, LoadRect.idx_apply]
  exact congrArg (off a + ·) (Nat.one_mul _)

lemma off1_at (i : grid0.Coords) (k : Fin (k0_t1_loop i).trips) (hk : k.val < 4) :
    k0_off1 i k 0#32 = ![k.val * 512, 0] ∧ k0_off1 i k 1#32 = ![k.val * 512 + 128, 0] ∧ k0_off1 i k 2#32 = ![k.val * 512 + 256, 0] ∧
      k0_off1 i k 3#32 = ![k.val * 512 + 384, 0] := by
  obtain ⟨n, hn⟩ := k
  dsimp only at hk ⊢
  unfold k0_off1
  dsimp only
  interval_cases n <;> decide

lemma off2_at (i : grid0.Coords) (k : Fin (k0_t1_loop i).trips) (hk : k.val < 4) :
    k0_off2 i k = ![0, 0, k.val, 0, 0, 0] ∧ k0_off3 i k = ![0, 0, k.val, 0, 0, 128] ∧ k0_off4 i k = ![0, 0, k.val, 0, 0, 256] ∧
      k0_off5 i k = ![0, 0, k.val, 0, 0, 384] ∧ k0_off6 i k = ![k.val, 0, 0] ∧ k0_off7 i k = ![0, 0, k.val, 0, 0, 0] ∧ k0_off8 i k = ![k.val * 512, 0] := by
  obtain ⟨n, hn⟩ := k
  dsimp only at hk ⊢
  unfold k0_off2 k0_off3 k0_off4 k0_off5 k0_off6 k0_off7 k0_off8
  dsimp only
  interval_cases n <;> decide

/-- A window of weights, by query row and position. -/
abbrev HoldsW (x : (⟨6, ![1, 1, 4, 1, 1024, 512]⟩ : Shape).Idx → EReal) (f : Fin 1024 → ℕ → ℝ) : Prop :=
  ∀ (k : Fin 4) (r : Fin 1024) (s : Fin 512), x (ix6 0 0 k 0 r s) = ((f r (k.val * 512 + s.val) : ℝ) : EReal)

lemma place6 {off : Fin 6 → Nat} {k : Fin 4} {c : Nat} (o : off = ![0, 0, k.val, 0, 0, c]) {r} {j : Fin 128} {h : c + j.val < 512} :
    ∀ a : Fin 6, ((ix6 0 0 k 0 r ⟨c + j.val, h⟩ : (⟨6, ![1, 1, 4, 1, 1024, 512]⟩ : Shape).Idx) a).val =
      off a + ((ix6 0 0 0 0 r j : (⟨6, ![1, 1, 1, 1, 1024, 128]⟩ : Shape).Idx) a).val := by
  rw [o]; intro a; fin_cases a <;> simp

lemma place6' {off : Fin 6 → Nat} {k : Fin 4} (o : off = ![0, 0, k.val, 0, 0, 0]) {r} {s : Fin 512} :
    ∀ a : Fin 6, ((ix6 0 0 k 0 r s : (⟨6, ![1, 1, 4, 1, 1024, 512]⟩ : Shape).Idx) a).val =
      off a + ((ix6 0 0 0 0 r s : (⟨6, ![1, 1, 1, 1, 1024, 512]⟩ : Shape).Idx) a).val := by
  rw [o]; intro a; fin_cases a <;> simp

lemma place2 {off : Fin 2 → Nat} {n c : Nat} (o : off = ![c, 0]) {j : Fin n} {h : c + j.val < 2048} {d} :
    ∀ a : Fin 2, ((ix2 ⟨c + j.val, h⟩ d : (⟨2, ![2048, 128]⟩ : Shape).Idx) a).val = off a + ((ix2 j d : (⟨2, ![n, 128]⟩ : Shape).Idx) a).val := by
  rw [o]; intro a; fin_cases a <;> simp

lemma third (off : Fin 3 → Nat) (inb) (k : Fin 4) (o : off = ![k.val, 0, 0]) (l : Fin 128) (s : Fin 512) :
    (Rect.unit (s := S4x128x512) off ![1, 128, 512] inb).toLoadRect.idx (ix3 0 l s) = ix3 k l s := by
  subst o
  refine funext fun a => Fin.ext ?_
  fin_cases a <;> simp

lemma trip_at (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S1x1x4x1x1024x512 .bf16) (harg7 : arg7.IsWhole) (arg8 : Memref sig .tc .vmem S1x1x4x1x1024x512 .bf16) (harg8 : arg8.IsWhole) (arg9 : Memref sig .tc .vmem S512x128 .bf16) (harg9 : arg9.IsWhole) (arg10 : Memref sig .tc .vmem S1x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S4x128x512 .f32) (harg15 : arg15.IsWhole) (arg16 : Memref sig .tc .vmem S4x128x512 .f32) (harg16 : arg16.IsWhole) (arg2 : BitVec 32) (v8 : FVec Ideal S128x128 .bf16) (v71 : FVec Ideal S512x128 .f32) (v76 : FVec Ideal S1024x128 .bf16) (v80 : FVec Ideal S128x512 .f32) (v81 : IVec S128x512 32) (c64_i32_27 : BitVec 32) (k : Fin (k0_t1_loop i).trips) (acc : FVec Ideal S1024x1 .f32 × FVec Ideal S1024x128 .f32) (f15 : BufTy.Contents (Elt Ideal) arg15.view.ty) (f16 : BufTy.Contents (Elt Ideal) arg16.view.ty)
    (x4 x5 : Vec Ideal S2048x128 .bf16) (x7 x8 : Vec Ideal S1x1x4x1x1024x512 .bf16) {T : Tile} {iq : ℕ} {q dst : Fin 128 → Fin 1024 → ℝ} {aK aV : Fin 128 → Fin 512 → ℝ}
    (hk : k.val < 4) (hki : k.val < iq)
    (h8 : Holds v8 fun x j => if x.val < j.val then 1 else 0) (hD : Holds v76 T.D)
    (hq : Holds (k0_pay89 v80 v81 c64_i32_27) q) (hdo : Holds (k0_pay90 v71) dst)
    (h4 : Holds x4 fun s d => T.K s.val d) (h5 : Holds x5 fun s d => T.V s.val d) (h7 : HoldsW x7 T.A) (h8l : HoldsW x8 T.L)
    (hacc1 : Holds acc.1 fun r _ => T.pre r (k.val * 512)) (hacc2 : Holds acc.2 (T.dq iq (k.val * 512)))
    (h15 : ∀ l s, View.read (Elt Ideal) arg15.view f15 (ix3 ⟨k.val, hk⟩ l s) = ((aK l s : ℝ) : EReal))
    (h16 : ∀ l s, View.read (Elt Ideal) arg16.view f16 (ix3 ⟨k.val, hk⟩ l s) = ((aV l s : ℝ) : EReal)) :
    (∃ w, (tripL_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) k acc f15 f16).1 = [⟨Rect.unit (s := S4x128x512) (k0_off6 i k) ![1, 128, 512] (k0_off6_inb i k), w⟩] ∧
      Holds3 w fun l s => aK l s + ∑ r, q l r * T.m iq r (k.val * 512 + s.val)) ∧
    (∃ w, (tripL_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) k acc f15 f16).2 = [⟨Rect.unit (s := S4x128x512) (k0_off6 i k) ![1, 128, 512] (k0_off6_inb i k), w⟩] ∧
      Holds3 w fun l s => aV l s + ∑ r, dst l r * T.A r (k.val * 512 + s.val)) ∧
    Holds (tripR_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) k acc f15 f16).1 (fun r _ => T.pre r ((k.val + 1) * 512)) ∧
    Holds (tripR_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) k acc f15 f16).2 (T.dq iq ((k.val + 1) * 512)) := by
  unfold tripL_k0_t1 tripR_k0_t1 trip_k0_t1
  dsimp only
  unfold trip_k0_t1.sl.r_17 trip_k0_t1.sl.r_15 trip_k0_t1.sl.r_16
  obtain ⟨o10, o11, o12, o13⟩ := off1_at i k hk
  obtain ⟨o2, o3, o4, o5, o6, o7, o8⟩ := off2_at i k hk
  have hv0 : Holds (View.readAt (Elt Ideal) arg5.view (Rect.unit (s := S2048x128) (k0_off1 i k 0#32) S128x128.size (k0_off1_inb i k 0)).toLoadRect (harg5.unread x5)) fun j d => T.V (k.val * 512 + j.val) d :=
    fun j d => (load_at harg5 x5 _ _ _ _ (ix2 ⟨k.val * 512 + j.val, by omega⟩ d) (place2 o10)).trans (h5 _ _)
  have hv1 : Holds (View.readAt (Elt Ideal) arg5.view (Rect.unit (s := S2048x128) (k0_off1 i k 1#32) S128x128.size (k0_off1_inb i k 1)).toLoadRect (harg5.unread x5)) fun j d => T.V (k.val * 512 + 128 + j.val) d :=
    fun j d => (load_at harg5 x5 _ _ _ _ (ix2 ⟨k.val * 512 + 128 + j.val, by omega⟩ d) (place2 o11)).trans (h5 _ _)
  have hv2 : Holds (View.readAt (Elt Ideal) arg5.view (Rect.unit (s := S2048x128) (k0_off1 i k 2#32) S128x128.size (k0_off1_inb i k 2)).toLoadRect (harg5.unread x5)) fun j d => T.V (k.val * 512 + 256 + j.val) d :=
    fun j d => (load_at harg5 x5 _ _ _ _ (ix2 ⟨k.val * 512 + 256 + j.val, by omega⟩ d) (place2 o12)).trans (h5 _ _)
  have hv3 : Holds (View.readAt (Elt Ideal) arg5.view (Rect.unit (s := S2048x128) (k0_off1 i k 3#32) S128x128.size (k0_off1_inb i k 3)).toLoadRect (harg5.unread x5)) fun j d => T.V (k.val * 512 + 384 + j.val) d :=
    fun j d => (load_at harg5 x5 _ _ _ _ (ix2 ⟨k.val * 512 + 384 + j.val, by omega⟩ d) (place2 o13)).trans (h5 _ _)
  have ha0 : Holds6 (View.readAt (Elt Ideal) arg7.view (Rect.unit (s := S1x1x4x1x1024x512) (k0_off2 i k) S1x1x1x1x1024x128.size (k0_off2_inb i k)).toLoadRect (harg7.unread x7)) fun r j => T.A r (k.val * 512 + j.val) :=
    fun r j => (load_at harg7 x7 _ _ _ _ (ix6 0 0 ⟨k.val, hk⟩ 0 r ⟨0 + j.val, by omega⟩) (place6 o2)).trans ((h7 _ _ _).trans (congrArg _ (congrArg _ (by dsimp only; omega))))
  have ha1 : Holds6 (View.readAt (Elt Ideal) arg7.view (Rect.unit (s := S1x1x4x1x1024x512) (k0_off3 i k) S1x1x1x1x1024x128.size (k0_off3_inb i k)).toLoadRect (harg7.unread x7)) fun r j => T.A r (k.val * 512 + 128 + j.val) :=
    fun r j => (load_at harg7 x7 _ _ _ _ (ix6 0 0 ⟨k.val, hk⟩ 0 r ⟨128 + j.val, by omega⟩) (place6 o3)).trans ((h7 _ _ _).trans (congrArg _ (congrArg _ (by dsimp only; omega))))
  have ha2 : Holds6 (View.readAt (Elt Ideal) arg7.view (Rect.unit (s := S1x1x4x1x1024x512) (k0_off4 i k) S1x1x1x1x1024x128.size (k0_off4_inb i k)).toLoadRect (harg7.unread x7)) fun r j => T.A r (k.val * 512 + 256 + j.val) :=
    fun r j => (load_at harg7 x7 _ _ _ _ (ix6 0 0 ⟨k.val, hk⟩ 0 r ⟨256 + j.val, by omega⟩) (place6 o4)).trans ((h7 _ _ _).trans (congrArg _ (congrArg _ (by dsimp only; omega))))
  have ha3 : Holds6 (View.readAt (Elt Ideal) arg7.view (Rect.unit (s := S1x1x4x1x1024x512) (k0_off5 i k) S1x1x1x1x1024x128.size (k0_off5_inb i k)).toLoadRect (harg7.unread x7)) fun r j => T.A r (k.val * 512 + 384 + j.val) :=
    fun r j => (load_at harg7 x7 _ _ _ _ (ix6 0 0 ⟨k.val, hk⟩ 0 r ⟨384 + j.val, by omega⟩) (place6 o5)).trans ((h7 _ _ _).trans (congrArg _ (congrArg _ (by dsimp only; omega))))
  have hl0 : Holds6 (View.readAt (Elt Ideal) arg8.view (Rect.unit (s := S1x1x4x1x1024x512) (k0_off2 i k) S1x1x1x1x1024x128.size (k0_off2_inb i k)).toLoadRect (harg8.unread x8)) fun r j => T.L r (k.val * 512 + j.val) :=
    fun r j => (load_at harg8 x8 _ _ _ _ (ix6 0 0 ⟨k.val, hk⟩ 0 r ⟨0 + j.val, by omega⟩) (place6 o2)).trans ((h8l _ _ _).trans (congrArg _ (congrArg _ (by dsimp only; omega))))
  have hl1 : Holds6 (View.readAt (Elt Ideal) arg8.view (Rect.unit (s := S1x1x4x1x1024x512) (k0_off3 i k) S1x1x1x1x1024x128.size (k0_off3_inb i k)).toLoadRect (harg8.unread x8)) fun r j => T.L r (k.val * 512 + 128 + j.val) :=
    fun r j => (load_at harg8 x8 _ _ _ _ (ix6 0 0 ⟨k.val, hk⟩ 0 r ⟨128 + j.val, by omega⟩) (place6 o3)).trans ((h8l _ _ _).trans (congrArg _ (congrArg _ (by dsimp only; omega))))
  have hl2 : Holds6 (View.readAt (Elt Ideal) arg8.view (Rect.unit (s := S1x1x4x1x1024x512) (k0_off4 i k) S1x1x1x1x1024x128.size (k0_off4_inb i k)).toLoadRect (harg8.unread x8)) fun r j => T.L r (k.val * 512 + 256 + j.val) :=
    fun r j => (load_at harg8 x8 _ _ _ _ (ix6 0 0 ⟨k.val, hk⟩ 0 r ⟨256 + j.val, by omega⟩) (place6 o4)).trans ((h8l _ _ _).trans (congrArg _ (congrArg _ (by dsimp only; omega))))
  have hl3 : Holds6 (View.readAt (Elt Ideal) arg8.view (Rect.unit (s := S1x1x4x1x1024x512) (k0_off5 i k) S1x1x1x1x1024x128.size (k0_off5_inb i k)).toLoadRect (harg8.unread x8)) fun r j => T.L r (k.val * 512 + 384 + j.val) :=
    fun r j => (load_at harg8 x8 _ _ _ _ (ix6 0 0 ⟨k.val, hk⟩ 0 r ⟨384 + j.val, by omega⟩) (place6 o5)).trans ((h8l _ _ _).trans (congrArg _ (congrArg _ (by dsimp only; omega))))
  have haw : Holds6 (View.readAt (Elt Ideal) arg7.view (Rect.unit (s := S1x1x4x1x1024x512) (k0_off7 i k) ![1, 1, 1, 1, 1024, 512] (k0_off7_inb i k)).toLoadRect (harg7.unread x7)) fun r s => T.A r (k.val * 512 + s.val) :=
    fun r s => (load_at harg7 x7 _ _ _ _ (ix6 0 0 ⟨k.val, hk⟩ 0 r s) (place6' o7)).trans (h7 _ _ _)
  have hkb : Holds (View.readAt (Elt Ideal) arg4.view (Rect.unit (s := S2048x128) (k0_off8 i k) ![512, 128] (k0_off8_inb i k)).toLoadRect (harg4.unread x4)) fun s d => T.K (k.val * 512 + s.val) d :=
    fun j d => (load_at harg4 x4 _ _ _ _ (ix2 ⟨k.val * 512 + j.val, by omega⟩ d) (place2 o8)).trans (h4 _ _)
  have hK : Holds3 (View.readAt (Elt Ideal) arg15.view (Rect.unit (s := S4x128x512) (k0_off6 i k) S1x128x512.size (k0_off6_inb i k)).toLoadRect f15) aK :=
    fun l s => Eq.trans (congrArg (View.read (Elt Ideal) arg15.view f15) (third _ _ ⟨k.val, hk⟩ o6 l s)) (h15 l s)
  have hV : Holds3 (View.readAt (Elt Ideal) arg16.view (Rect.unit (s := S4x128x512) (k0_off6 i k) S1x128x512.size (k0_off6_inb i k)).toLoadRect f16) aV :=
    fun l s => Eq.trans (congrArg (View.read (Elt Ideal) arg16.view f16) (third _ _ ⟨k.val, hk⟩ o6 l s)) (h16 l s)
  obtain ⟨hz, hp⟩ := block h8 hD hacc1 hv0 hv1 hv2 hv3 ha0 ha1 ha2 ha3 hl0 hl1 hl2 hl3
  have hm := hz.congr fun r (s : Fin 512) => (T.m_before (i := iq) (r := r) (s := k.val * 512 + s.val) (by omega)).symm
  have hq' := keys hq hm hK
  have hv' := values hdo haw hV
  have hd' := queries hacc2 hm hkb
  have e : (k.val + 1) * 512 = k.val * 512 + 512 := by omega
  refine ⟨⟨_, rfl, hq'⟩, ⟨_, rfl, hv'⟩, ?_, ?_⟩
  · exact hp.congr fun r _ => by rw [e]
  · exact hd'.congr fun r d => by rw [e, T.dq_add iq (k.val * 512) 512 r d]

/-- What block `j` of an accumulator holds after `n` trips. -/
def grown (aK : Fin 4 → Fin 128 → Fin 512 → ℝ) (q : Fin 128 → Fin 1024 → ℝ) (f : Fin 1024 → ℕ → ℝ) (n : ℕ) (j : Fin 4) (l : Fin 128) (s : Fin 512) : ℝ :=
  aK j l s + if j.val < n then ∑ r, q l r * f r (j.val * 512 + s.val) else 0

lemma grown_now (aK q f n hn l s) : grown aK q f n ⟨n, hn⟩ l s = aK ⟨n, hn⟩ l s := by
  rw [grown, if_neg (lt_irrefl _), add_zero]

/-- One more block is written: the others keep what they hold. -/
lemma grow {M : Memref sig .tc .vmem S4x128x512 .f32} (G : BufTy.Contents (Elt Ideal) M.view.ty) (L : List (View.Piece (Elt Ideal) S4x128x512 .f32))
    {aK q f n} (hn : n < 4) (hL : ∀ j l s, View.read (Elt Ideal) M.view (M.view.writes (Elt Ideal) G L) (ix3 j l s) = ((grown aK q f n j l s : ℝ) : EReal))
    (off inb) (w) (ho : off = ![n, 0, 0]) (hw : Holds3 w fun l s => aK ⟨n, hn⟩ l s + ∑ r, q l r * f r (n * 512 + s.val)) :
    ∀ j l s, View.read (Elt Ideal) M.view (M.view.writes (Elt Ideal) G (⟨Rect.unit (s := S4x128x512) off ![1, 128, 512] inb, w⟩ :: L)) (ix3 j l s) =
      ((grown aK q f (n + 1) j l s : ℝ) : EReal) := by
  subst ho
  intro j l s
  by_cases h : j.val = n
  · obtain rfl : j = ⟨n, hn⟩ := Fin.ext h
    refine (View.read_writes_cons_hit_of_coords _ _ _ _ _ (ix3 0 l s) _ fun a => ?_).trans ((hw l s).trans (congrArg _ ?_))
    · fin_cases a <;> simp
    · rw [grown, if_pos (Nat.lt_succ_self n)]
  · refine (View.read_writes_cons_miss_of_axis _ _ _ _ _ 0 n 1 rfl rfl rfl ?_).trans ((hL j l s).trans (congrArg _ ?_))
    · change j.val < n ∨ n + 1 ≤ j.val
      omega
    · rw [grown, grown]
      exact congrArg _ (if_congr (by omega) rfl rfl)

lemma loop_at (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S1x1x4x1x1024x512 .bf16) (harg7 : arg7.IsWhole) (arg8 : Memref sig .tc .vmem S1x1x4x1x1024x512 .bf16) (harg8 : arg8.IsWhole) (arg9 : Memref sig .tc .vmem S512x128 .bf16) (harg9 : arg9.IsWhole) (arg10 : Memref sig .tc .vmem S1x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S4x128x512 .f32) (harg15 : arg15.IsWhole) (arg16 : Memref sig .tc .vmem S4x128x512 .f32) (harg16 : arg16.IsWhole) (arg2 : BitVec 32) (v8 : FVec Ideal S128x128 .bf16) (v71 : FVec Ideal S512x128 .f32) (v76 : FVec Ideal S1024x128 .bf16) (v80 : FVec Ideal S128x512 .f32) (v81 : IVec S128x512 32) (c64_i32_27 : BitVec 32) (init : FVec Ideal S1024x1 .f32 × FVec Ideal S1024x128 .f32) (f15 : BufTy.Contents (Elt Ideal) arg15.view.ty) (f16 : BufTy.Contents (Elt Ideal) arg16.view.ty)
    (x4 x5 : Vec Ideal S2048x128 .bf16) (x7 x8 : Vec Ideal S1x1x4x1x1024x512 .bf16) {T : Tile} {iq : ℕ} {q dst : Fin 128 → Fin 1024 → ℝ}
    {aK aV : Fin 4 → Fin 128 → Fin 512 → ℝ}
    (h8 : Holds v8 fun x j => if x.val < j.val then 1 else 0) (hD : Holds v76 T.D)
    (hq : Holds (k0_pay89 v80 v81 c64_i32_27) q) (hdo : Holds (k0_pay90 v71) dst)
    (h4 : Holds x4 fun s d => T.K s.val d) (h5 : Holds x5 fun s d => T.V s.val d) (h7 : HoldsW x7 T.A) (h8l : HoldsW x8 T.L)
    (hi1 : Holds init.1 fun r _ => T.pre r 0) (hi2 : Holds init.2 (T.dq iq 0))
    (h15 : ∀ j l s, View.read (Elt Ideal) arg15.view f15 (ix3 j l s) = ((aK j l s : ℝ) : EReal))
    (h16 : ∀ j l s, View.read (Elt Ideal) arg16.view f16 (ix3 j l s) = ((aV j l s : ℝ) : EReal)) (hiq : iq ≤ 4) :
    ∀ n, n ≤ iq → iq ≤ (k0_t1_loop i).trips →
    Holds (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) f15 f16 init n).1.1 (fun r _ => T.pre r (n * 512)) ∧ Holds (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) f15 f16 init n).1.2 (T.dq iq (n * 512)) ∧
    (∀ j l s, View.read (Elt Ideal) arg15.view (arg15.view.writes (Elt Ideal) f15 (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) f15 f16 init n).2.1) (ix3 j l s) =
      ((grown aK q (T.m iq) n j l s : ℝ) : EReal)) ∧
    (∀ j l s, View.read (Elt Ideal) arg16.view (arg16.view.writes (Elt Ideal) f16 (st_k0_t1 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) f15 f16 init n).2.2) (ix3 j l s) =
      ((grown aV dst T.A n j l s : ℝ) : EReal))
  | 0, _, _ => ⟨hi1.congr fun _ _ => by rw [Nat.zero_mul], hi2.congr fun _ _ => by rw [Nat.zero_mul],
      fun j l s => (h15 j l s).trans (congrArg _ (add_zero _).symm), fun j l s => (h16 j l s).trans (congrArg _ (add_zero _).symm)⟩
  | n + 1, hn, hi => by
    have h4n : n < 4 := by omega
    obtain ⟨i1, i2, i3, i4⟩ := loop_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 init f15 f16 x4 x5 x7 x8 h8 hD hq hdo h4 h5 h7 h8l hi1 hi2 h15 h16 hiq n (by omega) hi
    obtain ⟨⟨w, e, hw⟩, ⟨w', e', hw'⟩, r1, r2⟩ := trip_at 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 ⟨n, by omega⟩ _ _ _ x4 x5 x7 x8 (T := T) (iq := iq) h4n (by dsimp only; omega)
      h8 hD hq hdo h4 h5 h7 h8l i1 i2 (fun l s => (i3 _ l s).trans (congrArg _ (grown_now ..))) (fun l s => (i4 _ l s).trans (congrArg _ (grown_now ..)))
    have es := st_k0_t1_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 (harg4.unread x4) (harg5.unread x5) (harg7.unread x7) (harg8.unread x8) f15 f16 init ⟨n, by omega⟩
    refine ⟨?_, ?_, ?_, ?_⟩
    · exact fun r j => (congrFun (congrArg (fun z => z.1.1) es) _).trans (r1 r j)
    · exact fun r j => (congrFun (congrArg (fun z => z.1.2) es) _).trans (r2 r j)
    · rw [(congrArg (fun z => z.2.1) es).trans (congrArg (· ++ _) e)]
      exact grow _ _ (by omega) i3 _ _ w (off2_at i ⟨n, by omega⟩ h4n).2.2.2.2.1 hw
    · rw [(congrArg (fun z => z.2.2) es).trans (congrArg (· ++ _) e')]
      exact grow _ _ (by omega) i4 _ _ w' (off2_at i ⟨n, by omega⟩ h4n).2.2.2.2.1 hw'

end Cert.SbIdeal.Pay

end
-- ==== Proof.SbOwn.lean ====
/-
  The stick-breaking backward call's arithmetic at the queries' own block of keys: the four parts of the block put
  together.
-/
module

public import proofs.«01_k».proof.Proof.SbDiag

@[expose] public section

set_option maxRecDepth 16384

noncomputable section

namespace Cert.SbIdeal.Pay

open Cert.SbIdeal Gen Idealize.ShloMosaic TcCoe
open Cert.Reals Cert.Stick

variable {T : Tile} {b : ℕ}

lemma z_eq (r : Fin 1024) (b n : ℕ) :
    (T.g r (b + n) * Real.exp (T.L r (b + n)) - (T.pre r b + ∑ x ∈ Finset.range n, T.g r (b + x)) * (1 - Real.exp (T.L r (b + n)))) * (1 / 8) = T.z r (b + n) := by
  rw [← T.pre_add]
  rfl

/-- Of a table by rows, the rows with keys in the second part. -/
def pick1 {α : Type} (x : S1024x128.Idx → α) : S768x128.Idx → α :=
  concatenate S768x128 0 [⟨S384x128, extractStridedSlice S384x128 ![128, 0] x slices_S1024x128_o128_0_S384x128⟩, ⟨S384x128, extractStridedSlice S384x128 ![640, 0] x slices_S1024x128_o640_0_S384x128⟩] concatenates_S384x128_S384x128_S768x128_d0

/-- The rows with keys in the second part put back among all rows, zero in the others. -/
def spread1 (x : S768x128.Idx → EReal) : S1024x128.Idx → EReal :=
  concatenate S1024x128 0 [⟨S128x128, broadcast S128x128 (Scalar.ofBits (F := Ideal) .bf16 0x0000#16)⟩, ⟨S384x128, extractStridedSlice S384x128 ![0, 0] x slices_S768x128_o0_0_S384x128⟩, ⟨S128x128, broadcast S128x128 (Scalar.ofBits (F := Ideal) .bf16 0x0000#16)⟩, ⟨S384x128, extractStridedSlice S384x128 ![384, 0] x slices_S768x128_o384_0_S384x128⟩] concatenates_S128x128_S384x128_S128x128_S384x128_S1024x128_d0

/-- The second part among all rows, zero where the key is not before the query. -/
def wide1 (v102 : IVec S1024x128 32) (z : FVec Ideal S768x128 .f32) : FVec Ideal S1024x128 .bf16 :=
  spread1 (select (cmpi .slt (pick1 v102) (broadcast S768x128 4294967168#32)) z (broadcast S768x128 (Scalar.ofBits (F := Ideal) .f32 0x00000000#32)))

/-- Of a table by rows, the rows with keys in the third part. -/
def pick2 {α : Type} (x : S1024x128.Idx → α) : S512x128.Idx → α :=
  concatenate S512x128 0 [⟨S256x128, extractStridedSlice S256x128 ![256, 0] x slices_S1024x128_o256_0_S256x128⟩, ⟨S256x128, extractStridedSlice S256x128 ![768, 0] x slices_S1024x128_o768_0_S256x128⟩] concatenates_S256x128_S256x128_S512x128_d0

/-- The rows with keys in the third part put back among all rows, zero in the others. -/
def spread2 (x : S512x128.Idx → EReal) : S1024x128.Idx → EReal :=
  concatenate S1024x128 0 [⟨S256x128, broadcast S256x128 (Scalar.ofBits (F := Ideal) .bf16 0x0000#16)⟩, ⟨S256x128, extractStridedSlice S256x128 ![0, 0] x slices_S512x128_o0_0_S256x128⟩, ⟨S256x128, broadcast S256x128 (Scalar.ofBits (F := Ideal) .bf16 0x0000#16)⟩, ⟨S256x128, extractStridedSlice S256x128 ![256, 0] x slices_S512x128_o256_0_S256x128⟩] concatenates_S256x128_S256x128_S256x128_S256x128_S1024x128_d0

/-- The third part among all rows, zero where the key is not before the query. -/
def wide2 (v102 : IVec S1024x128 32) (z : FVec Ideal S512x128 .f32) : FVec Ideal S1024x128 .bf16 :=
  spread2 (select (cmpi .slt (pick2 v102) (broadcast S512x128 4294967040#32)) z (broadcast S512x128 (Scalar.ofBits (F := Ideal) .f32 0x00000000#32)))

/-- Of a table by rows, the rows with keys in the fourth part. -/
def pick3 {α : Type} (x : S1024x128.Idx → α) : S256x128.Idx → α :=
  concatenate S256x128 0 [⟨S128x128, extractStridedSlice S128x128 ![384, 0] x slices_S1024x128_o384_0_S128x128⟩, ⟨S128x128, extractStridedSlice S128x128 ![896, 0] x slices_S1024x128_o896_0_S128x128⟩] concatenates_S128x128_S128x128_S256x128_d0

/-- The rows with keys in the fourth part put back among all rows, zero in the others. -/
def spread3 (x : S256x128.Idx → EReal) : S1024x128.Idx → EReal :=
  concatenate S1024x128 0 [⟨S384x128, broadcast S384x128 (Scalar.ofBits (F := Ideal) .bf16 0x0000#16)⟩, ⟨S128x128, extractStridedSlice S128x128 ![0, 0] x slices_S256x128_o0_0_S128x128⟩, ⟨S384x128, broadcast S384x128 (Scalar.ofBits (F := Ideal) .bf16 0x0000#16)⟩, ⟨S128x128, extractStridedSlice S128x128 ![128, 0] x slices_S256x128_o128_0_S128x128⟩] concatenates_S384x128_S128x128_S384x128_S128x128_S1024x128_d0

/-- The fourth part among all rows, zero where the key is not before the query. -/
def wide3 (v102 : IVec S1024x128 32) (z : FVec Ideal S256x128 .f32) : FVec Ideal S1024x128 .bf16 :=
  spread3 (select (cmpi .slt (pick3 v102) (broadcast S256x128 4294966912#32)) z (broadcast S256x128 (Scalar.ofBits (F := Ideal) .f32 0x00000000#32)))

/-- The gradients of the fourth part's scores, at the rows that have keys there. -/
def last (v181 v209 : FVec Ideal S256x128 .f32) (v258 v296 : FVec Ideal S1024x1 .f32) (v311 : Vec Ideal S1x1x1x1x1024x128 .bf16) : FVec Ideal S256x128 .f32 :=
  have v297 : FVec Ideal S1024x1 .f32 := addf v258 v296
  have v312 : FVec Ideal S1024x128 .bf16 := shapeCast S1024x128 v311 shapeCasts_S1x1x1x1x1024x128_S1024x128
  have v313 : FVec Ideal S128x128 .bf16 := extractStridedSlice S128x128 ![384, 0] v312 slices_S1024x128_o384_0_S128x128
  have v314 : FVec Ideal S128x128 .bf16 := extractStridedSlice S128x128 ![896, 0] v312 slices_S1024x128_o896_0_S128x128
  have v315 : FVec Ideal S256x128 .bf16 := concatenate S256x128 0 [⟨S128x128, v313⟩, ⟨S128x128, v314⟩] concatenates_S128x128_S128x128_S256x128_d0
  have v317 : FVec Ideal S256x128 .f32 := exp (extf .f32 v315 bitsLt_bf16_f32)
  have v319 : FVec Ideal S128x1 .f32 := extractStridedSlice S128x1 ![384, 0] v297 slices_S1024x1_o384_0_S128x1
  have v320 : FVec Ideal S128x1 .f32 := extractStridedSlice S128x1 ![896, 0] v297 slices_S1024x1_o896_0_S128x1
  have v321 : FVec Ideal S256x1 .f32 := concatenate S256x1 0 [⟨S128x1, v319⟩, ⟨S128x1, v320⟩] concatenates_S128x1_S128x1_S256x1_d0
  have v322 : FVec Ideal S256x128 .f32 := broadcastTo S256x128 v321 broadcasts_S256x1_S256x128
  have v325 : FVec Ideal S256x128 .f32 := subf (broadcast S256x128 (Scalar.ofBits .f32 0x3F800000#32)) v317
  mulf (subf (mulf v181 v317) (mulf (addf v322 v209) v325)) (broadcast S256x128 (Scalar.ofBits .f32 0x3E000000#32))

lemma pick1_at (x : IVec S1024x128 32) (r : Fin 768) (j : Fin 128) : pick1 x (ix2 r j) = x (ix2 (up1 r) j) := by
  by_cases h : r.val < 384
  · rw [up1_lo h]
    pointwise [pick1]
    rw [dif_pos h]
  · rw [up1_hi h]
    pointwise [pick1]
    rw [dif_neg h]

lemma spread1_up (x : S768x128.Idx → EReal) (r : Fin 768) (j : Fin 128) : spread1 x (ix2 (up1 r) j) = x (ix2 r j) := by
  have hr := r.isLt
  generalize e : up1 r = q
  pointwise [spread1]
  by_cases h : r.val < 384
  · rw [up1_lo h] at e
    have e' : q.val = 128 + r.val := congrArg Fin.val e.symm
    rw [dif_neg (by omega), dif_pos (by omega)]
    refine congrArg (fun q => x (ix2 q j)) (Fin.ext ?_)
    dsimp only
    omega
  · rw [up1_hi h] at e
    have e' : q.val = 640 + (r.val - 384) := congrArg Fin.val e.symm
    rw [dif_neg (by omega), dif_neg (by omega), dif_neg (by omega)]
    refine congrArg (fun q => x (ix2 q j)) (Fin.ext ?_)
    dsimp only
    omega

lemma spread1_out (x : S768x128.Idx → EReal) (r : Fin 1024) (j : Fin 128) (h : ¬ 128 ≤ r.val % 512) : spread1 x (ix2 r j) = 0 := by
  pointwise [spread1]
  by_cases h' : r.val < 512
  · rw [dif_pos (by omega)]
  · rw [dif_neg (by omega), dif_neg (by omega), dif_pos (by omega)]

lemma wide1_holds {v102 : IVec S1024x128 32} {z : FVec Ideal S768x128 .f32} {f : Fin 1024 → ℕ → ℝ} {i : ℕ}
    (hm : ∀ (r : Fin 1024) (j : Fin 128), IntOp.cmpi CmpIPredicate.slt (v102 (ix2 r j)) 4294967168#32 = if 128 + j.val < r.val % 512 then 1#1 else 0#1)
    (hz : Holds z fun r j => f (up1 r) (i * 512 + 128 + j.val)) :
    Holds (wide1 v102 z) fun r j => if 128 + j.val < r.val % 512 then f r (i * 512 + 128 + j.val) else 0 := by
  intro r j
  have hr := r.isLt
  by_cases h : 128 ≤ r.val % 512
  · obtain ⟨q, rfl⟩ : ∃ q, up1 q = r := by
      by_cases h' : r.val < 512
      · exact ⟨⟨r.val - 128, by omega⟩, Fin.ext ((congrArg Fin.val (up1_lo (by dsimp only; omega))).trans (by dsimp only; omega))⟩
      · exact ⟨⟨384 + (r.val - 640), by omega⟩, Fin.ext ((congrArg Fin.val (up1_hi (by dsimp only; omega))).trans (by dsimp only; omega))⟩
    unfold wide1
    rw [spread1_up]
    show Scalar.select (IntOp.cmpi CmpIPredicate.slt (pick1 v102 (ix2 q j)) 4294967168#32) (z (ix2 q j)) (Scalar.ofBits (F := Ideal) .f32 0x00000000#32) = _
    rw [pick1_at, hm, hz q j, sel_if]
    beta_reduce
    split
    · rfl
    · exact Ideal.ofBits_zero_f32
  · have n : ¬ 128 + j.val < r.val % 512 := by omega
    simp only [if_neg n]
    exact spread1_out _ _ _ h

lemma pick2_at (x : IVec S1024x128 32) (r : Fin 512) (j : Fin 128) : pick2 x (ix2 r j) = x (ix2 (up2 r) j) := by
  by_cases h : r.val < 256
  · rw [up2_lo h]
    pointwise [pick2]
    rw [dif_pos h]
  · rw [up2_hi h]
    pointwise [pick2]
    rw [dif_neg h]

lemma spread2_up (x : S512x128.Idx → EReal) (r : Fin 512) (j : Fin 128) : spread2 x (ix2 (up2 r) j) = x (ix2 r j) := by
  have hr := r.isLt
  generalize e : up2 r = q
  pointwise [spread2]
  by_cases h : r.val < 256
  · rw [up2_lo h] at e
    have e' : q.val = 256 + r.val := congrArg Fin.val e.symm
    rw [dif_neg (by omega), dif_pos (by omega)]
    refine congrArg (fun q => x (ix2 q j)) (Fin.ext ?_)
    dsimp only
    omega
  · rw [up2_hi h] at e
    have e' : q.val = 768 + (r.val - 256) := congrArg Fin.val e.symm
    rw [dif_neg (by omega), dif_neg (by omega), dif_neg (by omega)]
    refine congrArg (fun q => x (ix2 q j)) (Fin.ext ?_)
    dsimp only
    omega

lemma spread2_out (x : S512x128.Idx → EReal) (r : Fin 1024) (j : Fin 128) (h : ¬ 256 ≤ r.val % 512) : spread2 x (ix2 r j) = 0 := by
  pointwise [spread2]
  by_cases h' : r.val < 512
  · rw [dif_pos (by omega)]
  · rw [dif_neg (by omega), dif_neg (by omega), dif_pos (by omega)]

lemma wide2_holds {v102 : IVec S1024x128 32} {z : FVec Ideal S512x128 .f32} {f : Fin 1024 → ℕ → ℝ} {i : ℕ}
    (hm : ∀ (r : Fin 1024) (j : Fin 128), IntOp.cmpi CmpIPredicate.slt (v102 (ix2 r j)) 4294967040#32 = if 256 + j.val < r.val % 512 then 1#1 else 0#1)
    (hz : Holds z fun r j => f (up2 r) (i * 512 + 256 + j.val)) :
    Holds (wide2 v102 z) fun r j => if 256 + j.val < r.val % 512 then f r (i * 512 + 256 + j.val) else 0 := by
  intro r j
  have hr := r.isLt
  by_cases h : 256 ≤ r.val % 512
  · obtain ⟨q, rfl⟩ : ∃ q, up2 q = r := by
      by_cases h' : r.val < 512
      · exact ⟨⟨r.val - 256, by omega⟩, Fin.ext ((congrArg Fin.val (up2_lo (by dsimp only; omega))).trans (by dsimp only; omega))⟩
      · exact ⟨⟨256 + (r.val - 768), by omega⟩, Fin.ext ((congrArg Fin.val (up2_hi (by dsimp only; omega))).trans (by dsimp only; omega))⟩
    unfold wide2
    rw [spread2_up]
    show Scalar.select (IntOp.cmpi CmpIPredicate.slt (pick2 v102 (ix2 q j)) 4294967040#32) (z (ix2 q j)) (Scalar.ofBits (F := Ideal) .f32 0x00000000#32) = _
    rw [pick2_at, hm, hz q j, sel_if]
    beta_reduce
    split
    · rfl
    · exact Ideal.ofBits_zero_f32
  · have n : ¬ 256 + j.val < r.val % 512 := by omega
    simp only [if_neg n]
    exact spread2_out _ _ _ h

lemma pick3_at (x : IVec S1024x128 32) (r : Fin 256) (j : Fin 128) : pick3 x (ix2 r j) = x (ix2 (up3 r) j) := by
  by_cases h : r.val < 128
  · rw [up3_lo h]
    pointwise [pick3]
    rw [dif_pos h]
  · rw [up3_hi h]
    pointwise [pick3]
    rw [dif_neg h]

lemma spread3_up (x : S256x128.Idx → EReal) (r : Fin 256) (j : Fin 128) : spread3 x (ix2 (up3 r) j) = x (ix2 r j) := by
  have hr := r.isLt
  generalize e : up3 r = q
  pointwise [spread3]
  by_cases h : r.val < 128
  · rw [up3_lo h] at e
    have e' : q.val = 384 + r.val := congrArg Fin.val e.symm
    rw [dif_neg (by omega), dif_pos (by omega)]
    refine congrArg (fun q => x (ix2 q j)) (Fin.ext ?_)
    dsimp only
    omega
  · rw [up3_hi h] at e
    have e' : q.val = 896 + (r.val - 128) := congrArg Fin.val e.symm
    rw [dif_neg (by omega), dif_neg (by omega), dif_neg (by omega)]
    refine congrArg (fun q => x (ix2 q j)) (Fin.ext ?_)
    dsimp only
    omega

lemma spread3_out (x : S256x128.Idx → EReal) (r : Fin 1024) (j : Fin 128) (h : ¬ 384 ≤ r.val % 512) : spread3 x (ix2 r j) = 0 := by
  pointwise [spread3]
  by_cases h' : r.val < 512
  · rw [dif_pos (by omega)]
  · rw [dif_neg (by omega), dif_neg (by omega), dif_pos (by omega)]

lemma wide3_holds {v102 : IVec S1024x128 32} {z : FVec Ideal S256x128 .f32} {f : Fin 1024 → ℕ → ℝ} {i : ℕ}
    (hm : ∀ (r : Fin 1024) (j : Fin 128), IntOp.cmpi CmpIPredicate.slt (v102 (ix2 r j)) 4294966912#32 = if 384 + j.val < r.val % 512 then 1#1 else 0#1)
    (hz : Holds z fun r j => f (up3 r) (i * 512 + 384 + j.val)) :
    Holds (wide3 v102 z) fun r j => if 384 + j.val < r.val % 512 then f r (i * 512 + 384 + j.val) else 0 := by
  intro r j
  have hr := r.isLt
  by_cases h : 384 ≤ r.val % 512
  · obtain ⟨q, rfl⟩ : ∃ q, up3 q = r := by
      by_cases h' : r.val < 512
      · exact ⟨⟨r.val - 384, by omega⟩, Fin.ext ((congrArg Fin.val (up3_lo (by dsimp only; omega))).trans (by dsimp only; omega))⟩
      · exact ⟨⟨128 + (r.val - 896), by omega⟩, Fin.ext ((congrArg Fin.val (up3_hi (by dsimp only; omega))).trans (by dsimp only; omega))⟩
    unfold wide3
    rw [spread3_up]
    show Scalar.select (IntOp.cmpi CmpIPredicate.slt (pick3 v102 (ix2 q j)) 4294966912#32) (z (ix2 q j)) (Scalar.ofBits (F := Ideal) .f32 0x00000000#32) = _
    rw [pick3_at, hm, hz q j, sel_if]
    beta_reduce
    split
    · rfl
    · exact Ideal.ofBits_zero_f32
  · have n : ¬ 384 + j.val < r.val % 512 := by omega
    simp only [if_neg n]
    exact spread3_out _ _ _ h

lemma diag1 {gl G0 G P lw} (hl : Holds (k0_pay111 (F := Ideal) gl G0) fun r _ => T.pre r b) (hG : Holds G fun r j => T.g (up1 r) (b + j.val))
    (hP : Holds P fun r j => ∑ x ∈ Finset.range j.val, T.g (up1 r) (b + x)) (hL : Holds6 lw fun r j => T.L r (b + j.val)) :
    Holds (mulf (F := Ideal) (φ := .f32) (k0_pay113 (F := Ideal) gl G0 G P lw) (k0_pay114 (F := Ideal))) fun r j => T.z (up1 r) (b + j.val) := by
  intro r j
  have a := hG r j
  have p := hP r j
  beta_reduce at a p
  refine Eq.trans ?_ (congrArg _ (z_eq (up1 r) b j.val))
  pointwise [k0_pay113, k0_pay114]
  by_cases h : r.val < 384
  · rw [up1_lo h] at a p ⊢
    simp only [a, p, dif_pos h, hl _ _, hL _ _, Ideal.exp_coe, eighth, one_coe, ← EReal.coe_mul, ← EReal.coe_sub, ← EReal.coe_add]
  · rw [up1_hi h] at a p ⊢
    simp only [a, p, dif_neg h, hl _ _, hL _ _, Ideal.exp_coe, eighth, one_coe, ← EReal.coe_mul, ← EReal.coe_sub, ← EReal.coe_add]

lemma diag2 {gl G1 G P lw} (hl : ∀ r : Fin 1024, 128 ≤ r.val % 512 → k0_pay115 (F := Ideal) G1 gl (ix2 r 0) = ((T.pre r b : ℝ) : EReal))
    (hG : Holds G fun r j => T.g (up2 r) (b + j.val))
    (hP : Holds P fun r j => ∑ x ∈ Finset.range j.val, T.g (up2 r) (b + x)) (hL : Holds6 lw fun r j => T.L r (b + j.val)) :
    Holds (k0_pay117 (F := Ideal) G1 G P gl lw) fun r j => T.z (up2 r) (b + j.val) := by
  intro r j
  have a := hG r j
  have p := hP r j
  beta_reduce at a p
  refine Eq.trans ?_ (congrArg _ (z_eq (up2 r) b j.val))
  pointwise [k0_pay117]
  by_cases h : r.val < 256
  · rw [up2_lo h] at a p ⊢
    simp only [a, p, dif_pos h, hl ⟨256 + r.val, by omega⟩ (by dsimp only; omega), hL _ _, Ideal.exp_coe, eighth, one_coe, ← EReal.coe_mul, ← EReal.coe_sub, ← EReal.coe_add]
  · rw [up2_hi h] at a p ⊢
    simp only [a, p, dif_neg h, hl ⟨768 + (r.val - 256), by omega⟩ (by dsimp only; omega), hL _ _, Ideal.exp_coe, eighth, one_coe, ← EReal.coe_mul, ← EReal.coe_sub, ← EReal.coe_add]

lemma diag3 {gl e2 G P lw} (hl : ∀ r : Fin 1024, 256 ≤ r.val % 512 → gl (ix2 r 0) + e2 (ix2 r 0) = ((T.pre r b : ℝ) : EReal))
    (hG : Holds G fun r j => T.g (up3 r) (b + j.val))
    (hP : Holds P fun r j => ∑ x ∈ Finset.range j.val, T.g (up3 r) (b + x)) (hL : Holds6 lw fun r j => T.L r (b + j.val)) :
    Holds (last G P gl e2 lw) fun r j => T.z (up3 r) (b + j.val) := by
  intro r j
  have a := hG r j
  have p := hP r j
  beta_reduce at a p
  refine Eq.trans ?_ (congrArg _ (z_eq (up3 r) b j.val))
  pointwise [last]
  by_cases h : r.val < 128
  · rw [up3_lo h] at a p ⊢
    simp only [a, p, dif_pos h, hl ⟨384 + r.val, by omega⟩ (by dsimp only; omega), hL _ _, Ideal.exp_coe, eighth, one_coe, ← EReal.coe_mul, ← EReal.coe_sub, ← EReal.coe_add]
  · rw [up3_hi h] at a p ⊢
    simp only [a, p, dif_neg h, hl ⟨896 + (r.val - 128), by omega⟩ (by dsimp only; omega), hL _ _, Ideal.exp_coe, eighth, one_coe, ← EReal.coe_mul, ← EReal.coe_sub, ← EReal.coe_add]

lemma pay116_eq (v102 : IVec S1024x128 32) (x y : FVec Ideal S768x128 .f32) : k0_pay116 (F := Ideal) v102 x y = wide1 v102 (mulf x y) := by sl_kernel_rfl

lemma pay119_eq (v102 : IVec S1024x128 32) (v181 v209 : FVec Ideal S256x128 .f32) (v231 : FVec Ideal S1024x128 .bf16) (v258 : FVec Ideal S1024x1 .f32) (v270 : FVec Ideal S1024x128 .bf16)
    (v290 : FVec Ideal S512x128 .f32) (v296 : FVec Ideal S1024x1 .f32) (v311 : Vec Ideal S1x1x1x1x1024x128 .bf16) :
    k0_pay119 (F := Ideal) v102 v181 v209 v231 v258 v270 v290 v296 v311 = concatenate S1024x512 1 [⟨S1024x128, v231⟩, ⟨S1024x128, v270⟩, ⟨S1024x128, wide2 v102 v290⟩,
      ⟨S1024x128, wide3 v102 (last v181 v209 v258 v296 v311)⟩] concatenates_S1024x128_S1024x128_S1024x128_S1024x128_S1024x512_d1 := by sl_kernel_rfl

lemma m_if (i c : ℕ) (r : Fin 1024) (j : Fin 128) : (if c + j.val < r.val % 512 then T.z r (i * 512 + c + j.val) else 0) = T.m i r (i * 512 + c + j.val) := by
  unfold Tile.m
  by_cases h : c + j.val < r.val % 512
  · rw [if_pos h, if_pos (by omega)]
  · rw [if_neg h, if_neg (by omega)]

/-- The gradients of the scores of the queries' own block of keys, as the kernel computes them. -/
lemma own {i : ℕ} {v8 v76 gl vb0 vb1 vb2 vb3 w0 w1 w2 w3 l0 l1 l2 l3} (h8 : Holds v8 fun x j => if x.val < j.val then 1 else 0)
    (hD : Holds v76 T.D) (hl : Holds gl fun r _ => T.pre r (i * 512))
    (hv0 : Holds vb0 fun j d => T.V (i * 512 + j.val) d) (hv1 : Holds vb1 fun j d => T.V (i * 512 + 128 + j.val) d)
    (hv2 : Holds vb2 fun j d => T.V (i * 512 + 256 + j.val) d) (hv3 : Holds vb3 fun j d => T.V (i * 512 + 384 + j.val) d)
    (ha0 : Holds6 w0 fun r j => T.A r (i * 512 + j.val)) (ha1 : Holds6 w1 fun r j => T.A r (i * 512 + 128 + j.val))
    (ha2 : Holds6 w2 fun r j => T.A r (i * 512 + 256 + j.val)) (ha3 : Holds6 w3 fun r j => T.A r (i * 512 + 384 + j.val))
    (hl0 : Holds6 l0 fun r j => T.L r (i * 512 + j.val)) (hl1 : Holds6 l1 fun r j => T.L r (i * 512 + 128 + j.val))
    (hl2 : Holds6 l2 fun r j => T.L r (i * 512 + 256 + j.val)) (hl3 : Holds6 l3 fun r j => T.L r (i * 512 + 384 + j.val)) :
    let g0 := k0_pay6 (F := Ideal) v76 vb0 w0
    let g1 := k0_pay101 (F := Ideal) v76 vb1 w1
    let g2 := k0_pay103 (F := Ideal) (k0_pay102 v76 vb2) w2
    let g3 := k0_pay104 (F := Ideal) v76 vb3 w3
    Holds (k0_pay119 (F := Ideal) k0_pay91 g3 (k0_pay110 (k0_pay108 v76 vb3 w3) (k0_pay109 v8)) (k0_pay112 k0_pay91 gl g0 (k0_pay12 v8 g0) l0)
      (k0_pay115 g1 (k0_pay111 gl g0)) (k0_pay116 k0_pay91 (k0_pay113 gl g0 g1 (k0_pay106 v8 g1) l1) k0_pay114)
      (k0_pay117 g1 g2 (k0_pay107 v8 (k0_pay102 v76 vb2) w2) (k0_pay111 gl g0) l2) (k0_pay118 g2) l3) fun r s => T.m i r (i * 512 + s.val) := by
  dsimp only
  have e0 := score hD hv0 ha0
  have e1 := score1 hD hv1 ha1
  have e2 := score2 hD hv2 ha2
  have e3 := score3 hD hv3 ha3
  have t1 : Holds (k0_pay111 (F := Ideal) gl (k0_pay6 (F := Ideal) v76 vb0 w0)) fun r _ => T.pre r (i * 512 + 128) := total hl e0
  have t2 := fun r hr => total1 r hr (t1 r 0) e1
  have t3 := fun r (hr : 256 ≤ r.val % 512) => total2 r hr (t2 r (by omega)) e2
  have d1 := wide1_holds (v102 := k0_pay91) (i := i) (f := T.z) (fun r j => row_mask r j 1 (by omega) rfl) (diag1 t1 e1 (before1 h8 e1) hl1)
  have d2 := wide2_holds (v102 := k0_pay91) (i := i) (f := T.z) (fun r j => row_mask r j 2 (by omega) rfl) (diag2 t2 e2 (before2 h8 e2) hl2)
  have d3 := wide3_holds (v102 := k0_pay91) (i := i) (f := T.z) (fun r j => row_mask r j 3 (by omega) rfl) (diag3 t3 e3 (before3 h8 e3) hl3)
  rw [pay119_eq, pay116_eq]
  exact stack_at _ _ _ _ (diag0 hl e0 (before h8 e0) hl0) (fun r j => (d1 r j).trans (congrArg _ (m_if i 128 r j)))
    (fun r j => (d2 r j).trans (congrArg _ (m_if i 256 r j))) (fun r j => (d3 r j).trans (congrArg _ (m_if i 384 r j)))

end Cert.SbIdeal.Pay

end
-- ==== Proof.SbPoint.lean ====
/-
  What one grid point of the stick-breaking backward call leaves.
-/
module

public import proofs.«01_k».proof.Proof.SbLoop
public import proofs.«01_k».proof.Proof.SbOwn

@[expose] public section

set_option maxRecDepth 16384

noncomputable section

namespace Cert.SbIdeal.Pay

open Cert.SbIdeal Gen Cert.Stick Idealize.ShloMosaic TcCoe Cert.Reals

lemma coord (t : Fin cfg0.N) : (grid0.coords t 2).val = t.val % 4 := by
  have h : ∀ t : Fin grid0.N, (grid0.coords t 2).val = t.val % 4 := by decide +kernel
  exact h t

lemma trips1 (a : Fin 4) : (Scf.trips (0#32) (Scalar.addi 0#32 (Scalar.muli (Scalar.divsi (Scalar.subi (BitVec.ofNat 32 a.val) 0#32) 1#32) 1#32)) 1#32) = a.val := by
  revert a; decide +kernel

lemma trips2 (a : Fin 4) : (Scf.trips (Scalar.addi 0#32 (Scalar.muli (Scalar.divsi (Scalar.subi (BitVec.ofNat 32 a.val) 0#32) 1#32) 1#32)) (Scalar.addi (0#32) (Scalar.subi (BitVec.ofNat 32 a.val) 0#32)) 1#32) = 0 := by
  revert a; decide +kernel

variable (m : (ℓ : Loc nD τ sig) → Buf (Elt Ideal) ℓ) (c : Dev nD)

/-- What the windows of a grid point hold. -/
structure Point where
  X : Fin 512 → Fin 128 → ℝ
  M : Fin 512 → Fin 128 → ℝ
  Q : Fin 512 → Fin 128 → ℝ
  w : Fin 128 → ℝ
  V : ℕ → Fin 128 → ℝ
  K : ℕ → Fin 128 → ℝ
  A : Fin 1024 → ℕ → ℝ
  L : Fin 1024 → ℕ → ℝ

/-- The tile of queries that a grid point works on. -/
def Point.tile (P : Point) : Tile := ⟨stack (dout P.X P.M P.w), stack P.Q, P.V, P.K, P.A, P.L⟩

/-- The windows of point `t` hold these. -/
structure Point.At (P : Point) (t : Fin cfg0.N) : Prop where
  q : Holds (iblk m c 0 t) P.Q
  k : Holds (iblk m c 1 t) fun s d => P.K s.val d
  v : Holds (iblk m c 2 t) fun s d => P.V s.val d
  x : Holds (iblk m c 3 t) P.X
  a : HoldsW (iblk m c 4 t) P.A
  l : HoldsW (iblk m c 5 t) P.L
  dm : Holds (iblk m c 6 t) P.M
  w : Holds (iblk m c 7 t) fun _ l => P.w l

lemma rest_none (𝒱 : Variants) (c : Dev nD) (bd : Option 𝒱.V) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .f32) (harg6 : arg6.IsWhole) (arg7 : Memref sig .tc .vmem S1x1x4x1x1024x512 .bf16) (harg7 : arg7.IsWhole) (arg8 : Memref sig .tc .vmem S1x1x4x1x1024x512 .bf16) (harg8 : arg8.IsWhole) (arg9 : Memref sig .tc .vmem S512x128 .bf16) (harg9 : arg9.IsWhole) (arg10 : Memref sig .tc .vmem S1x128 .f32) (harg10 : arg10.IsWhole) (arg11 : Memref sig .tc .vmem S512x128 .bf16) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S4x128x512 .f32) (harg15 : arg15.IsWhole) (arg16 : Memref sig .tc .vmem S4x128x512 .f32) (harg16 : arg16.IsWhole) (arg2 : BitVec 32) (v8 : FVec Ideal S128x128 .bf16) (v71 : FVec Ideal S512x128 .f32) (v76 : FVec Ideal S1024x128 .bf16) (v80 : FVec Ideal S128x512 .f32) (v81 : IVec S128x512 32) (c64_i32_27 : BitVec 32) (v109 : BitVec 32) (X_arg4 : BufTy.Contents (Elt Ideal) arg4.view.ty) (X_arg5 : BufTy.Contents (Elt Ideal) arg5.view.ty) (X_arg7 : BufTy.Contents (Elt Ideal) arg7.view.ty) (X_arg8 : BufTy.Contents (Elt Ideal) arg8.view.ty) (G15 : BufTy.Contents (Elt Ideal) arg15.view.ty) (G16 : BufTy.Contents (Elt Ideal) arg16.view.ty) (init : FVec Ideal S1024x1 .f32 × FVec Ideal S1024x128 .f32) :
    st_k0_t2 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v8 v71 v76 v80 v81 c64_i32_27 v109 X_arg4 X_arg5 X_arg7 X_arg8 G15 G16 init 0 = (init, [], []) := rfl

/-- The gradient at the outputs of the tile. -/
def p71 (t : Fin cfg0.N) : FVec Ideal S512x128 .f32 :=
  k0_pay86 k0_pay74 (k0_pay79 (iblk m c 3 t)) (k0_pay80 (iblk m c 6 t)) (k0_pay81 (iblk m c 3 t)) k0_pay82 (iblk m c 7 t)

/-- The same, head below head. -/
def p76 (t : Fin cfg0.N) : FVec Ideal S1024x128 .bf16 :=
  k0_pay87 k0_pay74 (k0_pay79 (iblk m c 3 t)) (k0_pay80 (iblk m c 6 t)) (k0_pay81 (iblk m c 3 t)) k0_pay82 (iblk m c 7 t)

/-- The loop over the blocks of keys before the tile, after `n` trips. -/
def loopAt (t : Fin cfg0.N) (G15 : BufTy.Contents (Elt Ideal) (scM0_0).view.ty) (G16 : BufTy.Contents (Elt Ideal) (scM0_1).view.ty) (n : ℕ) :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (BitVec.ofNat 32 (grid0.coords t 2).val) k0_pay75 (p71 m c t) (p76 m c t)
    (k0_pay88 (iblk m c 0 t)) (iota .tc S128x512 32 [0] iota_S128x512_d0_w32) 64#32 ((hs0_1 t).unread (iblk m c 1 t)) ((hs0_2 t).unread (iblk m c 2 t))
    ((hs0_4 t).unread (iblk m c 4 t)) ((hs0_5 t).unread (iblk m c 5 t)) G15 G16 (k0_pay92, k0_pay93) n

variable {m c}

lemma Point.At.dout {P : Point} {t : Fin cfg0.N} (h : P.At m c t) : Holds (p71 m c t) (dout P.X P.M P.w) :=
  back (raw79 h.x) (ct80 h.dm) (mean h.x) h.w

lemma Point.At.both {P : Point} {t : Fin cfg0.N} (h : P.At m c t) : Holds (p76 m c t) P.tile.D := stacked h.dout rfl

lemma zero_total {T : Tile} : Holds (k0_pay92 (F := Ideal)) fun r _ => T.pre r 0 := by
  intro r j
  pointwise [k0_pay92]
  simp [Tile.pre]

lemma zero_query {T : Tile} {iq} : Holds (k0_pay93 (F := Ideal)) (T.dq iq 0) := by
  intro r j
  pointwise [k0_pay93]
  simp [Tile.dq]

/-- What the loop leaves: the sums over the positions before the tile, and the accumulators with the tile's part added. -/
lemma Point.At.loop {P : Point} {t : Fin cfg0.N} (h : P.At m c t) {G15 : BufTy.Contents (Elt Ideal) (scM0_0).view.ty} {G16 : BufTy.Contents (Elt Ideal) (scM0_1).view.ty}
    {aK aV : Fin 4 → Fin 128 → Fin 512 → ℝ}
    (h15 : ∀ j l s, View.read (Elt Ideal) (scM0_0).view G15 (ix3 j l s) = ((aK j l s : ℝ) : EReal))
    (h16 : ∀ j l s, View.read (Elt Ideal) (scM0_1).view G16 (ix3 j l s) = ((aV j l s : ℝ) : EReal)) :
    Holds (loopAt m c t G15 G16 (grid0.coords t 2).val).1.1 (fun r _ => P.tile.pre r (t.val % 4 * 512)) ∧
    Holds (loopAt m c t G15 G16 (grid0.coords t 2).val).1.2 (P.tile.dq (t.val % 4) (t.val % 4 * 512)) ∧
    (∀ j l s, View.read (Elt Ideal) (scM0_0).view ((scM0_0).view.writes (Elt Ideal) G15 (loopAt m c t G15 G16 (grid0.coords t 2).val).2.1) (ix3 j l s) =
      ((grown aK (fun l r => P.tile.Q r l) (P.tile.m (t.val % 4)) (t.val % 4) j l s : ℝ) : EReal)) ∧
    (∀ j l s, View.read (Elt Ideal) (scM0_1).view ((scM0_1).view.writes (Elt Ideal) G16 (loopAt m c t G15 G16 (grid0.coords t 2).val).2.2) (ix3 j l s) =
      ((grown aV (fun l r => P.tile.D r l) P.tile.A (t.val % 4) j l s : ℝ) : EReal)) := by
  rw [coord t]
  have hi : (k0_t1_loop (grid0.coords t)).trips = t.val % 4 := (trips1 (grid0.coords t 2)).trans (coord t)
  exact loop_at _ _ _ _ _ _ _ _ _ _ _ _ _ _ _ _ _ _ _ _ _ _ _ _ _ _ _ _ _ _ _ _ _ _ _ _ _ _ _ _ _ _ (iblk m c 1 t) (iblk m c 2 t) (iblk m c 4 t) (iblk m c 5 t)
    (T := P.tile) (iq := t.val % 4) lower h.both (queries_t h.q) (outs_t h.dout) h.k h.v h.a h.l zero_total zero_query h15 h16 (by omega) _ le_rfl hi.ge

lemma ld_at {s : Shape} {e : EltTy} (X : s.Idx → Elt Ideal e) (off size : Fin s.rank → Nat)
    (inb : ∀ a, off a + size a ≤ s.size a) (x : (Rect.unit off size inb).shape.Idx) (y : s.Idx) (hy : ∀ a, (y a).val = off a + (x a).val) :
    View.ld X (Rect.unit off size inb) x = X y := by
  refine congrArg X (funext fun a => Fin.ext ?_)
  rw [hy a, LoadRect.idx_apply]
  exact congrArg (off a + ·) (Nat.one_mul _)

lemma off17_at (t : Fin cfg0.N) :
    k0_off17 (grid0.coords t) 0#32 = ![t.val % 4 * 512, 0] ∧ k0_off17 (grid0.coords t) 1#32 = ![t.val % 4 * 512 + 128, 0] ∧
      k0_off17 (grid0.coords t) 2#32 = ![t.val % 4 * 512 + 256, 0] ∧ k0_off17 (grid0.coords t) 3#32 = ![t.val % 4 * 512 + 384, 0] := by
  have h : ∀ t : Fin grid0.N, k0_off17 (grid0.coords t) 0#32 = ![t.val % 4 * 512, 0] ∧ k0_off17 (grid0.coords t) 1#32 = ![t.val % 4 * 512 + 128, 0] ∧
      k0_off17 (grid0.coords t) 2#32 = ![t.val % 4 * 512 + 256, 0] ∧ k0_off17 (grid0.coords t) 3#32 = ![t.val % 4 * 512 + 384, 0] := by decide +kernel
  exact h t

lemma off18_at (t : Fin cfg0.N) :
    k0_off18 (grid0.coords t) = ![0, 0, t.val % 4, 0, 0, 0] ∧ k0_off19 (grid0.coords t) = ![0, 0, t.val % 4, 0, 0, 128] ∧
      k0_off20 (grid0.coords t) = ![0, 0, t.val % 4, 0, 0, 256] ∧ k0_off21 (grid0.coords t) = ![0, 0, t.val % 4, 0, 0, 384] ∧
      k0_off22 (grid0.coords t) = ![t.val % 4, 0, 0] ∧ k0_off23 (grid0.coords t) = ![0, 0, t.val % 4, 0, 0, 0] ∧
      k0_off24 (grid0.coords t) = ![t.val % 4 * 512, 0] := by
  have h : ∀ t : Fin grid0.N, k0_off18 (grid0.coords t) = ![0, 0, t.val % 4, 0, 0, 0] ∧ k0_off19 (grid0.coords t) = ![0, 0, t.val % 4, 0, 0, 128] ∧
      k0_off20 (grid0.coords t) = ![0, 0, t.val % 4, 0, 0, 256] ∧ k0_off21 (grid0.coords t) = ![0, 0, t.val % 4, 0, 0, 384] ∧
      k0_off22 (grid0.coords t) = ![t.val % 4, 0, 0] ∧ k0_off23 (grid0.coords t) = ![0, 0, t.val % 4, 0, 0, 0] ∧
      k0_off24 (grid0.coords t) = ![t.val % 4 * 512, 0] := by decide +kernel
  exact h t

/-- The scores' gradients at the tile's own block of keys. -/
def ownAt (m : (ℓ : Loc nD τ sig) → Buf (Elt Ideal) ℓ) (c : Dev nD) (t : Fin cfg0.N) (gl : FVec Ideal S1024x1 .f32) : FVec Ideal S1024x512 .bf16 :=
  let vb0 := (View.ld (iblk m c 2 t) (Rect.unit (k0_off17 (grid0.coords t) 0#32) S128x128.size (k0_off17_inb (grid0.coords t) 0)))
  let vb1 := (View.ld (iblk m c 2 t) (Rect.unit (k0_off17 (grid0.coords t) 1#32) S128x128.size (k0_off17_inb (grid0.coords t) 1)))
  let vb2 := (View.ld (iblk m c 2 t) (Rect.unit (k0_off17 (grid0.coords t) 2#32) S128x128.size (k0_off17_inb (grid0.coords t) 2)))
  let vb3 := (View.ld (iblk m c 2 t) (Rect.unit (k0_off17 (grid0.coords t) 3#32) S128x128.size (k0_off17_inb (grid0.coords t) 3)))
  let w0 := (View.ld (iblk m c 4 t) (Rect.unit (k0_off18 (grid0.coords t)) S1x1x1x1x1024x128.size (k0_off18_inb (grid0.coords t))))
  let w1 := (View.ld (iblk m c 4 t) (Rect.unit (k0_off19 (grid0.coords t)) S1x1x1x1x1024x128.size (k0_off19_inb (grid0.coords t))))
  let w2 := (View.ld (iblk m c 4 t) (Rect.unit (k0_off20 (grid0.coords t)) S1x1x1x1x1024x128.size (k0_off20_inb (grid0.coords t))))
  let w3 := (View.ld (iblk m c 4 t) (Rect.unit (k0_off21 (grid0.coords t)) S1x1x1x1x1024x128.size (k0_off21_inb (grid0.coords t))))
  let l0 := (View.ld (iblk m c 5 t) (Rect.unit (k0_off18 (grid0.coords t)) S1x1x1x1x1024x128.size (k0_off18_inb (grid0.coords t))))
  let l1 := (View.ld (iblk m c 5 t) (Rect.unit (k0_off19 (grid0.coords t)) S1x1x1x1x1024x128.size (k0_off19_inb (grid0.coords t))))
  let l2 := (View.ld (iblk m c 5 t) (Rect.unit (k0_off20 (grid0.coords t)) S1x1x1x1x1024x128.size (k0_off20_inb (grid0.coords t))))
  let l3 := (View.ld (iblk m c 5 t) (Rect.unit (k0_off21 (grid0.coords t)) S1x1x1x1x1024x128.size (k0_off21_inb (grid0.coords t))))
  let g0 := k0_pay6 (p76 m c t) vb0 w0
  let g1 := k0_pay101 (p76 m c t) vb1 w1
  let g2 := k0_pay103 (k0_pay102 (p76 m c t) vb2) w2
  let g3 := k0_pay104 (p76 m c t) vb3 w3
  k0_pay119 k0_pay91 g3 (k0_pay110 (k0_pay108 (p76 m c t) vb3 w3) (k0_pay109 k0_pay75)) (k0_pay112 k0_pay91 gl g0 (k0_pay12 k0_pay75 g0) l0)
      (k0_pay115 g1 (k0_pay111 gl g0)) (k0_pay116 k0_pay91 (k0_pay113 gl g0 g1 (k0_pay106 k0_pay75 g1) l1) k0_pay114)
      (k0_pay117 g1 g2 (k0_pay107 k0_pay75 (k0_pay102 (p76 m c t) vb2) w2) (k0_pay111 gl g0) l2) (k0_pay118 g2) l3

lemma Point.At.own {P : Point} {t : Fin cfg0.N} (h : P.At m c t) {gl : FVec Ideal S1024x1 .f32} (hl : Holds gl fun r _ => P.tile.pre r (t.val % 4 * 512)) :
    Holds (ownAt m c t gl) fun r s => P.tile.m (t.val % 4) r (t.val % 4 * 512 + s.val) := by
  have h4 : t.val % 4 < 4 := by omega
  obtain ⟨o0, o1, o2, o3⟩ := off17_at t
  obtain ⟨p0, p1, p2, p3, -, -, -⟩ := off18_at t
  have hv0 : Holds (View.ld (iblk m c 2 t) (Rect.unit (k0_off17 (grid0.coords t) 0#32) S128x128.size (k0_off17_inb (grid0.coords t) 0))) fun j d => P.tile.V (t.val % 4 * 512 + j.val) d :=
    fun j d => (ld_at _ _ _ _ _ (ix2 ⟨t.val % 4 * 512 + j.val, by omega⟩ d) (place2 o0)).trans (h.v _ _)
  have hv1 : Holds (View.ld (iblk m c 2 t) (Rect.unit (k0_off17 (grid0.coords t) 1#32) S128x128.size (k0_off17_inb (grid0.coords t) 1))) fun j d => P.tile.V (t.val % 4 * 512 + 128 + j.val) d :=
    fun j d => (ld_at _ _ _ _ _ (ix2 ⟨t.val % 4 * 512 + 128 + j.val, by omega⟩ d) (place2 o1)).trans (h.v _ _)
  have hv2 : Holds (View.ld (iblk m c 2 t) (Rect.unit (k0_off17 (grid0.coords t) 2#32) S128x128.size (k0_off17_inb (grid0.coords t) 2))) fun j d => P.tile.V (t.val % 4 * 512 + 256 + j.val) d :=
    fun j d => (ld_at _ _ _ _ _ (ix2 ⟨t.val % 4 * 512 + 256 + j.val, by omega⟩ d) (place2 o2)).trans (h.v _ _)
  have hv3 : Holds (View.ld (iblk m c 2 t) (Rect.unit (k0_off17 (grid0.coords t) 3#32) S128x128.size (k0_off17_inb (grid0.coords t) 3))) fun j d => P.tile.V (t.val % 4 * 512 + 384 + j.val) d :=
    fun j d => (ld_at _ _ _ _ _ (ix2 ⟨t.val % 4 * 512 + 384 + j.val, by omega⟩ d) (place2 o3)).trans (h.v _ _)
  have ha0 : Holds6 (View.ld (iblk m c 4 t) (Rect.unit (k0_off18 (grid0.coords t)) S1x1x1x1x1024x128.size (k0_off18_inb (grid0.coords t)))) fun r j => P.tile.A r (t.val % 4 * 512 + j.val) :=
    fun r j => (ld_at _ _ _ _ _ (ix6 0 0 ⟨t.val % 4, h4⟩ 0 r ⟨0 + j.val, by omega⟩) (place6 p0)).trans ((h.a _ _ _).trans (congrArg _ (congrArg _ (by dsimp only; omega))))
  have ha1 : Holds6 (View.ld (iblk m c 4 t) (Rect.unit (k0_off19 (grid0.coords t)) S1x1x1x1x1024x128.size (k0_off19_inb (grid0.coords t)))) fun r j => P.tile.A r (t.val % 4 * 512 + 128 + j.val) :=
    fun r j => (ld_at _ _ _ _ _ (ix6 0 0 ⟨t.val % 4, h4⟩ 0 r ⟨128 + j.val, by omega⟩) (place6 p1)).trans ((h.a _ _ _).trans (congrArg _ (congrArg _ (by dsimp only; omega))))
  have ha2 : Holds6 (View.ld (iblk m c 4 t) (Rect.unit (k0_off20 (grid0.coords t)) S1x1x1x1x1024x128.size (k0_off20_inb (grid0.coords t)))) fun r j => P.tile.A r (t.val % 4 * 512 + 256 + j.val) :=
    fun r j => (ld_at _ _ _ _ _ (ix6 0 0 ⟨t.val % 4, h4⟩ 0 r ⟨256 + j.val, by omega⟩) (place6 p2)).trans ((h.a _ _ _).trans (congrArg _ (congrArg _ (by dsimp only; omega))))
  have ha3 : Holds6 (View.ld (iblk m c 4 t) (Rect.unit (k0_off21 (grid0.coords t)) S1x1x1x1x1024x128.size (k0_off21_inb (grid0.coords t)))) fun r j => P.tile.A r (t.val % 4 * 512 + 384 + j.val) :=
    fun r j => (ld_at _ _ _ _ _ (ix6 0 0 ⟨t.val % 4, h4⟩ 0 r ⟨384 + j.val, by omega⟩) (place6 p3)).trans ((h.a _ _ _).trans (congrArg _ (congrArg _ (by dsimp only; omega))))
  have hl0 : Holds6 (View.ld (iblk m c 5 t) (Rect.unit (k0_off18 (grid0.coords t)) S1x1x1x1x1024x128.size (k0_off18_inb (grid0.coords t)))) fun r j => P.tile.L r (t.val % 4 * 512 + j.val) :=
    fun r j => (ld_at _ _ _ _ _ (ix6 0 0 ⟨t.val % 4, h4⟩ 0 r ⟨0 + j.val, by omega⟩) (place6 p0)).trans ((h.l _ _ _).trans (congrArg _ (congrArg _ (by dsimp only; omega))))
  have hl1 : Holds6 (View.ld (iblk m c 5 t) (Rect.unit (k0_off19 (grid0.coords t)) S1x1x1x1x1024x128.size (k0_off19_inb (grid0.coords t)))) fun r j => P.tile.L r (t.val % 4 * 512 + 128 + j.val) :=
    fun r j => (ld_at _ _ _ _ _ (ix6 0 0 ⟨t.val % 4, h4⟩ 0 r ⟨128 + j.val, by omega⟩) (place6 p1)).trans ((h.l _ _ _).trans (congrArg _ (congrArg _ (by dsimp only; omega))))
  have hl2 : Holds6 (View.ld (iblk m c 5 t) (Rect.unit (k0_off20 (grid0.coords t)) S1x1x1x1x1024x128.size (k0_off20_inb (grid0.coords t)))) fun r j => P.tile.L r (t.val % 4 * 512 + 256 + j.val) :=
    fun r j => (ld_at _ _ _ _ _ (ix6 0 0 ⟨t.val % 4, h4⟩ 0 r ⟨256 + j.val, by omega⟩) (place6 p2)).trans ((h.l _ _ _).trans (congrArg _ (congrArg _ (by dsimp only; omega))))
  have hl3 : Holds6 (View.ld (iblk m c 5 t) (Rect.unit (k0_off21 (grid0.coords t)) S1x1x1x1x1024x128.size (k0_off21_inb (grid0.coords t)))) fun r j => P.tile.L r (t.val % 4 * 512 + 384 + j.val) :=
    fun r j => (ld_at _ _ _ _ _ (ix6 0 0 ⟨t.val % 4, h4⟩ 0 r ⟨384 + j.val, by omega⟩) (place6 p3)).trans ((h.l _ _ _).trans (congrArg _ (congrArg _ (by dsimp only; omega))))
  exact Pay.own lower h.both hl hv0 hv1 hv2 hv3 ha0 ha1 ha2 ha3 hl0 hl1 hl2 hl3

/-- The gradient at the queries that the point writes: each head's own lanes. -/
def Point.dq (P : Point) (i : ℕ) (r : Fin 512) (d : Fin 128) : ℝ :=
  if d.val < 64 then P.tile.dq i ((i + 1) * 512) ⟨r.val, by omega⟩ d else P.tile.dq i ((i + 1) * 512) ⟨512 + r.val, by omega⟩ d

/-- The accumulators after the tile's own block, and the gradient at its queries. -/
lemma Point.At.left {P : Point} {t : Fin cfg0.N} (h : P.At m c t) {G15 : BufTy.Contents (Elt Ideal) (scM0_0).view.ty} {G16 : BufTy.Contents (Elt Ideal) (scM0_1).view.ty}
    {aK aV : Fin 4 → Fin 128 → Fin 512 → ℝ}
    (h15 : ∀ j l s, View.read (Elt Ideal) (scM0_0).view G15 (ix3 j l s) = ((aK j l s : ℝ) : EReal))
    (h16 : ∀ j l s, View.read (Elt Ideal) (scM0_1).view G16 (ix3 j l s) = ((aV j l s : ℝ) : EReal)) :
    let S := loopAt m c t G15 G16 (grid0.coords t 2).val
    (∀ j l s, View.read (Elt Ideal) (scM0_0).view ((scM0_0).view.writes (Elt Ideal) G15
      (⟨Rect.unit (s := S4x128x512) (k0_off22 (grid0.coords t)) ![1, 128, 512] (k0_off22_inb (grid0.coords t)), k0_pay120
        (k0_pay89 (k0_pay88 (iblk m c 0 t)) (iota .tc S128x512 32 [0] iota_S128x512_d0_w32) 64#32) (ownAt m c t S.1.1)
        (View.ld (View.read (Elt Ideal) (scM0_0).view ((scM0_0).view.writes (Elt Ideal) G15 S.2.1)) (Rect.unit (s := S4x128x512) (k0_off22 (grid0.coords t)) ![1, 128, 512] (k0_off22_inb (grid0.coords t))))⟩ ::
          S.2.1)) (ix3 j l s) = ((grown aK (fun l r => P.tile.Q r l) (P.tile.m (t.val % 4)) (t.val % 4 + 1) j l s : ℝ) : EReal)) ∧
    (∀ j l s, View.read (Elt Ideal) (scM0_1).view ((scM0_1).view.writes (Elt Ideal) G16
      (⟨Rect.unit (s := S4x128x512) (k0_off22 (grid0.coords t)) ![1, 128, 512] (k0_off22_inb (grid0.coords t)), k0_pay121
        (k0_pay90 (p71 m c t))
        (View.ld (View.read (Elt Ideal) (scM0_1).view ((scM0_1).view.writes (Elt Ideal) G16 S.2.2)) (Rect.unit (s := S4x128x512) (k0_off22 (grid0.coords t)) ![1, 128, 512] (k0_off22_inb (grid0.coords t))))
        (View.ld (iblk m c 4 t) (Rect.unit (k0_off23 (grid0.coords t)) ![1, 1, 1, 1, 1024, 512] (k0_off23_inb (grid0.coords t))))⟩ ::
          S.2.2)) (ix3 j l s) = ((grown aV (fun l r => P.tile.D r l) P.tile.A (t.val % 4 + 1) j l s : ℝ) : EReal)) ∧
    Holds (k0_pay122 k0_pay74 S.1.2 (ownAt m c t S.1.1)
      (View.ld (iblk m c 1 t) (Rect.unit (k0_off24 (grid0.coords t)) ![512, 128] (k0_off24_inb (grid0.coords t))))) (P.dq (t.val % 4)) := by
  intro S
  have h4 : t.val % 4 < 4 := by omega
  obtain ⟨-, -, -, -, o22, o23, o24⟩ := off18_at t
  obtain ⟨s1, s2, s3, s4⟩ := h.loop h15 h16
  have ho := h.own s1
  have hK : Holds3 (View.ld (View.read (Elt Ideal) (scM0_0).view ((scM0_0).view.writes (Elt Ideal) G15 S.2.1)) (Rect.unit (s := S4x128x512) (k0_off22 (grid0.coords t)) ![1, 128, 512] (k0_off22_inb (grid0.coords t))))
      (aK ⟨t.val % 4, h4⟩) :=
    fun l s => (congrArg _ (third _ _ ⟨t.val % 4, h4⟩ o22 l s)).trans ((s3 _ l s).trans (congrArg _ (grown_now ..)))
  have hV : Holds3 (View.ld (View.read (Elt Ideal) (scM0_1).view ((scM0_1).view.writes (Elt Ideal) G16 S.2.2)) (Rect.unit (s := S4x128x512) (k0_off22 (grid0.coords t)) ![1, 128, 512] (k0_off22_inb (grid0.coords t))))
      (aV ⟨t.val % 4, h4⟩) :=
    fun l s => (congrArg _ (third _ _ ⟨t.val % 4, h4⟩ o22 l s)).trans ((s4 _ l s).trans (congrArg _ (grown_now ..)))
  have haw : Holds6 (View.ld (iblk m c 4 t) (Rect.unit (k0_off23 (grid0.coords t)) ![1, 1, 1, 1, 1024, 512] (k0_off23_inb (grid0.coords t))))
      fun r s => P.tile.A r (t.val % 4 * 512 + s.val) :=
    fun r s => (ld_at _ _ _ _ _ (ix6 0 0 ⟨t.val % 4, h4⟩ 0 r s) (place6' (k := ⟨t.val % 4, h4⟩) o23)).trans (h.a _ _ _)
  have hkb : Holds (View.ld (iblk m c 1 t) (Rect.unit (k0_off24 (grid0.coords t)) ![512, 128] (k0_off24_inb (grid0.coords t))))
      fun s d => P.tile.K (t.val % 4 * 512 + s.val) d :=
    fun j d => (ld_at _ _ _ _ _ (ix2 ⟨t.val % 4 * 512 + j.val, by omega⟩ d) (place2 o24)).trans (h.k _ _)
  refine ⟨grow G15 S.2.1 h4 s3 _ _ _ o22 (keys (queries_t h.q) ho hK), grow G16 S.2.2 h4 s4 _ _ _ o22 (values (outs_t h.dout) haw hV),
    (query_out s2 ho hkb).congr fun r d => ?_⟩
  unfold Point.dq
  rw [Nat.succ_mul, P.tile.dq_add, P.tile.dq_add]

/-- What the step of a point leaves in the window of the queries, the running gain and the two accumulators. -/
structure Point.Leaves (P : Point) (t : Fin cfg0.N) (a : Fin 128 → ℝ) (aK aV : Fin 4 → Fin 128 → Fin 512 → ℝ)
    (o : Vec Ideal S512x128 .bf16 × Vec Ideal S2048x128 .bf16 × Vec Ideal S2048x128 .bf16 × Vec Ideal S1x128 .f32 × Vec Ideal S4x128x512 .f32 × Vec Ideal S4x128x512 .f32) : Prop where
  q : Holds o.1 (P.dq (t.val % 4))
  gain : Holds o.2.2.2.1 fun _ l => a l + ∑ r, P.M r l * nrm P.X r l
  keys : ∀ j l s, o.2.2.2.2.1 (ix3 j l s) = ((grown aK (fun l r => P.tile.Q r l) (P.tile.m (t.val % 4)) (t.val % 4 + 1) j l s : ℝ) : EReal)
  values : ∀ j l s, o.2.2.2.2.2 (ix3 j l s) = ((grown aV (fun l r => P.tile.D r l) P.tile.A (t.val % 4 + 1) j l s : ℝ) : EReal)

lemma zero_gain : Holds (k0_pay76 (F := Ideal)) fun _ _ => 0 := by
  intro r j
  pointwise [k0_pay76]
  simp

lemma zero_keys (j l s) : View.read (Elt Ideal) (scM0_0).view ((scM0_0).view.writes (Elt Ideal) (scM0_0).view.junk
    [⟨Rect.unit (s := S4x128x512) ![0, 0, 0] ![4, 128, 512] (by intro a; exact inb_S4x128x512_S4x128x512_0_0_0 a), k0_pay77 (F := Ideal)⟩]) (ix3 j l s) = ((0 : ℝ) : EReal) := by
  refine (View.read_writes_cons_hit_of_coords _ _ _ _ _ (ix3 j l s) _ fun a => ?_).trans ?_
  · fin_cases a <;> simp
  · pointwise [k0_pay77]
    simp

lemma zero_values (j l s) : View.read (Elt Ideal) (scM0_1).view ((scM0_1).view.writes (Elt Ideal) (scM0_1).view.junk
    [⟨Rect.unit (s := S4x128x512) ![0, 0, 0] ![4, 128, 512] (by intro a; exact inb_S4x128x512_S4x128x512_0_0_0 a), k0_pay78 (F := Ideal)⟩]) (ix3 j l s) = ((0 : ℝ) : EReal) := by
  refine (View.read_writes_cons_hit_of_coords _ _ _ _ _ (ix3 j l s) _ fun a => ?_).trans ?_
  · fin_cases a <;> simp
  · pointwise [k0_pay78]
    simp

lemma leaves_A (P : Point) (t : Fin cfg0.N) (h : P.At m c t) (h0 : t.val % 16 = 0) (h1 : t.val % 4 = 0) (h2 : ¬t.val % 4 = 3)
    : P.Leaves t (fun _ => 0) (fun _ _ _ => 0) (fun _ _ _ => 0) (outsAt0 m c t.val t.isLt) := by
  have hl := h.left zero_keys zero_values
  simp only [← View.writes_append, List.cons_append] at hl
  have hg' := Pay.gain (raw79 h.x) (ct80 h.dm) (mean h.x) zero_gain
  refine ⟨fun r d => Eq.trans ?_ (hl.2.2 r d), fun r d => Eq.trans ?_ (hg' r d), fun j l s => Eq.trans ?_ (hl.1 j l s), fun j l s => Eq.trans ?_ (hl.2.1 j l s)⟩
  · rw [outsAt0_A m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_A m c t h0 h1 h2]
    frame_open
    simp (disch := decide) only [↓ View.readCov_skip, ↓ View.readCov_cons_toLoadRect, ↓ View.readCov_fill]
    frame_out
  · rw [outsAt0_A m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_A m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl

lemma leaves_D (P : Point) (t : Fin cfg0.N) (h : P.At m c t) (h0 : ¬t.val % 16 = 0) (h1 : t.val % 4 = 0) (h2 : ¬t.val % 4 = 3) {a : Fin 128 → ℝ}
    (hg : Holds (outsAt0 m c (t.val - 1) (lt_of_le_of_lt (Nat.sub_le ..) t.isLt)).2.2.2.1 fun _ l => a l)
    : P.Leaves t a (fun _ _ _ => 0) (fun _ _ _ => 0) (outsAt0 m c t.val t.isLt) := by
  have hl := h.left zero_keys zero_values
  simp only [← View.writes_append, List.cons_append] at hl
  have hg' := Pay.gain (raw79 h.x) (ct80 h.dm) (mean h.x) hg
  refine ⟨fun r d => Eq.trans ?_ (hl.2.2 r d), fun r d => Eq.trans ?_ (hg' r d), fun j l s => Eq.trans ?_ (hl.1 j l s), fun j l s => Eq.trans ?_ (hl.2.1 j l s)⟩
  · rw [outsAt0_D m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_D m c t h0 h1 h2]
    frame_open
    simp (disch := decide) only [↓ View.readCov_skip, ↓ View.readCov_cons_toLoadRect, ↓ View.readCov_fill]
    frame_out
  · rw [outsAt0_D m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_D m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl

lemma leaves_B (P : Point) (t : Fin cfg0.N) (h : P.At m c t) (h0 : ¬t.val % 16 = 0) (h1 : ¬t.val % 4 = 0) (h2 : ¬t.val % 4 = 3) {a : Fin 128 → ℝ} {aK aV : Fin 4 → Fin 128 → Fin 512 → ℝ}
    (hg : Holds (outsAt0 m c (t.val - 1) (lt_of_le_of_lt (Nat.sub_le ..) t.isLt)).2.2.2.1 fun _ l => a l)
    (hK : ∀ j l s, (outsAt0 m c (t.val - 1) (lt_of_le_of_lt (Nat.sub_le ..) t.isLt)).2.2.2.2.1 (ix3 j l s) = ((aK j l s : ℝ) : EReal))
    (hV : ∀ j l s, (outsAt0 m c (t.val - 1) (lt_of_le_of_lt (Nat.sub_le ..) t.isLt)).2.2.2.2.2 (ix3 j l s) = ((aV j l s : ℝ) : EReal))
    : P.Leaves t a aK aV (outsAt0 m c t.val t.isLt) := by
  have hl := h.left (G15 := (Memref.isWhole_whole _).unread (outsAt0 m c (t.val - 1) (lt_of_le_of_lt (Nat.sub_le ..) t.isLt)).2.2.2.2.1) (G16 := (Memref.isWhole_whole _).unread (outsAt0 m c (t.val - 1) (lt_of_le_of_lt (Nat.sub_le ..) t.isLt)).2.2.2.2.2)
    (fun j l s => (congrFun (Memref.IsWhole.read_unread _ _) _).trans (hK j l s)) (fun j l s => (congrFun (Memref.IsWhole.read_unread _ _) _).trans (hV j l s))
  have hg' := Pay.gain (raw79 h.x) (ct80 h.dm) (mean h.x) hg
  refine ⟨fun r d => Eq.trans ?_ (hl.2.2 r d), fun r d => Eq.trans ?_ (hg' r d), fun j l s => Eq.trans ?_ (hl.1 j l s), fun j l s => Eq.trans ?_ (hl.2.1 j l s)⟩
  · rw [outsAt0_B m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_B m c t h0 h1 h2]
    frame_open
    simp (disch := decide) only [↓ View.readCov_skip, ↓ View.readCov_cons_toLoadRect, ↓ View.readCov_fill]
    frame_out
  · rw [outsAt0_B m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_B m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl

lemma leaves_C (P : Point) (t : Fin cfg0.N) (h : P.At m c t) (h0 : ¬t.val % 16 = 0) (h1 : ¬t.val % 4 = 0) (h2 : t.val % 4 = 3) {a : Fin 128 → ℝ} {aK aV : Fin 4 → Fin 128 → Fin 512 → ℝ}
    (hg : Holds (outsAt0 m c (t.val - 1) (lt_of_le_of_lt (Nat.sub_le ..) t.isLt)).2.2.2.1 fun _ l => a l)
    (hK : ∀ j l s, (outsAt0 m c (t.val - 1) (lt_of_le_of_lt (Nat.sub_le ..) t.isLt)).2.2.2.2.1 (ix3 j l s) = ((aK j l s : ℝ) : EReal))
    (hV : ∀ j l s, (outsAt0 m c (t.val - 1) (lt_of_le_of_lt (Nat.sub_le ..) t.isLt)).2.2.2.2.2 (ix3 j l s) = ((aV j l s : ℝ) : EReal))
    : P.Leaves t a aK aV (outsAt0 m c t.val t.isLt) := by
  have hl := h.left (G15 := (Memref.isWhole_whole _).unread (outsAt0 m c (t.val - 1) (lt_of_le_of_lt (Nat.sub_le ..) t.isLt)).2.2.2.2.1) (G16 := (Memref.isWhole_whole _).unread (outsAt0 m c (t.val - 1) (lt_of_le_of_lt (Nat.sub_le ..) t.isLt)).2.2.2.2.2)
    (fun j l s => (congrFun (Memref.IsWhole.read_unread _ _) _).trans (hK j l s)) (fun j l s => (congrFun (Memref.IsWhole.read_unread _ _) _).trans (hV j l s))
  have hg' := Pay.gain (raw79 h.x) (ct80 h.dm) (mean h.x) hg
  refine ⟨fun r d => Eq.trans ?_ (hl.2.2 r d), fun r d => Eq.trans ?_ (hg' r d), fun j l s => Eq.trans ?_ (hl.1 j l s), fun j l s => Eq.trans ?_ (hl.2.1 j l s)⟩
  · rw [outsAt0_C m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_C m c t h0 h1 h2]
    frame_open
    simp (disch := decide) only [↓ View.readCov_skip, ↓ View.readCov_cons_toLoadRect, ↓ View.readCov_fill]
    frame_out
  · rw [outsAt0_C m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl
  · rw [outsAt0_C m c t h0 h1 h2]
    frame_open
    simp (disch := decide) only [↓ View.readCov_skip, ↓ View.readCov_cons_toLoadRect, ↓ View.readCov_fill]
    frame_out
    simp only [trips1 (grid0.coords t 2), trips2 (grid0.coords t 2), rest_none, List.nil_append]
    rfl

/-- An accumulator's blocks one below the other, turned. -/
def spread (a : Fin 4 → Fin 128 → Fin 512 → ℝ) (s : Fin 2048) (l : Fin 128) : ℝ := a ⟨s.val / 512, by omega⟩ l ⟨s.val % 512, by omega⟩

/-- One square of 128 positions, turned, is a piece of it. -/
lemma turned {S : S4x128x512.Idx → EReal} {a : Fin 4 → Fin 128 → Fin 512 → ℝ} (hS : ∀ j l s, S (ix3 j l s) = ((a j l s : ℝ) : EReal))
    (j c o : ℕ) (hj : j < 4) (hc : c + 128 ≤ 512) (ho : o = j * 512 + c) (inb inb') (x : (⟨2, ![128, 128]⟩ : Shape).Idx) :
    k0_pay1 (View.ld (Val := Elt Ideal) (e' := .f32) S (Rect.unit (s := S4x128x512) ![j, 0, c] ![1, 128, 128] inb)) x =
      mat (spread a) ((Rect.unit (s := S2048x128) ![o, 0] ![128, 128] inb').emb x) := by
  obtain ⟨s, l, rfl⟩ := Places.is2 x
  have e : k0_pay1 (View.ld (Val := Elt Ideal) (e' := .f32) S (Rect.unit (s := S4x128x512) ![j, 0, c] ![1, 128, 128] inb)) (ix2 s l) =
      View.ld (Val := Elt Ideal) (e' := .f32) S (Rect.unit (s := S4x128x512) ![j, 0, c] ![1, 128, 128] inb) (ix3 0 l s) := by
    pointwise [k0_pay1]
  rw [e]
  refine (ld_at (e := .f32) S _ _ _ _ (ix3 ⟨j, hj⟩ l ⟨c + s.val, by omega⟩) fun a => by fin_cases a <;> simp).trans ((hS _ _ _).trans ?_)
  have e2 : (Rect.unit (s := S2048x128) ![o, 0] ![128, 128] inb').emb (ix2 s l) = ix2 ⟨o + s.val, by omega⟩ l :=
    Places.ext2 (by simp) (by simp)
  rw [e2, mat_holds]
  unfold spread
  have h1 : (o + s.val) / 512 = j := by omega
  have h2 : (o + s.val) % 512 = c + s.val := by omega
  simp only [h1, h2]

/-- The sixteen squares of an accumulator as they are written. -/
def squares (S : S4x128x512.Idx → EReal) : List (View.Piece (Elt Ideal) S2048x128 .bf16) := [
    ⟨Rect.unit (s := S2048x128) ![1920, 0] ![128, 128] (by decide), k0_pay1 (View.ld (Val := Elt Ideal) (e' := .f32) S (Rect.unit (s := S4x128x512) ![3, 0, 384] ![1, 128, 128] (by decide)))⟩,
    ⟨Rect.unit (s := S2048x128) ![1792, 0] ![128, 128] (by decide), k0_pay1 (View.ld (Val := Elt Ideal) (e' := .f32) S (Rect.unit (s := S4x128x512) ![3, 0, 256] ![1, 128, 128] (by decide)))⟩,
    ⟨Rect.unit (s := S2048x128) ![1664, 0] ![128, 128] (by decide), k0_pay1 (View.ld (Val := Elt Ideal) (e' := .f32) S (Rect.unit (s := S4x128x512) ![3, 0, 128] ![1, 128, 128] (by decide)))⟩,
    ⟨Rect.unit (s := S2048x128) ![1536, 0] ![128, 128] (by decide), k0_pay1 (View.ld (Val := Elt Ideal) (e' := .f32) S (Rect.unit (s := S4x128x512) ![3, 0, 0] ![1, 128, 128] (by decide)))⟩,
    ⟨Rect.unit (s := S2048x128) ![1408, 0] ![128, 128] (by decide), k0_pay1 (View.ld (Val := Elt Ideal) (e' := .f32) S (Rect.unit (s := S4x128x512) ![2, 0, 384] ![1, 128, 128] (by decide)))⟩,
    ⟨Rect.unit (s := S2048x128) ![1280, 0] ![128, 128] (by decide), k0_pay1 (View.ld (Val := Elt Ideal) (e' := .f32) S (Rect.unit (s := S4x128x512) ![2, 0, 256] ![1, 128, 128] (by decide)))⟩,
    ⟨Rect.unit (s := S2048x128) ![1152, 0] ![128, 128] (by decide), k0_pay1 (View.ld (Val := Elt Ideal) (e' := .f32) S (Rect.unit (s := S4x128x512) ![2, 0, 128] ![1, 128, 128] (by decide)))⟩,
    ⟨Rect.unit (s := S2048x128) ![1024, 0] ![128, 128] (by decide), k0_pay1 (View.ld (Val := Elt Ideal) (e' := .f32) S (Rect.unit (s := S4x128x512) ![2, 0, 0] ![1, 128, 128] (by decide)))⟩,
    ⟨Rect.unit (s := S2048x128) ![896, 0] ![128, 128] (by decide), k0_pay1 (View.ld (Val := Elt Ideal) (e' := .f32) S (Rect.unit (s := S4x128x512) ![1, 0, 384] ![1, 128, 128] (by decide)))⟩,
    ⟨Rect.unit (s := S2048x128) ![768, 0] ![128, 128] (by decide), k0_pay1 (View.ld (Val := Elt Ideal) (e' := .f32) S (Rect.unit (s := S4x128x512) ![1, 0, 256] ![1, 128, 128] (by decide)))⟩,
    ⟨Rect.unit (s := S2048x128) ![640, 0] ![128, 128] (by decide), k0_pay1 (View.ld (Val := Elt Ideal) (e' := .f32) S (Rect.unit (s := S4x128x512) ![1, 0, 128] ![1, 128, 128] (by decide)))⟩,
    ⟨Rect.unit (s := S2048x128) ![512, 0] ![128, 128] (by decide), k0_pay1 (View.ld (Val := Elt Ideal) (e' := .f32) S (Rect.unit (s := S4x128x512) ![1, 0, 0] ![1, 128, 128] (by decide)))⟩,
    ⟨Rect.unit (s := S2048x128) ![384, 0] ![128, 128] (by decide), k0_pay1 (View.ld (Val := Elt Ideal) (e' := .f32) S (Rect.unit (s := S4x128x512) ![0, 0, 384] ![1, 128, 128] (by decide)))⟩,
    ⟨Rect.unit (s := S2048x128) ![256, 0] ![128, 128] (by decide), k0_pay1 (View.ld (Val := Elt Ideal) (e' := .f32) S (Rect.unit (s := S4x128x512) ![0, 0, 256] ![1, 128, 128] (by decide)))⟩,
    ⟨Rect.unit (s := S2048x128) ![128, 0] ![128, 128] (by decide), k0_pay1 (View.ld (Val := Elt Ideal) (e' := .f32) S (Rect.unit (s := S4x128x512) ![0, 0, 128] ![1, 128, 128] (by decide)))⟩,
    ⟨Rect.unit (s := S2048x128) ![0, 0] ![128, 128] (by decide), k0_pay1 (View.ld (Val := Elt Ideal) (e' := .f32) S (Rect.unit (s := S4x128x512) ![0, 0, 0] ![1, 128, 128] (by decide)))⟩]

lemma squares_at {S : S4x128x512.Idx → EReal} {a : Fin 4 → Fin 128 → Fin 512 → ℝ} (hS : ∀ j l s, S (ix3 j l s) = ((a j l s : ℝ) : EReal)) (y) :
    View.canon (squares S) y = mat (spread a) y := by
  refine View.canon_apply_of_pieces (Val := Elt Ideal) (e := .bf16) (mat (spread a)) _ (View.PiecesOf.mem ?_) y
    (View.cover_of_tiledL _ ![128, 128] (by sl_kernel_rfl) y)
  exact ⟨fun x => turned hS 3 384 1920 (by omega) (by omega) rfl (by decide) (by decide) x, fun x => turned hS 3 256 1792 (by omega) (by omega) rfl (by decide) (by decide) x,
    fun x => turned hS 3 128 1664 (by omega) (by omega) rfl (by decide) (by decide) x, fun x => turned hS 3 0 1536 (by omega) (by omega) rfl (by decide) (by decide) x,
    fun x => turned hS 2 384 1408 (by omega) (by omega) rfl (by decide) (by decide) x, fun x => turned hS 2 256 1280 (by omega) (by omega) rfl (by decide) (by decide) x,
    fun x => turned hS 2 128 1152 (by omega) (by omega) rfl (by decide) (by decide) x, fun x => turned hS 2 0 1024 (by omega) (by omega) rfl (by decide) (by decide) x,
    fun x => turned hS 1 384 896 (by omega) (by omega) rfl (by decide) (by decide) x, fun x => turned hS 1 256 768 (by omega) (by omega) rfl (by decide) (by decide) x,
    fun x => turned hS 1 128 640 (by omega) (by omega) rfl (by decide) (by decide) x, fun x => turned hS 1 0 512 (by omega) (by omega) rfl (by decide) (by decide) x,
    fun x => turned hS 0 384 384 (by omega) (by omega) rfl (by decide) (by decide) x, fun x => turned hS 0 256 256 (by omega) (by omega) rfl (by decide) (by decide) x,
    fun x => turned hS 0 128 128 (by omega) (by omega) rfl (by decide) (by decide) x, fun x => turned hS 0 0 0 (by omega) (by omega) rfl (by decide) (by decide) x,
    trivial⟩

lemma keys_C (P : Point) (t : Fin cfg0.N) (h : P.At m c t) (h0 : ¬t.val % 16 = 0) (h1 : ¬t.val % 4 = 0) (h2 : t.val % 4 = 3) {aK aV : Fin 4 → Fin 128 → Fin 512 → ℝ}
    (hK : ∀ j l s, (outsAt0 m c (t.val - 1) (lt_of_le_of_lt (Nat.sub_le ..) t.isLt)).2.2.2.2.1 (ix3 j l s) = ((aK j l s : ℝ) : EReal))
    (hV : ∀ j l s, (outsAt0 m c (t.val - 1) (lt_of_le_of_lt (Nat.sub_le ..) t.isLt)).2.2.2.2.2 (ix3 j l s) = ((aV j l s : ℝ) : EReal)) :
    Holds (outsAt0 m c t.val t.isLt).2.1 (spread (grown aK (fun l r => P.tile.Q r l) (P.tile.m 3) 4)) := by
  have hl := h.left (G15 := (Memref.isWhole_whole _).unread (outsAt0 m c (t.val - 1) (lt_of_le_of_lt (Nat.sub_le ..) t.isLt)).2.2.2.2.1) (G16 := (Memref.isWhole_whole _).unread (outsAt0 m c (t.val - 1) (lt_of_le_of_lt (Nat.sub_le ..) t.isLt)).2.2.2.2.2)
    (fun j l s => (congrFun (Memref.IsWhole.read_unread _ _) _).trans (hK j l s)) (fun j l s => (congrFun (Memref.IsWhole.read_unread _ _) _).trans (hV j l s))
  rw [h2] at hl
  refine Holds.of_eq fun y => ?_
  rw [outsAt0_C m c t h0 h1 h2]
  frame_open
  simp (disch := decide) only [↓ View.readCov_skip, ↓ View.readCov_cons_toLoadRect, ↓ View.readCov_fill]
  frame_out
  simp only [trips1 (grid0.coords t 2), trips2 (grid0.coords t 2), rest_none, List.nil_append]
  refine Eq.trans ?_ (squares_at hl.1 y)
  sl_kernel_rfl

lemma values_C (P : Point) (t : Fin cfg0.N) (h : P.At m c t) (h0 : ¬t.val % 16 = 0) (h1 : ¬t.val % 4 = 0) (h2 : t.val % 4 = 3) {aK aV : Fin 4 → Fin 128 → Fin 512 → ℝ}
    (hK : ∀ j l s, (outsAt0 m c (t.val - 1) (lt_of_le_of_lt (Nat.sub_le ..) t.isLt)).2.2.2.2.1 (ix3 j l s) = ((aK j l s : ℝ) : EReal))
    (hV : ∀ j l s, (outsAt0 m c (t.val - 1) (lt_of_le_of_lt (Nat.sub_le ..) t.isLt)).2.2.2.2.2 (ix3 j l s) = ((aV j l s : ℝ) : EReal)) :
    Holds (outsAt0 m c t.val t.isLt).2.2.1 (spread (grown aV (fun l r => P.tile.D r l) P.tile.A 4)) := by
  have hl := h.left (G15 := (Memref.isWhole_whole _).unread (outsAt0 m c (t.val - 1) (lt_of_le_of_lt (Nat.sub_le ..) t.isLt)).2.2.2.2.1) (G16 := (Memref.isWhole_whole _).unread (outsAt0 m c (t.val - 1) (lt_of_le_of_lt (Nat.sub_le ..) t.isLt)).2.2.2.2.2)
    (fun j l s => (congrFun (Memref.IsWhole.read_unread _ _) _).trans (hK j l s)) (fun j l s => (congrFun (Memref.IsWhole.read_unread _ _) _).trans (hV j l s))
  rw [h2] at hl
  refine Holds.of_eq fun y => ?_
  rw [outsAt0_C m c t h0 h1 h2]
  frame_open
  simp (disch := decide) only [↓ View.readCov_skip, ↓ View.readCov_cons_toLoadRect, ↓ View.readCov_fill]
  frame_out
  simp only [trips1 (grid0.coords t 2), trips2 (grid0.coords t 2), rest_none, List.nil_append]
  refine Eq.trans ?_ (squares_at hl.2.1 y)
  sl_kernel_rfl

end Cert.SbIdeal.Pay

end
-- ==== Proof.SbGlobal.lean ====
/-
  The gradients of stick-breaking attention head by head, over the reals, and that the tiles add up to them.
-/
module

public import proofs.«01_k».proof.Proof.SbNorm
public import proofs.«01_k».proof.Proof.Runs

@[expose] public section

noncomputable section

namespace Cert.Stick

open Finset

/-- What the call reads, by batch, position and column: the projections, the incoming gradient, the gain, the attention's
    output before its norm; and by batch, head, query and key the weights and the logarithms of what is left. -/
structure Data where
  pj : ℕ → ℕ → ℕ → ℝ
  ct : ℕ → ℕ → ℕ → ℝ
  hg : ℕ → ℝ
  raw : ℕ → ℕ → ℕ → ℝ
  wt : ℕ → ℕ → ℕ → ℕ → ℝ
  lg : ℕ → ℕ → ℕ → ℕ → ℝ

namespace Data

variable (D : Data)

/-- The mean square of a head's output, moved off zero, and one over its root. -/
def msq (b t h : ℕ) : ℝ := (∑ d : Fin 64, D.raw b t (h * 64 + d.val) * D.raw b t (h * 64 + d.val)) * (1 / 64) + eps

lemma msq_pos (b t h : ℕ) : 0 < D.msq b t h :=
  add_pos_of_nonneg_of_pos (mul_nonneg (sum_nonneg fun _ _ => mul_self_nonneg _) (by norm_num)) eps_pos

def inv (b t h : ℕ) : ℝ := (√(D.msq b t h))⁻¹

def nrm (b t h d : ℕ) : ℝ := D.raw b t (h * 64 + d) * D.inv b t h

/-- The gradient of a head's output before its norm. -/
def out (b t h d : ℕ) : ℝ :=
  D.inv b t h * (D.ct b t (512 + (h * 64 + d)) * D.hg (512 + (h * 64 + d)) -
    D.nrm b t h d * ((∑ e : Fin 64, D.ct b t (512 + (h * 64 + e.val)) * D.hg (512 + (h * 64 + e.val)) * D.nrm b t h e.val) * (1 / 64)))

/-- The gradient of a weight times the weight. -/
def g (b h t s : ℕ) : ℝ := (∑ d : Fin 64, D.out b t h d.val * D.pj b s (2048 + (h * 64 + d.val))) * D.wt b h t s

/-- The gradient of a score before the scale and the mask. -/
def z (b h t s : ℕ) : ℝ :=
  (D.g b h t s * Real.exp (D.lg b h t s) - (∑ x ∈ range s, D.g b h t x) * (1 - Real.exp (D.lg b h t s))) * (1 / 8)

def m (b h t s : ℕ) : ℝ := if s < t then D.z b h t s else 0

def dq (b h t d : ℕ) : ℝ := ∑ s ∈ range 2048, D.m b h t s * D.pj b s (1536 + (h * 64 + d))

def dk (b h s d : ℕ) : ℝ := ∑ t ∈ range 2048, D.pj b t (1024 + (h * 64 + d)) * D.m b h t s

def dv (b h s d : ℕ) : ℝ := ∑ t ∈ range 2048, D.out b t h d * D.wt b h t s

def dg (h d : ℕ) : ℝ := ∑ k ∈ range 4, ∑ t ∈ range 2048, D.ct k t (512 + (h * 64 + d)) * D.nrm k t h d

/-! What the grid point of pair `p`, batch `b` and tile `i` reads. -/

def tX (p b i : ℕ) (r : Fin 512) (l : Fin 128) : ℝ := D.raw b (i * 512 + r.val) (p * 128 + l.val)
def tM (p b i : ℕ) (r : Fin 512) (l : Fin 128) : ℝ := D.ct b (i * 512 + r.val) (512 + (p * 128 + l.val))
def tW (p : ℕ) (l : Fin 128) : ℝ := D.hg (512 + (p * 128 + l.val))
def tQ (p b i : ℕ) (r : Fin 512) (l : Fin 128) : ℝ := D.pj b (i * 512 + r.val) (1024 + (p * 128 + l.val))

def tile (p b i : ℕ) : Tile where
  D := stack (dout (D.tX p b i) (D.tM p b i) (D.tW p))
  Q := stack (D.tQ p b i)
  V := fun s l => D.pj b s (2048 + (p * 128 + l.val))
  K := fun s l => D.pj b s (1536 + (p * 128 + l.val))
  A := fun r s => D.wt b (2 * p + r.val / 512) (i * 512 + r.val % 512) s
  L := fun r s => D.lg b (2 * p + r.val / 512) (i * 512 + r.val % 512) s

end Data

lemma sum_lanes (f : Fin 128 → ℝ) : ∑ d, f d = ∑ d : Fin 64, f ⟨d.val, by omega⟩ + ∑ d : Fin 64, f ⟨64 + d.val, by omega⟩ :=
  Fin.sum_univ_add (a := 64) (b := 64) f

lemma sum_rows (f : Fin 1024 → ℝ) : ∑ r, f r = ∑ r : Fin 512, f ⟨r.val, by omega⟩ + ∑ r : Fin 512, f ⟨512 + r.val, by omega⟩ :=
  Fin.sum_univ_add (a := 512) (b := 512) f

/-- One head's lanes. -/
lemma sum_own (f : Fin 128 → ℝ) (e : ℕ) (he : e < 2) :
    ∑ d : Fin 128, (if d.val / 64 = e then f d else 0) = ∑ d : Fin 64, f ⟨e * 64 + d.val, by omega⟩ := by
  rw [sum_lanes]
  rcases (by omega : e = 0 ∨ e = 1) with rfl | rfl
  · rw [sum_congr rfl fun d _ => if_pos (by dsimp only; omega), sum_congr (s₁ := univ (α := Fin 64)) rfl fun (d : Fin 64) _ => if_neg (c := (64 + d.val) / 64 = 0) (by omega),
      sum_const_zero, add_zero]
    exact sum_congr rfl fun d _ => congrArg f (Fin.ext (by dsimp only; omega))
  · rw [sum_congr rfl fun d _ => if_neg (by dsimp only; omega), sum_const_zero, zero_add]
    exact sum_congr rfl fun d _ => if_pos (by dsimp only; omega)

lemma hsum_own (f : Fin 128 → ℝ) (l : Fin 128) : hsum f l = ∑ d : Fin 64, f ⟨l.val / 64 * 64 + d.val, by omega⟩ := by
  rw [← sum_own f (l.val / 64) (by omega), hsum]
  split
  · exact sum_congr rfl fun d _ => if_congr (by omega) rfl rfl
  · refine sum_congr rfl fun d _ => ?_
    split
    · rw [if_neg (by omega)]
    · rw [if_pos (by omega)]

lemma stack_own (x : Fin 512 → Fin 128 → ℝ) (r : Fin 1024) (d : Fin 128) :
    stack x r d = if d.val / 64 = r.val / 512 then x ⟨r.val % 512, by omega⟩ d else 0 := by
  unfold stack
  split
  · refine if_congr (by omega) (congrArg (x · d) (Fin.ext ?_)) rfl
    dsimp only
    omega
  · split
    · rw [if_neg (by omega)]
    · rw [if_pos (by omega)]
      refine congrArg (x · d) (Fin.ext ?_)
      dsimp only
      omega

/-- A sum over both heads' rows of what is zero at the other head's lanes. -/
lemma sum_stack (x : Fin 512 → Fin 128 → ℝ) (f : Fin 1024 → ℝ) (l : Fin 128) :
    ∑ r, stack x r l * f r = ∑ r : Fin 512, x r l * f ⟨l.val / 64 * 512 + r.val, by omega⟩ := by
  rw [sum_rows]
  simp only [stack_own]
  rcases (by omega : l.val / 64 = 0 ∨ l.val / 64 = 1) with h | h
  · refine (congrArg (_ + ·) (sum_eq_zero fun r _ => ?_)).trans ((add_zero _).trans (sum_congr rfl fun r _ => ?_))
    · rw [if_neg (by omega), zero_mul]
    · rw [if_pos (by omega)]
      simp only [h]
      congr 2
      · exact Fin.ext (by dsimp only; omega)
      · exact Fin.ext (by dsimp only; omega)
  · refine (congrArg (· + _) (sum_eq_zero fun r _ => ?_)).trans ((zero_add _).trans (sum_congr rfl fun r _ => ?_))
    · rw [if_neg (by omega), zero_mul]
    · rw [if_pos (by omega)]
      simp only [h]
      congr 2
      · exact Fin.ext (by dsimp only; omega)

namespace Data

variable {D : Data} {p b i : ℕ}

lemma lane (p l : ℕ) : p * 128 + l = (2 * p + l / 64) * 64 + l % 64 := by omega

lemma inv_at (r : Fin 512) (l : Fin 128) : Stick.inv (D.tX p b i) r l = D.inv b (i * 512 + r.val) (2 * p + l.val / 64) := by
  unfold Stick.inv Data.inv msq ms
  rw [hsum_own]
  refine congrArg (fun x => (√(x * (1 / 64) + eps))⁻¹) (sum_congr rfl fun d _ => ?_)
  have e : p * 128 + (l.val / 64 * 64 + d.val) = (2 * p + l.val / 64) * 64 + d.val := by omega
  simp only [tX, e]

lemma nrm_at (r : Fin 512) (l : Fin 128) : Stick.nrm (D.tX p b i) r l = D.nrm b (i * 512 + r.val) (2 * p + l.val / 64) (l.val % 64) := by
  unfold Stick.nrm Data.nrm
  rw [inv_at, ← lane]
  rfl

lemma out_at (r : Fin 512) (l : Fin 128) :
    dout (D.tX p b i) (D.tM p b i) (D.tW p) r l = D.out b (i * 512 + r.val) (2 * p + l.val / 64) (l.val % 64) := by
  unfold dout Data.out
  rw [inv_at, nrm_at, hsum_own, ← lane]
  refine congrArg (fun x => D.inv b (i * 512 + r.val) (2 * p + l.val / 64) * (D.ct b (i * 512 + r.val) (512 + (p * 128 + l.val)) * D.hg (512 + (p * 128 + l.val)) -
    D.nrm b (i * 512 + r.val) (2 * p + l.val / 64) (l.val % 64) * (x * (1 / 64)))) (sum_congr rfl fun d _ => ?_)
  have e : p * 128 + (l.val / 64 * 64 + d.val) = (2 * p + l.val / 64) * 64 + d.val := by omega
  have e1 : (l.val / 64 * 64 + d.val) / 64 = l.val / 64 := by omega
  have e2 : (l.val / 64 * 64 + d.val) % 64 = d.val := by omega
  rw [nrm_at]
  simp only [tM, tW, e, e1, e2]

lemma g_at (r : Fin 1024) (s : ℕ) : (D.tile p b i).g r s = D.g b (2 * p + r.val / 512) (i * 512 + r.val % 512) s := by
  unfold Tile.g Data.g
  refine congrArg (· * _) ?_
  have h : ∀ d, (D.tile p b i).D r d * (D.tile p b i).V s d = if d.val / 64 = r.val / 512 then
      D.out b (i * 512 + r.val % 512) (2 * p + d.val / 64) (d.val % 64) * D.pj b s (2048 + (p * 128 + d.val)) else 0 := by
    intro d
    show stack _ r d * D.pj b s (2048 + (p * 128 + d.val)) = _
    rw [stack_own, ite_mul, zero_mul, out_at]
  rw [sum_congr rfl fun d _ => h d, sum_own _ (r.val / 512) (by omega)]
  refine sum_congr rfl fun d _ => ?_
  have e : p * 128 + (r.val / 512 * 64 + d.val) = (2 * p + r.val / 512) * 64 + d.val := by omega
  have e1 : (r.val / 512 * 64 + d.val) / 64 = r.val / 512 := by omega
  have e2 : (r.val / 512 * 64 + d.val) % 64 = d.val := by omega
  simp only [e, e1, e2]

lemma z_at (r : Fin 1024) (s : ℕ) : (D.tile p b i).z r s = D.z b (2 * p + r.val / 512) (i * 512 + r.val % 512) s := by
  unfold Tile.z Data.z Tile.pre
  rw [g_at, sum_congr rfl fun x _ => g_at r x]
  rfl

lemma m_at (r : Fin 1024) (s : ℕ) : (D.tile p b i).m i r s = D.m b (2 * p + r.val / 512) (i * 512 + r.val % 512) s :=
  if_congr Iff.rfl (z_at r s) rfl

lemma dq_at (hi : i < 4) (e : Fin 2) (r : Fin 512) (l : Fin 128) (h : l.val / 64 = e.val) :
    (D.tile p b i).dq i ((i + 1) * 512) ⟨e.val * 512 + r.val, by omega⟩ l = D.dq b (2 * p + l.val / 64) (i * 512 + r.val) (l.val % 64) := by
  unfold Tile.dq Data.dq
  have e1 : (e.val * 512 + r.val) / 512 = l.val / 64 := by omega
  have e2 : (e.val * 512 + r.val) % 512 = r.val := by omega
  simp only [m_at, e1, e2, ← lane]
  refine sum_subset (fun x hx => ?_) fun s _ hs => ?_
  · rw [mem_range] at hx ⊢; omega
  · rw [mem_range] at hs
    rw [Data.m, if_neg (by omega), zero_mul]

/-- What tile `i` adds to the keys' gradient. -/
lemma key_at (l : Fin 128) (j : ℕ) (s : Fin 512) :
    (if j < i + 1 then ∑ r, (D.tile p b i).Q r l * (D.tile p b i).m i r (j * 512 + s.val) else 0) =
      ∑ r : Fin 512, D.pj b (i * 512 + r.val) (1024 + (p * 128 + l.val)) * D.m b (2 * p + l.val / 64) (i * 512 + r.val) (j * 512 + s.val) := by
  have h : ∑ r, (D.tile p b i).Q r l * (D.tile p b i).m i r (j * 512 + s.val) =
      ∑ r : Fin 512, D.pj b (i * 512 + r.val) (1024 + (p * 128 + l.val)) * D.m b (2 * p + l.val / 64) (i * 512 + r.val) (j * 512 + s.val) := by
    refine (sum_stack (D.tQ p b i) (fun r => (D.tile p b i).m i r (j * 512 + s.val)) l).trans (sum_congr rfl fun r _ => ?_)
    have e1 : (l.val / 64 * 512 + r.val) / 512 = l.val / 64 := by omega
    have e2 : (l.val / 64 * 512 + r.val) % 512 = r.val := by omega
    rw [m_at]
    simp only [e1, e2]
    rfl
  split
  · exact h
  · refine (sum_eq_zero fun r _ => ?_).symm
    rw [Data.m, if_neg (by omega), mul_zero]

/-- What tile `i` adds to the values' gradient, where no weight lies on or above the diagonal. -/
lemma value_at (hw : ∀ b h t s, t ≤ s → D.wt b h t s = 0) (l : Fin 128) (j : ℕ) (s : Fin 512) :
    (if j < i + 1 then ∑ r, (D.tile p b i).D r l * (D.tile p b i).A r (j * 512 + s.val) else 0) =
      ∑ r : Fin 512, D.out b (i * 512 + r.val) (2 * p + l.val / 64) (l.val % 64) * D.wt b (2 * p + l.val / 64) (i * 512 + r.val) (j * 512 + s.val) := by
  have h : ∑ r, (D.tile p b i).D r l * (D.tile p b i).A r (j * 512 + s.val) =
      ∑ r : Fin 512, D.out b (i * 512 + r.val) (2 * p + l.val / 64) (l.val % 64) * D.wt b (2 * p + l.val / 64) (i * 512 + r.val) (j * 512 + s.val) := by
    refine (sum_stack _ (fun r => (D.tile p b i).A r (j * 512 + s.val)) l).trans (sum_congr rfl fun r _ => ?_)
    have e1 : (l.val / 64 * 512 + r.val) / 512 = l.val / 64 := by omega
    have e2 : (l.val / 64 * 512 + r.val) % 512 = r.val := by omega
    rw [out_at]
    show _ * D.wt b _ _ _ = _
    simp only [e1, e2]
  split
  · exact h
  · refine (sum_eq_zero fun r _ => ?_).symm
    rw [hw _ _ _ _ (by omega), mul_zero]

end Data

/-- Sums over the rows of tiles are one sum over the rows. -/
lemma sum_tiles (f : ℕ → ℝ) (n J : ℕ) : ∑ i ∈ range J, ∑ r : Fin n, f (i * n + r.val) = ∑ t ∈ range (J * n), f t := by
  induction J with
  | zero => simp
  | succ J ih =>
    rw [sum_range_succ, ih, Nat.succ_mul, sum_range_add, sum_range (fun x => f (J * n + x))]

namespace Data

variable {D : Data} {p b : ℕ}

lemma keys_all (l : Fin 128) (j : ℕ) (s : Fin 512) :
    ∑ i ∈ range 4, (if j < i + 1 then ∑ r, (D.tile p b i).Q r l * (D.tile p b i).m i r (j * 512 + s.val) else 0) =
      D.dk b (2 * p + l.val / 64) (j * 512 + s.val) (l.val % 64) := by
  simp only [key_at]
  rw [sum_tiles (fun t => D.pj b t (1024 + (p * 128 + l.val)) * D.m b (2 * p + l.val / 64) t (j * 512 + s.val)), Data.dk, lane]

lemma values_all (hw : ∀ b h t s, t ≤ s → D.wt b h t s = 0) (l : Fin 128) (j : ℕ) (s : Fin 512) :
    ∑ i ∈ range 4, (if j < i + 1 then ∑ r, (D.tile p b i).D r l * (D.tile p b i).A r (j * 512 + s.val) else 0) =
      D.dv b (2 * p + l.val / 64) (j * 512 + s.val) (l.val % 64) := by
  simp only [value_at hw]
  rw [sum_tiles (fun t => D.out b t (2 * p + l.val / 64) (l.val % 64) * D.wt b (2 * p + l.val / 64) t (j * 512 + s.val)), Data.dv]

lemma gain_all (l : Fin 128) :
    ∑ n ∈ range 16, ∑ r, D.tM p (n / 4) (n % 4) r l * Stick.nrm (D.tX p (n / 4) (n % 4)) r l = D.dg (2 * p + l.val / 64) (l.val % 64) := by
  have h : ∀ k, ∑ i ∈ range 4, ∑ r, D.tM p k i r l * Stick.nrm (D.tX p k i) r l =
      ∑ t ∈ range 2048, D.ct k t (512 + ((2 * p + l.val / 64) * 64 + l.val % 64)) * D.nrm k t (2 * p + l.val / 64) (l.val % 64) := fun k => by
    simp only [nrm_at, tM, lane p l.val]
    exact sum_tiles (fun t => D.ct k t (512 + ((2 * p + l.val / 64) * 64 + l.val % 64)) * D.nrm k t (2 * p + l.val / 64) (l.val % 64)) 512 4
  rw [Data.dg, ← sum_congr rfl fun k _ => h k]
  simp only [sum_range_succ, sum_range_zero]
  simp [add_assoc]

end Data

end Cert.Stick

end
-- ==== Proof.SbBlocks.lean ====
/-
  The stick-breaking backward call: what the windows of a grid point hold, from the arrays they look into.
-/
module

public import proofs.«01_k».proof.Proof.SbPoint
public import proofs.«01_k».proof.Proof.SbGlobal

@[expose] public section

noncomputable section

namespace Cert.SbIdeal.Reading

open Cert.SbIdeal Gen Cert.SbIdeal.Pay
open Idealize.ShloMosaic TcCoe Idealize.SL.Sem
open Idealize.ShloMosaic.Pipeline (Dat)
open Cert.Reals Cert.Stick Finset

/-- The arrays that the windows look into hold these numbers, in the columns that the windows see. -/
structure Reads (m : (ℓ : Loc nD τ sig) → Buf (Elt Ideal) ℓ) (c : Dev nD) (D : Data) : Prop where
  pj : ∀ z : S8192x2560.Idx, 1024 ≤ (z 1).val → V m c main_v34 z = ((D.pj ((z 0).val / 2048) ((z 0).val % 2048) (z 1).val : ℝ) : EReal)
  ct : ∀ z : S8192x1024.Idx, 512 ≤ (z 1).val → V m c main_v44 z = ((D.ct ((z 0).val / 2048) ((z 0).val % 2048) (z 1).val : ℝ) : EReal)
  hg : ∀ z : S1x1024.Idx, 512 ≤ (z 1).val → V m c main_v45 z = ((D.hg (z 1).val : ℝ) : EReal)
  raw : ∀ z : S8192x512.Idx, V m c main_v32 z = ((D.raw ((z 0).val / 2048) ((z 0).val % 2048) (z 1).val : ℝ) : EReal)
  wt : ∀ z : S4x4x4x4x1024x512.Idx, V m c main_v38 z =
    ((D.wt (z 1).val (2 * (z 0).val + (z 4).val / 512) ((z 3).val * 512 + (z 4).val % 512) ((z 2).val * 512 + (z 5).val) : ℝ) : EReal)
  lg : ∀ z : S4x4x4x4x1024x512.Idx, V m c main_v42 z =
    ((D.lg (z 1).val (2 * (z 0).val + (z 4).val / 512) ((z 3).val * 512 + (z 4).val % 512) ((z 2).val * 512 + (z 5).val) : ℝ) : EReal)
  zero : ∀ b h t s, t ≤ s → D.wt b h t s = 0

/-! ## The windows' blocks -/

lemma ix_0 : ∀ t : Fin cfg0.N, win0_0.index t 0 = t.val % 16 ∧ win0_0.index t 1 = 8 + t.val / 16 :=
  by change ∀ t : Fin grid0.N, _; decide +kernel
lemma ix_1 : ∀ t : Fin cfg0.N, win0_1.index t 0 = t.val % 16 / 4 ∧ win0_1.index t 1 = 12 + t.val / 16 :=
  by change ∀ t : Fin grid0.N, _; decide +kernel
lemma ix_2 : ∀ t : Fin cfg0.N, win0_2.index t 0 = t.val % 16 / 4 ∧ win0_2.index t 1 = 16 + t.val / 16 :=
  by change ∀ t : Fin grid0.N, _; decide +kernel
lemma ix_3 : ∀ t : Fin cfg0.N, win0_3.index t 0 = t.val % 16 ∧ win0_3.index t 1 = t.val / 16 :=
  by change ∀ t : Fin grid0.N, _; decide +kernel
lemma ix_4 : ∀ t : Fin cfg0.N, win0_4.index t 0 = t.val / 16 ∧ win0_4.index t 1 = t.val % 16 / 4 ∧ win0_4.index t 2 = 0 ∧
    win0_4.index t 3 = t.val % 4 ∧ win0_4.index t 4 = 0 ∧ win0_4.index t 5 = 0 :=
  (by decide +kernel : ∀ t : Fin grid0.N, win0_4.index t 0 = t.val / 16 ∧ win0_4.index t 1 = t.val % 16 / 4 ∧ win0_4.index t 2 = 0 ∧
    win0_4.index t 3 = t.val % 4 ∧ win0_4.index t 4 = 0 ∧ win0_4.index t 5 = 0)
lemma ix_5 : ∀ t : Fin cfg0.N, win0_5.index t 0 = t.val / 16 ∧ win0_5.index t 1 = t.val % 16 / 4 ∧ win0_5.index t 2 = 0 ∧
    win0_5.index t 3 = t.val % 4 ∧ win0_5.index t 4 = 0 ∧ win0_5.index t 5 = 0 :=
  (by decide +kernel : ∀ t : Fin grid0.N, win0_5.index t 0 = t.val / 16 ∧ win0_5.index t 1 = t.val % 16 / 4 ∧ win0_5.index t 2 = 0 ∧
    win0_5.index t 3 = t.val % 4 ∧ win0_5.index t 4 = 0 ∧ win0_5.index t 5 = 0)
lemma ix_6 : ∀ t : Fin cfg0.N, win0_6.index t 0 = t.val % 16 ∧ win0_6.index t 1 = 4 + t.val / 16 :=
  by change ∀ t : Fin grid0.N, _; decide +kernel
lemma ix_7 : ∀ t : Fin cfg0.N, win0_7.index t 0 = 0 ∧ win0_7.index t 1 = 4 + t.val / 16 :=
  by change ∀ t : Fin grid0.N, _; decide +kernel
lemma ix_8 : ∀ t : Fin cfg0.N, win0_8.index t 0 = t.val % 16 ∧ win0_8.index t 1 = t.val / 16 :=
  by change ∀ t : Fin grid0.N, _; decide +kernel
lemma ix_9 : ∀ t : Fin cfg0.N, win0_9.index t 0 = t.val % 16 / 4 ∧ win0_9.index t 1 = t.val / 16 :=
  by change ∀ t : Fin grid0.N, _; decide +kernel
lemma ix_10 : ∀ t : Fin cfg0.N, win0_10.index t 0 = t.val % 16 / 4 ∧ win0_10.index t 1 = t.val / 16 :=
  by change ∀ t : Fin grid0.N, _; decide +kernel
lemma ix_11 : ∀ t : Fin cfg0.N, win0_11.index t 0 = 0 ∧ win0_11.index t 1 = t.val / 16 :=
  by change ∀ t : Fin grid0.N, _; decide +kernel

lemma lt64 (t : Fin cfg0.N) : t.val < 64 := lt_of_lt_of_eq t.isLt N_0

/-- What the windows of grid point `n` hold: pair `n / 16`, batch `n % 16 / 4`, tile `n % 4`. -/
def pt (D : Data) (n : ℕ) : Point where
  X := D.tX (n / 16) (n % 16 / 4) (n % 4)
  M := D.tM (n / 16) (n % 16 / 4) (n % 4)
  Q := D.tQ (n / 16) (n % 16 / 4) (n % 4)
  w := D.tW (n / 16)
  V := (D.tile (n / 16) (n % 16 / 4) (n % 4)).V
  K := (D.tile (n / 16) (n % 16 / 4) (n % 4)).K
  A := (D.tile (n / 16) (n % 16 / 4) (n % 4)).A
  L := (D.tile (n / 16) (n % 16 / 4) (n % 4)).L

lemma pt_tile (D : Data) (n : ℕ) : (pt D n).tile = D.tile (n / 16) (n % 16 / 4) (n % 4) := rfl

variable {m : (ℓ : Loc nD τ sig) → Buf (Elt Ideal) ℓ} {c : Dev nD} {D : Data}

lemma blk0 (h : Reads m c D) (t : Fin cfg0.N) : Holds (iblk m c 0 t) (pt D t.val).Q := by
  have ht := lt64 t
  intro r l
  have hr := r.isLt
  have hl := l.isLt
  refine (h.pj _ (by show 1024 ≤ win0_0.index t 1 * 128 + 1 * l.val; have := (ix_0 t).2; omega)).trans ?_
  show ((D.pj ((win0_0.index t 0 * 512 + 1 * r.val) / 2048) ((win0_0.index t 0 * 512 + 1 * r.val) % 2048) (win0_0.index t 1 * 128 + 1 * l.val) : ℝ) : EReal) = ((D.pj (t.val % 16 / 4) (t.val % 4 * 512 + r.val) (1024 + (t.val / 16 * 128 + l.val)) : ℝ) : EReal)
  rw [(ix_0 t).1, (ix_0 t).2]
  congr 2 <;> omega

lemma blk1 (h : Reads m c D) (t : Fin cfg0.N) : Holds (iblk m c 1 t) fun s d => (pt D t.val).K s.val d := by
  have ht := lt64 t
  intro r l
  have hr := r.isLt
  have hl := l.isLt
  refine (h.pj _ (by show 1024 ≤ win0_1.index t 1 * 128 + 1 * l.val; have := (ix_1 t).2; omega)).trans ?_
  show ((D.pj ((win0_1.index t 0 * 2048 + 1 * r.val) / 2048) ((win0_1.index t 0 * 2048 + 1 * r.val) % 2048) (win0_1.index t 1 * 128 + 1 * l.val) : ℝ) : EReal) = ((D.pj (t.val % 16 / 4) r.val (1536 + (t.val / 16 * 128 + l.val)) : ℝ) : EReal)
  rw [(ix_1 t).1, (ix_1 t).2]
  congr 2 <;> omega

lemma blk2 (h : Reads m c D) (t : Fin cfg0.N) : Holds (iblk m c 2 t) fun s d => (pt D t.val).V s.val d := by
  have ht := lt64 t
  intro r l
  have hr := r.isLt
  have hl := l.isLt
  refine (h.pj _ (by show 1024 ≤ win0_2.index t 1 * 128 + 1 * l.val; have := (ix_2 t).2; omega)).trans ?_
  show ((D.pj ((win0_2.index t 0 * 2048 + 1 * r.val) / 2048) ((win0_2.index t 0 * 2048 + 1 * r.val) % 2048) (win0_2.index t 1 * 128 + 1 * l.val) : ℝ) : EReal) = ((D.pj (t.val % 16 / 4) r.val (2048 + (t.val / 16 * 128 + l.val)) : ℝ) : EReal)
  rw [(ix_2 t).1, (ix_2 t).2]
  congr 2 <;> omega

lemma blk3 (h : Reads m c D) (t : Fin cfg0.N) : Holds (iblk m c 3 t) (pt D t.val).X := by
  have ht := lt64 t
  intro r l
  have hr := r.isLt
  have hl := l.isLt
  refine (h.raw _).trans ?_
  show ((D.raw ((win0_3.index t 0 * 512 + 1 * r.val) / 2048) ((win0_3.index t 0 * 512 + 1 * r.val) % 2048) (win0_3.index t 1 * 128 + 1 * l.val) : ℝ) : EReal) = ((D.raw (t.val % 16 / 4) (t.val % 4 * 512 + r.val) (t.val / 16 * 128 + l.val) : ℝ) : EReal)
  rw [(ix_3 t).1, (ix_3 t).2]
  congr 2 <;> omega

lemma see4 (t : Fin cfg0.N) (W : S4x4x4x4x1024x512.Idx → EReal) (y : S1x1x4x1x1024x512.Idx) :
    ((cfg0.win 4).blk t).view.read (Elt Ideal) W y = W ((win0_4.rect t).emb y) := rfl

lemma blk4 (h : Reads m c D) (t : Fin cfg0.N) : HoldsW (iblk m c 4 t) (pt D t.val).A := by
  have ht := lt64 t
  intro k r s
  have hk := k.isLt
  have hr := r.isLt
  have e : ∀ z : S4x4x4x4x1024x512.Idx, (z 0).val = t.val / 16 → (z 1).val = t.val % 16 / 4 → (z 2).val = k.val → (z 3).val = t.val % 4 →
      (z 4).val = r.val → (z 5).val = s.val → V m c main_v38 z = (((pt D t.val).A r (k.val * 512 + s.val) : ℝ) : EReal) := by
    intro z h0 h1 h2 h3 h4 h5
    rw [h.wt z, h0, h1, h2, h3, h4, h5]
    rfl
  obtain ⟨h0, h1, h2, h3, h4, h5⟩ := ix_4 t
  refine (see4 t (V m c main_v38) (ix6 0 0 k 0 r s)).trans (e _ ?_ ?_ ?_ ?_ ?_ ?_)
  · show win0_4.index t 0 * 1 + 1 * 0 = _; omega
  · show win0_4.index t 1 * 1 + 1 * 0 = _; omega
  · show win0_4.index t 2 * 4 + 1 * k.val = _; omega
  · show win0_4.index t 3 * 1 + 1 * 0 = _; omega
  · show win0_4.index t 4 * 1024 + 1 * r.val = _; omega
  · show win0_4.index t 5 * 512 + 1 * s.val = _; omega

lemma see5 (t : Fin cfg0.N) (W : S4x4x4x4x1024x512.Idx → EReal) (y : S1x1x4x1x1024x512.Idx) :
    ((cfg0.win 5).blk t).view.read (Elt Ideal) W y = W ((win0_5.rect t).emb y) := rfl

lemma blk5 (h : Reads m c D) (t : Fin cfg0.N) : HoldsW (iblk m c 5 t) (pt D t.val).L := by
  have ht := lt64 t
  intro k r s
  have hk := k.isLt
  have hr := r.isLt
  have e : ∀ z : S4x4x4x4x1024x512.Idx, (z 0).val = t.val / 16 → (z 1).val = t.val % 16 / 4 → (z 2).val = k.val → (z 3).val = t.val % 4 →
      (z 4).val = r.val → (z 5).val = s.val → V m c main_v42 z = (((pt D t.val).L r (k.val * 512 + s.val) : ℝ) : EReal) := by
    intro z h0 h1 h2 h3 h4 h5
    rw [h.lg z, h0, h1, h2, h3, h4, h5]
    rfl
  obtain ⟨h0, h1, h2, h3, h4, h5⟩ := ix_5 t
  refine (see5 t (V m c main_v42) (ix6 0 0 k 0 r s)).trans (e _ ?_ ?_ ?_ ?_ ?_ ?_)
  · show win0_5.index t 0 * 1 + 1 * 0 = _; omega
  · show win0_5.index t 1 * 1 + 1 * 0 = _; omega
  · show win0_5.index t 2 * 4 + 1 * k.val = _; omega
  · show win0_5.index t 3 * 1 + 1 * 0 = _; omega
  · show win0_5.index t 4 * 1024 + 1 * r.val = _; omega
  · show win0_5.index t 5 * 512 + 1 * s.val = _; omega

lemma blk6 (h : Reads m c D) (t : Fin cfg0.N) : Holds (iblk m c 6 t) (pt D t.val).M := by
  have ht := lt64 t
  intro r l
  have hr := r.isLt
  have hl := l.isLt
  refine (h.ct _ (by show 512 ≤ win0_6.index t 1 * 128 + 1 * l.val; have := (ix_6 t).2; omega)).trans ?_
  show ((D.ct ((win0_6.index t 0 * 512 + 1 * r.val) / 2048) ((win0_6.index t 0 * 512 + 1 * r.val) % 2048) (win0_6.index t 1 * 128 + 1 * l.val) : ℝ) : EReal) = ((D.ct (t.val % 16 / 4) (t.val % 4 * 512 + r.val) (512 + (t.val / 16 * 128 + l.val)) : ℝ) : EReal)
  rw [(ix_6 t).1, (ix_6 t).2]
  congr 2 <;> omega

lemma blk7 (h : Reads m c D) (t : Fin cfg0.N) : Holds (iblk m c 7 t) fun _ l => (pt D t.val).w l := by
  have ht := lt64 t
  intro r l
  have hl := l.isLt
  refine (h.hg _ (by show 512 ≤ win0_7.index t 1 * 128 + 1 * l.val; have := (ix_7 t).2; omega)).trans ?_
  show ((D.hg (win0_7.index t 1 * 128 + 1 * l.val) : ℝ) : EReal) = ((D.hg (512 + (t.val / 16 * 128 + l.val)) : ℝ) : EReal)
  rw [(ix_7 t).2]
  congr 2
  omega

lemma windows (h : Reads m c D) (t : Fin cfg0.N) : (pt D t.val).At m c t where
  q := blk0 h t
  k := blk1 h t
  v := blk2 h t
  x := blk3 h t
  a := blk4 h t
  l := blk5 h t
  dm := blk6 h t
  w := blk7 h t

end Cert.SbIdeal.Reading

end
-- ==== Proof.SbValue.lean ====
/-
  The stick-breaking backward call: what its four result arrays hold after the run, from what its windows' arrays hold.
-/
module

public import proofs.«01_k».proof.Proof.SbBlocks

@[expose] public section

noncomputable section

namespace Cert.SbIdeal.Reading

open Cert.SbIdeal Gen Value Cert.SbIdeal.Pay
open Idealize.ShloMosaic TcCoe Idealize.SL.Sem
open Idealize.ShloMosaic.Pipeline (Dat)
open Cert.Reals Cert.Stick Finset

variable {m : (ℓ : Loc nD τ sig) → Buf (Elt Ideal) ℓ} {c : Dev nD} {D : Data}

/-! ## What the points add up -/

/-- What a grid point adds to the gain's gradient, and its tile to the keys' and the values'. -/
def addG (D : Data) (p k : ℕ) (l : Fin 128) : ℝ := ∑ r, D.tM p (k / 4) (k % 4) r l * Stick.nrm (D.tX p (k / 4) (k % 4)) r l
def addK (D : Data) (p b i : ℕ) (j : Fin 4) (l : Fin 128) (s : Fin 512) : ℝ :=
  if j.val < i + 1 then ∑ r, (D.tile p b i).Q r l * (D.tile p b i).m i r (j.val * 512 + s.val) else 0
def addV (D : Data) (p b i : ℕ) (j : Fin 4) (l : Fin 128) (s : Fin 512) : ℝ :=
  if j.val < i + 1 then ∑ r, (D.tile p b i).D r l * (D.tile p b i).A r (j.val * 512 + s.val) else 0

/-- What the points before point `n` have added. -/
def sumG (D : Data) (n : ℕ) (l : Fin 128) : ℝ := ∑ k ∈ range (n % 16), addG D (n / 16) k l
def sumK (D : Data) (n : ℕ) (j : Fin 4) (l : Fin 128) (s : Fin 512) : ℝ := ∑ i ∈ range (n % 4), addK D (n / 16) (n % 16 / 4) i j l s
def sumV (D : Data) (n : ℕ) (j : Fin 4) (l : Fin 128) (s : Fin 512) : ℝ := ∑ i ∈ range (n % 4), addV D (n / 16) (n % 16 / 4) i j l s

lemma sumG_next {n : ℕ} (h : ¬(n + 1) % 16 = 0) (l) :
    sumG D n l + ∑ r, (pt D n).M r l * Stick.nrm (pt D n).X r l = sumG D (n + 1) l := by
  have e1 : (n + 1) % 16 = n % 16 + 1 := by omega
  have e2 : (n + 1) / 16 = n / 16 := by omega
  have e3 : n % 16 % 4 = n % 4 := by omega
  rw [sumG, sumG, e1, e2, sum_range_succ]
  simp only [addG, e3]
  rfl

lemma sumK_next {n : ℕ} (h : ¬(n + 1) % 4 = 0) :
    grown (sumK D n) (fun l r => (pt D n).tile.Q r l) ((pt D n).tile.m (n % 4)) (n % 4 + 1) = sumK D (n + 1) := by
  have e1 : (n + 1) % 4 = n % 4 + 1 := by omega
  have e2 : (n + 1) / 16 = n / 16 := by omega
  have e3 : (n + 1) % 16 / 4 = n % 16 / 4 := by omega
  funext j l s
  rw [sumK, e1, e2, e3, sum_range_succ]
  rfl

lemma sumV_next {n : ℕ} (h : ¬(n + 1) % 4 = 0) :
    grown (sumV D n) (fun l r => (pt D n).tile.D r l) (pt D n).tile.A (n % 4 + 1) = sumV D (n + 1) := by
  have e1 : (n + 1) % 4 = n % 4 + 1 := by omega
  have e2 : (n + 1) / 16 = n / 16 := by omega
  have e3 : (n + 1) % 16 / 4 = n % 16 / 4 := by omega
  funext j l s
  rw [sumV, e1, e2, e3, sum_range_succ]
  rfl

/-- What point `n` leaves, from what the points before it have added. -/
lemma leaves (h : Reads m c D) (n : ℕ) (hn : n < cfg0.N) :
    (pt D n).Leaves ⟨n, hn⟩ (sumG D n) (sumK D n) (sumV D n) (outsAt0 m c n hn) := by
  have zG : ∀ {k : ℕ}, k % 16 = 0 → sumG D k = fun _ => 0 := fun hk => by funext l; rw [sumG, hk, sum_range_zero]
  have zK : ∀ {k : ℕ}, k % 4 = 0 → sumK D k = fun _ _ _ => 0 := fun hk => by funext j l s; rw [sumK, hk, sum_range_zero]
  have zV : ∀ {k : ℕ}, k % 4 = 0 → sumV D k = fun _ _ _ => 0 := fun hk => by funext j l s; rw [sumV, hk, sum_range_zero]
  induction n with
  | zero =>
    rw [zG rfl, zK rfl, zV rfl]
    exact leaves_A (pt D 0) ⟨0, hn⟩ (windows h ⟨0, hn⟩) rfl rfl (by show ¬0 % 4 = 3; decide)
  | succ n ih =>
    have ih := ih (Nat.lt_of_succ_lt hn)
    by_cases h1 : (n + 1) % 4 = 0
    · have h2 : ¬(n + 1) % 4 = 3 := by omega
      rw [zK h1, zV h1]
      by_cases h0 : (n + 1) % 16 = 0
      · rw [zG h0]
        exact leaves_A (pt D (n + 1)) ⟨n + 1, hn⟩ (windows h ⟨n + 1, hn⟩) h0 h1 h2
      · exact leaves_D (pt D (n + 1)) ⟨n + 1, hn⟩ (windows h ⟨n + 1, hn⟩) h0 h1 h2 fun r l => (ih.gain r l).trans (congrArg _ (sumG_next h0 l))
    · have h0 : ¬(n + 1) % 16 = 0 := by omega
      have hg : Holds (outsAt0 m c n (Nat.lt_of_succ_lt hn)).2.2.2.1 fun _ l => sumG D (n + 1) l :=
        fun r l => (ih.gain r l).trans (congrArg _ (sumG_next h0 l))
      have hK : ∀ j l s, (outsAt0 m c n (Nat.lt_of_succ_lt hn)).2.2.2.2.1 (ix3 j l s) = ((sumK D (n + 1) j l s : ℝ) : EReal) :=
        fun j l s => (ih.keys j l s).trans (congrArg (fun f => ((f j l s : ℝ) : EReal)) (sumK_next h1))
      have hV : ∀ j l s, (outsAt0 m c n (Nat.lt_of_succ_lt hn)).2.2.2.2.2 (ix3 j l s) = ((sumV D (n + 1) j l s : ℝ) : EReal) :=
        fun j l s => (ih.values j l s).trans (congrArg (fun f => ((f j l s : ℝ) : EReal)) (sumV_next h1))
      by_cases h2 : (n + 1) % 4 = 3
      · exact leaves_C (pt D (n + 1)) ⟨n + 1, hn⟩ (windows h ⟨n + 1, hn⟩) h0 h1 h2 hg hK hV
      · exact leaves_B (pt D (n + 1)) ⟨n + 1, hn⟩ (windows h ⟨n + 1, hn⟩) h0 h1 h2 hg hK hV

lemma before (h : Reads m c D) (t : Fin cfg0.N) (h1 : ¬t.val % 4 = 0) :
    (∀ j l s, (outsAt0 m c (t.val - 1) (lt_of_le_of_lt (Nat.sub_le ..) t.isLt)).2.2.2.2.1 (ix3 j l s) = ((sumK D t.val j l s : ℝ) : EReal)) ∧
    ∀ j l s, (outsAt0 m c (t.val - 1) (lt_of_le_of_lt (Nat.sub_le ..) t.isLt)).2.2.2.2.2 (ix3 j l s) = ((sumV D t.val j l s : ℝ) : EReal) := by
  have ih := leaves h (t.val - 1) (lt_of_le_of_lt (Nat.sub_le ..) t.isLt)
  have e : t.val - 1 + 1 = t.val := by omega
  have eK := sumK_next (D := D) (n := t.val - 1) (by rwa [e])
  have eV := sumV_next (D := D) (n := t.val - 1) (by rwa [e])
  rw [e] at eK eV
  exact ⟨fun j l s => (ih.keys j l s).trans (congrArg (fun f => ((f j l s : ℝ) : EReal)) eK),
    fun j l s => (ih.values j l s).trans (congrArg (fun f => ((f j l s : ℝ) : EReal)) eV)⟩

/-! ## The result arrays -/

def dqArr (D : Data) (r : Fin 8192) (l : Fin 512) : ℝ := D.dq (r.val / 2048) (l.val / 64) (r.val % 2048) (l.val % 64)
def dkArr (D : Data) (r : Fin 8192) (l : Fin 512) : ℝ := D.dk (r.val / 2048) (l.val / 64) (r.val % 2048) (l.val % 64)
def dvArr (D : Data) (r : Fin 8192) (l : Fin 512) : ℝ := D.dv (r.val / 2048) (l.val / 64) (r.val % 2048) (l.val % 64)
def dgArr (D : Data) (_ : Fin 1) (l : Fin 512) : ℝ := D.dg (l.val / 64) (l.val % 64)

lemma q_at (h : Reads m c D) (t : Fin cfg0.N) (r : Fin 512) (l : Fin 128) (z : S8192x512.Idx)
    (h0 : (z 0).val = t.val % 16 * 512 + r.val) (h1 : (z 1).val = t.val / 16 * 128 + l.val) :
    (outsAt0 m c t.val t.isLt).1 (ix2 r l) = mat (dqArr D) z := by
  have ht := lt64 t
  refine ((leaves h t.val t.isLt).q r l).trans ?_
  show _ = ((D.dq ((z 0).val / 2048) ((z 1).val / 64) ((z 0).val % 2048) ((z 1).val % 64) : ℝ) : EReal)
  have e1 : (t.val % 16 * 512 + r.val) / 2048 = t.val % 16 / 4 := by omega
  have e2 : (t.val % 16 * 512 + r.val) % 2048 = t.val % 4 * 512 + r.val := by omega
  have e3 : (t.val / 16 * 128 + l.val) / 64 = 2 * (t.val / 16) + l.val / 64 := by omega
  have e4 : (t.val / 16 * 128 + l.val) % 64 = l.val % 64 := by omega
  rw [h0, h1, e1, e2, e3, e4]
  congr 1
  show (if l.val < 64 then (D.tile _ _ _).dq _ _ _ l else (D.tile _ _ _).dq _ _ _ l) = _
  split
  · refine Eq.trans ?_ (Data.dq_at (by omega) 0 r l (by show l.val / 64 = 0; omega))
    exact congrArg (fun x => (D.tile _ _ _).dq _ _ x l) (Fin.ext (by show r.val = 0 * 512 + r.val; omega))
  · refine Eq.trans ?_ (Data.dq_at (by omega) 1 r l (by show l.val / 64 = 1; omega))
    exact congrArg (fun x => (D.tile _ _ _).dq _ _ x l) (Fin.ext (by show 512 + r.val = 1 * 512 + r.val; omega))

lemma k_at (h : Reads m c D) (t : Fin cfg0.N) (h3 : t.val % 4 = 3) (s : Fin 2048) (l : Fin 128) (z : S8192x512.Idx)
    (h0 : (z 0).val = t.val % 16 / 4 * 2048 + s.val) (h1 : (z 1).val = t.val / 16 * 128 + l.val) :
    (outsAt0 m c t.val t.isLt).2.1 (ix2 s l) = mat (dkArr D) z := by
  have ht := lt64 t
  refine (keys_C (pt D t.val) t (windows h t) (by omega) (by omega) h3 (before h t (by omega)).1 (before h t (by omega)).2 s l).trans ?_
  show _ = ((D.dk ((z 0).val / 2048) ((z 1).val / 64) ((z 0).val % 2048) ((z 1).val % 64) : ℝ) : EReal)
  have e1 : (t.val % 16 / 4 * 2048 + s.val) / 2048 = t.val % 16 / 4 := by omega
  have e2 : (t.val % 16 / 4 * 2048 + s.val) % 2048 = s.val / 512 * 512 + s.val % 512 := by omega
  have e3 : (t.val / 16 * 128 + l.val) / 64 = 2 * (t.val / 16) + l.val / 64 := by omega
  have e4 : (t.val / 16 * 128 + l.val) % 64 = l.val % 64 := by omega
  rw [h0, h1, e1, e2, e3, e4]
  congr 1
  refine Eq.trans ?_ (Data.keys_all l (s.val / 512) ⟨s.val % 512, by omega⟩)
  rw [sum_range_succ]
  show sumK D t.val _ l _ + _ = _
  rw [sumK, h3]
  simp only [pt_tile, h3]
  rfl

lemma v_at (h : Reads m c D) (t : Fin cfg0.N) (h3 : t.val % 4 = 3) (s : Fin 2048) (l : Fin 128) (z : S8192x512.Idx)
    (h0 : (z 0).val = t.val % 16 / 4 * 2048 + s.val) (h1 : (z 1).val = t.val / 16 * 128 + l.val) :
    (outsAt0 m c t.val t.isLt).2.2.1 (ix2 s l) = mat (dvArr D) z := by
  have ht := lt64 t
  refine (values_C (pt D t.val) t (windows h t) (by omega) (by omega) h3 (before h t (by omega)).1 (before h t (by omega)).2 s l).trans ?_
  show _ = ((D.dv ((z 0).val / 2048) ((z 1).val / 64) ((z 0).val % 2048) ((z 1).val % 64) : ℝ) : EReal)
  have e1 : (t.val % 16 / 4 * 2048 + s.val) / 2048 = t.val % 16 / 4 := by omega
  have e2 : (t.val % 16 / 4 * 2048 + s.val) % 2048 = s.val / 512 * 512 + s.val % 512 := by omega
  have e3 : (t.val / 16 * 128 + l.val) / 64 = 2 * (t.val / 16) + l.val / 64 := by omega
  have e4 : (t.val / 16 * 128 + l.val) % 64 = l.val % 64 := by omega
  rw [h0, h1, e1, e2, e3, e4]
  congr 1
  refine Eq.trans ?_ (Data.values_all h.zero l (s.val / 512) ⟨s.val % 512, by omega⟩)
  rw [sum_range_succ]
  show sumV D t.val _ l _ + _ = _
  rw [sumV, h3]
  simp only [pt_tile, h3]
  rfl

lemma g_at (h : Reads m c D) (t : Fin cfg0.N) (h3 : t.val % 16 = 15) (r : Fin 1) (l : Fin 128) (z : S1x512.Idx)
    (h1 : (z 1).val = t.val / 16 * 128 + l.val) :
    (outsAt0 m c t.val t.isLt).2.2.2.1 (ix2 r l) = mat (dgArr D) z := by
  have ht := lt64 t
  refine ((leaves h t.val t.isLt).gain r l).trans ?_
  show _ = ((D.dg ((z 1).val / 64) ((z 1).val % 64) : ℝ) : EReal)
  have e3 : (t.val / 16 * 128 + l.val) / 64 = 2 * (t.val / 16) + l.val / 64 := by omega
  have e4 : (t.val / 16 * 128 + l.val) % 64 = l.val % 64 := by omega
  rw [h1, e3, e4]
  congr 1
  refine Eq.trans ?_ (Data.gain_all l)
  rw [sum_range_succ]
  show sumG D t.val l + _ = _
  rw [sumG, h3]
  congr 1
  show ∑ r, D.tM (t.val / 16) (t.val % 16 / 4) (t.val % 4) r l * Stick.nrm (D.tX (t.val / 16) (t.val % 16 / 4) (t.val % 4)) r l = _
  rw [show t.val % 16 / 4 = 15 / 4 by omega, show t.val % 4 = 15 % 4 by omega]

lemma mem8 (t : Fin cfg0.N) (i : S8192x512.Idx) (h0 : (i 0).val / 512 = win0_8.index t 0) (h1 : (i 1).val / 128 = win0_8.index t 1) :
    i ∈ ((cfg0.win 8).blk t).view.set := by
  show i ∈ ((View.whole main_v46_0).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    omega
  | ⟨1, _⟩ =>
    show win0_8.index t 1 * 128 ≤ (i 1 : Nat) ∧ (i 1 : Nat) < win0_8.index t 1 * 128 + 128
    omega

lemma final8 (h : Reads m c D) : (dats m 0 c).arrAt 8 cfg0.N = mat (dqArr D) := by
  refine (dats m 0 c).arrAt_eq_of_cover 8 (mat (dqArr D)) (fun t hf => ?_) fun i => by
    have h0 : (i 0 : Nat) < 8192 := (i 0).isLt
    have h1 : (i 1 : Nat) < 512 := (i 1).isLt
    have hN : cfg0.N = 64 := N_0
    refine ⟨⟨(i 1 : Nat) / 128 * 16 + (i 0 : Nat) / 512, by omega⟩, flush0_8 _, mem8 _ i ?_ ?_⟩
    · rw [(ix_8 _).1]; dsimp only; omega
    · rw [(ix_8 _).2]; dsimp only; omega
  rw [flushed8]
  refine funext fun (y : (⟨2, ![512, 128]⟩ : Shape).Idx) => ?_
  obtain ⟨r, l, rfl⟩ := Places.is2 y
  refine q_at h t r l _ ?_ ?_
  · show win0_8.index t 0 * 512 + 1 * r.val = _
    rw [(ix_8 t).1]; omega
  · show win0_8.index t 1 * 128 + 1 * l.val = _
    rw [(ix_8 t).2]; omega

lemma mem9 (t : Fin cfg0.N) (i : S8192x512.Idx) (h0 : (i 0).val / 2048 = win0_9.index t 0) (h1 : (i 1).val / 128 = win0_9.index t 1) :
    i ∈ ((cfg0.win 9).blk t).view.set := by
  show i ∈ ((View.whole main_v46_1).slice (win0_9.rect t)).set
  rw [View.set_slice_whole, Rect.mem_set_unit]
  intro a
  match a with
  | ⟨0, _⟩ =>
    show win0_9.index t 0 * 2048 ≤ (i 0 : Nat) ∧ (i 0 : Nat) < win0_9.index t 0 * 2048 + 2048
    omega
  | ⟨1, _⟩ =>
    show win0_9.index t 1 * 128 ≤ (i 1 : Nat) ∧ (i 1 : Nat) < win0_9.index t 1 * 128 + 128
    omega

lemma final9 (h : Reads m c D) : (dats m 0 c).arrAt 9 cfg0.N = mat (dkArr D) := by
  refine (dats m 0 c).arrAt_eq_of_cover 9 (mat (dkArr D)) (fun t hf => ?_) fun i => by
    have h0 : (i 0 : Nat) < 8192 := (i 0).isLt
    have h1 : (i 1 : Nat) < 512 := (i 1).isLt
    have hN : cfg0.N = 64 := N_0
    refine ⟨⟨(i 1 : Nat) / 128 * 16 + (i 0 : Nat) / 2048 * 4 + 3, by omega⟩, (flush0_9 _).mpr (by dsimp only; omega), mem9 _ i ?_ ?_⟩
    · rw [(ix_9 _).1]; dsimp only; omega
    · rw [(ix_9 _).2]; dsimp only; omega
  rw [flushed9]
  refine funext fun (y : (⟨2, ![2048, 128]⟩ : Shape).Idx) => ?_
  obtain ⟨r, l, rfl⟩ := Places.is2 y
  refine k_at h t ((flush0_9 t).mp hf) r l _ ?_ ?_
  · show win0_9.index t 0 * 2048 + 1 * r.val = _
    rw [(ix_9 t).1]; omega
  · show win0_9.index t 1 * 128 + 1 * l.val = _
    rw [(ix_9 t).2]; omega

lemma mem10 (t : Fin cfg0.N) (i : S8192x512.Idx) (h0 : (i 0).val / 2048 = win0_10.index t 0) (h1 : (i 1).val / 128 = win0_10.index t 1) :
    i ∈ ((cfg0.win 10).blk t).view.set := by
  show i ∈ ((View.whole main_v46_2).slice (win0_10.rect t)).set
  rw [View.set_slice_whole, Rect.mem_set_unit]
  intro a
  match a with
  | ⟨0, _⟩ =>
    show win0_10.index t 0 * 2048 ≤ (i 0 : Nat) ∧ (i 0 : Nat) < win0_10.index t 0 * 2048 + 2048
    omega
  | ⟨1, _⟩ =>
    show win0_10.index t 1 * 128 ≤ (i 1 : Nat) ∧ (i 1 : Nat) < win0_10.index t 1 * 128 + 128
    omega

lemma final10 (h : Reads m c D) : (dats m 0 c).arrAt 10 cfg0.N = mat (dvArr D) := by
  refine (dats m 0 c).arrAt_eq_of_cover 10 (mat (dvArr D)) (fun t hf => ?_) fun i => by
    have h0 : (i 0 : Nat) < 8192 := (i 0).isLt
    have h1 : (i 1 : Nat) < 512 := (i 1).isLt
    have hN : cfg0.N = 64 := N_0
    refine ⟨⟨(i 1 : Nat) / 128 * 16 + (i 0 : Nat) / 2048 * 4 + 3, by omega⟩, (flush0_10 _).mpr (by dsimp only; omega), mem10 _ i ?_ ?_⟩
    · rw [(ix_10 _).1]; dsimp only; omega
    · rw [(ix_10 _).2]; dsimp only; omega
  rw [flushed10]
  refine funext fun (y : (⟨2, ![2048, 128]⟩ : Shape).Idx) => ?_
  obtain ⟨r, l, rfl⟩ := Places.is2 y
  refine v_at h t ((flush0_10 t).mp hf) r l _ ?_ ?_
  · show win0_10.index t 0 * 2048 + 1 * r.val = _
    rw [(ix_10 t).1]; omega
  · show win0_10.index t 1 * 128 + 1 * l.val = _
    rw [(ix_10 t).2]; omega

lemma mem11 (t : Fin cfg0.N) (i : S1x512.Idx) (h0 : (i 0).val / 1 = win0_11.index t 0) (h1 : (i 1).val / 128 = win0_11.index t 1) :
    i ∈ ((cfg0.win 11).blk t).view.set := by
  show i ∈ ((View.whole main_v46_3).slice (win0_11.rect t)).set
  rw [View.set_slice_whole, Rect.mem_set_unit]
  intro a
  match a with
  | ⟨0, _⟩ =>
    show win0_11.index t 0 * 1 ≤ (i 0 : Nat) ∧ (i 0 : Nat) < win0_11.index t 0 * 1 + 1
    omega
  | ⟨1, _⟩ =>
    show win0_11.index t 1 * 128 ≤ (i 1 : Nat) ∧ (i 1 : Nat) < win0_11.index t 1 * 128 + 128
    omega

lemma final11 (h : Reads m c D) : (dats m 0 c).arrAt 11 cfg0.N = mat (dgArr D) := by
  refine (dats m 0 c).arrAt_eq_of_cover 11 (mat (dgArr D)) (fun t hf => ?_) fun i => by
    have h0 : (i 0 : Nat) < 1 := (i 0).isLt
    have h1 : (i 1 : Nat) < 512 := (i 1).isLt
    have hN : cfg0.N = 64 := N_0
    refine ⟨⟨(i 1 : Nat) / 128 * 16 + 15, by omega⟩, (flush0_11 _).mpr (by dsimp only; omega), mem11 _ i ?_ ?_⟩
    · rw [(ix_11 _).1]; dsimp only; omega
    · rw [(ix_11 _).2]; dsimp only; omega
  rw [flushed11]
  refine funext fun (y : (⟨2, ![1, 128]⟩ : Shape).Idx) => ?_
  obtain ⟨r, l, rfl⟩ := Places.is2 y
  refine g_at h t ((flush0_11 t).mp hf) r l _ ?_
  · show win0_11.index t 1 * 128 + 1 * l.val = _
    rw [(ix_11 t).2]; omega

end Cert.SbIdeal.Reading

end
-- ==== Proof.SbHost.lean ====
module

public import proofs.«01_k».proof.Proof.Gen.SbIdeal.Value
public import proofs.«01_k».proof.Proof.Gen.SbRefIdeal.Read

/-! What the host prepares for the stick-breaking backward kernel: the arrays the kernel keeps from the
    forward pass are the ones the reference computes on its way, laid out in blocks. The host's operations
    come in ten stretches; each is read on its own, over any contents of the buffers before it. -/

@[expose] public section
noncomputable section
namespace Cert.SbIdeal.Reading
open Cert.SbIdeal Gen Value
open Idealize.ShloMosaic TcCoe Idealize.SL.Sem
open Cert.SbRefIdeal.Read (val_main_v9 val_main_v12 val_main_v19 val_main_v20_0 val_main_v22_0 val_main_v23_0 val_main_v24 val_main_v29 val_main_v30_0 val_main_v31)

/-- One float number per pair of positions of each head. -/
abbrev Pairs := (⟨S4x8x2048x2048, .f32⟩ : BufTy).Contents (Elt Ideal)

/-- An array of positions by positions of each head, in blocks of two heads and 512 by 512 positions. -/
def kept (x : Pairs) : (⟨S4x4x4x4x1024x512, .bf16⟩ : BufTy).Contents (Elt Ideal) :=
  truncf (F := Ideal) .bf16 (shapeCast S4x4x4x4x1024x512 (transpose S4x4x4x4x2x512x512 [1, 0, 5, 3, 2, 4, 6]
    (shapeCast S4x4x2x4x512x4x512 x shapeCasts_S4x8x2048x2048_S4x4x2x4x512x4x512)
    transposes_S4x4x2x4x512x4x512_S4x4x4x4x2x512x512_1_0_5_3_2_4_6) shapeCasts_S4x4x4x4x2x512x512_S4x4x4x4x1024x512) bitsLt_bf16_f32

/-- The output of the attention before its norm, one row per position. -/
def rows (x : (⟨S4x8x2048x64, .f32⟩ : BufTy).Contents (Elt Ideal)) : (⟨S8192x512, .f32⟩ : BufTy).Contents (Elt Ideal) :=
  shapeCast S8192x512 (transpose S4x2048x8x64 [0, 2, 1, 3] x transposes_S4x8x2048x64_S4x2048x8x64_0_2_1_3) shapeCasts_S4x2048x8x64_S8192x512

/-- The scalar zero at every pair. -/
def zeros : Pairs := broadcastInDim S4x8x2048x2048 ![] bcast_S_S4x8x2048x2048 (constant (F := Ideal) S_ .f32 0x00000000#32)

/-- The logarithm of the logistic function, as it is computed. -/
def logSig (z : Pairs) : Pairs :=
  Host.negf (F := Ideal) (φ := .f32) (select (cmpf (F := Ideal) (φ := .f32) .une (subf (F := Ideal) (φ := .f32) (Host.negf (F := Ideal) (φ := .f32) z) zeros) (subf (F := Ideal) (φ := .f32) (Host.negf (F := Ideal) (φ := .f32) z) zeros))
    (addf (F := Ideal) (φ := .f32) (Host.negf (F := Ideal) (φ := .f32) z) zeros)
    (addf (F := Ideal) (φ := .f32) (maximumf (F := Ideal) (φ := .f32) (Host.negf (F := Ideal) (φ := .f32) z) zeros)
      (Host.log1p (F := Ideal) (φ := .f32) (Host.exp (F := Ideal) (φ := .f32) (Host.negf (F := Ideal) (φ := .f32) (Host.absf (F := Ideal) (φ := .f32) (subf (F := Ideal) (φ := .f32) (Host.negf (F := Ideal) (φ := .f32) z) zeros)))))))

variable (W : Valuation τ sig (Elt Ideal))

lemma s0_z : StableHlo.after hostOps0 W (Proc.devRef .tc main_v11) = val_main_v12 (F := Ideal) (W (Proc.devRef .tc main_arg0)) := by sl_kernel_rfl
lemma s0_m : StableHlo.after hostOps0 W (Proc.devRef .tc main_v18) = val_main_v19 (F := Ideal) := by sl_kernel_rfl
lemma s0_v : StableHlo.after hostOps0 W (Proc.devRef .tc main_v8) = val_main_v9 (F := Ideal) (W (Proc.devRef .tc main_arg0)) := by sl_kernel_rfl
lemma s1_l : StableHlo.after hostOps0_1 W (Proc.devRef .tc main_v19) = logSig (W (Proc.devRef .tc main_v11)) := by sl_kernel_rfl
lemma s2_n : StableHlo.after hostOps0_2 W (Proc.devRef .tc main_v20) = Host.negf (F := Ideal) (φ := .f32) (s := S4x8x2048x2048) (W (Proc.devRef .tc main_v11)) := by sl_kernel_rfl
lemma s3_l : StableHlo.after hostOps0_3 W (Proc.devRef .tc main_v21) = logSig (W (Proc.devRef .tc main_v20)) := by sl_kernel_rfl
lemma s5_w : W (Proc.devRef .tc main_cst_0) = constant (F := Ideal) S_ .f32 0x00000000#32 → StableHlo.after hostOps0_5 W (Proc.devRef .tc main_v22) = (select (broadcastInDim S4x8x2048x2048 ![2, 3] bcast_S2048x2048_S4x8x2048x2048_2_3 (W (Proc.devRef .tc main_v18))) (W (Proc.devRef .tc main_v21)) zeros : Pairs) := by
  intro h
  unfold zeros
  rw [← h]
  sl_kernel_rfl
lemma s4_c : StableHlo.after hostOps0_4 W (Proc.devRef .tc main_cst_0) = constant (F := Ideal) S_ .f32 0x00000000#32 := by sl_kernel_rfl
lemma s7_c : StableHlo.after hostOps0_7 W (Proc.devRef .tc main_cst_1) = constant (F := Ideal) S_ .f32 0x00000000#32 := by sl_kernel_rfl
lemma s8_w : W (Proc.devRef .tc main_cst_1) = constant (F := Ideal) S_ .f32 0x00000000#32 → StableHlo.after hostOps0_8 W (Proc.devRef .tc main_v29) = (select (broadcastInDim S4x8x2048x2048 ![2, 3] bcast_S2048x2048_S4x8x2048x2048_2_3 (W (Proc.devRef .tc main_v18))) (W (Proc.devRef .tc main_v28)) zeros : Pairs) := by
  intro h
  unfold zeros
  rw [← h]
  sl_kernel_rfl
lemma s6_c : ∀ x0, W (Proc.devRef .tc main_v22) = val_main_v23_0 (F := Ideal) x0 → StableHlo.after hostOps0_6 W (Proc.devRef .tc main_v23) = val_main_v24 (F := Ideal) x0 := by
  intro x0 h
  unfold val_main_v24
  rw [← h]
  sl_kernel_rfl
lemma s7_e : ∀ x0, W (Proc.devRef .tc main_v23) = val_main_v24 (F := Ideal) x0 → W (Proc.devRef .tc main_v19) = val_main_v20_0 (F := Ideal) x0 → StableHlo.after hostOps0_7 W (Proc.devRef .tc main_v28) = val_main_v29 (F := Ideal) x0 := by
  intro x0 h g
  unfold val_main_v29 Cert.SbRefIdeal.Read.val_main_v28 Cert.SbRefIdeal.Read.val_main_v27 Cert.SbRefIdeal.Read.val_main_v26 Cert.SbRefIdeal.Read.val_main_v25
  rw [← h, ← g]
  sl_kernel_rfl
lemma s9_w : StableHlo.after hostOps0_9 W (Proc.devRef .tc main_v38) = kept (W (Proc.devRef .tc main_v29)) := by sl_kernel_rfl
lemma s9_l : StableHlo.after hostOps0_9 W (Proc.devRef .tc main_v42) = kept (W (Proc.devRef .tc main_v22)) := by sl_kernel_rfl
lemma s9_r : ∀ x0, W (Proc.devRef .tc main_v29) = val_main_v30_0 (F := Ideal) x0 → W (Proc.devRef .tc main_v8) = val_main_v9 (F := Ideal) x0 → StableHlo.after hostOps0_9 W (Proc.devRef .tc main_v32) = rows (val_main_v31 (F := Ideal) x0) := by
  intro x0 h g
  unfold val_main_v31
  rw [← h, ← g]
  sl_kernel_rfl
lemma ref_log (x0) : val_main_v20_0 (F := Ideal) x0 = logSig (val_main_v12 (F := Ideal) x0) := by sl_kernel_rfl
lemma ref_neg (x0) : val_main_v22_0 (F := Ideal) x0 = logSig (Host.negf (F := Ideal) (φ := .f32) (val_main_v12 (F := Ideal) x0)) := by sl_kernel_rfl
lemma ref_mask (x0) : val_main_v23_0 (F := Ideal) x0 = (select (broadcastInDim S4x8x2048x2048 ![2, 3] bcast_S2048x2048_S4x8x2048x2048_2_3 (val_main_v19 (F := Ideal))) (val_main_v22_0 (F := Ideal) x0) zeros : Pairs) := by sl_kernel_rfl
lemma ref_wts (x0) : val_main_v30_0 (F := Ideal) x0 = (select (broadcastInDim S4x8x2048x2048 ![2, 3] bcast_S2048x2048_S4x8x2048x2048_2_3 (val_main_v19 (F := Ideal))) (val_main_v29 (F := Ideal) x0) zeros : Pairs) := by sl_kernel_rfl
lemma k1_v11 : StableHlo.after hostOps0_1 W (Proc.devRef .tc main_v11) = W (Proc.devRef .tc main_v11) := by sl_kernel_rfl
lemma k1_v18 : StableHlo.after hostOps0_1 W (Proc.devRef .tc main_v18) = W (Proc.devRef .tc main_v18) := by sl_kernel_rfl
lemma k1_v8 : StableHlo.after hostOps0_1 W (Proc.devRef .tc main_v8) = W (Proc.devRef .tc main_v8) := by sl_kernel_rfl
lemma k2_v19 : StableHlo.after hostOps0_2 W (Proc.devRef .tc main_v19) = W (Proc.devRef .tc main_v19) := by sl_kernel_rfl
lemma k2_v18 : StableHlo.after hostOps0_2 W (Proc.devRef .tc main_v18) = W (Proc.devRef .tc main_v18) := by sl_kernel_rfl
lemma k2_v8 : StableHlo.after hostOps0_2 W (Proc.devRef .tc main_v8) = W (Proc.devRef .tc main_v8) := by sl_kernel_rfl
lemma k3_v19 : StableHlo.after hostOps0_3 W (Proc.devRef .tc main_v19) = W (Proc.devRef .tc main_v19) := by sl_kernel_rfl
lemma k3_v18 : StableHlo.after hostOps0_3 W (Proc.devRef .tc main_v18) = W (Proc.devRef .tc main_v18) := by sl_kernel_rfl
lemma k3_v8 : StableHlo.after hostOps0_3 W (Proc.devRef .tc main_v8) = W (Proc.devRef .tc main_v8) := by sl_kernel_rfl
lemma k4_v19 : StableHlo.after hostOps0_4 W (Proc.devRef .tc main_v19) = W (Proc.devRef .tc main_v19) := by sl_kernel_rfl
lemma k4_v18 : StableHlo.after hostOps0_4 W (Proc.devRef .tc main_v18) = W (Proc.devRef .tc main_v18) := by sl_kernel_rfl
lemma k4_v8 : StableHlo.after hostOps0_4 W (Proc.devRef .tc main_v8) = W (Proc.devRef .tc main_v8) := by sl_kernel_rfl
lemma k4_v21 : StableHlo.after hostOps0_4 W (Proc.devRef .tc main_v21) = W (Proc.devRef .tc main_v21) := by sl_kernel_rfl
lemma k5_v19 : StableHlo.after hostOps0_5 W (Proc.devRef .tc main_v19) = W (Proc.devRef .tc main_v19) := by sl_kernel_rfl
lemma k5_v18 : StableHlo.after hostOps0_5 W (Proc.devRef .tc main_v18) = W (Proc.devRef .tc main_v18) := by sl_kernel_rfl
lemma k5_v8 : StableHlo.after hostOps0_5 W (Proc.devRef .tc main_v8) = W (Proc.devRef .tc main_v8) := by sl_kernel_rfl
lemma k6_v19 : StableHlo.after hostOps0_6 W (Proc.devRef .tc main_v19) = W (Proc.devRef .tc main_v19) := by sl_kernel_rfl
lemma k6_v18 : StableHlo.after hostOps0_6 W (Proc.devRef .tc main_v18) = W (Proc.devRef .tc main_v18) := by sl_kernel_rfl
lemma k6_v8 : StableHlo.after hostOps0_6 W (Proc.devRef .tc main_v8) = W (Proc.devRef .tc main_v8) := by sl_kernel_rfl
lemma k6_v22 : StableHlo.after hostOps0_6 W (Proc.devRef .tc main_v22) = W (Proc.devRef .tc main_v22) := by sl_kernel_rfl
lemma k7_v18 : StableHlo.after hostOps0_7 W (Proc.devRef .tc main_v18) = W (Proc.devRef .tc main_v18) := by sl_kernel_rfl
lemma k7_v8 : StableHlo.after hostOps0_7 W (Proc.devRef .tc main_v8) = W (Proc.devRef .tc main_v8) := by sl_kernel_rfl
lemma k7_v22 : StableHlo.after hostOps0_7 W (Proc.devRef .tc main_v22) = W (Proc.devRef .tc main_v22) := by sl_kernel_rfl
lemma k8_v8 : StableHlo.after hostOps0_8 W (Proc.devRef .tc main_v8) = W (Proc.devRef .tc main_v8) := by sl_kernel_rfl
lemma k8_v22 : StableHlo.after hostOps0_8 W (Proc.devRef .tc main_v22) = W (Proc.devRef .tc main_v22) := by sl_kernel_rfl

variable (m : (ℓ : Loc nD τ sig) → Buf (Elt Ideal) ℓ) (c : Dev nD)

/-- The buffers after the first stretches of the host's operations. -/
def W0 : Valuation τ sig (Elt Ideal) := fun b => m (c, b)
def W1 : Valuation τ sig (Elt Ideal) := StableHlo.after hostOps0 (W0 m c)
def W2 : Valuation τ sig (Elt Ideal) := StableHlo.after hostOps0_1 (W1 m c)
def W3 : Valuation τ sig (Elt Ideal) := StableHlo.after hostOps0_2 (W2 m c)
def W4 : Valuation τ sig (Elt Ideal) := StableHlo.after hostOps0_3 (W3 m c)
def W5 : Valuation τ sig (Elt Ideal) := StableHlo.after hostOps0_4 (W4 m c)
def W6 : Valuation τ sig (Elt Ideal) := StableHlo.after hostOps0_5 (W5 m c)
def W7 : Valuation τ sig (Elt Ideal) := StableHlo.after hostOps0_6 (W6 m c)
def W8 : Valuation τ sig (Elt Ideal) := StableHlo.after hostOps0_7 (W7 m c)
def W9 : Valuation τ sig (Elt Ideal) := StableHlo.after hostOps0_8 (W8 m c)

lemma V_eq (r : Ref sig .tc) : V m c r = StableHlo.after hostOps0_9 (W9 m c) (Proc.devRef .tc r) := rfl

/-- The first argument. -/
abbrev a0 : (⟨S4x2048x2560, .f32⟩ : BufTy).Contents (Elt Ideal) := m (c.tc.loc main_arg0)

lemma W1_z : W1 m c (Proc.devRef .tc main_v11) = val_main_v12 (F := Ideal) (a0 m c) := s0_z _
lemma W1_m : W1 m c (Proc.devRef .tc main_v18) = val_main_v19 (F := Ideal) := s0_m _
lemma W1_v : W1 m c (Proc.devRef .tc main_v8) = val_main_v9 (F := Ideal) (a0 m c) := s0_v _
lemma W2_z : W2 m c (Proc.devRef .tc main_v11) = val_main_v12 (F := Ideal) (a0 m c) := (k1_v11 _).trans (W1_z m c)
lemma W2_l : W2 m c (Proc.devRef .tc main_v19) = val_main_v20_0 (F := Ideal) (a0 m c) :=
  (s1_l _).trans ((congrArg logSig (W1_z m c)).trans (ref_log _).symm)
lemma W3_n : W3 m c (Proc.devRef .tc main_v20) = Host.negf (F := Ideal) (φ := .f32) (val_main_v12 (F := Ideal) (a0 m c)) :=
  (s2_n _).trans (congrArg (Host.negf (F := Ideal) (φ := .f32) (s := S4x8x2048x2048)) (W2_z m c))
lemma W4_l : W4 m c (Proc.devRef .tc main_v21) = val_main_v22_0 (F := Ideal) (a0 m c) :=
  (s3_l _).trans ((congrArg logSig (W3_n m c)).trans (ref_neg _).symm)
lemma W5_m : W5 m c (Proc.devRef .tc main_v18) = val_main_v19 (F := Ideal) :=
  (k4_v18 _).trans ((k3_v18 _).trans ((k2_v18 _).trans ((k1_v18 _).trans (W1_m m c))))
lemma W5_v : W5 m c (Proc.devRef .tc main_v8) = val_main_v9 (F := Ideal) (a0 m c) :=
  (k4_v8 _).trans ((k3_v8 _).trans ((k2_v8 _).trans ((k1_v8 _).trans (W1_v m c))))
lemma W7_l : W7 m c (Proc.devRef .tc main_v19) = val_main_v20_0 (F := Ideal) (a0 m c) :=
  (k6_v19 _).trans ((k5_v19 _).trans ((k4_v19 _).trans ((k3_v19 _).trans ((k2_v19 _).trans (W2_l m c)))))
lemma W6_k : W6 m c (Proc.devRef .tc main_v22) = val_main_v23_0 (F := Ideal) (a0 m c) := by
  refine (s5_w (W5 m c) (s4_c _)).trans ?_
  rw [W5_m]
  have h : W5 m c (Proc.devRef .tc main_v21) = val_main_v22_0 (F := Ideal) (a0 m c) := (k4_v21 _).trans (W4_l m c)
  rw [h]
  exact (ref_mask _).symm
lemma W8_e : W8 m c (Proc.devRef .tc main_v28) = val_main_v29 (F := Ideal) (a0 m c) :=
  s7_e _ _ (s6_c _ _ (W6_k m c)) (W7_l m c)
lemma W8_m : W8 m c (Proc.devRef .tc main_v18) = val_main_v19 (F := Ideal) :=
  (k7_v18 _).trans ((k6_v18 _).trans ((k5_v18 _).trans (W5_m m c)))
lemma W9_a : W9 m c (Proc.devRef .tc main_v29) = val_main_v30_0 (F := Ideal) (a0 m c) := by
  refine (s8_w (W8 m c) (s7_c _)).trans ?_
  rw [W8_m, W8_e]
  exact (ref_wts _).symm
lemma W9_k : W9 m c (Proc.devRef .tc main_v22) = val_main_v23_0 (F := Ideal) (a0 m c) :=
  (k8_v22 _).trans ((k7_v22 _).trans ((k6_v22 _).trans (W6_k m c)))
lemma W9_v : W9 m c (Proc.devRef .tc main_v8) = val_main_v9 (F := Ideal) (a0 m c) :=
  (k8_v8 _).trans ((k7_v8 _).trans ((k6_v8 _).trans ((k5_v8 _).trans (W5_v m c))))

/-- The kept weights are the reference's. -/
lemma host_wts : V m c main_v38 = kept (val_main_v30_0 (a0 m c)) :=
  (V_eq m c _).trans ((s9_w _).trans (congrArg kept (W9_a m c)))
/-- The kept logarithms are the reference's. -/
lemma host_log : V m c main_v42 = kept (val_main_v23_0 (a0 m c)) :=
  (V_eq m c _).trans ((s9_l _).trans (congrArg kept (W9_k m c)))
/-- The kept output is the reference's. -/
lemma host_raw : V m c main_v32 = rows (val_main_v31 (a0 m c)) :=
  (V_eq m c _).trans (s9_r _ _ (W9_a m c) (W9_v m c))
lemma host_proj : V m c main_v34 = (shapeCast S8192x2560 (truncf .bf16 (a0 m c) bitsLt_bf16_f32) shapeCasts_S4x2048x2560_S8192x2560 : FVec Ideal S8192x2560 .bf16) := by
  sl_kernel_rfl
lemma host_ct : V m c main_v44 = (shapeCast S8192x1024 (truncf .bf16 (m (c.tc.loc main_arg2) : FVec Ideal S4x2048x1024 .f32) bitsLt_bf16_f32) shapeCasts_S4x2048x1024_S8192x1024 : FVec Ideal S8192x1024 .bf16) := by
  sl_kernel_rfl
lemma host_gain : V m c main_v45 = (broadcastInDim S1x1024 ![1] bcast_S1024_S1x1024_1 (m (c.tc.loc main_arg1) : FVec Ideal S1024 .f32) : FVec Ideal S1x1024 .f32) := by
  sl_kernel_rfl
end Cert.SbIdeal.Reading
-- ==== Proof.SbSum.lean ====
/-
  Running sums along the last of four axes, and the logarithm of the logistic function, over the reals.
-/
module

public import proofs.«01_k».proof.Proof.Reals
public import proofs.«01_k».proof.Proof.Places

@[expose] public section

noncomputable section

namespace Cert.Stick

open Idealize.ShloMosaic Cert.Reals

/-- A sum over the places of a window along the last of four axes, as a sum over that axis. -/
lemma sum_last {N : ℕ} (G : (⟨4, ![1, 1, 1, N]⟩ : Shape).Idx → EReal) : ∑ w, G w = ∑ n : Fin N, G (ix4 0 0 0 n) := by
  refine (Finset.sum_bij' (fun (n : Fin N) _ => (ix4 0 0 0 n : (⟨4, ![1, 1, 1, N]⟩ : Shape).Idx)) (fun w _ => (w 3 : Fin N))
    (fun _ _ => Finset.mem_univ _) (fun _ _ => Finset.mem_univ _) (fun _ _ => rfl) (fun w _ => ?_) (fun _ _ => rfl)).symm
  have h0 : (w 0).val < 1 := (w 0).isLt
  have h1 : (w 1).val < 1 := (w 1).isLt
  have h2 : (w 2).val < 1 := (w 2).isLt
  exact Places.ext4 (by show 0 = (w 0).val; omega) (by show 0 = (w 1).val; omega) (by show 0 = (w 2).val; omega) rfl

/-- What a window that starts at `j`, `lo` places into the overhang, covers at its place `w`. -/
def covered {A B C N : ℕ} (x : (⟨4, ![A, B, C, N]⟩ : Shape).Idx → EReal) (lo : ℕ) (j : (⟨4, ![A, B, C, N]⟩ : Shape).Idx)
    (w : (⟨4, ![1, 1, 1, N]⟩ : Shape).Idx) : EReal :=
  if hin : ∀ i : Fin 4, (![0, 0, 0, lo] : Fin 4 → ℕ) i ≤ (j i).val * (![1, 1, 1, 1] : Fin 4 → ℕ) i + (w i).val ∧
      (j i).val * (![1, 1, 1, 1] : Fin 4 → ℕ) i + (w i).val - (![0, 0, 0, lo] : Fin 4 → ℕ) i < (![A, B, C, N] : Fin 4 → ℕ) i
    then x (fun i => ⟨_, (hin i).2⟩) else 0

/-- A window's sum along the last axis, at an index: what the window covers of the row, its overhang being zero. -/
lemma window_at {A B C N lo hi : ℕ} (x : (⟨4, ![A, B, C, N]⟩ : Shape).Idx → EReal) (f : ℕ → ℝ) (a : Fin A) (b : Fin B) (c : Fin C) (j : Fin N)
    (hx : ∀ s : Fin N, x (ix4 a b c s) = ((f s.val : ℝ) : EReal))
    (h : (⟨4, ![A, B, C, N]⟩ : Shape).ReduceWindows (![1, 1, 1, N] : Fin 4 → ℕ) ![1, 1, 1, 1] ![0, 0, 0, lo] ![0, 0, 0, hi] ⟨4, ![A, B, C, N]⟩) :
    Ideal.hostReduceWindowAdd (![1, 1, 1, N] : Fin 4 → ℕ) ![1, 1, 1, 1] ![0, 0, 0, lo] ![0, 0, 0, hi] h x 0 (ix4 a b c j)
      = ((∑ n ∈ Finset.range N, if lo ≤ j.val + n ∧ j.val + n - lo < N then f (j.val + n - lo) else 0 : ℝ) : EReal) := by
  have fold : ∀ {k : ℕ} (g : Fin k → EReal), (List.finRange k).foldl (fun r n => r + g n) 0 = ∑ n, g n := fun g => by
    rw [Fin.sum_univ_def, List.sum_eq_foldl, List.foldl_map]
  unfold Ideal.hostReduceWindowAdd Host.reduceWindow
  refine (fold _).trans ?_
  refine Eq.trans (Finset.sum_congr rfl fun n _ => ?_) ((Equiv.sum_comp (Shape.rowMajor (⟨4, ![1, 1, 1, N]⟩ : Shape)).symm (covered x lo (ix4 a b c j))).trans ?_)
  · dsimp only
    split
    · next hin =>
      unfold covered
      split
      · rfl
      · next hout => exact absurd hin hout
    · next hin =>
      unfold covered
      split
      · next hout => exact absurd hout hin
      · rfl
  rw [sum_last, Finset.sum_range, ← coe_sum]
  refine Finset.sum_congr rfl fun n _ => ?_
  have ha := a.isLt
  have hb := b.isLt
  have hc := c.isLt
  unfold covered
  split
  · next hin =>
    have h3 := hin 3
    change lo ≤ j.val * 1 + n.val ∧ j.val * 1 + n.val - lo < N at h3
    rw [Nat.mul_one] at h3
    rw [if_pos h3]
    refine (congrArg x (Places.ext4 ?_ ?_ ?_ ?_)).trans (hx ⟨j.val + n.val - lo, h3.2⟩)
    · show a.val * 1 + 0 - 0 = a.val; omega
    · show b.val * 1 + 0 - 0 = b.val; omega
    · show c.val * 1 + 0 - 0 = c.val; omega
    · show j.val * 1 + n.val - lo = j.val + n.val - lo; omega
  · next hin =>
    rw [if_neg fun h3 => hin fun i => by
      match i with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 0 ≤ c.val * 1 + 0 ∧ c.val * 1 + 0 - 0 < C; omega
      | ⟨3, _⟩ => show lo ≤ j.val * 1 + n.val ∧ j.val * 1 + n.val - lo < N; omega]
    rfl

lemma prefix_sum (f : ℕ → ℝ) {N lo j : ℕ} (hN : lo + 1 = N) (hj : j < N) :
    (∑ n ∈ Finset.range N, if lo ≤ j + n ∧ j + n - lo < N then f (j + n - lo) else 0) = ∑ s ∈ Finset.range (j + 1), f s := by
  rw [← Finset.sum_filter]
  refine Finset.sum_nbij' (fun n => j + n - lo) (fun s => s + lo - j) ?_ ?_ ?_ ?_ fun _ _ => rfl
  all_goals
    intro n hn
    simp only [Finset.mem_filter, Finset.mem_range] at hn ⊢
    omega

lemma suffix_sum (f : ℕ → ℝ) {N j : ℕ} (hj : j < N) :
    (∑ n ∈ Finset.range N, if 0 ≤ j + n ∧ j + n - 0 < N then f (j + n - 0) else 0) = ∑ s ∈ Finset.range N, f s - ∑ s ∈ Finset.range j, f s := by
  rw [← Finset.sum_filter, eq_sub_iff_add_eq, add_comm, ← Finset.sum_range_add_sum_Ico f hj.le]
  refine congrArg (_ + ·) (Finset.sum_nbij' (fun n => j + n - 0) (fun s => s - j) ?_ ?_ ?_ ?_ fun _ _ => rfl)
  all_goals
    intro n hn
    simp only [Finset.mem_filter, Finset.mem_range, Finset.mem_Ico] at hn ⊢
    omega

/-- The soft plus, and its exponential. -/
def sp (y : ℝ) : ℝ := max y 0 + Real.log (1 + Real.exp (-|y|))

lemma exp_sp (y : ℝ) : Real.exp (sp y) = 1 + Real.exp y := by
  have h : 0 < 1 + Real.exp (-|y|) := by positivity
  rw [sp, Real.exp_add, Real.exp_log h, mul_add, mul_one, ← Real.exp_add]
  rcases le_total 0 y with hy | hy
  · rw [max_eq_left hy, abs_of_nonneg hy, add_neg_cancel, Real.exp_zero, add_comm]
  · rw [max_eq_right hy, abs_of_nonpos hy, neg_neg, zero_add, Real.exp_zero]

/-- What is left at `z`, and one less it. -/
lemma rest_exp (z : ℝ) : Real.exp (z - sp z) = 1 - Real.exp (-sp z) := by
  have h : 0 < 1 + Real.exp z := by positivity
  rw [Real.exp_sub, Real.exp_neg, exp_sp]
  field_simp
  ring

lemma own_exp (z : ℝ) : Real.exp (-z - sp (-z)) = Real.exp (-sp z) := by
  rw [Real.exp_sub, Real.exp_neg (sp z), exp_sp, exp_sp, Real.exp_neg]
  have h : 0 < Real.exp z := Real.exp_pos z
  field_simp
  ring

end Cert.Stick

end
-- ==== Proof.SbData.lean ====
/-
  What the stick-breaking attention keeps for its gradients, from the arguments, over the reals.
-/
module

public import proofs.«01_k».proof.Proof.SbGlobal
public import proofs.«01_k».proof.Proof.SbSum

@[expose] public section

noncomputable section

namespace Cert.Stick

open Idealize.ShloMosaic Finset

/-- An array's number at a place given by naturals. -/
def at3 {A B C : ℕ} (P : (⟨3, ![A, B, C]⟩ : Shape).Idx → ℝ) (a b c : ℕ) : ℝ :=
  if h : a < A ∧ b < B ∧ c < C then P (ix3 ⟨a, h.1⟩ ⟨b, h.2.1⟩ ⟨c, h.2.2⟩) else 0

def at1 {A : ℕ} (P : (⟨1, ![A]⟩ : Shape).Idx → ℝ) (a : ℕ) : ℝ := if h : a < A then P (ix1 ⟨a, h⟩) else 0

lemma at3_eq {A B C : ℕ} (P : (⟨3, ![A, B, C]⟩ : Shape).Idx → ℝ) (i : (⟨3, ![A, B, C]⟩ : Shape).Idx) {a b c : ℕ}
    (h0 : (i 0).val = a) (h1 : (i 1).val = b) (h2 : (i 2).val = c) : P i = at3 P a b c := by
  subst h0 h1 h2
  have e : i = ix3 (i 0) (i 1) (i 2) := Places.ext3 rfl rfl rfl
  exact ((dif_pos ⟨(i 0).isLt, (i 1).isLt, (i 2).isLt⟩).trans (congrArg P e.symm)).symm

lemma at1_eq {A : ℕ} (P : (⟨1, ![A]⟩ : Shape).Idx → ℝ) (i : (⟨1, ![A]⟩ : Shape).Idx) {a : ℕ} (h0 : (i 0).val = a) : P i = at1 P a := by
  subst h0
  have e : i = ix1 (i 0) := funext fun | ⟨0, _⟩ => rfl
  exact ((dif_pos (i 0).isLt).trans (congrArg P e.symm)).symm

section

variable (pj : ℕ → ℕ → ℕ → ℝ)

/-- The scores. -/
def score (b h t s : ℕ) : ℝ := (∑ d : Fin 64, pj b t (1024 + (h * 64 + d.val)) * pj b s (1536 + (h * 64 + d.val))) * (1 / 8)

/-- The logarithm of what a key leaves to the keys before it. -/
def left (b h t s : ℕ) : ℝ := if s < t then -sp (score pj b h t s) else 0

/-- What a key takes of what the keys between it and the query leave. -/
def full (b h t s : ℕ) : ℝ :=
  Real.exp (-sp (-score pj b h t s) + (∑ x ∈ range 2048, left pj b h t x - ∑ x ∈ range (s + 1), left pj b h t x))

/-- A weight: the keys before the query have one. -/
def weight (b h t s : ℕ) : ℝ := if s < t then full pj b h t s else 0

def mixed (b t col : ℕ) : ℝ := ∑ s : Fin 2048, weight pj b (col / 64) t s.val * pj b s.val (2048 + col)

end

/-- What the backward call reads, from the arguments. -/
def data (P : (⟨3, ![4, 2048, 2560]⟩ : Shape).Idx → ℝ) (G : (⟨1, ![1024]⟩ : Shape).Idx → ℝ) (C : (⟨3, ![4, 2048, 1024]⟩ : Shape).Idx → ℝ) : Data where
  pj := at3 P
  ct := at3 C
  hg := at1 G
  raw := mixed (at3 P)
  wt := weight (at3 P)
  lg := left (at3 P)

lemma weight_zero {pj : ℕ → ℕ → ℕ → ℝ} (b h t s : ℕ) (hs : t ≤ s) : weight pj b h t s = 0 := if_neg (by omega)

end Cert.Stick

end
-- ==== Proof.SbRef.lean ====
/-
  The stick-breaking backward call's reference: what its values hold, from arguments that hold real numbers.
-/
module

public import proofs.«01_k».proof.Proof.Gen.SbRefIdeal.Read
public import proofs.«01_k».proof.Proof.SbData

@[expose] public section

noncomputable section

namespace Cert.SbRefIdeal.Reading

open Cert.SbRefIdeal Gen Read
open Idealize.ShloMosaic
open Cert.Reals Cert.Stick

variable {x0 : (⟨S4x2048x2560, .f32⟩ : BufTy).Contents (Elt Ideal)}
variable {P : S4x2048x2560.Idx → ℝ}

lemma eighth : Ideal.ofBits .f32 0x3E000000#32 = ((1 / 8 : ℝ) : EReal) := by
  simp [Ideal.ofBits, Ideal.ieee, -EReal.coe_mul]; norm_num
lemma f0 : Ideal.ofBits .f32 0x00000000#32 = ((0 : ℝ) : EReal) := by
  simp [Ideal.ofBits, Ideal.ieee]

lemma sp_at (y : ℝ) (a : EReal) :
    (if (y : EReal) ≠ (y : EReal) then a else max (y : EReal) 0 + Ideal.log1p (Ideal.exp (-(FloatOps.absf (F := Ideal) (φ := .f32) (y : EReal))))) = ((sp y : ℝ) : EReal) := by
  have h1 : FloatOps.absf (F := Ideal) (φ := .f32) (y : EReal) = ((|y| : ℝ) : EReal) := by
    show max (y : EReal) (-(y : EReal)) = _
    rw [← EReal.coe_neg, ← EReal.coe_strictMono.monotone.map_max]
    rfl
  have h2 : 0 < 1 + Real.exp (-|y|) := by positivity
  rw [if_neg (not_not.2 rfl), h1, ← EReal.coe_neg, Ideal.exp_coe]
  show max (y : EReal) 0 + Ideal.log (1 + ((Real.exp (-|y|) : ℝ) : EReal)) = _
  rw [← EReal.coe_one, ← EReal.coe_add, ← EReal.coe_zero, ← EReal.coe_strictMono.monotone.map_max]
  have h3 : Ideal.log ((1 + Real.exp (-|y|) : ℝ) : EReal) = ((Real.log (1 + Real.exp (-|y|)) : ℝ) : EReal) := if_neg (not_le.2 h2)
  rw [h3, ← EReal.coe_add]
  rfl

lemma exp_at (y s : ℝ) (a b : EReal) :
    Ideal.exp ((if (y : EReal) = ⊤ then a else (y : EReal)) - (if (s : EReal) = ⊤ then b else (s : EReal))) = ((Real.exp (y - s) : ℝ) : EReal) := by
  rw [if_neg (EReal.coe_ne_top y), if_neg (EReal.coe_ne_top s), ← EReal.coe_sub, Ideal.exp_coe]

lemma zero_at : (id (constant (F := Ideal) S_ .f32 0x00000000#32) ix0 : EReal) = ((0 : ℝ) : EReal) := f0

section Forward

variable (hp : ∀ i, 1024 ≤ (i 2).val → x0 i = ((P i : ℝ) : EReal))
include hp

lemma at_q (b : Fin 4) (h : Fin 8) (s : Fin 2048) (d : Fin 64) :
    val_main_v5 x0 (ix4 b h s d) = ((at3 P b.val s.val (1024 + (h.val * 64 + d.val)) : ℝ) : EReal) := by
  pointwise [val_main_v5, val_main_v4, val_main_v3, val_main_v2, val_main_v0]
  refine (hp _ (show 1024 ≤ 1024 + (h.val * 64 + d.val) by omega)).trans (congrArg _ (at3_eq P _ rfl rfl ?_))
  rfl

lemma at_k (b : Fin 4) (h : Fin 8) (s : Fin 2048) (d : Fin 64) :
    val_main_v7 x0 (ix4 b h s d) = ((at3 P b.val s.val (1536 + (h.val * 64 + d.val)) : ℝ) : EReal) := by
  pointwise [val_main_v7, val_main_v6, val_main_v3, val_main_v2, val_main_v0]
  refine (hp _ (show 1024 ≤ 1024 + (512 + h.val * 64 + d.val) by omega)).trans (congrArg _ (at3_eq P _ rfl rfl ?_))
  show 1024 + (512 + h.val * 64 + d.val) = 1536 + (h.val * 64 + d.val)
  omega

lemma at_v (b : Fin 4) (h : Fin 8) (s : Fin 2048) (d : Fin 64) :
    val_main_v9 x0 (ix4 b h s d) = ((at3 P b.val s.val (2048 + (h.val * 64 + d.val)) : ℝ) : EReal) := by
  pointwise [val_main_v9, val_main_v8, val_main_v3, val_main_v2, val_main_v0]
  refine (hp _ (show 1024 ≤ 1024 + (1024 + h.val * 64 + d.val) by omega)).trans (congrArg _ (at3_eq P _ rfl rfl ?_))
  show 1024 + (1024 + h.val * 64 + d.val) = 2048 + (h.val * 64 + d.val)
  omega

lemma at_z (b : Fin 4) (h : Fin 8) (t s : Fin 2048)  :
    val_main_v12 x0 (ix4 b h t s) = ((score (at3 P) b.val h.val t.val s.val : ℝ) : EReal) := by
  pointwise [val_main_v12, val_main_v11, val_main_v10, val_main_cst]
  simp only [at_q hp, at_k hp, ← EReal.coe_mul, coe_sum]
  rw [eighth, ← EReal.coe_mul]
  rfl

lemma at_sp (b : Fin 4) (h : Fin 8) (t s : Fin 2048) :
    val_main_call0_v1_0 (F := Ideal) x0 (ix4 b h t s) = ((sp (-score (at3 P) b.val h.val t.val s.val) : ℝ) : EReal) := by
  pointwise [val_main_call0_v1_0, val_main_call0_call0_v4, val_main_call0_call0_v6, val_main_call0_call0_v11, val_main_call0_call0_v10, val_main_call0_call0_v9, val_main_call0_call0_v8,
    val_main_call0_call0_v7, val_main_call0_call0_v5, val_main_call0_call0_v3, val_main_call0_call0_v2, val_main_call0_call0_v1, val_main_call0_call0_v0, val_main_call0_v0, val_main_call0_call0_cst]
  rw [at_z hp, ← EReal.coe_neg]
  exact sp_at _ _

lemma at_sp' (b : Fin 4) (h : Fin 8) (t s : Fin 2048) :
    val_main_call1_v1_0 (F := Ideal) x0 (ix4 b h t s) = ((sp (score (at3 P) b.val h.val t.val s.val) : ℝ) : EReal) := by
  pointwise [val_main_call1_v1_0, val_main_call1_call0_v4, val_main_call1_call0_v6, val_main_call1_call0_v11, val_main_call1_call0_v10, val_main_call1_call0_v9, val_main_call1_call0_v8,
    val_main_call1_call0_v7, val_main_call1_call0_v5, val_main_call1_call0_v3, val_main_call1_call0_v2, val_main_call1_call0_v1, val_main_call1_call0_v0, val_main_call1_v0, val_main_call1_call0_cst, val_main_v21]
  rw [at_z hp, ← EReal.coe_neg, ← EReal.coe_neg, neg_neg]
  exact sp_at _ _

/-- The two factors of the scores' gradient: what is left at the key, and what it takes. -/
lemma at_keep (b : Fin 4) (h : Fin 8) (t s : Fin 2048) :
    val_main_v20_1 x0 (ix4 b h t s) = ((Real.exp (-sp (score (at3 P) b.val h.val t.val s.val)) : ℝ) : EReal) := by
  pointwise [val_main_v20_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_v0, val_main_call0_call0_cst_0, val_main_call0_call0_cst_1, val_main_call0_call0_cst_2, val_main_call0_call0_cst_3]
  rw [at_sp hp, at_z hp, ← EReal.coe_neg]
  exact (exp_at _ _ _ _).trans (congrArg _ (own_exp _))

lemma at_take (b : Fin 4) (h : Fin 8) (t s : Fin 2048) :
    val_main_v22_1 x0 (ix4 b h t s) = ((1 - Real.exp (-sp (score (at3 P) b.val h.val t.val s.val)) : ℝ) : EReal) := by
  pointwise [val_main_v22_1, val_main_call1_call0_v21, val_main_call1_call0_v20, val_main_call1_call0_v19, val_main_call1_call0_v18, val_main_call1_call0_v17, val_main_call1_call0_v16,
    val_main_call1_call0_v15, val_main_call1_call0_v14, val_main_call1_call0_v13, val_main_call1_v0, val_main_call1_call0_cst_0, val_main_call1_call0_cst_1, val_main_call1_call0_cst_2, val_main_call1_call0_cst_3, val_main_v21]
  rw [at_sp' hp, at_z hp, ← EReal.coe_neg, ← EReal.coe_neg, neg_neg]
  exact (exp_at _ _ _ _).trans (congrArg _ (rest_exp _))

omit hp in
lemma at_mask (t s : Fin 2048) : val_main_v19 (F := Ideal) (ix2 t s) = BitVec.ofBool (decide (s.val < t.val)) := by
  pointwise [val_main_v19, val_main_v18, val_main_v17, val_main_v16, val_main_v15, val_main_v14, val_main_v13]
  have e : ∀ n : Fin 2048, (BitVec.ofNat 32 n.val).toInt = (n.val : ℤ) := fun n => by
    have hn := n.isLt
    rw [BitVec.toInt_eq_toNat_of_lt (by rw [BitVec.toNat_ofNat]; omega), BitVec.toNat_ofNat, Nat.mod_eq_of_lt (by omega)]
  rw [WordCmp.cmpi_slt_eq, e, e]
  simp only [Nat.cast_lt]

omit hp in
/-- A choice under the causal mask. -/
lemma masked (t s : Fin 2048) (a b : EReal) : Scalar.select (val_main_v19 (F := Ideal) (ix2 t s)) a b = if s.val < t.val then a else b := by
  rw [at_mask]
  by_cases h : s.val < t.val
  · rw [if_pos h, decide_eq_true h]; rfl
  · rw [if_neg h, decide_eq_false h]; rfl

lemma at_left (b : Fin 4) (h : Fin 8) (t s : Fin 2048) :
    val_main_v23_0 x0 (ix4 b h t s) = ((left (at3 P) b.val h.val t.val s.val : ℝ) : EReal) := by
  pointwise [val_main_v23_0, val_main_v23_1, val_main_v22_0, val_main_call2_v2, val_main_call2_v0, val_main_cst_0]
  rw [at_sp' hp, ← EReal.coe_neg, masked, zero_at]
  unfold left
  split <;> rfl

lemma at_sum (b : Fin 4) (h : Fin 8) (t s : Fin 2048) :
    val_main_v24 (F := Ideal) x0 (ix4 b h t s) = ((∑ x ∈ Finset.range (s.val + 1), left (at3 P) b.val h.val t.val x : ℝ) : EReal) := by
  have h0 : val_main_call3_call0_v0 (F := Ideal) (Shape.Idx.first h_S_) = 0 := Ideal.ofBits_zero_f32
  unfold val_main_v24 Host.reduceWindowAdd
  rw [h0]
  have e := window_at (lo := 2047) (hi := 0) (val_main_v23_0 (F := Ideal) x0) (left (at3 P) b.val h.val t.val) b h t s (fun x => at_left hp b h t x)
    reduceWindows_S4x8x2048x2048_S4x8x2048x2048_w1s1p0_0_w1s1p0_0_w1s1p0_0_w2048s1p2047_0
  rw [prefix_sum (left (at3 P) b.val h.val t.val) (N := 2048) (lo := 2047) (by decide) s.isLt] at e
  exact e

/-- A weight before the mask. -/
lemma at_full (b : Fin 4) (h : Fin 8) (t s : Fin 2048) :
    val_main_v29 x0 (ix4 b h t s) = ((full (at3 P) b.val h.val t.val s.val : ℝ) : EReal) := by
  pointwise [val_main_v29, val_main_v28, val_main_v27, val_main_v26, val_main_v25, val_main_v20_0]
  rw [at_sp hp, at_sum hp, at_sum hp, ← EReal.coe_neg, ← EReal.coe_sub, ← EReal.coe_add, Ideal.exp_coe]
  rfl

lemma at_weight (b : Fin 4) (h : Fin 8) (t s : Fin 2048) :
    val_main_v30_0 x0 (ix4 b h t s) = ((weight (at3 P) b.val h.val t.val s.val : ℝ) : EReal) := by
  pointwise [val_main_v30_0, val_main_v30_1, val_main_call4_v2, val_main_call4_v0, val_main_cst_1]
  rw [at_full hp, masked, zero_at]
  unfold weight
  split <;> rfl

lemma at_mixed (b : Fin 4) (h : Fin 8) (t : Fin 2048) (d : Fin 64) :
    val_main_v31 x0 (ix4 b h t d) = ((mixed (at3 P) b.val t.val (h.val * 64 + d.val) : ℝ) : EReal) := by
  pointwise [val_main_v31]
  simp only [at_weight hp, at_v hp, ← EReal.coe_mul, coe_sum]
  have e : (h.val * 64 + d.val) / 64 = h.val := by omega
  rw [mixed, e]

end Forward

end Cert.SbRefIdeal.Reading

end
-- ==== Proof.SbReads.lean ====
/-
  The arrays that the stick-breaking backward call's windows look into, from the arguments.
-/
module

public import proofs.«01_k».proof.Proof.SbHost
public import proofs.«01_k».proof.Proof.SbBlocks
public import proofs.«01_k».proof.Proof.SbRef

@[expose] public section

noncomputable section

namespace Cert.SbIdeal.Reading

open Cert.SbIdeal Gen Value
open Idealize.ShloMosaic TcCoe Idealize.SL.Sem
open Cert.Reals Cert.Stick

lemma kept_at (x : Pairs) (p b j i : Fin 4) (r : Fin 1024) (l : Fin 512) :
    kept x (ix6 p b j i r l) = x (ix4 b ⟨2 * p.val + r.val / 512, by omega⟩ ⟨i.val * 512 + r.val % 512, by omega⟩ ⟨j.val * 512 + l.val, by omega⟩) := by
  pointwise [kept]
  exact congrArg x (Places.ext4 rfl (show p.val * 2 + r.val / 512 = 2 * p.val + r.val / 512 by omega) rfl rfl)

lemma rows_at (x : (⟨S4x8x2048x64, .f32⟩ : BufTy).Contents (Elt Ideal)) (r : Fin 8192) (l : Fin 512) :
    rows x (ix2 r l) = x (ix4 ⟨r.val / 2048, by omega⟩ ⟨l.val / 64, by omega⟩ ⟨r.val % 2048, by omega⟩ ⟨l.val % 64, by omega⟩) := by
  pointwise [rows]

lemma proj_at (x : FVec Ideal S4x2048x2560 .f32) (r : Fin 8192) (l : Fin 2560) :
    (shapeCast S8192x2560 (truncf .bf16 x bitsLt_bf16_f32) shapeCasts_S4x2048x2560_S8192x2560 : FVec Ideal S8192x2560 .bf16) (ix2 r l)
      = x (ix3 ⟨r.val / 2048, by omega⟩ ⟨r.val % 2048, by omega⟩ l) := by
  pointwise

lemma ct_at (x : FVec Ideal S4x2048x1024 .f32) (r : Fin 8192) (l : Fin 1024) :
    (shapeCast S8192x1024 (truncf .bf16 x bitsLt_bf16_f32) shapeCasts_S4x2048x1024_S8192x1024 : FVec Ideal S8192x1024 .bf16) (ix2 r l)
      = x (ix3 ⟨r.val / 2048, by omega⟩ ⟨r.val % 2048, by omega⟩ l) := by
  pointwise

lemma gain_at (x : FVec Ideal S1024 .f32) (o : Fin 1) (l : Fin 1024) :
    (broadcastInDim S1x1024 ![1] bcast_S1024_S1x1024_1 x : FVec Ideal S1x1024 .f32) (ix2 o l) = x (ix1 l) := by
  pointwise

lemma is2 {a b : ℕ} (z : (⟨2, ![a, b]⟩ : Shape).Idx) : ∃ (r : Fin a) (l : Fin b), z = ix2 r l := ⟨z 0, z 1, Places.ext2 rfl rfl⟩
lemma is6 {a b c d e f : ℕ} (z : (⟨6, ![a, b, c, d, e, f]⟩ : Shape).Idx) :
    ∃ (i0 : Fin a) (i1 : Fin b) (i2 : Fin c) (i3 : Fin d) (i4 : Fin e) (i5 : Fin f), z = ix6 i0 i1 i2 i3 i4 i5 :=
  ⟨z 0, z 1, z 2, z 3, z 4, z 5, funext fun | ⟨0, _⟩ => rfl | ⟨1, _⟩ => rfl | ⟨2, _⟩ => rfl | ⟨3, _⟩ => rfl | ⟨4, _⟩ => rfl | ⟨5, _⟩ => rfl⟩

variable {m : (ℓ : Loc nD τ sig) → Buf (Elt Ideal) ℓ} {c : Dev nD}
variable {P : S4x2048x2560.Idx → ℝ} {G : S1024.Idx → ℝ} {C : S4x2048x1024.Idx → ℝ}

/-- The windows look into what the arguments say. -/
lemma reads (hp : ∀ i, 1024 ≤ (i 2).val → a0 m c i = ((P i : ℝ) : EReal))
    (hg : ∀ i, 512 ≤ (i 0).val → (m (c.tc.loc main_arg1) : FVec Ideal S1024 .f32) i = ((G i : ℝ) : EReal))
    (hc : ∀ i, 512 ≤ (i 2).val → (m (c.tc.loc main_arg2) : FVec Ideal S4x2048x1024 .f32) i = ((C i : ℝ) : EReal)) :
    Reads m c (data P G C) where
  pj z hz := by
    obtain ⟨r, l, rfl⟩ := is2 z
    rw [host_proj, proj_at]
    exact (hp _ hz).trans (congrArg _ (at3_eq P _ rfl rfl rfl))
  ct z hz := by
    obtain ⟨r, l, rfl⟩ := is2 z
    rw [host_ct, ct_at]
    exact (hc _ hz).trans (congrArg _ (at3_eq C _ rfl rfl rfl))
  hg z hz := by
    obtain ⟨r, l, rfl⟩ := is2 z
    rw [host_gain, gain_at]
    exact (hg _ hz).trans (congrArg _ (at1_eq G _ rfl))
  raw z := by
    obtain ⟨r, l, rfl⟩ := is2 z
    rw [host_raw, rows_at, Cert.SbRefIdeal.Reading.at_mixed hp]
    refine congrArg (fun n : ℕ => ((mixed (at3 P) (r.val / 2048) (r.val % 2048) n : ℝ) : EReal)) ?_
    show l.val / 64 * 64 + l.val % 64 = l.val
    omega
  wt z := by
    obtain ⟨i0, i1, i2, i3, i4, i5, rfl⟩ := is6 z
    rw [host_wts, kept_at, Cert.SbRefIdeal.Reading.at_weight hp]
    rfl
  lg z := by
    obtain ⟨i0, i1, i2, i3, i4, i5, rfl⟩ := is6 z
    rw [host_log, kept_at, Cert.SbRefIdeal.Reading.at_left hp]
    rfl
  zero b h t s hs := weight_zero b h t s hs

end Cert.SbIdeal.Reading

end
-- ==== Proof.SbRefBack.lean ====
/-
  The stick-breaking backward call's reference: its four results, from arguments that hold real numbers.
-/
module

public import proofs.«01_k».proof.Proof.SbRef

@[expose] public section

noncomputable section

namespace Cert.SbRefIdeal.Reading

open Cert.SbRefIdeal Gen Read
open Idealize.ShloMosaic
open Cert.Reals Cert.Stick

variable {x0 : (⟨S4x2048x2560, .f32⟩ : BufTy).Contents (Elt Ideal)} {x1 : (⟨S1024, .f32⟩ : BufTy).Contents (Elt Ideal)}
variable {x2 : (⟨S4x2048x1024, .f32⟩ : BufTy).Contents (Elt Ideal)}
variable {P : S4x2048x2560.Idx → ℝ} {G : S1024.Idx → ℝ} {C : S4x2048x1024.Idx → ℝ}

lemma f64 : Ideal.ofBits .f32 0x42800000#32 = ((64 : ℝ) : EReal) := by
  simp [Ideal.ofBits, Ideal.ieee, -EReal.coe_mul]; norm_num
lemma half : Ideal.ofBits .f32 0xBF000000#32 = ((-(1 / 2) : ℝ) : EReal) := by
  simp [Ideal.ofBits, Ideal.ieee, -EReal.coe_mul]; norm_num

/-- The norm's gradient as the mean square's and the quotient's rules give it. -/
lemma norm_back (w c M T i : ℝ) (hM : 0 < M) (hi : i = (√M)⁻¹) :
    c * i + w * (T * (-(1 / 2) * (i / M)) / 64) + T * (-(1 / 2) * (i / M)) / 64 * w = i * (c - w * i * (T * i * (1 / 64))) := by
  have h : i / M = i * i * i := by
    have hs : √M * √M = M := Real.mul_self_sqrt hM.le
    have h0 : √M ≠ 0 := (Real.sqrt_pos.2 hM).ne'
    rw [hi]
    field_simp
    nlinarith [hs]
  rw [h]
  ring

/-- A sum over the first two of three axes. -/
lemma sum_rows {A B N : ℕ} (h : (⟨3, ![A, B, N]⟩ : Shape).ReducesTo [0, 1] ⟨1, ![N]⟩) (x : (⟨3, ![A, B, N]⟩ : Shape).Idx → EReal) (l : Fin N) :
    Ideal.hostReduceAdd h x 0 (ix1 l) = ∑ a : Fin A, ∑ b : Fin B, x (ix3 a b l) := by
  unfold Ideal.hostReduceAdd
  have last : ∀ z ∈ Finset.univ.filter (fun i => h.drop i = ix1 l), z 2 = l := fun z hz =>
    Fin.ext (congrArg Fin.val (congrFun (Finset.mem_filter.1 hz).2 (0 : Fin 1)))
  rw [zero_add, ← Finset.sum_product']
  refine Finset.sum_nbij' (fun z => (z 0, z 1)) (fun p => ix3 p.1 p.2 l) ?_ ?_ ?_ ?_ ?_
  · exact fun _ _ => Finset.mem_product.2 ⟨Finset.mem_univ _, Finset.mem_univ _⟩
  · exact fun p _ => Finset.mem_filter.2 ⟨Finset.mem_univ _, funext fun | ⟨0, _⟩ => rfl⟩
  · exact fun z hz => (Places.ext3 rfl rfl (congrArg Fin.val (last z hz).symm : l.val = (z 2).val) : ix3 (z 0) (z 1) l = z)
  · exact fun _ _ => rfl
  · exact fun z hz => congrArg x (Places.ext3 rfl rfl (congrArg Fin.val (last z hz)) : z = ix3 (z 0) (z 1) l)

section Norm

variable (hp : ∀ i, 1024 ≤ (i 2).val → x0 i = ((P i : ℝ) : EReal)) (hg : ∀ i, 512 ≤ (i 0).val → x1 i = ((G i : ℝ) : EReal)) (hc : ∀ i, 512 ≤ (i 2).val → x2 i = ((C i : ℝ) : EReal))
include hp

lemma at_raw (b : Fin 4) (t : Fin 2048) (h : Fin 8) (d : Fin 64) :
    val_main_v32 x0 (ix4 b t h d) = (((data P G C).raw b.val t.val (h.val * 64 + d.val) : ℝ) : EReal) := by
  pointwise [val_main_v32]
  exact at_mixed hp b h t d

lemma at_ms (b : Fin 4) (t : Fin 2048) (h : Fin 8) (o : Fin 1) :
    val_main_v39 x0 (ix4 b t h o) = (((data P G C).msq b.val t.val h.val : ℝ) : EReal) := by
  pointwise [val_main_v39, val_main_v38, val_main_v37, val_main_v36, val_main_v35, val_main_v34, val_main_v33, val_main_cst_2, val_main_cst_3, val_main_cst_4]
  simp only [at_raw (G := G) (C := C) hp, ← EReal.coe_mul, coe_sum]
  rw [f64, eps_eq, div_coe _ _ (by norm_num), ← EReal.coe_add, div_eq_mul_one_div]
  rfl

lemma at_inv (b : Fin 4) (t : Fin 2048) (h : Fin 8) (o : Fin 1) :
    val_main_v40 x0 (ix4 b t h o) = (((data P G C).inv b.val t.val h.val : ℝ) : EReal) := by
  pointwise [val_main_v40]
  rw [at_ms (G := G) (C := C) hp, rsqrt_pos (Data.msq_pos _ _ _ _)]
  rfl

lemma at_nrm (b : Fin 4) (t : Fin 2048) (h : Fin 8) (d : Fin 64) :
    val_main_v45 x0 (ix4 b t h d) = (((data P G C).nrm b.val t.val h.val d.val : ℝ) : EReal) := by
  pointwise [val_main_v45, val_main_v44]
  rw [at_raw (G := G) (C := C) hp, at_inv (G := G) (C := C) hp, ← EReal.coe_mul]
  rfl

/-- The rule of one over the root. -/
lemma at_slope (b : Fin 4) (t : Fin 2048) (h : Fin 8) (o : Fin 1) :
    val_main_v43 x0 (ix4 b t h o) = ((-(1 / 2) * ((data P G C).inv b.val t.val h.val / (data P G C).msq b.val t.val h.val) : ℝ) : EReal) := by
  pointwise [val_main_v43, val_main_v42, val_main_v41, val_main_cst_5]
  rw [at_inv (G := G) (C := C) hp, at_ms (G := G) (C := C) hp, half, div_coe _ _ (Data.msq_pos _ _ _ _).ne', ← EReal.coe_mul]

omit hp in
include hg hc in
lemma at_ctg (b : Fin 4) (t : Fin 2048) (h : Fin 8) (d : Fin 64) :
    val_main_v57 x1 x2 (ix4 b t h d)
      = (((data P G C).ct b.val t.val (512 + (h.val * 64 + d.val)) * (data P G C).hg (512 + (h.val * 64 + d.val)) : ℝ) : EReal) := by
  pointwise [val_main_v57, val_main_v55, val_main_v54, val_main_v50, val_main_v47, val_main_v1]
  rw [hc _ (show 512 ≤ 512 + (h.val * 64 + d.val) by omega), hg _ (show 512 ≤ 512 + (h.val * 64 + d.val) by omega), ← EReal.coe_mul]
  exact congrArg _ (congr (congrArg _ (at3_eq C _ rfl rfl rfl)) (at1_eq G _ rfl))

include hg hc

lemma at_out (b : Fin 4) (h : Fin 8) (t : Fin 2048) (d : Fin 64) :
    val_main_v72 x0 x1 x2 (ix4 b h t d) = (((data P G C).out b.val t.val h.val d.val : ℝ) : EReal) := by
  pointwise [val_main_v72, val_main_v71, val_main_v70, val_main_v69, val_main_v68, val_main_v67, val_main_v66, val_main_v65, val_main_v64, val_main_v63, val_main_v62, val_main_v61, val_main_v60,
    val_main_v59, val_main_v58, val_main_cst_8, val_main_cst_9, val_main_cst_10]
  simp only [at_raw (G := G) (C := C) hp, at_inv (G := G) (C := C) hp, at_slope (G := G) (C := C) hp, at_ctg (P := P) hg hc, f64, ← EReal.coe_mul, coe_sum,
    div_coe _ 64 (by norm_num), Finset.univ_unique, Finset.sum_singleton, ← EReal.coe_add]
  refine congrArg _ ((norm_back _ _ _ _ _ (Data.msq_pos _ _ _ _) rfl).trans ?_)
  unfold Data.out Data.nrm
  have e : ∀ i : ℝ, (∑ e : Fin 64, (data P G C).ct b.val t.val (512 + (h.val * 64 + e.val)) * (data P G C).hg (512 + (h.val * 64 + e.val)) * ((data P G C).raw b.val t.val (h.val * 64 + e.val) * i))
      = (∑ e : Fin 64, (data P G C).raw b.val t.val (h.val * 64 + e.val) * ((data P G C).ct b.val t.val (512 + (h.val * 64 + e.val)) * (data P G C).hg (512 + (h.val * 64 + e.val)))) * i := fun i => by
    rw [Finset.sum_mul]
    exact Finset.sum_congr rfl fun e _ => by ring
  rw [e]
  rfl

lemma at_g (b : Fin 4) (h : Fin 8) (t s : Fin 2048) :
    val_main_v77 x0 x1 x2 (ix4 b h t s) = (((data P G C).g b.val h.val t.val s.val : ℝ) : EReal) := by
  pointwise [val_main_v77, val_main_v76, val_main_v75, val_main_v30_1, val_main_call5_v0, val_main_call5_cst]
  simp only [at_out hp hg hc, at_v hp, at_full hp, ← EReal.coe_mul, coe_sum, masked]
  have e : (data P G C).g b.val h.val t.val s.val = (∑ d : Fin 64, (data P G C).out b.val t.val h.val d.val * at3 P b.val s.val (2048 + (h.val * 64 + d.val)))
      * (if s.val < t.val then full (at3 P) b.val h.val t.val s.val else 0) := rfl
  rw [e]
  split
  · rfl
  · rw [mul_zero, EReal.coe_zero]

lemma at_before (b : Fin 4) (h : Fin 8) (t s : Fin 2048) :
    val_main_v83 (F := Ideal) x0 x1 x2 (ix4 b h t s) = ((∑ x ∈ Finset.range s.val, (data P G C).g b.val h.val t.val x : ℝ) : EReal) := by
  have hf : ∀ x : Fin 2048, val_main_v82 (F := Ideal) x0 x1 x2 (ix4 b h t x)
      = ((-(data P G C).g b.val h.val t.val x.val + (if x.val = 2047 then ∑ y : Fin 2048, (data P G C).g b.val h.val t.val y.val else 0) : ℝ) : EReal) := by
    intro x
    pointwise [val_main_v82, val_main_v81, val_main_v80, val_main_v79, val_main_v78, val_main_cst_11, val_main_cst_12]
    simp only [at_g hp hg hc, coe_sum, ← EReal.coe_neg]
    by_cases e : x.val = 2047
    · rw [dif_pos (by omega), if_pos e, EReal.coe_add]
    · rw [dif_neg (by omega), if_neg e, add_zero, add_zero]
  have h0 : val_main_call6_call0_v0 (F := Ideal) (Shape.Idx.first h_S_) = 0 := Ideal.ofBits_zero_f32
  unfold val_main_v83 Host.reduceWindowAdd
  rw [h0]
  have e := window_at (lo := 0) (hi := 2047) (val_main_v82 (F := Ideal) x0 x1 x2)
    (fun x => -(data P G C).g b.val h.val t.val x + (if x = 2047 then ∑ y : Fin 2048, (data P G C).g b.val h.val t.val y.val else 0)) b h t s hf
    reduceWindows_S4x8x2048x2048_S4x8x2048x2048_w1s1p0_0_w1s1p0_0_w1s1p0_0_w2048s1p0_2047
  have e := e.trans (congrArg (fun r : ℝ => (r : EReal)) (suffix_sum (fun x => -(data P G C).g b.val h.val t.val x + (if x = 2047 then ∑ y : Fin 2048, (data P G C).g b.val h.val t.val y.val else 0)) (N := 2048) s.isLt))
  refine e.trans (congrArg _ ?_)
  rw [Finset.sum_add_distrib, Finset.sum_add_distrib, Finset.sum_ite_eq' (Finset.range 2048), if_pos (by decide), Finset.sum_range (n := 2048), Finset.sum_neg_distrib,
    Finset.sum_neg_distrib, Finset.sum_eq_zero (s := Finset.range s.val) (f := fun x => if x = 2047 then _ else _)
      (fun x hx => if_neg (by have := Finset.mem_range.1 hx; have := s.isLt; omega))]
  ring

lemma at_m (b : Fin 4) (h : Fin 8) (t s : Fin 2048) :
    val_main_v90 x0 x1 x2 (ix4 b h t s) = (((data P G C).m b.val h.val t.val s.val : ℝ) : EReal) := by
  pointwise [val_main_v90, val_main_v89, val_main_v88, val_main_v87, val_main_v86, val_main_v85, val_main_v84, val_main_call9_v1, val_main_call9_v0, val_main_call8_v1, val_main_call8_v0,
    val_main_v23_1, val_main_call7_v0, val_main_call7_cst, val_main_cst_13]
  simp only [at_g hp hg hc, at_before hp hg hc, at_keep hp, at_take hp, masked, eighth]
  have e : (data P G C).m b.val h.val t.val s.val = if s.val < t.val then ((data P G C).g b.val h.val t.val s.val * Real.exp (left (at3 P) b.val h.val t.val s.val)
      - (∑ x ∈ Finset.range s.val, (data P G C).g b.val h.val t.val x) * (1 - Real.exp (left (at3 P) b.val h.val t.val s.val))) * (1 / 8) else 0 := rfl
  rw [e]
  by_cases hs : s.val < t.val
  · rw [if_pos hs, if_pos hs, left, if_pos hs]
    norm_cast
    refine congrArg _ ?_
    ring
  · have hz : (data P G C).g b.val h.val t.val s.val = 0 := by
      show _ * weight (at3 P) b.val h.val t.val s.val = 0
      rw [weight_zero _ _ _ _ (by omega), mul_zero]
    rw [if_neg hs, if_neg hs, hz]
    simp

lemma at_dq (b : Fin 4) (h : Fin 8) (t : Fin 2048) (d : Fin 64) :
    val_main_v92 x0 x1 x2 (ix4 b h t d) = (((data P G C).dq b.val h.val t.val d.val : ℝ) : EReal) := by
  pointwise [val_main_v92]
  simp only [at_m hp hg hc, at_k hp, ← EReal.coe_mul, coe_sum]
  rw [Data.dq, Finset.sum_range]
  rfl

lemma at_dk (b : Fin 4) (h : Fin 8) (s : Fin 2048) (d : Fin 64) :
    val_main_v91 x0 x1 x2 (ix4 b h s d) = (((data P G C).dk b.val h.val s.val d.val : ℝ) : EReal) := by
  pointwise [val_main_v91]
  simp only [at_m hp hg hc, at_q hp, ← EReal.coe_mul, coe_sum]
  rw [Data.dk, Finset.sum_range]
  exact congrArg _ (Finset.sum_congr rfl fun t _ => mul_comm _ _)

lemma at_dv (b : Fin 4) (h : Fin 8) (s : Fin 2048) (d : Fin 64) :
    val_main_v74 x0 x1 x2 (ix4 b h s d) = (((data P G C).dv b.val h.val s.val d.val : ℝ) : EReal) := by
  pointwise [val_main_v74, val_main_v73]
  simp only [at_out hp hg hc, at_weight hp, ← EReal.coe_mul, coe_sum]
  rw [Data.dv, Finset.sum_range]
  rfl

lemma q_read (r : Fin 8192) (l : Fin 512) :
    val_main_v102 x0 x1 x2 (ix2 r l) = (((data P G C).dq (r.val / 2048) (l.val / 64) (r.val % 2048) (l.val % 64) : ℝ) : EReal) := by
  pointwise [val_main_v102, val_main_v101, val_main_v100, val_main_v99, val_main_v98, val_main_v97, val_main_v96, val_main_v93]
  rw [at_dq hp hg hc]

lemma k_read (r : Fin 8192) (l : Fin 512) :
    val_main_v104 x0 x1 x2 (ix2 r l) = (((data P G C).dk (r.val / 2048) (l.val / 64) (r.val % 2048) (l.val % 64) : ℝ) : EReal) := by
  pointwise [val_main_v104, val_main_v103, val_main_v100, val_main_v99, val_main_v98, val_main_v97, val_main_v96, val_main_v94]
  rw [at_dk hp hg hc]

lemma v_read (r : Fin 8192) (l : Fin 512) :
    val_main_v106 x0 x1 x2 (ix2 r l) = (((data P G C).dv (r.val / 2048) (l.val / 64) (r.val % 2048) (l.val % 64) : ℝ) : EReal) := by
  pointwise [val_main_v106, val_main_v105, val_main_v100, val_main_v99, val_main_v98, val_main_v97, val_main_v96, val_main_v95]
  rw [at_dv hp hg hc]

omit hg in
lemma at_gain (b : Fin 4) (t : Fin 2048) (l : Fin 512) :
    val_main_v51 x0 x2 (ix3 b t l) = (((data P G C).ct b.val t.val (512 + l.val) * (data P G C).nrm b.val t.val (l.val / 64) (l.val % 64) : ℝ) : EReal) := by
  pointwise [val_main_v51, val_main_v50, val_main_v46]
  rw [hc _ (show 512 ≤ 512 + l.val by omega), at_nrm (G := G) (C := C) hp, ← EReal.coe_mul, mul_comm]
  exact congrArg _ (congrArg (· * _) (at3_eq C _ rfl rfl rfl))

omit hg in
lemma g_read (o : Fin 1) (l : Fin 512) :
    val_main_v107 (F := Ideal) x0 x2 (ix2 o l) = (((data P G C).dg (l.val / 64) (l.val % 64) : ℝ) : EReal) := by
  have h0 : val_main_cst_6 (F := Ideal) (Shape.Idx.first h_S_) = 0 := Ideal.ofBits_zero_f32
  have h1 : val_main_cst_7 (F := Ideal) (Shape.Idx.first h_S_) = 0 := Ideal.ofBits_zero_f32
  pointwise [val_main_v107]
  unfold val_main_v56
  rw [Idealize.ShloMosaic.ValueIdx.hostReduceAdd_apply, h1, sum_rows]
  simp only [Finset.univ_unique, Finset.sum_singleton]
  pointwise [val_main_v53]
  unfold val_main_v52
  rw [Idealize.ShloMosaic.ValueIdx.hostReduceAdd_apply, h0, sum_rows]
  simp only [at_gain (G := G) hp hc, coe_sum]
  refine congrArg _ ?_
  unfold Data.dg
  rw [Finset.sum_range]
  refine Finset.sum_congr rfl fun k _ => ?_
  rw [Finset.sum_range]
  refine Finset.sum_congr rfl fun t _ => ?_
  rw [show l.val / 64 * 64 + l.val % 64 = l.val by omega]

end Norm

end Cert.SbRefIdeal.Reading

end
-- ==== Proof.SbClaims.lean ====
/-
  The claims about the stick-breaking attention's backward call.
-/
module

public import proofs.«01_k».proof.Defs
public import proofs.«01_k».proof.Proof.Gen.Sb.Frame
public import proofs.«01_k».proof.Proof.Gen.Pre_sb_finite
public import proofs.«01_k».proof.Proof.SbValue
public import proofs.«01_k».proof.Proof.SbReads
public import proofs.«01_k».proof.Proof.SbRefBack

@[expose] public section

noncomputable section

namespace Cert.Proof.Sb

open Idealize.ShloMosaic TcCoe Idealize.SL.Sem
open Cert.Reals Cert.Stick Cert.SbIdeal.Reading

lemma frame : Cert.quiescent_Sb := fun m ρ _ => Cert.Sb.Gen.frame m ρ

lemma frame_ideal : Cert.quiescent_SbIdeal := fun m ρ _ => Cert.SbIdeal.Gen.frame m ρ

lemma frame_ideal_pre : Cert.quiescent_SbIdeal_pre_sb_finite := fun m ρ _ => Cert.SbIdeal.Gen.frame m ρ

lemma frame_ref : Cert.quiescent_SbRefIdeal := fun m ρ _ =>
  (θ_run Cert.SbRefIdeal.defs _ _).mono
    (fun r h => ⟨fun c => (h c).2.2.2.2, sem_eq_zero_of_no_sems (by decide) r.2⟩)
    (Cert.SbRefIdeal.Value.run m ρ)

lemma frame_ref_pre : Cert.quiescent_SbRefIdeal_pre_sb_finite := fun m ρ _ => frame_ref m ρ trivial

/-- Arrays that pass the precondition hold real numbers in the columns that it looks at. -/
lemma finite_args (pj : FVec Ideal Cert.Pre_sb_finite.S4x2048x2560 .f32) (hg : FVec Ideal Cert.Pre_sb_finite.S1024 .f32)
    (ct : FVec Ideal Cert.Pre_sb_finite.S4x2048x1024 .f32)
    (h : Cert.Pre_sb_finite.fn pj hg ct = fun _ => 1#1) :
    (∃ P : Cert.Pre_sb_finite.S4x2048x2560.Idx → ℝ, ∀ i, 1024 ≤ (i 2).val → pj i = ((P i : ℝ) : EReal))
      ∧ (∃ G : Cert.Pre_sb_finite.S1024.Idx → ℝ, ∀ i, 512 ≤ (i 0).val → hg i = ((G i : ℝ) : EReal))
      ∧ ∃ C : Cert.Pre_sb_finite.S4x2048x1024.Idx → ℝ, ∀ i, 512 ≤ (i 2).val → ct i = ((C i : ℝ) : EReal) := by
  have e := congrFun h (fun i => i.elim0)
  dsimp only [Cert.Pre_sb_finite.fn] at e
  obtain ⟨e1, e3⟩ := IntOp.andi_eq_one.1 e
  obtain ⟨e1, e2⟩ := IntOp.andi_eq_one.1 e1
  haveI : Subsingleton (Cert.Pre_sb_finite.S_).Idx := ⟨fun a b => funext fun i => i.elim0⟩
  obtain ⟨p, hp⟩ := allReal_of_test e1
  obtain ⟨g, hg'⟩ := allReal_of_test e2
  obtain ⟨k, hk⟩ := allReal_of_test e3
  have real : ∀ {x : EReal} {r : ℝ}, x = (r : EReal) → x = ((x.toReal : ℝ) : EReal) := fun h => by rw [h, EReal.toReal_coe]
  refine ⟨⟨fun i => (pj i).toReal, fun i hi => ?_⟩, ⟨fun i => (hg i).toReal, fun i hi => ?_⟩, ⟨fun i => (ct i).toReal, fun i hi => ?_⟩⟩
  · have q := hp (ix3 (i 0) (i 1) ⟨(i 2).val - 1024, by have := (i 2).isLt; change (i 2).val < 2560 at this; omega⟩)
    pointwise at q
    have e : i = ix3 (i 0) (i 1) ⟨1024 + ((i 2).val - 1024), by have := (i 2).isLt; change (i 2).val < 2560 at this; omega⟩ :=
      Places.ext3 rfl rfl (show (i 2).val = 1024 + ((i 2).val - 1024) by omega)
    exact real ((congrArg pj e).trans q)
  · have q := hg' (ix1 ⟨(i 0).val - 512, by have := (i 0).isLt; change (i 0).val < 1024 at this; omega⟩)
    pointwise at q
    have e : i = ix1 ⟨512 + ((i 0).val - 512), by have := (i 0).isLt; change (i 0).val < 1024 at this; omega⟩ :=
      funext fun | ⟨0, _⟩ => Fin.ext (show (i 0).val = 512 + ((i 0).val - 512) by omega)
    exact real ((congrArg hg e).trans q)
  · have q := hk (ix3 (i 0) (i 1) ⟨(i 2).val - 512, by have := (i 2).isLt; change (i 2).val < 1024 at this; omega⟩)
    pointwise at q
    have e : i = ix3 (i 0) (i 1) ⟨512 + ((i 2).val - 512), by have := (i 2).isLt; change (i 2).val < 1024 at this; omega⟩ :=
      Places.ext3 rfl rfl (show (i 2).val = 512 + ((i 2).val - 512) by omega)
    exact real ((congrArg ct e).trans q)

/-- An array read place by place. -/
lemma mat_of {a b : ℕ} {x : (⟨2, ![a, b]⟩ : Shape).Idx → EReal} {f : Fin a → Fin b → ℝ} (h : ∀ r l, x (ix2 r l) = ((f r l : ℝ) : EReal)) : x = mat f := by
  funext z
  obtain ⟨r, l, rfl⟩ := is2 z
  exact h r l

lemma algebraic : Cert.algebraic_SbIdeal_SbRefIdeal_pre_sb_finite := fun m ρ m' ρ' hpre hag => by
  choose hp hg hc using fun c => finite_args _ _ _ (hpre c)
  choose P hp using hp
  choose G hg using hg
  choose C hc using hc
  have hR := fun c => reads (m := m) (c := c) (hp c) (hg c) (hc c)
  have hp' := fun (c : Dev Cert.SbRefIdeal.nD) i hi => (congrFun (hag c).1 i).trans (hp c i hi)
  have hg' := fun (c : Dev Cert.SbRefIdeal.nD) i hi => (congrFun (hag c).2.1 i).trans (hg c i hi)
  have hc' := fun (c : Dev Cert.SbRefIdeal.nD) i hi => (congrFun (hag c).2.2 i).trans (hc c i hi)
  exact ⟨fun c => mat (dqArr (data (P c) (G c) (C c))), fun c => mat (dkArr (data (P c) (G c) (C c))),
    fun c => mat (dvArr (data (P c) (G c) (C c))), fun c => mat (dgArr (data (P c) (G c) (C c))),
    (θ_run Cert.SbIdeal.defs _ _).mono
      (fun _ h c => ⟨(h c).1.trans (final8 (hR c)), (h c).2.1.trans (final9 (hR c)), (h c).2.2.1.trans (final10 (hR c)),
        (h c).2.2.2.1.trans (final11 (hR c)), (h c).2.2.2.2⟩)
      (Cert.SbIdeal.Value.run_blocks m ρ),
    (θ_run Cert.SbRefIdeal.defs _ _).mono
      (fun _ h c => ⟨(h c).1.trans ((Cert.SbRefIdeal.Read.val_main_v102_eq _).trans (mat_of (Cert.SbRefIdeal.Reading.q_read (hp' c) (hg' c) (hc' c)))),
        (h c).2.1.trans ((Cert.SbRefIdeal.Read.val_main_v104_eq _).trans (mat_of (Cert.SbRefIdeal.Reading.k_read (hp' c) (hg' c) (hc' c)))),
        (h c).2.2.1.trans ((Cert.SbRefIdeal.Read.val_main_v106_eq _).trans (mat_of (Cert.SbRefIdeal.Reading.v_read (hp' c) (hg' c) (hc' c)))),
        (h c).2.2.2.1.trans ((Cert.SbRefIdeal.Read.val_main_v107_eq _).trans (mat_of (Cert.SbRefIdeal.Reading.g_read (G := G c) (hp' c) (hc' c)))),
        (h c).2.2.2.2⟩)
      (Cert.SbRefIdeal.Value.run m' ρ')⟩

end Cert.Proof.Sb

end
-- ==== Proof.GmlpSpec.lean ====
/-
  The gradients of the spatial gating unit over the reals, one chunk of 128 positions and one group of 128 columns at a time:
  what the backward call and its reference both compute.
-/
module

public import proofs.«01_k».proof.Proof.SbNorm

@[expose] public section

noncomputable section

namespace Cert.Gate

open Cert.Stick (eps eps_pos)

/-- The tanh approximation's factor, the square root of 2/π as the programs write it. -/
def root : ℝ := (Idealize.ShloMosaic.Ideal.ofBits .f32 0x3F4C422A#32 : EReal).toReal

lemma root_eq : (Idealize.ShloMosaic.Ideal.ofBits .f32 0x3F4C422A#32 : EReal) = ((root : ℝ) : EReal) := by
  unfold root
  simp [Idealize.ShloMosaic.Ideal.ofBits, Idealize.ShloMosaic.Ideal.ieee, -EReal.coe_mul]

/-- The hyperbolic tangent inside gelu. -/
def th (x : ℝ) : ℝ := Real.tanh (root * (x + 8943 / 200000 * x * x * x))

/-- The factor that gelu multiplies its argument by. -/
def half (x : ℝ) : ℝ := 1 / 2 * (1 + th x)

def gelu (x : ℝ) : ℝ := x * half x

/-- The derivative of gelu. -/
def slope (x : ℝ) : ℝ := half x + 1 / 2 * x * (1 - th x * th x) * root * (1 + 26829 / 200000 * x * x)

/-- What a chunk reads of one group: the two halves before gelu and the incoming gradient by position and column, the mixing
    weights by position and position, the bias by position, the two gains by column. -/
structure Chunk where
  U : Fin 128 → Fin 128 → ℝ
  V : Fin 128 → Fin 128 → ℝ
  M : Fin 128 → Fin 128 → ℝ
  W : Fin 128 → Fin 128 → ℝ
  b : Fin 128 → ℝ
  gv : Fin 128 → ℝ
  hg : Fin 128 → ℝ

namespace Chunk

variable (C : Chunk)

/-- The mixing weights at and below the diagonal. -/
def w (t s : Fin 128) : ℝ := if s.val ≤ t.val then C.W t s else 0

def msv (s : Fin 128) : ℝ := (∑ d, gelu (C.V s d) * gelu (C.V s d)) / 128 + eps
def rv (s : Fin 128) : ℝ := (√(C.msv s))⁻¹
def xh (s d : Fin 128) : ℝ := gelu (C.V s d) * C.rv s
def vn (s d : Fin 128) : ℝ := C.xh s d * C.gv d
def mix (t d : Fin 128) : ℝ := (∑ s, C.w t s * C.vn s d) + C.b t
def gated (t d : Fin 128) : ℝ := gelu (C.U t d) * C.mix t d
def msg (t : Fin 128) : ℝ := (∑ d, C.gated t d * C.gated t d) / 128 + eps
def rg (t : Fin 128) : ℝ := (√(C.msg t))⁻¹
def an (t d : Fin 128) : ℝ := C.gated t d * C.rg t
def dan (t d : Fin 128) : ℝ := C.M t d * C.hg d
/-- The gradient at the gated values. -/
def dg (t d : Fin 128) : ℝ := C.rg t * (C.dan t d - C.an t d * ((∑ e, C.dan t e * C.an t e) / 128))
/-- The gradient at the mixed values. -/
def dmix (t d : Fin 128) : ℝ := C.dg t d * gelu (C.U t d)
def du (t d : Fin 128) : ℝ := C.dg t d * C.mix t d * slope (C.U t d)
/-- The gradient at the normed values. -/
def dvn (s d : Fin 128) : ℝ := ∑ t, C.w t s * C.dmix t d
def dxh (s d : Fin 128) : ℝ := C.dvn s d * C.gv d
def dv (s d : Fin 128) : ℝ := C.rv s * (C.dxh s d - C.xh s d * ((∑ e, C.dxh s e * C.xh s e) / 128)) * slope (C.V s d)
def dw (t s : Fin 128) : ℝ := ∑ d, C.dmix t d * C.vn s d
def dgv (d : Fin 128) : ℝ := ∑ s, C.dvn s d * C.xh s d
def dhg (d : Fin 128) : ℝ := ∑ t, C.M t d * C.an t d

lemma msv_pos (s : Fin 128) : 0 < C.msv s :=
  add_pos_of_nonneg_of_pos (div_nonneg (Finset.sum_nonneg fun _ _ => mul_self_nonneg _) (by norm_num)) eps_pos

lemma msg_pos (t : Fin 128) : 0 < C.msg t :=
  add_pos_of_nonneg_of_pos (div_nonneg (Finset.sum_nonneg fun _ _ => mul_self_nonneg _) (by norm_num)) eps_pos

end Chunk

/-- What one group reads over several chunks. -/
structure Group where
  U : ℕ → Fin 128 → Fin 128 → ℝ
  V : ℕ → Fin 128 → Fin 128 → ℝ
  M : ℕ → Fin 128 → Fin 128 → ℝ
  W : Fin 128 → Fin 128 → ℝ
  b : Fin 128 → ℝ
  gv : Fin 128 → ℝ
  hg : Fin 128 → ℝ

def Group.chunk (G : Group) (j : ℕ) : Chunk := ⟨G.U j, G.V j, G.M j, G.W, G.b, G.gv, G.hg⟩

/-- Chunks one below the other. -/
def up (f : ℕ → Fin 128 → Fin 128 → ℝ) (r : Fin 512) (d : Fin 128) : ℝ := f (r.val / 128) ⟨r.val % 128, by omega⟩ d

lemma up_at (f : ℕ → Fin 128 → Fin 128 → ℝ) {j o : ℕ} (ho : o = 128 * j) (t d : Fin 128) (h : o + t.val < 512) :
    up f ⟨o + t.val, h⟩ d = f j t d := by
  have h1 : (o + t.val) / 128 = j := by omega
  have h2 : (o + t.val) % 128 = t.val := by omega
  unfold up
  simp only [h1, h2]

/-- What the backward call reads: the columns before gelu and the incoming gradient by row and column, the weights by group and
    two positions, the bias by position and group, the gains by column. -/
structure Data where
  X : ℕ → ℕ → ℝ
  M : ℕ → ℕ → ℝ
  W : ℕ → ℕ → ℕ → ℝ
  b : ℕ → ℕ → ℝ
  gv : ℕ → ℝ
  hg : ℕ → ℝ

namespace Data

variable (D : Data)

/-- Chunk `k` of group `g`. -/
def chunk (g k : ℕ) : Chunk where
  U t d := D.X (128 * k + t.val) (128 * g + d.val)
  V t d := D.X (128 * k + t.val) (512 + (128 * g + d.val))
  M t d := D.M (128 * k + t.val) (128 * g + d.val)
  W t s := D.W g t.val s.val
  b t := D.b t.val g
  gv d := D.gv (128 * g + d.val)
  hg d := D.hg (128 * g + d.val)

/-- The four chunks that point `n` reads of group `g`. -/
def group (g n : ℕ) : Group where
  U j := (D.chunk g (4 * n + j)).U
  V j := (D.chunk g (4 * n + j)).V
  M j := (D.chunk g (4 * n + j)).M
  W := (D.chunk g 0).W
  b := (D.chunk g 0).b
  gv := (D.chunk g 0).gv
  hg := (D.chunk g 0).hg

/-- A place within its run of 128. -/
def lane (x : ℕ) : Fin 128 := ⟨x % 128, by omega⟩

/-- The gradient at the columns before gelu: the gating half, then the mixed half. -/
def dp (r l : ℕ) : ℝ :=
  if l < 512 then (D.chunk (l / 128) (r / 128)).du (lane r) (lane l) else (D.chunk ((l - 512) / 128) (r / 128)).dv (lane r) (lane l)

/-- What the first `n` chunks give to the weights, to the bias (column by column), and to the two gains. -/
def dwTo (n g : ℕ) (t s : Fin 128) : ℝ := ∑ k ∈ Finset.range n, (D.chunk g k).dw t s
def dbTo (n g : ℕ) (t d : Fin 128) : ℝ := ∑ k ∈ Finset.range n, (D.chunk g k).dmix t d
def dgvTo (n l : ℕ) : ℝ := ∑ k ∈ Finset.range n, (D.chunk (l / 128) k).dgv (lane l)
def dhgTo (n l : ℕ) : ℝ := ∑ k ∈ Finset.range n, (D.chunk (l / 128) k).dhg (lane l)

/-- The gradients of all 64 chunks. -/
def dw (g : ℕ) (t s : Fin 128) : ℝ := if s.val ≤ t.val then D.dwTo 64 g t s else 0
def db (t : Fin 128) (g : ℕ) : ℝ := ∑ d, D.dbTo 64 g t d

end Data

/-- Four more terms of a sum. -/
lemma more (f : ℕ → ℝ) (n : ℕ) : ∑ k ∈ Finset.range (4 * (n + 1)), f k = ∑ k ∈ Finset.range (4 * n), f k + ∑ j : Fin 4, f (4 * n + j.val) := by
  rw [Fin.sum_univ_eq_sum_range (fun j => f (4 * n + j)) 4, Nat.mul_succ, Finset.sum_range_add]

end Cert.Gate

end
-- ==== Proof.GmlpPay.lean ====
/-
  The spatial gating unit's backward call on one group of columns, four chunks at a time: the call's arithmetic on what it
  loads for the group, chunk by chunk.
-/
module

public import proofs.«01_k».proof.Proof.Gen.GmlpIdeal.Skeleton
public import proofs.«01_k».proof.Proof.GmlpSpec

@[expose] public section

noncomputable section

namespace Cert.GmlpIdeal.Pay

open Cert.GmlpIdeal Gen Idealize.ShloMosaic TcCoe
open Cert.Reals Cert.Gate

/-- What the call loads for a group. -/
structure Loads where
  w : Vec Ideal S1x128x128 .f32
  u : Vec Ideal S512x128 .bf16
  v : Vec Ideal S512x128 .bf16
  gv : Vec Ideal S1x128 .f32
  hg : Vec Ideal S1x128 .f32
  b : Vec Ideal S128x1 .f32
  m : Vec Ideal S512x128 .bf16

/-- Chunk `j` of 512 rows. -/
def part {φ : FTy} (x : FVec Ideal S512x128 φ) : Fin 4 → FVec Ideal S128x128 φ
  | 0 => extractStridedSlice S128x128 ![0, 0] x slices_S512x128_o0_0_S128x128
  | 1 => extractStridedSlice S128x128 ![128, 0] x slices_S512x128_o128_0_S128x128
  | 2 => extractStridedSlice S128x128 ![256, 0] x slices_S512x128_o256_0_S128x128
  | 3 => extractStridedSlice S128x128 ![384, 0] x slices_S512x128_o384_0_S128x128

/-- One over each row's root mean square. -/
def inv (x : FVec Ideal S128x128 .f32) : FVec Ideal S128x1 .f32 :=
  rsqrt (addf (divf (shapeCast S128x1 (multiReduction .add [1] S128 (mulf x x) 0x00000000#32 reduces_S128x128_S128 (.inl rfl) rfl) shapeCasts_S128_S128x1)
    (broadcast S128x1 (Scalar.ofBits .f32 0x43000000#32))) (broadcast S128x1 (Scalar.ofBits .f32 0x358637BD#32)))

/-- Each row over its root mean square. -/
def normed (x : FVec Ideal S128x128 .f32) : FVec Ideal S128x128 .f32 := mulf x (broadcastTo S128x128 (inv x) broadcasts_S128x1_S128x128)

/-- The gradient at `x` from the gradient at its normed rows. -/
def back (x g : FVec Ideal S128x128 .f32) : FVec Ideal S128x128 .f32 :=
  mulf (broadcastTo S128x128 (inv x) broadcasts_S128x1_S128x128) (subf g (mulf (normed x) (broadcastTo S128x128
    (divf (shapeCast S128x1 (multiReduction .add [1] S128 (mulf g (normed x)) 0x00000000#32 reduces_S128x128_S128 (.inl rfl) rfl) shapeCasts_S128_S128x1)
      (broadcast S128x1 (Scalar.ofBits .f32 0x43000000#32))) broadcasts_S128x1_S128x128)))

namespace Loads

variable (L : Loads)

def wt : FVec Ideal S128x128 .bf16 := k0_pay11 L.w
def act : FVec Ideal S512x128 .f32 := k0_pay15 L.u
def xh : FVec Ideal S512x128 .f32 := k0_pay24 L.v
def vn : FVec Ideal S512x128 .bf16 := k0_pay27 L.xh (k0_pay25 L.gv)

def mix (j : Fin 4) : FVec Ideal S128x128 .f32 :=
  addf (matmul dot_S128x128_S128x128_S128x128_1_0_0_1_n_n none L.wt (part L.vn j) (constant S128x128 .f32 0x00000000#32))
    (broadcastTo S128x128 (k0_pay28 L.b) broadcasts_S128x1_S128x128)

def gated (j : Fin 4) : FVec Ideal S128x128 .f32 := mulf (part L.act j) (L.mix j)

def dg (j : Fin 4) : FVec Ideal S128x128 .f32 :=
  back (L.gated j) (mulf (part (k0_pay29 L.m) j) (broadcastTo S128x128 (k0_pay26 L.hg) broadcasts_S1x128_S128x128))

def dmix (j : Fin 4) : FVec Ideal S128x128 .f32 := mulf (L.dg j) (part L.act j)
def dmixb (j : Fin 4) : FVec Ideal S128x128 .bf16 := truncf .bf16 (L.dmix j) bitsLt_bf16_f32

/-- Four chunks one below the other. -/
def stack (x : Fin 4 → FVec Ideal S128x128 .f32) : FVec Ideal S512x128 .f32 :=
  concatenate S512x128 0 [⟨S128x128, x 0⟩, ⟨S128x128, x 1⟩, ⟨S128x128, x 2⟩, ⟨S128x128, x 3⟩] concatenates_S128x128_S128x128_S128x128_S128x128_S512x128_d0

def dvn : FVec Ideal S512x128 .f32 :=
  stack fun j => matmul dot_S128x128_S128x128_S128x128_0_0_1_1_n_n none L.wt (L.dmixb j) (constant S128x128 .f32 0x00000000#32)

def du : FVec Ideal S512x128 .bf16 := k0_pay74 (k0_pay17 (k0_pay14 L.u) (k0_pay16 L.u)) (stack fun j => mulf (L.dg j) (L.mix j))
def dv : FVec Ideal S512x128 .bf16 := k0_pay75 (k0_pay22 L.v) (k0_pay73 (k0_pay23 L.v) L.xh (k0_pay25 L.gv) L.dvn)
def dw (acc : Vec Ideal S1x128x128 .f32) : FVec Ideal S1x128x128 .f32 := k0_pay67 L.vn (L.dmixb 0) (L.dmixb 1) (L.dmixb 2) (L.dmixb 3) acc
def db (acc : Vec Ideal S1x128x128 .f32) : FVec Ideal S1x128x128 .f32 := k0_pay68 (L.dmix 0) (L.dmix 1) (L.dmix 2) (L.dmix 3) acc
def dhg (acc : Vec Ideal S1x128 .f32) : FVec Ideal S1x128 .f32 :=
  k0_pay71 (k0_pay29 L.m) (normed (L.gated 1)) (normed (L.gated 2)) (normed (L.gated 3)) (k0_pay69 acc) (k0_pay70 (k0_pay29 L.m) (normed (L.gated 0)))
def dgv (acc : Vec Ideal S1x128 .f32) : FVec Ideal S1x128 .f32 := k0_pay72 L.xh L.dvn acc

end Loads

end Cert.GmlpIdeal.Pay

end
-- ==== Proof.GmlpPoint.lean ====
/-
  What one grid point of the spatial gating unit's backward call leaves.
-/
module

public import proofs.«01_k».proof.Proof.Gen.GmlpIdeal.Frame
public import proofs.«01_k».proof.Proof.GmlpPay

@[expose] public section

set_option maxRecDepth 16384

noncomputable section

namespace Cert.GmlpIdeal.Pay

open Cert.GmlpIdeal Gen Idealize.ShloMosaic TcCoe
open Cert.Reals Cert.Gate

variable (m : (ℓ : Loc nD τ sig) → Buf (Elt Ideal) ℓ) (c : Dev nD)

/-- What point `t` loads for each group. -/
def loads (t : Fin cfg0.N) : Fin 4 → Loads
  | 0 => ⟨View.ld (iblk m c 3 t) (Rect.unit (s := S4x128x128) ![0, 0, 0] S1x128x128.size inb_S4x128x128_S1x128x128_0_0_0),
      View.ld (iblk m c 0 t) (Rect.unit (s := S512x512) ![0, 0] S512x128.size inb_S512x512_S512x128_0_0),
      View.ld (iblk m c 1 t) (Rect.unit (s := S512x512) ![0, 0] S512x128.size inb_S512x512_S512x128_0_0),
      View.ld (iblk m c 5 t) (Rect.unit (s := S1x512) ![0, 0] S1x128.size inb_S1x512_S1x128_0_0),
      View.ld (iblk m c 6 t) (Rect.unit (s := S1x512) ![0, 0] S1x128.size inb_S1x512_S1x128_0_0),
      View.ld (iblk m c 4 t) (Rect.unit (s := S128x4) ![0, 0] S128x1.size inb_S128x4_S128x1_0_0),
      View.ld (iblk m c 2 t) (Rect.unit (s := S512x512) ![0, 0] S512x128.size inb_S512x512_S512x128_0_0)⟩
  | 1 => ⟨View.ld (iblk m c 3 t) (Rect.unit (s := S4x128x128) ![1, 0, 0] S1x128x128.size inb_S4x128x128_S1x128x128_1_0_0),
      View.ld (iblk m c 0 t) (Rect.unit (s := S512x512) ![0, 128] S512x128.size inb_S512x512_S512x128_0_128),
      View.ld (iblk m c 1 t) (Rect.unit (s := S512x512) ![0, 128] S512x128.size inb_S512x512_S512x128_0_128),
      View.ld (iblk m c 5 t) (Rect.unit (s := S1x512) ![0, 128] S1x128.size inb_S1x512_S1x128_0_128),
      View.ld (iblk m c 6 t) (Rect.unit (s := S1x512) ![0, 128] S1x128.size inb_S1x512_S1x128_0_128),
      View.ld (iblk m c 4 t) (Rect.unit (s := S128x4) ![0, 1] S128x1.size inb_S128x4_S128x1_0_1),
      View.ld (iblk m c 2 t) (Rect.unit (s := S512x512) ![0, 128] S512x128.size inb_S512x512_S512x128_0_128)⟩
  | 2 => ⟨View.ld (iblk m c 3 t) (Rect.unit (s := S4x128x128) ![2, 0, 0] S1x128x128.size inb_S4x128x128_S1x128x128_2_0_0),
      View.ld (iblk m c 0 t) (Rect.unit (s := S512x512) ![0, 256] S512x128.size inb_S512x512_S512x128_0_256),
      View.ld (iblk m c 1 t) (Rect.unit (s := S512x512) ![0, 256] S512x128.size inb_S512x512_S512x128_0_256),
      View.ld (iblk m c 5 t) (Rect.unit (s := S1x512) ![0, 256] S1x128.size inb_S1x512_S1x128_0_256),
      View.ld (iblk m c 6 t) (Rect.unit (s := S1x512) ![0, 256] S1x128.size inb_S1x512_S1x128_0_256),
      View.ld (iblk m c 4 t) (Rect.unit (s := S128x4) ![0, 2] S128x1.size inb_S128x4_S128x1_0_2),
      View.ld (iblk m c 2 t) (Rect.unit (s := S512x512) ![0, 256] S512x128.size inb_S512x512_S512x128_0_256)⟩
  | 3 => ⟨View.ld (iblk m c 3 t) (Rect.unit (s := S4x128x128) ![3, 0, 0] S1x128x128.size inb_S4x128x128_S1x128x128_3_0_0),
      View.ld (iblk m c 0 t) (Rect.unit (s := S512x512) ![0, 384] S512x128.size inb_S512x512_S512x128_0_384),
      View.ld (iblk m c 1 t) (Rect.unit (s := S512x512) ![0, 384] S512x128.size inb_S512x512_S512x128_0_384),
      View.ld (iblk m c 5 t) (Rect.unit (s := S1x512) ![0, 384] S1x128.size inb_S1x512_S1x128_0_384),
      View.ld (iblk m c 6 t) (Rect.unit (s := S1x512) ![0, 384] S1x128.size inb_S1x512_S1x128_0_384),
      View.ld (iblk m c 4 t) (Rect.unit (s := S128x4) ![0, 3] S128x1.size inb_S128x4_S128x1_0_3),
      View.ld (iblk m c 2 t) (Rect.unit (s := S512x512) ![0, 384] S512x128.size inb_S512x512_S512x128_0_384)⟩

/-- The gradient at the two halves, as the point stores it. -/
def piecesDp (L : Fin 4 → Loads) : List (View.Piece (Elt Ideal) S512x1024 .bf16) := [
  ⟨Rect.unit (s := S512x1024) ![0, 896] S512x128.size inb_S512x1024_S512x128_0_896, (L 3).dv⟩,
  ⟨Rect.unit (s := S512x1024) ![0, 384] S512x128.size inb_S512x1024_S512x128_0_384, (L 3).du⟩,
  ⟨Rect.unit (s := S512x1024) ![0, 768] S512x128.size inb_S512x1024_S512x128_0_768, (L 2).dv⟩,
  ⟨Rect.unit (s := S512x1024) ![0, 256] S512x128.size inb_S512x1024_S512x128_0_256, (L 2).du⟩,
  ⟨Rect.unit (s := S512x1024) ![0, 640] S512x128.size inb_S512x1024_S512x128_0_640, (L 1).dv⟩,
  ⟨Rect.unit (s := S512x1024) ![0, 128] S512x128.size inb_S512x1024_S512x128_0_128, (L 1).du⟩,
  ⟨Rect.unit (s := S512x1024) ![0, 512] S512x128.size inb_S512x1024_S512x128_0_512, (L 0).dv⟩,
  ⟨Rect.unit (s := S512x1024) ![0, 0] S512x128.size inb_S512x1024_S512x128_0_0, (L 0).du⟩]

/-- Four planes, one per group. -/
def planes (f : Fin 4 → FVec Ideal S1x128x128 .f32) : List (View.Piece (Elt Ideal) S4x128x128 .f32) := [
  ⟨Rect.unit (s := S4x128x128) ![3, 0, 0] S1x128x128.size inb_S4x128x128_S1x128x128_3_0_0, f 3⟩,
  ⟨Rect.unit (s := S4x128x128) ![2, 0, 0] S1x128x128.size inb_S4x128x128_S1x128x128_2_0_0, f 2⟩,
  ⟨Rect.unit (s := S4x128x128) ![1, 0, 0] S1x128x128.size inb_S4x128x128_S1x128x128_1_0_0, f 1⟩,
  ⟨Rect.unit (s := S4x128x128) ![0, 0, 0] S1x128x128.size inb_S4x128x128_S1x128x128_0_0_0, f 0⟩]

/-- Four runs of columns, one per group. -/
def strips (f : Fin 4 → FVec Ideal S1x128 .f32) : List (View.Piece (Elt Ideal) S1x512 .f32) := [
  ⟨Rect.unit (s := S1x512) ![0, 384] S1x128.size inb_S1x512_S1x128_0_384, f 3⟩,
  ⟨Rect.unit (s := S1x512) ![0, 256] S1x128.size inb_S1x512_S1x128_0_256, f 2⟩,
  ⟨Rect.unit (s := S1x512) ![0, 128] S1x128.size inb_S1x512_S1x128_0_128, f 1⟩,
  ⟨Rect.unit (s := S1x512) ![0, 0] S1x128.size inb_S1x512_S1x128_0_0, f 0⟩]

/-- A group's plane. -/
def plane (x : Vec Ideal S4x128x128 .f32) : Fin 4 → Vec Ideal S1x128x128 .f32
  | 0 => View.ld x (Rect.unit (s := S4x128x128) ![0, 0, 0] S1x128x128.size inb_S4x128x128_S1x128x128_0_0_0)
  | 1 => View.ld x (Rect.unit (s := S4x128x128) ![1, 0, 0] S1x128x128.size inb_S4x128x128_S1x128x128_1_0_0)
  | 2 => View.ld x (Rect.unit (s := S4x128x128) ![2, 0, 0] S1x128x128.size inb_S4x128x128_S1x128x128_2_0_0)
  | 3 => View.ld x (Rect.unit (s := S4x128x128) ![3, 0, 0] S1x128x128.size inb_S4x128x128_S1x128x128_3_0_0)

/-- A group's columns. -/
def strip (x : Vec Ideal S1x512 .f32) : Fin 4 → Vec Ideal S1x128 .f32
  | 0 => View.ld x (Rect.unit (s := S1x512) ![0, 0] S1x128.size inb_S1x512_S1x128_0_0)
  | 1 => View.ld x (Rect.unit (s := S1x512) ![0, 128] S1x128.size inb_S1x512_S1x128_0_128)
  | 2 => View.ld x (Rect.unit (s := S1x512) ![0, 256] S1x128.size inb_S1x512_S1x128_0_256)
  | 3 => View.ld x (Rect.unit (s := S1x512) ![0, 384] S1x128.size inb_S1x512_S1x128_0_384)

/-- One column per group: the row sums of a plane. -/
def columns (f : Fin 4 → FVec Ideal S128x1 .f32) : List (View.Piece (Elt Ideal) S128x4 .f32) := [
  ⟨Rect.unit (s := S128x4) ![0, 3] S128x1.size inb_S128x4_S128x1_0_3, f 3⟩,
  ⟨Rect.unit (s := S128x4) ![0, 2] S128x1.size inb_S128x4_S128x1_0_2, f 2⟩,
  ⟨Rect.unit (s := S128x4) ![0, 1] S128x1.size inb_S128x4_S128x1_0_1, f 1⟩,
  ⟨Rect.unit (s := S128x4) ![0, 0] S128x1.size inb_S128x4_S128x1_0_0, f 0⟩]

/-- The four results that gather over the points, from what they held, over the pieces `rest` stored earlier at the point. -/
def dwAt (L : Fin 4 → Loads) (x : Vec Ideal S4x128x128 .f32) (rest : List (View.Piece (Elt Ideal) S4x128x128 .f32)) : Vec Ideal S4x128x128 .f32 :=
  View.canon (planes (fun g => (L g).dw (plane x g)) ++ rest)
def dbAt (L : Fin 4 → Loads) (x : Vec Ideal S4x128x128 .f32) (rest : List (View.Piece (Elt Ideal) S4x128x128 .f32)) : Vec Ideal S4x128x128 .f32 :=
  View.canon (planes (fun g => (L g).db (plane x g)) ++ rest)
def dgvAt (L : Fin 4 → Loads) (x : Vec Ideal S1x512 .f32) (rest : List (View.Piece (Elt Ideal) S1x512 .f32)) : Vec Ideal S1x512 .f32 :=
  View.canon (strips (fun g => (L g).dgv (strip x g)) ++ rest)
def dhgAt (L : Fin 4 → Loads) (x : Vec Ideal S1x512 .f32) (rest : List (View.Piece (Elt Ideal) S1x512 .f32)) : Vec Ideal S1x512 .f32 :=
  View.canon (strips (fun g => (L g).dhg (strip x g)) ++ rest)

/-- The gathered weights' gradient kept at and below the diagonal. -/
def kept (L : Fin 4 → Loads) (x : Vec Ideal S4x128x128 .f32) : Vec Ideal S4x128x128 .f32 :=
  View.canon (planes (fun g => k0_pay1 k0_pay6 ((L g).dw (plane x g))) ++ planes fun g => (L g).dw (plane x g))

/-- The row sums of the four gathered planes. -/
def sums (L : Fin 4 → Loads) (x : Vec Ideal S4x128x128 .f32) : Vec Ideal S128x4 .f32 :=
  View.canon (columns fun g => k0_pay2 ((L g).db (plane x g)))

/-- Zero everywhere, the first point's store. -/
def blank3 : View.Piece (Elt Ideal) S4x128x128 .f32 :=
  ⟨Rect.unit (s := S4x128x128) ![0, 0, 0] S4x128x128.size inb_S4x128x128_S4x128x128_0_0_0, k0_pay7 (F := Ideal)⟩
def blank2 : View.Piece (Elt Ideal) S1x512 .f32 := ⟨Rect.unit (s := S1x512) ![0, 0] S1x512.size inb_S1x512_S1x512_0_0, k0_pay9 (F := Ideal)⟩

/-- The first point starts the gathering from zero. -/
lemma outs_A (t : Fin cfg0.N) (h0 : t.val % 16 = 0) (h1 : ¬t.val % 16 = 15) :
    (outsAt0 m c t.val t.isLt).1 = View.canon (piecesDp (loads m c t)) ∧
    (outsAt0 m c t.val t.isLt).2.1 = dwAt (loads m c t) (k0_pay7 (F := Ideal)) [blank3] ∧
    (outsAt0 m c t.val t.isLt).2.2.2.1 = dgvAt (loads m c t) (k0_pay9 (F := Ideal)) [blank2] ∧
    (outsAt0 m c t.val t.isLt).2.2.2.2.1 = dhgAt (loads m c t) (k0_pay9 (F := Ideal)) [blank2] ∧
    (outsAt0 m c t.val t.isLt).2.2.2.2.2 = dbAt (loads m c t) (k0_pay7 (F := Ideal)) [blank3] := by
  rw [outsAt0_A m c t h0 h1]
  frame_open
  refine ⟨?_, ?_, ?_, ?_, ?_⟩ <;>
  · simp (disch := decide) only [↓ View.readCov_skip, ↓ View.readCov_cons_toLoadRect, ↓ View.readCov_fill]
    frame_out
    try simp only [read_unread_whole]
    sl_kernel_rfl

/-- A point in the middle adds to what was gathered. -/
lemma outs_B (t : Fin cfg0.N) (h0 : ¬t.val % 16 = 0) (h1 : ¬t.val % 16 = 15) :
    (outsAt0 m c t.val t.isLt).1 = View.canon (piecesDp (loads m c t)) ∧
    (outsAt0 m c t.val t.isLt).2.1 = dwAt (loads m c t) (outsAt0 m c (t.val - 1) (Nat.lt_of_le_of_lt (Nat.sub_le _ _) t.isLt)).2.1 [] ∧
    (outsAt0 m c t.val t.isLt).2.2.2.1 = dgvAt (loads m c t) (outsAt0 m c (t.val - 1) (Nat.lt_of_le_of_lt (Nat.sub_le _ _) t.isLt)).2.2.2.1 [] ∧
    (outsAt0 m c t.val t.isLt).2.2.2.2.1 = dhgAt (loads m c t) (outsAt0 m c (t.val - 1) (Nat.lt_of_le_of_lt (Nat.sub_le _ _) t.isLt)).2.2.2.2.1 [] ∧
    (outsAt0 m c t.val t.isLt).2.2.2.2.2 = dbAt (loads m c t) (outsAt0 m c (t.val - 1) (Nat.lt_of_le_of_lt (Nat.sub_le _ _) t.isLt)).2.2.2.2.2 [] := by
  rw [outsAt0_B m c t h0 h1]
  frame_open
  refine ⟨?_, ?_, ?_, ?_, ?_⟩ <;>
  · simp (disch := decide) only [↓ View.readCov_skip, ↓ View.readCov_cons_toLoadRect, ↓ View.readCov_fill]
    frame_out
    try simp only [read_unread_whole]
    sl_kernel_rfl

/-- The last point adds, masks the gathered weights and sums the gathered rows. -/
lemma outs_C (t : Fin cfg0.N) (h0 : ¬t.val % 16 = 0) (h1 : t.val % 16 = 15) :
    (outsAt0 m c t.val t.isLt).1 = View.canon (piecesDp (loads m c t)) ∧
    (outsAt0 m c t.val t.isLt).2.1 = kept (loads m c t) (outsAt0 m c (t.val - 1) (Nat.lt_of_le_of_lt (Nat.sub_le _ _) t.isLt)).2.1 ∧
    (outsAt0 m c t.val t.isLt).2.2.1 = sums (loads m c t) (outsAt0 m c (t.val - 1) (Nat.lt_of_le_of_lt (Nat.sub_le _ _) t.isLt)).2.2.2.2.2 ∧
    (outsAt0 m c t.val t.isLt).2.2.2.1 = dgvAt (loads m c t) (outsAt0 m c (t.val - 1) (Nat.lt_of_le_of_lt (Nat.sub_le _ _) t.isLt)).2.2.2.1 [] ∧
    (outsAt0 m c t.val t.isLt).2.2.2.2.1 = dhgAt (loads m c t) (outsAt0 m c (t.val - 1) (Nat.lt_of_le_of_lt (Nat.sub_le _ _) t.isLt)).2.2.2.2.1 [] ∧
    (outsAt0 m c t.val t.isLt).2.2.2.2.2 = dbAt (loads m c t) (outsAt0 m c (t.val - 1) (Nat.lt_of_le_of_lt (Nat.sub_le _ _) t.isLt)).2.2.2.2.2 [] := by
  rw [outsAt0_C m c t h0 h1]
  frame_open
  refine ⟨?_, ?_, ?_, ?_, ?_, ?_⟩ <;>
  · simp (disch := decide) only [↓ View.readCov_skip, ↓ View.readCov_cons_toLoadRect, ↓ View.readCov_fill]
    frame_out
    try simp only [read_unread_whole]
    sl_kernel_rfl

end Cert.GmlpIdeal.Pay

end
-- ==== Proof.GmlpRows.lean ====
/-
  The spatial gating unit's backward call on one group of columns, over the reals: each quantity of a point's four chunks.
-/
module

public import proofs.«01_k».proof.Proof.GmlpPay

@[expose] public section

noncomputable section

namespace Cert.GmlpIdeal.Pay

open Cert.GmlpIdeal Gen Idealize.ShloMosaic TcCoe
open Cert.Reals Cert.Gate
open Cert.Stick (eps eps_eq eps_pos rsqrt_pos)

lemma one_f32 : (Ideal.ofBits .f32 0x3F800000#32 : EReal) = ((1 : ℝ) : EReal) := by
  simp [Ideal.ofBits, Ideal.ieee, -EReal.coe_mul]; norm_num

lemma half_f32 : (Ideal.ofBits .f32 0x3F000000#32 : EReal) = ((1 / 2 : ℝ) : EReal) := by
  simp [Ideal.ofBits, Ideal.ieee, -EReal.coe_mul]; norm_num

lemma size_f32 : (Ideal.ofBits .f32 0x43000000#32 : EReal) = ((128 : ℝ) : EReal) := by
  simp [Ideal.ofBits, Ideal.ieee, -EReal.coe_mul]; norm_num

lemma cubic_eq (b : BitVec FTy.f32.bits) : (Named.named (F := Ideal) κ "cubic" b : EReal) = ((8943 / 200000 : ℝ) : EReal) := rfl
lemma three_cubic_eq (b : BitVec FTy.f32.bits) : (Named.named (F := Ideal) κ "three_cubic" b : EReal) = ((26829 / 200000 : ℝ) : EReal) := rfl

/-! ## Gelu and its slope -/

section Rows

variable {X : Fin 512 → Fin 128 → ℝ}

lemma pay12_holds {x : Vec Ideal S512x128 .bf16} (h : Holds x X) : Holds (k0_pay12 x) X := by
  intro r d
  pointwise [k0_pay12]
  exact h r d

lemma pay13_holds {x : Vec Ideal S512x128 .bf16} (h : Holds x X) : Holds (k0_pay13 (F := Ideal) x) fun r d => th (X r d) := by
  intro r d
  pointwise [k0_pay13]
  simp only [pay12_holds h _ _, cubic_eq, root_eq, ← EReal.coe_mul, ← EReal.coe_add, Ideal.tanh_coe]
  rfl

lemma pay14_holds {x : Vec Ideal S512x128 .bf16} (h : Holds x X) : Holds (k0_pay14 x) fun r d => half (X r d) := by
  intro r d
  pointwise [k0_pay14]
  simp only [pay13_holds h _ _, one_f32, half_f32, ← EReal.coe_mul, ← EReal.coe_add]
  rfl

lemma pay15_holds {x : Vec Ideal S512x128 .bf16} (h : Holds x X) : Holds (k0_pay15 x) fun r d => gelu (X r d) := by
  intro r d
  pointwise [k0_pay15]
  simp only [pay12_holds h _ _, pay14_holds h _ _, ← EReal.coe_mul]
  rfl

lemma pay17_holds {x : Vec Ideal S512x128 .bf16} (h : Holds x X) :
    Holds (k0_pay17 (F := Ideal) (k0_pay14 x) (k0_pay16 x)) fun r d => slope (X r d) := by
  intro r d
  pointwise [k0_pay17, k0_pay16]
  simp only [pay12_holds h _ _, pay13_holds h _ _, pay14_holds h _ _, three_cubic_eq, one_f32, half_f32, root_eq, ← EReal.coe_mul, ← EReal.coe_add, ← EReal.coe_sub]
  rfl

lemma pay21_holds {x : Vec Ideal S512x128 .bf16} (h : Holds x X) : Holds (k0_pay21 x) fun r d => gelu (X r d) := pay15_holds h
lemma pay22_holds {x : Vec Ideal S512x128 .bf16} (h : Holds x X) : Holds (k0_pay22 x) fun r d => slope (X r d) := pay17_holds h

end Rows

/-! ## Norms of rows -/

/-- One over the root mean square of a row. -/
def rms {n : ℕ} (X : Fin n → Fin 128 → ℝ) (r : Fin n) : ℝ := (√((∑ d, X r d * X r d) / 128 + eps))⁻¹

lemma rms_pos {n : ℕ} (X : Fin n → Fin 128 → ℝ) (r : Fin n) : 0 < (∑ d, X r d * X r d) / 128 + eps :=
  add_pos_of_nonneg_of_pos (div_nonneg (Finset.sum_nonneg fun _ _ => mul_self_nonneg _) (by norm_num)) eps_pos

lemma pay23_holds {X : Fin 512 → Fin 128 → ℝ} {x : Vec Ideal S512x128 .bf16} (h : Holds x X) :
    Holds (k0_pay23 x) fun r _ => rms (fun r d => gelu (X r d)) r := by
  intro r d
  pointwise [k0_pay23]
  simp only [pay21_holds h _ _, size_f32, eps_eq, ← EReal.coe_mul, coe_sum, div_coe _ _ (show (128 : ℝ) ≠ 0 by norm_num), ← EReal.coe_add, rsqrt_pos (rms_pos (fun r d => gelu (X r d)) r)]
  rfl

lemma inv_holds {X : Fin 128 → Fin 128 → ℝ} {x : FVec Ideal S128x128 .f32} (h : Holds x X) : Holds (inv x) fun r _ => rms X r := by
  intro r d
  pointwise [inv]
  simp only [h _ _, size_f32, eps_eq, ← EReal.coe_mul, coe_sum, div_coe _ _ (show (128 : ℝ) ≠ 0 by norm_num), ← EReal.coe_add, rsqrt_pos (rms_pos X r)]
  rfl

lemma normed_holds {X : Fin 128 → Fin 128 → ℝ} {x : FVec Ideal S128x128 .f32} (h : Holds x X) : Holds (normed x) fun r d => X r d * rms X r := by
  intro r d
  pointwise [normed]
  simp only [h _ _, inv_holds h _ _, ← EReal.coe_mul]

lemma back_holds {X Y : Fin 128 → Fin 128 → ℝ} {x y : FVec Ideal S128x128 .f32} (h : Holds x X) (hy : Holds y Y) :
    Holds (back x y) fun r d => rms X r * (Y r d - X r d * rms X r * ((∑ e, Y r e * (X r e * rms X r)) / 128)) := by
  intro r d
  pointwise [back]
  simp only [hy _ _, inv_holds h _ _, normed_holds h _ _, size_f32, ← EReal.coe_mul, coe_sum, div_coe _ _ (show (128 : ℝ) ≠ 0 by norm_num), ← EReal.coe_sub]

/-! ## A chunk among four -/

lemma part_holds {φ : FTy} {f : ℕ → Fin 128 → Fin 128 → ℝ} {x : FVec Ideal S512x128 φ} (h : Holds x (up f)) (j : Fin 4) : Holds (part x j) (f j) := by
  intro t d
  have key : ∀ o (ho : o = 128 * j.val) (h' : o + t.val < 512), x (ix2 ⟨o + t.val, h'⟩ d) = ((f j t d : ℝ) : EReal) :=
    fun o ho h' => (h _ _).trans (by rw [up_at f ho])
  fin_cases j
  · pointwise [part]; refine Eq.trans (congrArg x (Places.ext2 ?_ ?_)) (key 0 rfl (by omega)) <;> simp
  · pointwise [part]; refine Eq.trans (congrArg x (Places.ext2 ?_ ?_)) (key 128 rfl (by omega)) <;> simp
  · pointwise [part]; refine Eq.trans (congrArg x (Places.ext2 ?_ ?_)) (key 256 rfl (by omega)) <;> simp
  · pointwise [part]; refine Eq.trans (congrArg x (Places.ext2 ?_ ?_)) (key 384 rfl (by omega)) <;> simp

lemma stack_holds {f : ℕ → Fin 128 → Fin 128 → ℝ} {x : Fin 4 → FVec Ideal S128x128 .f32} (h : ∀ j : Fin 4, Holds (x j) (f j)) :
    Holds (Loads.stack x) (up f) := by
  intro r d
  obtain ⟨j, t, ht, rfl⟩ : ∃ (j : Fin 4) (t : Fin 128) (ht : 128 * j.val + t.val < 512), r = ⟨128 * j.val + t.val, ht⟩ :=
    ⟨⟨r.val / 128, by omega⟩, ⟨r.val % 128, by omega⟩, by simp only; omega, Fin.ext (by simp only; omega)⟩
  rw [up_at f rfl, ← h j t d]
  fin_cases j
  all_goals pointwise [Loads.stack]
  · rw [dif_neg (by omega), dif_neg (by omega), dif_pos (by omega)]
    exact congrArg (x 2) (Places.ext2 (by simp only [ix2]; omega) rfl)
  · rw [dif_neg (by omega), dif_neg (by omega), dif_neg (by omega)]
    exact congrArg (x 3) (Places.ext2 (by simp only [ix2]; omega) rfl)

lemma sum_up (f : ℕ → Fin 128 → Fin 128 → ℝ) (d : Fin 128) : ∑ r, up f r d = ∑ j : Fin 4, ∑ t, f j t d := by
  rw [← Fintype.sum_prod_type', ← (finProdFinEquiv (m := 4) (n := 128)).sum_comp]
  refine Finset.sum_congr rfl fun p _ => ?_
  have hb : 128 * p.1.val + p.2.val < 512 := by omega
  rw [← up_at f (j := p.1) rfl p.2 d hb]
  exact congrArg (fun r => up f r d) (Fin.ext (by simp only [finProdFinEquiv_apply_val]; omega))

/-- A row of the four chunks, named by its place among all of them. -/
lemma at_up {f : ℕ → Fin 128 → Fin 128 → ℝ} {x : (⟨2, ![512, 128]⟩ : Shape).Idx → EReal} (h : Holds x (up f)) (j : ℕ) {r : Fin 512} {t : Fin 128}
    (hr : r.val = 128 * j + t.val) (d : Fin 128) : x (ix2 r d) = ((f j t d : ℝ) : EReal) := by
  obtain ⟨r, hr'⟩ := r
  obtain rfl : r = 128 * j + t.val := hr
  rw [h, up_at f rfl]

/-! ## A group's quantities -/

/-- What a point loads for a group holds the group's numbers. -/
structure Reads (L : Loads) (G : Group) : Prop where
  w : ∀ t s, L.w (ix3 0 t s) = ((G.W t s : ℝ) : EReal)
  u : Holds L.u (up G.U)
  v : Holds L.v (up G.V)
  m : Holds L.m (up G.M)
  gv : Holds L.gv fun _ d => G.gv d
  hg : Holds L.hg fun _ d => G.hg d
  b : Holds L.b fun t _ => G.b t

lemma mask_apply (t s : Fin 128) : k0_pay6 (ix2 t s) = if s.val ≤ t.val then 1#1 else 0#1 := by
  pointwise [k0_pay6]
  revert t s
  decide +kernel

namespace Loads

variable {L : Loads} {G : Group} (H : Reads L G)
include H

lemma wt_holds (j : ℕ) : Holds L.wt (G.chunk j).w := by
  intro t s
  pointwise [wt, k0_pay11]
  simp only [mask_apply, H.w _ _]
  unfold Chunk.w
  split
  · rfl
  · rfl

lemma act_holds : Holds L.act (up fun j t d => gelu (G.U j t d)) := pay15_holds H.u

lemma xh_holds : Holds L.xh (up fun j => (G.chunk j).xh) := by
  intro r d
  pointwise [xh, k0_pay24]
  simp only [pay21_holds H.v _ _, pay23_holds H.v _ _, ← EReal.coe_mul]
  rfl

lemma vn_holds : Holds L.vn (up fun j => (G.chunk j).vn) := by
  intro r d
  pointwise [vn, k0_pay27, k0_pay25]
  simp only [xh_holds H _ _, H.gv _ _, ← EReal.coe_mul]
  rfl

lemma mix_holds (j : Fin 4) : Holds (L.mix j) (G.chunk j).mix := by
  intro t d
  pointwise [mix, k0_pay28]
  simp only [wt_holds H j _ _, part_holds (vn_holds H) j _ _, H.b _ _, ← EReal.coe_mul, coe_sum, ← EReal.coe_add]
  rfl

lemma gated_holds (j : Fin 4) : Holds (L.gated j) (G.chunk j).gated := by
  intro t d
  pointwise [gated]
  simp only [part_holds (act_holds H) j _ _, mix_holds H j _ _, ← EReal.coe_mul]
  rfl

lemma an_holds (j : Fin 4) : Holds (normed (L.gated j)) (G.chunk j).an := normed_holds (gated_holds H j)

lemma ct_holds : Holds (k0_pay29 L.m) (up G.M) := by
  intro r d
  pointwise [k0_pay29]
  exact H.m r d

lemma dg_holds (j : Fin 4) : Holds (L.dg j) (G.chunk j).dg := by
  refine back_holds (Y := (G.chunk j).dan) (gated_holds H j) fun t d => ?_
  pointwise [k0_pay26]
  simp only [part_holds (ct_holds H) j _ _, H.hg _ _, ← EReal.coe_mul]
  rfl

lemma dmix_holds (j : Fin 4) : Holds (L.dmix j) (G.chunk j).dmix := by
  intro t d
  pointwise [dmix]
  simp only [part_holds (act_holds H) j _ _, dg_holds H j _ _, ← EReal.coe_mul]
  rfl

lemma dmixb_holds (j : Fin 4) : Holds (L.dmixb j) (G.chunk j).dmix := by
  intro t d
  pointwise [dmixb]
  exact dmix_holds H j t d

lemma dvn_holds : Holds L.dvn (up fun j => (G.chunk j).dvn) := by
  refine stack_holds fun j => ?_
  intro s d
  pointwise
  simp only [wt_holds H j _ _, dmixb_holds H j _ _, ← EReal.coe_mul, coe_sum]
  rfl

lemma du_holds : Holds L.du (up fun j => (G.chunk j).du) := by
  have hs : Holds (stack fun j => mulf (L.dg j) (L.mix j)) (up fun j t d => (G.chunk j).dg t d * (G.chunk j).mix t d) := by
    refine stack_holds fun j => ?_
    intro t d
    pointwise
    simp only [dg_holds H j _ _, mix_holds H j _ _, ← EReal.coe_mul]
  intro r d
  pointwise [du, k0_pay74]
  simp only [hs _ _, pay17_holds H.u _ _, ← EReal.coe_mul]
  rfl

lemma dv_holds : Holds L.dv (up fun j => (G.chunk j).dv) := by
  intro r d
  pointwise [dv, k0_pay75, k0_pay73, k0_pay25]
  simp only [dvn_holds H _ _, xh_holds H _ _, H.gv _ _, pay22_holds H.v _ _, pay23_holds H.v _ _, size_f32, ← EReal.coe_mul, coe_sum,
    div_coe _ _ (show (128 : ℝ) ≠ 0 by norm_num), ← EReal.coe_sub]
  rfl

lemma dw_apply {acc : Vec Ideal S1x128x128 .f32} {a : Fin 128 → Fin 128 → ℝ} (ha : ∀ t s, acc (ix3 0 t s) = ((a t s : ℝ) : EReal)) (t s : Fin 128) :
    L.dw acc (ix3 0 t s) = ((a t s + ∑ j : Fin 4, (G.chunk j).dw t s : ℝ) : EReal) := by
  unfold dw
  rw [Fin.sum_univ_four]
  pointwise [k0_pay67]
  have h0 (x) := at_up (vn_holds H) 0 (r := ⟨s.val, by omega⟩) (t := s) (by simp) x
  have h1 (x) := at_up (vn_holds H) 1 (r := ⟨128 + s.val, by omega⟩) (t := s) rfl x
  have h2 (x) := at_up (vn_holds H) 2 (r := ⟨256 + s.val, by omega⟩) (t := s) rfl x
  have h3 (x) := at_up (vn_holds H) 3 (r := ⟨384 + s.val, by omega⟩) (t := s) rfl x
  simp only [ha _ _, h0, h1, h2, h3, dmixb_holds H _ _ _, ← EReal.coe_mul, coe_sum, ← EReal.coe_add]
  rfl

lemma db_apply {acc : Vec Ideal S1x128x128 .f32} {a : Fin 128 → Fin 128 → ℝ} (ha : ∀ t s, acc (ix3 0 t s) = ((a t s : ℝ) : EReal)) (t s : Fin 128) :
    L.db acc (ix3 0 t s) = ((a t s + ∑ j : Fin 4, (G.chunk j).dmix t s : ℝ) : EReal) := by
  unfold db
  rw [Fin.sum_univ_four]
  pointwise [k0_pay68]
  simp only [ha _ _, dmix_holds H _ _ _, zero_add, ← EReal.coe_add]
  rfl

lemma dgv_holds {acc : Vec Ideal S1x128 .f32} {a : Fin 128 → ℝ} (ha : Holds acc fun _ d => a d) :
    Holds (L.dgv acc) fun _ d => a d + ∑ j : Fin 4, (G.chunk j).dgv d := by
  intro r d
  have := sum_up (fun j s d => (G.chunk j).dvn s d * (G.chunk j).xh s d) d
  pointwise [dgv, k0_pay72]
  simp only [ha _ _, dvn_holds H _ _, xh_holds H _ _, ← EReal.coe_mul, coe_sum, ← EReal.coe_add]
  exact congrArg (fun x : ℝ => ((a d + x : ℝ) : EReal)) this

lemma dhg_holds {acc : Vec Ideal S1x128 .f32} {a : Fin 128 → ℝ} (ha : Holds acc fun _ d => a d) :
    Holds (L.dhg acc) fun _ d => a d + ∑ j : Fin 4, (G.chunk j).dhg d := by
  intro r d
  simp only [Fin.sum_univ_four]
  pointwise [dhg, k0_pay71, k0_pay70, k0_pay69]
  have h0 (t : Fin 128) := at_up (ct_holds H) 0 (r := ⟨t.val, by omega⟩) (t := t) (by simp) d
  have h1 (t : Fin 128) := at_up (ct_holds H) 1 (r := ⟨128 + t.val, by omega⟩) (t := t) rfl d
  have h2 (t : Fin 128) := at_up (ct_holds H) 2 (r := ⟨256 + t.val, by omega⟩) (t := t) rfl d
  have h3 (t : Fin 128) := at_up (ct_holds H) 3 (r := ⟨384 + t.val, by omega⟩) (t := t) rfl d
  simp only [ha _ _, h0, h1, h2, h3, an_holds H _ _ _, ← EReal.coe_mul, coe_sum, ← EReal.coe_add]
  rfl

end Loads

end Cert.GmlpIdeal.Pay

end
-- ==== Proof.GmlpCarry.lean ====
/-
  The spatial gating unit's backward call at one grid point over the reals, and what it has gathered after each point.
-/
module

public import proofs.«01_k».proof.Proof.GmlpPoint
public import proofs.«01_k».proof.Proof.GmlpRows

@[expose] public section

set_option maxRecDepth 16384

noncomputable section

namespace Cert.GmlpIdeal.Pay

open Cert.GmlpIdeal Gen Idealize.ShloMosaic TcCoe
open Cert.Reals Cert.Gate

/-! ## Arrays of a group's planes, columns and strips -/

lemma ld_at {s : Shape} {e : EltTy} (X : s.Idx → Elt Ideal e) (off size : Fin s.rank → Nat)
    (inb : ∀ a, off a + size a ≤ s.size a) (x : (Rect.unit off size inb).shape.Idx) (y : s.Idx) (hy : ∀ a, (y a).val = off a + (x a).val) :
    View.ld X (Rect.unit off size inb) x = X y := by
  refine congrArg X (funext fun a => Fin.ext ?_)
  rw [hy a, LoadRect.idx_apply]
  exact congrArg (off a + ·) (Nat.one_mul _)

section Arrays

variable {a3 : Fin 4 → Fin 128 → Fin 128 → ℝ}

lemma plane_piece {v : (⟨3, ![1, 128, 128]⟩ : Shape).Idx → EReal} (g : Fin 4) {o : ℕ} (ho : g.val = o) (hv : ∀ t s, v (ix3 0 t s) = ((a3 g t s : ℝ) : EReal))
    (inb : ∀ a, (![o, 0, 0] : Fin 3 → Nat) a + (![1, 128, 128] : Fin 3 → Nat) a ≤ (⟨3, ![4, 128, 128]⟩ : Shape).size a)
    (x : (⟨3, ![1, 128, 128]⟩ : Shape).Idx) :
    v x = (fun y : (⟨3, ![4, 128, 128]⟩ : Shape).Idx => ((a3 (y 0) (y 1) (y 2) : ℝ) : EReal)) ((Rect.unit (s := ⟨3, ![4, 128, 128]⟩) ![o, 0, 0] ![1, 128, 128] inb).emb x) := by
  subst ho
  obtain ⟨z, t, s, rfl⟩ : ∃ (z : Fin 1) (t s : Fin 128), x = ix3 z t s := ⟨x 0, x 1, x 2, Places.ext3 rfl rfl rfl⟩
  obtain rfl : z = 0 := Subsingleton.elim _ _
  rw [hv t s]
  have e : (Rect.unit (s := ⟨3, ![4, 128, 128]⟩) ![g.val, 0, 0] ![1, 128, 128] inb).emb (ix3 0 t s) = ix3 g t s :=
    Places.ext3 (by show g.val + 1 * 0 = g.val; omega) (by show 0 + 1 * t.val = t.val; omega) (by show 0 + 1 * s.val = s.val; omega)
  rw [e]
  rfl

lemma planes_at {f : Fin 4 → FVec Ideal S1x128x128 .f32} (hf : ∀ g t s, f g (ix3 0 t s) = ((a3 g t s : ℝ) : EReal))
    (rest : List (View.Piece (Elt Ideal) S4x128x128 .f32)) (g : Fin 4) (t s : Fin 128) :
    View.canon (planes f ++ rest) (ix3 g t s) = ((a3 g t s : ℝ) : EReal) :=
  View.canon_append_of_piecesOf (Val := Elt Ideal) (e := .f32) (fun y : S4x128x128.Idx => ((a3 (y 0) (y 1) (y 2) : ℝ) : EReal)) rest (planes f)
    ⟨plane_piece 3 rfl (hf 3) (by decide), plane_piece 2 rfl (hf 2) (by decide), plane_piece 1 rfl (hf 1) (by decide), plane_piece 0 rfl (hf 0) (by decide), trivial⟩
    (ix3 g t s) (View.cover_of_tiledL _ ![1, 128, 128] (by sl_kernel_rfl) _)

lemma strips_at {f : Fin 4 → FVec Ideal S1x128 .f32} {a : ℕ → ℝ} (hf : ∀ g : Fin 4, Holds (f g) fun _ d => a (128 * g.val + d.val))
    (rest : List (View.Piece (Elt Ideal) S1x512 .f32)) : Holds (View.canon (strips f ++ rest)) fun _ l => a l.val := by
  intro r l
  have h (g : Fin 4) (e : Fin 128 → Fin 512) (b : ℕ) (hb : b = 128 * g.val) (he : ∀ l, (e l).val = b + l.val) (inb) := piece_cols (b := b) (hf g) (fun _ l => a l.val) e he (fun _ d => by rw [he, hb]) inb
  refine (View.canon_append_of_piecesOf (Val := Elt Ideal) (e := .f32) (mat fun _ l => a l.val) rest (strips f)
    ⟨h 3 (fun l => ⟨384 + l.val, by omega⟩) 384 rfl (fun _ => rfl) (by decide), h 2 (fun l => ⟨256 + l.val, by omega⟩) 256 rfl (fun _ => rfl) (by decide),
      h 1 (fun l => ⟨128 + l.val, by omega⟩) 128 rfl (fun _ => rfl) (by decide), h 0 (fun l => ⟨0 + l.val, by omega⟩) 0 rfl (fun _ => rfl) (by decide), trivial⟩
    (ix2 r l) (View.cover_of_tiledL _ ![1, 128] (by sl_kernel_rfl) _)).trans rfl

lemma columns_at {f : Fin 4 → FVec Ideal S128x1 .f32} {a : Fin 128 → Fin 4 → ℝ} (hf : ∀ g : Fin 4, Holds (f g) fun t _ => a t g) :
    Holds (View.canon (columns f)) a := by
  intro t g
  have h (g : Fin 4) (b : ℕ) (hb : b = g.val) (inb) := piece_cols (b := b) (hf g) a (fun _ => g) (fun l => by omega) (fun _ _ => rfl) inb
  exact (View.canon_apply_of_pieces (Val := Elt Ideal) (e := .f32) (mat a) (columns f)
    (View.PiecesOf.mem ⟨h 3 3 rfl (by decide), h 2 2 rfl (by decide), h 1 1 rfl (by decide), h 0 0 rfl (by decide), trivial⟩)
    (ix2 t g) (View.cover_of_tiledL _ ![128, 1] (by sl_kernel_rfl) _)).trans rfl

lemma plane_at {x : S4x128x128.Idx → EReal} (hx : ∀ g t s, x (ix3 g t s) = ((a3 g t s : ℝ) : EReal)) (g : Fin 4) (t s : Fin 128) :
    plane x g (ix3 0 t s) = ((a3 g t s : ℝ) : EReal) := by
  refine Eq.trans ?_ (hx g t s)
  have h (o : ℕ) (ho : g.val = o) (inb) : View.ld (Val := Elt Ideal) (e' := .f32) x (Rect.unit (s := S4x128x128) ![o, 0, 0] S1x128x128.size inb) (ix3 0 t s) = x (ix3 g t s) :=
    ld_at (e := .f32) x _ _ inb (ix3 0 t s) (ix3 g t s) fun a => match a with
      | ⟨0, _⟩ => ho
      | ⟨1, _⟩ => (Nat.zero_add _).symm
      | ⟨2, _⟩ => (Nat.zero_add _).symm
  fin_cases g
  · exact h 0 rfl (by decide)
  · exact h 1 rfl (by decide)
  · exact h 2 rfl (by decide)
  · exact h 3 rfl (by decide)

lemma strip_at {x : S1x512.Idx → EReal} {a : ℕ → ℝ} (hx : Holds x fun _ l => a l.val) (g : Fin 4) :
    Holds (strip x g) fun _ d => a (128 * g.val + d.val) := by
  fin_cases g
  · exact ld_cols32 hx (fun d => ⟨0 + d.val, by omega⟩) (fun _ => rfl) (by decide)
  · exact ld_cols32 hx (fun d => ⟨128 + d.val, by omega⟩) (fun _ => rfl) (by decide)
  · exact ld_cols32 hx (fun d => ⟨256 + d.val, by omega⟩) (fun _ => rfl) (by decide)
  · exact ld_cols32 hx (fun d => ⟨384 + d.val, by omega⟩) (fun _ => rfl) (by decide)

end Arrays

/-! ## A point's loads -/

section Point

variable {m : (ℓ : Loc nD τ sig) → Buf (Elt Ideal) ℓ} {c : Dev nD} {D : Data}

lemma ld_up {x : S512x512.Idx → EReal} {f : ℕ → ℕ → ℝ} {n : ℕ} (hx : Holds x fun r l => f (512 * n + r.val) l.val) (o : ℕ) (ho : o + 128 ≤ 512) (inb) :
    Holds (View.ld (Val := Elt Ideal) (e' := .bf16) x (Rect.unit (s := S512x512) ![0, o] S512x128.size inb))
      (up fun j t d => f (128 * (4 * n + j) + t.val) (o + d.val)) := by
  refine (ld_cols (n := 128) hx (fun d => ⟨o + d.val, by omega⟩) (fun _ => rfl) inb).congr fun r d => ?_
  unfold up
  exact congrArg (f · _) (by simp only; omega)

/-- What point `t`'s blocks hold. -/
structure Blocks (m : (ℓ : Loc nD τ sig) → Buf (Elt Ideal) ℓ) (c : Dev nD) (D : Data) (t : Fin cfg0.N) : Prop where
  u : Holds (iblk m c 0 t) fun r l => D.X (512 * t.val + r.val) l.val
  v : Holds (iblk m c 1 t) fun r l => D.X (512 * t.val + r.val) (512 + l.val)
  ct : Holds (iblk m c 2 t) fun r l => D.M (512 * t.val + r.val) l.val
  w : ∀ (g : Fin 4) (r s : Fin 128), (iblk m c 3 t : S4x128x128.Idx → EReal) (ix3 g r s) = ((D.W g.val r.val s.val : ℝ) : EReal)
  b : Holds (iblk m c 4 t) fun r g => D.b r.val g.val
  gv : Holds (iblk m c 5 t) fun _ l => D.gv l.val
  hg : Holds (iblk m c 6 t) fun _ l => D.hg l.val

lemma reads {t : Fin cfg0.N} (B : Blocks m c D t) (g : Fin 4) : Reads (loads m c t g) (D.group g.val t.val) := by
  have hw := plane_at (a3 := fun g t s => D.W g.val t.val s.val) B.w g
  have hgv := strip_at B.gv g
  have hhg := strip_at B.hg g
  fin_cases g
  · exact ⟨hw, ld_up B.u 0 (by decide) (by decide), ld_up (f := fun r l => D.X r (512 + l)) B.v 0 (by decide) (by decide), ld_up B.ct 0 (by decide) (by decide), hgv, hhg,
      ld_cols32 B.b (fun _ => 0) (fun l => by omega) (by decide)⟩
  · exact ⟨hw, ld_up B.u 128 (by decide) (by decide), ld_up (f := fun r l => D.X r (512 + l)) B.v 128 (by decide) (by decide), ld_up B.ct 128 (by decide) (by decide), hgv, hhg,
      ld_cols32 B.b (fun _ => 1) (fun l => by omega) (by decide)⟩
  · exact ⟨hw, ld_up B.u 256 (by decide) (by decide), ld_up (f := fun r l => D.X r (512 + l)) B.v 256 (by decide) (by decide), ld_up B.ct 256 (by decide) (by decide), hgv, hhg,
      ld_cols32 B.b (fun _ => 2) (fun l => by omega) (by decide)⟩
  · exact ⟨hw, ld_up B.u 384 (by decide) (by decide), ld_up (f := fun r l => D.X r (512 + l)) B.v 384 (by decide) (by decide), ld_up B.ct 384 (by decide) (by decide), hgv, hhg,
      ld_cols32 B.b (fun _ => 3) (fun l => by omega) (by decide)⟩

/-! ## The gradient at the two halves -/

lemma piecesDp_at {L : Fin 4 → Loads} {n : ℕ} (H : ∀ g : Fin 4, Reads (L g) (D.group g.val n)) :
    Holds (View.canon (piecesDp L)) fun r l => D.dp (512 * n + r.val) l.val := by
  have hu (g : Fin 4) (b : ℕ) (hb : b = 128 * g.val) (inb) :=
    piece_cols (b := b) (Loads.du_holds (H g)) (fun (r : Fin 512) (l : Fin 1024) => D.dp (512 * n + r.val) l.val) (fun l => ⟨b + l.val, by omega⟩) (fun _ => rfl)
      (fun r l => by
        have h1 : b + l.val < 512 := by omega
        have h2 : (b + l.val) / 128 = g.val := by omega
        have h3 : (512 * n + r.val) / 128 = 4 * n + r.val / 128 := by omega
        have h4 : Data.lane (512 * n + r.val) = ⟨r.val % 128, by omega⟩ := Fin.ext (by simp only [Data.lane]; omega)
        have h5 : Data.lane (b + l.val) = l := Fin.ext (by simp only [Data.lane]; omega)
        unfold up Data.dp
        simp only [if_pos h1, h2, h3, h4, h5]
        rfl) inb
  have hv (g : Fin 4) (b : ℕ) (hb : b = 512 + 128 * g.val) (inb) :=
    piece_cols (b := b) (Loads.dv_holds (H g)) (fun (r : Fin 512) (l : Fin 1024) => D.dp (512 * n + r.val) l.val) (fun l => ⟨b + l.val, by omega⟩) (fun _ => rfl)
      (fun r l => by
        have h1 : ¬b + l.val < 512 := by omega
        have h2 : (b + l.val - 512) / 128 = g.val := by omega
        have h3 : (512 * n + r.val) / 128 = 4 * n + r.val / 128 := by omega
        have h4 : Data.lane (512 * n + r.val) = ⟨r.val % 128, by omega⟩ := Fin.ext (by simp only [Data.lane]; omega)
        have h5 : Data.lane (b + l.val) = l := Fin.ext (by simp only [Data.lane]; omega)
        unfold up Data.dp
        simp only [if_neg h1, h2, h3, h4, h5]
        rfl) inb
  intro r l
  exact (View.canon_apply_of_pieces (Val := Elt Ideal) (e := .bf16) (mat fun (r : Fin 512) (l : Fin 1024) => D.dp (512 * n + r.val) l.val) (piecesDp L)
    (View.PiecesOf.mem ⟨hv 3 896 rfl (by decide), hu 3 384 rfl (by decide), hv 2 768 rfl (by decide), hu 2 256 rfl (by decide), hv 1 640 rfl (by decide), hu 1 128 rfl (by decide), hv 0 512 rfl (by decide), hu 0 0 rfl (by decide), trivial⟩)
    (ix2 r l) (View.cover_of_tiledL _ ![512, 128] (by sl_kernel_rfl) _)).trans rfl

/-! ## What is gathered -/

section Gather

variable {L : Fin 4 → Loads} {n : ℕ} (H : ∀ g : Fin 4, Reads (L g) (D.group g.val n))
include H

lemma dwAt_at {x : Vec Ideal S4x128x128 .f32} (hx : ∀ (g : Fin 4) t s, x (ix3 g t s) = ((D.dwTo (4 * n) g.val t s : ℝ) : EReal)) (rest) (g : Fin 4) (t s : Fin 128) :
    dwAt L x rest (ix3 g t s) = ((D.dwTo (4 * (n + 1)) g.val t s : ℝ) : EReal) :=
  planes_at (a3 := fun g t s => D.dwTo (4 * (n + 1)) g.val t s)
    (fun g t s => (Loads.dw_apply (H g) (plane_at (a3 := fun g t s => D.dwTo (4 * n) g.val t s) hx g) t s).trans
      (congrArg _ (more (fun k => (D.chunk g.val k).dw t s) n).symm)) rest g t s

lemma dbAt_at {x : Vec Ideal S4x128x128 .f32} (hx : ∀ (g : Fin 4) t s, x (ix3 g t s) = ((D.dbTo (4 * n) g.val t s : ℝ) : EReal)) (rest) (g : Fin 4) (t s : Fin 128) :
    dbAt L x rest (ix3 g t s) = ((D.dbTo (4 * (n + 1)) g.val t s : ℝ) : EReal) :=
  planes_at (a3 := fun g t s => D.dbTo (4 * (n + 1)) g.val t s)
    (fun g t s => (Loads.db_apply (H g) (plane_at (a3 := fun g t s => D.dbTo (4 * n) g.val t s) hx g) t s).trans
      (congrArg _ (more (fun k => (D.chunk g.val k).dmix t s) n).symm)) rest g t s

lemma strip_place (g d : ℕ) (hd : d < 128) : (128 * g + d) / 128 = g ∧ Data.lane (128 * g + d) = ⟨d, hd⟩ :=
  ⟨by omega, Fin.ext (by simp only [Data.lane]; omega)⟩

lemma dgvAt_at {x : Vec Ideal S1x512 .f32} (hx : Holds x fun _ l => D.dgvTo (4 * n) l.val) (rest) :
    Holds (dgvAt L x rest) fun _ l => D.dgvTo (4 * (n + 1)) l.val :=
  strips_at (a := D.dgvTo (4 * (n + 1))) (fun g => (Loads.dgv_holds (H g) (a := fun d => D.dgvTo (4 * n) (128 * g.val + d.val)) (strip_at hx g)).congr fun _ d => by
    unfold Data.dgvTo
    rw [more, (strip_place H g.val d.val d.isLt).1, (strip_place H g.val d.val d.isLt).2]
    rfl) rest

lemma dhgAt_at {x : Vec Ideal S1x512 .f32} (hx : Holds x fun _ l => D.dhgTo (4 * n) l.val) (rest) :
    Holds (dhgAt L x rest) fun _ l => D.dhgTo (4 * (n + 1)) l.val :=
  strips_at (a := D.dhgTo (4 * (n + 1))) (fun g => (Loads.dhg_holds (H g) (a := fun d => D.dhgTo (4 * n) (128 * g.val + d.val)) (strip_at hx g)).congr fun _ d => by
    unfold Data.dhgTo
    rw [more, (strip_place H g.val d.val d.isLt).1, (strip_place H g.val d.val d.isLt).2]
    rfl) rest

lemma kept_at {x : Vec Ideal S4x128x128 .f32} (hx : ∀ (g : Fin 4) t s, x (ix3 g t s) = ((D.dwTo (4 * n) g.val t s : ℝ) : EReal)) (g : Fin 4) (t s : Fin 128) :
    kept L x (ix3 g t s) = (((if s.val ≤ t.val then D.dwTo (4 * (n + 1)) g.val t s else 0) : ℝ) : EReal) := by
  refine planes_at (a3 := fun g t s => if s.val ≤ t.val then D.dwTo (4 * (n + 1)) g.val t s else 0) (fun g t s => ?_) _ g t s
  have h := (Loads.dw_apply (H g) (plane_at (a3 := fun g t s => D.dwTo (4 * n) g.val t s) hx g) t s).trans
      (congrArg _ (more (fun k => (D.chunk g.val k).dw t s) n).symm)
  pointwise [k0_pay1]
  simp only [mask_apply, h]
  split
  · rfl
  · rfl

lemma sums_at {x : Vec Ideal S4x128x128 .f32} (hx : ∀ (g : Fin 4) t s, x (ix3 g t s) = ((D.dbTo (4 * n) g.val t s : ℝ) : EReal)) :
    Holds (sums L x) fun t g => ∑ d, D.dbTo (4 * (n + 1)) g.val t d := by
  refine columns_at (fun g t l => ?_)
  have h (d) := (Loads.db_apply (H g) (plane_at (a3 := fun g t s => D.dbTo (4 * n) g.val t s) hx g) t d).trans
      (congrArg _ (more (fun k => (D.chunk g.val k).dmix t d) n).symm)
  pointwise [k0_pay2]
  simp only [h, coe_sum]
  rfl

end Gather

/-! ## After each point -/

lemma dp_at {t : Fin cfg0.N} (B : Blocks m c D t) : Holds (outsAt0 m c t.val t.isLt).1 fun r l => D.dp (512 * t.val + r.val) l.val := by
  have ht : t.val < 16 := lt_of_lt_of_eq t.isLt N_0
  have H := piecesDp_at (reads B)
  by_cases h0 : t.val % 16 = 0
  · rw [(outs_A m c t h0 (by omega)).1]; exact H
  · by_cases h1 : t.val % 16 = 15
    · rw [(outs_C m c t h0 h1).1]; exact H
    · rw [(outs_B m c t h0 h1).1]; exact H

/-- What is gathered before the last point. -/
structure Gathered (m : (ℓ : Loc nD τ sig) → Buf (Elt Ideal) ℓ) (c : Dev nD) (D : Data) (n : ℕ) (hn : n < cfg0.N) : Prop where
  dw : ∀ (g : Fin 4) t s, (outsAt0 m c n hn).2.1 (ix3 g t s) = ((D.dwTo (4 * (n + 1)) g.val t s : ℝ) : EReal)
  dgv : Holds (outsAt0 m c n hn).2.2.2.1 fun _ l => D.dgvTo (4 * (n + 1)) l.val
  dhg : Holds (outsAt0 m c n hn).2.2.2.2.1 fun _ l => D.dhgTo (4 * (n + 1)) l.val
  db : ∀ (g : Fin 4) t s, (outsAt0 m c n hn).2.2.2.2.2 (ix3 g t s) = ((D.dbTo (4 * (n + 1)) g.val t s : ℝ) : EReal)

lemma zeros3 (g : Fin 4) (t s : Fin 128) : k0_pay7 (F := Ideal) (ix3 g t s) = ((0 : ℝ) : EReal) := by
  pointwise [k0_pay7]
  rfl

lemma zeros2 : Holds (k0_pay9 (F := Ideal)) fun _ _ => 0 := by
  intro r l
  pointwise [k0_pay9]
  rfl

lemma gathered (B : ∀ t, Blocks m c D t) : ∀ (n : ℕ) (hn : n < cfg0.N), n < 15 → Gathered m c D n hn
  | 0, hn, _ => by
    have H := reads (B ⟨0, hn⟩)
    obtain ⟨_, h1, h2, h3, h4⟩ := outs_A m c ⟨0, hn⟩ (by simp) (by simp)
    exact ⟨fun g t s => (congrFun h1 _).trans (dwAt_at H zeros3 _ g t s), fun r l => (congrFun h2 _).trans (dgvAt_at H zeros2 _ r l),
      fun r l => (congrFun h3 _).trans (dhgAt_at H zeros2 _ r l), fun g t s => (congrFun h4 _).trans (dbAt_at H zeros3 _ g t s)⟩
  | n + 1, hn, h => by
    have H := reads (B ⟨n + 1, hn⟩)
    have ih := gathered B n (Nat.lt_of_succ_lt hn) (by omega)
    obtain ⟨_, h1, h2, h3, h4⟩ := outs_B m c ⟨n + 1, hn⟩ (by simp only; omega) (by simp only; omega)
    exact ⟨fun g t s => (congrFun h1 _).trans (dwAt_at H ih.dw _ g t s), fun r l => (congrFun h2 _).trans (dgvAt_at H ih.dgv _ r l),
      fun r l => (congrFun h3 _).trans (dhgAt_at H ih.dhg _ r l), fun g t s => (congrFun h4 _).trans (dbAt_at H ih.db _ g t s)⟩

/-- What the last point leaves. -/
lemma last (B : ∀ t, Blocks m c D t) (t : Fin cfg0.N) (ht : t.val = 15) :
    (∀ (g : Fin 4) r s, (outsAt0 m c t.val t.isLt).2.1 (ix3 g r s) = ((D.dw g.val r s : ℝ) : EReal)) ∧
    Holds (outsAt0 m c t.val t.isLt).2.2.1 (fun r g => D.db r g.val) ∧
    Holds (outsAt0 m c t.val t.isLt).2.2.2.1 (fun _ l => D.dgvTo 64 l.val) ∧
    Holds (outsAt0 m c t.val t.isLt).2.2.2.2.1 fun _ l => D.dhgTo 64 l.val := by
  have H := reads (B t)
  obtain ⟨i1, i2, i3, i4⟩ := gathered B (t.val - 1) (Nat.lt_of_le_of_lt (Nat.sub_le _ _) t.isLt) (by omega)
  obtain ⟨_, h1, h5, h2, h3, _⟩ := outs_C m c t (by omega) (by omega)
  have e : 4 * (t.val - 1 + 1) = 4 * t.val := by omega
  have e' : 4 * (t.val + 1) = 64 := by omega
  rw [e] at i1 i2 i3 i4
  have k1 := kept_at H i1
  have k5 := sums_at H i4
  have k2 := dgvAt_at H i2 []
  have k3 := dhgAt_at H i3 []
  rw [e'] at k1 k2 k3 k5
  exact ⟨fun g r s => (congrFun h1 _).trans (k1 g r s), fun r g => (congrFun h5 _).trans (k5 r g),
    fun r l => (congrFun h2 _).trans (k2 r l), fun r l => (congrFun h3 _).trans (k3 r l)⟩

end Point

end Cert.GmlpIdeal.Pay

end
-- ==== Proof.GmlpData.lean ====
/-
  What the spatial gating unit's backward call computes with, from its argument arrays.
-/
module

public import proofs.«01_k».proof.Proof.GmlpSpec
public import proofs.«01_k».proof.Proof.SbData

@[expose] public section

noncomputable section

namespace Cert.Gate

open Idealize.ShloMosaic
open Cert.Stick (at3 at1)

/-- An array's number at a place given by naturals. -/
def at2 {A B : ℕ} (P : (⟨2, ![A, B]⟩ : Shape).Idx → ℝ) (a b : ℕ) : ℝ :=
  if h : a < A ∧ b < B then P (ix2 ⟨a, h.1⟩ ⟨b, h.2⟩) else 0

lemma at2_eq {A B : ℕ} (P : (⟨2, ![A, B]⟩ : Shape).Idx → ℝ) (i : (⟨2, ![A, B]⟩ : Shape).Idx) {a b : ℕ}
    (h0 : (i 0).val = a) (h1 : (i 1).val = b) : P i = at2 P a b := by
  subst h0 h1
  have e : i = ix2 (i 0) (i 1) := Places.ext2 rfl rfl
  exact ((dif_pos ⟨(i 0).isLt, (i 1).isLt⟩).trans (congrArg P e.symm)).symm

/-- The numbers that the call computes with, the positions of all the batches one after the other. -/
def data (P : (⟨3, ![4, 2048, 2560]⟩ : Shape).Idx → ℝ) (W : (⟨3, ![4, 128, 128]⟩ : Shape).Idx → ℝ) (B : (⟨2, ![4, 128]⟩ : Shape).Idx → ℝ)
    (GV : (⟨1, ![512]⟩ : Shape).Idx → ℝ) (HG : (⟨1, ![1024]⟩ : Shape).Idx → ℝ) (C : (⟨3, ![4, 2048, 1024]⟩ : Shape).Idx → ℝ) : Data where
  X r l := at3 P (r / 2048) (r % 2048) l
  M r l := at3 C (r / 2048) (r % 2048) l
  W := at3 W
  b t g := at2 B g t
  gv := at1 GV
  hg := at1 HG

end Cert.Gate

end
-- ==== Proof.GmlpValue.lean ====
/-
  The spatial gating unit's backward call: what its five result arrays hold after the run, from argument arrays that hold
  real numbers.
-/
module

public import proofs.«01_k».proof.Proof.GmlpCarry
public import proofs.«01_k».proof.Proof.GmlpData
public import proofs.«01_k».proof.Proof.Gen.GmlpIdeal.Value

@[expose] public section

noncomputable section

namespace Cert.GmlpIdeal.Reading

open Cert.GmlpIdeal Gen Value Cert.GmlpIdeal.Pay
open Idealize.ShloMosaic TcCoe Idealize.SL.Sem
open Idealize.ShloMosaic.Pipeline (Dat)
open Cert.Reals Cert.Gate
open Cert.Stick (at1 at3 at1_eq at3_eq)

/-! ## The windows' places -/

lemma ix : ∀ t : Fin cfg0.N, (win0_0.index t 0 = t.val ∧ win0_0.index t 1 = 0) ∧ (win0_1.index t 0 = t.val ∧ win0_1.index t 1 = 1) ∧ (win0_2.index t 0 = t.val ∧ win0_2.index t 1 = 0)
    ∧ (win0_3.index t 0 = 0 ∧ win0_3.index t 1 = 0 ∧ win0_3.index t 2 = 0) ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) ∧ (win0_8.index t 0 = 0 ∧ win0_8.index t 1 = 0 ∧ win0_8.index t 2 = 0)
    ∧ (win0_9.index t 0 = 0 ∧ win0_9.index t 1 = 0) ∧ (win0_10.index t 0 = 0 ∧ win0_10.index t 1 = 0) ∧ win0_11.index t 0 = 0 ∧ win0_11.index t 1 = 0 := by
  change ∀ t : Fin grid0.N, _; decide +kernel

lemma lt16 (t : Fin cfg0.N) : t.val < 16 := lt_of_lt_of_eq t.isLt N_0

lemma is2 {a b : ℕ} (z : (⟨2, ![a, b]⟩ : Shape).Idx) : ∃ (r : Fin a) (l : Fin b), z = ix2 r l := ⟨z 0, z 1, Places.ext2 rfl rfl⟩

/-! ## The arrays that the windows look into -/

lemma proj_at (x : FVec Ideal S4x2048x2560 .f32) (r : Fin 8192) (l : Fin 1024) :
    (shapeCast S8192x1024 (truncf .bf16 (extractStridedSlice S4x2048x1024 ![0, 0, 0] x slices_S4x2048x2560_S4x2048x1024_0_0_0) bitsLt_bf16_f32)
        shapeCasts_S4x2048x1024_S8192x1024 : FVec Ideal S8192x1024 .bf16) (ix2 r l)
      = x (ix3 ⟨r.val / 2048, by omega⟩ ⟨r.val % 2048, by omega⟩ ⟨l.val, by omega⟩) := by
  pointwise

lemma ct_at (x : FVec Ideal S4x2048x1024 .f32) (r : Fin 8192) (l : Fin 1024) :
    (shapeCast S8192x1024 (truncf .bf16 x bitsLt_bf16_f32) shapeCasts_S4x2048x1024_S8192x1024 : FVec Ideal S8192x1024 .bf16) (ix2 r l)
      = x (ix3 ⟨r.val / 2048, by omega⟩ ⟨r.val % 2048, by omega⟩ l) := by
  pointwise

lemma bias_at (x : FVec Ideal S4x128 .f32) (t : Fin 128) (g : Fin 4) :
    (transpose S128x4 [1, 0] x transposes_S4x128_S128x4_1_0 : FVec Ideal S128x4 .f32) (ix2 t g) = x (ix2 g t) := by
  pointwise

lemma gain_at (x : FVec Ideal S512 .f32) (o : Fin 1) (l : Fin 512) :
    (broadcastInDim S1x512 ![1] bcast_S512_S1x512_1 x : FVec Ideal S1x512 .f32) (ix2 o l) = x (ix1 l) := by
  pointwise

lemma head_at (x : FVec Ideal S1024 .f32) (o : Fin 1) (l : Fin 1024) :
    (broadcastInDim S1x1024 ![1] bcast_S1024_S1x1024_1 x : FVec Ideal S1x1024 .f32) (ix2 o l) = x (ix1 l) := by
  pointwise

variable (m : (ℓ : Loc nD τ sig) → Buf (Elt Ideal) ℓ) (c : Dev nD)
variable (P : S4x2048x2560.Idx → ℝ) (W : S4x128x128.Idx → ℝ) (B : S4x128.Idx → ℝ) (GV : S512.Idx → ℝ) (HG : S1024.Idx → ℝ) (C : S4x2048x1024.Idx → ℝ)

/-- The arguments hold real numbers where they are looked at. -/
structure Args : Prop where
  p : ∀ i : S4x2048x2560.Idx, (i 2).val < 1024 → (m (c.tc.loc main_arg0) : FVec Ideal S4x2048x2560 .f32) i = ((P i : ℝ) : EReal)
  w : ∀ i, (m (c.tc.loc main_arg1) : FVec Ideal S4x128x128 .f32) i = ((W i : ℝ) : EReal)
  b : ∀ i, (m (c.tc.loc main_arg2) : FVec Ideal S4x128 .f32) i = ((B i : ℝ) : EReal)
  gv : ∀ i, (m (c.tc.loc main_arg3) : FVec Ideal S512 .f32) i = ((GV i : ℝ) : EReal)
  hg : ∀ i : S1024.Idx, (i 0).val < 512 → (m (c.tc.loc main_arg4) : FVec Ideal S1024 .f32) i = ((HG i : ℝ) : EReal)
  ct : ∀ i : S4x2048x1024.Idx, (i 2).val < 512 → (m (c.tc.loc main_arg5) : FVec Ideal S4x2048x1024 .f32) i = ((C i : ℝ) : EReal)

variable {m c P W B GV HG C}

lemma V_proj (h : Args m c P W B GV HG C) (z : S8192x1024.Idx) :
    V m c main_v2 z = (((data P W B GV HG C).X (z 0).val (z 1).val : ℝ) : EReal) := by
  obtain ⟨r, l, rfl⟩ := is2 z
  have e : V m c main_v2 = (shapeCast S8192x1024 (truncf .bf16 (extractStridedSlice S4x2048x1024 ![0, 0, 0] (m (c.tc.loc main_arg0) : FVec Ideal S4x2048x2560 .f32)
      slices_S4x2048x2560_S4x2048x1024_0_0_0) bitsLt_bf16_f32) shapeCasts_S4x2048x1024_S8192x1024 : FVec Ideal S8192x1024 .bf16) := by
    unfold V hostOps0; after_results; rfl
  rw [e, proj_at]
  exact (h.p _ l.isLt).trans (congrArg _ (at3_eq P _ rfl rfl rfl))

lemma V_ct (h : Args m c P W B GV HG C) (z : S8192x1024.Idx) (hz : (z 1).val < 512) :
    V m c main_v4 z = (((data P W B GV HG C).M (z 0).val (z 1).val : ℝ) : EReal) := by
  obtain ⟨r, l, rfl⟩ := is2 z
  have e : V m c main_v4 = (shapeCast S8192x1024 (truncf .bf16 (m (c.tc.loc main_arg5) : FVec Ideal S4x2048x1024 .f32)
      bitsLt_bf16_f32) shapeCasts_S4x2048x1024_S8192x1024 : FVec Ideal S8192x1024 .bf16) := by
    unfold V hostOps0; after_results; rfl
  rw [e, ct_at]
  exact (h.ct _ hz).trans (congrArg _ (at3_eq C _ rfl rfl rfl))

lemma V_w (h : Args m c P W B GV HG C) (z : S4x128x128.Idx) :
    V m c main_arg1 z = (((data P W B GV HG C).W (z 0).val (z 1).val (z 2).val : ℝ) : EReal) := by
  have e : V m c main_arg1 = (m (c.tc.loc main_arg1) : FVec Ideal S4x128x128 .f32) := by
    unfold V hostOps0; after_results
  rw [e]
  exact (h.w _).trans (congrArg _ (at3_eq W _ rfl rfl rfl))

lemma V_b (h : Args m c P W B GV HG C) (z : S128x4.Idx) :
    V m c main_v5 z = (((data P W B GV HG C).b (z 0).val (z 1).val : ℝ) : EReal) := by
  obtain ⟨t, g, rfl⟩ := is2 z
  have e : V m c main_v5 = (transpose S128x4 [1, 0] (m (c.tc.loc main_arg2) : FVec Ideal S4x128 .f32) transposes_S4x128_S128x4_1_0 : FVec Ideal S128x4 .f32) := by
    unfold V hostOps0; after_results
  rw [e, bias_at]
  exact (h.b _).trans (congrArg _ (at2_eq B _ rfl rfl))

lemma V_gv (h : Args m c P W B GV HG C) (z : S1x512.Idx) :
    V m c main_v6 z = (((data P W B GV HG C).gv (z 1).val : ℝ) : EReal) := by
  obtain ⟨o, l, rfl⟩ := is2 z
  have e : V m c main_v6 = (broadcastInDim S1x512 ![1] bcast_S512_S1x512_1 (m (c.tc.loc main_arg3) : FVec Ideal S512 .f32) : FVec Ideal S1x512 .f32) := by
    unfold V hostOps0; after_results
  rw [e, gain_at]
  exact (h.gv _).trans (congrArg _ (at1_eq GV _ rfl))

lemma V_hg (h : Args m c P W B GV HG C) (z : S1x1024.Idx) (hz : (z 1).val < 512) :
    V m c main_v7 z = (((data P W B GV HG C).hg (z 1).val : ℝ) : EReal) := by
  obtain ⟨o, l, rfl⟩ := is2 z
  have e : V m c main_v7 = (broadcastInDim S1x1024 ![1] bcast_S1024_S1x1024_1 (m (c.tc.loc main_arg4) : FVec Ideal S1024 .f32) : FVec Ideal S1x1024 .f32) := by
    unfold V hostOps0; after_results
  rw [e, head_at]
  exact (h.hg _ hz).trans (congrArg _ (at1_eq HG _ rfl))

/-! ## The blocks of a grid point -/

lemma blocks (h : Args m c P W B GV HG C) (t : Fin cfg0.N) : Blocks m c (data P W B GV HG C) t where
  u r l := by
    show V m c main_v2 _ = _
    refine (V_proj h _).trans ?_
    congr 2
    · show win0_0.index t 0 * 512 + 1 * r.val = _
      rw [(ix t).1.1]; omega
    · show win0_0.index t 1 * 512 + 1 * l.val = _
      rw [(ix t).1.2]; omega
  v r l := by
    show V m c main_v2 _ = _
    refine (V_proj h _).trans ?_
    congr 2
    · show win0_1.index t 0 * 512 + 1 * r.val = _
      rw [(ix t).2.1.1]; omega
    · show win0_1.index t 1 * 512 + 1 * l.val = _
      rw [(ix t).2.1.2]; omega
  ct r l := by
    show V m c main_v4 _ = _
    refine (V_ct h _ (by show win0_2.index t 1 * 512 + 1 * l.val < 512; rw [(ix t).2.2.1.2]; omega)).trans ?_
    congr 2
    · show win0_2.index t 0 * 512 + 1 * r.val = _
      rw [(ix t).2.2.1.1]; omega
    · show win0_2.index t 1 * 512 + 1 * l.val = _
      rw [(ix t).2.2.1.2]; omega
  w g r s := by
    show V m c main_arg1 _ = _
    refine (V_w h _).trans ?_
    congr 2
    · show win0_3.index t 0 * 4 + 1 * g.val = _
      rw [(ix t).2.2.2.1.1]; omega
    · show win0_3.index t 1 * 128 + 1 * r.val = _
      rw [(ix t).2.2.2.1.2.1]; omega
    · show win0_3.index t 2 * 128 + 1 * s.val = _
      rw [(ix t).2.2.2.1.2.2]; omega
  b r g := by
    show V m c main_v5 _ = _
    refine (V_b h _).trans ?_
    congr 2
    · show win0_4.index t 0 * 128 + 1 * r.val = _
      rw [(ix t).2.2.2.2.1.1]; omega
    · show win0_4.index t 1 * 4 + 1 * g.val = _
      rw [(ix t).2.2.2.2.1.2]; omega
  gv r l := by
    show V m c main_v6 _ = _
    refine (V_gv h _).trans ?_
    congr 2
    show win0_5.index t 1 * 512 + 1 * l.val = _
    rw [(ix t).2.2.2.2.2.1.2]; omega
  hg r l := by
    show V m c main_v7 _ = _
    refine (V_hg h _ (by show win0_6.index t 1 * 512 + 1 * l.val < 512; rw [(ix t).2.2.2.2.2.2.1.2]; omega)).trans ?_
    congr 2
    show win0_6.index t 1 * 512 + 1 * l.val = _
    rw [(ix t).2.2.2.2.2.2.1.2]; omega

/-! ## The result arrays -/

variable {D : Data} (H : ∀ t, Blocks m c D t)
include H

lemma final7 : (dats m 0 c).arrAt 7 cfg0.N = mat fun (r : Fin 8192) (l : Fin 1024) => D.dp r.val l.val := by
  refine (dats m 0 c).arrAt_eq_of_cover 7 (mat fun (r : Fin 8192) (l : Fin 1024) => D.dp r.val l.val) (fun t _ => ?_) fun (i : S8192x1024.Idx) => ?_
  · rw [flushed7]
    refine funext fun (y : S512x1024.Idx) => ?_
    obtain ⟨r, l, rfl⟩ := is2 y
    show (outsAt0 m c t.val t.isLt).1 (ix2 r l) = _
    refine (dp_at (H t) r l).trans ?_
    refine congrArg₂ (fun a b : ℕ => ((D.dp a b : ℝ) : EReal)) ?_ ?_
    · show _ = win0_7.index t 0 * 512 + 1 * r.val
      rw [(ix t).2.2.2.2.2.2.2.1.1]; omega
    · show _ = win0_7.index t 1 * 1024 + 1 * l.val
      rw [(ix t).2.2.2.2.2.2.2.1.2]; omega
  · have h0 : (i 0 : Nat) < 8192 := (i 0).isLt
    have h1 : (i 1 : Nat) < 1024 := (i 1).isLt
    have hN : cfg0.N = 16 := N_0
    obtain ⟨t, ht⟩ : ∃ t : Fin cfg0.N, t.val = (i 0 : Nat) / 512 := ⟨⟨(i 0 : Nat) / 512, by omega⟩, rfl⟩
    refine ⟨t, flush0_7 t, ?_⟩
    show i ∈ ((View.whole main_v8_0).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(ix t).2.2.2.2.2.2.2.1.1]; omega
    | ⟨1, _⟩ =>
      show win0_7.index t 1 * 1024 ≤ (i 1 : Nat) ∧ (i 1 : Nat) < win0_7.index t 1 * 1024 + 1024
      rw [(ix t).2.2.2.2.2.2.2.1.2]; omega

lemma end15 : ∃ t : Fin cfg0.N, t.val = 15 := ⟨⟨15, by rw [show cfg0.N = 16 from N_0]; decide⟩, rfl⟩

lemma final8 : (dats m 0 c).arrAt 8 cfg0.N = fun i : S4x128x128.Idx => ((D.dw (i 0).val (i 1) (i 2) : ℝ) : EReal) := by
  refine (dats m 0 c).arrAt_eq_of_cover 8 (fun i : S4x128x128.Idx => ((D.dw (i 0).val (i 1) (i 2) : ℝ) : EReal)) (fun t hf => ?_) fun (i : S4x128x128.Idx) => ?_
  · have ht : t.val = 15 := by have := (flush0_8 t).mp hf; have := lt16 t; omega
    rw [flushed8]
    refine funext fun (y : S4x128x128.Idx) => ?_
    obtain ⟨g, r, s, rfl⟩ : ∃ (g : Fin 4) (r s : Fin 128), y = ix3 g r s := ⟨y 0, y 1, y 2, Places.ext3 rfl rfl rfl⟩
    show (outsAt0 m c t.val t.isLt).2.1 (ix3 g r s) = _
    refine ((last H t ht).1 g r s).trans ?_
    have e : ∀ z : S4x128x128.Idx, (z 0).val = g.val → (z 1).val = r.val → (z 2).val = s.val →
        ((D.dw g.val r s : ℝ) : EReal) = ((D.dw (z 0).val (z 1) (z 2) : ℝ) : EReal) := by
      intro z h0 h1 h2
      rw [show z = ix3 g r s from Places.ext3 h0 h1 h2]
      rfl
    refine e _ ?_ ?_ ?_
    · show win0_8.index t 0 * 4 + 1 * g.val = _
      rw [(ix t).2.2.2.2.2.2.2.2.1.1]; omega
    · show win0_8.index t 1 * 128 + 1 * r.val = _
      rw [(ix t).2.2.2.2.2.2.2.2.1.2.1]; omega
    · show win0_8.index t 2 * 128 + 1 * s.val = _
      rw [(ix t).2.2.2.2.2.2.2.2.1.2.2]; omega
  · obtain ⟨t, ht⟩ := end15 H
    have h0 : (i 0 : Nat) < 4 := (i 0).isLt
    have h1 : (i 1 : Nat) < 128 := (i 1).isLt
    have h2 : (i 2 : Nat) < 128 := (i 2).isLt
    refine ⟨t, (flush0_8 t).mpr (by omega), ?_⟩
    show i ∈ ((View.whole main_v8_1).slice (win0_8.rect t)).set
    rw [View.set_slice_whole, Rect.mem_set_unit]
    intro a
    match a with
    | ⟨0, _⟩ =>
      show win0_8.index t 0 * 4 ≤ (i 0 : Nat) ∧ (i 0 : Nat) < win0_8.index t 0 * 4 + 4
      rw [(ix t).2.2.2.2.2.2.2.2.1.1]; omega
    | ⟨1, _⟩ =>
      show win0_8.index t 1 * 128 ≤ (i 1 : Nat) ∧ (i 1 : Nat) < win0_8.index t 1 * 128 + 128
      rw [(ix t).2.2.2.2.2.2.2.2.1.2.1]; omega
    | ⟨2, _⟩ =>
      show win0_8.index t 2 * 128 ≤ (i 2 : Nat) ∧ (i 2 : Nat) < win0_8.index t 2 * 128 + 128
      rw [(ix t).2.2.2.2.2.2.2.2.1.2.2]; omega

lemma final9 : (dats m 0 c).arrAt 9 cfg0.N = mat fun (r : Fin 128) (g : Fin 4) => D.db r g.val := by
  refine (dats m 0 c).arrAt_eq_of_cover 9 (mat fun (r : Fin 128) (g : Fin 4) => D.db r g.val) (fun t hf => ?_) fun (i : S128x4.Idx) => ?_
  · have ht : t.val = 15 := by have := (flush0_9 t).mp hf; have := lt16 t; omega
    rw [flushed9]
    refine funext fun (y : S128x4.Idx) => ?_
    obtain ⟨r, g, rfl⟩ := is2 y
    show (outsAt0 m c t.val t.isLt).2.2.1 (ix2 r g) = _
    refine ((last H t ht).2.1 r g).trans ?_
    refine congrArg₂ (fun (a : Fin 128) (b : Fin 4) => ((D.db a b.val : ℝ) : EReal)) (Fin.ext ?_) (Fin.ext ?_)
    · show _ = win0_9.index t 0 * 128 + 1 * r.val
      rw [(ix t).2.2.2.2.2.2.2.2.2.1.1]; omega
    · show _ = win0_9.index t 1 * 4 + 1 * g.val
      rw [(ix t).2.2.2.2.2.2.2.2.2.1.2]; omega
  · obtain ⟨t, ht⟩ := end15 H
    have h0 : (i 0 : Nat) < 128 := (i 0).isLt
    have h1 : (i 1 : Nat) < 4 := (i 1).isLt
    refine ⟨t, (flush0_9 t).mpr (by omega), ?_⟩
    show i ∈ ((View.whole main_v8_2).slice (win0_9.rect t)).set
    rw [View.set_slice_whole, Rect.mem_set_unit]
    intro a
    match a with
    | ⟨0, _⟩ =>
      show win0_9.index t 0 * 128 ≤ (i 0 : Nat) ∧ (i 0 : Nat) < win0_9.index t 0 * 128 + 128
      rw [(ix t).2.2.2.2.2.2.2.2.2.1.1]; omega
    | ⟨1, _⟩ =>
      show win0_9.index t 1 * 4 ≤ (i 1 : Nat) ∧ (i 1 : Nat) < win0_9.index t 1 * 4 + 4
      rw [(ix t).2.2.2.2.2.2.2.2.2.1.2]; omega

lemma final10 : (dats m 0 c).arrAt 10 cfg0.N = mat fun (_ : Fin 1) (l : Fin 512) => D.dgvTo 64 l.val := by
  refine (dats m 0 c).arrAt_eq_of_cover 10 (mat fun (_ : Fin 1) (l : Fin 512) => D.dgvTo 64 l.val) (fun t hf => ?_) fun (i : S1x512.Idx) => ?_
  · have ht : t.val = 15 := by have := (flush0_10 t).mp hf; have := lt16 t; omega
    rw [flushed10]
    refine funext fun (y : S1x512.Idx) => ?_
    obtain ⟨r, l, rfl⟩ := is2 y
    show (outsAt0 m c t.val t.isLt).2.2.2.1 (ix2 r l) = _
    refine ((last H t ht).2.2.1 r l).trans ?_
    refine congrArg (fun a : ℕ => ((D.dgvTo 64 a : ℝ) : EReal)) ?_
    show _ = win0_10.index t 1 * 512 + 1 * l.val
    rw [(ix t).2.2.2.2.2.2.2.2.2.2.1.2]; omega
  · obtain ⟨t, ht⟩ := end15 H
    have h0 : (i 0 : Nat) < 1 := (i 0).isLt
    have h1 : (i 1 : Nat) < 512 := (i 1).isLt
    refine ⟨t, (flush0_10 t).mpr (by omega), ?_⟩
    show i ∈ ((View.whole main_v8_3).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [(ix t).2.2.2.2.2.2.2.2.2.2.1.1]; omega
    | ⟨1, _⟩ =>
      show win0_10.index t 1 * 512 ≤ (i 1 : Nat) ∧ (i 1 : Nat) < win0_10.index t 1 * 512 + 512
      rw [(ix t).2.2.2.2.2.2.2.2.2.2.1.2]; omega

lemma final11 : (dats m 0 c).arrAt 11 cfg0.N = mat fun (_ : Fin 1) (l : Fin 512) => D.dhgTo 64 l.val := by
  refine (dats m 0 c).arrAt_eq_of_cover 11 (mat fun (_ : Fin 1) (l : Fin 512) => D.dhgTo 64 l.val) (fun t hf => ?_) fun (i : S1x512.Idx) => ?_
  · have ht : t.val = 15 := by have := (flush0_11 t).mp hf; have := lt16 t; omega
    rw [flushed11]
    refine funext fun (y : S1x512.Idx) => ?_
    obtain ⟨r, l, rfl⟩ := is2 y
    show (outsAt0 m c t.val t.isLt).2.2.2.2.1 (ix2 r l) = _
    refine ((last H t ht).2.2.2 r l).trans ?_
    refine congrArg (fun a : ℕ => ((D.dhgTo 64 a : ℝ) : EReal)) ?_
    show _ = win0_11.index t 1 * 512 + 1 * l.val
    rw [(ix t).2.2.2.2.2.2.2.2.2.2.2.2]; omega
  · obtain ⟨t, ht⟩ := end15 H
    have h0 : (i 0 : Nat) < 1 := (i 0).isLt
    have h1 : (i 1 : Nat) < 512 := (i 1).isLt
    refine ⟨t, (flush0_11 t).mpr (by omega), ?_⟩
    show i ∈ ((View.whole main_v8_4).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [(ix t).2.2.2.2.2.2.2.2.2.2.2.1]; omega
    | ⟨1, _⟩ =>
      show win0_11.index t 1 * 512 ≤ (i 1 : Nat) ∧ (i 1 : Nat) < win0_11.index t 1 * 512 + 512
      rw [(ix t).2.2.2.2.2.2.2.2.2.2.2.2]; omega

end Cert.GmlpIdeal.Reading

end
-- ==== Proof.GmlpRef.lean ====
/-
  The spatial gating unit's reference: what it computes on the way to the gated values and their norm, from arguments that hold
  real numbers.
-/
module

public import proofs.«01_k».proof.Proof.GmlpRows
public import proofs.«01_k».proof.Proof.GmlpData
public import proofs.«01_k».proof.Proof.Gen.GmlpRefIdeal.Read

@[expose] public section

noncomputable section

namespace Cert.GmlpRefIdeal.Reading

open Cert.GmlpRefIdeal Gen Read
open Idealize.ShloMosaic
open Cert.Reals Cert.Gate
open Cert.GmlpIdeal.Pay (one_f32 half_f32 size_f32)
open Cert.Stick (at1 at3 at1_eq at3_eq eps_eq rsqrt_pos)

lemma three_f32 : (Ideal.ofBits .f32 0x40400000#32 : EReal) = ((3 : ℝ) : EReal) := by
  simp [Ideal.ofBits, Ideal.ieee, -EReal.coe_mul]; norm_num
lemma cubic_f32 : (Ideal.ofBits .f32 0x472EAB00#32 : EReal) = ((44715 : ℝ) : EReal) := by
  simp [Ideal.ofBits, Ideal.ieee, -EReal.coe_mul]; norm_num
lemma million_f32 : (Ideal.ofBits .f32 0x49742400#32 : EReal) = ((1000000 : ℝ) : EReal) := by
  simp [Ideal.ofBits, Ideal.ieee, -EReal.coe_mul]; norm_num
lemma less_f32 : (Ideal.ofBits .f32 0xBF000000#32 : EReal) = ((-(1 / 2) : ℝ) : EReal) := by
  simp [Ideal.ofBits, Ideal.ieee, -EReal.coe_mul]; norm_num

lemma th_eq (x : ℝ) : Real.tanh (root * (x + 44715 * (x * x * x) / 1000000)) = th x := by
  unfold th
  congr 2
  ring

variable {x0 : (⟨S4x2048x2560, .f32⟩ : BufTy).Contents (Elt Ideal)} {x1 : (⟨S4x128x128, .f32⟩ : BufTy).Contents (Elt Ideal)}
variable {x2 : (⟨S4x128, .f32⟩ : BufTy).Contents (Elt Ideal)} {x3 : (⟨S512, .f32⟩ : BufTy).Contents (Elt Ideal)}
variable {x4 : (⟨S1024, .f32⟩ : BufTy).Contents (Elt Ideal)} {x5 : (⟨S4x2048x1024, .f32⟩ : BufTy).Contents (Elt Ideal)}

/-- The arguments hold real numbers where they are looked at, placed as `D` has them. -/
structure Args (x0 : (⟨S4x2048x2560, .f32⟩ : BufTy).Contents (Elt Ideal)) (x1 : (⟨S4x128x128, .f32⟩ : BufTy).Contents (Elt Ideal))
    (x2 : (⟨S4x128, .f32⟩ : BufTy).Contents (Elt Ideal)) (x3 : (⟨S512, .f32⟩ : BufTy).Contents (Elt Ideal))
    (x4 : (⟨S1024, .f32⟩ : BufTy).Contents (Elt Ideal)) (x5 : (⟨S4x2048x1024, .f32⟩ : BufTy).Contents (Elt Ideal)) (D : Data) : Prop where
  p : ∀ (b : Fin 4) (s : Fin 2048) (l : Fin 2560), l.val < 1024 → x0 (ix3 b s l) = ((D.X (2048 * b.val + s.val) l.val : ℝ) : EReal)
  w : ∀ (g : Fin 4) (t s : Fin 128), x1 (ix3 g t s) = ((D.W g.val t.val s.val : ℝ) : EReal)
  b : ∀ (g : Fin 4) (t : Fin 128), x2 (ix2 g t) = ((D.b t.val g.val : ℝ) : EReal)
  gv : ∀ l : Fin 512, x3 (ix1 l) = ((D.gv l.val : ℝ) : EReal)
  hg : ∀ l : Fin 1024, l.val < 512 → x4 (ix1 l) = ((D.hg l.val : ℝ) : EReal)
  ct : ∀ (b : Fin 4) (s : Fin 2048) (l : Fin 1024), l.val < 512 → x5 (ix3 b s l) = ((D.M (2048 * b.val + s.val) l.val : ℝ) : EReal)

variable {D : Data}

/-- Chunk `n` of batch `b`. -/
abbrev ck (D : Data) (b : Fin 4) (n : Fin 16) (g : Fin 4) : Chunk := D.chunk g.val (16 * b.val + n.val)

section Forward

variable (h : Args x0 x1 x2 x3 x4 x5 D)
include h

/-! ## gelu -/

lemma at_u (b : Fin 4) (s : Fin 2048) (l : Fin 512) : val_main_v2 x0 (ix3 b s l) = ((D.X (2048 * b.val + s.val) l.val : ℝ) : EReal) := by
  pointwise [val_main_v2, val_main_v0]
  exact (h.p b s _ (by show l.val < 1024; omega)).trans rfl

lemma at_v (b : Fin 4) (s : Fin 2048) (l : Fin 512) : val_main_v26 x0 (ix3 b s l) = ((D.X (2048 * b.val + s.val) (512 + l.val) : ℝ) : EReal) := by
  pointwise [val_main_v26, val_main_v0]
  exact (h.p b s _ (by show 512 + l.val < 1024; omega)).trans rfl

lemma at_thu (b : Fin 4) (s : Fin 2048) (l : Fin 512) : val_main_v15 x0 (ix3 b s l) = ((th (D.X (2048 * b.val + s.val) l.val) : ℝ) : EReal) := by
  pointwise [val_main_v15, val_main_v14, val_main_v13, val_main_v12, val_main_v11, val_main_v10, val_main_v9, val_main_v8, val_main_v4, val_main_v3, val_main_cst_0, val_main_cst_1, val_main_cst_2]
  simp only [at_u h, root_eq, cubic_f32, million_f32, ← EReal.coe_mul, div_coe _ 1000000 (by norm_num), ← EReal.coe_add, Ideal.tanh_coe, th_eq]

lemma at_thv (b : Fin 4) (s : Fin 2048) (l : Fin 512) : val_main_v39 x0 (ix3 b s l) = ((th (D.X (2048 * b.val + s.val) (512 + l.val)) : ℝ) : EReal) := by
  pointwise [val_main_v39, val_main_v38, val_main_v37, val_main_v36, val_main_v35, val_main_v34, val_main_v33, val_main_v32, val_main_v28, val_main_v27, val_main_cst_8, val_main_cst_9, val_main_cst_10]
  simp only [at_v h, root_eq, cubic_f32, million_f32, ← EReal.coe_mul, div_coe _ 1000000 (by norm_num), ← EReal.coe_add, Ideal.tanh_coe, th_eq]

lemma at_halfu (b : Fin 4) (s : Fin 2048) (l : Fin 512) : val_main_v24 x0 (ix3 b s l) = ((half (D.X (2048 * b.val + s.val) l.val) : ℝ) : EReal) := by
  pointwise [val_main_v24, val_main_v23, val_main_v22, val_main_v21, val_main_cst_5, val_main_cst_6]
  simp only [at_thu h, one_f32, half_f32, ← EReal.coe_mul, ← EReal.coe_add]
  rfl

lemma at_halfv (b : Fin 4) (s : Fin 2048) (l : Fin 512) : val_main_v48 x0 (ix3 b s l) = ((half (D.X (2048 * b.val + s.val) (512 + l.val)) : ℝ) : EReal) := by
  pointwise [val_main_v48, val_main_v47, val_main_v46, val_main_v45, val_main_cst_13, val_main_cst_14]
  simp only [at_thv h, one_f32, half_f32, ← EReal.coe_mul, ← EReal.coe_add]
  rfl

/-! ## By chunk and group -/

omit h in
/-- Positions and columns in chunks and groups. -/
lemma row_eq (b : Fin 4) (n : Fin 16) (t : Fin 128) : 2048 * b.val + (n.val * 128 + t.val) = 128 * (16 * b.val + n.val) + t.val := by omega
omit h in
lemma col_eq (g : Fin 4) (d : Fin 128) : g.val * 128 + d.val = 128 * g.val + d.val := by omega

lemma at_gu (b : Fin 4) (n : Fin 16) (t : Fin 128) (g : Fin 4) (d : Fin 128) :
    val_main_v50 x0 (ix5 b n t g d) = ((gelu ((ck D b n g).U t d) : ℝ) : EReal) := by
  pointwise [val_main_v50, val_main_v25]
  simp only [at_u h, at_halfu h, ← EReal.coe_mul, row_eq, col_eq]
  rfl

lemma at_gv (b : Fin 4) (n : Fin 16) (t : Fin 128) (g : Fin 4) (d : Fin 128) :
    val_main_v51 x0 (ix5 b n t g d) = ((gelu ((ck D b n g).V t d) : ℝ) : EReal) := by
  pointwise [val_main_v51, val_main_v49]
  simp only [at_v h, at_halfv h, ← EReal.coe_mul, row_eq, col_eq]
  rfl

/-! ## The norm of the mixed half -/

lemma at_msv (b : Fin 4) (n : Fin 16) (t : Fin 128) (g : Fin 4) (o : Fin 1) :
    val_main_v59 x0 (ix5 b n t g o) = (((ck D b n g).msv t : ℝ) : EReal) := by
  pointwise [val_main_v59, val_main_v58, val_main_v57, val_main_v56, val_main_v55, val_main_v54, val_main_v53, val_main_cst_15, val_main_cst_16, val_main_cst_17]
  simp only [at_gv h, ← EReal.coe_mul, coe_sum, size_f32, eps_eq, div_coe _ 128 (by norm_num), ← EReal.coe_add]
  rfl

lemma at_rv (b : Fin 4) (n : Fin 16) (t : Fin 128) (g : Fin 4) (o : Fin 1) :
    val_main_v60 x0 (ix5 b n t g o) = (((ck D b n g).rv t : ℝ) : EReal) := by
  pointwise [val_main_v60]
  rw [at_msv h, rsqrt_pos ((ck D b n g).msv_pos t)]
  rfl

lemma at_rv' (b : Fin 4) (n : Fin 16) (t : Fin 128) (g : Fin 4) (o : Fin 1) :
    val_main_v63 x0 (ix5 b n t g o) = ((-(1 / 2) * ((ck D b n g).rv t / (ck D b n g).msv t) : ℝ) : EReal) := by
  pointwise [val_main_v63, val_main_v62, val_main_v61, val_main_cst_18]
  rw [at_rv h, at_msv h, less_f32, div_coe _ _ ((ck D b n g).msv_pos t).ne', ← EReal.coe_mul]

lemma at_xh (b : Fin 4) (n : Fin 16) (t : Fin 128) (g : Fin 4) (d : Fin 128) :
    val_main_v65 x0 (ix5 b n t g d) = (((ck D b n g).xh t d : ℝ) : EReal) := by
  pointwise [val_main_v65, val_main_v64]
  simp only [at_gv h, at_rv h, ← EReal.coe_mul]
  rfl

lemma at_gain (b : Fin 4) (n : Fin 16) (t : Fin 128) (g : Fin 4) (d : Fin 128) :
    val_main_v67 x3 (ix5 b n t g d) = (((ck D b n g).gv d : ℝ) : EReal) := by
  pointwise [val_main_v67, val_main_v66, val_main_v52]
  rw [h.gv]
  simp only [col_eq]
  rfl

lemma at_vn (b : Fin 4) (n : Fin 16) (t : Fin 128) (g : Fin 4) (d : Fin 128) :
    val_main_v68 x0 x3 (ix5 b n t g d) = (((ck D b n g).vn t d : ℝ) : EReal) := by
  pointwise [val_main_v68]
  rw [at_xh h, at_gain h, ← EReal.coe_mul]
  rfl

/-! ## Mixing -/

omit h in
lemma mask_at (g : Fin 4) (t s : Fin 128) : val_main_v73_1 (F := Ideal) (ix3 g t s) = if s.val ≤ t.val then 1#1 else 0#1 := by
  pointwise [val_main_v73_1, val_main_v71, val_main_v70, val_main_v69, val_main_c, val_main_call0_v5, val_main_call0_v4, val_main_call0_v3, val_main_call0_v2, val_main_call0_v1, val_main_call0_v0,
    val_main_call0_c, val_main_call0_c_0]
  revert t s
  decide +kernel

omit h in
lemma masked (g : Fin 4) (t s : Fin 128) (a b : EReal) : Scalar.select (val_main_v73_1 (F := Ideal) (ix3 g t s)) a b = if s.val ≤ t.val then a else b := by
  rw [mask_at]
  split <;> rfl

lemma at_w (b : Fin 4) (n : Fin 16) (g : Fin 4) (t s : Fin 128) :
    val_main_v73_0 x1 (ix3 g t s) = (((ck D b n g).w t s : ℝ) : EReal) := by
  pointwise [val_main_v73_0, val_main_v72, val_main_cst_19]
  rw [masked, h.w]
  unfold Chunk.w
  split
  · rfl
  · exact EReal.coe_zero.symm

lemma at_mix (b : Fin 4) (n : Fin 16) (t : Fin 128) (g : Fin 4) (d : Fin 128) :
    val_main_v79 x0 x1 x2 x3 (ix5 b n t g d) = (((ck D b n g).mix t d : ℝ) : EReal) := by
  pointwise [val_main_v79, val_main_v78, val_main_v77, val_main_v76, val_main_v75, val_main_v74]
  simp only [at_vn h, at_w h b n, h.b, ← EReal.coe_mul, coe_sum, ← EReal.coe_add, mul_comm ((ck D b n g).vn _ d)]
  rfl

lemma at_gated (b : Fin 4) (n : Fin 16) (t : Fin 128) (g : Fin 4) (d : Fin 128) :
    val_main_v80 x0 x1 x2 x3 (ix5 b n t g d) = (((ck D b n g).gated t d : ℝ) : EReal) := by
  pointwise [val_main_v80]
  rw [at_gu h, at_mix h, ← EReal.coe_mul]
  rfl

/-! ## The norm of the gated values -/

lemma at_msg (b : Fin 4) (n : Fin 16) (t : Fin 128) (g : Fin 4) (o : Fin 1) :
    val_main_v87 x0 x1 x2 x3 (ix5 b n t g o) = (((ck D b n g).msg t : ℝ) : EReal) := by
  pointwise [val_main_v87, val_main_v86, val_main_v85, val_main_v84, val_main_v83, val_main_v82, val_main_v81, val_main_cst_20, val_main_cst_21, val_main_cst_22]
  simp only [at_gated h, ← EReal.coe_mul, coe_sum, size_f32, eps_eq, div_coe _ 128 (by norm_num), ← EReal.coe_add]
  rfl

lemma at_rg (b : Fin 4) (n : Fin 16) (t : Fin 128) (g : Fin 4) (o : Fin 1) :
    val_main_v88 x0 x1 x2 x3 (ix5 b n t g o) = (((ck D b n g).rg t : ℝ) : EReal) := by
  pointwise [val_main_v88]
  rw [at_msg h, rsqrt_pos ((ck D b n g).msg_pos t)]
  rfl

lemma at_rg' (b : Fin 4) (n : Fin 16) (t : Fin 128) (g : Fin 4) (o : Fin 1) :
    val_main_v91 x0 x1 x2 x3 (ix5 b n t g o) = ((-(1 / 2) * ((ck D b n g).rg t / (ck D b n g).msg t) : ℝ) : EReal) := by
  pointwise [val_main_v91, val_main_v90, val_main_v89, val_main_cst_23]
  rw [at_rg h, at_msg h, less_f32, div_coe _ _ ((ck D b n g).msg_pos t).ne', ← EReal.coe_mul]

lemma at_an (b : Fin 4) (n : Fin 16) (t : Fin 128) (g : Fin 4) (d : Fin 128) :
    val_main_v93 x0 x1 x2 x3 (ix5 b n t g d) = (((ck D b n g).an t d : ℝ) : EReal) := by
  pointwise [val_main_v93, val_main_v92]
  rw [at_gated h, at_rg h, ← EReal.coe_mul]
  rfl

lemma at_dan (b : Fin 4) (n : Fin 16) (t : Fin 128) (g : Fin 4) (d : Fin 128) :
    val_main_v105 x4 x5 (ix5 b n t g d) = (((ck D b n g).dan t d : ℝ) : EReal) := by
  pointwise [val_main_v105, val_main_v103, val_main_v102, val_main_v98, val_main_v95, val_main_v1]
  rw [h.ct _ _ _ (by show g.val * 128 + d.val < 512; omega), h.hg _ (by show g.val * 128 + d.val < 512; omega), ← EReal.coe_mul]
  simp only [row_eq, col_eq]
  rfl

end Forward

end Cert.GmlpRefIdeal.Reading

end
-- ==== Proof.GmlpRefBack.lean ====
/-
  The spatial gating unit's reference: its five results, from arguments that hold real numbers.
-/
module

public import proofs.«01_k».proof.Proof.GmlpRef

@[expose] public section

noncomputable section

namespace Cert.GmlpRefIdeal.Reading

open Cert.GmlpRefIdeal Gen Read
open Idealize.ShloMosaic
open Cert.Reals Cert.Gate
open Cert.GmlpIdeal.Pay (one_f32 half_f32 size_f32)

/-! ## Sums -/

/-- A norm's gradient as the mean square's and the quotient's rules give it. -/
lemma norm_back (w c M T i : ℝ) (hM : 0 < M) (hi : i = (√M)⁻¹) :
    c * i + w * (T * (-(1 / 2) * (i / M)) / 128) + T * (-(1 / 2) * (i / M)) / 128 * w = i * (c - w * i * (T * i / 128)) := by
  have h : i / M = i * i * i := by
    have hs : √M * √M = M := Real.mul_self_sqrt hM.le
    have h0 : √M ≠ 0 := (Real.sqrt_pos.2 hM).ne'
    rw [hi]
    field_simp
    nlinarith [hs]
  rw [h]
  ring

/-- The gradient of gelu as its terms' rules give it. -/
lemma gelu_back (x c : ℝ) :
    c * half x + root * (1 / 2 * (x * c) * ((1 + th x) * (1 - th x))) + 44715 * (root * (1 / 2 * (x * c) * ((1 + th x) * (1 - th x))) / 1000000) * (3 * (x * x))
      = c * Gate.slope x := by
  unfold Gate.slope
  ring

/-- A sum over the first two of three axes. -/
lemma sum_01 {A B N : ℕ} (h : (⟨3, ![A, B, N]⟩ : Shape).ReducesTo [0, 1] ⟨1, ![N]⟩) (x : (⟨3, ![A, B, N]⟩ : Shape).Idx → EReal) (l : Fin N) :
    Ideal.hostReduceAdd h x 0 (ix1 l) = ∑ a : Fin A, ∑ b : Fin B, x (ix3 a b l) := by
  unfold Ideal.hostReduceAdd
  have last : ∀ z ∈ Finset.univ.filter (fun i => h.drop i = ix1 l), z 2 = l := fun z hz =>
    Fin.ext (congrArg Fin.val (congrFun (Finset.mem_filter.1 hz).2 (0 : Fin 1)))
  rw [zero_add, ← Finset.sum_product']
  refine Finset.sum_nbij' (fun z => (z 0, z 1)) (fun p => ix3 p.1 p.2 l) ?_ ?_ ?_ ?_ ?_
  · exact fun _ _ => Finset.mem_product.2 ⟨Finset.mem_univ _, Finset.mem_univ _⟩
  · exact fun p _ => Finset.mem_filter.2 ⟨Finset.mem_univ _, funext fun | ⟨0, _⟩ => rfl⟩
  · exact fun z hz => (Places.ext3 rfl rfl (congrArg Fin.val (last z hz).symm : l.val = (z 2).val) : ix3 (z 0) (z 1) l = z)
  · exact fun _ _ => rfl
  · exact fun z hz => congrArg x (Places.ext3 rfl rfl (congrArg Fin.val (last z hz)) : z = ix3 (z 0) (z 1) l)

lemma ext5 {a b c d e : ℕ} {y z : (⟨5, ![a, b, c, d, e]⟩ : Shape).Idx} (h0 : y 0 = z 0) (h1 : y 1 = z 1) (h2 : y 2 = z 2) (h3 : y 3 = z 3) (h4 : y 4 = z 4) : y = z :=
  funext fun | ⟨0, _⟩ => h0 | ⟨1, _⟩ => h1 | ⟨2, _⟩ => h2 | ⟨3, _⟩ => h3 | ⟨4, _⟩ => h4

/-- A sum over the first two and the last of five axes. -/
lemma sum_014 {A B T G N : ℕ} (h : (⟨5, ![A, B, T, G, N]⟩ : Shape).ReducesTo [0, 1, 4] ⟨2, ![T, G]⟩) (x : (⟨5, ![A, B, T, G, N]⟩ : Shape).Idx → EReal)
    (t : Fin T) (g : Fin G) : Ideal.hostReduceAdd h x 0 (ix2 t g) = ∑ a : Fin A, ∑ b : Fin B, ∑ l : Fin N, x (ix5 a b t g l) := by
  unfold Ideal.hostReduceAdd
  have l2 : ∀ z ∈ Finset.univ.filter (fun i => h.drop i = ix2 t g), z 2 = t := fun z hz =>
    Fin.ext (congrArg Fin.val (congrFun (Finset.mem_filter.1 hz).2 (0 : Fin 2)))
  have l3 : ∀ z ∈ Finset.univ.filter (fun i => h.drop i = ix2 t g), z 3 = g := fun z hz =>
    Fin.ext (congrArg Fin.val (congrFun (Finset.mem_filter.1 hz).2 (1 : Fin 2)))
  rw [zero_add]
  simp only [← Finset.sum_product']
  refine Finset.sum_nbij' (fun z => (z 0, z 1, z 4)) (fun p => ix5 p.1 p.2.1 t g p.2.2) ?_ ?_ ?_ ?_ ?_
  · exact fun _ _ => Finset.mem_product.2 ⟨Finset.mem_univ _, Finset.mem_product.2 ⟨Finset.mem_univ _, Finset.mem_univ _⟩⟩
  · exact fun p _ => Finset.mem_filter.2 ⟨Finset.mem_univ _, funext fun | ⟨0, _⟩ => rfl | ⟨1, _⟩ => rfl⟩
  · exact fun z hz => (ext5 rfl rfl (l2 z hz).symm (l3 z hz).symm rfl : ix5 (z 0) (z 1) t g (z 4) = z)
  · exact fun _ _ => rfl
  · exact fun z hz => congrArg x (ext5 rfl rfl (l2 z hz) (l3 z hz) rfl : z = ix5 (z 0) (z 1) t g (z 4))

/-- A sum over the first three of five axes. -/
lemma sum_012 {A B T G N : ℕ} (h : (⟨5, ![A, B, T, G, N]⟩ : Shape).ReducesTo [0, 1, 2] ⟨2, ![G, N]⟩) (x : (⟨5, ![A, B, T, G, N]⟩ : Shape).Idx → EReal)
    (g : Fin G) (l : Fin N) : Ideal.hostReduceAdd h x 0 (ix2 g l) = ∑ a : Fin A, ∑ b : Fin B, ∑ t : Fin T, x (ix5 a b t g l) := by
  unfold Ideal.hostReduceAdd
  have l3 : ∀ z ∈ Finset.univ.filter (fun i => h.drop i = ix2 g l), z 3 = g := fun z hz =>
    Fin.ext (congrArg Fin.val (congrFun (Finset.mem_filter.1 hz).2 (0 : Fin 2)))
  have l4 : ∀ z ∈ Finset.univ.filter (fun i => h.drop i = ix2 g l), z 4 = l := fun z hz =>
    Fin.ext (congrArg Fin.val (congrFun (Finset.mem_filter.1 hz).2 (1 : Fin 2)))
  rw [zero_add]
  simp only [← Finset.sum_product']
  refine Finset.sum_nbij' (fun z => (z 0, z 1, z 2)) (fun p => ix5 p.1 p.2.1 p.2.2 g l) ?_ ?_ ?_ ?_ ?_
  · exact fun _ _ => Finset.mem_product.2 ⟨Finset.mem_univ _, Finset.mem_product.2 ⟨Finset.mem_univ _, Finset.mem_univ _⟩⟩
  · exact fun p _ => Finset.mem_filter.2 ⟨Finset.mem_univ _, funext fun | ⟨0, _⟩ => rfl | ⟨1, _⟩ => rfl⟩
  · exact fun z hz => (ext5 rfl rfl rfl (l3 z hz).symm (l4 z hz).symm : ix5 (z 0) (z 1) (z 2) g l = z)
  · exact fun _ _ => rfl
  · exact fun z hz => congrArg x (ext5 rfl rfl rfl (l3 z hz) (l4 z hz) : z = ix5 (z 0) (z 1) (z 2) g l)

/-- The chunks of all the batches. -/
lemma sum_chunks (f : ℕ → ℝ) : ∑ b : Fin 4, ∑ n : Fin 16, f (16 * b.val + n.val) = ∑ k ∈ Finset.range 64, f k := by
  have e := sum_blocks f 16 4 0
  simp only [Nat.zero_add, Nat.mul_zero] at e
  rw [Finset.sum_range] at e
  rw [e]
  exact Fin.sum_univ_eq_sum_range f 64

/-- The positions of a batch, by chunks. -/
lemma sum_places (f : ℕ → ℝ) (b : ℕ) : ∑ s : Fin 2048, f (2048 * b + s.val) = ∑ n : Fin 16, ∑ t : Fin 128, f (128 * (16 * b + n.val) + t.val) := by
  have e := sum_blocks f 128 16 (16 * b)
  rw [Finset.sum_range] at e
  rw [e]
  refine Finset.sum_congr rfl fun s _ => ?_
  congr 1
  omega

/-- A product of two arrays, summed over batches, chunks and columns. -/
lemma dot_all (x : FVec Ideal S4x4x16x128x128 .f32) (y : FVec Ideal S4x16x128x4x128 .f32) (g : Fin 4) (t s : Fin 128) :
    Ideal.matmul dot_S4x4x16x128x128_S4x16x128x4x128_S4x128x128_123_014_4_2_0_3 x y (fun _ => 0) (ix3 g t s)
      = ∑ b : Fin 4, ∑ n : Fin 16, ∑ d : Fin 128, x (ix5 g b n d t) * y (ix5 b n s g d) := by
  unfold Ideal.matmul
  rw [zero_add]
  simp only [← Finset.sum_product']
  refine Finset.sum_nbij' (fun q => ((q ⟨0, by decide⟩, q ⟨1, by decide⟩, q ⟨2, by decide⟩) : Fin 4 × Fin 16 × Fin 128))
    (fun p => fun | ⟨0, _⟩ => p.1 | ⟨1, _⟩ => p.2.1 | ⟨2, _⟩ => p.2.2) ?_ ?_ ?_ ?_ ?_
  · exact fun _ _ => Finset.mem_product.2 ⟨Finset.mem_univ _, Finset.mem_product.2 ⟨Finset.mem_univ _, Finset.mem_univ _⟩⟩
  · exact fun _ _ => Finset.mem_univ _
  · exact fun q _ => funext fun | ⟨0, _⟩ => rfl | ⟨1, _⟩ => rfl | ⟨2, _⟩ => rfl
  · exact fun _ _ => rfl
  · intro q _
    refine congrArg₂ (· * ·) (congrArg x (ext5 rfl rfl rfl rfl rfl)) (congrArg y (ext5 rfl rfl rfl rfl rfl))

variable {x0 : (⟨S4x2048x2560, .f32⟩ : BufTy).Contents (Elt Ideal)} {x1 : (⟨S4x128x128, .f32⟩ : BufTy).Contents (Elt Ideal)}
variable {x2 : (⟨S4x128, .f32⟩ : BufTy).Contents (Elt Ideal)} {x3 : (⟨S512, .f32⟩ : BufTy).Contents (Elt Ideal)}
variable {x4 : (⟨S1024, .f32⟩ : BufTy).Contents (Elt Ideal)} {x5 : (⟨S4x2048x1024, .f32⟩ : BufTy).Contents (Elt Ideal)}
variable {D : Data} (h : Args x0 x1 x2 x3 x4 x5 D)
include h

/-! ## Through the gate -/

lemma at_dg (b : Fin 4) (n : Fin 16) (t : Fin 128) (g : Fin 4) (d : Fin 128) :
    val_main_v119 x0 x1 x2 x3 x4 x5 (ix5 b n t g d) = (((ck D b n g).dg t d : ℝ) : EReal) := by
  pointwise [val_main_v119, val_main_v118, val_main_v117, val_main_v116, val_main_v115, val_main_v114, val_main_v113, val_main_v112, val_main_v111, val_main_v110, val_main_v109, val_main_v108,
    val_main_v107, val_main_v106, val_main_cst_26, val_main_cst_27, val_main_cst_28]
  simp only [at_gated h, at_dan h, at_rg h, at_rg' h, size_f32, ← EReal.coe_mul, coe_sum, div_coe _ 128 (by norm_num), Finset.univ_unique, Finset.sum_singleton, ← EReal.coe_add]
  refine congrArg _ ((norm_back _ _ _ _ _ ((ck D b n g).msg_pos t) rfl).trans ?_)
  unfold Chunk.dg Chunk.an
  have e : (∑ e, (ck D b n g).dan t e * ((ck D b n g).gated t e * (ck D b n g).rg t)) = (∑ e, (ck D b n g).gated t e * (ck D b n g).dan t e) * (ck D b n g).rg t := by
    rw [Finset.sum_mul]
    exact Finset.sum_congr rfl fun e _ => by ring
  rw [e]
  rfl

lemma at_dmix (b : Fin 4) (n : Fin 16) (t : Fin 128) (g : Fin 4) (d : Fin 128) :
    val_main_v120 x0 x1 x2 x3 x4 x5 (ix5 b n t g d) = (((ck D b n g).dmix t d : ℝ) : EReal) := by
  pointwise [val_main_v120]
  rw [at_gu h, at_dg h, ← EReal.coe_mul, mul_comm]
  rfl

lemma at_dvn (b : Fin 4) (n : Fin 16) (s : Fin 128) (g : Fin 4) (d : Fin 128) :
    val_main_v129 x0 x1 x2 x3 x4 x5 (ix5 b n s g d) = (((ck D b n g).dvn s d : ℝ) : EReal) := by
  pointwise [val_main_v129, val_main_v128, val_main_v126]
  simp only [at_dmix h, at_w h b n, ← EReal.coe_mul, coe_sum, mul_comm ((ck D b n g).dmix _ d)]
  rfl

lemma at_dxh (b : Fin 4) (n : Fin 16) (s : Fin 128) (g : Fin 4) (d : Fin 128) :
    val_main_v135 x0 x1 x2 x3 x4 x5 (ix5 b n s g d) = (((ck D b n g).dxh s d : ℝ) : EReal) := by
  have e : val_main_v134 x3 (ix5 b n s g d) = val_main_v67 x3 (ix5 b n s g d) := rfl
  pointwise [val_main_v135]
  rw [e, at_dvn h, at_gain h, ← EReal.coe_mul]
  rfl

/-- The gradient at the mixed half, after gelu. -/
lemma at_back (b : Fin 4) (n : Fin 16) (s : Fin 128) (g : Fin 4) (d : Fin 128) :
    val_main_v150 x0 x1 x2 x3 x4 x5 (ix5 b n s g d)
      = (((ck D b n g).rv s * ((ck D b n g).dxh s d - (ck D b n g).xh s d * ((∑ e, (ck D b n g).dxh s e * (ck D b n g).xh s e) / 128)) : ℝ) : EReal) := by
  pointwise [val_main_v150, val_main_v149, val_main_v148, val_main_v147, val_main_v146, val_main_v145, val_main_v144, val_main_v143, val_main_v142, val_main_v141, val_main_v140, val_main_v139,
    val_main_v138, val_main_v137, val_main_cst_33, val_main_cst_34, val_main_cst_35]
  simp only [at_gv h, at_dxh h, at_rv h, at_rv' h, size_f32, ← EReal.coe_mul, coe_sum, div_coe _ 128 (by norm_num), Finset.univ_unique, Finset.sum_singleton, ← EReal.coe_add]
  refine congrArg _ ((norm_back _ _ _ _ _ ((ck D b n g).msv_pos s) rfl).trans ?_)
  unfold Chunk.xh
  have e : (∑ e, (ck D b n g).dxh s e * (gelu ((ck D b n g).V s e) * (ck D b n g).rv s)) = (∑ e, gelu ((ck D b n g).V s e) * (ck D b n g).dxh s e) * (ck D b n g).rv s := by
    rw [Finset.sum_mul]
    exact Finset.sum_congr rfl fun e _ => by ring
  rw [e]
  rfl

/-! ## The results -/

lemma w_read (g : Fin 4) (t s : Fin 128) : val_main_v130 x0 x1 x2 x3 x4 x5 (ix3 g t s) = ((D.dw g.val t s : ℝ) : EReal) := by
  have hx : ∀ (b : Fin 4) (n : Fin 16) (d : Fin 128), val_main_v126 x0 x1 x2 x3 x4 x5 (ix5 g b n d t) = (((ck D b n g).dmix t d : ℝ) : EReal) := fun b n d => by
    pointwise [val_main_v126]
    exact at_dmix h b n t g d
  have e : val_main_v127 x0 x1 x2 x3 x4 x5 (ix3 g t s) = ((D.dwTo 64 g.val t s : ℝ) : EReal) := by
    refine (dot_all _ _ g t s).trans ?_
    simp only [hx, at_vn h, ← EReal.coe_mul, coe_sum]
    exact congrArg _ (sum_chunks fun k => (D.chunk g.val k).dw t s)
  pointwise [val_main_v130, val_main_call2_v0, val_main_call2_cst]
  rw [e, masked]
  unfold Data.dw
  split
  · rfl
  · exact EReal.coe_zero.symm

lemma b_read (t : Fin 128) (g : Fin 4) : val_main_v187 x0 x1 x2 x3 x4 x5 (ix2 t g) = ((D.db t g.val : ℝ) : EReal) := by
  have e : val_main_v122 x0 x1 x2 x3 x4 x5 (ix2 t g) = ((D.db t g.val : ℝ) : EReal) := by
    unfold val_main_v122
    show Ideal.hostReduceAdd _ _ (Ideal.ofBits .f32 0x00000000#32) (ix2 t g) = _
    rw [Ideal.ofBits_zero_f32, sum_014]
    simp only [at_dmix h, coe_sum]
    refine congrArg _ ((sum_chunks fun k => ∑ d, (D.chunk g.val k).dmix t d).trans Finset.sum_comm)
  pointwise [val_main_v187, val_main_v125]
  unfold val_main_v124
  show Ideal.hostReduceAdd _ _ (Ideal.ofBits .f32 0x00000000#32) (ix2 t g) = _
  rw [Ideal.ofBits_zero_f32, sum_014]
  simp only [Finset.univ_unique, Finset.sum_singleton]
  pointwise [val_main_v123]
  exact e

lemma gv_read (o : Fin 1) (l : Fin 512) : val_main_v188 x0 x1 x2 x3 x4 x5 (ix2 o l) = ((D.dgvTo 64 l.val : ℝ) : EReal) := by
  have e (g : Fin 4) (d : Fin 128) : val_main_v132 x0 x1 x2 x3 x4 x5 (ix2 g d) = ((∑ k ∈ Finset.range 64, (D.chunk g.val k).dgv d : ℝ) : EReal) := by
    have hx : ∀ (b : Fin 4) (n : Fin 16) (s : Fin 128), val_main_v131 x0 x1 x2 x3 x4 x5 (ix5 b n s g d) = (((ck D b n g).dvn s d * (ck D b n g).xh s d : ℝ) : EReal) := fun b n s => by
      pointwise [val_main_v131]
      rw [at_xh h, at_dvn h, ← EReal.coe_mul, mul_comm]
    unfold val_main_v132
    show Ideal.hostReduceAdd _ _ (Ideal.ofBits .f32 0x00000000#32) (ix2 g d) = _
    rw [Ideal.ofBits_zero_f32, sum_012]
    simp only [hx, coe_sum]
    exact congrArg _ (sum_chunks fun k => (D.chunk g.val k).dgv d)
  pointwise [val_main_v188, val_main_v151]
  unfold val_main_v136
  show Ideal.hostReduceAdd _ _ (Ideal.ofBits .f32 0x00000000#32) _ = _
  rw [Ideal.ofBits_zero_f32, sum_012]
  simp only [Finset.univ_unique, Finset.sum_singleton]
  pointwise [val_main_v133]
  exact e _ _

lemma hg_read (o : Fin 1) (l : Fin 512) : val_main_v189 x0 x1 x2 x3 x5 (ix2 o l) = ((D.dhgTo 64 l.val : ℝ) : EReal) := by
  have e : val_main_v100 x0 x1 x2 x3 x5 (ix1 l) = ((D.dhgTo 64 l.val : ℝ) : EReal) := by
    have hx : ∀ (b : Fin 4) (s : Fin 2048), val_main_v99 x0 x1 x2 x3 x5 (ix3 b s l)
        = ((D.M (2048 * b.val + s.val) l.val * (D.chunk (l.val / 128) ((2048 * b.val + s.val) / 128)).an (Data.lane (2048 * b.val + s.val)) (Data.lane l.val) : ℝ) : EReal) := fun b s => by
      pointwise [val_main_v99, val_main_v98, val_main_v94]
      rw [at_an h, h.ct _ _ _ (by show l.val < 512; omega), ← EReal.coe_mul, mul_comm]
      have e1 : (2048 * b.val + s.val) / 128 = 16 * b.val + s.val / 128 := by omega
      have e2 : Data.lane (2048 * b.val + s.val) = ⟨s.val % 128, by omega⟩ := Fin.ext (by simp only [Data.lane]; omega)
      rw [e1, e2]
      rfl
    unfold val_main_v100
    show Ideal.hostReduceAdd _ _ (Ideal.ofBits .f32 0x00000000#32) (ix1 l) = _
    rw [Ideal.ofBits_zero_f32, sum_01]
    simp only [hx, coe_sum]
    refine congrArg _ ?_
    simp only [sum_places (fun r => D.M r l.val * (D.chunk (l.val / 128) (r / 128)).an (Data.lane r) (Data.lane l.val))]
    refine Eq.trans ?_ (sum_chunks fun k => (D.chunk (l.val / 128) k).dhg (Data.lane l.val))
    refine Finset.sum_congr rfl fun b _ => Finset.sum_congr rfl fun n _ => Finset.sum_congr rfl fun t _ => ?_
    have e1 : (128 * (16 * b.val + n.val) + t.val) / 128 = 16 * b.val + n.val := by omega
    have e2 : Data.lane (128 * (16 * b.val + n.val) + t.val) = t := Fin.ext (by simp only [Data.lane]; omega)
    have e3 : 128 * (l.val / 128) + (Data.lane l.val).val = l.val := by simp only [Data.lane]; omega
    rw [e1, e2]
    show _ = D.M (128 * (16 * b.val + n.val) + t.val) (128 * (l.val / 128) + (Data.lane l.val).val) * _
    rw [e3]
  pointwise [val_main_v189]
  unfold val_main_v104
  show Ideal.hostReduceAdd _ _ (Ideal.ofBits .f32 0x00000000#32) _ = _
  rw [Ideal.ofBits_zero_f32, sum_01]
  simp only [Finset.univ_unique, Finset.sum_singleton]
  pointwise [val_main_v101]
  exact e

/-! ## Through gelu -/

lemma at_du (b : Fin 4) (s : Fin 2048) (l : Fin 512) :
    val_main_v182 x0 x1 x2 x3 x4 x5 (ix3 b s l) = ((D.dp (2048 * b.val + s.val) l.val : ℝ) : EReal) := by
  have e : val_main_v153 x0 x1 x2 x3 x4 x5 (ix3 b s l) = (((D.chunk (l.val / 128) ((2048 * b.val + s.val) / 128)).dg (Data.lane (2048 * b.val + s.val)) (Data.lane l.val)
      * (D.chunk (l.val / 128) ((2048 * b.val + s.val) / 128)).mix (Data.lane (2048 * b.val + s.val)) (Data.lane l.val) : ℝ) : EReal) := by
    pointwise [val_main_v153, val_main_v121]
    rw [at_dg h, at_mix h, ← EReal.coe_mul]
    have e1 : (2048 * b.val + s.val) / 128 = 16 * b.val + s.val / 128 := by omega
    have e2 : Data.lane (2048 * b.val + s.val) = ⟨s.val % 128, by omega⟩ := Fin.ext (by simp only [Data.lane]; omega)
    rw [e1, e2]
    rfl
  pointwise [val_main_v182, val_main_v181, val_main_v180, val_main_v179, val_main_v178, val_main_v177, val_main_v176, val_main_v175, val_main_v174, val_main_v173, val_main_v172, val_main_v171,
    val_main_v170, val_main_v169, val_main_v20, val_main_v19, val_main_v18, val_main_v17, val_main_v16, val_main_v7, val_main_v6, val_main_v5, val_main_cst, val_main_cst_3, val_main_cst_4,
    val_main_cst_41, val_main_cst_42, val_main_cst_43, val_main_cst_44]
  simp only [e, at_u h, at_thu h, at_halfu h, one_f32, ← EReal.coe_one, half_f32, three_f32, cubic_f32, million_f32, root_eq, ← EReal.coe_mul, ← EReal.coe_add, ← EReal.coe_sub, div_coe _ 1000000 (by norm_num)]
  refine congrArg _ ((gelu_back _ _).trans ?_)
  have e3 : 128 * (l.val / 128) + (Data.lane l.val).val = l.val := by simp only [Data.lane]; omega
  have e4 : 128 * ((2048 * b.val + s.val) / 128) + (Data.lane (2048 * b.val + s.val)).val = 2048 * b.val + s.val := by simp only [Data.lane]; omega
  unfold Data.dp
  rw [if_pos l.isLt]
  show _ = _ * Gate.slope (D.X (128 * ((2048 * b.val + s.val) / 128) + (Data.lane (2048 * b.val + s.val)).val) (128 * (l.val / 128) + (Data.lane l.val).val))
  rw [e3, e4]

lemma at_dv (b : Fin 4) (s : Fin 2048) (l : Fin 512) :
    val_main_v167 x0 x1 x2 x3 x4 x5 (ix3 b s l) = ((D.dp (2048 * b.val + s.val) (512 + l.val) : ℝ) : EReal) := by
  have e : val_main_v152 x0 x1 x2 x3 x4 x5 (ix3 b s l)
      = (((fun C : Chunk => fun (t d : Fin 128) => C.rv t * (C.dxh t d - C.xh t d * ((∑ e, C.dxh t e * C.xh t e) / 128))) (D.chunk (l.val / 128) ((2048 * b.val + s.val) / 128))
        (Data.lane (2048 * b.val + s.val)) (Data.lane l.val) : ℝ) : EReal) := by
    pointwise [val_main_v152]
    rw [at_back h]
    have e1 : (2048 * b.val + s.val) / 128 = 16 * b.val + s.val / 128 := by omega
    have e2 : Data.lane (2048 * b.val + s.val) = ⟨s.val % 128, by omega⟩ := Fin.ext (by simp only [Data.lane]; omega)
    rw [e1, e2]
    rfl
  pointwise [val_main_v167, val_main_v166, val_main_v165, val_main_v164, val_main_v163, val_main_v162, val_main_v161, val_main_v160, val_main_v159, val_main_v158, val_main_v157, val_main_v156,
    val_main_v155, val_main_v154, val_main_v44, val_main_v43, val_main_v42, val_main_v41, val_main_v40, val_main_v31, val_main_v30, val_main_v29, val_main_cst_7, val_main_cst_11, val_main_cst_12,
    val_main_cst_36, val_main_cst_37, val_main_cst_38, val_main_cst_39]
  simp only [e, at_v h, at_thv h, at_halfv h, one_f32, ← EReal.coe_one, half_f32, three_f32, cubic_f32, million_f32, root_eq, ← EReal.coe_mul, ← EReal.coe_add, ← EReal.coe_sub, div_coe _ 1000000 (by norm_num)]
  refine congrArg _ ((gelu_back _ _).trans ?_)
  have e3 : 128 * (l.val / 128) + (Data.lane l.val).val = l.val := by simp only [Data.lane]; omega
  have e4 : 128 * ((2048 * b.val + s.val) / 128) + (Data.lane (2048 * b.val + s.val)).val = 2048 * b.val + s.val := by simp only [Data.lane]; omega
  have e5 : 512 + l.val - 512 = l.val := by omega
  have e6 : Data.lane (512 + l.val) = Data.lane l.val := Fin.ext (by simp only [Data.lane]; omega)
  unfold Data.dp
  rw [if_neg (by omega), e5, e6]
  show _ = _ * Gate.slope (D.X (128 * ((2048 * b.val + s.val) / 128) + (Data.lane (2048 * b.val + s.val)).val) (512 + (128 * (l.val / 128) + (Data.lane l.val).val)))
  rw [e3, e4]

lemma dp_read (r : Fin 8192) (l : Fin 1024) : val_main_v186 (F := Ideal) x0 x1 x2 x3 x4 x5 (ix2 r l) = ((D.dp r.val l.val : ℝ) : EReal) := by
  have z (i : S_.Idx) : val_main_cst_40 (F := Ideal) i = 0 := Ideal.ofBits_zero_f32
  have z' (i : S_.Idx) : val_main_cst_45 (F := Ideal) i = 0 := Ideal.ofBits_zero_f32
  have er : 2048 * (r.val / 2048) + r.val % 2048 = r.val := by omega
  pointwise [val_main_v186, val_main_v185, val_main_v184, val_main_v183, val_main_v168]
  by_cases hl : l.val < 512
  · rw [dif_neg (by omega), dif_pos (by omega), at_du h, z, zero_add]
    exact congrArg (fun a : ℕ => ((D.dp a l.val : ℝ) : EReal)) er
  · rw [dif_pos (by omega), dif_neg (by omega), at_dv h, z', add_zero]
    exact congrArg₂ (fun a b : ℕ => ((D.dp a b : ℝ) : EReal)) er (show 512 + (l.val - 512) = l.val by omega)

end Cert.GmlpRefIdeal.Reading

end
-- ==== Proof.GmlpClaims.lean ====
/-
  The claims about the spatial gating unit's backward call.
-/
module

public import proofs.«01_k».proof.Defs
public import proofs.«01_k».proof.Proof.Gen.Gmlp.Frame
public import proofs.«01_k».proof.Proof.Gen.Pre_gmlp_finite
public import proofs.«01_k».proof.Proof.GmlpValue
public import proofs.«01_k».proof.Proof.GmlpRefBack

@[expose] public section

noncomputable section

namespace Cert.Proof.Gmlp

open Idealize.ShloMosaic TcCoe Idealize.SL.Sem
open Cert.Reals Cert.Gate Cert.GmlpIdeal.Reading
open Cert.Stick (at1 at3 at1_eq at3_eq)

lemma frame : Cert.quiescent_Gmlp := fun m ρ _ => Cert.Gmlp.Gen.frame m ρ

lemma frame_ideal : Cert.quiescent_GmlpIdeal := fun m ρ _ => Cert.GmlpIdeal.Gen.frame m ρ

lemma frame_ideal_pre : Cert.quiescent_GmlpIdeal_pre_gmlp_finite := fun m ρ _ => Cert.GmlpIdeal.Gen.frame m ρ

lemma frame_ref : Cert.quiescent_GmlpRefIdeal := fun m ρ _ =>
  (θ_run Cert.GmlpRefIdeal.defs _ _).mono
    (fun r h => ⟨fun c => (h c).2.2.2.2.2, sem_eq_zero_of_no_sems (by decide) r.2⟩)
    (Cert.GmlpRefIdeal.Value.run m ρ)

lemma frame_ref_pre : Cert.quiescent_GmlpRefIdeal_pre_gmlp_finite := fun m ρ _ => frame_ref m ρ trivial

/-- The two constants of gelu stand for the fractions that they round. -/
lemma preserves : Cert.preserves_Gmlp_GmlpIdeal :=
  ⟨IdealRules.named_const.statement Cert.GmlpIdeal.κ "cubic" .f32 0x3D372713#32 ((8943 / 200000 : ℝ) : EReal) rfl,
    IdealRules.named_const.statement Cert.GmlpIdeal.κ "three_cubic" .f32 0x3E095D4F#32 ((26829 / 200000 : ℝ) : EReal) rfl⟩

/-- Arrays that pass the precondition hold real numbers in the columns that it looks at. -/
lemma finite_args (x0 : FVec Ideal Cert.Pre_gmlp_finite.S4x2048x2560 .f32) (x1 : FVec Ideal Cert.Pre_gmlp_finite.S4x128x128 .f32)
    (x2 : FVec Ideal Cert.Pre_gmlp_finite.S4x128 .f32) (x3 : FVec Ideal Cert.Pre_gmlp_finite.S512 .f32)
    (x4 : FVec Ideal Cert.Pre_gmlp_finite.S1024 .f32) (x5 : FVec Ideal Cert.Pre_gmlp_finite.S4x2048x1024 .f32)
    (h : Cert.Pre_gmlp_finite.fn x0 x1 x2 x3 x4 x5 = fun _ => 1#1) :
    (∀ i : Cert.Pre_gmlp_finite.S4x2048x2560.Idx, (i 2).val < 1024 → x0 i = ((((x0 i : EReal).toReal : ℝ)) : EReal))
      ∧ (∀ i, x1 i = (((x1 i : EReal).toReal : ℝ) : EReal)) ∧ (∀ i, x2 i = (((x2 i : EReal).toReal : ℝ) : EReal))
      ∧ (∀ i, x3 i = (((x3 i : EReal).toReal : ℝ) : EReal))
      ∧ (∀ i : Cert.Pre_gmlp_finite.S1024.Idx, (i 0).val < 512 → x4 i = (((x4 i : EReal).toReal : ℝ) : EReal))
      ∧ ∀ i : Cert.Pre_gmlp_finite.S4x2048x1024.Idx, (i 2).val < 512 → x5 i = (((x5 i : EReal).toReal : ℝ) : EReal) := by
  have e := congrFun h (fun i => i.elim0)
  dsimp only [Cert.Pre_gmlp_finite.fn, Cert.Pre_gmlp_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_gmlp_finite.S_).Idx := ⟨fun a b => funext fun i => i.elim0⟩
  obtain ⟨p0, h0⟩ := allReal_of_test e0
  obtain ⟨p1, h1⟩ := allReal_of_test e1
  obtain ⟨p2, h2⟩ := allReal_of_test e2
  obtain ⟨p3, h3⟩ := allReal_of_test e3
  obtain ⟨p4, h4⟩ := allReal_of_test e4
  obtain ⟨p5, h5⟩ := allReal_of_test e5
  have real : ∀ {x : EReal} {r : ℝ}, x = (r : EReal) → x = ((x.toReal : ℝ) : EReal) := fun h => by rw [h, EReal.toReal_coe]
  refine ⟨fun i hi => ?_, fun i => real (h1 i), fun i => real (h2 i), fun i => real (h3 i), fun i hi => ?_, fun i hi => ?_⟩
  · have q := h0 (ix3 (i 0) (i 1) ⟨(i 2).val, hi⟩)
    pointwise at q
    exact real q
  · have q := h4 (ix1 ⟨(i 0).val, hi⟩)
    pointwise at q
    exact real q
  · have q := h5 (ix3 (i 0) (i 1) ⟨(i 2).val, hi⟩)
    pointwise at q
    exact real q

/-- An array read place by place. -/
lemma mat_of {a b : ℕ} {x : (⟨2, ![a, b]⟩ : Shape).Idx → EReal} {f : Fin a → Fin b → ℝ} (h : ∀ r l, x (ix2 r l) = ((f r l : ℝ) : EReal)) : x = mat f := by
  funext z
  obtain ⟨r, l, rfl⟩ := is2 z
  exact h r l

lemma cube_of {a b c : ℕ} {x : (⟨3, ![a, b, c]⟩ : Shape).Idx → EReal} {f : Fin a → Fin b → Fin c → ℝ}
    (h : ∀ r s l, x (ix3 r s l) = ((f r s l : ℝ) : EReal)) : x = fun i => ((f (i 0) (i 1) (i 2) : ℝ) : EReal) := by
  funext z
  obtain ⟨r, s, l, rfl⟩ : ∃ (r : Fin a) (s : Fin b) (l : Fin c), z = ix3 r s l := ⟨z 0, z 1, z 2, Places.ext3 rfl rfl rfl⟩
  exact h r s l

/-- The reference's arguments, placed. -/
lemma placed {x0 x1 x2 x3 x4 x5} {P W B GV HG C}
    (h0 : ∀ i : Cert.GmlpRefIdeal.S4x2048x2560.Idx, (i 2).val < 1024 → x0 i = ((P i : ℝ) : EReal))
    (h1 : ∀ i : Cert.GmlpRefIdeal.S4x128x128.Idx, x1 i = ((W i : ℝ) : EReal))
    (h2 : ∀ i : Cert.GmlpRefIdeal.S4x128.Idx, x2 i = ((B i : ℝ) : EReal))
    (h3 : ∀ i : Cert.GmlpRefIdeal.S512.Idx, x3 i = ((GV i : ℝ) : EReal))
    (h4 : ∀ i : Cert.GmlpRefIdeal.S1024.Idx, (i 0).val < 512 → x4 i = ((HG i : ℝ) : EReal))
    (h5 : ∀ i : Cert.GmlpRefIdeal.S4x2048x1024.Idx, (i 2).val < 512 → x5 i = ((C i : ℝ) : EReal)) :
    Cert.GmlpRefIdeal.Reading.Args x0 x1 x2 x3 x4 x5 (data P W B GV HG C) where
  p b s l hl := (h0 _ hl).trans (congrArg _ (at3_eq P _ (show b.val = (2048 * b.val + s.val) / 2048 by omega) (show s.val = (2048 * b.val + s.val) % 2048 by omega) rfl))
  w g t s := (h1 _).trans (congrArg _ (at3_eq W _ rfl rfl rfl))
  b g t := (h2 _).trans (congrArg _ (at2_eq B _ rfl rfl))
  gv l := (h3 _).trans (congrArg _ (at1_eq GV _ rfl))
  hg l hl := (h4 _ hl).trans (congrArg _ (at1_eq HG _ rfl))
  ct b s l hl := (h5 _ hl).trans (congrArg _ (at3_eq C _ (show b.val = (2048 * b.val + s.val) / 2048 by omega) (show s.val = (2048 * b.val + s.val) % 2048 by omega) rfl))

lemma algebraic : Cert.algebraic_GmlpIdeal_GmlpRefIdeal_pre_gmlp_finite := fun m ρ m' ρ' hpre hag => by
  have hf := fun c => finite_args _ _ _ _ _ _ (hpre c)
  obtain ⟨D, H, h⟩ : ∃ D : Dev Cert.GmlpIdeal.nD → Data, (∀ c t, Cert.GmlpIdeal.Pay.Blocks m c (D c) t) ∧ ∀ c : Dev Cert.GmlpRefIdeal.nD,
      Cert.GmlpRefIdeal.Reading.Args (m' (c.tc.loc Cert.GmlpRefIdeal.main_arg0)) (m' (c.tc.loc Cert.GmlpRefIdeal.main_arg1)) (m' (c.tc.loc Cert.GmlpRefIdeal.main_arg2))
        (m' (c.tc.loc Cert.GmlpRefIdeal.main_arg3)) (m' (c.tc.loc Cert.GmlpRefIdeal.main_arg4)) (m' (c.tc.loc Cert.GmlpRefIdeal.main_arg5)) (D c) :=
    ⟨fun c => data _ _ _ _ _ _,
      fun c => blocks ⟨(hf c).1, (hf c).2.1, (hf c).2.2.1, (hf c).2.2.2.1, (hf c).2.2.2.2.1, (hf c).2.2.2.2.2⟩,
      fun c => placed (fun i hi => (congrFun (hag c).1 i).trans ((hf c).1 i hi)) (fun i => (congrFun (hag c).2.1 i).trans ((hf c).2.1 i))
        (fun i => (congrFun (hag c).2.2.1 i).trans ((hf c).2.2.1 i)) (fun i => (congrFun (hag c).2.2.2.1 i).trans ((hf c).2.2.2.1 i))
        (fun i hi => (congrFun (hag c).2.2.2.2.1 i).trans ((hf c).2.2.2.2.1 i hi)) (fun i hi => (congrFun (hag c).2.2.2.2.2 i).trans ((hf c).2.2.2.2.2 i hi))⟩
  exact ⟨fun c => mat fun (r : Fin 8192) (l : Fin 1024) => (D c).dp r.val l.val, fun c => fun i : Cert.GmlpIdeal.S4x128x128.Idx => (((D c).dw (i 0).val (i 1) (i 2) : ℝ) : EReal),
    fun c => mat fun (r : Fin 128) (g : Fin 4) => (D c).db r g.val, fun c => mat fun (_ : Fin 1) (l : Fin 512) => (D c).dgvTo 64 l.val,
    fun c => mat fun (_ : Fin 1) (l : Fin 512) => (D c).dhgTo 64 l.val,
    (θ_run Cert.GmlpIdeal.defs _ _).mono
      (fun _ r c => ⟨(r c).1.trans (final7 (H c)), (r c).2.1.trans (final8 (H c)), (r c).2.2.1.trans (final9 (H c)), (r c).2.2.2.1.trans (final10 (H c)),
        (r c).2.2.2.2.1.trans (final11 (H c)), (r c).2.2.2.2.2⟩)
      (Cert.GmlpIdeal.Value.run_blocks m ρ),
    (θ_run Cert.GmlpRefIdeal.defs _ _).mono
      (fun _ r c => ⟨(r c).1.trans ((Cert.GmlpRefIdeal.Read.val_main_v186_eq _).trans (mat_of (Cert.GmlpRefIdeal.Reading.dp_read (h c)))),
        (r c).2.1.trans ((Cert.GmlpRefIdeal.Read.val_main_v130_eq _).trans (cube_of (Cert.GmlpRefIdeal.Reading.w_read (h c)))),
        (r c).2.2.1.trans ((Cert.GmlpRefIdeal.Read.val_main_v187_eq _).trans (mat_of (Cert.GmlpRefIdeal.Reading.b_read (h c)))),
        (r c).2.2.2.1.trans ((Cert.GmlpRefIdeal.Read.val_main_v188_eq _).trans (mat_of (Cert.GmlpRefIdeal.Reading.gv_read (h c)))),
        (r c).2.2.2.2.1.trans ((Cert.GmlpRefIdeal.Read.val_main_v189_eq _).trans (mat_of (Cert.GmlpRefIdeal.Reading.hg_read (h c)))),
        (r c).2.2.2.2.2⟩)
      (Cert.GmlpRefIdeal.Value.run m' ρ')⟩

end Cert.Proof.Gmlp

end
-- ==== Proof.XfwdValue.lean ====
/-
  The cross-attention's forward call: what its result array holds after the run, from argument arrays that hold real numbers.
-/
module

public import proofs.«01_k».proof.Proof.Gen.XfwdIdeal.Value
public import proofs.«01_k».proof.Proof.XattnBlock
public import proofs.«01_k».proof.Proof.XattnRows

@[expose] public section

noncomputable section

namespace Cert.Xatt

open Cert.Reals Idealize.ShloMosaic

section Spec

variable (q : Fin 1024 → ℝ) (kv : Fin 256 → Fin 2048 → ℝ) (h : Fin 4)

/-- A query row's attention over the values, at column `d` of head `h`. -/
def att (d : Fin 256) : ℝ := ∑ j, prob q kv h j * kv j (vcol h d)

/-- The same at column `c` of all heads. -/
def attAt (c : Fin 1024) : ℝ := att q kv ⟨c.val / 256, by omega⟩ ⟨c.val % 256, by omega⟩

lemma attAt_scol (d : Fin 256) : attAt q kv (scol h d) = att q kv h d := by
  have e1 : (⟨(scol h d).val / 256, by omega⟩ : Fin 4) = h := Fin.ext (by show (256 * h.val + d.val) / 256 = h.val; omega)
  have e2 : (⟨(scol h d).val % 256, by omega⟩ : Fin 256) = d := Fin.ext (by show (256 * h.val + d.val) % 256 = d.val; omega)
  rw [attAt, e1, e2]

end Spec

/-- The attention of all batches' rows, one after another. -/
def attArr (Q : Queries → ℝ) (KV : Memory → ℝ) (n : Fin 8192) (c : Fin 1024) : ℝ :=
  attAt (qrow Q n.val) (fun j => mrow KV (256 * (n.val / 2048) + j.val)) c

end Cert.Xatt

namespace Cert.XfwdIdeal.Reading

open Cert.XfwdIdeal Gen Value
open Idealize.ShloMosaic TcCoe Idealize.SL.Sem
open Idealize.ShloMosaic.Pipeline (Dat)
open Cert.Reals Cert.Xatt

/-! ## The body's arithmetic is that of the backward call -/

lemma pay1_eq (p : FVec Ideal S512x256 .bf16) (v : Vec Ideal S256x256 .bf16) :
    k0_pay1 (F := Ideal) (k0_pay12 p v) = Cert.XattnIdeal.Gen.k0_pay24 (F := Ideal) p v := rfl
lemma pay2_eq : k0_pay2 (F := Ideal) = Cert.XattnIdeal.Gen.k0_pay24 (F := Ideal) := rfl
lemma pay3_eq : k0_pay3 (F := Ideal) = Cert.XattnIdeal.Gen.k0_pay24 (F := Ideal) := rfl
lemma pay4_eq : k0_pay4 (F := Ideal) = Cert.XattnIdeal.Gen.k0_pay24 (F := Ideal) := rfl
lemma pay5_eq : k0_pay5 (F := Ideal) = Cert.XattnIdeal.Gen.k0_pay4 (F := Ideal) := rfl
lemma pay6_eq : k0_pay6 (F := Ideal) = Cert.XattnIdeal.Gen.k0_pay4 (F := Ideal) := rfl
lemma pay7_eq : k0_pay7 (F := Ideal) = Cert.XattnIdeal.Gen.k0_pay4 (F := Ideal) := rfl
lemma pay8_eq (q : Vec Ideal S512x256 .bf16) (k : Vec Ideal S256x256 .bf16) :
    k0_pay8 (F := Ideal) q k = Cert.XattnIdeal.Gen.k0_pay12 (F := Ideal) (Cert.XattnIdeal.Gen.k0_pay4 (F := Ideal) q k) := rfl
lemma pay9_eq : k0_pay9 (F := Ideal) = Cert.XattnIdeal.Gen.k0_pay12 (F := Ideal) := rfl
lemma pay10_eq : k0_pay10 (F := Ideal) = Cert.XattnIdeal.Gen.k0_pay12 (F := Ideal) := rfl
lemma pay11_eq : k0_pay11 (F := Ideal) = Cert.XattnIdeal.Gen.k0_pay12 (F := Ideal) := rfl

/-- A head's block of the result. -/
lemma head_att {x0 : Vec Ideal S512x1024 .bf16} {x1 : Vec Ideal S256x2048 .bf16} {q : Fin 512 → Fin 1024 → ℝ} {kv : Fin 256 → Fin 2048 → ℝ}
    (hq : Holds x0 q) (hkv : Holds x1 kv) (h : Fin 4) {o o' : Nat} (ho : o = 256 * h.val) (ho' : o' = 1024 + 256 * h.val)
    (i1 : ∀ i, (![0, o] : Fin 2 → Nat) i + (![512, 256] : Fin 2 → Nat) i ≤ S512x1024.size i)
    (i2 : ∀ i, (![0, o] : Fin 2 → Nat) i + (![256, 256] : Fin 2 → Nat) i ≤ S256x2048.size i)
    (i3 : ∀ i, (![0, o'] : Fin 2 → Nat) i + (![256, 256] : Fin 2 → Nat) i ≤ S256x2048.size i) (x : S512x256.Idx) :
    Cert.XattnIdeal.Gen.k0_pay24 (Cert.XattnIdeal.Gen.k0_pay12 (Cert.XattnIdeal.Gen.k0_pay4
        (View.ld x0 (Rect.unit ![0, o] ![512, 256] i1)) (View.ld x1 (Rect.unit ![0, o] ![256, 256] i2))))
        (View.ld x1 (Rect.unit ![0, o'] ![256, 256] i3)) x
      = mat (fun r c => attAt (q r) kv c) ((Rect.unit (s := S512x1024) ![0, o] ![512, 256] i1).emb x) := by
  have hp := Cert.XattnIdeal.Reading.head_probs hq hkv h ho i1 i2
  subst ho ho'
  exact piece_cols (Cert.XattnIdeal.Pay.nn hp (ld_cols hkv (vcol h) (fun l => (Nat.add_assoc _ _ _).symm) i3)) _ (scol h) (fun _ => rfl)
    (fun r d => (attAt_scol (q r) kv h d).symm) i1 x

/-- What the body leaves in a block. -/
lemma out_apply {x0 : Vec Ideal S512x1024 .bf16} {x1 : Vec Ideal S256x2048 .bf16} {q : Fin 512 → Fin 1024 → ℝ} {kv : Fin 256 → Fin 2048 → ℝ}
    (hq : Holds x0 q) (hkv : Holds x1 kv) (y : S512x1024.Idx) : out0_2 x0 x1 y = mat (fun r c => attAt (q r) kv c) y := by
  unfold out0_2
  have key : ∀ {L : List (View.Piece (Elt Ideal) S512x1024 .bf16)}, View.PiecesOf (mat fun r c => attAt (q r) kv c) L →
      View.Piece.tiledL L ![512, 256] = true → View.canon L y = mat (fun r c => attAt (q r) kv c) y := fun h hc =>
    View.canon_apply_of_pieces (e := .bf16) _ _ h.mem y (View.cover_of_tiledL _ ![512, 256] hc y)
  simp only [pay1_eq, pay2_eq, pay3_eq, pay4_eq, pay5_eq, pay6_eq, pay7_eq, pay8_eq, pay9_eq, pay10_eq, pay11_eq]
  exact key (L := [_, _, _, _]) ⟨fun x => head_att hq hkv 3 rfl rfl _ _ _ x, fun x => head_att hq hkv 2 rfl rfl _ _ _ x,
    fun x => head_att hq hkv 1 rfl rfl _ _ _ x, fun x => head_att hq hkv 0 rfl rfl _ _ _ x, trivial⟩ (by sl_kernel_rfl)

/-! ## The blocks in the arrays -/

variable (m : (ℓ : Loc nD τ sig) → Buf (Elt Ideal) ℓ)

lemma ix : ∀ t : Fin cfg0.N, (win0_0.index t 0 = t.val ∧ win0_0.index t 1 = 0) ∧ (win0_1.index t 0 = t.val / 4 ∧ win0_1.index t 1 = 0) ∧ win0_2.index t 0 = t.val ∧ win0_2.index t 1 = 0 := by
  change ∀ t : Fin grid0.N, _; decide +kernel

variable {Q : Queries → ℝ} {KV : Memory → ℝ} {c : Dev nD}

lemma blk0 (hq : ∀ i, m ((c : Thread nD τ).loc main_arg0) i = ((Q i : ℝ) : EReal)) (t : Fin cfg0.N) :
    Holds (iblk m c 0 t) fun r => qrow Q (512 * t.val + r.val) := by
  have e : V m c main_v1 = shapeCast S8192x1024 (truncf (F := Ideal) (s := S4x2048x1024) .bf16 (m ((c : Thread nD τ).loc main_arg0)) bitsLt_bf16_f32) shapeCasts_S4x2048x1024_S8192x1024 := by
    unfold V hostOps0; after_results; rfl
  intro r l
  show V m c main_v1 _ = _
  rw [e]
  refine (qrow_read Q (truncf (F := Ideal) (s := S4x2048x1024) .bf16 (m ((c : Thread nD τ).loc main_arg0)) bitsLt_bf16_f32) hq _ _).trans ?_
  congr 2
  · show win0_0.index t 0 * 512 + 1 * r.val = _
    rw [(ix t).1.1]; omega
  · refine Fin.ext ?_
    show win0_0.index t 1 * 1024 + 1 * l.val = _
    rw [(ix t).1.2]; omega

lemma blk1 (hkv : ∀ i, m ((c : Thread nD τ).loc main_arg1) i = ((KV i : ℝ) : EReal)) (t : Fin cfg0.N) :
    Holds (iblk m c 1 t) fun j => mrow KV (256 * (t.val / 4) + j.val) := by
  have e : V m c main_v3 = shapeCast S1024x2048 (truncf (F := Ideal) (s := S4x256x2048) .bf16 (m ((c : Thread nD τ).loc main_arg1)) bitsLt_bf16_f32) shapeCasts_S4x256x2048_S1024x2048 := by
    unfold V hostOps0; after_results; rfl
  intro j l
  show V m c main_v3 _ = _
  rw [e]
  refine (mrow_read KV (truncf (F := Ideal) (s := S4x256x2048) .bf16 (m ((c : Thread nD τ).loc main_arg1)) bitsLt_bf16_f32) hkv _ _).trans ?_
  congr 2
  · show win0_1.index t 0 * 256 + 1 * j.val = _
    rw [(ix t).2.1.1]; omega
  · refine Fin.ext ?_
    show win0_1.index t 1 * 2048 + 1 * l.val = _
    rw [(ix t).2.1.2]; omega

lemma mem_blk (t : Fin cfg0.N) (i : S8192x1024.Idx) (h : t.val = (i 0).val / 512) :
    i ∈ ((cfg0.win 2).blk t).view.set := by
  show i ∈ ((View.whole main_v4).slice (win0_2.rect t)).set
  rw [View.set_slice_whole, Rect.mem_set_unit]
  have h1 : (i 1 : Nat) < 1024 := (i 1).isLt
  intro a
  match a with
  | ⟨0, _⟩ =>
    show win0_2.index t 0 * 512 ≤ (i 0 : Nat) ∧ (i 0 : Nat) < win0_2.index t 0 * 512 + 512
    rw [(ix t).2.2.1]; omega
  | ⟨1, _⟩ =>
    show win0_2.index t 1 * 1024 ≤ (i 1 : Nat) ∧ (i 1 : Nat) < win0_2.index t 1 * 1024 + 1024
    rw [(ix t).2.2.2]; omega

lemma final (hq : ∀ i, m ((c : Thread nD τ).loc main_arg0) i = ((Q i : ℝ) : EReal))
    (hkv : ∀ i, m ((c : Thread nD τ).loc main_arg1) i = ((KV i : ℝ) : EReal)) :
    (dats m 0 c).arrAt 2 cfg0.N = mat (attArr Q KV) := by
  refine (dats m 0 c).arrAt_eq_of_cover 2 (mat (attArr Q KV)) (fun t _ => ?_) fun i => by
    have h0 : (i 0 : Nat) < 8192 := (i 0).isLt
    have hN : cfg0.N = 16 := N_0
    exact ⟨⟨(i 0 : Nat) / 512, by omega⟩, flush0_2 _, mem_blk _ i rfl⟩
  rw [flushed2]
  refine funext fun (y : S512x1024.Idx) => ?_
  obtain ⟨r, l, rfl⟩ := Places.is2 y
  show out0_2 (iblk m c 0 t) (iblk m c 1 t) (ix2 r l) = mat (attArr Q KV) _
  have ht : t.val < 16 := lt_of_lt_of_eq t.isLt N_0
  have e : ∀ z : S8192x1024.Idx, (z 0).val = 512 * t.val + r.val → (z 1).val = l.val →
      out0_2 (iblk m c 0 t) (iblk m c 1 t) (ix2 r l) = mat (attArr Q KV) z := by
    intro z h0 h1
    have hz : z = ix2 ⟨512 * t.val + r.val, by omega⟩ l := Places.ext2 h0 h1
    rw [hz, out_apply (blk0 m hq t) (blk1 m hkv t)]
    have ed : (512 * t.val + r.val) / 2048 = t.val / 4 := by omega
    show ((attAt (qrow Q (512 * t.val + r.val)) (fun j => mrow KV (256 * (t.val / 4) + j.val)) l : ℝ) : EReal)
      = ((attAt (qrow Q (512 * t.val + r.val)) (fun j => mrow KV (256 * ((512 * t.val + r.val) / 2048) + j.val)) l : ℝ) : EReal)
    rw [ed]
  refine e _ ?_ ?_
  · show win0_2.index t 0 * 512 + 1 * r.val = _
    rw [(ix t).2.2.1]; omega
  · show win0_2.index t 1 * 1024 + 1 * l.val = _
    rw [(ix t).2.2.2]; omega

end Cert.XfwdIdeal.Reading

end
-- ==== Proof.XfwdRef.lean ====
/-
  The cross-attention forward call's reference: what its result array holds, from argument arrays that hold real numbers.
-/
module

public import proofs.«01_k».proof.Proof.Gen.XfwdRefIdeal.Read
public import proofs.«01_k».proof.Proof.XattnRef
public import proofs.«01_k».proof.Proof.XfwdValue

@[expose] public section

noncomputable section

namespace Cert.XfwdRefIdeal.Reading

open Cert.XfwdRefIdeal Gen Read
open Idealize.ShloMosaic
open Cert.Reals Cert.Xatt
open Cert.XattnRefIdeal.Reading (row mem)

variable {x0 : Queries → EReal} {x1 : Memory → EReal} {Q : Queries → ℝ} {KV : Memory → ℝ}

/-- The softmax weights and the values are the backward call's. -/
lemma prob_eq : val_main_v19 (F := Ideal) x0 x1 = Cert.XattnRefIdeal.Read.val_main_v33 (F := Ideal) x0 x1 := rfl
lemma value_eq : val_main_v5 (F := Ideal) x1 = Cert.XattnRefIdeal.Read.val_main_v5 (F := Ideal) x1 := rfl

variable {M : Fin 4 → Fin 4 → Fin 2048 → ℝ}
variable (hM : ∀ b h s, Cert.XattnRefIdeal.Read.val_main_v16 (F := Ideal) x0 x1 (ix3 b h s) = ((M b h s : ℝ) : EReal))
variable (hq : ∀ i, x0 i = ((Q i : ℝ) : EReal)) (hkv : ∀ i, x1 i = ((KV i : ℝ) : EReal))

include hM hq hkv

lemma at_att (b h : Fin 4) (d : Fin 256) (s : Fin 2048) :
    val_main_v20 (F := Ideal) x0 x1 (ix4 b h d s) = ((att (row Q b s) (mem KV b) h d : ℝ) : EReal) := by
  pointwise [val_main_v20]
  simp only [prob_eq, value_eq, Cert.XattnRefIdeal.Reading.at_prob hM hq hkv, Cert.XattnRefIdeal.Reading.at_v hkv, ← EReal.coe_mul, coe_sum]
  exact congrArg _ (Finset.sum_congr rfl fun j _ => mul_comm _ _)

lemma val : val_main_v24 (F := Ideal) x0 x1 = mat (attArr Q KV) := by
  funext y
  obtain ⟨n, c, rfl⟩ := Places.is2 y
  pointwise [val_main_v24, val_main_v23, val_main_v22, val_main_v21]
  have hn := n.isLt
  have hc := c.isLt
  refine (at_att hM hq hkv _ _ _ _).trans ?_
  have e1 := qrow_at Q ⟨n.val / 2048, by omega⟩ ⟨n.val % 2048, by omega⟩
  have e3 := fun j => mrow_at KV ⟨n.val / 2048, by omega⟩ j
  simp only [Nat.div_add_mod] at e1
  show _ = ((attArr Q KV n c : ℝ) : EReal)
  unfold attArr
  simp only [e1, e3]
  rfl

end Cert.XfwdRefIdeal.Reading

end
-- ==== Proof.XfwdClaims.lean ====
/-
  The claims about the cross-attention's forward call.
-/
module

public import proofs.«01_k».proof.Defs
public import proofs.«01_k».proof.Proof.Gen.Xfwd.Frame
public import proofs.«01_k».proof.Proof.Gen.Pre_xfwd_finite
public import proofs.«01_k».proof.Proof.XfwdRef

@[expose] public section

noncomputable section

namespace Cert.Proof.Xfwd

open Idealize.ShloMosaic TcCoe Idealize.SL.Sem
open Cert.Reals Cert.Xatt

lemma frame : Cert.quiescent_Xfwd := fun m ρ _ => Cert.Xfwd.Gen.frame m ρ

lemma frame_ideal : Cert.quiescent_XfwdIdeal := fun m ρ _ => Cert.XfwdIdeal.Gen.frame m ρ

lemma frame_ref : Cert.quiescent_XfwdRefIdeal := fun m ρ _ =>
  (θ_run Cert.XfwdRefIdeal.defs _ _).mono
    (fun r h => ⟨fun c => (h c).2, sem_eq_zero_of_no_sems (by decide) r.2⟩)
    (Cert.XfwdRefIdeal.Value.run m ρ)

lemma frame_ideal_pre : Cert.quiescent_XfwdIdeal_pre_xfwd_finite := fun m ρ _ => Cert.XfwdIdeal.Gen.frame m ρ

lemma frame_ref_pre : Cert.quiescent_XfwdRefIdeal_pre_xfwd_finite := fun m ρ _ => frame_ref m ρ trivial

/-- Arrays that pass the precondition hold real numbers. -/
lemma finite_args (q : FVec Ideal Cert.Pre_xfwd_finite.S4x2048x1024 .f32) (kv : FVec Ideal Cert.Pre_xfwd_finite.S4x256x2048 .f32)
    (h : Cert.Pre_xfwd_finite.fn q kv = fun _ => 1#1) : AllReal q ∧ AllReal kv := by
  have e := congrFun h (fun i => i.elim0)
  dsimp only [Cert.Pre_xfwd_finite.fn] at e
  obtain ⟨e1, e2⟩ := IntOp.andi_eq_one.1 e
  haveI : Subsingleton (Cert.Pre_xfwd_finite.S_).Idx := ⟨fun a b => funext fun i => i.elim0⟩
  exact ⟨allReal_of_test e1, allReal_of_test e2⟩

lemma algebraic : Cert.algebraic_XfwdIdeal_XfwdRefIdeal_pre_xfwd_finite := fun m ρ m' ρ' hpre hag => by
  choose hq hkv using fun c => finite_args _ _ (hpre c)
  choose Q hq using hq
  choose KV hkv using hkv
  have hM := fun c b h s => Cert.XattnRefIdeal.Reading.at_max (hq c) (hkv c) b h s
  choose M hM using hM
  exact ⟨fun c => mat (attArr (Q c) (KV c)),
    (θ_run Cert.XfwdIdeal.defs _ _).mono (fun _ h c => ⟨(h c).1.trans (Cert.XfwdIdeal.Reading.final m (hq c) (hkv c)), (h c).2⟩)
      (Cert.XfwdIdeal.Value.run_blocks m ρ),
    (θ_run Cert.XfwdRefIdeal.defs _ _).mono
      (fun _ h c => ⟨(h c).1.trans (by
          rw [Cert.XfwdRefIdeal.Read.val_main_v24_eq, (hag c).1, (hag c).2]
          exact Cert.XfwdRefIdeal.Reading.val (hM c) (hq c) (hkv c)), (h c).2⟩)
      (Cert.XfwdRefIdeal.Value.run m' ρ')⟩

end Cert.Proof.Xfwd

end
-- ==== Proof.GfwdRef.lean ====
/-
  The spatial gating unit's forward reference: its result, from arguments that hold real numbers.
-/
module

public import proofs.«01_k».proof.Proof.GmlpRef
public import proofs.«01_k».proof.Proof.Gen.GfwdRefIdeal.Read

@[expose] public section

noncomputable section

namespace Cert.Gate

/-- The unit's output after its norm and the gain of the heads. -/
def Data.out (D : Data) (r l : ℕ) : ℝ := (D.chunk (l / 128) (r / 128)).an (Data.lane r) (Data.lane l) * D.hg l

end Cert.Gate

namespace Cert.GfwdRefIdeal.Reading

open Cert.GfwdRefIdeal Gen Read
open Idealize.ShloMosaic
open Cert.Gate Cert.GmlpRefIdeal.Reading

variable {x0 : (⟨S4x2048x2560, .f32⟩ : BufTy).Contents (Elt Ideal)} {x1 : (⟨S4x128x128, .f32⟩ : BufTy).Contents (Elt Ideal)}
variable {x2 : (⟨S4x128, .f32⟩ : BufTy).Contents (Elt Ideal)} {x3 : (⟨S512, .f32⟩ : BufTy).Contents (Elt Ideal)}
variable {x4 : (⟨S1024, .f32⟩ : BufTy).Contents (Elt Ideal)} {x5 : (⟨S4x2048x1024, .f32⟩ : BufTy).Contents (Elt Ideal)} {D : Data}

lemma same : val_main_v71 x0 x1 x2 x3 = Cert.GmlpRefIdeal.Read.val_main_v93 x0 x1 x2 x3 := rfl

lemma out_read (h : Args x0 x1 x2 x3 x4 x5 D) (r : Fin 8192) (l : Fin 512) :
    val_main_v77 x0 x1 x2 x3 x4 (ix2 r l) = ((D.out r.val l.val : ℝ) : EReal) := by
  pointwise [val_main_v77, val_main_v76, val_main_v75, val_main_v74, val_main_v73, val_main_v72, val_main_v1]
  rw [same, at_an h, h.hg _ (by show l.val < 512; omega), ← EReal.coe_mul]
  unfold Data.out Data.lane ck
  simp only [show 16 * (r.val / 2048) + r.val % 2048 / 128 = r.val / 128 by omega, show r.val % 2048 % 128 = r.val % 128 by omega]

end Cert.GfwdRefIdeal.Reading

end
-- ==== Proof.GfwdValue.lean ====
/-
  The spatial gating unit's forward call: what its result array holds after the run, from arguments that hold real numbers.
-/
module

public import proofs.«01_k».proof.Proof.GmlpValue
public import proofs.«01_k».proof.Proof.GfwdRef
public import proofs.«01_k».proof.Proof.Gen.GfwdIdeal.Value

@[expose] public section

noncomputable section

namespace Cert.GfwdIdeal.Reading

open Cert.GfwdIdeal Gen Value
open Idealize.ShloMosaic TcCoe Idealize.SL.Sem
open Cert.Reals Cert.Gate
open Cert.GmlpIdeal.Pay (Loads Reads part normed normed_holds part_holds mask_apply plane_at strip_at ld_up rms rms_pos one_f32 half_f32 size_f32)
open Cert.GmlpIdeal.Reading (is2 bias_at gain_at head_at)
open Cert.GmlpRefIdeal.Reading (Args)
open Cert.Stick (eps_eq rsqrt_pos)

/-! ## A group -/

def vn (L : Loads) : FVec Ideal S512x128 .bf16 := k0_pay7 (k0_pay5 L.v) (k0_pay6 L.v) L.gv

def gated (L : Loads) (j : Fin 4) : FVec Ideal S128x128 .f32 :=
  mulf (part (k0_pay4 L.u) j) (addf (matmul dot_S128x128_S128x128_S128x128_1_0_0_1_n_n none (k0_pay3 L.w) (part (vn L) j) (constant S128x128 .f32 0x00000000#32))
    (broadcastTo S128x128 (k0_pay8 L.b) broadcasts_S128x1_S128x128))

def out (L : Loads) (j : Fin 4) : FVec Ideal S128x128 .bf16 :=
  truncf .bf16 (mulf (normed (gated L j)) (broadcastTo S128x128 (shapeCast S1x128 L.hg shapeCasts_S1x128_S1x128) broadcasts_S1x128_S128x128)) bitsLt_bf16_f32

lemma gelu_holds {X : Fin 512 → Fin 128 → ℝ} {x : Vec Ideal S512x128 .bf16} (h : Holds x X) : Holds (k0_pay4 (F := Ideal) x) fun r d => gelu (X r d) := by
  intro r d
  have hc : (Named.named (F := Ideal) (φ := .f32) κ "cubic" 0x3D372713#32 : EReal) = ((8943 / 200000 : ℝ) : EReal) := rfl
  have e : 1 / 2 * X r d * (1 + th (X r d)) = gelu (X r d) := by unfold gelu half; ring
  pointwise [k0_pay4]
  simp only [h _ _, hc, one_f32, half_f32, root_eq, ← EReal.coe_mul, ← EReal.coe_add, Ideal.tanh_coe]
  rw [← EReal.coe_one, ← EReal.coe_add, ← EReal.coe_mul]
  exact congrArg _ e

section Group

variable {L : Loads} {G : Group} (H : Reads L G)
include H

lemma vn_holds : Holds (vn L) (up fun j => (G.chunk j).vn) := by
  intro r d
  have h : Holds (k0_pay5 L.v) _ := gelu_holds H.v
  pointwise [vn, k0_pay7, k0_pay6]
  simp only [h _ _, H.gv _ _, size_f32, eps_eq, ← EReal.coe_mul, coe_sum, div_coe _ _ (show (128 : ℝ) ≠ 0 by norm_num), ← EReal.coe_add,
    rsqrt_pos (rms_pos (fun r d => gelu (up G.V r d)) r)]
  rfl

lemma gated_holds (j : Fin 4) : Holds (gated L j) (G.chunk j).gated := by
  have hw : Holds (k0_pay3 L.w) (G.chunk j).w := Loads.wt_holds H j
  have hu : Holds (k0_pay4 L.u) (up fun j t d => gelu (G.U j t d)) := gelu_holds H.u
  intro t d
  pointwise [gated, k0_pay8]
  simp only [part_holds hu j _ _, hw _ _, part_holds (vn_holds H) j _ _, H.b _ _, ← EReal.coe_mul, coe_sum, ← EReal.coe_add]
  rfl

lemma out_holds (j : Fin 4) : Holds (out L j) fun t d => (G.chunk j).an t d * G.hg d := by
  intro t d
  pointwise [out]
  simp only [normed_holds (gated_holds H j) _ _, H.hg _ _, ← EReal.coe_mul]
  rfl

end Group

/-! ## A block -/

section Block

variable (x0 x1 : Vec Ideal S512x512 .bf16) (x2 : Vec Ideal S4x128x128 .f32) (x3 : Vec Ideal S128x4 .f32) (x4 x5 : Vec Ideal S1x512 .f32)
  (M : Fin 4 → Vec Ideal S512x128 .bf16)

/-- What is loaded for each group; `M` takes the place of the backward call's gradient. -/
def loads : Fin 4 → Loads
  | 0 => ⟨View.ld x2 r0_0, View.ld x0 r0_1, View.ld x1 r0_1, View.ld x4 r0_2, View.ld x5 r0_2, View.ld x3 r0_3, M 0⟩
  | 1 => ⟨View.ld x2 r0_8, View.ld x0 r0_9, View.ld x1 r0_9, View.ld x4 r0_10, View.ld x5 r0_10, View.ld x3 r0_11, M 1⟩
  | 2 => ⟨View.ld x2 r0_16, View.ld x0 r0_17, View.ld x1 r0_17, View.ld x4 r0_18, View.ld x5 r0_18, View.ld x3 r0_19, M 2⟩
  | 3 => ⟨View.ld x2 r0_24, View.ld x0 r0_25, View.ld x1 r0_25, View.ld x4 r0_26, View.ld x5 r0_26, View.ld x3 r0_27, M 3⟩

def pieces (L : Fin 4 → Loads) : List (View.Piece (Elt Ideal) S512x512 .bf16) :=
  [⟨r0_31, out (L 3) 3⟩, ⟨r0_30, out (L 3) 2⟩, ⟨r0_29, out (L 3) 1⟩, ⟨r0_28, out (L 3) 0⟩,
    ⟨r0_23, out (L 2) 3⟩, ⟨r0_22, out (L 2) 2⟩, ⟨r0_21, out (L 2) 1⟩, ⟨r0_20, out (L 2) 0⟩,
    ⟨r0_15, out (L 1) 3⟩, ⟨r0_14, out (L 1) 2⟩, ⟨r0_13, out (L 1) 1⟩, ⟨r0_12, out (L 1) 0⟩,
    ⟨r0_7, out (L 0) 3⟩, ⟨r0_6, out (L 0) 2⟩, ⟨r0_5, out (L 0) 1⟩, ⟨r0_4, out (L 0) 0⟩]

lemma out_eq : out0_6 x0 x1 x2 x3 x4 x5 = View.canon (pieces (loads x0 x1 x2 x3 x4 x5 M)) := by
  sl_kernel_rfl

variable {x0 x1 x2 x3 x4 x5} {D : Data} {n : ℕ}

lemma piece {L : Loads} {g j : Fin 4} (H : Reads L (D.group g.val n)) {o p : ℕ} (ho : o = 128 * j.val) (hp : p = 128 * g.val)
    (inb : ∀ i, (![o, p] : Fin 2 → Nat) i + (![128, 128] : Fin 2 → Nat) i ≤ S512x512.size i) (x : S128x128.Idx) :
    out L j x = mat (fun (r : Fin 512) (l : Fin 512) => D.out (512 * n + r.val) l.val) ((Rect.unit (s := S512x512) ![o, p] ![128, 128] inb).emb x) := by
  obtain ⟨t, d, rfl⟩ := is2 x
  rw [out_holds H j t d]
  show _ = ((D.out (512 * n + (o + 1 * t.val)) (p + 1 * d.val) : ℝ) : EReal)
  unfold Data.out
  rw [show (p + 1 * d.val) / 128 = g.val by omega, show (512 * n + (o + 1 * t.val)) / 128 = 4 * n + j.val by omega,
    show Data.lane (512 * n + (o + 1 * t.val)) = t from Fin.ext (by simp only [Data.lane]; omega),
    show Data.lane (p + 1 * d.val) = d from Fin.ext (by simp only [Data.lane]; omega), show p + 1 * d.val = 128 * g.val + d.val by omega]
  rfl

lemma block_at (h0 : Holds x0 fun r l => D.X (512 * n + r.val) l.val) (h1 : Holds x1 fun r l => D.X (512 * n + r.val) (512 + l.val))
    (h2 : ∀ (g : Fin 4) (r s : Fin 128), x2 (ix3 g r s) = ((D.W g.val r.val s.val : ℝ) : EReal)) (h3 : Holds x3 fun r g => D.b r.val g.val)
    (h4 : Holds x4 fun _ l => D.gv l.val) (h5 : Holds x5 fun _ l => D.hg l.val) :
    Holds (out0_6 x0 x1 x2 x3 x4 x5) fun r l => D.out (512 * n + r.val) l.val := by
  have H (g : Fin 4) : Reads (loads x0 x1 x2 x3 x4 x5 (fun g => mat (up (D.group g.val n).M)) g) (D.group g.val n) := by
    have hw := plane_at (a3 := fun g t s => D.W g.val t.val s.val) h2 g
    have hgv := strip_at h4 g
    have hhg := strip_at h5 g
    have hu (o : ℕ) (ho : o + 128 ≤ 512) (inb) := ld_up h0 o ho inb
    have hv (o : ℕ) (ho : o + 128 ≤ 512) (inb) := ld_up (f := fun r l => D.X r (512 + l)) h1 o ho inb
    have hb (o : ℕ) (ho : o < 4) (inb) := ld_cols32 (b := o) (n := 1) h3 (fun _ => ⟨o, ho⟩) (fun l => by simp) inb
    fin_cases g
    · exact ⟨hw, hu 0 (by decide) _, hv 0 (by decide) _, mat_holds _, hgv, hhg, hb 0 (by decide) _⟩
    · exact ⟨hw, hu 128 (by decide) _, hv 128 (by decide) _, mat_holds _, hgv, hhg, hb 1 (by decide) _⟩
    · exact ⟨hw, hu 256 (by decide) _, hv 256 (by decide) _, mat_holds _, hgv, hhg, hb 2 (by decide) _⟩
    · exact ⟨hw, hu 384 (by decide) _, hv 384 (by decide) _, mat_holds _, hgv, hhg, hb 3 (by decide) _⟩
  intro r l
  rw [out_eq _ _ _ _ _ _ fun g => mat (up (D.group g.val n).M)]
  have q {g j : Fin 4} (o p : ℕ) (ho : o = 128 * j.val) (hp : p = 128 * g.val) (inb) := piece (H g) ho hp inb
  exact View.canon_apply_of_pieces (Val := Elt Ideal) (e := .bf16) (mat fun (r : Fin 512) (l : Fin 512) => D.out (512 * n + r.val) l.val) (pieces _)
    (View.PiecesOf.mem ⟨q 384 384 rfl rfl (by decide), q 256 384 rfl rfl (by decide), q 128 384 rfl rfl (by decide), q 0 384 rfl rfl (by decide),
      q 384 256 rfl rfl (by decide), q 256 256 rfl rfl (by decide), q 128 256 rfl rfl (by decide), q 0 256 rfl rfl (by decide),
      q 384 128 rfl rfl (by decide), q 256 128 rfl rfl (by decide), q 128 128 rfl rfl (by decide), q 0 128 rfl rfl (by decide),
      q 384 0 rfl rfl (by decide), q 256 0 rfl rfl (by decide), q 128 0 rfl rfl (by decide), q 0 0 rfl rfl (by decide), trivial⟩)
    (ix2 r l) (View.cover_of_tiledL _ ![128, 128] (by sl_kernel_rfl) _)

end Block

/-! ## The array -/

variable {m : (ℓ : Loc nD τ sig) → Buf (Elt Ideal) ℓ} {c : Dev nD} {D : Data} {x5 : Cert.GmlpRefIdeal.S4x2048x1024.Idx → EReal}

lemma ix (t : Fin cfg0.N) : (win0_0.index t 0 = t.val ∧ win0_0.index t 1 = 0) ∧ (win0_1.index t 0 = t.val ∧ win0_1.index t 1 = 1)
    ∧ (win0_2.index t 0 = 0 ∧ win0_2.index t 1 = 0 ∧ win0_2.index t 2 = 0) ∧ (win0_3.index t 0 = 0 ∧ win0_3.index t 1 = 0)
    ∧ win0_4.index t 1 = 0 ∧ win0_5.index t 1 = 0 ∧ win0_6.index t 0 = t.val ∧ win0_6.index t 1 = 0 :=
  by revert t; change ∀ t : Fin grid0.N, _; decide +kernel

lemma proj_at (x : FVec Ideal S4x2048x2560 .f32) (r : Fin 8192) (l : Fin 2560) :
    (shapeCast S8192x2560 (truncf .bf16 x bitsLt_bf16_f32) shapeCasts_S4x2048x2560_S8192x2560 : FVec Ideal S8192x2560 .bf16) (ix2 r l)
      = x (ix3 ⟨r.val / 2048, by omega⟩ ⟨r.val % 2048, by omega⟩ l) := by
  pointwise

section Arrays

variable (h : Args (m (c.tc.loc main_arg0)) (m (c.tc.loc main_arg1)) (m (c.tc.loc main_arg2)) (m (c.tc.loc main_arg3)) (m (c.tc.loc main_arg4)) x5 D)
include h

lemma V_proj (z : S8192x2560.Idx) {a b : ℕ} (h0 : (z 0).val = a) (h1 : (z 1).val = b) (hb : b < 1024) : V m c main_v1 z = ((D.X a b : ℝ) : EReal) := by
  subst h0 h1
  obtain ⟨r, l, rfl⟩ := is2 z
  have e : V m c main_v1 = (shapeCast S8192x2560 (truncf .bf16 (m (c.tc.loc main_arg0) : FVec Ideal S4x2048x2560 .f32) bitsLt_bf16_f32)
      shapeCasts_S4x2048x2560_S8192x2560 : FVec Ideal S8192x2560 .bf16) := by
    unfold V hostOps0; after_results; rfl
  rw [e, proj_at]
  exact (h.p _ _ _ hb).trans (congrArg (fun a : ℕ => ((D.X a l.val : ℝ) : EReal)) (Nat.div_add_mod r.val 2048))

lemma block (t : Fin cfg0.N) :
    Holds (out0_6 (iblk m c 0 t) (iblk m c 1 t) (iblk m c 2 t) (iblk m c 3 t) (iblk m c 4 t) (iblk m c 5 t)) fun r l => D.out (512 * t.val + r.val) l.val := by
  obtain ⟨i0, i1, i2, i3, i4, i5, -⟩ := ix t
  refine block_at (fun r l => V_proj h _ ?_ ?_ (by omega)) (fun r l => V_proj h _ ?_ ?_ (by omega)) (fun g r s => ?_) (fun r g => ?_) (fun r l => ?_) fun r l => ?_
  · show win0_0.index t 0 * 512 + 1 * r.val = _
    rw [i0.1]; omega
  · show win0_0.index t 1 * 512 + 1 * l.val = _
    rw [i0.2]; omega
  · show win0_1.index t 0 * 512 + 1 * r.val = _
    rw [i1.1]; omega
  · show win0_1.index t 1 * 512 + 1 * l.val = _
    rw [i1.2]; omega
  · have e : V m c main_arg1 = (m (c.tc.loc main_arg1) : FVec Ideal S4x128x128 .f32) := by
      unfold V hostOps0; after_results
    refine Eq.trans (congrArg (V m c main_arg1) (Places.ext3 (y := ix3 g r s) ?_ ?_ ?_)) ((congrFun e _).trans (h.w g r s))
    · show win0_2.index t 0 * 4 + 1 * g.val = _
      rw [i2.1]; simp
    · show win0_2.index t 1 * 128 + 1 * r.val = _
      rw [i2.2.1]; simp
    · show win0_2.index t 2 * 128 + 1 * s.val = _
      rw [i2.2.2]; simp
  · have e : V m c main_v2 = (transpose S128x4 [1, 0] (m (c.tc.loc main_arg2) : FVec Ideal S4x128 .f32) transposes_S4x128_S128x4_1_0 : FVec Ideal S128x4 .f32) := by
      unfold V hostOps0; after_results
    refine Eq.trans (congrArg (V m c main_v2) (Places.ext2 (y := ix2 r g) ?_ ?_)) ((congrFun e _).trans ((bias_at _ r g).trans (h.b g r)))
    · show win0_3.index t 0 * 128 + 1 * r.val = _
      rw [i3.1]; simp
    · show win0_3.index t 1 * 4 + 1 * g.val = _
      rw [i3.2]; simp
  · have e : V m c main_v3 = (broadcastInDim S1x512 ![1] bcast_S512_S1x512_1 (m (c.tc.loc main_arg3) : FVec Ideal S512 .f32) : FVec Ideal S1x512 .f32) := by
      unfold V hostOps0; after_results
    refine Eq.trans (congrArg (V m c main_v3) (Places.ext2 (y := ix2 0 l) ?_ ?_)) ((congrFun e _).trans ((gain_at _ 0 l).trans (h.gv l)))
    · exact congrArg Fin.val (Subsingleton.elim (α := Fin 1) _ 0)
    · show win0_4.index t 1 * 512 + 1 * l.val = _
      rw [i4]; simp
  · have e : V m c main_v4 = (broadcastInDim S1x1024 ![1] bcast_S1024_S1x1024_1 (m (c.tc.loc main_arg4) : FVec Ideal S1024 .f32) : FVec Ideal S1x1024 .f32) := by
      unfold V hostOps0; after_results
    refine Eq.trans (congrArg (V m c main_v4) (Places.ext2 (y := ix2 0 ⟨l.val, by omega⟩) ?_ ?_))
      ((congrFun e _).trans ((head_at _ 0 ⟨l.val, by omega⟩).trans (h.hg ⟨l.val, by omega⟩ (by show l.val < 512; omega))))
    · exact congrArg Fin.val (Subsingleton.elim (α := Fin 1) _ 0)
    · show win0_5.index t 1 * 512 + 1 * l.val = _
      rw [i5]; simp

lemma final : (dats m 0 c).arrAt 6 cfg0.N = mat fun (r : Fin 8192) (l : Fin 512) => D.out r.val l.val := by
  refine (dats m 0 c).arrAt_eq_of_cover 6 (mat fun (r : Fin 8192) (l : Fin 512) => D.out r.val l.val) (fun t _ => ?_) fun (i : S8192x512.Idx) => ?_
  · obtain ⟨-, -, -, -, -, -, i6⟩ := ix t
    rw [flushed6]
    refine funext fun (y : S512x512.Idx) => ?_
    obtain ⟨r, l, rfl⟩ := is2 y
    refine (block h t r l).trans (congrArg₂ (fun a b : ℕ => ((D.out a b : ℝ) : EReal)) ?_ ?_)
    · show _ = win0_6.index t 0 * 512 + 1 * r.val
      rw [i6.1]; omega
    · show _ = win0_6.index t 1 * 512 + 1 * l.val
      rw [i6.2]; omega
  · have h0 : (i 0 : Nat) < 8192 := (i 0).isLt
    have h1 : (i 1 : Nat) < 512 := (i 1).isLt
    have hN : cfg0.N = 16 := N_0
    obtain ⟨t, ht⟩ : ∃ t : Fin cfg0.N, t.val = (i 0 : Nat) / 512 := ⟨⟨(i 0 : Nat) / 512, by omega⟩, rfl⟩
    obtain ⟨-, -, -, -, -, -, i6⟩ := ix t
    refine ⟨t, flush0_6 t, ?_⟩
    show i ∈ ((View.whole main_v5).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [i6.1]; omega
    | ⟨1, _⟩ =>
      show win0_6.index t 1 * 512 ≤ (i 1 : Nat) ∧ (i 1 : Nat) < win0_6.index t 1 * 512 + 512
      rw [i6.2]; omega

end Arrays

end Cert.GfwdIdeal.Reading

end
-- ==== Proof.GfwdClaims.lean ====
/-
  The claims about the spatial gating unit's forward call.
-/
module

public import proofs.«01_k».proof.Proof.Gen.Gfwd.Frame
public import proofs.«01_k».proof.Proof.Gen.Pre_gfwd_finite
public import proofs.«01_k».proof.Proof.GfwdValue
public import proofs.«01_k».proof.Proof.GmlpClaims

@[expose] public section

noncomputable section

namespace Cert.Proof.Gfwd

open Idealize.ShloMosaic TcCoe Idealize.SL.Sem
open Cert.Reals Cert.Gate

lemma frame : Cert.quiescent_Gfwd := fun m ρ _ => Cert.Gfwd.Gen.frame m ρ

lemma frame_ideal : Cert.quiescent_GfwdIdeal := fun m ρ _ => Cert.GfwdIdeal.Gen.frame m ρ

lemma frame_ideal_pre : Cert.quiescent_GfwdIdeal_pre_gfwd_finite := fun m ρ _ => Cert.GfwdIdeal.Gen.frame m ρ

lemma frame_ref : Cert.quiescent_GfwdRefIdeal := fun m ρ _ =>
  (θ_run Cert.GfwdRefIdeal.defs _ _).mono
    (fun r h => ⟨fun c => (h c).2, sem_eq_zero_of_no_sems (by decide) r.2⟩)
    (Cert.GfwdRefIdeal.Value.run m ρ)

lemma frame_ref_pre : Cert.quiescent_GfwdRefIdeal_pre_gfwd_finite := fun m ρ _ => frame_ref m ρ trivial

/-- The constant of gelu stands for the fraction that it rounds. -/
lemma preserves : Cert.preserves_Gfwd_GfwdIdeal :=
  IdealRules.named_const.statement Cert.GfwdIdeal.κ "cubic" .f32 0x3D372713#32 ((8943 / 200000 : ℝ) : EReal) rfl

/-- Arrays that pass the precondition hold real numbers in the columns that it looks at; they are placed for the unit. -/
lemma placed_args (x0 : FVec Ideal Cert.Pre_gfwd_finite.S4x2048x2560 .f32) (x1 : FVec Ideal Cert.Pre_gfwd_finite.S4x128x128 .f32)
    (x2 : FVec Ideal Cert.Pre_gfwd_finite.S4x128 .f32) (x3 : FVec Ideal Cert.Pre_gfwd_finite.S512 .f32) (x4 : FVec Ideal Cert.Pre_gfwd_finite.S1024 .f32)
    (h : Cert.Pre_gfwd_finite.fn x0 x1 x2 x3 x4 = fun _ => 1#1) : ∃ x5 D, Cert.GmlpRefIdeal.Reading.Args x0 x1 x2 x3 x4 x5 D := by
  have e := congrFun h (fun i => i.elim0)
  dsimp only [Cert.Pre_gfwd_finite.fn, Cert.Pre_gfwd_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_gfwd_finite.S_).Idx := ⟨fun a b => funext fun i => i.elim0⟩
  obtain ⟨p0, h0⟩ := allReal_of_test e0
  obtain ⟨p1, h1⟩ := allReal_of_test e1
  obtain ⟨p2, h2⟩ := allReal_of_test e2
  obtain ⟨p3, h3⟩ := allReal_of_test e3
  obtain ⟨p4, h4⟩ := allReal_of_test e4
  have real : ∀ {x : EReal} {r : ℝ}, x = (r : EReal) → x = ((x.toReal : ℝ) : EReal) := fun h => by rw [h, EReal.toReal_coe]
  refine ⟨fun _ => ((0 : ℝ) : EReal), _, Cert.Proof.Gmlp.placed (P := fun i => (x0 i : EReal).toReal) (HG := fun i => (x4 i : EReal).toReal) (C := fun _ => 0)
    (fun i hi => ?_) h1 h2 h3 (fun i hi => ?_) fun _ _ => rfl⟩
  · have q := h0 (ix3 (i 0) (i 1) ⟨(i 2).val, hi⟩)
    pointwise at q
    exact real q
  · have q := h4 (ix1 ⟨(i 0).val, hi⟩)
    pointwise at q
    exact real q

lemma algebraic : Cert.algebraic_GfwdIdeal_GfwdRefIdeal_pre_gfwd_finite := fun m ρ m' ρ' hpre hag => by
  choose x5 D h using fun c => placed_args _ _ _ _ _ (hpre c)
  refine ⟨fun c => mat fun (r : Fin 8192) (l : Fin 512) => (D c).out r.val l.val,
    (θ_run Cert.GfwdIdeal.defs _ _).mono (fun _ r c => ⟨(r c).1.trans (Cert.GfwdIdeal.Reading.final (h c)), (r c).2⟩)
      (Cert.GfwdIdeal.Value.run_blocks m ρ),
    (θ_run Cert.GfwdRefIdeal.defs _ _).mono (fun _ r c => ⟨(r c).1.trans ((Cert.GfwdRefIdeal.Read.val_main_v77_eq _ c).trans ?_), (r c).2⟩)
      (Cert.GfwdRefIdeal.Value.run m' ρ')⟩
  obtain ⟨a0, a1, a2, a3, a4⟩ := hag c
  rw [a0, a1, a2, a3, a4]
  exact Cert.Proof.Gmlp.mat_of (Cert.GfwdRefIdeal.Reading.out_read (h c))

end Cert.Proof.Gfwd

end
-- ==== Proof.RowNorm.lean ====
/-
  The row norm of 1024 columns over the real numbers, its derivative, and the rectangles of rows a block is read and written by.
-/
module

public import proofs.«01_k».proof.Proof.GmlpRefBack

@[expose] public section

noncomputable section

namespace Cert.RowNorm

open Idealize.ShloMosaic
open Cert.Reals
open Cert.Stick (eps eps_pos)

/-- A load of rows `o`, `o + 1`, …. -/
abbrev part {α : Type} {A B : ℕ} (b : ℕ) (x : (⟨2, ![A, B]⟩ : Shape).Idx → α) (o : ℕ)
    (inb : ∀ i, (![o, 0] : Fin 2 → Nat) i + (![b, B] : Fin 2 → Nat) i ≤ (⟨2, ![A, B]⟩ : Shape).size i) (y : (⟨2, ![b, B]⟩ : Shape).Idx) : α :=
  x ((Rect.unit (s := ⟨2, ![A, B]⟩) ![o, 0] ![b, B] inb).emb y)

lemma size_f32 : (Ideal.ofBits .f32 0x44800000#32 : EReal) = ((1024 : ℝ) : EReal) := by
  simp [Ideal.ofBits, Ideal.ieee, -EReal.coe_mul]; norm_num

/-- A row's mean square and the small number added to it. -/
def ms (x : Fin 1024 → ℝ) : ℝ := (∑ l, x l * x l) / 1024 + eps
/-- What the norm scales a row by. -/
def inv (x : Fin 1024 → ℝ) : ℝ := (√(ms x))⁻¹
/-- The row, scaled. -/
def nrm (x : Fin 1024 → ℝ) (l : Fin 1024) : ℝ := x l * inv x
/-- The row's gradient from the scaled row's gradient `a`. -/
def back (x a : Fin 1024 → ℝ) (l : Fin 1024) : ℝ := inv x * (a l - nrm x l * ((∑ e, a e * nrm x e) / 1024))

lemma ms_pos (x : Fin 1024 → ℝ) : 0 < ms x :=
  add_pos_of_nonneg_of_pos (div_nonneg (Finset.sum_nonneg fun _ _ => mul_self_nonneg _) (by norm_num)) eps_pos

/-- The gradient as the rules of the norm's terms give it, after a number `d` from elsewhere. -/
lemma back_rules (x a : Fin 1024 → ℝ) (l : Fin 1024) (d : ℝ) :
    d + a l * inv x + x l * ((∑ e, x e * a e) * (-(1 / 2) * (inv x / ms x)) / 1024) + (∑ e, x e * a e) * (-(1 / 2) * (inv x / ms x)) / 1024 * x l
      = d + back x a l := by
  have e : (∑ e, a e * nrm x e) = (∑ e, x e * a e) * inv x := by
    rw [Finset.sum_mul]
    exact Finset.sum_congr rfl fun e _ => by unfold nrm; ring
  have h : inv x / ms x = inv x * inv x * inv x := by
    have hs : √(ms x) * √(ms x) = ms x := Real.mul_self_sqrt (ms_pos x).le
    have h0 : √(ms x) ≠ 0 := (Real.sqrt_pos.2 (ms_pos x)).ne'
    have hm : ms x ≠ 0 := (ms_pos x).ne'
    unfold inv
    field_simp
    nlinarith [hs]
  unfold back
  rw [e, h]
  unfold nrm
  ring

/-! ## Rows of a block -/

variable {A B b N M o : ℕ} {x : (⟨2, ![A, B]⟩ : Shape).Idx → EReal} {f : ℕ → Fin B → ℝ}

/-- Some rows of a block that holds rows `N`, `N + 1`, …. -/
lemma rows (hx : Holds x fun r => f (N + r.val)) (hM : M = N + o)
    (inb : ∀ i, (![o, 0] : Fin 2 → Nat) i + (![b, B] : Fin 2 → Nat) i ≤ (⟨2, ![A, B]⟩ : Shape).size i) :
    Holds (fun y => x ((Rect.unit (s := ⟨2, ![A, B]⟩) ![o, 0] ![b, B] inb).emb y)) fun r => f (M + r.val) := by
  subst hM
  intro r l
  have hr : o + b ≤ A := inb 0
  have hr' := r.isLt
  have e := (Places.emb2 inb r l).trans (Places.ext2 (y := ix2 (⟨o + r.val, by omega⟩ : Fin A) l) rfl (Nat.zero_add _))
  refine (congrArg x e).trans ((hx ⟨o + r.val, by omega⟩ l).trans ?_)
  show ((f (N + (o + r.val)) l : ℝ) : EReal) = _
  rw [← Nat.add_assoc]

lemma ld_rows (hx : Holds x fun r => f (N + r.val)) (hM : M = N + o)
    (inb : ∀ i, (![o, 0] : Fin 2 → Nat) i + (![b, B] : Fin 2 → Nat) i ≤ (⟨2, ![A, B]⟩ : Shape).size i) :
    Holds (View.ld (Val := Elt Ideal) (e' := .bf16) x (Rect.unit (s := ⟨2, ![A, B]⟩) ![o, 0] ![b, B] inb)) fun r => f (M + r.val) :=
  rows hx hM inb

lemma ld_rows32 (hx : Holds x fun r => f (N + r.val)) (hM : M = N + o)
    (inb : ∀ i, (![o, 0] : Fin 2 → Nat) i + (![b, B] : Fin 2 → Nat) i ≤ (⟨2, ![A, B]⟩ : Shape).size i) :
    Holds (View.ld (Val := Elt Ideal) (e' := .f32) x (Rect.unit (s := ⟨2, ![A, B]⟩) ![o, 0] ![b, B] inb)) fun r => f (M + r.val) :=
  rows hx hM inb

/-- A store of some rows is a block of the matrix of rows `N`, `N + 1`, …. -/
lemma piece_rows {v : (⟨2, ![b, B]⟩ : Shape).Idx → EReal} (hv : Holds v fun r => f (M + r.val)) (hM : M = N + o)
    (inb : ∀ i, (![o, 0] : Fin 2 → Nat) i + (![b, B] : Fin 2 → Nat) i ≤ (⟨2, ![A, B]⟩ : Shape).size i)
    (y : (⟨2, ![b, B]⟩ : Shape).Idx) :
    v y = mat (fun r : Fin A => f (N + r.val)) ((Rect.unit (s := ⟨2, ![A, B]⟩) ![o, 0] ![b, B] inb).emb y) := by
  obtain ⟨r, l, rfl⟩ := Places.is2 y
  exact (hv r l).trans (rows (mat_holds fun r : Fin A => f (N + r.val)) hM inb r l).symm

/-- The two halves of a block's rows. -/
lemma halves (f : ℕ → ℝ) (N b : ℕ) :
    (∑ r : Fin b, f (N + r.val)) + ∑ r : Fin b, f (N + b + r.val) = ∑ r : Fin (b + b), f (N + r.val) := by
  rw [Fin.sum_univ_add]
  refine congrArg₂ (· + ·) rfl (Finset.sum_congr rfl fun r _ => ?_)
  rw [Nat.add_assoc]
  rfl

/-- All blocks' rows. -/
lemma blocks (f : ℕ → ℝ) (n J K : ℕ) (hK : n * J = K) : ∑ k ∈ Finset.range J, ∑ r : Fin n, f (n * k + r.val) = ∑ s : Fin K, f s.val := by
  subst hK
  simpa only [Nat.zero_add, Nat.mul_zero] using sum_blocks f n J 0

/-! ## A norm of all rows, and its gradient -/

/-- The rows before the norm, what their gradient starts from, the gradient after the gain, the gain. -/
structure Data where
  X : ℕ → Fin 1024 → ℝ
  R : ℕ → Fin 1024 → ℝ
  dy : ℕ → Fin 1024 → ℝ
  g : Fin 1024 → ℝ

variable (D : Data)

def Data.dx (n : ℕ) (l : Fin 1024) : ℝ := D.R n l + back (D.X n) (fun e => D.dy n e * D.g e) l
def Data.gain (n : ℕ) (l : Fin 1024) : ℝ := D.dy n l * nrm (D.X n) l
def Data.dxArr (n : Fin 8192) (l : Fin 1024) : ℝ := D.dx n.val l
def Data.dgArr (_ : Fin 1) (l : Fin 1024) : ℝ := ∑ n : Fin 8192, D.gain n.val l

/-! ## Arrays by their rows -/

/-- Row `n` of an array of 8192 rows. -/
def row {B : ℕ} (x : (⟨2, ![8192, B]⟩ : Shape).Idx → ℝ) (n : ℕ) (l : Fin B) : ℝ := x (ix2 ⟨n % 8192, Nat.mod_lt _ (by decide)⟩ l)

lemma row_at {B : ℕ} (x : (⟨2, ![8192, B]⟩ : Shape).Idx → ℝ) (z : (⟨2, ![8192, B]⟩ : Shape).Idx) : row x (z 0).val (z 1) = x z :=
  congrArg x (Places.ext2 (Nat.mod_eq_of_lt (z 0).isLt) rfl)

/-- An entry of an array whose rows are `f`, at a place given by its numbers. -/
lemma entry {N B b : ℕ} {a : (⟨2, ![N, B]⟩ : Shape).Idx → EReal} {f : ℕ → Fin B → ℝ} (ha : ∀ z, a z = ((f (z 0).val (z 1) : ℝ) : EReal))
    (z : (⟨2, ![N, B]⟩ : Shape).Idx) {k k' M : ℕ} (r : Fin b) (l : Fin B) (h0 : (z 0).val = k * b + 1 * r.val) (hk : k * b = M)
    (h1 : (z 1).val = k' * B + 1 * l.val) (hk' : k' = 0) :
    a z = ((f (M + r.val) l : ℝ) : EReal) := by
  have e1 : z 1 = l := Fin.ext (by rw [h1, hk']; omega)
  rw [ha z, e1, h0, hk, Nat.one_mul]

/-! ## The gradient of a product added to the rows before the norm -/

/-- The rows are an array plus a product; the gradient before the gain is another product's. -/
def sumData {K : ℕ} (H O : (⟨2, ![8192, 1024]⟩ : Shape).Idx → ℝ) (Wo : (⟨3, ![1, 1024, 1024]⟩ : Shape).Idx → ℝ) (G : (⟨2, ![1, 1024]⟩ : Shape).Idx → ℝ)
    (W : (⟨3, ![1, 1024, K]⟩ : Shape).Idx → ℝ) (R : (⟨2, ![8192, 1024]⟩ : Shape).Idx → ℝ) (C : (⟨2, ![8192, K]⟩ : Shape).Idx → ℝ) : Data where
  X n l := row H n l + ∑ j, row O n j * Wo (ix3 0 j l)
  R := row R
  dy n l := ∑ j, row C n j * W (ix3 0 l j)
  g l := G (ix2 0 l)

/-- The gradient of the product's left factor. -/
def Data.dOut (D : Data) (Wo : (⟨3, ![1, 1024, 1024]⟩ : Shape).Idx → ℝ) (n : ℕ) (l : Fin 1024) : ℝ := ∑ j, D.dx n j * Wo (ix3 0 l j)
def Data.dOutArr (D : Data) (Wo : (⟨3, ![1, 1024, 1024]⟩ : Shape).Idx → ℝ) (n : Fin 8192) (l : Fin 1024) : ℝ := D.dOut Wo n.val l

end Cert.RowNorm

end
-- ==== Proof.GainValue.lean ====
/-
  The memory norm's gain: what the gain's gradient holds after the run, from arguments of any values. The norm of a row is
  written as the operations compute it, so no entry need be finite.
-/
module

public import proofs.«01_k».proof.Proof.Gen.GainIdeal.Value
public import proofs.«01_k».proof.Proof.RowNorm

@[expose] public section

noncomputable section

namespace Cert.Gain

open Idealize.ShloMosaic

/-- A row scaled by one over the root of its mean square. -/
def scaled (x : Fin 1024 → EReal) (l : Fin 1024) : EReal :=
  x l * Ideal.rsqrt (Ideal.div (∑ e, x e * x e) (Ideal.ofBits .f32 0x44800000#32) + Ideal.ofBits .f32 0x358637BD#32)

/-- Row `n` of four batch entries of 256 rows each. -/
def row {B : ℕ} (x : (⟨3, ![4, 256, B]⟩ : Shape).Idx → EReal) (n : ℕ) (l : Fin B) : EReal :=
  x (ix3 ⟨n / 256 % 4, Nat.mod_lt _ (by decide)⟩ ⟨n % 256, Nat.mod_lt _ (by decide)⟩ l)

variable (x : (⟨3, ![4, 256, 1024]⟩ : Shape).Idx → EReal) (w : (⟨3, ![1, 1024, 2048]⟩ : Shape).Idx → EReal) (ct : (⟨3, ![4, 256, 2048]⟩ : Shape).Idx → EReal)

/-- The normed row's gradient. -/
def dy (n : ℕ) (l : Fin 1024) : EReal := ∑ j, row ct n j * w (ix3 0 l j)
/-- What a row adds to the gain's gradient. -/
def cell (n : ℕ) (l : Fin 1024) : EReal := dy w ct n l * scaled (row x n) l
/-- The gain's gradient. -/
def spec (l : Fin 1024) : EReal := ∑ n : Fin 1024, cell x w ct n.val l

/-- The two halves of a sum. -/
lemma halves (f : ℕ → EReal) (N b : ℕ) : (∑ r : Fin b, f (N + r.val)) + ∑ r : Fin b, f (N + b + r.val) = ∑ r : Fin (b + b), f (N + r.val) := by
  rw [Fin.sum_univ_add]
  refine congrArg₂ (· + ·) rfl (Finset.sum_congr rfl fun r _ => ?_)
  rw [Nat.add_assoc]
  rfl

end Cert.Gain

namespace Cert.GainIdeal.Reading

open Cert.GainIdeal Gen Value
open Idealize.ShloMosaic TcCoe Idealize.SL.Sem
open Cert.Gain

/-! ## One block -/

lemma first1 (v : Vec Ideal S512x1024 .bf16) (w : Vec Ideal S1024x1024 .bf16) (r : Fin 512) (l : Fin 1024) :
    k0_pay1 v w (ix2 r l) = ∑ j : Fin 1024, v (ix2 r j) * w (ix2 j l) := by
  pointwise [k0_pay1]

lemma next2 (a : FVec Ideal S512x1024 .f32) (v : Vec Ideal S512x1024 .bf16) (w : Vec Ideal S1024x1024 .bf16) (r : Fin 512) (l : Fin 1024) :
    k0_pay2 a v w (ix2 r l) = a (ix2 r l) + ∑ j : Fin 1024, v (ix2 r j) * w (ix2 j l) := by
  pointwise [k0_pay2]

lemma gain4 (a b : FVec Ideal S512x1024 .f32) (o : Fin 1) (l : Fin 1024) :
    k0_pay4 a b (ix2 o l) = ∑ r : Fin 512, a (ix2 r l) * scaled (fun e => b (ix2 r e)) l := by
  unfold scaled
  pointwise [k0_pay4]

lemma gain5 (a b : FVec Ideal S512x1024 .f32) (p : FVec Ideal S1x1024 .f32) (o : Fin 1) (l : Fin 1024) :
    k0_pay5 a b p (ix2 o l) = p (ix2 o l) + k0_pay4 a b (ix2 o l) := by
  pointwise [k0_pay5]

/-! ## The windows' blocks -/

lemma ix_0 : ∀ t : Fin cfg0.N, win0_0.index t 0 = t.val / 2 ∧ win0_0.index t 1 = t.val % 2 :=
  by change ∀ t : Fin grid0.N, _; decide +kernel
lemma ix_1 : ∀ t : Fin cfg0.N, win0_1.index t 0 = t.val % 2 ∧ win0_1.index t 1 = 0 :=
  by change ∀ t : Fin grid0.N, _; decide +kernel
lemma ix_2 : ∀ t : Fin cfg0.N, win0_2.index t 0 = t.val / 2 ∧ win0_2.index t 1 = 0 :=
  by change ∀ t : Fin grid0.N, _; decide +kernel

lemma lt4 (t : Fin cfg0.N) : t.val < 4 := lt_of_lt_of_eq t.isLt N_0

lemma read_w (x : FVec Ideal S1x1024x2048 .f32) (j : Fin 2048) (l : Fin 1024) :
    truncf (s := S2048x1024) .bf16 (transpose S2048x1024 [1, 0]
      (shapeCast S1024x2048 x shapeCasts_S1x1024x2048_S1024x2048) transposes_S1024x2048_S2048x1024_1_0) bitsLt_bf16_f32 (ix2 j l) = x (ix3 0 l j) := by
  pointwise

lemma read_ct (x : FVec Ideal S4x256x2048 .f32) (n : Fin 1024) (j : Fin 2048) :
    shapeCast S1024x2048 (truncf (s := S4x256x2048) .bf16 x bitsLt_bf16_f32) shapeCasts_S4x256x2048_S1024x2048 (ix2 n j) = row x n.val j := by
  pointwise
  refine congrArg x (Places.ext3 ?_ ?_ ?_) <;> dsimp <;> omega

lemma read_x (x : FVec Ideal S4x256x1024 .f32) (n : Fin 1024) (j : Fin 1024) :
    shapeCast S1024x1024 x shapeCasts_S4x256x1024_S1024x1024 (ix2 n j) = row x n.val j := by
  pointwise
  refine congrArg x (Places.ext3 ?_ ?_ ?_) <;> dsimp <;> omega

/-! ## The blocks in the arrays -/

variable (m : (ℓ : Loc nD τ sig) → Buf (Elt Ideal) ℓ) (c : Dev nD)

abbrev aX : FVec Ideal S4x256x1024 .f32 := m ((c : Thread nD τ).loc main_arg0)
abbrev aW : FVec Ideal S1x1024x2048 .f32 := m ((c : Thread nD τ).loc main_arg2)
abbrev aC : FVec Ideal S4x256x2048 .f32 := m ((c : Thread nD τ).loc main_arg3)

lemma V_ct (n : Fin 1024) (j : Fin 2048) : V m c main_v4 (ix2 n j) = row (aC m c) n.val j := by
  have e : V m c main_v4 = shapeCast S1024x2048 (truncf (s := S4x256x2048) .bf16 (aC m c) bitsLt_bf16_f32) shapeCasts_S4x256x2048_S1024x2048 := by
    unfold V hostOps0; after_results; rfl
  rw [e]
  exact read_ct _ n j

lemma V_w (j : Fin 2048) (l : Fin 1024) : V m c main_v2 (ix2 j l) = aW m c (ix3 0 l j) := by
  have e : V m c main_v2 = truncf (s := S2048x1024) .bf16 (transpose S2048x1024 [1, 0]
      (shapeCast S1024x2048 (aW m c) shapeCasts_S1x1024x2048_S1024x2048) transposes_S1024x2048_S2048x1024_1_0) bitsLt_bf16_f32 := by
    unfold V hostOps0; after_results; rfl
  rw [e]
  exact read_w _ j l

lemma V_x (n : Fin 1024) (l : Fin 1024) : V m c main_v5 (ix2 n l) = row (aX m c) n.val l := by
  have e : V m c main_v5 = shapeCast S1024x1024 (aX m c) shapeCasts_S4x256x1024_S1024x1024 := by
    unfold V hostOps0; after_results; rfl
  rw [e]
  exact read_x _ n l

/-- Term `j` of the normed row's gradient. -/
def term (n : ℕ) (l : Fin 1024) (j : ℕ) : EReal := row (aC m c) n ⟨j % 2048, Nat.mod_lt _ (by decide)⟩ * aW m c (ix3 0 l ⟨j % 2048, Nat.mod_lt _ (by decide)⟩)

/-- A point's blocks. -/
abbrev b0 (t : Fin cfg0.N) : Vec Ideal S512x1024 .bf16 := iblk m c 0 t
abbrev b1 (t : Fin cfg0.N) : Vec Ideal S1024x1024 .bf16 := iblk m c 1 t
abbrev b2 (t : Fin cfg0.N) : Vec Ideal S512x1024 .f32 := iblk m c 2 t

lemma blk_dot (t : Fin cfg0.N) (r : Fin 512) (l : Fin 1024) :
    (∑ j : Fin 1024, b0 m c t (ix2 r j) * b1 m c t (ix2 j l)) = ∑ j : Fin 1024, term m c (512 * (t.val / 2) + r.val) l (1024 * (t.val % 2) + j.val) := by
  have ht := lt4 t
  refine Finset.sum_congr rfl fun j _ => ?_
  unfold term
  have e0 : b0 m c t (ix2 r j) = V m c main_v4 (ix2 (⟨512 * (t.val / 2) + r.val, by omega⟩ : Fin 1024) (⟨(1024 * (t.val % 2) + j.val) % 2048, Nat.mod_lt _ (by decide)⟩ : Fin 2048)) := by
    show V m c main_v4 _ = _
    refine congrArg (V m c main_v4) (Places.ext2 ?_ ?_)
    · show win0_0.index t 0 * 512 + 1 * r.val = 512 * (t.val / 2) + r.val
      rw [(ix_0 t).1]; omega
    · show win0_0.index t 1 * 1024 + 1 * j.val = (1024 * (t.val % 2) + j.val) % 2048
      rw [(ix_0 t).2]; omega
  have e1 : b1 m c t (ix2 j l) = V m c main_v2 (ix2 (⟨(1024 * (t.val % 2) + j.val) % 2048, Nat.mod_lt _ (by decide)⟩ : Fin 2048) l) := by
    show V m c main_v2 _ = _
    refine congrArg (V m c main_v2) (Places.ext2 ?_ ?_)
    · show win0_1.index t 0 * 1024 + 1 * j.val = (1024 * (t.val % 2) + j.val) % 2048
      rw [(ix_1 t).1]; omega
    · show win0_1.index t 1 * 1024 + 1 * l.val = l.val
      rw [(ix_1 t).2]; omega
  rw [e0, e1, V_ct, V_w]

lemma blk_x (t : Fin cfg0.N) (r : Fin 512) (e : Fin 1024) : b2 m c t (ix2 r e) = row (aX m c) (512 * (t.val / 2) + r.val) e := by
  have ht := lt4 t
  refine Eq.trans ?_ (V_x m c (⟨512 * (t.val / 2) + r.val, by omega⟩ : Fin 1024) e)
  show V m c main_v5 _ = _
  refine congrArg (V m c main_v5) (Places.ext2 ?_ ?_)
  · show win0_2.index t 0 * 512 + 1 * r.val = 512 * (t.val / 2) + r.val
    rw [(ix_2 t).1]; omega
  · show win0_2.index t 1 * 1024 + 1 * e.val = e.val
    rw [(ix_2 t).2]; omega

lemma dy_terms (n : ℕ) (l : Fin 1024) : dy (aW m c) (aC m c) n l = ∑ j : Fin 2048, term m c n l j.val :=
  Finset.sum_congr rfl fun j _ => by
    unfold term
    simp only [Nat.mod_eq_of_lt j.isLt]

/-! ## The points -/

/-- The product's first half, at a row block's first point. -/
lemma acc_even (t : Fin cfg0.N) (h0 : t.val % 2 = 0) (r : Fin 512) (l : Fin 1024) :
    (outsAt0 m c t.val t.isLt).2.2 (ix2 r l) = ∑ j : Fin 1024, term m c (512 * (t.val / 2) + r.val) l j.val := by
  rw [outsAt0_A m c t h0 (by omega) (by omega)]
  frame_open
  simp (disch := decide) only [↓ View.readCov_skip, ↓ View.readCov_cons_toLoadRect, ↓ View.readCov_fill]
  frame_out
  refine (first1 _ _ r l).trans ((blk_dot m c t r l).trans ?_)
  simp only [h0, Nat.mul_zero, Nat.zero_add]

/-- The whole product, at a row block's second point. -/
lemma acc_odd (t : Fin cfg0.N) (h1 : t.val % 2 = 1) (v : FVec Ideal S512x1024 .f32)
    (hv : v = (outsAt0 m c (t.val - 1) (Nat.lt_of_le_of_lt (Nat.sub_le _ _) t.isLt)).2.2) (r : Fin 512) (l : Fin 1024) :
    k0_pay2 v (b0 m c t) (b1 m c t) (ix2 r l) = dy (aW m c) (aC m c) (512 * (t.val / 2) + r.val) l := by
  have ht := lt4 t
  rw [next2, blk_dot, hv, dy_terms]
  refine Eq.trans ?_ (halves (term m c (512 * (t.val / 2) + r.val) l) 0 1024)
  have e := acc_even m c ⟨t.val - 1, by omega⟩ (by show (t.val - 1) % 2 = 0; omega) r l
  refine congrArg₂ (· + ·) (e.trans ?_) ?_
  · rw [show (t.val - 1) / 2 = t.val / 2 by omega]
    simp only [Nat.zero_add]
  · simp only [h1, Nat.mul_one, Nat.zero_add]

/-- A row block's part of the gain's gradient. -/
lemma part (t : Fin cfg0.N) (v : FVec Ideal S512x1024 .f32)
    (hv : ∀ r l, v (ix2 r l) = dy (aW m c) (aC m c) (512 * (t.val / 2) + r.val) l) (o : Fin 1) (l : Fin 1024) :
    k0_pay4 v (b2 m c t) (ix2 o l) = ∑ r : Fin 512, cell (aX m c) (aW m c) (aC m c) (512 * (t.val / 2) + r.val) l := by
  rw [gain4]
  refine Finset.sum_congr rfl fun r _ => ?_
  rw [hv]
  simp only [blk_x]
  rfl

lemma sum_first (t : Fin cfg0.N) (h : t.val = 1) (o : Fin 1) (l : Fin 1024) :
    (outsAt0 m c t.val t.isLt).2.1 (ix2 o l) = ∑ r : Fin 512, cell (aX m c) (aW m c) (aC m c) (512 * (t.val / 2) + r.val) l := by
  rw [outsAt0_B m c t (by omega) (by omega) (by omega) (by omega) (by omega)]
  frame_open
  simp (disch := decide) only [↓ View.readCov_skip, ↓ View.readCov_cons_toLoadRect, ↓ View.readCov_fill]
  frame_out
  exact part m c t _ (acc_odd m c t (by omega) _ (read_unread_whole _ _ _)) o l

lemma sum_kept (t : Fin cfg0.N) (h : t.val = 2) : (outsAt0 m c t.val t.isLt).2.1 = (outsAt0 m c (t.val - 1) (Nat.lt_of_le_of_lt (Nat.sub_le _ _) t.isLt)).2.1 := by
  rw [outsAt0_A m c t (by omega) (by omega) (by omega)]
  unfold out0_A_5
  frame_open
  frame_out

lemma sum_last (t : Fin cfg0.N) (h : t.val = 3) {p : FVec Ideal S1x1024 .f32} (hp : p = (outsAt0 m c (t.val - 1) (Nat.lt_of_le_of_lt (Nat.sub_le _ _) t.isLt)).2.1) (o : Fin 1) (l : Fin 1024) :
    (outsAt0 m c t.val t.isLt).2.1 (ix2 o l) = p (ix2 o l) + ∑ r : Fin 512, cell (aX m c) (aW m c) (aC m c) (512 * (t.val / 2) + r.val) l := by
  subst hp
  rw [outsAt0_C m c t (by omega) (by omega) (by omega) (by omega) (by omega)]
  frame_open
  simp (disch := decide) only [↓ View.readCov_skip, ↓ View.readCov_cons_toLoadRect, ↓ View.readCov_fill]
  frame_out
  exact (gain5 _ _ _ o l).trans (congrArg₂ (· + ·) rfl (part m c t _ (acc_odd m c t (by omega) _ (read_unread_whole _ _ _)) o l))

lemma sum_all (n : ℕ) (hn : n < cfg0.N) (h : n = 3) (o : Fin 1) (l : Fin 1024) : (outsAt0 m c n hn).2.1 (ix2 o l) = spec (aX m c) (aW m c) (aC m c) l := by
  have e1 := sum_first m c ⟨n - 1 - 1, by omega⟩ (by show n - 1 - 1 = 1; omega) o l
  have e2 := sum_kept m c ⟨n - 1, by omega⟩ (by show n - 1 = 2; omega)
  refine (sum_last m c ⟨n, hn⟩ h (p := (outsAt0 m c (n - 1 - 1) (by omega)).2.1) e2.symm o l).trans ?_
  refine Eq.trans ?_ ((halves (fun n => cell (aX m c) (aW m c) (aC m c) n l) 0 512).trans (by simp only [Nat.zero_add]; rfl))
  refine congrArg₂ (· + ·) (e1.trans ?_) ?_
  · rw [show 512 * ((n - 1 - 1) / 2) = 0 by omega]
  · rw [show 512 * (n / 2) = 0 + 512 by omega]

/-- The gain's gradient after the run. -/
lemma final : G5 m c = fun i : S1x1024.Idx => spec (aX m c) (aW m c) (aC m c) (i 1) := by
  rw [G5_last, ← outsAt0_sweep m c 3 (lt_of_lt_of_eq (by decide) N_0.symm)]
  refine funext fun (y : S1x1024.Idx) => ?_
  obtain ⟨o, l, rfl⟩ := Places.is2 y
  exact sum_all m c 3 _ rfl o l

end Cert.GainIdeal.Reading

end
-- ==== Proof.GainRef.lean ====
/-
  The reference's gradient of the memory norm's gain, from arguments of any values.
-/
module

public import proofs.«01_k».proof.Proof.Gen.GainRefIdeal.Read
public import proofs.«01_k».proof.Proof.GainValue

@[expose] public section

noncomputable section

namespace Cert.GainRefIdeal.Reading

open Cert.GainRefIdeal Gen Read
open Idealize.ShloMosaic
open Cert.Gain
open Cert.GmlpRefIdeal.Reading (sum_01)

variable (x0 : FVec Ideal S4x256x1024 .f32) (x2 : FVec Ideal S1x1024x2048 .f32) (x3 : FVec Ideal S4x256x2048 .f32)

/-- A row by its batch entry and its place there. -/
lemma row_of {B : ℕ} (x : (⟨3, ![4, 256, B]⟩ : Shape).Idx → EReal) (b : Fin 4) (s : Fin 256) (l : Fin B) : row x (256 * b.val + s.val) l = x (ix3 b s l) :=
  congrArg x (Places.ext3 (by show (256 * b.val + s.val) / 256 % 4 = b.val; omega) (by show (256 * b.val + s.val) % 256 = s.val; omega) rfl)

lemma at_scaled (b : Fin 4) (s : Fin 256) (l : Fin 1024) : val_main_v10 (F := Ideal) x0 (ix3 b s l) = scaled (row x0 (256 * b.val + s.val)) l := by
  unfold scaled
  simp only [row_of]
  pointwise [val_main_v10, val_main_v9, val_main_v8, val_main_v7, val_main_v6, val_main_v5, val_main_v4, val_main_v3, val_main_v2, val_main_v1,
    val_main_cst, val_main_cst_0, val_main_cst_1]

lemma at_dy (b : Fin 4) (s : Fin 256) (l : Fin 1024) : val_main_v16 (F := Ideal) x2 x3 (ix3 b s l) = dy x2 x3 (256 * b.val + s.val) l := by
  unfold dy
  simp only [row_of]
  pointwise [val_main_v16, val_main_v14]

/-- The sum over all rows by batch entries. -/
lemma sum_rows (f : ℕ → EReal) : ∑ b : Fin 4, ∑ s : Fin 256, f (256 * b.val + s.val) = ∑ n : Fin 1024, f n.val := by
  have h := halves f 0 512
  rw [← halves f 0 256, ← halves f (0 + 512) 256, ← add_assoc] at h
  rw [Fin.sum_univ_four]
  exact h.trans (Finset.sum_congr rfl fun n _ => congrArg f (Nat.zero_add _))

lemma at_sum (l : Fin 1024) : val_main_v18 (F := Ideal) x0 x2 x3 (ix1 l) = spec x0 x2 x3 l := by
  unfold val_main_v18
  show Ideal.hostReduceAdd _ _ (Ideal.ofBits .f32 0x00000000#32) (ix1 l) = _
  rw [Ideal.ofBits_zero_f32, sum_01]
  refine Eq.trans (Finset.sum_congr rfl fun b _ => Finset.sum_congr rfl fun s _ => ?_) (sum_rows fun n => cell x0 x2 x3 n l)
  pointwise [val_main_v17]
  rw [at_scaled, at_dy, mul_comm]
  rfl

lemma val_dg : val_main_v21 (F := Ideal) x0 x2 x3 = fun i : S1x1024.Idx => spec x0 x2 x3 (i 1) := by
  refine funext fun (y : S1x1024.Idx) => ?_
  obtain ⟨o, l, rfl⟩ := Places.is2 y
  pointwise [val_main_v21]
  unfold val_main_v20
  show Ideal.hostReduceAdd _ _ (Ideal.ofBits .f32 0x00000000#32) (ix1 l) = _
  rw [Ideal.ofBits_zero_f32, sum_01]
  simp only [Finset.univ_unique, Finset.sum_singleton]
  pointwise [val_main_v19]
  exact at_sum x0 x2 x3 l

end Cert.GainRefIdeal.Reading

end
-- ==== Proof.GainClaims.lean ====
/-
  The claims about the memory norm's gain.
-/
module

public import proofs.«01_k».proof.Defs
public import proofs.«01_k».proof.Proof.Gen.Gain.Frame
public import proofs.«01_k».proof.Proof.GainRef

@[expose] public section

noncomputable section

namespace Cert.Proof.Gain

open Idealize.ShloMosaic TcCoe Idealize.SL.Sem

lemma frame : Cert.quiescent_Gain := fun m ρ _ => Cert.Gain.Gen.frame m ρ

lemma frame_ideal : Cert.quiescent_GainIdeal := fun m ρ _ => Cert.GainIdeal.Gen.frame m ρ

lemma frame_ref : Cert.quiescent_GainRefIdeal := fun m ρ _ =>
  (θ_run Cert.GainRefIdeal.defs _ _).mono
    (fun r h => ⟨fun c => (h c).2, sem_eq_zero_of_no_sems (by decide) r.2⟩)
    (Cert.GainRefIdeal.Value.run m ρ)

lemma algebraic : Cert.algebraic_GainIdeal_GainRefIdeal := fun m ρ m' ρ' _ hag =>
  ⟨fun c => Cert.GainIdeal.Value.G5 m c,
    (θ_run Cert.GainIdeal.defs _ _).mono (fun _ h c => (h c).2) (Cert.GainIdeal.Value.run m ρ),
    (θ_run Cert.GainRefIdeal.defs _ _).mono
      (fun _ h c => ⟨(h c).1.trans (by
          rw [Cert.GainRefIdeal.Read.val_main_v21_eq, (hag c).1, (hag c).2.2.1, (hag c).2.2.2, Cert.GainRefIdeal.Reading.val_dg]
          exact (Cert.GainIdeal.Reading.final m c).symm), (h c).2⟩)
      (Cert.GainRefIdeal.Value.run m' ρ')⟩

end Cert.Proof.Gain

end
-- ==== Proof.LossBlock.lean ====
/-
  The second feed-forward product, the final norm and the loss: what one point leaves in its block of the rows' gradient and
  in the two rows of sums (the gain's gradient, the squared differences), from blocks that hold real numbers.
-/
module

public import proofs.«01_k».proof.Proof.Gen.LossIdeal.Value
public import proofs.«01_k».proof.Proof.RowNorm

@[expose] public section

noncomputable section

namespace Cert.RowNorm

open Idealize.ShloMosaic

lemma part_f32 : (Ideal.ofBits .f32 0x3A800000#32 : EReal) = ((1 / 1024 : ℝ) : EReal) := by
  simp [Ideal.ofBits, Ideal.ieee, -EReal.coe_mul]; norm_num

lemma max_zero (x : ℝ) : max (x : EReal) 0 = ((max x 0 : ℝ) : EReal) := (EReal.coe_strictMono.monotone.map_max (a := x) (b := 0)).symm

/-- The two sums that a row enters: the gain's gradient and the squared difference `d` from the target. -/
def both (D : Data) (d : ℕ → Fin 1024 → ℝ) (o : Fin 2) (n : ℕ) (l : Fin 1024) : ℝ := if o.val = 0 then D.gain n l else d n l * d n l

end Cert.RowNorm

namespace Cert.LossIdeal.Reading

open Cert.LossIdeal Gen Value
open Idealize.ShloMosaic TcCoe Idealize.SL.Sem
open Cert.Reals Cert.RowNorm
open Cert.Stick (eps_eq rsqrt_pos)

/-! ## Half a block -/

section Half

variable {v0 : Vec Ideal S256x4096 .bf16} {v2 : Vec Ideal S4096x1024 .bf16} {v19 v20 v21 v34 v35 : FVec Ideal S256x1024 .f32} {v22 : FVec Ideal S1x1024 .f32} {v32 : FVec Ideal S256x1 .f32}
variable {P : Fin 256 → Fin 4096 → ℝ} {W : Fin 4096 → Fin 1024 → ℝ} {Z X H T U : Fin 256 → Fin 1024 → ℝ} {g : Fin 1024 → ℝ}

lemma dot5 (h0 : Holds v0 P) (h2 : Holds v2 W) : Holds (k0_pay5 (F := Ideal) v0 v2) fun r l => ∑ j, max (P r j) 0 * max (P r j) 0 * W j l := fun r l => by
  pointwise [k0_pay5]
  simp only [h0 _ _, h2 _ _, max_zero, ← EReal.coe_mul, coe_sum]

lemma x16 (hz : Holds v19 Z) (hh : Holds v20 H) : Holds (k0_pay16 (F := Ideal) v19 v20) fun r l => H r l + Z r l := fun r l => by
  pointwise [k0_pay16]
  simp only [hz _ _, hh _ _, ← EReal.coe_add]

lemma inv17 (h : Holds (k0_pay16 (F := Ideal) v19 v20) X) (r : Fin 256) (o : Fin 1) : k0_pay17 (F := Ideal) v19 v20 (ix2 r o) = ((inv (X r) : ℝ) : EReal) := by
  pointwise [k0_pay17]
  simp only [h _ _, ← EReal.coe_mul, coe_sum, size_f32, eps_eq, div_coe _ 1024 (by norm_num), ← EReal.coe_add]
  exact rsqrt_pos (ms_pos (X r))

lemma nrm18 (h : Holds (k0_pay16 (F := Ideal) v19 v20) X) : Holds (k0_pay18 (F := Ideal) v19 v20) fun r => nrm (X r) := fun r l => by
  pointwise [k0_pay18]
  simp only [h _ _, inv17 h, ← EReal.coe_mul]
  rfl

lemma gain15 (hg : Holds v22 fun _ => g) : Holds (k0_pay15 (F := Ideal) v22) fun _ => g := fun o l => by
  pointwise [k0_pay15]
  exact hg _ _

lemma err19 (h : Holds (k0_pay16 (F := Ideal) v19 v20) X) (ht : Holds v21 T) (hg : Holds v22 fun _ => g) :
    Holds (k0_pay19 (F := Ideal) v19 v20 v21 v22) fun r l => nrm (X r) l * g l - T r l := fun r l => by
  pointwise [k0_pay19]
  simp only [nrm18 h _ _, ht _ _, gain15 hg _ _, ← EReal.coe_mul, ← EReal.coe_sub]

lemma back2 (hi : ∀ r o, v32 (ix2 r o) = ((inv (X r) : ℝ) : EReal)) (hn : Holds v34 fun r => nrm (X r)) (hd : Holds v21 U) (hg : Holds v22 fun _ => g) :
    Holds (k0_pay2 (F := Ideal) v22 v32 v34 v21 (Scalar.ofBits .f32 0x3A800000#32)) fun r l => back (X r) (fun e => U r e * (1 / 1024) * g e) l := fun r l => by
  pointwise [k0_pay2, k0_pay1]
  simp only [hd _ _, part_f32, hn _ _, hi, hg _ _, ← EReal.coe_mul, coe_sum, size_f32, div_coe _ 1024 (by norm_num), ← EReal.coe_sub]
  rfl

lemma pay13_eq (v0 : Vec Ideal S256x4096 .bf16) (v2 : Vec Ideal S4096x1024 .bf16) (v20 v21 : Vec Ideal S256x1024 .f32) (v22 : Vec Ideal S1x1024 .f32) :
    k0_pay13 (F := Ideal) v21 (k0_pay6 v22) (k0_pay8 v0 v2 v20) (k0_pay9 v0 v2 v20) (k0_pay10 v22)
      = k0_pay2 (k0_pay15 v22) (k0_pay17 (k0_pay5 v0 v2) v20) (k0_pay18 (k0_pay5 v0 v2) v20) (k0_pay19 (k0_pay5 v0 v2) v20 v21 v22) (Scalar.ofBits .f32 0x3A800000#32) := rfl

/-- One half's two rows of sums. -/
def sums (n d : FVec Ideal S256x1024 .f32) : FVec Ideal S2x1024 .f32 :=
  concatenate S2x1024 0 [⟨S1x1024, shapeCast S1x1024 (multiReduction .add [0] S1024 (mulf (k0_pay1 d (Scalar.ofBits .f32 0x3A800000#32)) n) 0x00000000#32 reduces_S256x1024_S1024 (.inl rfl) rfl) shapeCasts_S1024_S1x1024⟩,
    ⟨S1x1024, shapeCast S1x1024 (multiReduction .add [0] S1024 (mulf d d) 0x00000000#32 reduces_S256x1024_S1024 (.inl rfl) rfl) shapeCasts_S1024_S1x1024⟩] concatenates_S1x1024_S1x1024_S2x1024_d0

lemma pay14_eq (v0 : Vec Ideal S256x4096 .bf16) (v2 : Vec Ideal S4096x1024 .bf16) (v20 v21 : Vec Ideal S256x1024 .f32) (v22 : Vec Ideal S1x1024 .f32) :
    k0_pay14 (F := Ideal) v21 (k0_pay9 v0 v2 v20) (k0_pay10 v22) = sums (k0_pay18 (k0_pay5 v0 v2) v20) (k0_pay19 (k0_pay5 v0 v2) v20 v21 v22) := rfl

lemma sums_holds (hn : Holds v34 fun r => nrm (X r)) (hd : Holds v21 U) :
    Holds (sums v34 v21) fun o l => if o.val = 0 then ∑ r, U r l * (1 / 1024) * nrm (X r) l else ∑ r, U r l * U r l := fun o l => by
  pointwise [sums, k0_pay1]
  simp only [hd _ _, part_f32, hn _ _, ← EReal.coe_mul, coe_sum]
  fin_vals o with ho <;> simp [ho]

lemma pay3_holds {v58 : FVec Ideal S2x1024 .f32} {p q : Fin 2 → Fin 1024 → ℝ} (h58 : Holds v58 p) (hs : Holds (sums v34 v21) q) :
    Holds (k0_pay3 (F := Ideal) v58 v34 v21 (Scalar.ofBits .f32 0x3A800000#32)) fun o l => p o l + q o l := fun o l => by
  have e : k0_pay3 (F := Ideal) v58 v34 v21 (Scalar.ofBits .f32 0x3A800000#32)
      = addf (addf (broadcast S2x1024 (Scalar.ofBits (F := Ideal) .f32 0x00000000#32)) v58) (sums v34 v21) := rfl
  rw [e]
  pointwise
  simp only [h58 _ _, hs _ _, ← EReal.coe_add, zero_add]

lemma pay4_holds {v58 v109 : FVec Ideal S2x1024 .f32} {p q : Fin 2 → Fin 1024 → ℝ} (ha : Holds v109 p)
    (hs : Holds (k0_pay3 (F := Ideal) v58 v34 v21 (Scalar.ofBits .f32 0x3A800000#32)) q) :
    Holds (k0_pay4 (F := Ideal) v58 v34 v21 (Scalar.ofBits .f32 0x3A800000#32) v109) fun o l => p o l + q o l := fun o l => by
  have hs' : k0_pay3 (F := Ideal) v58 v34 v21 (Ideal.ofBits .f32 0x3A800000#32) (ix2 o l) = _ := hs o l
  pointwise [k0_pay4]
  simp only [ha _ _, hs', ← EReal.coe_add]

end Half

/-! ## One point -/

variable (m : (ℓ : Loc nD τ sig) → Buf (Elt Ideal) ℓ)
variable {D : Data} {d T : ℕ → Fin 1024 → ℝ} {H : ℕ → Fin 1024 → ℝ} {P : ℕ → Fin 4096 → ℝ} {W : Fin 4096 → Fin 1024 → ℝ} {N : ℕ}

/-- The blocks of a point hold the rows from `N` on. -/
structure Blocks (c : Dev nD) (t : Fin cfg0.N) (D : Data) (d T H : ℕ → Fin 1024 → ℝ) (P : ℕ → Fin 4096 → ℝ) (W : Fin 4096 → Fin 1024 → ℝ) (N : ℕ) : Prop where
  p : Holds (iblk m c 0 t) fun r : Fin 512 => P (N + r.val)
  w : Holds (iblk m c 1 t) W
  h : Holds (iblk m c 2 t) fun r : Fin 512 => H (N + r.val)
  tgt : Holds (iblk m c 3 t) fun r : Fin 512 => T (N + r.val)
  g : Holds (iblk m c 4 t) fun _ => D.g
  x : ∀ n l, D.X n l = H n l + ∑ j, max (P n j) 0 * max (P n j) 0 * W j l
  err : ∀ n l, d n l = nrm (D.X n) l * D.g l - T n l
  dy : ∀ n l, D.dy n l = d n l * (1 / 1024)
  r : ∀ n l, D.R n l = 0

variable {m} {c : Dev nD} {t : Fin cfg0.N} (h : Blocks m c t D d T H P W N)
include h

/-- The loads of the half of a point's blocks that begins at row `o`. -/
abbrev ldP (m : (ℓ : Loc nD τ sig) → Buf (Elt Ideal) ℓ) (c : Dev nD) (t : Fin cfg0.N) (o : ℕ) (i : ∀ i, (![o, 0] : Fin 2 → Nat) i + (![256, 4096] : Fin 2 → Nat) i ≤ S512x4096.size i) : Vec Ideal S256x4096 .bf16 :=
  part 256 (iblk m c 0 t : Vec Ideal S512x4096 .bf16) o i
abbrev ldH (m : (ℓ : Loc nD τ sig) → Buf (Elt Ideal) ℓ) (c : Dev nD) (t : Fin cfg0.N) (o : ℕ) (i : ∀ i, (![o, 0] : Fin 2 → Nat) i + (![256, 1024] : Fin 2 → Nat) i ≤ S512x1024.size i) : Vec Ideal S256x1024 .f32 :=
  part 256 (iblk m c 2 t : Vec Ideal S512x1024 .f32) o i
abbrev ldT (m : (ℓ : Loc nD τ sig) → Buf (Elt Ideal) ℓ) (c : Dev nD) (t : Fin cfg0.N) (o : ℕ) (i : ∀ i, (![o, 0] : Fin 2 → Nat) i + (![256, 1024] : Fin 2 → Nat) i ≤ S512x1024.size i) : Vec Ideal S256x1024 .f32 :=
  part 256 (iblk m c 3 t : Vec Ideal S512x1024 .f32) o i
abbrev ldW (m : (ℓ : Loc nD τ sig) → Buf (Elt Ideal) ℓ) (c : Dev nD) (t : Fin cfg0.N) : Vec Ideal S4096x1024 .bf16 := iblk m c 1 t
abbrev ldG (m : (ℓ : Loc nD τ sig) → Buf (Elt Ideal) ℓ) (c : Dev nD) (t : Fin cfg0.N) : Vec Ideal S1x1024 .f32 := iblk m c 4 t

variable {o M : ℕ} {i0 : ∀ i, (![o, 0] : Fin 2 → Nat) i + (![256, 4096] : Fin 2 → Nat) i ≤ S512x4096.size i} {i1 : ∀ i, (![o, 0] : Fin 2 → Nat) i + (![256, 1024] : Fin 2 → Nat) i ≤ S512x1024.size i}

lemma half_x (hM : M = N + o) : Holds (k0_pay16 (F := Ideal) (k0_pay5 (ldP m c t o i0) (ldW m c t)) (ldH m c t o i1)) fun r : Fin 256 => D.X (M + r.val) :=
  (x16 (dot5 (ld_rows h.p hM i0) h.w) (ld_rows32 h.h hM i1)).congr fun r l => (h.x _ l).symm

lemma half_err (hM : M = N + o) : Holds (k0_pay19 (F := Ideal) (k0_pay5 (ldP m c t o i0) (ldW m c t)) (ldH m c t o i1) (ldT m c t o i1) (ldG m c t)) fun r : Fin 256 => d (M + r.val) :=
  (err19 (half_x h hM) (ld_rows32 h.tgt hM i1) h.g).congr fun r l => (h.err _ l).symm

lemma half_dx (hM : M = N + o) (x : S256x1024.Idx) :
    k0_pay2 (F := Ideal) (k0_pay15 (ldG m c t)) (k0_pay17 (k0_pay5 (ldP m c t o i0) (ldW m c t)) (ldH m c t o i1)) (k0_pay18 (k0_pay5 (ldP m c t o i0) (ldW m c t)) (ldH m c t o i1))
        (k0_pay19 (k0_pay5 (ldP m c t o i0) (ldW m c t)) (ldH m c t o i1) (ldT m c t o i1) (ldG m c t)) (Scalar.ofBits .f32 0x3A800000#32) x
      = mat (fun r : Fin 512 => D.dx (N + r.val)) ((Rect.unit (s := S512x1024) ![o, 0] ![256, 1024] i1).emb x) :=
  piece_rows (f := D.dx) ((back2 (inv17 (half_x h hM)) (nrm18 (half_x h hM)) (half_err h hM) (gain15 h.g)).congr fun r l => by
    unfold Data.dx
    rw [h.r, zero_add]
    simp only [h.dy]) hM i1 x

lemma half_sums (hM : M = N + o) : Holds (sums (k0_pay18 (k0_pay5 (ldP m c t o i0) (ldW m c t)) (ldH m c t o i1))
      (k0_pay19 (k0_pay5 (ldP m c t o i0) (ldW m c t)) (ldH m c t o i1) (ldT m c t o i1) (ldG m c t)))
    fun e l => ∑ r : Fin 256, both D d e (M + r.val) l :=
  (sums_holds (nrm18 (half_x h hM)) (half_err h hM)).congr fun e l => by
    unfold both Data.gain
    simp only [h.dy]
    split <;> rfl

/-- What a point adds to the two rows of sums. -/
lemma point_sums {j0 : ∀ i, (![0, 0] : Fin 2 → Nat) i + (![256, 4096] : Fin 2 → Nat) i ≤ S512x4096.size i} {j1 : ∀ i, (![0, 0] : Fin 2 → Nat) i + (![256, 1024] : Fin 2 → Nat) i ≤ S512x1024.size i}
    {k0 : ∀ i, (![256, 0] : Fin 2 → Nat) i + (![256, 4096] : Fin 2 → Nat) i ≤ S512x4096.size i} {k1 : ∀ i, (![256, 0] : Fin 2 → Nat) i + (![256, 1024] : Fin 2 → Nat) i ≤ S512x1024.size i} :
    Holds (k0_pay3 (F := Ideal) (k0_pay14 (ldT m c t 0 j1) (k0_pay9 (ldP m c t 0 j0) (ldW m c t) (ldH m c t 0 j1)) (k0_pay10 (ldG m c t)))
      (k0_pay18 (k0_pay5 (ldP m c t 256 k0) (ldW m c t)) (ldH m c t 256 k1))
      (k0_pay19 (k0_pay5 (ldP m c t 256 k0) (ldW m c t)) (ldH m c t 256 k1) (ldT m c t 256 k1) (ldG m c t)) (Scalar.ofBits .f32 0x3A800000#32))
    fun e l => ∑ r : Fin 512, both D d e (N + r.val) l := by
  rw [pay14_eq]
  exact (pay3_holds (half_sums h (Nat.add_zero N).symm) (half_sums h rfl)).congr fun e l => halves (fun n => both D d e n l) N 256

lemma dx_block (y : S512x1024.Idx) : (outsAt0 m c t.val t.isLt).1 y = mat (fun r : Fin 512 => D.dx (N + r.val)) y := by
  have key : ∀ {L : List (View.Piece (Elt Ideal) S512x1024 .f32)}, View.PiecesOf (mat fun r : Fin 512 => D.dx (N + r.val)) L →
      View.Piece.tiledL L ![256, 1024] = true → View.canon L y = mat (fun r : Fin 512 => D.dx (N + r.val)) y := fun h hc =>
    View.canon_apply_of_pieces (e := .f32) _ _ h.mem y (View.cover_of_tiledL _ ![256, 1024] hc y)
  by_cases h0 : t.val % 16 = 0
  on_goal 1 => rw [outsAt0_A m c t h0 (by have := t.isLt; have : cfg0.N = 16 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => half_dx h rfl x, fun x => (congrFun (pay13_eq _ _ _ _ _) x).trans (half_dx h (Nat.add_zero N).symm x), trivial⟩ (by sl_kernel_rfl)

lemma sums_reset (h0 : t.val % 16 = 0) : Holds (outsAt0 m c t.val t.isLt).2 fun e l => 0 + ∑ r : Fin 512, both D d e (N + r.val) l := by
  refine Holds.of_eq fun y => ?_
  rw [outsAt0_A m c t h0 (by have := t.isLt; have : cfg0.N = 16 := N_0; omega)]
  frame_open
  simp (disch := decide) only [↓ View.readCov_skip, ↓ View.readCov_cons_toLoadRect, ↓ View.readCov_fill]
  frame_out
  obtain ⟨r, l, rfl⟩ := Places.is2 y
  exact (point_sums h).congr (fun _ l => (zero_add _).symm) r l

lemma sums_step (h0 : ¬ t.val % 16 = 0) {acc : Fin 2 → Fin 1024 → ℝ}
    (ha : Holds (outsAt0 m c (t.val - 1) (Nat.lt_of_le_of_lt (Nat.sub_le _ _) t.isLt)).2 acc) :
    Holds (outsAt0 m c t.val t.isLt).2 fun e l => acc e l + ∑ r : Fin 512, both D d e (N + r.val) l := by
  refine Holds.of_eq fun y => ?_
  rw [outsAt0_B m c t h0 (by omega)]
  frame_open
  simp (disch := decide) only [↓ View.readCov_skip, ↓ View.readCov_cons_toLoadRect, ↓ View.readCov_fill]
  frame_out
  obtain ⟨r, l, rfl⟩ := Places.is2 y
  exact pay4_holds ha (point_sums h) r l

end Cert.LossIdeal.Reading

end
-- ==== Proof.LossValue.lean ====
/-
  The second feed-forward product, the final norm and the loss: what its two result arrays hold after the run, from argument
  arrays that hold real numbers.
-/
module

public import proofs.«01_k».proof.Proof.LossBlock

@[expose] public section

noncomputable section

namespace Cert.RowNorm

open Idealize.ShloMosaic

variable (H : (⟨2, ![8192, 1024]⟩ : Shape).Idx → ℝ) (P : (⟨2, ![8192, 4096]⟩ : Shape).Idx → ℝ) (W : (⟨3, ![1, 4096, 1024]⟩ : Shape).Idx → ℝ)
  (G : (⟨1, ![1024]⟩ : Shape).Idx → ℝ) (T : (⟨2, ![8192, 1024]⟩ : Shape).Idx → ℝ)

/-- The rows before the norm: the squared positive part of `P` times the weights, added to `H`. -/
def lossX (n : ℕ) (l : Fin 1024) : ℝ := row H n l + ∑ j, max (row P n j) 0 * max (row P n j) 0 * W (ix3 0 j l)
/-- The normed rows' difference from the target. -/
def lossErr (n : ℕ) (l : Fin 1024) : ℝ := nrm (lossX H P W n) l * G (ix1 l) - row T n l
def lossData : Data where
  X := lossX H P W
  R _ _ := 0
  dy n l := lossErr H P W G T n l * (1 / 1024)
  g l := G (ix1 l)
/-- The gain's gradient above the sums of the squared differences. -/
def lossRows (o : Fin 2) (l : Fin 1024) : ℝ := ∑ n : Fin 8192, both (lossData H P W G T) (lossErr H P W G T) o n.val l

end Cert.RowNorm

namespace Cert.LossIdeal.Reading

open Cert.LossIdeal Gen Value
open Idealize.ShloMosaic TcCoe Idealize.SL.Sem
open Idealize.ShloMosaic.Pipeline (Dat)
open Cert.Reals Cert.RowNorm

variable (m : (ℓ : Loc nD τ sig) → Buf (Elt Ideal) ℓ)

/-! ## The windows' blocks -/

lemma ix : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0) ∧ (win0_5.index t 0 = t.val ∧ win0_5.index t 1 = 0)
    ∧ win0_6.index t 0 = 0 ∧ win0_6.index t 1 = 0 := by
  change ∀ t : Fin grid0.N, _; decide +kernel

lemma lt16 (t : Fin cfg0.N) : t.val < 16 := lt_of_lt_of_eq t.isLt N_0

variable {H T : S8192x1024.Idx → ℝ} {P : S8192x4096.Idx → ℝ} {G : S1024.Idx → ℝ} {W : S1x4096x1024.Idx → ℝ} {c : Dev nD}

/-- The weights' entries. -/
lemma read_w (x : FVec Ideal S1x4096x1024 .f32) (j : Fin 4096) (l : Fin 1024) :
    truncf (F := Ideal) (s := S4096x1024) .bf16 (shapeCast S4096x1024 x shapeCasts_S1x4096x1024_S4096x1024) bitsLt_bf16_f32 (ix2 j l) = x (ix3 0 j l) := by
  pointwise

/-- The gain's entries. -/
lemma read_g (x : FVec Ideal S1024 .f32) (o : Fin 1) (l : Fin 1024) : broadcastInDim S1x1024 ![1] bcast_S1024_S1x1024_1 x (ix2 o l) = x (ix1 l) := by
  pointwise

/-- The argument arrays hold real numbers. -/
structure Args (c : Dev nD) (H : S8192x1024.Idx → ℝ) (P : S8192x4096.Idx → ℝ) (W : S1x4096x1024.Idx → ℝ) (G : S1024.Idx → ℝ) (T : S8192x1024.Idx → ℝ) : Prop where
  h : ∀ i, m ((c : Thread nD τ).loc main_arg0) i = ((H i : ℝ) : EReal)
  p : ∀ i, m ((c : Thread nD τ).loc main_arg1) i = ((P i : ℝ) : EReal)
  w : ∀ i, m ((c : Thread nD τ).loc main_arg2) i = ((W i : ℝ) : EReal)
  g : ∀ i, m ((c : Thread nD τ).loc main_arg3) i = ((G i : ℝ) : EReal)
  tgt : ∀ i, m ((c : Thread nD τ).loc main_arg4) i = ((T i : ℝ) : EReal)

variable {m} (h : Args m c H P W G T)
include h

lemma V_p (z : S8192x4096.Idx) : V m c main_v2 z = ((row P (z 0).val (z 1) : ℝ) : EReal) := by
  have e : V m c main_v2 = truncf (F := Ideal) (s := S8192x4096) .bf16 (m ((c : Thread nD τ).loc main_arg1)) bitsLt_bf16_f32 := by
    unfold V hostOps0; after_results
  rw [e]
  exact (h.p z).trans (by rw [row_at])

lemma V_w (j : Fin 4096) (l : Fin 1024) : V m c main_v1 (ix2 j l) = ((W (ix3 0 j l) : ℝ) : EReal) := by
  have e : V m c main_v1 = truncf (F := Ideal) (s := S4096x1024) .bf16
      (shapeCast S4096x1024 (m ((c : Thread nD τ).loc main_arg2)) shapeCasts_S1x4096x1024_S4096x1024) bitsLt_bf16_f32 := by
    unfold V hostOps0; after_results; rfl
  rw [e]
  exact (read_w _ j l).trans (h.w _)

lemma V_g (o : Fin 1) (l : Fin 1024) : V m c main_v3 (ix2 o l) = ((G (ix1 l) : ℝ) : EReal) := by
  have e : V m c main_v3 = broadcastInDim S1x1024 ![1] bcast_S1024_S1x1024_1 (m ((c : Thread nD τ).loc main_arg3)) := by
    unfold V hostOps0; after_results
  rw [e]
  exact (read_g _ o l).trans (h.g _)

lemma V_h : V m c main_arg0 = m ((c : Thread nD τ).loc main_arg0) := by unfold V hostOps0; after_results
lemma V_t : V m c main_arg4 = m ((c : Thread nD τ).loc main_arg4) := by unfold V hostOps0; after_results

lemma at_h (z : S8192x1024.Idx) : V m c main_arg0 z = ((row H (z 0).val (z 1) : ℝ) : EReal) := by rw [V_h h, h.h, row_at H]
lemma at_t (z : S8192x1024.Idx) : V m c main_arg4 z = ((row T (z 0).val (z 1) : ℝ) : EReal) := by rw [V_t h, h.tgt, row_at T]

lemma blocks (t : Fin cfg0.N) :
    Blocks m c t (lossData H P W G T) (lossErr H P W G T) (row T) (row H) (row P) (fun j l => W (ix3 0 j l)) (512 * t.val) where
  p r l := by
    show V m c main_v2 _ = _
    exact entry (V_p h) _ r l rfl (by rw [(ix t).1.1]; omega) rfl (ix t).1.2
  w j l := by
    show V m c main_v1 _ = _
    rw [← V_w h]
    refine congrArg _ (Places.ext2 ?_ ?_)
    · show win0_1.index t 0 * 4096 + 1 * j.val = j.val
      rw [(ix t).2.1.1]; omega
    · show win0_1.index t 1 * 1024 + 1 * l.val = l.val
      rw [(ix t).2.1.2]; omega
  h r l := by
    show V m c main_arg0 _ = _
    exact entry (at_h h) _ r l rfl (by rw [(ix t).2.2.1.1]; omega) rfl (ix t).2.2.1.2
  tgt r l := by
    show V m c main_arg4 _ = _
    exact entry (at_t h) _ r l rfl (by rw [(ix t).2.2.2.1.1]; omega) rfl (ix t).2.2.2.1.2
  g o l := by
    show V m c main_v3 _ = _
    refine Eq.trans ?_ (V_g h o l)
    refine congrArg _ (Places.ext2 (congrArg Fin.val (Subsingleton.elim (α := Fin 1) _ _)) ?_)
    show win0_4.index t 1 * 1024 + 1 * l.val = l.val
    rw [(ix t).2.2.2.2.1.2]; omega
  x _ _ := rfl
  err _ _ := rfl
  dy _ _ := rfl
  r _ _ := rfl

/-! ## The rows' gradient -/

omit h in
lemma mem_dx (t : Fin cfg0.N) (i : S8192x1024.Idx) (h : t.val = (i 0).val / 512) : i ∈ ((cfg0.win 5).blk t).view.set := by
  show i ∈ ((View.whole main_v4_0).slice (win0_5.rect t)).set
  rw [View.set_slice_whole, Rect.mem_set_unit]
  have h1 : (i 1 : Nat) < 1024 := (i 1).isLt
  intro a
  match a with
  | ⟨0, _⟩ =>
    show win0_5.index t 0 * 512 ≤ (i 0 : Nat) ∧ (i 0 : Nat) < win0_5.index t 0 * 512 + 512
    rw [(ix t).2.2.2.2.2.1.1]; omega
  | ⟨1, _⟩ =>
    show win0_5.index t 1 * 1024 ≤ (i 1 : Nat) ∧ (i 1 : Nat) < win0_5.index t 1 * 1024 + 1024
    rw [(ix t).2.2.2.2.2.1.2]; omega

lemma final_dx : (dats m 0 c).arrAt 5 cfg0.N = mat (lossData H P W G T).dxArr := by
  refine (dats m 0 c).arrAt_eq_of_cover 5 (mat (lossData H P W G T).dxArr) (fun t _ => ?_) fun (i : S8192x1024.Idx) => by
    have h0 : (i 0 : Nat) < 8192 := (i 0).isLt
    have hN : cfg0.N = 16 := N_0
    exact ⟨⟨(i 0 : Nat) / 512, by omega⟩, flush0_5 _, mem_dx _ i rfl⟩
  rw [flushed5]
  refine funext fun (y : S512x1024.Idx) => ?_
  obtain ⟨r, l, rfl⟩ := Places.is2 y
  show (outsAt0 m c t.val t.isLt).1 (ix2 r l) = mat (lossData H P W G T).dxArr _
  have ht := lt16 t
  have e : ∀ z : S8192x1024.Idx, (z 0).val = 512 * t.val + r.val → (z 1).val = l.val →
      (outsAt0 m c t.val t.isLt).1 (ix2 r l) = mat (lossData H P W G T).dxArr z := by
    intro z h0 h1
    have hz : z = ix2 ⟨512 * t.val + r.val, by omega⟩ l := Places.ext2 h0 h1
    rw [hz, dx_block (blocks h t) (ix2 r l)]
    rfl
  refine e _ ?_ ?_
  · show win0_5.index t 0 * 512 + 1 * r.val = _
    rw [(ix t).2.2.2.2.2.1.1]; omega
  · show win0_5.index t 1 * 1024 + 1 * l.val = _
    rw [(ix t).2.2.2.2.2.1.2]; omega

/-! ## The two rows of sums -/

omit h in
lemma mem_rows (t : Fin cfg0.N) (i : S2x1024.Idx) : i ∈ ((cfg0.win 6).blk t).view.set := by
  show i ∈ ((View.whole main_v4_1).slice (win0_6.rect t)).set
  rw [View.set_slice_whole, Rect.mem_set_unit]
  have h0 : (i 0 : Nat) < 2 := (i 0).isLt
  have h1 : (i 1 : Nat) < 1024 := (i 1).isLt
  intro a
  match a with
  | ⟨0, _⟩ =>
    show win0_6.index t 0 * 2 ≤ (i 0 : Nat) ∧ (i 0 : Nat) < win0_6.index t 0 * 2 + 2
    rw [(ix t).2.2.2.2.2.2.1]; omega
  | ⟨1, _⟩ =>
    show win0_6.index t 1 * 1024 ≤ (i 1 : Nat) ∧ (i 1 : Nat) < win0_6.index t 1 * 1024 + 1024
    rw [(ix t).2.2.2.2.2.2.2]; omega

lemma acc_at (n : Nat) (hn : n < cfg0.N) :
    Holds (outsAt0 m c n hn).2 fun o l => ∑ k ∈ Finset.range (n % 16 + 1), ∑ r : Fin 512,
      both (lossData H P W G T) (lossErr H P W G T) o (512 * (16 * (n / 16) + k) + r.val) l :=
  holds_run (fun n hn => (outsAt0 m c n hn).2) 16 (by decide)
    (fun n o l => ∑ r : Fin 512, both (lossData H P W G T) (lossErr H P W G T) o (512 * n + r.val) l)
    (fun n hn h0 => sums_reset (blocks h ⟨n, hn⟩) h0) (fun n hn h0 _ ha => sums_step (blocks h ⟨n, hn⟩) h0 ha) n hn

lemma final_rows : (dats m 0 c).arrAt 6 cfg0.N = mat (lossRows H P W G T) := by
  refine (dats m 0 c).arrAt_eq_of_cover 6 (mat (lossRows H P W G T)) (fun t hf => ?_) fun (i : S2x1024.Idx) =>
    ⟨⟨15, by decide⟩, (flush0_6 _).mpr rfl, mem_rows _ i⟩
  have h15 := (flush0_6 t).mp hf
  rw [flushed6]
  refine funext fun (y : S2x1024.Idx) => ?_
  obtain ⟨o, l, rfl⟩ := Places.is2 y
  show (outsAt0 m c t.val t.isLt).2 (ix2 o l) = mat (lossRows H P W G T) _
  have ht := lt16 t
  have e : ∀ z : S2x1024.Idx, (z 0).val = o.val → (z 1).val = l.val → (outsAt0 m c t.val t.isLt).2 (ix2 o l) = mat (lossRows H P W G T) z := by
    intro z h0 h1
    have hz : z = ix2 o l := Places.ext2 h0 h1
    rw [hz, acc_at h t.val t.isLt o l, h15, show t.val / 16 = 0 by omega]
    refine congrArg _ (Eq.trans ?_ (RowNorm.blocks (fun n => both (lossData H P W G T) (lossErr H P W G T) o n l) 512 16 8192 rfl))
    simp only [Nat.mul_zero, Nat.zero_add]
  refine e _ ?_ ?_
  · show win0_6.index t 0 * 2 + 1 * o.val = _
    rw [(ix t).2.2.2.2.2.2.1]; omega
  · show win0_6.index t 1 * 1024 + 1 * l.val = _
    rw [(ix t).2.2.2.2.2.2.2]; omega

end Cert.LossIdeal.Reading

end
-- ==== Proof.ProjBlock.lean ====
/-
  The projection's backward product and the row norm before it: what one point leaves in its block of the rows' gradient and
  in the gain's gradient, from blocks that hold real numbers.
-/
module

public import proofs.«01_k».proof.Proof.Gen.ProjIdeal.Value
public import proofs.«01_k».proof.Proof.RowNorm

@[expose] public section

noncomputable section

namespace Cert.ProjIdeal.Reading

open Cert.ProjIdeal Gen Value
open Idealize.ShloMosaic TcCoe Idealize.SL.Sem
open Cert.Reals Cert.RowNorm
open Cert.Stick (eps_eq rsqrt_pos)

/-! ## Half a block -/

section Half

variable {v0 : Vec Ideal S256x2560 .bf16} {v2 : Vec Ideal S2560x1024 .bf16} {v10 v11 : Vec Ideal S256x1024 .f32} {v12 : Vec Ideal S1x1024 .f32}
variable {C : Fin 256 → Fin 2560 → ℝ} {W : Fin 2560 → Fin 1024 → ℝ} {X R dy : Fin 256 → Fin 1024 → ℝ} {g : Fin 1024 → ℝ}

lemma inv4 (h : Holds v10 X) (r : Fin 256) (o : Fin 1) : k0_pay4 v10 (ix2 r o) = ((inv (X r) : ℝ) : EReal) := by
  pointwise [k0_pay4]
  simp only [h _ _, ← EReal.coe_mul, coe_sum, size_f32, eps_eq, div_coe _ 1024 (by norm_num), ← EReal.coe_add]
  exact rsqrt_pos (ms_pos (X r))

lemma nrm5 (h : Holds v10 X) : Holds (k0_pay5 v10) fun r => nrm (X r) := fun r l => by
  pointwise [k0_pay5]
  simp only [h _ _, inv4 h, ← EReal.coe_mul]
  rfl

lemma dy2 (h0 : Holds v0 C) (h2 : Holds v2 W) : Holds (k0_pay2 v0 v2) fun r l => ∑ j, C r j * W j l := fun r l => by
  pointwise [k0_pay2]
  simp only [h0 _ _, h2 _ _, ← EReal.coe_mul, coe_sum]

lemma dx6 (hy : Holds (k0_pay2 v0 v2) dy) (hx : Holds v10 X) (hr : Holds v11 R) (hg : Holds v12 fun _ => g) :
    Holds (k0_pay6 v0 v2 v10 v11 v12) fun r l => R r l + back (X r) (fun e => dy r e * g e) l := fun r l => by
  pointwise [k0_pay6]
  simp only [hy _ _, nrm5 hx _ _, inv4 hx, hr _ _, hg _ _, ← EReal.coe_mul, coe_sum, size_f32, div_coe _ 1024 (by norm_num), ← EReal.coe_sub, ← EReal.coe_add]
  rfl

lemma pay9_eq (v40 v41 : Vec Ideal S256x1024 .f32) (v42 : Vec Ideal S1x1024 .f32) :
    k0_pay9 (k0_pay3 v0 v2) v40 v41 v42 = k0_pay6 v0 v2 v40 v41 v42 := rfl

lemma gain10 {a b x : FVec Ideal S256x1024 .f32} {v40 : Vec Ideal S256x1024 .f32} {p q y X' : Fin 256 → Fin 1024 → ℝ} (ha : Holds a p) (hb : Holds b q)
    (hx : Holds x y) (h : Holds v40 X') :
    Holds (k0_pay10 a b x v40) fun _ l => (∑ r, p r l * y r l) + ∑ r, q r l * nrm (X' r) l := fun o l => by
  have hn : Holds (k0_pay8 v40) fun r => nrm (X' r) := nrm5 h
  pointwise [k0_pay10]
  simp only [ha _ _, hb _ _, hx _ _, hn _ _, ← EReal.coe_mul, coe_sum, ← EReal.coe_add]

lemma gain1 {a b : Vec Ideal S1x1024 .f32} {p q : Fin 1 → Fin 1024 → ℝ} (ha : Holds a p) (hb : Holds b q) :
    Holds (k0_pay1 a b) fun o l => q o l + p o l := fun o l => by
  pointwise [k0_pay1]
  simp only [ha _ _, hb _ _, ← EReal.coe_add]

end Half

/-! ## One point -/

variable (m : (ℓ : Loc nD τ sig) → Buf (Elt Ideal) ℓ)
variable {D : Data} {C : ℕ → Fin 2560 → ℝ} {W : Fin 2560 → Fin 1024 → ℝ} {N : ℕ}

/-- The blocks of a point hold the rows from `N` on. -/
structure Blocks (c : Dev nD) (t : Fin cfg0.N) (D : Data) (C : ℕ → Fin 2560 → ℝ) (W : Fin 2560 → Fin 1024 → ℝ) (N : ℕ) : Prop where
  ct : Holds (iblk m c 0 t) fun r : Fin 512 => C (N + r.val)
  w : Holds (iblk m c 1 t) W
  x : Holds (iblk m c 2 t) fun r : Fin 512 => D.X (N + r.val)
  r : Holds (iblk m c 3 t) fun r : Fin 512 => D.R (N + r.val)
  g : Holds (iblk m c 4 t) fun _ => D.g
  dy : ∀ n l, D.dy n l = ∑ j, C n j * W j l

variable {m}

lemma half_dy {v0 : Vec Ideal S256x2560 .bf16} {v2 : Vec Ideal S2560x1024 .bf16} {M : ℕ} (h0 : Holds v0 fun r : Fin 256 => C (M + r.val)) (h2 : Holds v2 W)
    (e : ∀ n l, D.dy n l = ∑ j, C n j * W j l) : Holds (k0_pay2 v0 v2) fun r : Fin 256 => D.dy (M + r.val) :=
  (dy2 h0 h2).congr fun r l => (e _ l).symm

variable {c : Dev nD} {t : Fin cfg0.N} (h : Blocks m c t D C W N)
include h

lemma dx_block (y : S512x1024.Idx) : (outsAt0 m c t.val t.isLt).1 y = mat (fun r : Fin 512 => D.dx (N + r.val)) y := by
  have key : ∀ {L : List (View.Piece (Elt Ideal) S512x1024 .f32)}, View.PiecesOf (mat fun r : Fin 512 => D.dx (N + r.val)) L →
      View.Piece.tiledL L ![256, 1024] = true → View.canon L y = mat (fun r : Fin 512 => D.dx (N + r.val)) y := fun h hc =>
    View.canon_apply_of_pieces (e := .f32) _ _ h.mem y (View.cover_of_tiledL _ ![256, 1024] hc y)
  have half : ∀ {o : ℕ} {i0 i2}, ∀ x : S256x1024.Idx,
      k0_pay6 (part 256 (iblk m c 0 t : Vec Ideal S512x2560 .bf16) o i0)
        (iblk m c 1 t : Vec Ideal S2560x1024 .bf16)
        (part 256 (iblk m c 2 t : Vec Ideal S512x1024 .f32) o i2)
        (part 256 (iblk m c 3 t : Vec Ideal S512x1024 .f32) o i2)
        (iblk m c 4 t : Vec Ideal S1x1024 .f32) x
      = mat (fun r : Fin 512 => D.dx (N + r.val)) ((Rect.unit (s := S512x1024) ![o, 0] ![256, 1024] i2).emb x) := fun x =>
    piece_rows (dx6 (half_dy (ld_rows h.ct rfl _) h.w h.dy) (ld_rows32 h.x rfl _) (ld_rows32 h.r rfl _) h.g) rfl _ x
  by_cases h0 : t.val % 16 = 0
  on_goal 1 => rw [outsAt0_A m c t h0 (by have := t.isLt; have : cfg0.N = 16 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => (congrFun (pay9_eq _ _ _) x).trans (half x), fun x => half x, trivial⟩ (by sl_kernel_rfl)

/-- What a point adds to the gain's gradient. -/
lemma half_gain {i0 i1 i2 i3} : Holds (k0_pay10
      (k0_pay2 (part 256 (iblk m c 0 t : Vec Ideal S512x2560 .bf16) 0 i0) (iblk m c 1 t : Vec Ideal S2560x1024 .bf16))
      (k0_pay3 (part 256 (iblk m c 0 t : Vec Ideal S512x2560 .bf16) 256 i1) (iblk m c 1 t : Vec Ideal S2560x1024 .bf16))
      (k0_pay5 (part 256 (iblk m c 2 t : Vec Ideal S512x1024 .f32) 0 i2))
      (part 256 (iblk m c 2 t : Vec Ideal S512x1024 .f32) 256 i3))
    fun _ l => ∑ r : Fin 512, D.gain (N + r.val) l := by
  refine (gain10 (half_dy (ld_rows h.ct (Nat.add_zero N).symm i0) h.w h.dy) (half_dy (ld_rows h.ct rfl i1) h.w h.dy)
    (nrm5 (ld_rows32 h.x (Nat.add_zero N).symm i2)) (ld_rows32 h.x rfl i3)).congr fun _ l => ?_
  exact halves (fun n => D.gain n l) N 256

lemma dg_reset (h0 : t.val % 16 = 0) : Holds (outsAt0 m c t.val t.isLt).2 fun _ l => 0 + ∑ r : Fin 512, D.gain (N + r.val) l := by
  refine Holds.of_eq fun y => ?_
  rw [outsAt0_A m c t h0 (by have := t.isLt; have : cfg0.N = 16 := N_0; omega)]
  frame_open
  simp (disch := decide) only [↓ View.readCov_skip, ↓ View.readCov_cons_toLoadRect, ↓ View.readCov_fill]
  frame_out
  obtain ⟨r, l, rfl⟩ := Places.is2 y
  exact (half_gain h).congr (fun _ l => (zero_add _).symm) r l

lemma dg_step (h0 : ¬ t.val % 16 = 0) {acc : Fin 1 → Fin 1024 → ℝ}
    (ha : Holds (outsAt0 m c (t.val - 1) (Nat.lt_of_le_of_lt (Nat.sub_le _ _) t.isLt)).2 acc) :
    Holds (outsAt0 m c t.val t.isLt).2 fun o l => acc o l + ∑ r : Fin 512, D.gain (N + r.val) l := by
  refine Holds.of_eq fun y => ?_
  rw [outsAt0_B m c t h0 (by omega)]
  frame_open
  simp (disch := decide) only [↓ View.readCov_skip, ↓ View.readCov_cons_toLoadRect, ↓ View.readCov_fill]
  frame_out
  obtain ⟨r, l, rfl⟩ := Places.is2 y
  exact gain1 (half_gain h) ha r l

end Cert.ProjIdeal.Reading

end
-- ==== Proof.ProjValue.lean ====
/-
  The projection's backward product and the row norm before it: what its two result arrays hold after the run, from argument
  arrays that hold real numbers.
-/
module

public import proofs.«01_k».proof.Proof.ProjBlock

@[expose] public section

noncomputable section

namespace Cert.RowNorm

open Idealize.ShloMosaic

/-- The gradient before the gain is the projection's output gradient times the weights. -/
def projData (X : (⟨2, ![8192, 1024]⟩ : Shape).Idx → ℝ) (G : (⟨2, ![1, 1024]⟩ : Shape).Idx → ℝ) (W : (⟨3, ![1, 1024, 2560]⟩ : Shape).Idx → ℝ)
    (R : (⟨2, ![8192, 1024]⟩ : Shape).Idx → ℝ) (C : (⟨2, ![8192, 2560]⟩ : Shape).Idx → ℝ) : Data where
  X := row X
  R := row R
  dy n l := ∑ j, row C n j * W (ix3 0 l j)
  g l := G (ix2 0 l)

end Cert.RowNorm

namespace Cert.ProjIdeal.Reading

open Cert.ProjIdeal Gen Value
open Idealize.ShloMosaic TcCoe Idealize.SL.Sem
open Idealize.ShloMosaic.Pipeline (Dat)
open Cert.Reals Cert.RowNorm

variable (m : (ℓ : Loc nD τ sig) → Buf (Elt Ideal) ℓ)

/-! ## The windows' blocks -/

lemma ix : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0) ∧ (win0_5.index t 0 = t.val ∧ win0_5.index t 1 = 0)
    ∧ win0_6.index t 0 = 0 ∧ win0_6.index t 1 = 0 := by
  change ∀ t : Fin grid0.N, _; decide +kernel

lemma lt16 (t : Fin cfg0.N) : t.val < 16 := lt_of_lt_of_eq t.isLt N_0

variable {X R : S8192x1024.Idx → ℝ} {G : S1x1024.Idx → ℝ} {W : S1x1024x2560.Idx → ℝ} {C : S8192x2560.Idx → ℝ} {c : Dev nD}

/-- The transposed weights' entries. -/
lemma read_w (x : FVec Ideal S1x1024x2560 .f32) (j : Fin 2560) (l : Fin 1024) :
    truncf (F := Ideal) (s := S2560x1024) .bf16 (transpose S2560x1024 [1, 0]
      (shapeCast S1024x2560 x shapeCasts_S1x1024x2560_S1024x2560) transposes_S1024x2560_S2560x1024_1_0) bitsLt_bf16_f32 (ix2 j l) = x (ix3 0 l j) := by
  pointwise

/-- The argument arrays hold real numbers. -/
structure Args (c : Dev nD) (X : S8192x1024.Idx → ℝ) (G : S1x1024.Idx → ℝ) (W : S1x1024x2560.Idx → ℝ) (R : S8192x1024.Idx → ℝ) (C : S8192x2560.Idx → ℝ) : Prop where
  x : ∀ i, m ((c : Thread nD τ).loc main_arg0) i = ((X i : ℝ) : EReal)
  g : ∀ i, m ((c : Thread nD τ).loc main_arg1) i = ((G i : ℝ) : EReal)
  w : ∀ i, m ((c : Thread nD τ).loc main_arg2) i = ((W i : ℝ) : EReal)
  r : ∀ i, m ((c : Thread nD τ).loc main_arg3) i = ((R i : ℝ) : EReal)
  ct : ∀ i, m ((c : Thread nD τ).loc main_arg4) i = ((C i : ℝ) : EReal)

variable {m} (h : Args m c X G W R C)
include h

lemma V_ct (z : S8192x2560.Idx) : V m c main_v3 z = ((row C (z 0).val (z 1) : ℝ) : EReal) := by
  have e : V m c main_v3 = truncf (F := Ideal) (s := S8192x2560) .bf16 (m ((c : Thread nD τ).loc main_arg4)) bitsLt_bf16_f32 := by
    unfold V hostOps0; after_results
  rw [e]
  exact (h.ct z).trans (by rw [row_at])

lemma V_w (j : Fin 2560) (l : Fin 1024) : V m c main_v2 (ix2 j l) = ((W (ix3 0 l j) : ℝ) : EReal) := by
  have e : V m c main_v2 = truncf (F := Ideal) (s := S2560x1024) .bf16 (transpose S2560x1024 [1, 0]
      (shapeCast S1024x2560 (m ((c : Thread nD τ).loc main_arg2)) shapeCasts_S1x1024x2560_S1024x2560) transposes_S1024x2560_S2560x1024_1_0) bitsLt_bf16_f32 := by
    unfold V hostOps0; after_results; rfl
  rw [e]
  exact (read_w _ j l).trans (h.w _)

lemma V_x : V m c main_arg0 = m ((c : Thread nD τ).loc main_arg0) := by unfold V hostOps0; after_results
lemma V_g : V m c main_arg1 = m ((c : Thread nD τ).loc main_arg1) := by unfold V hostOps0; after_results
lemma V_r : V m c main_arg3 = m ((c : Thread nD τ).loc main_arg3) := by unfold V hostOps0; after_results

lemma blocks (t : Fin cfg0.N) : Blocks m c t (projData X G W R C) (row C) (fun j l => W (ix3 0 l j)) (512 * t.val) where
  ct r l := by
    show V m c main_v3 _ = _
    rw [V_ct h]
    congr 2
    · show win0_0.index t 0 * 512 + 1 * r.val = _
      rw [(ix t).1.1]; omega
    · refine Fin.ext ?_
      show win0_0.index t 1 * 2560 + 1 * l.val = _
      rw [(ix t).1.2]; omega
  w j l := by
    show V m c main_v2 _ = _
    rw [← V_w h]
    refine congrArg _ (Places.ext2 ?_ ?_)
    · show win0_1.index t 0 * 2560 + 1 * j.val = j.val
      rw [(ix t).2.1.1]; omega
    · show win0_1.index t 1 * 1024 + 1 * l.val = l.val
      rw [(ix t).2.1.2]; omega
  x r l := by
    show V m c main_arg0 _ = _
    rw [V_x h, h.x, ← row_at X]
    congr 2
    · show win0_2.index t 0 * 512 + 1 * r.val = _
      rw [(ix t).2.2.1.1]; omega
    · refine Fin.ext ?_
      show win0_2.index t 1 * 1024 + 1 * l.val = _
      rw [(ix t).2.2.1.2]; omega
  r r l := by
    show V m c main_arg3 _ = _
    rw [V_r h, h.r, ← row_at R]
    congr 2
    · show win0_3.index t 0 * 512 + 1 * r.val = _
      rw [(ix t).2.2.2.1.1]; omega
    · refine Fin.ext ?_
      show win0_3.index t 1 * 1024 + 1 * l.val = _
      rw [(ix t).2.2.2.1.2]; omega
  g o l := by
    show V m c main_arg1 _ = _
    rw [V_g h, h.g]
    refine congrArg (fun i => ((G i : ℝ) : EReal)) (Places.ext2 (congrArg Fin.val (Subsingleton.elim (α := Fin 1) _ _)) ?_)
    show win0_4.index t 1 * 1024 + 1 * l.val = l.val
    rw [(ix t).2.2.2.2.1.2]; omega
  dy _ _ := rfl

/-! ## The rows' gradient -/

omit h in
lemma mem_dx (t : Fin cfg0.N) (i : S8192x1024.Idx) (h : t.val = (i 0).val / 512) : i ∈ ((cfg0.win 5).blk t).view.set := by
  show i ∈ ((View.whole main_v4_0).slice (win0_5.rect t)).set
  rw [View.set_slice_whole, Rect.mem_set_unit]
  have h1 : (i 1 : Nat) < 1024 := (i 1).isLt
  intro a
  match a with
  | ⟨0, _⟩ =>
    show win0_5.index t 0 * 512 ≤ (i 0 : Nat) ∧ (i 0 : Nat) < win0_5.index t 0 * 512 + 512
    rw [(ix t).2.2.2.2.2.1.1]; omega
  | ⟨1, _⟩ =>
    show win0_5.index t 1 * 1024 ≤ (i 1 : Nat) ∧ (i 1 : Nat) < win0_5.index t 1 * 1024 + 1024
    rw [(ix t).2.2.2.2.2.1.2]; omega

lemma final_dx : (dats m 0 c).arrAt 5 cfg0.N = mat (projData X G W R C).dxArr := by
  refine (dats m 0 c).arrAt_eq_of_cover 5 (mat (projData X G W R C).dxArr) (fun t _ => ?_) fun (i : S8192x1024.Idx) => by
    have h0 : (i 0 : Nat) < 8192 := (i 0).isLt
    have hN : cfg0.N = 16 := N_0
    exact ⟨⟨(i 0 : Nat) / 512, by omega⟩, flush0_5 _, mem_dx _ i rfl⟩
  rw [flushed5]
  refine funext fun (y : S512x1024.Idx) => ?_
  obtain ⟨r, l, rfl⟩ := Places.is2 y
  show (outsAt0 m c t.val t.isLt).1 (ix2 r l) = mat (projData X G W R C).dxArr _
  have ht := lt16 t
  have e : ∀ z : S8192x1024.Idx, (z 0).val = 512 * t.val + r.val → (z 1).val = l.val →
      (outsAt0 m c t.val t.isLt).1 (ix2 r l) = mat (projData X G W R C).dxArr z := by
    intro z h0 h1
    have hz : z = ix2 ⟨512 * t.val + r.val, by omega⟩ l := Places.ext2 h0 h1
    rw [hz, dx_block (blocks h t) (ix2 r l)]
    rfl
  refine e _ ?_ ?_
  · show win0_5.index t 0 * 512 + 1 * r.val = _
    rw [(ix t).2.2.2.2.2.1.1]; omega
  · show win0_5.index t 1 * 1024 + 1 * l.val = _
    rw [(ix t).2.2.2.2.2.1.2]; omega

/-! ## The gain's gradient -/

omit h in
lemma mem_dg (t : Fin cfg0.N) (i : S1x1024.Idx) : i ∈ ((cfg0.win 6).blk t).view.set := by
  show i ∈ ((View.whole main_v4_1).slice (win0_6.rect t)).set
  rw [View.set_slice_whole, Rect.mem_set_unit]
  have h0 : (i 0 : Nat) < 1 := (i 0).isLt
  have h1 : (i 1 : Nat) < 1024 := (i 1).isLt
  intro a
  match a with
  | ⟨0, _⟩ =>
    show win0_6.index t 0 * 1 ≤ (i 0 : Nat) ∧ (i 0 : Nat) < win0_6.index t 0 * 1 + 1
    rw [(ix t).2.2.2.2.2.2.1]; omega
  | ⟨1, _⟩ =>
    show win0_6.index t 1 * 1024 ≤ (i 1 : Nat) ∧ (i 1 : Nat) < win0_6.index t 1 * 1024 + 1024
    rw [(ix t).2.2.2.2.2.2.2]; omega

lemma acc_at (n : Nat) (hn : n < cfg0.N) :
    Holds (outsAt0 m c n hn).2 fun _ l => ∑ k ∈ Finset.range (n % 16 + 1), ∑ r : Fin 512, (projData X G W R C).gain (512 * (16 * (n / 16) + k) + r.val) l :=
  holds_run (fun n hn => (outsAt0 m c n hn).2) 16 (by decide) (fun n _ l => ∑ r : Fin 512, (projData X G W R C).gain (512 * n + r.val) l)
    (fun n hn h0 => dg_reset (blocks h ⟨n, hn⟩) h0) (fun n hn h0 _ ha => dg_step (blocks h ⟨n, hn⟩) h0 ha) n hn

lemma final_dg : (dats m 0 c).arrAt 6 cfg0.N = mat (projData X G W R C).dgArr := by
  refine (dats m 0 c).arrAt_eq_of_cover 6 (mat (projData X G W R C).dgArr) (fun t hf => ?_) fun (i : S1x1024.Idx) =>
    ⟨⟨15, by decide⟩, (flush0_6 _).mpr rfl, mem_dg _ i⟩
  have h15 := (flush0_6 t).mp hf
  rw [flushed6]
  refine funext fun (y : S1x1024.Idx) => ?_
  obtain ⟨o, l, rfl⟩ := Places.is2 y
  show (outsAt0 m c t.val t.isLt).2 (ix2 o l) = mat (projData X G W R C).dgArr _
  have ht := lt16 t
  have e : ∀ z : S1x1024.Idx, (z 1).val = l.val → (outsAt0 m c t.val t.isLt).2 (ix2 o l) = mat (projData X G W R C).dgArr z := by
    intro z h1
    have hz : z = ix2 o l := Places.ext2 (congrArg Fin.val (Subsingleton.elim (α := Fin 1) _ _)) h1
    rw [hz, acc_at h t.val t.isLt o l, h15, show t.val / 16 = 0 by omega]
    refine congrArg _ (Eq.trans ?_ (RowNorm.blocks (fun n => (projData X G W R C).gain n l) 512 16 8192 rfl))
    simp only [Nat.mul_zero, Nat.zero_add]
  refine e _ ?_
  show win0_6.index t 1 * 1024 + 1 * l.val = _
  rw [(ix t).2.2.2.2.2.2.2]; omega

end Cert.ProjIdeal.Reading

end
-- ==== Proof.ProjRef.lean ====
/-
  The projection's reference gradient through the row norm: its two results, from arguments that hold real numbers.
-/
module

public import proofs.«01_k».proof.Proof.Gen.ProjRefIdeal.Read
public import proofs.«01_k».proof.Proof.ProjValue

@[expose] public section

noncomputable section

namespace Cert.ProjRefIdeal.Reading

open Cert.ProjRefIdeal Gen Read
open Idealize.ShloMosaic
open Cert.Reals Cert.RowNorm
open Cert.Stick (eps_eq rsqrt_pos)
open Cert.GmlpRefIdeal.Reading (less_f32)

variable {x0 : FVec Ideal S8192x1024 .f32} {x1 : FVec Ideal S1x1024 .f32} {x2 : FVec Ideal S1x1024x2560 .f32} {x3 : FVec Ideal S8192x1024 .f32} {x4 : FVec Ideal S8192x2560 .f32}
variable {D : Data} {W : Fin 1024 → Fin 2560 → ℝ} {C : Fin 8192 → Fin 2560 → ℝ}

/-- The arguments hold these numbers. -/
structure Args (x0 : FVec Ideal S8192x1024 .f32) (x1 : FVec Ideal S1x1024 .f32) (x2 : FVec Ideal S1x1024x2560 .f32) (x3 : FVec Ideal S8192x1024 .f32)
    (x4 : FVec Ideal S8192x2560 .f32) (D : Data) (W : Fin 1024 → Fin 2560 → ℝ) (C : Fin 8192 → Fin 2560 → ℝ) : Prop where
  x (n : Fin 8192) (l : Fin 1024) : x0 (ix2 n l) = ((D.X n.val l : ℝ) : EReal)
  g (o : Fin 1) (l : Fin 1024) : x1 (ix2 o l) = ((D.g l : ℝ) : EReal)
  w (o : Fin 1) (l : Fin 1024) (j : Fin 2560) : x2 (ix3 o l j) = ((W l j : ℝ) : EReal)
  r (n : Fin 8192) (l : Fin 1024) : x3 (ix2 n l) = ((D.R n.val l : ℝ) : EReal)
  ct (n : Fin 8192) (j : Fin 2560) : x4 (ix2 n j) = ((C n j : ℝ) : EReal)
  dy (n : Fin 8192) (l : Fin 1024) : D.dy n.val l = ∑ j, C n j * W l j

section Norm

variable {X : ℕ → Fin 1024 → ℝ} (h : ∀ (n : Fin 8192) (l : Fin 1024), x0 (ix2 n l) = ((X n.val l : ℝ) : EReal))
include h

lemma at_ms (n : Fin 8192) (o : Fin 1) : val_main_v7 (F := Ideal) x0 (ix2 n o) = ((ms (X n.val) : ℝ) : EReal) := by
  pointwise [val_main_v7, val_main_v6, val_main_v5, val_main_v4, val_main_v3, val_main_v2, val_main_v1, val_main_cst, val_main_cst_0, val_main_cst_1]
  simp only [h, ← EReal.coe_mul, coe_sum, size_f32, eps_eq, div_coe _ 1024 (by norm_num), ← EReal.coe_add]
  rfl

lemma at_inv (n : Fin 8192) (o : Fin 1) : val_main_v8 (F := Ideal) x0 (ix2 n o) = ((inv (X n.val) : ℝ) : EReal) := by
  pointwise [val_main_v8]
  rw [at_ms h, rsqrt_pos (ms_pos _)]
  rfl

lemma at_slope (n : Fin 8192) (o : Fin 1) :
    val_main_v11 (F := Ideal) x0 (ix2 n o) = ((-(1 / 2) * (inv (X n.val) / ms (X n.val)) : ℝ) : EReal) := by
  pointwise [val_main_v11, val_main_v10, val_main_v9, val_main_cst_2]
  rw [at_inv h, at_ms h, less_f32, div_coe _ _ (ms_pos _).ne', ← EReal.coe_mul]

lemma at_nrm (n : Fin 8192) (l : Fin 1024) : val_main_v13 (F := Ideal) x0 (ix2 n l) = ((nrm (X n.val) l : ℝ) : EReal) := by
  pointwise [val_main_v13, val_main_v12]
  rw [h, at_inv h, ← EReal.coe_mul]
  rfl

end Norm

variable (h : Args x0 x1 x2 x3 x4 D W C)
include h

lemma at_dy (n : Fin 8192) (l : Fin 1024) : val_main_v19 (F := Ideal) x2 x4 (ix2 n l) = ((D.dy n.val l : ℝ) : EReal) := by
  pointwise [val_main_v19, val_main_v17]
  simp only [h.ct, h.w, ← EReal.coe_mul, coe_sum, ← h.dy]

lemma at_dyg (n : Fin 8192) (l : Fin 1024) : val_main_v24 (F := Ideal) x1 x2 x4 (ix2 n l) = ((D.dy n.val l * D.g l : ℝ) : EReal) := by
  pointwise [val_main_v24, val_main_v23, val_main_v14, val_main_v0]
  simp only [at_dy h, h.g, ← EReal.coe_mul]

lemma at_c (n : Fin 8192) : val_main_v35 (F := Ideal) x0 x1 x2 x4 (ix1 n)
    = (((∑ e, D.X n.val e * (D.dy n.val e * D.g e)) * (-(1 / 2) * (inv (D.X n.val) / ms (D.X n.val))) / 1024 : ℝ) : EReal) := by
  pointwise [val_main_v35, val_main_v34, val_main_v33, val_main_v32, val_main_v28, val_main_v27, val_main_v26, val_main_cst_5, val_main_cst_6, val_main_cst_7]
  simp only [h.x, at_dyg h, at_slope h.x, ← EReal.coe_mul, coe_sum, size_f32, div_coe _ 1024 (by norm_num), Finset.univ_unique, Finset.sum_singleton]

lemma val_dx : val_main_v40 (F := Ideal) x0 x1 x2 x3 x4 = mat D.dxArr := by
  refine funext fun (y : S8192x1024.Idx) => ?_
  obtain ⟨n, l, rfl⟩ := Places.is2 y
  pointwise [val_main_v40, val_main_v39, val_main_v38, val_main_v37, val_main_v36, val_main_v31, val_main_v30, val_main_v29]
  simp only [h.x, h.r, at_dyg h, at_inv h.x, at_c h, ← EReal.coe_mul, ← EReal.coe_add]
  exact congrArg _ (back_rules (D.X n.val) (fun e => D.dy n.val e * D.g e) l (D.R n.val l))

lemma val_dg : val_main_v41 (F := Ideal) x0 x2 x4 = mat D.dgArr := by
  refine funext fun (y : S1x1024.Idx) => ?_
  obtain ⟨o, l, rfl⟩ := Places.is2 y
  pointwise [val_main_v41, val_main_v25, val_main_v22, val_main_v21, val_main_v20, val_main_cst_3, val_main_cst_4]
  simp only [at_nrm h.x, at_dy h, ← EReal.coe_mul, coe_sum, Finset.univ_unique, Finset.sum_singleton]
  exact congrArg _ (Finset.sum_congr rfl fun n _ => mul_comm _ _)

end Cert.ProjRefIdeal.Reading

end
-- ==== Proof.LossRef.lean ====
/-
  The loss's reference gradient and its squared differences: the two results, from arguments that hold real numbers.
-/
module

public import proofs.«01_k».proof.Proof.Gen.LossRefIdeal.Read
public import proofs.«01_k».proof.Proof.LossValue
public import proofs.«01_k».proof.Proof.ProjRef

@[expose] public section

noncomputable section

namespace Cert.LossRefIdeal.Reading

open Cert.LossRefIdeal Gen Read
open Idealize.ShloMosaic
open Cert.Reals Cert.RowNorm
open Cert.GmlpIdeal.Pay (half_f32)

lemma two_f32 : (Ideal.ofBits .f32 0x40000000#32 : EReal) = ((2 : ℝ) : EReal) := by
  simp [Ideal.ofBits, Ideal.ieee, -EReal.coe_mul]; norm_num

variable {x0 : FVec Ideal S8192x1024 .f32} {x1 : FVec Ideal S8192x4096 .f32} {x2 : FVec Ideal S1x4096x1024 .f32} {x3 : FVec Ideal S1024 .f32} {x4 : FVec Ideal S8192x1024 .f32}
variable {H T : S8192x1024.Idx → ℝ} {P : S8192x4096.Idx → ℝ} {G : S1024.Idx → ℝ} {W : S1x4096x1024.Idx → ℝ}

/-- The arguments hold these numbers. -/
structure Args (x0 : FVec Ideal S8192x1024 .f32) (x1 : FVec Ideal S8192x4096 .f32) (x2 : FVec Ideal S1x4096x1024 .f32) (x3 : FVec Ideal S1024 .f32)
    (x4 : FVec Ideal S8192x1024 .f32) (H : S8192x1024.Idx → ℝ) (P : S8192x4096.Idx → ℝ) (W : S1x4096x1024.Idx → ℝ) (G : S1024.Idx → ℝ) (T : S8192x1024.Idx → ℝ) : Prop where
  h : ∀ i, x0 i = ((H i : ℝ) : EReal)
  p : ∀ i, x1 i = ((P i : ℝ) : EReal)
  w : ∀ i, x2 i = ((W i : ℝ) : EReal)
  g : ∀ i, x3 i = ((G i : ℝ) : EReal)
  tgt : ∀ i, x4 i = ((T i : ℝ) : EReal)

variable (h : Args x0 x1 x2 x3 x4 H P W G T)
include h

lemma at_x (n : Fin 8192) (l : Fin 1024) : val_main_v4 (F := Ideal) x0 x1 x2 (ix2 n l) = ((lossX H P W n.val l : ℝ) : EReal) := by
  pointwise [val_main_v4, val_main_v3, val_main_v2, val_main_v1, val_main_v0, val_main_call0_v0, val_main_call0_cst]
  simp only [h.h, h.p, h.w, max_zero, ← EReal.coe_mul, coe_sum, ← EReal.coe_add]
  exact congrArg _ (congrArg₂ (· + ·) (row_at H (ix2 n l)).symm (Finset.sum_congr rfl fun j _ =>
    congrArg (fun p => max p 0 * max p 0 * W (ix3 0 j l)) (row_at P (ix2 n j)).symm))

lemma at_inv (n : Fin 8192) (o : Fin 1) : val_main_v12 (F := Ideal) x0 x1 x2 (ix2 n o) = ((inv (lossX H P W n.val) : ℝ) : EReal) :=
  ProjRefIdeal.Reading.at_inv (at_x h) n o

lemma at_slope (n : Fin 8192) (o : Fin 1) :
    val_main_v15 (F := Ideal) x0 x1 x2 (ix2 n o) = ((-(1 / 2) * (inv (lossX H P W n.val) / ms (lossX H P W n.val)) : ℝ) : EReal) :=
  ProjRefIdeal.Reading.at_slope (at_x h) n o

lemma at_nrm (n : Fin 8192) (l : Fin 1024) : val_main_v17 (F := Ideal) x0 x1 x2 (ix2 n l) = ((nrm (lossX H P W n.val) l : ℝ) : EReal) :=
  ProjRefIdeal.Reading.at_nrm (at_x h) n l

lemma at_err (n : Fin 8192) (l : Fin 1024) : val_main_v21 (F := Ideal) x0 x1 x2 x3 x4 (ix2 n l) = ((lossErr H P W G T n.val l : ℝ) : EReal) := by
  have ht : x4 (ix2 n l) = ((row T n.val l : ℝ) : EReal) := (h.tgt _).trans (congrArg _ (row_at T (ix2 n l)).symm)
  pointwise [val_main_v21, val_main_v20, val_main_v19, val_main_v18]
  rw [at_nrm h, h.g, ht, ← EReal.coe_mul, ← EReal.coe_sub]
  rfl

lemma at_dy (n : Fin 8192) (l : Fin 1024) : val_main_v35 (F := Ideal) x0 x1 x2 x3 x4 (ix2 n l) = (((lossData H P W G T).dy n.val l : ℝ) : EReal) := by
  pointwise [val_main_v35, val_main_v34, val_main_v33, val_main_v32, val_main_v31, val_main_v30, val_main_v24, val_main_v23,
    val_main_cst_3, val_main_cst_8, val_main_cst_9, val_main_cst_10]
  rw [at_err h, half_f32, two_f32, size_f32, ← EReal.coe_mul, div_coe _ 1024 (by norm_num), ← EReal.coe_mul]
  show _ = ((lossErr H P W G T n.val l * (1 / 1024) : ℝ) : EReal)
  congr 1
  ring

lemma at_dyg (n : Fin 8192) (l : Fin 1024) :
    val_main_v40 (F := Ideal) x0 x1 x2 x3 x4 (ix2 n l) = (((lossData H P W G T).dy n.val l * (lossData H P W G T).g l : ℝ) : EReal) := by
  pointwise [val_main_v40, val_main_v39, val_main_v18]
  rw [at_dy h, h.g, ← EReal.coe_mul]
  rfl

lemma at_c (n : Fin 8192) : val_main_v50 (F := Ideal) x0 x1 x2 x3 x4 (ix1 n)
    = (((∑ e, lossX H P W n.val e * ((lossData H P W G T).dy n.val e * (lossData H P W G T).g e)) * (-(1 / 2) * (inv (lossX H P W n.val) / ms (lossX H P W n.val))) / 1024 : ℝ) : EReal) := by
  pointwise [val_main_v50, val_main_v49, val_main_v48, val_main_v47, val_main_v44, val_main_v43, val_main_v42, val_main_cst_13, val_main_cst_14, val_main_cst_15]
  simp only [at_x h, at_dyg h, at_slope h, ← EReal.coe_mul, coe_sum, size_f32, div_coe _ 1024 (by norm_num), Finset.univ_unique, Finset.sum_singleton]

lemma val_dx : val_main_v55 (F := Ideal) x0 x1 x2 x3 x4 = mat (lossData H P W G T).dxArr := by
  refine funext fun (y : S8192x1024.Idx) => ?_
  obtain ⟨n, l, rfl⟩ := Places.is2 y
  pointwise [val_main_v55, val_main_v54, val_main_v53, val_main_v52, val_main_v51, val_main_v46, val_main_v45]
  simp only [at_x h, at_dyg h, at_inv h, at_c h, ← EReal.coe_mul, ← EReal.coe_add]
  have e := back_rules (lossX H P W n.val) (fun e => (lossData H P W G T).dy n.val e * (lossData H P W G T).g e) l 0
  rw [zero_add] at e
  exact congrArg _ e

lemma at_dg (l : Fin 1024) : val_main_v41 (F := Ideal) x0 x1 x2 x3 x4 (ix1 l) = ((∑ n : Fin 8192, (lossData H P W G T).gain n.val l : ℝ) : EReal) := by
  pointwise [val_main_v41, val_main_v38, val_main_v37, val_main_v36, val_main_cst_11, val_main_cst_12]
  simp only [at_nrm h, at_dy h, ← EReal.coe_mul, coe_sum, Finset.univ_unique, Finset.sum_singleton]
  exact congrArg _ (Finset.sum_congr rfl fun n _ => mul_comm _ _)

lemma at_squares (l : Fin 1024) : val_main_v76 (F := Ideal) x0 x1 x2 x3 x4 (ix1 l) = ((∑ n : Fin 8192, lossErr H P W G T n.val l * lossErr H P W G T n.val l : ℝ) : EReal) := by
  have e : val_main_v74 (F := Ideal) x0 x1 x2 x3 x4 = val_main_v21 x0 x1 x2 x3 x4 := rfl
  pointwise [val_main_v76, val_main_v75, val_main_cst_19]
  rw [e]
  simp only [at_err h, ← EReal.coe_mul, coe_sum]

lemma val_rows : val_main_v79 (F := Ideal) x0 x1 x2 x3 x4 = mat (lossRows H P W G T) := by
  refine funext fun (y : S2x1024.Idx) => ?_
  obtain ⟨o, l, rfl⟩ := Places.is2 y
  show _ = ((∑ n : Fin 8192, both (lossData H P W G T) (lossErr H P W G T) o n.val l : ℝ) : EReal)
  unfold both
  pointwise [val_main_v79, val_main_v78, val_main_v77]
  rw [at_dg h, at_squares h]
  fin_vals o with ho <;> simp [ho]

end Cert.LossRefIdeal.Reading

end
-- ==== Proof.LossClaims.lean ====
/-
  The claims about the loss and the final norm's gradient.
-/
module

public import proofs.«01_k».proof.Defs
public import proofs.«01_k».proof.Proof.Gen.Loss.Frame
public import proofs.«01_k».proof.Proof.Gen.Pre_loss_finite
public import proofs.«01_k».proof.Proof.LossRef

@[expose] public section

noncomputable section

namespace Cert.Proof.Loss

open Idealize.ShloMosaic TcCoe Idealize.SL.Sem
open Cert.Reals Cert.RowNorm

lemma frame : Cert.quiescent_Loss := fun m ρ _ => Cert.Loss.Gen.frame m ρ

lemma frame_ideal : Cert.quiescent_LossIdeal := fun m ρ _ => Cert.LossIdeal.Gen.frame m ρ

lemma frame_ref : Cert.quiescent_LossRefIdeal := fun m ρ _ =>
  (θ_run Cert.LossRefIdeal.defs _ _).mono
    (fun r h => ⟨fun c => (h c).2.2, sem_eq_zero_of_no_sems (by decide) r.2⟩)
    (Cert.LossRefIdeal.Value.run m ρ)

lemma frame_ideal_pre : Cert.quiescent_LossIdeal_pre_loss_finite := fun m ρ _ => Cert.LossIdeal.Gen.frame m ρ

lemma frame_ref_pre : Cert.quiescent_LossRefIdeal_pre_loss_finite := fun m ρ _ => frame_ref m ρ trivial

/-- Arrays that pass the precondition hold real numbers. -/
lemma finite_args (h : FVec Ideal Cert.Pre_loss_finite.S8192x1024 .f32) (p : FVec Ideal Cert.Pre_loss_finite.S8192x4096 .f32)
    (w : FVec Ideal Cert.Pre_loss_finite.S1x4096x1024 .f32) (g : FVec Ideal Cert.Pre_loss_finite.S1024 .f32) (t : FVec Ideal Cert.Pre_loss_finite.S8192x1024 .f32)
    (e : Cert.Pre_loss_finite.fn h p w g t = fun _ => 1#1) : AllReal h ∧ AllReal p ∧ AllReal w ∧ AllReal g ∧ AllReal t := by
  have e := congrFun e (fun i => i.elim0)
  dsimp only [Cert.Pre_loss_finite.fn, Cert.Pre_loss_finite.fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_loss_finite.S_).Idx := ⟨fun a b => funext fun i => i.elim0⟩
  exact ⟨allReal_of_test e1, allReal_of_test e2, allReal_of_test e3, allReal_of_test e4, allReal_of_test e5⟩

lemma algebraic : Cert.algebraic_LossIdeal_LossRefIdeal_pre_loss_finite := fun m ρ m' ρ' hpre hag => by
  choose hh hp hw hg ht using fun c => finite_args _ _ _ _ _ (hpre c)
  choose H hh using hh
  choose P hp using hp
  choose W hw using hw
  choose G hg using hg
  choose T ht using ht
  have hk : ∀ c, Cert.LossIdeal.Reading.Args m c (H c) (P c) (W c) (G c) (T c) := fun c => ⟨hh c, hp c, hw c, hg c, ht c⟩
  have hr : ∀ c, Cert.LossRefIdeal.Reading.Args _ _ _ _ _ (H c) (P c) (W c) (G c) (T c) := fun c => ⟨hh c, hp c, hw c, hg c, ht c⟩
  exact ⟨fun c => mat (lossData (H c) (P c) (W c) (G c) (T c)).dxArr, fun c => mat (lossRows (H c) (P c) (W c) (G c) (T c)),
    (θ_run Cert.LossIdeal.defs _ _).mono
      (fun _ h c => ⟨(h c).1.trans (Cert.LossIdeal.Reading.final_dx (hk c)), (h c).2.1.trans (Cert.LossIdeal.Reading.final_rows (hk c)), (h c).2.2⟩)
      (Cert.LossIdeal.Value.run_blocks m ρ),
    (θ_run Cert.LossRefIdeal.defs _ _).mono
      (fun _ h c => ⟨(h c).1.trans (by
          rw [Cert.LossRefIdeal.Read.val_main_v55_eq, (hag c).1, (hag c).2.1, (hag c).2.2.1, (hag c).2.2.2.1, (hag c).2.2.2.2]
          exact Cert.LossRefIdeal.Reading.val_dx (hr c)), (h c).2.1.trans (by
          rw [Cert.LossRefIdeal.Read.val_main_v79_eq, (hag c).1, (hag c).2.1, (hag c).2.2.1, (hag c).2.2.2.1, (hag c).2.2.2.2]
          exact Cert.LossRefIdeal.Reading.val_rows (hr c)), (h c).2.2⟩)
      (Cert.LossRefIdeal.Value.run m' ρ')⟩

end Cert.Proof.Loss

end
-- ==== Proof.ProjClaims.lean ====
/-
  The claims about the gradient of the mixer's input norm.
-/
module

public import proofs.«01_k».proof.Defs
public import proofs.«01_k».proof.Proof.Gen.Proj.Frame
public import proofs.«01_k».proof.Proof.Gen.Pre_proj_finite
public import proofs.«01_k».proof.Proof.ProjRef

@[expose] public section

noncomputable section

namespace Cert.Proof.Proj

open Idealize.ShloMosaic TcCoe Idealize.SL.Sem
open Cert.Reals Cert.RowNorm

lemma frame : Cert.quiescent_Proj := fun m ρ _ => Cert.Proj.Gen.frame m ρ

lemma frame_ideal : Cert.quiescent_ProjIdeal := fun m ρ _ => Cert.ProjIdeal.Gen.frame m ρ

lemma frame_ref : Cert.quiescent_ProjRefIdeal := fun m ρ _ =>
  (θ_run Cert.ProjRefIdeal.defs _ _).mono
    (fun r h => ⟨fun c => (h c).2.2, sem_eq_zero_of_no_sems (by decide) r.2⟩)
    (Cert.ProjRefIdeal.Value.run m ρ)

lemma frame_ideal_pre : Cert.quiescent_ProjIdeal_pre_proj_finite := fun m ρ _ => Cert.ProjIdeal.Gen.frame m ρ

lemma frame_ref_pre : Cert.quiescent_ProjRefIdeal_pre_proj_finite := fun m ρ _ => frame_ref m ρ trivial

/-- Arrays that pass the precondition hold real numbers. -/
lemma finite_args (x : FVec Ideal Cert.Pre_proj_finite.S8192x1024 .f32) (g : FVec Ideal Cert.Pre_proj_finite.S1x1024 .f32)
    (w : FVec Ideal Cert.Pre_proj_finite.S1x1024x2560 .f32) (r : FVec Ideal Cert.Pre_proj_finite.S8192x1024 .f32) (ct : FVec Ideal Cert.Pre_proj_finite.S8192x2560 .f32)
    (h : Cert.Pre_proj_finite.fn x g w r ct = fun _ => 1#1) : AllReal x ∧ AllReal g ∧ AllReal w ∧ AllReal r ∧ AllReal ct := by
  have e := congrFun h (fun i => i.elim0)
  dsimp only [Cert.Pre_proj_finite.fn, Cert.Pre_proj_finite.fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_proj_finite.S_).Idx := ⟨fun a b => funext fun i => i.elim0⟩
  exact ⟨allReal_of_test e1, allReal_of_test e2, allReal_of_test e3, allReal_of_test e4, allReal_of_test e5⟩

lemma algebraic : Cert.algebraic_ProjIdeal_ProjRefIdeal_pre_proj_finite := fun m ρ m' ρ' hpre hag => by
  choose hx hg hw hr hct using fun c => finite_args _ _ _ _ _ (hpre c)
  choose X hx using hx
  choose G hg using hg
  choose W hw using hw
  choose R hr using hr
  choose C hct using hct
  have hk : ∀ c, Cert.ProjIdeal.Reading.Args m c (X c) (G c) (W c) (R c) (C c) := fun c => ⟨hx c, hg c, hw c, hr c, hct c⟩
  have one : ∀ o : Fin 1, o = 0 := fun o => Subsingleton.elim _ _
  have hr' : ∀ c, Cert.ProjRefIdeal.Reading.Args _ _ _ _ _ (projData (X c) (G c) (W c) (R c) (C c)) (fun l j => W c (ix3 0 l j)) (fun n j => row (C c) n.val j) := fun c =>
    ⟨fun n l => (hx c _).trans (congrArg _ (row_at (X c) (ix2 n l)).symm), fun o l => (hg c _).trans (by rw [one o]; rfl),
      fun o l j => (hw c _).trans (by rw [one o]), fun n l => (hr c _).trans (congrArg _ (row_at (R c) (ix2 n l)).symm),
      fun n j => (hct c _).trans (congrArg _ (row_at (C c) (ix2 n j)).symm), fun _ _ => rfl⟩
  exact ⟨fun c => mat (projData (X c) (G c) (W c) (R c) (C c)).dxArr, fun c => mat (projData (X c) (G c) (W c) (R c) (C c)).dgArr,
    (θ_run Cert.ProjIdeal.defs _ _).mono
      (fun _ h c => ⟨(h c).1.trans (Cert.ProjIdeal.Reading.final_dx (hk c)), (h c).2.1.trans (Cert.ProjIdeal.Reading.final_dg (hk c)), (h c).2.2⟩)
      (Cert.ProjIdeal.Value.run_blocks m ρ),
    (θ_run Cert.ProjRefIdeal.defs _ _).mono
      (fun _ h c => ⟨(h c).1.trans (by
          rw [Cert.ProjRefIdeal.Read.val_main_v40_eq, (hag c).1, (hag c).2.1, (hag c).2.2.1, (hag c).2.2.2.1, (hag c).2.2.2.2]
          exact Cert.ProjRefIdeal.Reading.val_dx (hr' c)), (h c).2.1.trans (by
          rw [Cert.ProjRefIdeal.Read.val_main_v41_eq, (hag c).1, (hag c).2.2.1, (hag c).2.2.2.2]
          exact Cert.ProjRefIdeal.Reading.val_dg (hr' c)), (h c).2.2⟩)
      (Cert.ProjRefIdeal.Value.run m' ρ')⟩

end Cert.Proof.Proj

end
-- ==== Proof.Ff1Block.lean ====
/-
  The feed-forward's first backward product, the row norm before it and the product before that: what one point leaves in its blocks of the
  rows' gradients and in the gain's gradient, from blocks that hold real numbers.
-/
module

public import proofs.«01_k».proof.Proof.Gen.Ff1Ideal.Value
public import proofs.«01_k».proof.Proof.RowNorm

@[expose] public section

noncomputable section

namespace Cert.Ff1Ideal.Reading

open Cert.Ff1Ideal Gen Value
open Idealize.ShloMosaic TcCoe Idealize.SL.Sem
open Cert.Reals Cert.RowNorm
open Cert.Stick (eps_eq rsqrt_pos)

/-! ## Half a block -/

section Half

variable {v0 : Vec Ideal S256x4096 .bf16} {v2 : Vec Ideal S4096x1024 .bf16} {v9 : FVec Ideal S256x1024 .f32} {v10 v11 : Vec Ideal S256x1024 .f32} {v12 : Vec Ideal S1x1024 .f32}
  {v14 : Vec Ideal S1024x1024 .bf16}
variable {C : Fin 256 → Fin 4096 → ℝ} {W : Fin 1024 → Fin 4096 → ℝ} {X R dy : Fin 256 → Fin 1024 → ℝ} {g : Fin 1024 → ℝ} {Wo : Fin 1024 → Fin 1024 → ℝ}

lemma inv18 (h : Holds v10 X) (r : Fin 256) (o : Fin 1) : k0_pay18 v10 (ix2 r o) = ((inv (X r) : ℝ) : EReal) := by
  pointwise [k0_pay18, k0_pay16]
  simp only [h _ _, ← EReal.coe_mul, coe_sum, size_f32, eps_eq, div_coe _ 1024 (by norm_num), ← EReal.coe_add]
  exact rsqrt_pos (ms_pos (X r))

lemma nrm19 (h : Holds v10 X) : Holds (k0_pay19 v10) fun r => nrm (X r) := fun r l => by
  pointwise [k0_pay19, k0_pay16]
  simp only [h _ _, inv18 h, ← EReal.coe_mul]
  rfl

lemma dy5 (h0 : Holds v0 C) (h2 : Holds v2 (fun j l => W l j)) : Holds (k0_pay5 v0 v2) fun r l => ∑ j, C r j * W l j := fun r l => by
  pointwise [k0_pay5]
  simp only [h0 _ _, h2 _ _, ← EReal.coe_mul, coe_sum]

/-- A half's rows' gradient. -/
def halfDx (v11 : Vec Ideal S256x1024 .f32) (v9 : FVec Ideal S256x1024 .f32) (v10 : Vec Ideal S256x1024 .f32) (v12 : Vec Ideal S1x1024 .f32) : FVec Ideal S256x1024 .f32 :=
  k0_pay1 v11 (k0_pay18 v10) (k0_pay20 v9 v10 v12)

lemma dx1 (hy : Holds v9 dy) (hx : Holds v10 X) (hr : Holds v11 R) (hg : Holds v12 fun _ => g) :
    Holds (halfDx v11 v9 v10 v12) fun r l => R r l + back (X r) (fun e => dy r e * g e) l := fun r l => by
  unfold halfDx
  pointwise [k0_pay1, k0_pay20]
  simp only [hy _ _, nrm19 hx _ _, inv18 hx, hr _ _, hg _ _, ← EReal.coe_mul, coe_sum, size_f32, div_coe _ 1024 (by norm_num), ← EReal.coe_sub, ← EReal.coe_add]
  rfl

lemma pay13_eq (v0 : Vec Ideal S256x4096 .bf16) (v2 : Vec Ideal S4096x1024 .bf16) (v10 v11 : Vec Ideal S256x1024 .f32) (v12 : Vec Ideal S1x1024 .f32) :
    k0_pay13 v11 (k0_pay9 v10) (k0_pay10 v10) (k0_pay11 v0 v2 v12) (k0_pay12 v0 v2 v10 v12) = halfDx v11 (k0_pay5 v0 v2) v10 v12 := rfl

lemma do2 {d : Fin 256 → Fin 1024 → ℝ} (h : Holds (halfDx v11 v9 v10 v12) d) (hw : Holds v14 Wo) :
    Holds (k0_pay2 v11 (k0_pay17 v14) (k0_pay18 v10) (k0_pay20 v9 v10 v12)) fun r l => ∑ j, d r j * Wo l j := fun r l => by
  unfold halfDx at h
  pointwise [k0_pay2, k0_pay17]
  simp only [h _ _, hw _ _, ← EReal.coe_mul, coe_sum]

lemma pay15_eq (v0 : Vec Ideal S256x4096 .bf16) (v2 : Vec Ideal S4096x1024 .bf16) (v10 v11 : Vec Ideal S256x1024 .f32) (v12 : Vec Ideal S1x1024 .f32) (v14 : Vec Ideal S1024x1024 .bf16) :
    k0_pay15 v11 (k0_pay8 v14) (k0_pay9 v10) (k0_pay10 v10) (k0_pay11 v0 v2 v12) (k0_pay12 v0 v2 v10 v12)
      = k0_pay2 v11 (k0_pay17 v14) (k0_pay18 v10) (k0_pay20 (k0_pay5 v0 v2) v10 v12) := rfl

lemma gain3 {a b x x' : FVec Ideal S256x1024 .f32} {p q y y' : Fin 256 → Fin 1024 → ℝ} (ha : Holds a p) (hx : Holds x y) (hb : Holds b q) (hx' : Holds x' y') :
    Holds (k0_pay3 b (k0_pay14 a x) x') fun _ l => (∑ r, p r l * y r l) + ∑ r, q r l * y' r l := fun o l => by
  pointwise [k0_pay3, k0_pay14]
  simp only [ha _ _, hb _ _, hx _ _, hx' _ _, ← EReal.coe_mul, coe_sum, ← EReal.coe_add]

lemma gain4 {a b x x' : FVec Ideal S256x1024 .f32} {v : Vec Ideal S1x1024 .f32} {p q : Fin 1 → Fin 1024 → ℝ} (h : Holds (k0_pay3 b (k0_pay14 a x) x') p) (hv : Holds v q) :
    Holds (k0_pay4 b (k0_pay14 a x) x' v) fun o l => q o l + p o l := fun o l => by
  pointwise [k0_pay4]
  simp only [h _ _, hv _ _, ← EReal.coe_add]

end Half

/-! ## One point -/

variable (m : (ℓ : Loc nD τ sig) → Buf (Elt Ideal) ℓ)
variable {D : Data} {C : ℕ → Fin 4096 → ℝ} {W : Fin 1024 → Fin 4096 → ℝ} {Wo : (⟨3, ![1, 1024, 1024]⟩ : Shape).Idx → ℝ} {N : ℕ}

/-- The blocks of a point hold the rows from `N` on. -/
structure Blocks (c : Dev nD) (t : Fin cfg0.N) (D : Data) (C : ℕ → Fin 4096 → ℝ) (W : Fin 1024 → Fin 4096 → ℝ) (Wo : (⟨3, ![1, 1024, 1024]⟩ : Shape).Idx → ℝ) (N : ℕ) : Prop where
  ct : Holds (iblk m c 0 t) fun r : Fin 512 => C (N + r.val)
  w : Holds (iblk m c 1 t) (fun j l => W l j)
  x : Holds (iblk m c 2 t) fun r : Fin 512 => D.X (N + r.val)
  r : Holds (iblk m c 3 t) fun r : Fin 512 => D.R (N + r.val)
  g : Holds (iblk m c 4 t) fun _ => D.g
  wo : Holds (iblk m c 5 t) fun l j => Wo (ix3 0 l j)
  dy : ∀ n l, D.dy n l = ∑ j, C n j * W l j

variable {m}

lemma half_dy {v0 : Vec Ideal S256x4096 .bf16} {v2 : Vec Ideal S4096x1024 .bf16} {M : ℕ} (h0 : Holds v0 fun r : Fin 256 => C (M + r.val)) (h2 : Holds v2 (fun j l => W l j))
    (e : ∀ n l, D.dy n l = ∑ j, C n j * W l j) : Holds (k0_pay5 v0 v2) fun r : Fin 256 => D.dy (M + r.val) :=
  (dy5 h0 h2).congr fun r l => (e _ l).symm

variable {c : Dev nD} {t : Fin cfg0.N} (h : Blocks m c t D C W Wo N)
include h

lemma half_dx {o : ℕ} (i0 i2) : Holds (halfDx
      (part 256 (iblk m c 3 t : Vec Ideal S512x1024 .f32) o i2)
      (k0_pay5 (part 256 (iblk m c 0 t : Vec Ideal S512x4096 .bf16) o i0) (iblk m c 1 t : Vec Ideal S4096x1024 .bf16))
      (part 256 (iblk m c 2 t : Vec Ideal S512x1024 .f32) o i2)
      (iblk m c 4 t : Vec Ideal S1x1024 .f32)) fun r : Fin 256 => D.dx (N + o + r.val) :=
  dx1 (half_dy (ld_rows h.ct rfl i0) h.w h.dy) (ld_rows32 h.x rfl i2) (ld_rows32 h.r rfl i2) h.g

lemma dx_block (y : S512x1024.Idx) : (outsAt0 m c t.val t.isLt).1 y = mat (fun r : Fin 512 => D.dx (N + r.val)) y := by
  have key : ∀ {L : List (View.Piece (Elt Ideal) S512x1024 .f32)}, View.PiecesOf (mat fun r : Fin 512 => D.dx (N + r.val)) L →
      View.Piece.tiledL L ![256, 1024] = true → View.canon L y = mat (fun r : Fin 512 => D.dx (N + r.val)) y := fun h hc =>
    View.canon_apply_of_pieces (e := .f32) _ _ h.mem y (View.cover_of_tiledL _ ![256, 1024] hc y)
  by_cases h0 : t.val % 16 = 0
  on_goal 1 => rw [outsAt0_A m c t h0 (by have := t.isLt; have : cfg0.N = 16 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => piece_rows (half_dx h (by decide) (by decide)) rfl (by decide) x, fun x => (congrFun (pay13_eq _ _ _ _ _) x).trans (piece_rows (half_dx h (by decide) (by decide)) rfl (by decide) x), trivial⟩ (by sl_kernel_rfl)

lemma half_do {o : ℕ} (i0 i2) : Holds (k0_pay2
      (part 256 (iblk m c 3 t : Vec Ideal S512x1024 .f32) o i2)
      (k0_pay17 (iblk m c 5 t : Vec Ideal S1024x1024 .bf16))
      (k0_pay18 (part 256 (iblk m c 2 t : Vec Ideal S512x1024 .f32) o i2))
      (k0_pay20 (k0_pay5 (part 256 (iblk m c 0 t : Vec Ideal S512x4096 .bf16) o i0) (iblk m c 1 t : Vec Ideal S4096x1024 .bf16))
        (part 256 (iblk m c 2 t : Vec Ideal S512x1024 .f32) o i2)
        (iblk m c 4 t : Vec Ideal S1x1024 .f32))) fun r : Fin 256 => D.dOut Wo (N + o + r.val) :=
  do2 (half_dx h i0 i2) h.wo

lemma do_block (y : S512x1024.Idx) : (outsAt0 m c t.val t.isLt).2.1 y = mat (fun r : Fin 512 => D.dOut Wo (N + r.val)) y := by
  have key : ∀ {L : List (View.Piece (Elt Ideal) S512x1024 .bf16)}, View.PiecesOf (mat fun r : Fin 512 => D.dOut Wo (N + r.val)) L →
      View.Piece.tiledL L ![256, 1024] = true → View.canon L y = mat (fun r : Fin 512 => D.dOut Wo (N + r.val)) y := fun h hc =>
    View.canon_apply_of_pieces (e := .bf16) _ _ h.mem y (View.cover_of_tiledL _ ![256, 1024] hc y)
  by_cases h0 : t.val % 16 = 0
  on_goal 1 => rw [outsAt0_A m c t h0 (by have := t.isLt; have : cfg0.N = 16 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => piece_rows (half_do h (by decide) (by decide)) rfl (by decide) x, fun x => (congrFun (pay15_eq _ _ _ _ _ _) x).trans (piece_rows (half_do h (by decide) (by decide)) rfl (by decide) x), trivial⟩ (by sl_kernel_rfl)

/-- What a point adds to the gain's gradient. -/
lemma half_gain (i0 i1 i2 i3) : Holds (k0_pay3
      (k0_pay6 (part 256 (iblk m c 0 t : Vec Ideal S512x4096 .bf16) 256 i1) (iblk m c 1 t : Vec Ideal S4096x1024 .bf16))
      (k0_pay14 (k0_pay5 (part 256 (iblk m c 0 t : Vec Ideal S512x4096 .bf16) 0 i0) (iblk m c 1 t : Vec Ideal S4096x1024 .bf16))
        (k0_pay10 (part 256 (iblk m c 2 t : Vec Ideal S512x1024 .f32) 0 i2)))
      (k0_pay19 (part 256 (iblk m c 2 t : Vec Ideal S512x1024 .f32) 256 i3)))
    fun _ l => ∑ r : Fin 512, D.gain (N + r.val) l := by
  refine (gain3 (half_dy (ld_rows h.ct (Nat.add_zero N).symm i0) h.w h.dy) (nrm19 (ld_rows32 h.x (Nat.add_zero N).symm i2)) (half_dy (ld_rows h.ct rfl i1) h.w h.dy)
    (nrm19 (ld_rows32 h.x rfl i3))).congr fun _ l => ?_
  exact halves (fun n => D.gain n l) N 256

lemma dg_reset (h0 : t.val % 16 = 0) : Holds (outsAt0 m c t.val t.isLt).2.2 fun _ l => 0 + ∑ r : Fin 512, D.gain (N + r.val) l := by
  refine Holds.of_eq fun y => ?_
  rw [outsAt0_A m c t h0 (by have := t.isLt; have : cfg0.N = 16 := N_0; omega)]
  frame_open
  simp (disch := decide) only [↓ View.readCov_skip, ↓ View.readCov_cons_toLoadRect, ↓ View.readCov_fill]
  frame_out
  obtain ⟨r, l, rfl⟩ := Places.is2 y
  exact (half_gain h _ _ _ _).congr (fun _ l => (zero_add _).symm) r l

lemma dg_step (h0 : ¬ t.val % 16 = 0) {acc : Fin 1 → Fin 1024 → ℝ}
    (ha : Holds (outsAt0 m c (t.val - 1) (Nat.lt_of_le_of_lt (Nat.sub_le _ _) t.isLt)).2.2 acc) :
    Holds (outsAt0 m c t.val t.isLt).2.2 fun o l => acc o l + ∑ r : Fin 512, D.gain (N + r.val) l := by
  refine Holds.of_eq fun y => ?_
  rw [outsAt0_B m c t h0 (by omega)]
  frame_open
  simp (disch := decide) only [↓ View.readCov_skip, ↓ View.readCov_cons_toLoadRect, ↓ View.readCov_fill]
  frame_out
  obtain ⟨r, l, rfl⟩ := Places.is2 y
  exact gain4 (half_gain h _ _ _ _) ha r l

end Cert.Ff1Ideal.Reading

end
-- ==== Proof.Ff1Value.lean ====
/-
  The feed-forward's first backward product, the row norm before it and the product before that: what its three result arrays hold after the run,
  from argument arrays that hold real numbers.
-/
module

public import proofs.«01_k».proof.Proof.Ff1Block

@[expose] public section

noncomputable section

namespace Cert.Ff1Ideal.Reading

open Cert.Ff1Ideal Gen Value
open Idealize.ShloMosaic TcCoe Idealize.SL.Sem
open Idealize.ShloMosaic.Pipeline (Dat)
open Cert.Reals Cert.RowNorm

variable (m : (ℓ : Loc nD τ sig) → Buf (Elt Ideal) ℓ)

/-! ## The windows' blocks -/

lemma ix : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) ∧ win0_8.index t 0 = 0 ∧ win0_8.index t 1 = 0 := by
  change ∀ t : Fin grid0.N, _; decide +kernel

lemma lt_N (t : Fin cfg0.N) : t.val < 16 := lt_of_lt_of_eq t.isLt N_0

variable {H O R : S8192x1024.Idx → ℝ} {Wo : S1x1024x1024.Idx → ℝ} {G : S1x1024.Idx → ℝ} {W : S1x1024x4096.Idx → ℝ} {C : S8192x4096.Idx → ℝ} {c : Dev nD}

/-- The weights' entries. -/
lemma read_w (x : FVec Ideal S1x1024x4096 .f32) (l : Fin 1024) (j : Fin 4096) :
    truncf (F := Ideal) (s := S4096x1024) .bf16 (transpose S4096x1024 [1, 0]
      (shapeCast S1024x4096 x shapeCasts_S1x1024x4096_S1024x4096) transposes_S1024x4096_S4096x1024_1_0) bitsLt_bf16_f32 (ix2 j l) = x (ix3 0 l j) := by
  pointwise

lemma read_wo (x : FVec Ideal S1x1024x1024 .f32) (l j : Fin 1024) :
    truncf (F := Ideal) (s := S1024x1024) .bf16 (shapeCast S1024x1024 x shapeCasts_S1x1024x1024_S1024x1024) bitsLt_bf16_f32 (ix2 l j) = x (ix3 0 l j) := by
  pointwise

/-- The rows before the norm. -/
def hArr (h o : FVec Ideal S8192x1024 .f32) (w : FVec Ideal S1x1024x1024 .f32) : FVec Ideal S8192x1024 .f32 :=
  addf h (Host.dotGeneral (F := Ideal) dot_S8192x1024_S1024x1024_S8192x1024_1_0_0_1_n_n none o (shapeCast S1024x1024 w shapeCasts_S1x1024x1024_S1024x1024))

lemma read_h {h o : FVec Ideal S8192x1024 .f32} {w : FVec Ideal S1x1024x1024 .f32} (hh : ∀ i, h i = ((H i : ℝ) : EReal)) (ho : ∀ i, o i = ((O i : ℝ) : EReal))
    (hw : ∀ i, w i = ((Wo i : ℝ) : EReal)) (z : S8192x1024.Idx) :
    hArr h o w z = ((row H (z 0).val (z 1) + ∑ j, row O (z 0).val j * Wo (ix3 0 j (z 1)) : ℝ) : EReal) := by
  obtain ⟨n, l, rfl⟩ := Places.is2 z
  pointwise [hArr]
  simp only [hh, ho, hw, ← EReal.coe_mul, coe_sum, ← EReal.coe_add]
  exact congrArg _ (congrArg₂ (· + ·) (row_at H (ix2 n l)).symm (Finset.sum_congr rfl fun j _ => congrArg (· * _) (row_at O (ix2 n j)).symm))

/-- The argument arrays hold real numbers. -/
structure Args (c : Dev nD) (H O : S8192x1024.Idx → ℝ) (Wo : S1x1024x1024.Idx → ℝ) (G : S1x1024.Idx → ℝ) (W : S1x1024x4096.Idx → ℝ) (R : S8192x1024.Idx → ℝ)
    (C : S8192x4096.Idx → ℝ) : Prop where
  h : ∀ i, m ((c : Thread nD τ).loc main_arg0) i = ((H i : ℝ) : EReal)
  o : ∀ i, m ((c : Thread nD τ).loc main_arg1) i = ((O i : ℝ) : EReal)
  wo : ∀ i, m ((c : Thread nD τ).loc main_arg2) i = ((Wo i : ℝ) : EReal)
  g : ∀ i, m ((c : Thread nD τ).loc main_arg3) i = ((G i : ℝ) : EReal)
  w : ∀ i, m ((c : Thread nD τ).loc main_arg4) i = ((W i : ℝ) : EReal)
  r : ∀ i, m ((c : Thread nD τ).loc main_arg5) i = ((R i : ℝ) : EReal)
  ct : ∀ i, m ((c : Thread nD τ).loc main_arg6) i = ((C i : ℝ) : EReal)

variable {m} (h : Args m c H O Wo G W R C)
include h

lemma V_ct (z : S8192x4096.Idx) : V m c main_v6 z = ((row C (z 0).val (z 1) : ℝ) : EReal) := by
  have e : V m c main_v6 = truncf (F := Ideal) (s := S8192x4096) .bf16 (m ((c : Thread nD τ).loc main_arg6)) bitsLt_bf16_f32 := by
    unfold V hostOps0; after_results
  rw [e]
  exact (h.ct z).trans (by rw [row_at])

lemma V_w (l : Fin 1024) (j : Fin 4096) : V m c main_v5 (ix2 j l) = ((W (ix3 0 l j) : ℝ) : EReal) := by
  have e : V m c main_v5 = truncf (F := Ideal) (s := S4096x1024) .bf16 (transpose S4096x1024 [1, 0]
      (shapeCast S1024x4096 (m ((c : Thread nD τ).loc main_arg4)) shapeCasts_S1x1024x4096_S1024x4096) transposes_S1024x4096_S4096x1024_1_0) bitsLt_bf16_f32 := by
    unfold V hostOps0; after_results; rfl
  rw [e]
  exact (read_w _ l j).trans (h.w _)

lemma V_wo (l j : Fin 1024) : V m c main_v8 (ix2 l j) = ((Wo (ix3 0 l j) : ℝ) : EReal) := by
  have e : V m c main_v8 = truncf (F := Ideal) (s := S1024x1024) .bf16 (shapeCast S1024x1024 (m ((c : Thread nD τ).loc main_arg2)) shapeCasts_S1x1024x1024_S1024x1024) bitsLt_bf16_f32 := by
    unfold V hostOps0; after_results; rfl
  rw [e]
  exact (read_wo _ l j).trans (h.wo _)

lemma V_h (z : S8192x1024.Idx) : V m c main_v2 z = (((sumData H O Wo G W R C).X (z 0).val (z 1) : ℝ) : EReal) := by
  have e : V m c main_v2 = hArr (m ((c : Thread nD τ).loc main_arg0)) (m ((c : Thread nD τ).loc main_arg1)) (m ((c : Thread nD τ).loc main_arg2)) := by
    unfold V hostOps0; after_results; rfl
  rw [e]
  exact read_h h.h h.o h.wo z

lemma V_g : V m c main_arg3 = m ((c : Thread nD τ).loc main_arg3) := by unfold V hostOps0; after_results
lemma V_r (z : S8192x1024.Idx) : V m c main_arg5 z = ((row R (z 0).val (z 1) : ℝ) : EReal) := by
  have e : V m c main_arg5 = m ((c : Thread nD τ).loc main_arg5) := by unfold V hostOps0; after_results
  rw [e, h.r, row_at]

lemma blocks (t : Fin cfg0.N) : Blocks m c t (sumData H O Wo G W R C) (row C) (fun l j => W (ix3 0 l j)) Wo (512 * t.val) where
  ct r l := entry (V_ct h) _ r l (M := 512 * t.val) rfl (by rw [(ix t).1.1, Nat.mul_comm]) rfl (ix t).1.2
  w := by
    intro a l
    show V m c main_v5 _ = _
    rw [← V_w h]
    refine congrArg _ (Places.ext2 ?_ ?_)
    · show win0_1.index t 0 * 4096 + 1 * a.val = a.val
      rw [(ix t).2.1.1]; omega
    · show win0_1.index t 1 * 1024 + 1 * l.val = l.val
      rw [(ix t).2.1.2]; omega
  x r l := entry (V_h h) _ r l (M := 512 * t.val) rfl (by rw [(ix t).2.2.1.1, Nat.mul_comm]) rfl (ix t).2.2.1.2
  r r l := entry (V_r h) _ r l (M := 512 * t.val) rfl (by rw [(ix t).2.2.2.1.1, Nat.mul_comm]) rfl (ix t).2.2.2.1.2
  g o l := by
    show V m c main_arg3 _ = _
    rw [V_g h, h.g]
    refine congrArg (fun i => ((G i : ℝ) : EReal)) (Places.ext2 (congrArg Fin.val (Subsingleton.elim (α := Fin 1) _ _)) ?_)
    show win0_4.index t 1 * 1024 + 1 * l.val = l.val
    rw [(ix t).2.2.2.2.1.2]; omega
  wo l j := by
    show V m c main_v8 _ = _
    rw [← V_wo h]
    refine congrArg _ (Places.ext2 ?_ ?_)
    · show win0_5.index t 0 * 1024 + 1 * l.val = l.val
      rw [(ix t).2.2.2.2.2.1.1]; omega
    · show win0_5.index t 1 * 1024 + 1 * j.val = j.val
      rw [(ix t).2.2.2.2.2.1.2]; omega
  dy _ _ := rfl

/-! ## The rows' gradients -/

omit h in
lemma mem_dx (t : Fin cfg0.N) (i : S8192x1024.Idx) (h : t.val = (i 0).val / 512) : i ∈ ((cfg0.win 6).blk t).view.set := by
  show i ∈ ((View.whole main_v9_0).slice (win0_6.rect t)).set
  rw [View.set_slice_whole, Rect.mem_set_unit]
  have h1 : (i 1 : Nat) < 1024 := (i 1).isLt
  intro a
  match a with
  | ⟨0, _⟩ =>
    show win0_6.index t 0 * 512 ≤ (i 0 : Nat) ∧ (i 0 : Nat) < win0_6.index t 0 * 512 + 512
    rw [(ix t).2.2.2.2.2.2.1.1]; omega
  | ⟨1, _⟩ =>
    show win0_6.index t 1 * 1024 ≤ (i 1 : Nat) ∧ (i 1 : Nat) < win0_6.index t 1 * 1024 + 1024
    rw [(ix t).2.2.2.2.2.2.1.2]; omega

lemma final_dx : (dats m 0 c).arrAt 6 cfg0.N = mat ((sumData H O Wo G W R C).dxArr) := by
  refine (dats m 0 c).arrAt_eq_of_cover 6 (mat ((sumData H O Wo G W R C).dxArr)) (fun t _ => ?_) fun (i : S8192x1024.Idx) => by
    have h0 : (i 0 : Nat) < 8192 := (i 0).isLt
    have hN : cfg0.N = 16 := N_0
    exact ⟨⟨(i 0 : Nat) / 512, by omega⟩, flush0_6 _, mem_dx _ i rfl⟩
  rw [flushed6]
  refine funext fun (y : S512x1024.Idx) => ?_
  obtain ⟨r, l, rfl⟩ := Places.is2 y
  show (outsAt0 m c t.val t.isLt).1 (ix2 r l) = mat ((sumData H O Wo G W R C).dxArr) _
  have ht := lt_N t
  have e : ∀ z : S8192x1024.Idx, (z 0).val = 512 * t.val + r.val → (z 1).val = l.val →
      (outsAt0 m c t.val t.isLt).1 (ix2 r l) = mat ((sumData H O Wo G W R C).dxArr) z := by
    intro z h0 h1
    have hz : z = ix2 ⟨512 * t.val + r.val, by omega⟩ l := Places.ext2 h0 h1
    rw [hz, dx_block (blocks h t) (ix2 r l)]
    rfl
  refine e _ ?_ ?_
  · show win0_6.index t 0 * 512 + 1 * r.val = _
    rw [(ix t).2.2.2.2.2.2.1.1]; omega
  · show win0_6.index t 1 * 1024 + 1 * l.val = _
    rw [(ix t).2.2.2.2.2.2.1.2]; omega

omit h in
lemma mem_do (t : Fin cfg0.N) (i : S8192x1024.Idx) (h : t.val = (i 0).val / 512) : i ∈ ((cfg0.win 7).blk t).view.set := by
  show i ∈ ((View.whole main_v9_1).slice (win0_7.rect t)).set
  rw [View.set_slice_whole, Rect.mem_set_unit]
  have h1 : (i 1 : Nat) < 1024 := (i 1).isLt
  intro a
  match a with
  | ⟨0, _⟩ =>
    show win0_7.index t 0 * 512 ≤ (i 0 : Nat) ∧ (i 0 : Nat) < win0_7.index t 0 * 512 + 512
    rw [(ix t).2.2.2.2.2.2.2.1.1]; omega
  | ⟨1, _⟩ =>
    show win0_7.index t 1 * 1024 ≤ (i 1 : Nat) ∧ (i 1 : Nat) < win0_7.index t 1 * 1024 + 1024
    rw [(ix t).2.2.2.2.2.2.2.1.2]; omega

lemma final_do : (dats m 0 c).arrAt 7 cfg0.N = mat ((sumData H O Wo G W R C).dOutArr Wo) := by
  refine (dats m 0 c).arrAt_eq_of_cover 7 (mat ((sumData H O Wo G W R C).dOutArr Wo)) (fun t _ => ?_) fun (i : S8192x1024.Idx) => by
    have h0 : (i 0 : Nat) < 8192 := (i 0).isLt
    have hN : cfg0.N = 16 := N_0
    exact ⟨⟨(i 0 : Nat) / 512, by omega⟩, flush0_7 _, mem_do _ i rfl⟩
  rw [flushed7]
  refine funext fun (y : S512x1024.Idx) => ?_
  obtain ⟨r, l, rfl⟩ := Places.is2 y
  show (outsAt0 m c t.val t.isLt).2.1 (ix2 r l) = mat ((sumData H O Wo G W R C).dOutArr Wo) _
  have ht := lt_N t
  have e : ∀ z : S8192x1024.Idx, (z 0).val = 512 * t.val + r.val → (z 1).val = l.val →
      (outsAt0 m c t.val t.isLt).2.1 (ix2 r l) = mat ((sumData H O Wo G W R C).dOutArr Wo) z := by
    intro z h0 h1
    have hz : z = ix2 ⟨512 * t.val + r.val, by omega⟩ l := Places.ext2 h0 h1
    rw [hz, do_block (blocks h t) (ix2 r l)]
    rfl
  refine e _ ?_ ?_
  · show win0_7.index t 0 * 512 + 1 * r.val = _
    rw [(ix t).2.2.2.2.2.2.2.1.1]; omega
  · show win0_7.index t 1 * 1024 + 1 * l.val = _
    rw [(ix t).2.2.2.2.2.2.2.1.2]; omega

/-! ## The gain's gradient -/

omit h in
lemma mem_dg (t : Fin cfg0.N) (i : S1x1024.Idx) : i ∈ ((cfg0.win 8).blk t).view.set := by
  show i ∈ ((View.whole main_v9_2).slice (win0_8.rect t)).set
  rw [View.set_slice_whole, Rect.mem_set_unit]
  have h0 : (i 0 : Nat) < 1 := (i 0).isLt
  have h1 : (i 1 : Nat) < 1024 := (i 1).isLt
  intro a
  match a with
  | ⟨0, _⟩ =>
    show win0_8.index t 0 * 1 ≤ (i 0 : Nat) ∧ (i 0 : Nat) < win0_8.index t 0 * 1 + 1
    rw [(ix t).2.2.2.2.2.2.2.2.1]; omega
  | ⟨1, _⟩ =>
    show win0_8.index t 1 * 1024 ≤ (i 1 : Nat) ∧ (i 1 : Nat) < win0_8.index t 1 * 1024 + 1024
    rw [(ix t).2.2.2.2.2.2.2.2.2]; omega

lemma acc_at (n : Nat) (hn : n < cfg0.N) :
    Holds (outsAt0 m c n hn).2.2 fun _ l => ∑ k ∈ Finset.range (n % 16 + 1), ∑ r : Fin 512, (sumData H O Wo G W R C).gain (512 * (16 * (n / 16) + k) + r.val) l :=
  holds_run (fun n hn => (outsAt0 m c n hn).2.2) 16 (by decide) (fun n _ l => ∑ r : Fin 512, (sumData H O Wo G W R C).gain (512 * n + r.val) l)
    (fun n hn h0 => dg_reset (blocks h ⟨n, hn⟩) h0) (fun n hn h0 _ ha => dg_step (blocks h ⟨n, hn⟩) h0 ha) n hn

lemma final_dg : (dats m 0 c).arrAt 8 cfg0.N = mat (sumData H O Wo G W R C).dgArr := by
  refine (dats m 0 c).arrAt_eq_of_cover 8 (mat (sumData H O Wo G W R C).dgArr) (fun t hf => ?_) fun (i : S1x1024.Idx) =>
    ⟨⟨15, by decide⟩, (flush0_8 _).mpr rfl, mem_dg _ i⟩
  have h15 := (flush0_8 t).mp hf
  rw [flushed8]
  refine funext fun (y : S1x1024.Idx) => ?_
  obtain ⟨o, l, rfl⟩ := Places.is2 y
  show (outsAt0 m c t.val t.isLt).2.2 (ix2 o l) = mat (sumData H O Wo G W R C).dgArr _
  have ht := lt_N t
  have e : ∀ z : S1x1024.Idx, (z 1).val = l.val → (outsAt0 m c t.val t.isLt).2.2 (ix2 o l) = mat (sumData H O Wo G W R C).dgArr z := by
    intro z h1
    have hz : z = ix2 o l := Places.ext2 (congrArg Fin.val (Subsingleton.elim (α := Fin 1) _ _)) h1
    rw [hz, acc_at h t.val t.isLt o l, h15, show t.val / 16 = 0 by omega]
    refine congrArg _ (Eq.trans ?_ (RowNorm.blocks (fun n => (sumData H O Wo G W R C).gain n l) 512 16 8192 rfl))
    simp only [Nat.mul_zero, Nat.zero_add]
  refine e _ ?_
  show win0_8.index t 1 * 1024 + 1 * l.val = _
  rw [(ix t).2.2.2.2.2.2.2.2.2]; omega

end Cert.Ff1Ideal.Reading

end
-- ==== Proof.Ff1Ref.lean ====
/-
  The feed-forward's first backward product's reference gradient through the row norm and the product before it: its three results, from arguments that
  hold real numbers.
-/
module

public import proofs.«01_k».proof.Proof.Gen.Ff1RefIdeal.Read
public import proofs.«01_k».proof.Proof.Ff1Value
public import proofs.«01_k».proof.Proof.ProjRef

@[expose] public section

noncomputable section

namespace Cert.Ff1RefIdeal.Reading

open Cert.Ff1RefIdeal Gen Read
open Idealize.ShloMosaic
open Cert.Reals Cert.RowNorm

variable {x0 x1 : FVec Ideal S8192x1024 .f32} {x2 : FVec Ideal S1x1024x1024 .f32} {x3 : FVec Ideal S1x1024 .f32} {x4 : FVec Ideal S1x1024x4096 .f32}
  {x5 : FVec Ideal S8192x1024 .f32} {x6 : FVec Ideal S8192x4096 .f32}
variable {H O R : S8192x1024.Idx → ℝ} {Wo : S1x1024x1024.Idx → ℝ} {G : S1x1024.Idx → ℝ} {W : S1x1024x4096.Idx → ℝ} {C : S8192x4096.Idx → ℝ}

/-- The arguments hold these numbers. -/
structure Args (x0 x1 : FVec Ideal S8192x1024 .f32) (x2 : FVec Ideal S1x1024x1024 .f32) (x3 : FVec Ideal S1x1024 .f32) (x4 : FVec Ideal S1x1024x4096 .f32)
    (x5 : FVec Ideal S8192x1024 .f32) (x6 : FVec Ideal S8192x4096 .f32) (H O : S8192x1024.Idx → ℝ) (Wo : S1x1024x1024.Idx → ℝ) (G : S1x1024.Idx → ℝ)
    (W : S1x1024x4096.Idx → ℝ) (R : S8192x1024.Idx → ℝ) (C : S8192x4096.Idx → ℝ) : Prop where
  h : ∀ i, x0 i = ((H i : ℝ) : EReal)
  o : ∀ i, x1 i = ((O i : ℝ) : EReal)
  wo : ∀ i, x2 i = ((Wo i : ℝ) : EReal)
  g : ∀ i, x3 i = ((G i : ℝ) : EReal)
  w : ∀ i, x4 i = ((W i : ℝ) : EReal)
  r : ∀ i, x5 i = ((R i : ℝ) : EReal)
  ct : ∀ i, x6 i = ((C i : ℝ) : EReal)

variable (h : Args x0 x1 x2 x3 x4 x5 x6 H O Wo G W R C)
include h

lemma at_x (n : Fin 8192) (l : Fin 1024) : val_main_v2 (F := Ideal) x0 x1 x2 (ix2 n l) = (((sumData H O Wo G W R C).X n.val l : ℝ) : EReal) :=
  Cert.Ff1Ideal.Reading.read_h h.h h.o h.wo (ix2 n l)

lemma at_inv (n : Fin 8192) (o : Fin 1) : val_main_v11 (F := Ideal) x0 x1 x2 (ix2 n o) = ((inv ((sumData H O Wo G W R C).X n.val) : ℝ) : EReal) :=
  ProjRefIdeal.Reading.at_inv (at_x h) n o

lemma at_slope (n : Fin 8192) (o : Fin 1) :
    val_main_v14 (F := Ideal) x0 x1 x2 (ix2 n o) = ((-(1 / 2) * (inv ((sumData H O Wo G W R C).X n.val) / ms ((sumData H O Wo G W R C).X n.val)) : ℝ) : EReal) :=
  ProjRefIdeal.Reading.at_slope (at_x h) n o

lemma at_nrm (n : Fin 8192) (l : Fin 1024) : val_main_v16 (F := Ideal) x0 x1 x2 (ix2 n l) = ((nrm ((sumData H O Wo G W R C).X n.val) l : ℝ) : EReal) :=
  ProjRefIdeal.Reading.at_nrm (at_x h) n l

lemma at_dy (n : Fin 8192) (l : Fin 1024) : val_main_v22 (F := Ideal) x4 x6 (ix2 n l) = (((sumData H O Wo G W R C).dy n.val l : ℝ) : EReal) := by
  pointwise [val_main_v22, val_main_v20]
  simp only [h.ct, h.w, ← EReal.coe_mul, coe_sum]
  exact congrArg _ (Finset.sum_congr rfl fun j _ => congrArg (· * _) (row_at C (ix2 n j)).symm)

lemma at_dyg (n : Fin 8192) (l : Fin 1024) : val_main_v27 (F := Ideal) x3 x4 x6 (ix2 n l) = (((sumData H O Wo G W R C).dy n.val l * (sumData H O Wo G W R C).g l : ℝ) : EReal) := by
  pointwise [val_main_v27, val_main_v26, val_main_v17, val_main_v3]
  rw [at_dy h, h.g, ← EReal.coe_mul]
  rfl

lemma at_c (n : Fin 8192) : val_main_v38 (F := Ideal) x0 x1 x2 x3 x4 x6 (ix1 n)
    = (((∑ e, (sumData H O Wo G W R C).X n.val e * ((sumData H O Wo G W R C).dy n.val e * (sumData H O Wo G W R C).g e)) * (-(1 / 2) * (inv ((sumData H O Wo G W R C).X n.val) / ms ((sumData H O Wo G W R C).X n.val))) / 1024 : ℝ) : EReal) := by
  pointwise [val_main_v38, val_main_v37, val_main_v36, val_main_v35, val_main_v31, val_main_v30, val_main_v29, val_main_cst_5, val_main_cst_6, val_main_cst_7]
  simp only [at_x h, at_dyg h, at_slope h, ← EReal.coe_mul, coe_sum, size_f32, div_coe _ 1024 (by norm_num), Finset.univ_unique, Finset.sum_singleton]

lemma at_dx (n : Fin 8192) (l : Fin 1024) : val_main_v43 (F := Ideal) x0 x1 x2 x3 x4 x5 x6 (ix2 n l) = (((sumData H O Wo G W R C).dx n.val l : ℝ) : EReal) := by
  have hr : x5 (ix2 n l) = (((sumData H O Wo G W R C).R n.val l : ℝ) : EReal) := (h.r _).trans (congrArg _ (row_at R (ix2 n l)).symm)
  pointwise [val_main_v43, val_main_v42, val_main_v41, val_main_v40, val_main_v39, val_main_v34, val_main_v33, val_main_v32]
  simp only [at_x h, hr, at_dyg h, at_inv h, at_c h, ← EReal.coe_mul, ← EReal.coe_add]
  exact congrArg _ (back_rules ((sumData H O Wo G W R C).X n.val) (fun e => (sumData H O Wo G W R C).dy n.val e * (sumData H O Wo G W R C).g e) l ((sumData H O Wo G W R C).R n.val l))

lemma val_dx : val_main_v43 (F := Ideal) x0 x1 x2 x3 x4 x5 x6 = mat (sumData H O Wo G W R C).dxArr := by
  refine funext fun (y : S8192x1024.Idx) => ?_
  obtain ⟨n, l, rfl⟩ := Places.is2 y
  exact at_dx h n l

lemma val_do : val_main_v47 (F := Ideal) x0 x1 x2 x3 x4 x5 x6 = mat ((sumData H O Wo G W R C).dOutArr Wo) := by
  refine funext fun (y : S8192x1024.Idx) => ?_
  obtain ⟨n, l, rfl⟩ := Places.is2 y
  pointwise [val_main_v47, val_main_v46, val_main_v45, val_main_v0]
  simp only [at_dx h, h.wo, ← EReal.coe_mul, coe_sum]
  rfl

lemma val_dg : val_main_v44 (F := Ideal) x0 x1 x2 x4 x6 = mat (sumData H O Wo G W R C).dgArr := by
  refine funext fun (y : S1x1024.Idx) => ?_
  obtain ⟨o, l, rfl⟩ := Places.is2 y
  pointwise [val_main_v44, val_main_v28, val_main_v25, val_main_v24, val_main_v23, val_main_cst_3, val_main_cst_4]
  simp only [at_nrm h, at_dy h, ← EReal.coe_mul, coe_sum, Finset.univ_unique, Finset.sum_singleton]
  exact congrArg _ (Finset.sum_congr rfl fun n _ => mul_comm _ _)

end Cert.Ff1RefIdeal.Reading

end
-- ==== Proof.Ff1Claims.lean ====
/-
  The claims about the gradient of the feed-forward's input norm.
-/
module

public import proofs.«01_k».proof.Defs
public import proofs.«01_k».proof.Proof.Gen.Ff1.Frame
public import proofs.«01_k».proof.Proof.Gen.Pre_ff1_finite
public import proofs.«01_k».proof.Proof.Ff1Ref

@[expose] public section

noncomputable section

namespace Cert.Proof.Ff1

open Idealize.ShloMosaic TcCoe Idealize.SL.Sem
open Cert.Reals Cert.RowNorm

lemma frame : Cert.quiescent_Ff1 := fun m ρ _ => Cert.Ff1.Gen.frame m ρ

lemma frame_ideal : Cert.quiescent_Ff1Ideal := fun m ρ _ => Cert.Ff1Ideal.Gen.frame m ρ

lemma frame_ref : Cert.quiescent_Ff1RefIdeal := fun m ρ _ =>
  (θ_run Cert.Ff1RefIdeal.defs _ _).mono
    (fun r h => ⟨fun c => (h c).2.2.2, sem_eq_zero_of_no_sems (by decide) r.2⟩)
    (Cert.Ff1RefIdeal.Value.run m ρ)

lemma frame_ideal_pre : Cert.quiescent_Ff1Ideal_pre_ff1_finite := fun m ρ _ => Cert.Ff1Ideal.Gen.frame m ρ

lemma frame_ref_pre : Cert.quiescent_Ff1RefIdeal_pre_ff1_finite := fun m ρ _ => frame_ref m ρ trivial

/-- Arrays that pass the precondition hold real numbers. -/
lemma finite_args (h o : FVec Ideal Cert.Pre_ff1_finite.S8192x1024 .f32) (wo : FVec Ideal Cert.Pre_ff1_finite.S1x1024x1024 .f32) (g : FVec Ideal Cert.Pre_ff1_finite.S1x1024 .f32)
    (w : FVec Ideal Cert.Pre_ff1_finite.S1x1024x4096 .f32) (r : FVec Ideal Cert.Pre_ff1_finite.S8192x1024 .f32) (ct : FVec Ideal Cert.Pre_ff1_finite.S8192x4096 .f32)
    (hp : Cert.Pre_ff1_finite.fn h o wo g w r ct = fun _ => 1#1) :
    AllReal h ∧ AllReal o ∧ AllReal wo ∧ AllReal g ∧ AllReal w ∧ AllReal r ∧ AllReal ct := by
  have e := congrFun hp (fun i => i.elim0)
  dsimp only [Cert.Pre_ff1_finite.fn, Cert.Pre_ff1_finite.fn_part1] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_ff1_finite.S_).Idx := ⟨fun a b => funext fun i => i.elim0⟩
  exact ⟨allReal_of_test e1, allReal_of_test e2, allReal_of_test e3, allReal_of_test e4, allReal_of_test e5, allReal_of_test e6, allReal_of_test e7⟩

lemma algebraic : Cert.algebraic_Ff1Ideal_Ff1RefIdeal_pre_ff1_finite := fun m ρ m' ρ' hpre hag => by
  choose hh ho hwo hg hw hr hct using fun c => finite_args _ _ _ _ _ _ _ (hpre c)
  choose H hh using hh
  choose O ho using ho
  choose Wo hwo using hwo
  choose G hg using hg
  choose W hw using hw
  choose R hr using hr
  choose C hct using hct
  have hk : ∀ c, Cert.Ff1Ideal.Reading.Args m c (H c) (O c) (Wo c) (G c) (W c) (R c) (C c) := fun c => ⟨hh c, ho c, hwo c, hg c, hw c, hr c, hct c⟩
  have hr' : ∀ c, Cert.Ff1RefIdeal.Reading.Args _ _ _ _ _ _ _ (H c) (O c) (Wo c) (G c) (W c) (R c) (C c) := fun c =>
    ⟨hh c, ho c, hwo c, hg c, hw c, hr c, hct c⟩
  exact ⟨fun c => mat (sumData (H c) (O c) (Wo c) (G c) (W c) (R c) (C c)).dxArr, fun c => mat ((sumData (H c) (O c) (Wo c) (G c) (W c) (R c) (C c)).dOutArr (Wo c)), fun c => mat (sumData (H c) (O c) (Wo c) (G c) (W c) (R c) (C c)).dgArr,
    (θ_run Cert.Ff1Ideal.defs _ _).mono
      (fun _ h c => ⟨(h c).1.trans (Cert.Ff1Ideal.Reading.final_dx (hk c)), (h c).2.1.trans (Cert.Ff1Ideal.Reading.final_do (hk c)),
        (h c).2.2.1.trans (Cert.Ff1Ideal.Reading.final_dg (hk c)), (h c).2.2.2⟩)
      (Cert.Ff1Ideal.Value.run_blocks m ρ),
    (θ_run Cert.Ff1RefIdeal.defs _ _).mono
      (fun _ h c => ⟨(h c).1.trans (by
          rw [Cert.Ff1RefIdeal.Read.val_main_v43_eq, (hag c).1, (hag c).2.1, (hag c).2.2.1, (hag c).2.2.2.1, (hag c).2.2.2.2.1, (hag c).2.2.2.2.2.1, (hag c).2.2.2.2.2.2]
          exact Cert.Ff1RefIdeal.Reading.val_dx (hr' c)), (h c).2.1.trans (by
          rw [Cert.Ff1RefIdeal.Read.val_main_v47_eq, (hag c).1, (hag c).2.1, (hag c).2.2.1, (hag c).2.2.2.1, (hag c).2.2.2.2.1, (hag c).2.2.2.2.2.1, (hag c).2.2.2.2.2.2]
          exact Cert.Ff1RefIdeal.Reading.val_do (hr' c)), (h c).2.2.1.trans (by
          rw [Cert.Ff1RefIdeal.Read.val_main_v44_eq, (hag c).1, (hag c).2.1, (hag c).2.2.1, (hag c).2.2.2.2.1, (hag c).2.2.2.2.2.2]
          exact Cert.Ff1RefIdeal.Reading.val_dg (hr' c)), (h c).2.2.2⟩)
      (Cert.Ff1RefIdeal.Value.run m' ρ')⟩

end Cert.Proof.Ff1

end
-- ==== Proof.XqBlock.lean ====
/-
  The cross-attention queries' backward product, the row norm before it and the product before that: what one point leaves in its blocks of the
  rows' gradients and in the gain's gradient, from blocks that hold real numbers.
-/
module

public import proofs.«01_k».proof.Proof.Gen.XqIdeal.Value
public import proofs.«01_k».proof.Proof.RowNorm

@[expose] public section

noncomputable section

namespace Cert.XqIdeal.Reading

open Cert.XqIdeal Gen Value
open Idealize.ShloMosaic TcCoe Idealize.SL.Sem
open Cert.Reals Cert.RowNorm
open Cert.Stick (eps_eq rsqrt_pos)

/-! ## Half a block -/

section Half

variable {v0 : Vec Ideal S512x1024 .bf16} {v2 : Vec Ideal S1024x1024 .bf16} {v9 : FVec Ideal S512x1024 .f32} {v10 v11 : Vec Ideal S512x1024 .f32} {v12 : Vec Ideal S1x1024 .f32}
  {v14 : Vec Ideal S1024x1024 .bf16}
variable {C : Fin 512 → Fin 1024 → ℝ} {W : Fin 1024 → Fin 1024 → ℝ} {X R dy : Fin 512 → Fin 1024 → ℝ} {g : Fin 1024 → ℝ} {Wo : Fin 1024 → Fin 1024 → ℝ}

lemma inv18 (h : Holds v10 X) (r : Fin 512) (o : Fin 1) : k0_pay18 v10 (ix2 r o) = ((inv (X r) : ℝ) : EReal) := by
  pointwise [k0_pay18, k0_pay16]
  simp only [h _ _, ← EReal.coe_mul, coe_sum, size_f32, eps_eq, div_coe _ 1024 (by norm_num), ← EReal.coe_add]
  exact rsqrt_pos (ms_pos (X r))

lemma nrm19 (h : Holds v10 X) : Holds (k0_pay19 v10) fun r => nrm (X r) := fun r l => by
  pointwise [k0_pay19, k0_pay16]
  simp only [h _ _, inv18 h, ← EReal.coe_mul]
  rfl

lemma dy5 (h0 : Holds v0 C) (h2 : Holds v2 W) : Holds (k0_pay5 v0 v2) fun r l => ∑ j, C r j * W l j := fun r l => by
  pointwise [k0_pay5]
  simp only [h0 _ _, h2 _ _, ← EReal.coe_mul, coe_sum]

/-- A half's rows' gradient. -/
def halfDx (v11 : Vec Ideal S512x1024 .f32) (v9 : FVec Ideal S512x1024 .f32) (v10 : Vec Ideal S512x1024 .f32) (v12 : Vec Ideal S1x1024 .f32) : FVec Ideal S512x1024 .f32 :=
  k0_pay1 v11 (k0_pay18 v10) (k0_pay20 v9 v10 v12)

lemma dx1 (hy : Holds v9 dy) (hx : Holds v10 X) (hr : Holds v11 R) (hg : Holds v12 fun _ => g) :
    Holds (halfDx v11 v9 v10 v12) fun r l => R r l + back (X r) (fun e => dy r e * g e) l := fun r l => by
  unfold halfDx
  pointwise [k0_pay1, k0_pay20]
  simp only [hy _ _, nrm19 hx _ _, inv18 hx, hr _ _, hg _ _, ← EReal.coe_mul, coe_sum, size_f32, div_coe _ 1024 (by norm_num), ← EReal.coe_sub, ← EReal.coe_add]
  rfl

lemma pay13_eq (v0 : Vec Ideal S512x1024 .bf16) (v2 : Vec Ideal S1024x1024 .bf16) (v10 v11 : Vec Ideal S512x1024 .f32) (v12 : Vec Ideal S1x1024 .f32) :
    k0_pay13 v11 (k0_pay9 v10) (k0_pay10 v10) (k0_pay11 v0 v2 v12) (k0_pay12 v0 v2 v10 v12) = halfDx v11 (k0_pay5 v0 v2) v10 v12 := rfl

lemma do2 {d : Fin 512 → Fin 1024 → ℝ} (h : Holds (halfDx v11 v9 v10 v12) d) (hw : Holds v14 Wo) :
    Holds (k0_pay2 v11 (k0_pay17 v14) (k0_pay18 v10) (k0_pay20 v9 v10 v12)) fun r l => ∑ j, d r j * Wo l j := fun r l => by
  unfold halfDx at h
  pointwise [k0_pay2, k0_pay17]
  simp only [h _ _, hw _ _, ← EReal.coe_mul, coe_sum]

lemma pay15_eq (v0 : Vec Ideal S512x1024 .bf16) (v2 : Vec Ideal S1024x1024 .bf16) (v10 v11 : Vec Ideal S512x1024 .f32) (v12 : Vec Ideal S1x1024 .f32) (v14 : Vec Ideal S1024x1024 .bf16) :
    k0_pay15 v11 (k0_pay8 v14) (k0_pay9 v10) (k0_pay10 v10) (k0_pay11 v0 v2 v12) (k0_pay12 v0 v2 v10 v12)
      = k0_pay2 v11 (k0_pay17 v14) (k0_pay18 v10) (k0_pay20 (k0_pay5 v0 v2) v10 v12) := rfl

lemma gain3 {a b x x' : FVec Ideal S512x1024 .f32} {p q y y' : Fin 512 → Fin 1024 → ℝ} (ha : Holds a p) (hx : Holds x y) (hb : Holds b q) (hx' : Holds x' y') :
    Holds (k0_pay3 b (k0_pay14 a x) x') fun _ l => (∑ r, p r l * y r l) + ∑ r, q r l * y' r l := fun o l => by
  pointwise [k0_pay3, k0_pay14]
  simp only [ha _ _, hb _ _, hx _ _, hx' _ _, ← EReal.coe_mul, coe_sum, ← EReal.coe_add]

lemma gain4 {a b x x' : FVec Ideal S512x1024 .f32} {v : Vec Ideal S1x1024 .f32} {p q : Fin 1 → Fin 1024 → ℝ} (h : Holds (k0_pay3 b (k0_pay14 a x) x') p) (hv : Holds v q) :
    Holds (k0_pay4 b (k0_pay14 a x) x' v) fun o l => q o l + p o l := fun o l => by
  pointwise [k0_pay4]
  simp only [h _ _, hv _ _, ← EReal.coe_add]

end Half

/-! ## One point -/

variable (m : (ℓ : Loc nD τ sig) → Buf (Elt Ideal) ℓ)
variable {D : Data} {C : ℕ → Fin 1024 → ℝ} {W : Fin 1024 → Fin 1024 → ℝ} {Wo : (⟨3, ![1, 1024, 1024]⟩ : Shape).Idx → ℝ} {N : ℕ}

/-- The blocks of a point hold the rows from `N` on. -/
structure Blocks (c : Dev nD) (t : Fin cfg0.N) (D : Data) (C : ℕ → Fin 1024 → ℝ) (W : Fin 1024 → Fin 1024 → ℝ) (Wo : (⟨3, ![1, 1024, 1024]⟩ : Shape).Idx → ℝ) (N : ℕ) : Prop where
  ct : Holds (iblk m c 0 t) fun r : Fin 1024 => C (N + r.val)
  w : Holds (iblk m c 1 t) W
  x : Holds (iblk m c 2 t) fun r : Fin 1024 => D.X (N + r.val)
  r : Holds (iblk m c 3 t) fun r : Fin 1024 => D.R (N + r.val)
  g : Holds (iblk m c 4 t) fun _ => D.g
  wo : Holds (iblk m c 5 t) fun l j => Wo (ix3 0 l j)
  dy : ∀ n l, D.dy n l = ∑ j, C n j * W l j

variable {m}

lemma half_dy {v0 : Vec Ideal S512x1024 .bf16} {v2 : Vec Ideal S1024x1024 .bf16} {M : ℕ} (h0 : Holds v0 fun r : Fin 512 => C (M + r.val)) (h2 : Holds v2 W)
    (e : ∀ n l, D.dy n l = ∑ j, C n j * W l j) : Holds (k0_pay5 v0 v2) fun r : Fin 512 => D.dy (M + r.val) :=
  (dy5 h0 h2).congr fun r l => (e _ l).symm

variable {c : Dev nD} {t : Fin cfg0.N} (h : Blocks m c t D C W Wo N)
include h

lemma half_dx {o : ℕ} (i0 i2) : Holds (halfDx
      (part 512 (iblk m c 3 t : Vec Ideal S1024x1024 .f32) o i2)
      (k0_pay5 (part 512 (iblk m c 0 t : Vec Ideal S1024x1024 .bf16) o i0) (iblk m c 1 t : Vec Ideal S1024x1024 .bf16))
      (part 512 (iblk m c 2 t : Vec Ideal S1024x1024 .f32) o i2)
      (iblk m c 4 t : Vec Ideal S1x1024 .f32)) fun r : Fin 512 => D.dx (N + o + r.val) :=
  dx1 (half_dy (ld_rows h.ct rfl i0) h.w h.dy) (ld_rows32 h.x rfl i2) (ld_rows32 h.r rfl i2) h.g

lemma dx_block (y : S1024x1024.Idx) : (outsAt0 m c t.val t.isLt).1 y = mat (fun r : Fin 1024 => D.dx (N + r.val)) y := by
  have key : ∀ {L : List (View.Piece (Elt Ideal) S1024x1024 .f32)}, View.PiecesOf (mat fun r : Fin 1024 => D.dx (N + r.val)) L →
      View.Piece.tiledL L ![512, 1024] = true → View.canon L y = mat (fun r : Fin 1024 => D.dx (N + r.val)) y := fun h hc =>
    View.canon_apply_of_pieces (e := .f32) _ _ h.mem y (View.cover_of_tiledL _ ![512, 1024] hc y)
  by_cases h0 : t.val % 8 = 0
  on_goal 1 => rw [outsAt0_A m c t h0 (by have := t.isLt; have : cfg0.N = 8 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => piece_rows (half_dx h (by decide) (by decide)) rfl (by decide) x, fun x => (congrFun (pay13_eq _ _ _ _ _) x).trans (piece_rows (half_dx h (by decide) (by decide)) rfl (by decide) x), trivial⟩ (by sl_kernel_rfl)

lemma half_do {o : ℕ} (i0 i2) : Holds (k0_pay2
      (part 512 (iblk m c 3 t : Vec Ideal S1024x1024 .f32) o i2)
      (k0_pay17 (iblk m c 5 t : Vec Ideal S1024x1024 .bf16))
      (k0_pay18 (part 512 (iblk m c 2 t : Vec Ideal S1024x1024 .f32) o i2))
      (k0_pay20 (k0_pay5 (part 512 (iblk m c 0 t : Vec Ideal S1024x1024 .bf16) o i0) (iblk m c 1 t : Vec Ideal S1024x1024 .bf16))
        (part 512 (iblk m c 2 t : Vec Ideal S1024x1024 .f32) o i2)
        (iblk m c 4 t : Vec Ideal S1x1024 .f32))) fun r : Fin 512 => D.dOut Wo (N + o + r.val) :=
  do2 (half_dx h i0 i2) h.wo

lemma do_block (y : S1024x1024.Idx) : (outsAt0 m c t.val t.isLt).2.1 y = mat (fun r : Fin 1024 => D.dOut Wo (N + r.val)) y := by
  have key : ∀ {L : List (View.Piece (Elt Ideal) S1024x1024 .bf16)}, View.PiecesOf (mat fun r : Fin 1024 => D.dOut Wo (N + r.val)) L →
      View.Piece.tiledL L ![512, 1024] = true → View.canon L y = mat (fun r : Fin 1024 => D.dOut Wo (N + r.val)) y := fun h hc =>
    View.canon_apply_of_pieces (e := .bf16) _ _ h.mem y (View.cover_of_tiledL _ ![512, 1024] hc y)
  by_cases h0 : t.val % 8 = 0
  on_goal 1 => rw [outsAt0_A m c t h0 (by have := t.isLt; have : cfg0.N = 8 := N_0; omega)]
  on_goal 2 => rw [outsAt0_B m c t h0 (by omega)]
  all_goals
    frame_open
    simp (disch := decide) only [↓ View.readCov_skip, ↓ View.readCov_cons_toLoadRect, ↓ View.readCov_fill]
    frame_out
    exact key (L := [_, _]) ⟨fun x => piece_rows (half_do h (by decide) (by decide)) rfl (by decide) x, fun x => (congrFun (pay15_eq _ _ _ _ _ _) x).trans (piece_rows (half_do h (by decide) (by decide)) rfl (by decide) x), trivial⟩ (by sl_kernel_rfl)

/-- What a point adds to the gain's gradient. -/
lemma half_gain (i0 i1 i2 i3) : Holds (k0_pay3
      (k0_pay6 (part 512 (iblk m c 0 t : Vec Ideal S1024x1024 .bf16) 512 i1) (iblk m c 1 t : Vec Ideal S1024x1024 .bf16))
      (k0_pay14 (k0_pay5 (part 512 (iblk m c 0 t : Vec Ideal S1024x1024 .bf16) 0 i0) (iblk m c 1 t : Vec Ideal S1024x1024 .bf16))
        (k0_pay10 (part 512 (iblk m c 2 t : Vec Ideal S1024x1024 .f32) 0 i2)))
      (k0_pay19 (part 512 (iblk m c 2 t : Vec Ideal S1024x1024 .f32) 512 i3)))
    fun _ l => ∑ r : Fin 1024, D.gain (N + r.val) l := by
  refine (gain3 (half_dy (ld_rows h.ct (Nat.add_zero N).symm i0) h.w h.dy) (nrm19 (ld_rows32 h.x (Nat.add_zero N).symm i2)) (half_dy (ld_rows h.ct rfl i1) h.w h.dy)
    (nrm19 (ld_rows32 h.x rfl i3))).congr fun _ l => ?_
  exact halves (fun n => D.gain n l) N 512

lemma dg_reset (h0 : t.val % 8 = 0) : Holds (outsAt0 m c t.val t.isLt).2.2 fun _ l => 0 + ∑ r : Fin 1024, D.gain (N + r.val) l := by
  refine Holds.of_eq fun y => ?_
  rw [outsAt0_A m c t h0 (by have := t.isLt; have : cfg0.N = 8 := N_0; omega)]
  frame_open
  simp (disch := decide) only [↓ View.readCov_skip, ↓ View.readCov_cons_toLoadRect, ↓ View.readCov_fill]
  frame_out
  obtain ⟨r, l, rfl⟩ := Places.is2 y
  exact (half_gain h _ _ _ _).congr (fun _ l => (zero_add _).symm) r l

lemma dg_step (h0 : ¬ t.val % 8 = 0) {acc : Fin 1 → Fin 1024 → ℝ}
    (ha : Holds (outsAt0 m c (t.val - 1) (Nat.lt_of_le_of_lt (Nat.sub_le _ _) t.isLt)).2.2 acc) :
    Holds (outsAt0 m c t.val t.isLt).2.2 fun o l => acc o l + ∑ r : Fin 1024, D.gain (N + r.val) l := by
  refine Holds.of_eq fun y => ?_
  rw [outsAt0_B m c t h0 (by omega)]
  frame_open
  simp (disch := decide) only [↓ View.readCov_skip, ↓ View.readCov_cons_toLoadRect, ↓ View.readCov_fill]
  frame_out
  obtain ⟨r, l, rfl⟩ := Places.is2 y
  exact gain4 (half_gain h _ _ _ _) ha r l

end Cert.XqIdeal.Reading

end
-- ==== Proof.XqValue.lean ====
/-
  The cross-attention queries' backward product, the row norm before it and the product before that: what its three result arrays hold after the run,
  from argument arrays that hold real numbers.
-/
module

public import proofs.«01_k».proof.Proof.XqBlock

@[expose] public section

noncomputable section

namespace Cert.XqIdeal.Reading

open Cert.XqIdeal Gen Value
open Idealize.ShloMosaic TcCoe Idealize.SL.Sem
open Idealize.ShloMosaic.Pipeline (Dat)
open Cert.Reals Cert.RowNorm

variable (m : (ℓ : Loc nD τ sig) → Buf (Elt Ideal) ℓ)

/-! ## The windows' blocks -/

lemma ix : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) ∧ win0_8.index t 0 = 0 ∧ win0_8.index t 1 = 0 := by
  change ∀ t : Fin grid0.N, _; decide +kernel

lemma lt_N (t : Fin cfg0.N) : t.val < 8 := lt_of_lt_of_eq t.isLt N_0

variable {H O R : S8192x1024.Idx → ℝ} {Wo : S1x1024x1024.Idx → ℝ} {G : S1x1024.Idx → ℝ} {W : S1x1024x1024.Idx → ℝ} {C : S8192x1024.Idx → ℝ} {c : Dev nD}

/-- The weights' entries. -/
lemma read_w (x : FVec Ideal S1x1024x1024 .f32) (l : Fin 1024) (j : Fin 1024) :
    truncf (F := Ideal) (s := S1024x1024) .bf16 (shapeCast S1024x1024 x shapeCasts_S1x1024x1024_S1024x1024) bitsLt_bf16_f32 (ix2 l j) = x (ix3 0 l j) := by
  pointwise

lemma read_wo (x : FVec Ideal S1x1024x1024 .f32) (l j : Fin 1024) :
    truncf (F := Ideal) (s := S1024x1024) .bf16 (shapeCast S1024x1024 x shapeCasts_S1x1024x1024_S1024x1024) bitsLt_bf16_f32 (ix2 l j) = x (ix3 0 l j) := by
  pointwise

/-- The rows before the norm. -/
def hArr (h o : FVec Ideal S8192x1024 .f32) (w : FVec Ideal S1x1024x1024 .f32) : FVec Ideal S8192x1024 .f32 :=
  addf h (Host.dotGeneral (F := Ideal) dot_S8192x1024_S1024x1024_S8192x1024_1_0_0_1_n_n none o (shapeCast S1024x1024 w shapeCasts_S1x1024x1024_S1024x1024))

lemma read_h {h o : FVec Ideal S8192x1024 .f32} {w : FVec Ideal S1x1024x1024 .f32} (hh : ∀ i, h i = ((H i : ℝ) : EReal)) (ho : ∀ i, o i = ((O i : ℝ) : EReal))
    (hw : ∀ i, w i = ((Wo i : ℝ) : EReal)) (z : S8192x1024.Idx) :
    hArr h o w z = ((row H (z 0).val (z 1) + ∑ j, row O (z 0).val j * Wo (ix3 0 j (z 1)) : ℝ) : EReal) := by
  obtain ⟨n, l, rfl⟩ := Places.is2 z
  pointwise [hArr]
  simp only [hh, ho, hw, ← EReal.coe_mul, coe_sum, ← EReal.coe_add]
  exact congrArg _ (congrArg₂ (· + ·) (row_at H (ix2 n l)).symm (Finset.sum_congr rfl fun j _ => congrArg (· * _) (row_at O (ix2 n j)).symm))

/-- The argument arrays hold real numbers. -/
structure Args (c : Dev nD) (H O : S8192x1024.Idx → ℝ) (Wo : S1x1024x1024.Idx → ℝ) (G : S1x1024.Idx → ℝ) (W : S1x1024x1024.Idx → ℝ) (R : S8192x1024.Idx → ℝ)
    (C : S8192x1024.Idx → ℝ) : Prop where
  h : ∀ i, m ((c : Thread nD τ).loc main_arg0) i = ((H i : ℝ) : EReal)
  o : ∀ i, m ((c : Thread nD τ).loc main_arg1) i = ((O i : ℝ) : EReal)
  wo : ∀ i, m ((c : Thread nD τ).loc main_arg2) i = ((Wo i : ℝ) : EReal)
  g : ∀ i, m ((c : Thread nD τ).loc main_arg3) i = ((G i : ℝ) : EReal)
  w : ∀ i, m ((c : Thread nD τ).loc main_arg4) i = ((W i : ℝ) : EReal)
  r : ∀ i, m ((c : Thread nD τ).loc main_arg5) i = ((R i : ℝ) : EReal)
  ct : ∀ i, m ((c : Thread nD τ).loc main_arg6) i = ((C i : ℝ) : EReal)

variable {m} (h : Args m c H O Wo G W R C)
include h

lemma V_ct (z : S8192x1024.Idx) : V m c main_v5 z = ((row C (z 0).val (z 1) : ℝ) : EReal) := by
  have e : V m c main_v5 = truncf (F := Ideal) (s := S8192x1024) .bf16 (m ((c : Thread nD τ).loc main_arg6)) bitsLt_bf16_f32 := by
    unfold V hostOps0; after_results
  rw [e]
  exact (h.ct z).trans (by rw [row_at])

lemma V_w (l : Fin 1024) (j : Fin 1024) : V m c main_v4 (ix2 l j) = ((W (ix3 0 l j) : ℝ) : EReal) := by
  have e : V m c main_v4 = truncf (F := Ideal) (s := S1024x1024) .bf16 (shapeCast S1024x1024 (m ((c : Thread nD τ).loc main_arg4)) shapeCasts_S1x1024x1024_S1024x1024) bitsLt_bf16_f32 := by
    unfold V hostOps0; after_results; rfl
  rw [e]
  exact (read_w _ l j).trans (h.w _)

lemma V_wo (l j : Fin 1024) : V m c main_v7 (ix2 l j) = ((Wo (ix3 0 l j) : ℝ) : EReal) := by
  have e : V m c main_v7 = truncf (F := Ideal) (s := S1024x1024) .bf16 (shapeCast S1024x1024 (m ((c : Thread nD τ).loc main_arg2)) shapeCasts_S1x1024x1024_S1024x1024) bitsLt_bf16_f32 := by
    unfold V hostOps0; after_results; rfl
  rw [e]
  exact (read_wo _ l j).trans (h.wo _)

lemma V_h (z : S8192x1024.Idx) : V m c main_v2 z = (((sumData H O Wo G W R C).X (z 0).val (z 1) : ℝ) : EReal) := by
  have e : V m c main_v2 = hArr (m ((c : Thread nD τ).loc main_arg0)) (m ((c : Thread nD τ).loc main_arg1)) (m ((c : Thread nD τ).loc main_arg2)) := by
    unfold V hostOps0; after_results; rfl
  rw [e]
  exact read_h h.h h.o h.wo z

lemma V_g : V m c main_arg3 = m ((c : Thread nD τ).loc main_arg3) := by unfold V hostOps0; after_results
lemma V_r (z : S8192x1024.Idx) : V m c main_arg5 z = ((row R (z 0).val (z 1) : ℝ) : EReal) := by
  have e : V m c main_arg5 = m ((c : Thread nD τ).loc main_arg5) := by unfold V hostOps0; after_results
  rw [e, h.r, row_at]

lemma blocks (t : Fin cfg0.N) : Blocks m c t (sumData H O Wo G W R C) (row C) (fun l j => W (ix3 0 l j)) Wo (1024 * t.val) where
  ct r l := entry (V_ct h) _ r l (M := 1024 * t.val) rfl (by rw [(ix t).1.1, Nat.mul_comm]) rfl (ix t).1.2
  w := by
    intro a l
    show V m c main_v4 _ = _
    rw [← V_w h]
    refine congrArg _ (Places.ext2 ?_ ?_)
    · show win0_1.index t 0 * 1024 + 1 * a.val = a.val
      rw [(ix t).2.1.1]; omega
    · show win0_1.index t 1 * 1024 + 1 * l.val = l.val
      rw [(ix t).2.1.2]; omega
  x r l := entry (V_h h) _ r l (M := 1024 * t.val) rfl (by rw [(ix t).2.2.1.1, Nat.mul_comm]) rfl (ix t).2.2.1.2
  r r l := entry (V_r h) _ r l (M := 1024 * t.val) rfl (by rw [(ix t).2.2.2.1.1, Nat.mul_comm]) rfl (ix t).2.2.2.1.2
  g o l := by
    show V m c main_arg3 _ = _
    rw [V_g h, h.g]
    refine congrArg (fun i => ((G i : ℝ) : EReal)) (Places.ext2 (congrArg Fin.val (Subsingleton.elim (α := Fin 1) _ _)) ?_)
    show win0_4.index t 1 * 1024 + 1 * l.val = l.val
    rw [(ix t).2.2.2.2.1.2]; omega
  wo l j := by
    show V m c main_v7 _ = _
    rw [← V_wo h]
    refine congrArg _ (Places.ext2 ?_ ?_)
    · show win0_5.index t 0 * 1024 + 1 * l.val = l.val
      rw [(ix t).2.2.2.2.2.1.1]; omega
    · show win0_5.index t 1 * 1024 + 1 * j.val = j.val
      rw [(ix t).2.2.2.2.2.1.2]; omega
  dy _ _ := rfl

/-! ## The rows' gradients -/

omit h in
lemma mem_dx (t : Fin cfg0.N) (i : S8192x1024.Idx) (h : t.val = (i 0).val / 1024) : i ∈ ((cfg0.win 6).blk t).view.set := by
  show i ∈ ((View.whole main_v8_0).slice (win0_6.rect t)).set
  rw [View.set_slice_whole, Rect.mem_set_unit]
  have h1 : (i 1 : Nat) < 1024 := (i 1).isLt
  intro a
  match a with
  | ⟨0, _⟩ =>
    show win0_6.index t 0 * 1024 ≤ (i 0 : Nat) ∧ (i 0 : Nat) < win0_6.index t 0 * 1024 + 1024
    rw [(ix t).2.2.2.2.2.2.1.1]; omega
  | ⟨1, _⟩ =>
    show win0_6.index t 1 * 1024 ≤ (i 1 : Nat) ∧ (i 1 : Nat) < win0_6.index t 1 * 1024 + 1024
    rw [(ix t).2.2.2.2.2.2.1.2]; omega

lemma final_dx : (dats m 0 c).arrAt 6 cfg0.N = mat ((sumData H O Wo G W R C).dxArr) := by
  refine (dats m 0 c).arrAt_eq_of_cover 6 (mat ((sumData H O Wo G W R C).dxArr)) (fun t _ => ?_) fun (i : S8192x1024.Idx) => by
    have h0 : (i 0 : Nat) < 8192 := (i 0).isLt
    have hN : cfg0.N = 8 := N_0
    exact ⟨⟨(i 0 : Nat) / 1024, by omega⟩, flush0_6 _, mem_dx _ i rfl⟩
  rw [flushed6]
  refine funext fun (y : S1024x1024.Idx) => ?_
  obtain ⟨r, l, rfl⟩ := Places.is2 y
  show (outsAt0 m c t.val t.isLt).1 (ix2 r l) = mat ((sumData H O Wo G W R C).dxArr) _
  have ht := lt_N t
  have e : ∀ z : S8192x1024.Idx, (z 0).val = 1024 * t.val + r.val → (z 1).val = l.val →
      (outsAt0 m c t.val t.isLt).1 (ix2 r l) = mat ((sumData H O Wo G W R C).dxArr) z := by
    intro z h0 h1
    have hz : z = ix2 ⟨1024 * t.val + r.val, by omega⟩ l := Places.ext2 h0 h1
    rw [hz, dx_block (blocks h t) (ix2 r l)]
    rfl
  refine e _ ?_ ?_
  · show win0_6.index t 0 * 1024 + 1 * r.val = _
    rw [(ix t).2.2.2.2.2.2.1.1]; omega
  · show win0_6.index t 1 * 1024 + 1 * l.val = _
    rw [(ix t).2.2.2.2.2.2.1.2]; omega

omit h in
lemma mem_do (t : Fin cfg0.N) (i : S8192x1024.Idx) (h : t.val = (i 0).val / 1024) : i ∈ ((cfg0.win 7).blk t).view.set := by
  show i ∈ ((View.whole main_v8_1).slice (win0_7.rect t)).set
  rw [View.set_slice_whole, Rect.mem_set_unit]
  have h1 : (i 1 : Nat) < 1024 := (i 1).isLt
  intro a
  match a with
  | ⟨0, _⟩ =>
    show win0_7.index t 0 * 1024 ≤ (i 0 : Nat) ∧ (i 0 : Nat) < win0_7.index t 0 * 1024 + 1024
    rw [(ix t).2.2.2.2.2.2.2.1.1]; omega
  | ⟨1, _⟩ =>
    show win0_7.index t 1 * 1024 ≤ (i 1 : Nat) ∧ (i 1 : Nat) < win0_7.index t 1 * 1024 + 1024
    rw [(ix t).2.2.2.2.2.2.2.1.2]; omega

lemma final_do : (dats m 0 c).arrAt 7 cfg0.N = mat ((sumData H O Wo G W R C).dOutArr Wo) := by
  refine (dats m 0 c).arrAt_eq_of_cover 7 (mat ((sumData H O Wo G W R C).dOutArr Wo)) (fun t _ => ?_) fun (i : S8192x1024.Idx) => by
    have h0 : (i 0 : Nat) < 8192 := (i 0).isLt
    have hN : cfg0.N = 8 := N_0
    exact ⟨⟨(i 0 : Nat) / 1024, by omega⟩, flush0_7 _, mem_do _ i rfl⟩
  rw [flushed7]
  refine funext fun (y : S1024x1024.Idx) => ?_
  obtain ⟨r, l, rfl⟩ := Places.is2 y
  show (outsAt0 m c t.val t.isLt).2.1 (ix2 r l) = mat ((sumData H O Wo G W R C).dOutArr Wo) _
  have ht := lt_N t
  have e : ∀ z : S8192x1024.Idx, (z 0).val = 1024 * t.val + r.val → (z 1).val = l.val →
      (outsAt0 m c t.val t.isLt).2.1 (ix2 r l) = mat ((sumData H O Wo G W R C).dOutArr Wo) z := by
    intro z h0 h1
    have hz : z = ix2 ⟨1024 * t.val + r.val, by omega⟩ l := Places.ext2 h0 h1
    rw [hz, do_block (blocks h t) (ix2 r l)]
    rfl
  refine e _ ?_ ?_
  · show win0_7.index t 0 * 1024 + 1 * r.val = _
    rw [(ix t).2.2.2.2.2.2.2.1.1]; omega
  · show win0_7.index t 1 * 1024 + 1 * l.val = _
    rw [(ix t).2.2.2.2.2.2.2.1.2]; omega

/-! ## The gain's gradient -/

omit h in
lemma mem_dg (t : Fin cfg0.N) (i : S1x1024.Idx) : i ∈ ((cfg0.win 8).blk t).view.set := by
  show i ∈ ((View.whole main_v8_2).slice (win0_8.rect t)).set
  rw [View.set_slice_whole, Rect.mem_set_unit]
  have h0 : (i 0 : Nat) < 1 := (i 0).isLt
  have h1 : (i 1 : Nat) < 1024 := (i 1).isLt
  intro a
  match a with
  | ⟨0, _⟩ =>
    show win0_8.index t 0 * 1 ≤ (i 0 : Nat) ∧ (i 0 : Nat) < win0_8.index t 0 * 1 + 1
    rw [(ix t).2.2.2.2.2.2.2.2.1]; omega
  | ⟨1, _⟩ =>
    show win0_8.index t 1 * 1024 ≤ (i 1 : Nat) ∧ (i 1 : Nat) < win0_8.index t 1 * 1024 + 1024
    rw [(ix t).2.2.2.2.2.2.2.2.2]; omega

lemma acc_at (n : Nat) (hn : n < cfg0.N) :
    Holds (outsAt0 m c n hn).2.2 fun _ l => ∑ k ∈ Finset.range (n % 8 + 1), ∑ r : Fin 1024, (sumData H O Wo G W R C).gain (1024 * (8 * (n / 8) + k) + r.val) l :=
  holds_run (fun n hn => (outsAt0 m c n hn).2.2) 8 (by decide) (fun n _ l => ∑ r : Fin 1024, (sumData H O Wo G W R C).gain (1024 * n + r.val) l)
    (fun n hn h0 => dg_reset (blocks h ⟨n, hn⟩) h0) (fun n hn h0 _ ha => dg_step (blocks h ⟨n, hn⟩) h0 ha) n hn

lemma final_dg : (dats m 0 c).arrAt 8 cfg0.N = mat (sumData H O Wo G W R C).dgArr := by
  refine (dats m 0 c).arrAt_eq_of_cover 8 (mat (sumData H O Wo G W R C).dgArr) (fun t hf => ?_) fun (i : S1x1024.Idx) =>
    ⟨⟨7, by decide⟩, (flush0_8 _).mpr rfl, mem_dg _ i⟩
  have h15 := (flush0_8 t).mp hf
  rw [flushed8]
  refine funext fun (y : S1x1024.Idx) => ?_
  obtain ⟨o, l, rfl⟩ := Places.is2 y
  show (outsAt0 m c t.val t.isLt).2.2 (ix2 o l) = mat (sumData H O Wo G W R C).dgArr _
  have ht := lt_N t
  have e : ∀ z : S1x1024.Idx, (z 1).val = l.val → (outsAt0 m c t.val t.isLt).2.2 (ix2 o l) = mat (sumData H O Wo G W R C).dgArr z := by
    intro z h1
    have hz : z = ix2 o l := Places.ext2 (congrArg Fin.val (Subsingleton.elim (α := Fin 1) _ _)) h1
    rw [hz, acc_at h t.val t.isLt o l, h15, show t.val / 8 = 0 by omega]
    refine congrArg _ (Eq.trans ?_ (RowNorm.blocks (fun n => (sumData H O Wo G W R C).gain n l) 1024 8 8192 rfl))
    simp only [Nat.mul_zero, Nat.zero_add]
  refine e _ ?_
  show win0_8.index t 1 * 1024 + 1 * l.val = _
  rw [(ix t).2.2.2.2.2.2.2.2.2]; omega

end Cert.XqIdeal.Reading

end
-- ==== Proof.XqRef.lean ====
/-
  The cross-attention queries' backward product's reference gradient through the row norm and the product before it: its three results, from arguments that
  hold real numbers.
-/
module

public import proofs.«01_k».proof.Proof.Gen.XqRefIdeal.Read
public import proofs.«01_k».proof.Proof.XqValue
public import proofs.«01_k».proof.Proof.ProjRef

@[expose] public section

noncomputable section

namespace Cert.XqRefIdeal.Reading

open Cert.XqRefIdeal Gen Read
open Idealize.ShloMosaic
open Cert.Reals Cert.RowNorm

variable {x0 x1 : FVec Ideal S8192x1024 .f32} {x2 : FVec Ideal S1x1024x1024 .f32} {x3 : FVec Ideal S1x1024 .f32} {x4 : FVec Ideal S1x1024x1024 .f32}
  {x5 : FVec Ideal S8192x1024 .f32} {x6 : FVec Ideal S8192x1024 .f32}
variable {H O R : S8192x1024.Idx → ℝ} {Wo : S1x1024x1024.Idx → ℝ} {G : S1x1024.Idx → ℝ} {W : S1x1024x1024.Idx → ℝ} {C : S8192x1024.Idx → ℝ}

/-- The arguments hold these numbers. -/
structure Args (x0 x1 : FVec Ideal S8192x1024 .f32) (x2 : FVec Ideal S1x1024x1024 .f32) (x3 : FVec Ideal S1x1024 .f32) (x4 : FVec Ideal S1x1024x1024 .f32)
    (x5 : FVec Ideal S8192x1024 .f32) (x6 : FVec Ideal S8192x1024 .f32) (H O : S8192x1024.Idx → ℝ) (Wo : S1x1024x1024.Idx → ℝ) (G : S1x1024.Idx → ℝ)
    (W : S1x1024x1024.Idx → ℝ) (R : S8192x1024.Idx → ℝ) (C : S8192x1024.Idx → ℝ) : Prop where
  h : ∀ i, x0 i = ((H i : ℝ) : EReal)
  o : ∀ i, x1 i = ((O i : ℝ) : EReal)
  wo : ∀ i, x2 i = ((Wo i : ℝ) : EReal)
  g : ∀ i, x3 i = ((G i : ℝ) : EReal)
  w : ∀ i, x4 i = ((W i : ℝ) : EReal)
  r : ∀ i, x5 i = ((R i : ℝ) : EReal)
  ct : ∀ i, x6 i = ((C i : ℝ) : EReal)

variable (h : Args x0 x1 x2 x3 x4 x5 x6 H O Wo G W R C)
include h

lemma at_x (n : Fin 8192) (l : Fin 1024) : val_main_v2 (F := Ideal) x0 x1 x2 (ix2 n l) = (((sumData H O Wo G W R C).X n.val l : ℝ) : EReal) :=
  Cert.XqIdeal.Reading.read_h h.h h.o h.wo (ix2 n l)

lemma at_inv (n : Fin 8192) (o : Fin 1) : val_main_v11 (F := Ideal) x0 x1 x2 (ix2 n o) = ((inv ((sumData H O Wo G W R C).X n.val) : ℝ) : EReal) :=
  ProjRefIdeal.Reading.at_inv (at_x h) n o

lemma at_slope (n : Fin 8192) (o : Fin 1) :
    val_main_v14 (F := Ideal) x0 x1 x2 (ix2 n o) = ((-(1 / 2) * (inv ((sumData H O Wo G W R C).X n.val) / ms ((sumData H O Wo G W R C).X n.val)) : ℝ) : EReal) :=
  ProjRefIdeal.Reading.at_slope (at_x h) n o

lemma at_nrm (n : Fin 8192) (l : Fin 1024) : val_main_v16 (F := Ideal) x0 x1 x2 (ix2 n l) = ((nrm ((sumData H O Wo G W R C).X n.val) l : ℝ) : EReal) :=
  ProjRefIdeal.Reading.at_nrm (at_x h) n l

lemma at_dy (n : Fin 8192) (l : Fin 1024) : val_main_v22 (F := Ideal) x4 x6 (ix2 n l) = (((sumData H O Wo G W R C).dy n.val l : ℝ) : EReal) := by
  pointwise [val_main_v22, val_main_v20]
  simp only [h.ct, h.w, ← EReal.coe_mul, coe_sum]
  exact congrArg _ (Finset.sum_congr rfl fun j _ => congrArg (· * _) (row_at C (ix2 n j)).symm)

lemma at_dyg (n : Fin 8192) (l : Fin 1024) : val_main_v27 (F := Ideal) x3 x4 x6 (ix2 n l) = (((sumData H O Wo G W R C).dy n.val l * (sumData H O Wo G W R C).g l : ℝ) : EReal) := by
  pointwise [val_main_v27, val_main_v26, val_main_v17, val_main_v3]
  rw [at_dy h, h.g, ← EReal.coe_mul]
  rfl

lemma at_c (n : Fin 8192) : val_main_v38 (F := Ideal) x0 x1 x2 x3 x4 x6 (ix1 n)
    = (((∑ e, (sumData H O Wo G W R C).X n.val e * ((sumData H O Wo G W R C).dy n.val e * (sumData H O Wo G W R C).g e)) * (-(1 / 2) * (inv ((sumData H O Wo G W R C).X n.val) / ms ((sumData H O Wo G W R C).X n.val))) / 1024 : ℝ) : EReal) := by
  pointwise [val_main_v38, val_main_v37, val_main_v36, val_main_v35, val_main_v31, val_main_v30, val_main_v29, val_main_cst_5, val_main_cst_6, val_main_cst_7]
  simp only [at_x h, at_dyg h, at_slope h, ← EReal.coe_mul, coe_sum, size_f32, div_coe _ 1024 (by norm_num), Finset.univ_unique, Finset.sum_singleton]

lemma at_dx (n : Fin 8192) (l : Fin 1024) : val_main_v43 (F := Ideal) x0 x1 x2 x3 x4 x5 x6 (ix2 n l) = (((sumData H O Wo G W R C).dx n.val l : ℝ) : EReal) := by
  have hr : x5 (ix2 n l) = (((sumData H O Wo G W R C).R n.val l : ℝ) : EReal) := (h.r _).trans (congrArg _ (row_at R (ix2 n l)).symm)
  pointwise [val_main_v43, val_main_v42, val_main_v41, val_main_v40, val_main_v39, val_main_v34, val_main_v33, val_main_v32]
  simp only [at_x h, hr, at_dyg h, at_inv h, at_c h, ← EReal.coe_mul, ← EReal.coe_add]
  exact congrArg _ (back_rules ((sumData H O Wo G W R C).X n.val) (fun e => (sumData H O Wo G W R C).dy n.val e * (sumData H O Wo G W R C).g e) l ((sumData H O Wo G W R C).R n.val l))

lemma val_dx : val_main_v43 (F := Ideal) x0 x1 x2 x3 x4 x5 x6 = mat (sumData H O Wo G W R C).dxArr := by
  refine funext fun (y : S8192x1024.Idx) => ?_
  obtain ⟨n, l, rfl⟩ := Places.is2 y
  exact at_dx h n l

lemma val_do : val_main_v47 (F := Ideal) x0 x1 x2 x3 x4 x5 x6 = mat ((sumData H O Wo G W R C).dOutArr Wo) := by
  refine funext fun (y : S8192x1024.Idx) => ?_
  obtain ⟨n, l, rfl⟩ := Places.is2 y
  pointwise [val_main_v47, val_main_v46, val_main_v45, val_main_v0]
  simp only [at_dx h, h.wo, ← EReal.coe_mul, coe_sum]
  rfl

lemma val_dg : val_main_v44 (F := Ideal) x0 x1 x2 x4 x6 = mat (sumData H O Wo G W R C).dgArr := by
  refine funext fun (y : S1x1024.Idx) => ?_
  obtain ⟨o, l, rfl⟩ := Places.is2 y
  pointwise [val_main_v44, val_main_v28, val_main_v25, val_main_v24, val_main_v23, val_main_cst_3, val_main_cst_4]
  simp only [at_nrm h, at_dy h, ← EReal.coe_mul, coe_sum, Finset.univ_unique, Finset.sum_singleton]
  exact congrArg _ (Finset.sum_congr rfl fun n _ => mul_comm _ _)

end Cert.XqRefIdeal.Reading

end
-- ==== Proof.XqClaims.lean ====
/-
  The claims about the gradient of the cross-attention's input norm.
-/
module

public import proofs.«01_k».proof.Defs
public import proofs.«01_k».proof.Proof.Gen.Xq.Frame
public import proofs.«01_k».proof.Proof.Gen.Pre_xq_finite
public import proofs.«01_k».proof.Proof.XqRef

@[expose] public section

noncomputable section

namespace Cert.Proof.Xq

open Idealize.ShloMosaic TcCoe Idealize.SL.Sem
open Cert.Reals Cert.RowNorm

lemma frame : Cert.quiescent_Xq := fun m ρ _ => Cert.Xq.Gen.frame m ρ

lemma frame_ideal : Cert.quiescent_XqIdeal := fun m ρ _ => Cert.XqIdeal.Gen.frame m ρ

lemma frame_ref : Cert.quiescent_XqRefIdeal := fun m ρ _ =>
  (θ_run Cert.XqRefIdeal.defs _ _).mono
    (fun r h => ⟨fun c => (h c).2.2.2, sem_eq_zero_of_no_sems (by decide) r.2⟩)
    (Cert.XqRefIdeal.Value.run m ρ)

lemma frame_ideal_pre : Cert.quiescent_XqIdeal_pre_xq_finite := fun m ρ _ => Cert.XqIdeal.Gen.frame m ρ

lemma frame_ref_pre : Cert.quiescent_XqRefIdeal_pre_xq_finite := fun m ρ _ => frame_ref m ρ trivial

/-- Arrays that pass the precondition hold real numbers. -/
lemma finite_args (h o : FVec Ideal Cert.Pre_xq_finite.S8192x1024 .f32) (wo : FVec Ideal Cert.Pre_xq_finite.S1x1024x1024 .f32) (g : FVec Ideal Cert.Pre_xq_finite.S1x1024 .f32)
    (w : FVec Ideal Cert.Pre_xq_finite.S1x1024x1024 .f32) (r : FVec Ideal Cert.Pre_xq_finite.S8192x1024 .f32) (ct : FVec Ideal Cert.Pre_xq_finite.S8192x1024 .f32)
    (hp : Cert.Pre_xq_finite.fn h o wo g w r ct = fun _ => 1#1) :
    AllReal h ∧ AllReal o ∧ AllReal wo ∧ AllReal g ∧ AllReal w ∧ AllReal r ∧ AllReal ct := by
  have e := congrFun hp (fun i => i.elim0)
  dsimp only [Cert.Pre_xq_finite.fn, Cert.Pre_xq_finite.fn_part1] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  haveI : Subsingleton (Cert.Pre_xq_finite.S_).Idx := ⟨fun a b => funext fun i => i.elim0⟩
  exact ⟨allReal_of_test e1, allReal_of_test e2, allReal_of_test e3, allReal_of_test e4, allReal_of_test e5, allReal_of_test e6, allReal_of_test e7⟩

lemma algebraic : Cert.algebraic_XqIdeal_XqRefIdeal_pre_xq_finite := fun m ρ m' ρ' hpre hag => by
  choose hh ho hwo hg hw hr hct using fun c => finite_args _ _ _ _ _ _ _ (hpre c)
  choose H hh using hh
  choose O ho using ho
  choose Wo hwo using hwo
  choose G hg using hg
  choose W hw using hw
  choose R hr using hr
  choose C hct using hct
  have hk : ∀ c, Cert.XqIdeal.Reading.Args m c (H c) (O c) (Wo c) (G c) (W c) (R c) (C c) := fun c => ⟨hh c, ho c, hwo c, hg c, hw c, hr c, hct c⟩
  have hr' : ∀ c, Cert.XqRefIdeal.Reading.Args _ _ _ _ _ _ _ (H c) (O c) (Wo c) (G c) (W c) (R c) (C c) := fun c =>
    ⟨hh c, ho c, hwo c, hg c, hw c, hr c, hct c⟩
  exact ⟨fun c => mat (sumData (H c) (O c) (Wo c) (G c) (W c) (R c) (C c)).dxArr, fun c => mat ((sumData (H c) (O c) (Wo c) (G c) (W c) (R c) (C c)).dOutArr (Wo c)), fun c => mat (sumData (H c) (O c) (Wo c) (G c) (W c) (R c) (C c)).dgArr,
    (θ_run Cert.XqIdeal.defs _ _).mono
      (fun _ h c => ⟨(h c).1.trans (Cert.XqIdeal.Reading.final_dx (hk c)), (h c).2.1.trans (Cert.XqIdeal.Reading.final_do (hk c)),
        (h c).2.2.1.trans (Cert.XqIdeal.Reading.final_dg (hk c)), (h c).2.2.2⟩)
      (Cert.XqIdeal.Value.run_blocks m ρ),
    (θ_run Cert.XqRefIdeal.defs _ _).mono
      (fun _ h c => ⟨(h c).1.trans (by
          rw [Cert.XqRefIdeal.Read.val_main_v43_eq, (hag c).1, (hag c).2.1, (hag c).2.2.1, (hag c).2.2.2.1, (hag c).2.2.2.2.1, (hag c).2.2.2.2.2.1, (hag c).2.2.2.2.2.2]
          exact Cert.XqRefIdeal.Reading.val_dx (hr' c)), (h c).2.1.trans (by
          rw [Cert.XqRefIdeal.Read.val_main_v47_eq, (hag c).1, (hag c).2.1, (hag c).2.2.1, (hag c).2.2.2.1, (hag c).2.2.2.2.1, (hag c).2.2.2.2.2.1, (hag c).2.2.2.2.2.2]
          exact Cert.XqRefIdeal.Reading.val_do (hr' c)), (h c).2.2.1.trans (by
          rw [Cert.XqRefIdeal.Read.val_main_v44_eq, (hag c).1, (hag c).2.1, (hag c).2.2.1, (hag c).2.2.2.2.1, (hag c).2.2.2.2.2.2]
          exact Cert.XqRefIdeal.Reading.val_dg (hr' c)), (h c).2.2.2⟩)
      (Cert.XqRefIdeal.Value.run m' ρ')⟩

end Cert.Proof.Xq

end
-- ==== Proof.NormFwd.lean ====
/-
  The forward row norm and a product after it, of entries of any values, and blocks of rows.
-/
module

public import proofs.«01_k».proof.Proof.GainValue

@[expose] public section

noncomputable section

namespace Cert.NormFwd

open Idealize.ShloMosaic
open Cert.RowNorm (part)

/-- A row normed and multiplied by the gain. -/
def normed (x g : Fin 1024 → EReal) (l : Fin 1024) : EReal := Cert.Gain.scaled x l * g l
/-- A row times a matrix. -/
def times {k n : ℕ} (x : Fin k → EReal) (w : Fin k → Fin n → EReal) (j : Fin n) : EReal := ∑ l, x l * w l j
/-- Row `n` of an array. -/
def row {A B : ℕ} [NeZero A] (x : (⟨2, ![A, B]⟩ : Shape).Idx → EReal) (n : ℕ) (l : Fin B) : EReal := x (ix2 (Fin.ofNat A n) l)

variable {A B b N o : ℕ} {x v : (⟨2, ![A, B]⟩ : Shape).Idx → EReal} {f : ℕ → Fin B → EReal}

/-- A block holds rows `N`, `N + 1`, …. -/
def At (x : (⟨2, ![A, B]⟩ : Shape).Idx → EReal) (f : ℕ → Fin B → EReal) (N : ℕ) : Prop := ∀ r l, x (ix2 r l) = f (N + r.val) l

lemma At.rows (h : At x f N) (inb : ∀ i, (![o, 0] : Fin 2 → Nat) i + (![b, B] : Fin 2 → Nat) i ≤ (⟨2, ![A, B]⟩ : Shape).size i) :
    At (part b x o inb) f (N + o) := by
  intro r l
  have hr : o + r.val < A := lt_of_lt_of_le (Nat.add_lt_add_left r.isLt o) (inb 0)
  refine (congrArg x ((Places.emb2 inb r l).trans (Places.ext2 (y := ix2 ⟨o + r.val, hr⟩ l) rfl (Nat.zero_add _)))).trans ((h _ l).trans ?_)
  rw [Nat.add_assoc]

/-- A load of a whole block. -/
lemma whole (x : (⟨2, ![A, B]⟩ : Shape).Idx → EReal) (inb : ∀ i, (![0, 0] : Fin 2 → Nat) i + (![A, B] : Fin 2 → Nat) i ≤ (⟨2, ![A, B]⟩ : Shape).size i)
    (r : Fin A) (l : Fin B) : x ((Rect.unit (s := ⟨2, ![A, B]⟩) ![0, 0] ![A, B] inb).emb (ix2 r l)) = x (ix2 r l) :=
  congrArg x ((Places.emb2 inb r l).trans (Places.ext2 (y := ix2 r l) (Nat.zero_add _) (Nat.zero_add _)))

/-- The block of rows `N`, `N + 1`, …. -/
def blk (A : ℕ) (f : ℕ → Fin B → EReal) (N : ℕ) (z : (⟨2, ![A, B]⟩ : Shape).Idx) : EReal := f (N + (z 0).val) (z 1)

/-- A store of some rows. -/
lemma At.piece {v : (⟨2, ![b, B]⟩ : Shape).Idx → EReal} (h : At v f (N + o))
    (inb : ∀ i, (![o, 0] : Fin 2 → Nat) i + (![b, B] : Fin 2 → Nat) i ≤ (⟨2, ![A, B]⟩ : Shape).size i) (y : (⟨2, ![b, B]⟩ : Shape).Idx) :
    v y = blk A f N ((Rect.unit (s := ⟨2, ![A, B]⟩) ![o, 0] ![b, B] inb).emb y) := by
  obtain ⟨r, l, rfl⟩ := Places.is2 y
  exact (h r l).trans (At.rows (x := blk A f N) (fun _ _ => rfl) inb r l).symm

lemma row_of [NeZero A] (x : (⟨2, ![A, B]⟩ : Shape).Idx → EReal) (n : Fin A) (l : Fin B) : row x (0 + n.val) l = x (ix2 n l) :=
  congrArg x (Places.ext2 (by show (0 + n.val) % A = n.val; rw [Nat.zero_add, Nat.mod_eq_of_lt n.isLt]) rfl)

/-- An index lies in the block of rows of its row. -/
lemma mem_rows {off size : Fin 2 → ℕ} (inb : ∀ i, off i + size i ≤ (⟨2, ![A, B]⟩ : Shape).size i) (z : (⟨2, ![A, B]⟩ : Shape).Idx) {k : ℕ}
    (hs : size 0 = b) (hB : size 1 = B) (h0 : off 0 = k * b) (h1 : off 1 = 0) (hk : k = (z 0).val / b) (hb : 0 < b) :
    z ∈ (Rect.unit (s := ⟨2, ![A, B]⟩) off size inb).set := by
  rw [Rect.mem_set_unit]
  have hz : (z 1).val < B := (z 1).isLt
  refine Fin.forall_fin_two.2 ⟨?_, ?_⟩
  · rw [h0, hs, hk]
    exact ⟨Nat.div_mul_le_self _ _, Nat.lt_div_mul_add hb⟩
  · rw [h1, hB]
    exact ⟨Nat.zero_le _, by omega⟩

end Cert.NormFwd

end
-- ==== Proof.PfwdValue.lean ====
/-
  The mixer's input norm and its product: the call's results and the reference's, from arguments of any values.
-/
module

public import proofs.«01_k».proof.Proof.Gen.PfwdIdeal.Value
public import proofs.«01_k».proof.Proof.Gen.PfwdRefIdeal.Read
public import proofs.«01_k».proof.Proof.NormFwd

@[expose] public section

noncomputable section

namespace Cert.PfwdIdeal.Reading

open Cert.PfwdIdeal Gen Value
open Idealize.ShloMosaic TcCoe Idealize.SL.Sem
open Cert.NormFwd

lemma pay2_at (a : Vec Ideal S512x1024 .f32) (g : Vec Ideal S1x1024 .f32) (r : Fin 512) (l : Fin 1024) :
    k0_pay2 (F := Ideal) a g (ix2 r l) = normed (fun e => a (ix2 r e)) (fun e => g (ix2 0 e)) l := by
  unfold normed Cert.Gain.scaled
  pointwise [k0_pay2]

lemma pay1_at (v : FVec Ideal S512x1024 .bf16) (w : Vec Ideal S2560x1024 .bf16) (r : Fin 512) (j : Fin 2560) :
    k0_pay1 (F := Ideal) v w (ix2 r j) = times (fun l => v (ix2 r l)) (fun l j => w (ix2 j l)) j := by
  unfold times
  pointwise [k0_pay1]

section Block

variable {x0 : Vec Ideal S1024x1024 .f32} (x1 : Vec Ideal S1x1024 .f32) (x2 : Vec Ideal S2560x1024 .bf16) {f : ℕ → Fin 1024 → EReal} {N : ℕ}

abbrev nrm (f : ℕ → Fin 1024 → EReal) (n : ℕ) : Fin 1024 → EReal := normed (f n) fun e => x1 (ix2 0 e)

lemma half {o : ℕ} (h : At x0 f N) (inb : ∀ i, (![o, 0] : Fin 2 → Nat) i + (![512, 1024] : Fin 2 → Nat) i ≤ S1024x1024.size i) :
    At (k0_pay2 (F := Ideal) (View.ld x0 (Rect.unit (s := S1024x1024) ![o, 0] ![512, 1024] inb)) (View.ld x1 r0_1)) (nrm x1 f) (N + o) := by
  intro r l
  rw [pay2_at]
  exact congrFun (congrArg₂ normed (funext fun e => h.rows inb r e) (funext fun e => whole x1 _ 0 e)) l

lemma prod_at {v : FVec Ideal S512x1024 .bf16} {g : ℕ → Fin 1024 → EReal} {M : ℕ} (h : At v g M) :
    At (k0_pay1 (F := Ideal) v (View.ld x2 r0_3)) (fun n => times (g n) fun l j => x2 (ix2 j l)) M := by
  intro r j
  rw [pay1_at]
  exact congrFun (congrArg₂ times (funext fun e => h r e) (funext fun l => funext fun j => whole x2 _ j l)) j

lemma out4 (h : At x0 f N) : out0_4 x0 x1 x2 = blk 1024 (nrm x1 f) N := by
  refine funext fun y => ?_
  refine View.canon_apply_of_pieces (Val := Elt Ideal) (e := .bf16) (blk 1024 (nrm x1 f) N)
    [⟨r0_2, k0_pay2 (F := Ideal) (View.ld x0 r0_2) (View.ld x1 r0_1)⟩, ⟨r0_0, k0_pay2 (F := Ideal) (View.ld x0 r0_0) (View.ld x1 r0_1)⟩]
    (View.PiecesOf.mem ⟨(half x1 h _).piece (by decide), (half x1 (o := 0) h _).piece (by decide), trivial⟩) y (View.cover_of_tiledL _ ![512, 1024] (by sl_kernel_rfl) _)

lemma out3 (h : At x0 f N) : out0_3 x0 x1 x2 = blk 1024 (fun n => times (nrm x1 f n) fun l j => x2 (ix2 j l)) N := by
  refine funext fun y => ?_
  refine View.canon_apply_of_pieces (Val := Elt Ideal) (e := .bf16) (blk 1024 (fun n => times (nrm x1 f n) fun l j => x2 (ix2 j l)) N)
    [⟨r0_5, k0_pay1 (F := Ideal) (k0_pay2 (F := Ideal) (View.ld x0 r0_2) (View.ld x1 r0_1)) (View.ld x2 r0_3)⟩,
      ⟨r0_4, k0_pay1 (F := Ideal) (k0_pay2 (F := Ideal) (View.ld x0 r0_0) (View.ld x1 r0_1)) (View.ld x2 r0_3)⟩]
    (View.PiecesOf.mem ⟨(prod_at x2 (half x1 h _)).piece (by decide), (prod_at x2 (half x1 (o := 0) h _)).piece (by decide), trivial⟩) y
    (View.cover_of_tiledL _ ![512, 2560] (by sl_kernel_rfl) _)

end Block

lemma ix : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ win0_4.index t 0 = t.val ∧ win0_4.index t 1 = 0 := by
  change ∀ t : Fin grid0.N, _; decide +kernel

variable (m : (ℓ : Loc nD τ sig) → Buf (Elt Ideal) ℓ) (c : Dev nD)

abbrev aX : FVec Ideal S8192x1024 .f32 := m (c.tc.loc main_arg0)
abbrev aG : FVec Ideal S1x1024 .f32 := m (c.tc.loc main_arg1)
abbrev aW : FVec Ideal S1x1024x2560 .f32 := m (c.tc.loc main_arg2)

lemma w_at (x : FVec Ideal S1x1024x2560 .f32) (j : Fin 2560) (l : Fin 1024) :
    truncf (F := Ideal) (s := S2560x1024) .bf16 (transpose S2560x1024 [1, 0]
      (shapeCast S1024x2560 x shapeCasts_S1x1024x2560_S1024x2560) transposes_S1024x2560_S2560x1024_1_0) bitsLt_bf16_f32 (ix2 j l) = x (ix3 0 l j) := by
  pointwise

lemma blk_x (t : Fin cfg0.N) : At (A := 1024) (B := 1024) (iblk m c 0 t) (row (aX m c)) (1024 * t.val) := by
  intro r l
  have ht : t.val < 8 := lt_of_lt_of_eq t.isLt N_0
  refine Eq.trans (congrArg (V m c main_arg0) (Places.ext2 ?_ ?_)) (congrFun (V_main_arg0 m c) (ix2 ⟨(1024 * t.val + r.val) % 8192, Nat.mod_lt _ (by decide)⟩ l))
  · show win0_0.index t 0 * 1024 + 1 * r.val = (1024 * t.val + r.val) % 8192
    rw [(ix t).1.1]; omega
  · show win0_0.index t 1 * 1024 + 1 * l.val = l.val
    rw [(ix t).1.2]; omega

lemma blk_g (t : Fin cfg0.N) (e : Fin 1024) : (iblk m c 1 t : Vec Ideal S1x1024 .f32) (ix2 0 e) = aG m c (ix2 0 e) := by
  refine Eq.trans (congrArg (V m c main_arg1) (Places.ext2 (y := ix2 0 e) ?_ ?_)) (congrFun (V_main_arg1 m c) _)
  · exact congrArg Fin.val (Subsingleton.elim (α := Fin 1) _ 0)
  · show win0_1.index t 1 * 1024 + 1 * e.val = e.val
    rw [(ix t).2.1.2]; omega

lemma blk_w (t : Fin cfg0.N) (j : Fin 2560) (l : Fin 1024) : (iblk m c 2 t : Vec Ideal S2560x1024 .bf16) (ix2 j l) = aW m c (ix3 0 l j) := by
  have e : V m c main_v2 = truncf (F := Ideal) (s := S2560x1024) .bf16 (transpose S2560x1024 [1, 0]
      (shapeCast S1024x2560 (aW m c) shapeCasts_S1x1024x2560_S1024x2560) transposes_S1024x2560_S2560x1024_1_0) bitsLt_bf16_f32 := by
    unfold V hostOps0; after_results; rfl
  refine Eq.trans (congrArg (V m c main_v2) (Places.ext2 (y := ix2 j l) ?_ ?_)) ((congrFun e _).trans (w_at _ j l))
  · show win0_2.index t 0 * 2560 + 1 * j.val = j.val
    rw [(ix t).2.2.1.1]; omega
  · show win0_2.index t 1 * 1024 + 1 * l.val = l.val
    rw [(ix t).2.2.1.2]; omega

/-- The normed rows. -/
abbrev ys (x : FVec Ideal S8192x1024 .f32) (g : FVec Ideal S1x1024 .f32) (n : ℕ) : Fin 1024 → EReal := normed (row x n) fun e => g (ix2 0 e)
/-- Their product with the weights. -/
abbrev ps (x : FVec Ideal S8192x1024 .f32) (g : FVec Ideal S1x1024 .f32) (w : FVec Ideal S1x1024x2560 .f32) (n : ℕ) : Fin 2560 → EReal :=
  times (ys x g n) fun l j => w (ix3 0 l j)

lemma nrm_eq (t : Fin cfg0.N) : nrm (iblk m c 1 t) (row (aX m c)) = ys (aX m c) (aG m c) :=
  funext fun n => congrArg (normed (row (aX m c) n)) (funext fun e => blk_g m c t e)

lemma final_y : (dats m 0 c).arrAt 4 cfg0.N = blk 8192 (ys (aX m c) (aG m c)) 0 := by
  refine (dats m 0 c).arrAt_eq_of_cover 4 _ (fun t _ => ?_) fun (i : S8192x1024.Idx) => ?_
  · rw [flushed4, out4 _ _ (blk_x m c t), nrm_eq]
    refine funext fun (y : S1024x1024.Idx) => ?_
    refine congrArg₂ (ys (aX m c) (aG m c)) ?_ (Fin.ext ?_)
    · show 1024 * t.val + (y 0).val = 0 + (win0_4.index t 0 * 1024 + 1 * (y 0).val)
      rw [(ix t).2.2.2.2.1]; omega
    · show (y 1).val = win0_4.index t 1 * 1024 + 1 * (y 1).val
      rw [(ix t).2.2.2.2.2]; omega
  · have h0 : (i 0 : Nat) < 8192 := (i 0).isLt
    have hN : cfg0.N = 8 := N_0
    obtain ⟨t, ht⟩ : ∃ t : Fin cfg0.N, t.val = (i 0 : Nat) / 1024 := ⟨⟨(i 0 : Nat) / 1024, by omega⟩, rfl⟩
    refine ⟨t, flush0_4 t, ?_⟩
    show i ∈ ((View.whole main_v3_1).slice (win0_4.rect t)).set
    rw [View.set_slice_whole]
    exact mem_rows (b := 1024) _ i rfl rfl (congrArg (· * 1024) (ix t).2.2.2.2.1) ((congrArg (· * 1024) (ix t).2.2.2.2.2).trans (Nat.zero_mul _)) ht (by decide)

lemma final_p : (dats m 0 c).arrAt 3 cfg0.N = blk 8192 (ps (aX m c) (aG m c) (aW m c)) 0 := by
  refine (dats m 0 c).arrAt_eq_of_cover 3 _ (fun t _ => ?_) fun (i : S8192x2560.Idx) => ?_
  · rw [flushed3, out3 _ _ (blk_x m c t), nrm_eq]
    simp only [blk_w]
    refine funext fun (y : S1024x2560.Idx) => ?_
    refine congrArg₂ (ps (aX m c) (aG m c) (aW m c)) ?_ (Fin.ext ?_)
    · show 1024 * t.val + (y 0).val = 0 + (win0_3.index t 0 * 1024 + 1 * (y 0).val)
      rw [(ix t).2.2.2.1.1]; omega
    · show (y 1).val = win0_3.index t 1 * 2560 + 1 * (y 1).val
      rw [(ix t).2.2.2.1.2]; omega
  · have h0 : (i 0 : Nat) < 8192 := (i 0).isLt
    have hN : cfg0.N = 8 := N_0
    obtain ⟨t, ht⟩ : ∃ t : Fin cfg0.N, t.val = (i 0 : Nat) / 1024 := ⟨⟨(i 0 : Nat) / 1024, by omega⟩, rfl⟩
    refine ⟨t, flush0_3 t, ?_⟩
    show i ∈ ((View.whole main_v3_0).slice (win0_3.rect t)).set
    rw [View.set_slice_whole]
    exact mem_rows (b := 1024) _ i rfl rfl (congrArg (· * 1024) (ix t).2.2.2.1.1) ((congrArg (· * 2560) (ix t).2.2.2.1.2).trans (Nat.zero_mul _)) ht (by decide)

end Cert.PfwdIdeal.Reading

namespace Cert.PfwdRefIdeal.Reading

open Cert.PfwdRefIdeal Gen Read
open Idealize.ShloMosaic
open Cert.NormFwd
open Cert.PfwdIdeal.Reading (ys ps)

variable (x : FVec Ideal S8192x1024 .f32) (g : FVec Ideal S1x1024 .f32) (w : FVec Ideal S1x1024x2560 .f32)

lemma at_y (n : Fin 8192) (l : Fin 1024) : val_main_v13 (F := Ideal) x g (ix2 n l) = ys x g (0 + n.val) l := by
  unfold ys normed Cert.Gain.scaled
  simp only [row_of]
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

lemma val_y : val_main_v17 (F := Ideal) x g = blk 8192 (ys x g) 0 := funext fun (z : S8192x1024.Idx) => by
  obtain ⟨n, l, rfl⟩ := Places.is2 z
  exact at_y x g n l

lemma val_p : val_main_v16 (F := Ideal) x g w = blk 8192 (ps x g w) 0 := funext fun (z : S8192x2560.Idx) => by
  obtain ⟨n, j, rfl⟩ := Places.is2 z
  pointwise [val_main_v16, val_main_v15, val_main_v14]
  exact Finset.sum_congr rfl fun l _ => congrArg (· * _) (at_y x g n l)

end Cert.PfwdRefIdeal.Reading

end
-- ==== Proof.PfwdClaims.lean ====
/-
  The claims about the mixer's input norm and its product.
-/
module

public import proofs.«01_k».proof.Defs
public import proofs.«01_k».proof.Proof.Gen.Pfwd.Frame
public import proofs.«01_k».proof.Proof.PfwdValue

@[expose] public section

noncomputable section

namespace Cert.Proof.Pfwd

open Idealize.ShloMosaic TcCoe Idealize.SL.Sem

lemma frame : Cert.quiescent_Pfwd := fun m ρ _ => Cert.Pfwd.Gen.frame m ρ

lemma frame_ideal : Cert.quiescent_PfwdIdeal := fun m ρ _ => Cert.PfwdIdeal.Gen.frame m ρ

lemma frame_ref : Cert.quiescent_PfwdRefIdeal := fun m ρ _ =>
  (θ_run Cert.PfwdRefIdeal.defs _ _).mono
    (fun r h => ⟨fun c => (h c).2.2, sem_eq_zero_of_no_sems (by decide) r.2⟩)
    (Cert.PfwdRefIdeal.Value.run m ρ)

lemma algebraic : Cert.algebraic_PfwdIdeal_PfwdRefIdeal := fun m ρ m' ρ' _ hag =>
  ⟨_, _, (θ_run Cert.PfwdIdeal.defs _ _).mono
      (fun _ h c => ⟨(h c).1.trans (Cert.PfwdIdeal.Reading.final_p m c), (h c).2.1.trans (Cert.PfwdIdeal.Reading.final_y m c), (h c).2.2⟩)
      (Cert.PfwdIdeal.Value.run_blocks m ρ),
    (θ_run Cert.PfwdRefIdeal.defs _ _).mono
      (fun _ h c => ⟨(h c).1.trans (by
          rw [Cert.PfwdRefIdeal.Read.val_main_v16_eq, (hag c).1, (hag c).2.1, (hag c).2.2, Cert.PfwdRefIdeal.Reading.val_p]), (h c).2.1.trans (by
          rw [Cert.PfwdRefIdeal.Read.val_main_v17_eq, (hag c).1, (hag c).2.1, Cert.PfwdRefIdeal.Reading.val_y]), (h c).2.2⟩)
      (Cert.PfwdRefIdeal.Value.run m' ρ')⟩

end Cert.Proof.Pfwd

end
-- ==== Proof.HfwdValue.lean ====
/-
  The cross-attention's input norm and the products around it: the call's results and the reference's, from arguments of any values.
-/
module

public import proofs.«01_k».proof.Proof.Gen.HfwdIdeal.Value
public import proofs.«01_k».proof.Proof.Gen.HfwdRefIdeal.Read
public import proofs.«01_k».proof.Proof.NormFwd

@[expose] public section

noncomputable section

namespace Cert.HfwdIdeal.Reading

open Cert.HfwdIdeal Gen Value
open Idealize.ShloMosaic TcCoe Idealize.SL.Sem
open Cert.NormFwd
open Cert.RowNorm (part)

lemma pay4_at (a : Vec Ideal S512x1024 .bf16) (w : Vec Ideal S1024x1024 .bf16) (r : Fin 512) (l : Fin 1024) :
    k0_pay4 a w (ix2 r l) = times (fun e => a (ix2 r e)) (fun e l => w (ix2 e l)) l := by
  unfold times
  pointwise [k0_pay4]

lemma pay2_at (p : FVec Ideal S512x1024 .f32) (a : Vec Ideal S512x1024 .f32) (g : Vec Ideal S1x1024 .f32) (r : Fin 512) (l : Fin 1024) :
    k0_pay2 p a g (ix2 r l) = normed (fun e => k0_pay1 p a (ix2 r e)) (fun e => g (ix2 0 e)) l := by
  unfold normed Cert.Gain.scaled
  pointwise [k0_pay2]

lemma pay3_at (p : FVec Ideal S512x1024 .f32) (a : Vec Ideal S512x1024 .f32) (g : Vec Ideal S1x1024 .f32) (w : Vec Ideal S1024x1024 .bf16) (r : Fin 512) (j : Fin 1024) :
    k0_pay3 p a g w (ix2 r j) = times (fun l => k0_pay2 p a g (ix2 r l)) (fun l j => w (ix2 l j)) j := by
  unfold times
  pointwise [k0_pay3]

section Block

variable {x0 : Vec Ideal S1024x1024 .bf16} (x1 : Vec Ideal S1024x1024 .bf16) {x2 : Vec Ideal S1024x1024 .f32} (x3 : Vec Ideal S1x1024 .f32) (x4 : Vec Ideal S1024x1024 .bf16)
  {f a : ℕ → Fin 1024 → EReal} {N : ℕ}

/-- The stream after the product, its norm, and the norm's product. -/
abbrev hs (f a : ℕ → Fin 1024 → EReal) (n : ℕ) (l : Fin 1024) : EReal := f n l + times (a n) (fun e l => x1 (ix2 e l)) l
abbrev nrm (f a : ℕ → Fin 1024 → EReal) (n : ℕ) : Fin 1024 → EReal := normed (hs x1 f a n) fun e => x3 (ix2 0 e)
abbrev prd (f a : ℕ → Fin 1024 → EReal) (n : ℕ) : Fin 1024 → EReal := times (nrm x1 x3 f a n) fun l j => x4 (ix2 l j)

/-- The same of a half of the block's rows. -/
abbrev q5 (a : Vec Ideal S512x1024 .bf16) (b : Vec Ideal S512x1024 .f32) := k0_pay1 (k0_pay4 a (View.ld x1 r0_1)) b
abbrev q7 (a : Vec Ideal S512x1024 .bf16) (b : Vec Ideal S512x1024 .f32) := k0_pay2 (k0_pay4 a (View.ld x1 r0_1)) b (View.ld x3 r0_3)
abbrev q6 (a : Vec Ideal S512x1024 .bf16) (b : Vec Ideal S512x1024 .f32) := k0_pay3 (k0_pay4 a (View.ld x1 r0_1)) b (View.ld x3 r0_3) (View.ld x4 r0_1)

section Half

variable {o : ℕ} (h : At x2 f N) (ha : At x0 a N) (inb : ∀ i, (![o, 0] : Fin 2 → Nat) i + (![512, 1024] : Fin 2 → Nat) i ≤ S1024x1024.size i)
include h ha

lemma half5 : At (q5 x1 (part 512 x0 o inb) (part 512 x2 o inb)) (hs x1 f a) (N + o) := by
  intro r l
  refine congrArg₂ (· + ·) (h.rows inb r l) ((pay4_at _ _ r l).trans ?_)
  exact congrFun (congrArg₂ times (funext (ha.rows inb r)) (funext fun e => funext fun l => whole x1 _ e l)) l

lemma half7 : At (q7 x1 x3 (part 512 x0 o inb) (part 512 x2 o inb)) (nrm x1 x3 f a) (N + o) := by
  intro r l
  refine (pay2_at _ _ _ r l).trans ?_
  exact congrFun (congrArg₂ normed (funext (half5 x1 h ha inb r)) (funext fun e => whole x3 _ 0 e)) l

lemma half6 : At (q6 x1 x3 x4 (part 512 x0 o inb) (part 512 x2 o inb)) (prd x1 x3 x4 f a) (N + o) := by
  intro r j
  refine (pay3_at _ _ _ _ r j).trans ?_
  exact congrFun (congrArg₂ times (funext (half7 x1 x3 h ha inb r)) (funext fun l => funext fun j => whole x4 _ l j)) j

end Half

variable (h : At x2 f N) (ha : At x0 a N)
include h ha

lemma out5 : out0_5 x0 x1 x2 x3 x4 = blk 1024 (hs x1 f a) N := by
  refine funext fun y => ?_
  refine View.canon_apply_of_pieces (Val := Elt Ideal) (e := .f32) (blk 1024 (hs x1 f a) N)
    [⟨r0_2, q5 x1 (View.ld x0 r0_2) (View.ld x2 r0_2)⟩,
      ⟨r0_0, q5 x1 (View.ld x0 r0_0) (View.ld x2 r0_0)⟩]
    (View.PiecesOf.mem ⟨(half5 x1 h ha _).piece (by decide), (half5 x1 (o := 0) h ha _).piece (by decide), trivial⟩) y
    (View.cover_of_tiledL _ ![512, 1024] (by sl_kernel_rfl) _)

lemma out6 : out0_6 x0 x1 x2 x3 x4 = blk 1024 (prd x1 x3 x4 f a) N := by
  refine funext fun y => ?_
  refine View.canon_apply_of_pieces (Val := Elt Ideal) (e := .bf16) (blk 1024 (prd x1 x3 x4 f a) N)
    [⟨r0_2, q6 x1 x3 x4 (View.ld x0 r0_2) (View.ld x2 r0_2)⟩,
      ⟨r0_0, q6 x1 x3 x4 (View.ld x0 r0_0) (View.ld x2 r0_0)⟩]
    (View.PiecesOf.mem ⟨(half6 x1 x3 x4 h ha _).piece (by decide), (half6 x1 x3 x4 (o := 0) h ha _).piece (by decide), trivial⟩) y
    (View.cover_of_tiledL _ ![512, 1024] (by sl_kernel_rfl) _)

lemma out7 : out0_7 x0 x1 x2 x3 x4 = blk 1024 (nrm x1 x3 f a) N := by
  refine funext fun y => ?_
  refine View.canon_apply_of_pieces (Val := Elt Ideal) (e := .bf16) (blk 1024 (nrm x1 x3 f a) N)
    [⟨r0_2, q7 x1 x3 (View.ld x0 r0_2) (View.ld x2 r0_2)⟩,
      ⟨r0_0, q7 x1 x3 (View.ld x0 r0_0) (View.ld x2 r0_0)⟩]
    (View.PiecesOf.mem ⟨(half7 x1 x3 h ha _).piece (by decide), (half7 x1 x3 (o := 0) h ha _).piece (by decide), trivial⟩) y
    (View.cover_of_tiledL _ ![512, 1024] (by sl_kernel_rfl) _)

end Block

lemma ix : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 1 = 0 ∧ (win0_4.index t 0 = 0 ∧ win0_4.index t 1 = 0)
    ∧ (win0_5.index t 0 = t.val ∧ win0_5.index t 1 = 0) ∧ (win0_6.index t 0 = t.val ∧ win0_6.index t 1 = 0)
    ∧ win0_7.index t 0 = t.val ∧ win0_7.index t 1 = 0 := by
  change ∀ t : Fin grid0.N, _; decide +kernel

variable (m : (ℓ : Loc nD τ sig) → Buf (Elt Ideal) ℓ) (c : Dev nD)

abbrev aX : FVec Ideal S8192x1024 .f32 := m (c.tc.loc main_arg0)
abbrev aA : FVec Ideal S8192x1024 .f32 := m (c.tc.loc main_arg1)
abbrev aO : FVec Ideal S1x1024x1024 .f32 := m (c.tc.loc main_arg2)
abbrev aG : FVec Ideal S1x1024 .f32 := m (c.tc.loc main_arg3)
abbrev aW : FVec Ideal S1x1024x1024 .f32 := m (c.tc.loc main_arg4)

lemma o_at (x : FVec Ideal S1x1024x1024 .f32) (e l : Fin 1024) :
    truncf (s := S1024x1024) .bf16 (shapeCast S1024x1024 x shapeCasts_S1x1024x1024_S1024x1024) bitsLt_bf16_f32 (ix2 e l) = x (ix3 0 e l) := by
  pointwise

lemma w_at (x : FVec Ideal S1x1024x1024 .f32) (l : Fin 1024) (j : Fin 1024) :
    truncf (s := S1024x1024) .bf16 (shapeCast S1024x1024 x shapeCasts_S1x1024x1024_S1024x1024) bitsLt_bf16_f32 (ix2 l j) = x (ix3 0 l j) := by
  pointwise

lemma blk_x (t : Fin cfg0.N) : At (A := 1024) (B := 1024) (iblk m c 2 t) (row (aX m c)) (1024 * t.val) := by
  intro r l
  have ht : t.val < 8 := lt_of_lt_of_eq t.isLt N_0
  refine Eq.trans (congrArg (V m c main_arg0) (Places.ext2 ?_ ?_)) (congrFun (V_main_arg0 m c) (ix2 (Fin.ofNat 8192 (1024 * t.val + r.val)) l))
  · show win0_2.index t 0 * 1024 + 1 * r.val = (1024 * t.val + r.val) % 8192
    rw [(ix t).2.2.1.1]; omega
  · show win0_2.index t 1 * 1024 + 1 * l.val = l.val
    rw [(ix t).2.2.1.2]; omega

lemma blk_a (t : Fin cfg0.N) : At (A := 1024) (B := 1024) (iblk m c 0 t) (row (aA m c)) (1024 * t.val) := by
  intro r l
  have ht : t.val < 8 := lt_of_lt_of_eq t.isLt N_0
  have e : V m c main_v2 = truncf (s := S8192x1024) .bf16 (aA m c) bitsLt_bf16_f32 := by
    unfold V hostOps0; after_results
  refine Eq.trans (congrArg (V m c main_v2) (Places.ext2 ?_ ?_)) (congrFun e (ix2 (Fin.ofNat 8192 (1024 * t.val + r.val)) l))
  · show win0_0.index t 0 * 1024 + 1 * r.val = (1024 * t.val + r.val) % 8192
    rw [(ix t).1.1]; omega
  · show win0_0.index t 1 * 1024 + 1 * l.val = l.val
    rw [(ix t).1.2]; omega

lemma blk_o (t : Fin cfg0.N) (k l : Fin 1024) : (iblk m c 1 t : Vec Ideal S1024x1024 .bf16) (ix2 k l) = aO m c (ix3 0 k l) := by
  have e : V m c main_v4 = truncf (s := S1024x1024) .bf16 (shapeCast S1024x1024 (aO m c) shapeCasts_S1x1024x1024_S1024x1024) bitsLt_bf16_f32 := by
    unfold V hostOps0; after_results; rfl
  refine Eq.trans (congrArg (V m c main_v4) (Places.ext2 (y := ix2 k l) ?_ ?_)) ((congrFun e _).trans (o_at _ k l))
  · show win0_1.index t 0 * 1024 + 1 * k.val = k.val
    rw [(ix t).2.1.1]; omega
  · show win0_1.index t 1 * 1024 + 1 * l.val = l.val
    rw [(ix t).2.1.2]; omega

lemma blk_g (t : Fin cfg0.N) (e : Fin 1024) : (iblk m c 3 t : Vec Ideal S1x1024 .f32) (ix2 0 e) = aG m c (ix2 0 e) := by
  refine Eq.trans (congrArg (V m c main_arg3) (Places.ext2 (y := ix2 0 e) ?_ ?_)) (congrFun (V_main_arg3 m c) _)
  · exact congrArg Fin.val (Subsingleton.elim (α := Fin 1) _ 0)
  · show win0_3.index t 1 * 1024 + 1 * e.val = e.val
    rw [(ix t).2.2.2.1]; omega

lemma blk_w (t : Fin cfg0.N) (l : Fin 1024) (j : Fin 1024) : (iblk m c 4 t : Vec Ideal S1024x1024 .bf16) (ix2 l j) = aW m c (ix3 0 l j) := by
  have e : V m c main_v1 = truncf (s := S1024x1024) .bf16 (shapeCast S1024x1024 (aW m c) shapeCasts_S1x1024x1024_S1024x1024) bitsLt_bf16_f32 := by
    unfold V hostOps0; after_results; rfl
  refine Eq.trans (congrArg (V m c main_v1) (Places.ext2 (y := ix2 l j) ?_ ?_)) ((congrFun e _).trans (w_at _ l j))
  · show win0_4.index t 0 * 1024 + 1 * l.val = l.val
    rw [(ix t).2.2.2.2.1.1]; omega
  · show win0_4.index t 1 * 1024 + 1 * j.val = j.val
    rw [(ix t).2.2.2.2.1.2]; omega

/-! ## The results -/

abbrev hv (x a : FVec Ideal S8192x1024 .f32) (o : FVec Ideal S1x1024x1024 .f32) (n : ℕ) (l : Fin 1024) : EReal :=
  row x n l + times (row a n) (fun e l => o (ix3 0 e l)) l
abbrev yv (x a : FVec Ideal S8192x1024 .f32) (o : FVec Ideal S1x1024x1024 .f32) (g : FVec Ideal S1x1024 .f32) (n : ℕ) : Fin 1024 → EReal :=
  normed (hv x a o n) fun e => g (ix2 0 e)
abbrev pv (x a : FVec Ideal S8192x1024 .f32) (o : FVec Ideal S1x1024x1024 .f32) (g : FVec Ideal S1x1024 .f32) (w : FVec Ideal S1x1024x1024 .f32) (n : ℕ) :
    Fin 1024 → EReal := times (yv x a o g n) fun l j => w (ix3 0 l j)

lemma hs_eq (t : Fin cfg0.N) : hs (iblk m c 1 t) (row (aX m c)) (row (aA m c)) = hv (aX m c) (aA m c) (aO m c) :=
  funext fun n => funext fun l => congrArg (row (aX m c) n l + times (row (aA m c) n) · l) (funext fun e => funext fun l => blk_o m c t e l)

lemma nrm_eq (t : Fin cfg0.N) : nrm (iblk m c 1 t) (iblk m c 3 t) (row (aX m c)) (row (aA m c)) = yv (aX m c) (aA m c) (aO m c) (aG m c) :=
  funext fun n => congrArg₂ normed (congrFun (hs_eq m c t) n) (funext fun e => blk_g m c t e)

lemma prd_eq (t : Fin cfg0.N) : prd (iblk m c 1 t) (iblk m c 3 t) (iblk m c 4 t) (row (aX m c)) (row (aA m c))
    = pv (aX m c) (aA m c) (aO m c) (aG m c) (aW m c) :=
  funext fun n => congrArg₂ times (congrFun (nrm_eq m c t) n) (funext fun l => funext fun j => blk_w m c t l j)

lemma final_h : (dats m 0 c).arrAt 5 cfg0.N = blk 8192 (hv (aX m c) (aA m c) (aO m c)) 0 := by
  refine (dats m 0 c).arrAt_eq_of_cover 5 _ (fun t _ => ?_) fun (i : S8192x1024.Idx) => ?_
  · rw [flushed5, out5 _ _ _ (blk_x m c t) (blk_a m c t), hs_eq]
    refine funext fun (y : S1024x1024.Idx) => congrArg₂ (hv (aX m c) (aA m c) (aO m c)) ?_ (Fin.ext ?_)
    · show 1024 * t.val + (y 0).val = 0 + (win0_5.index t 0 * 1024 + 1 * (y 0).val)
      rw [(ix t).2.2.2.2.2.1.1]; omega
    · show (y 1).val = win0_5.index t 1 * 1024 + 1 * (y 1).val
      rw [(ix t).2.2.2.2.2.1.2]; omega
  · have h0 : (i 0 : Nat) < 8192 := (i 0).isLt
    have hN : cfg0.N = 8 := N_0
    obtain ⟨t, ht⟩ : ∃ t : Fin cfg0.N, t.val = (i 0 : Nat) / 1024 := ⟨⟨(i 0 : Nat) / 1024, by omega⟩, rfl⟩
    refine ⟨t, flush0_5 t, ?_⟩
    show i ∈ ((View.whole main_v5_0).slice (win0_5.rect t)).set
    rw [View.set_slice_whole]
    exact mem_rows (b := 1024) _ i rfl rfl (congrArg (· * 1024) (ix t).2.2.2.2.2.1.1) ((congrArg (· * 1024) (ix t).2.2.2.2.2.1.2).trans (Nat.zero_mul _)) ht (by decide)

lemma final_p : (dats m 0 c).arrAt 6 cfg0.N = blk 8192 (pv (aX m c) (aA m c) (aO m c) (aG m c) (aW m c)) 0 := by
  refine (dats m 0 c).arrAt_eq_of_cover 6 _ (fun t _ => ?_) fun (i : S8192x1024.Idx) => ?_
  · rw [flushed6, out6 _ _ _ (blk_x m c t) (blk_a m c t), prd_eq]
    refine funext fun (y : S1024x1024.Idx) => congrArg₂ (pv (aX m c) (aA m c) (aO m c) (aG m c) (aW m c)) ?_ (Fin.ext ?_)
    · show 1024 * t.val + (y 0).val = 0 + (win0_6.index t 0 * 1024 + 1 * (y 0).val)
      rw [(ix t).2.2.2.2.2.2.1.1]; omega
    · show (y 1).val = win0_6.index t 1 * 1024 + 1 * (y 1).val
      rw [(ix t).2.2.2.2.2.2.1.2]; omega
  · have h0 : (i 0 : Nat) < 8192 := (i 0).isLt
    have hN : cfg0.N = 8 := N_0
    obtain ⟨t, ht⟩ : ∃ t : Fin cfg0.N, t.val = (i 0 : Nat) / 1024 := ⟨⟨(i 0 : Nat) / 1024, by omega⟩, rfl⟩
    refine ⟨t, flush0_6 t, ?_⟩
    show i ∈ ((View.whole main_v5_1).slice (win0_6.rect t)).set
    rw [View.set_slice_whole]
    exact mem_rows (b := 1024) _ i rfl rfl (congrArg (· * 1024) (ix t).2.2.2.2.2.2.1.1) ((congrArg (· * 1024) (ix t).2.2.2.2.2.2.1.2).trans (Nat.zero_mul _)) ht (by decide)

lemma final_y : (dats m 0 c).arrAt 7 cfg0.N = blk 8192 (yv (aX m c) (aA m c) (aO m c) (aG m c)) 0 := by
  refine (dats m 0 c).arrAt_eq_of_cover 7 _ (fun t _ => ?_) fun (i : S8192x1024.Idx) => ?_
  · rw [flushed7, out7 _ _ _ (blk_x m c t) (blk_a m c t), nrm_eq]
    refine funext fun (y : S1024x1024.Idx) => congrArg₂ (yv (aX m c) (aA m c) (aO m c) (aG m c)) ?_ (Fin.ext ?_)
    · show 1024 * t.val + (y 0).val = 0 + (win0_7.index t 0 * 1024 + 1 * (y 0).val)
      rw [(ix t).2.2.2.2.2.2.2.1]; omega
    · show (y 1).val = win0_7.index t 1 * 1024 + 1 * (y 1).val
      rw [(ix t).2.2.2.2.2.2.2.2]; omega
  · have h0 : (i 0 : Nat) < 8192 := (i 0).isLt
    have hN : cfg0.N = 8 := N_0
    obtain ⟨t, ht⟩ : ∃ t : Fin cfg0.N, t.val = (i 0 : Nat) / 1024 := ⟨⟨(i 0 : Nat) / 1024, by omega⟩, rfl⟩
    refine ⟨t, flush0_7 t, ?_⟩
    show i ∈ ((View.whole main_v5_2).slice (win0_7.rect t)).set
    rw [View.set_slice_whole]
    exact mem_rows (b := 1024) _ i rfl rfl (congrArg (· * 1024) (ix t).2.2.2.2.2.2.2.1) ((congrArg (· * 1024) (ix t).2.2.2.2.2.2.2.2).trans (Nat.zero_mul _)) ht (by decide)

end Cert.HfwdIdeal.Reading

namespace Cert.HfwdRefIdeal.Reading

open Cert.HfwdRefIdeal Gen Read
open Idealize.ShloMosaic
open Cert.NormFwd
open Cert.HfwdIdeal.Reading (hv yv pv)

variable (x a : FVec Ideal S8192x1024 .f32) (o : FVec Ideal S1x1024x1024 .f32) (g : FVec Ideal S1x1024 .f32) (w : FVec Ideal S1x1024x1024 .f32)

lemma at_h (n : Fin 8192) (l : Fin 1024) : val_main_v2 (F := Ideal) x a o (ix2 n l) = hv x a o (0 + n.val) l := by
  unfold hv times
  simp only [row_of]
  pointwise [val_main_v2, val_main_v1, val_main_v0]

lemma at_y (n : Fin 8192) (l : Fin 1024) : val_main_v16 (F := Ideal) x a o g (ix2 n l) = yv x a o g (0 + n.val) l := by
  unfold yv normed Cert.Gain.scaled
  simp only [← at_h]
  pointwise [val_main_v16, val_main_v15, val_main_v14, val_main_v13, val_main_v12, val_main_v11, val_main_v10, val_main_v9, val_main_v8, val_main_v7,
    val_main_v6, val_main_v5, val_main_v4, val_main_v3, val_main_cst, val_main_cst_0, val_main_cst_1]

lemma val_h : val_main_v2 (F := Ideal) x a o = blk 8192 (hv x a o) 0 := funext fun (z : S8192x1024.Idx) => by
  obtain ⟨n, l, rfl⟩ := Places.is2 z
  exact at_h x a o n l

lemma val_y : val_main_v20 (F := Ideal) x a o g = blk 8192 (yv x a o g) 0 := funext fun (z : S8192x1024.Idx) => by
  obtain ⟨n, l, rfl⟩ := Places.is2 z
  exact at_y x a o g n l

lemma val_p : val_main_v19 (F := Ideal) x a o g w = blk 8192 (pv x a o g w) 0 := funext fun (z : S8192x1024.Idx) => by
  obtain ⟨n, j, rfl⟩ := Places.is2 z
  pointwise [val_main_v19, val_main_v18, val_main_v17]
  exact Finset.sum_congr rfl fun l _ => congrArg (· * _) (at_y x a o g n l)

end Cert.HfwdRefIdeal.Reading

end
-- ==== Proof.HfwdClaims.lean ====
/-
  The claims about the cross-attention's input norm and the products around it.
-/
module

public import proofs.«01_k».proof.Defs
public import proofs.«01_k».proof.Proof.Gen.Hfwd.Frame
public import proofs.«01_k».proof.Proof.HfwdValue

@[expose] public section

noncomputable section

namespace Cert.Proof.Hfwd

open Idealize.ShloMosaic TcCoe Idealize.SL.Sem

lemma frame : Cert.quiescent_Hfwd := fun m ρ _ => Cert.Hfwd.Gen.frame m ρ

lemma frame_ideal : Cert.quiescent_HfwdIdeal := fun m ρ _ => Cert.HfwdIdeal.Gen.frame m ρ

lemma frame_ref : Cert.quiescent_HfwdRefIdeal := fun m ρ _ =>
  (θ_run Cert.HfwdRefIdeal.defs _ _).mono
    (fun r h => ⟨fun c => (h c).2.2.2, sem_eq_zero_of_no_sems (by decide) r.2⟩)
    (Cert.HfwdRefIdeal.Value.run m ρ)

lemma algebraic : Cert.algebraic_HfwdIdeal_HfwdRefIdeal := fun m ρ m' ρ' _ hag =>
  ⟨_, _, _, (θ_run Cert.HfwdIdeal.defs _ _).mono
      (fun _ h c => ⟨(h c).1.trans (Cert.HfwdIdeal.Reading.final_h m c), (h c).2.1.trans (Cert.HfwdIdeal.Reading.final_p m c),
        (h c).2.2.1.trans (Cert.HfwdIdeal.Reading.final_y m c), (h c).2.2.2⟩)
      (Cert.HfwdIdeal.Value.run_blocks m ρ),
    (θ_run Cert.HfwdRefIdeal.defs _ _).mono
      (fun _ h c => ⟨(h c).1.trans (by
          rw [Cert.HfwdRefIdeal.Read.val_main_v2_eq, (hag c).1, (hag c).2.1, (hag c).2.2.1, Cert.HfwdRefIdeal.Reading.val_h]), (h c).2.1.trans (by
          rw [Cert.HfwdRefIdeal.Read.val_main_v19_eq, (hag c).1, (hag c).2.1, (hag c).2.2.1, (hag c).2.2.2.1, (hag c).2.2.2.2, Cert.HfwdRefIdeal.Reading.val_p]), (h c).2.2.1.trans (by
          rw [Cert.HfwdRefIdeal.Read.val_main_v20_eq, (hag c).1, (hag c).2.1, (hag c).2.2.1, (hag c).2.2.2.1, Cert.HfwdRefIdeal.Reading.val_y]), (h c).2.2.2⟩)
      (Cert.HfwdRefIdeal.Value.run m' ρ')⟩

end Cert.Proof.Hfwd

end
-- ==== Proof.lean ====
/-
  The claims together.
-/
module

public import proofs.«01_k».proof.Defs
public import proofs.«01_k».proof.Proof.Relu2Claims
public import proofs.«01_k».proof.Proof.XattnClaims
public import proofs.«01_k».proof.Proof.SbClaims
public import proofs.«01_k».proof.Proof.GmlpClaims
public import proofs.«01_k».proof.Proof.XfwdClaims
public import proofs.«01_k».proof.Proof.GfwdClaims
public import proofs.«01_k».proof.Proof.GainClaims
public import proofs.«01_k».proof.Proof.LossClaims
public import proofs.«01_k».proof.Proof.ProjClaims
public import proofs.«01_k».proof.Proof.Ff1Claims
public import proofs.«01_k».proof.Proof.XqClaims
public import proofs.«01_k».proof.Proof.PfwdClaims
public import proofs.«01_k».proof.Proof.HfwdClaims

@[expose] public section

noncomputable section

namespace Cert.Proof

theorem claim : Cert.Claim :=
  ⟨Cert.Relu2.Gen.facts, Cert.Relu2Ideal.Gen.facts, Cert.Relu2RefIdeal.Gen.facts,
    Cert.Xattn.Gen.facts, Cert.XattnIdeal.Gen.facts, Cert.XattnRefIdeal.Gen.facts,
    Cert.Sb.Gen.facts, Cert.SbIdeal.Gen.facts, Cert.SbRefIdeal.Gen.facts,
    Cert.Gmlp.Gen.facts, Cert.GmlpIdeal.Gen.facts, Cert.GmlpRefIdeal.Gen.facts,
    Cert.Xfwd.Gen.facts, Cert.XfwdIdeal.Gen.facts, Cert.XfwdRefIdeal.Gen.facts,
    Cert.Gfwd.Gen.facts, Cert.GfwdIdeal.Gen.facts, Cert.GfwdRefIdeal.Gen.facts,
    Cert.Gain.Gen.facts, Cert.GainIdeal.Gen.facts, Cert.GainRefIdeal.Gen.facts,
    Cert.Loss.Gen.facts, Cert.LossIdeal.Gen.facts, Cert.LossRefIdeal.Gen.facts,
    Cert.Proj.Gen.facts, Cert.ProjIdeal.Gen.facts, Cert.ProjRefIdeal.Gen.facts,
    Cert.Ff1.Gen.facts, Cert.Ff1Ideal.Gen.facts, Cert.Ff1RefIdeal.Gen.facts,
    Cert.Xq.Gen.facts, Cert.XqIdeal.Gen.facts, Cert.XqRefIdeal.Gen.facts,
    Cert.Pfwd.Gen.facts, Cert.PfwdIdeal.Gen.facts, Cert.PfwdRefIdeal.Gen.facts,
    Cert.Hfwd.Gen.facts, Cert.HfwdIdeal.Gen.facts, Cert.HfwdRefIdeal.Gen.facts,
    Cert.Pre_xattn_finite.Gen.facts,
    Cert.Pre_sb_finite.Gen.facts,
    Cert.Pre_gmlp_finite.Gen.facts,
    Cert.Pre_xfwd_finite.Gen.facts,
    Cert.Pre_gfwd_finite.Gen.facts,
    Cert.Pre_loss_finite.Gen.facts,
    Cert.Pre_proj_finite.Gen.facts,
    Cert.Pre_ff1_finite.Gen.facts,
    Cert.Pre_xq_finite.Gen.facts,
    Relu2.frame, Relu2.frame_ideal, Relu2.frame_ref,
    Xattn.frame, Xattn.frame_ideal, Xattn.frame_ideal_pre, Xattn.frame_ref, Xattn.frame_ref_pre,
    Sb.frame, Sb.frame_ideal, Sb.frame_ideal_pre, Sb.frame_ref, Sb.frame_ref_pre,
    Gmlp.frame, Gmlp.frame_ideal, Gmlp.frame_ideal_pre, Gmlp.frame_ref, Gmlp.frame_ref_pre,
    Xfwd.frame, Xfwd.frame_ideal, Xfwd.frame_ideal_pre, Xfwd.frame_ref, Xfwd.frame_ref_pre,
    Gfwd.frame, Gfwd.frame_ideal, Gfwd.frame_ideal_pre, Gfwd.frame_ref, Gfwd.frame_ref_pre,
    Gain.frame, Gain.frame_ideal, Gain.frame_ref,
    Loss.frame, Loss.frame_ideal, Loss.frame_ideal_pre, Loss.frame_ref, Loss.frame_ref_pre,
    Proj.frame, Proj.frame_ideal, Proj.frame_ideal_pre, Proj.frame_ref, Proj.frame_ref_pre,
    Ff1.frame, Ff1.frame_ideal, Ff1.frame_ideal_pre, Ff1.frame_ref, Ff1.frame_ref_pre,
    Xq.frame, Xq.frame_ideal, Xq.frame_ideal_pre, Xq.frame_ref, Xq.frame_ref_pre,
    Pfwd.frame, Pfwd.frame_ideal, Pfwd.frame_ref,
    Hfwd.frame, Hfwd.frame_ideal, Hfwd.frame_ref,
    trivial, Relu2.algebraic,
    trivial, Xattn.algebraic,
    trivial, Sb.algebraic,
    Gmlp.preserves, Gmlp.algebraic,
    trivial, Xfwd.algebraic,
    Gfwd.preserves, Gfwd.algebraic,
    trivial, Gain.algebraic,
    trivial, Loss.algebraic,
    trivial, Proj.algebraic,
    trivial, Ff1.algebraic,
    trivial, Xq.algebraic,
    trivial, Pfwd.algebraic,
    trivial, Hfwd.algebraic⟩

end Cert.Proof

end
